-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.2 = (fun _ => 1#1)

def Pre_GDown (m : (ℓ : Loc Cert.GDown.nD Cert.GDown.τ Cert.GDown.sig) → Buf (Elt Bits) ℓ) : Prop :=
  True

def Pre_GDownIdeal (m : (ℓ : Loc Cert.GDownIdeal.nD Cert.GDownIdeal.τ Cert.GDownIdeal.sig) → Buf (Elt Ideal) ℓ) : Prop :=
  True

def Pre_GDownRefIdeal (m : (ℓ : Loc Cert.GDownRefIdeal.nD Cert.GDownRefIdeal.τ Cert.GDownRefIdeal.sig) → Buf (Elt Ideal) ℓ) : Prop :=
  True

def Pre_GGateUp (m : (ℓ : Loc Cert.GGateUp.nD Cert.GGateUp.τ Cert.GGateUp.sig) → Buf (Elt Bits) ℓ) : Prop :=
  True

def Pre_GGateUpIdeal (m : (ℓ : Loc Cert.GGateUpIdeal.nD Cert.GGateUpIdeal.τ Cert.GGateUpIdeal.sig) → Buf (Elt Ideal) ℓ) : Prop :=
  True

def Pre_GGateUpRefIdeal (m : (ℓ : Loc Cert.GGateUpRefIdeal.nD Cert.GGateUpRefIdeal.τ Cert.GGateUpRefIdeal.sig) → Buf (Elt Ideal) ℓ) : Prop :=
  True

def Pre_DGateUp (m : (ℓ : Loc Cert.DGateUp.nD Cert.DGateUp.τ Cert.DGateUp.sig) → Buf (Elt Bits) ℓ) : Prop :=
  True

def Pre_DGateUpIdeal (m : (ℓ : Loc Cert.DGateUpIdeal.nD Cert.DGateUpIdeal.τ Cert.DGateUpIdeal.sig) → Buf (Elt Ideal) ℓ) : Prop :=
  True

def Pre_DGateUpIdeal_finite_up [hPre_finite_up : Cert.Pre_finite_up.Facts] (m : (ℓ : Loc Cert.DGateUpIdeal.nD Cert.DGateUpIdeal.τ Cert.DGateUpIdeal.sig) → Buf (Elt Ideal) ℓ) : Prop :=
  ∀ c : Dev Cert.DGateUpIdeal.nD,
    (Cert.Pre_finite_up.fn (F := Ideal) (m ((c.tc : Thread Cert.DGateUpIdeal.nD Cert.DGateUpIdeal.τ).loc Cert.DGateUpIdeal.main_arg0)) (m ((c.tc : Thread Cert.DGateUpIdeal.nD Cert.DGateUpIdeal.τ).loc Cert.DGateUpIdeal.main_arg1)) (m ((c.tc : Thread Cert.DGateUpIdeal.nD Cert.DGateUpIdeal.τ).loc Cert.DGateUpIdeal.main_arg2)) (m ((c.tc : Thread Cert.DGateUpIdeal.nD Cert.DGateUpIdeal.τ).loc Cert.DGateUpIdeal.main_arg3))).1 = (fun _ => 1#1)
    ∧ (Cert.Pre_finite_up.fn (F := Ideal) (m ((c.tc : Thread Cert.DGateUpIdeal.nD Cert.DGateUpIdeal.τ).loc Cert.DGateUpIdeal.main_arg0)) (m ((c.tc : Thread Cert.DGateUpIdeal.nD Cert.DGateUpIdeal.τ).loc Cert.DGateUpIdeal.main_arg1)) (m ((c.tc : Thread Cert.DGateUpIdeal.nD Cert.DGateUpIdeal.τ).loc Cert.DGateUpIdeal.main_arg2)) (m ((c.tc : Thread Cert.DGateUpIdeal.nD Cert.DGateUpIdeal.τ).loc Cert.DGateUpIdeal.main_arg3))).2.1 = (fun _ => 1#1)
    ∧ (Cert.Pre_finite_up.fn (F := Ideal) (m ((c.tc : Thread Cert.DGateUpIdeal.nD Cert.DGateUpIdeal.τ).loc Cert.DGateUpIdeal.main_arg0)) (m ((c.tc : Thread Cert.DGateUpIdeal.nD Cert.DGateUpIdeal.τ).loc Cert.DGateUpIdeal.main_arg1)) (m ((c.tc : Thread Cert.DGateUpIdeal.nD Cert.DGateUpIdeal.τ).loc Cert.DGateUpIdeal.main_arg2)) (m ((c.tc : Thread Cert.DGateUpIdeal.nD Cert.DGateUpIdeal.τ).loc Cert.DGateUpIdeal.main_arg3))).2.2 = (fun _ => 1#1)

def Pre_DGateUpRefIdeal (m : (ℓ : Loc Cert.DGateUpRefIdeal.nD Cert.DGateUpRefIdeal.τ Cert.DGateUpRefIdeal.sig) → Buf (Elt Ideal) ℓ) : Prop :=
  True

def Pre_DGateUpRefIdeal_finite_up [hPre_finite_up : Cert.Pre_finite_up.Facts] (m : (ℓ : Loc Cert.DGateUpRefIdeal.nD Cert.DGateUpRefIdeal.τ Cert.DGateUpRefIdeal.sig) → Buf (Elt Ideal) ℓ) : Prop :=
  ∀ c : Dev Cert.DGateUpRefIdeal.nD,
    (Cert.Pre_finite_up.fn (F := Ideal) (m ((c.tc : Thread Cert.DGateUpRefIdeal.nD Cert.DGateUpRefIdeal.τ).loc Cert.DGateUpRefIdeal.main_arg0)) (m ((c.tc : Thread Cert.DGateUpRefIdeal.nD Cert.DGateUpRefIdeal.τ).loc Cert.DGateUpRefIdeal.main_arg1)) (m ((c.tc : Thread Cert.DGateUpRefIdeal.nD Cert.DGateUpRefIdeal.τ).loc Cert.DGateUpRefIdeal.main_arg2)) (m ((c.tc : Thread Cert.DGateUpRefIdeal.nD Cert.DGateUpRefIdeal.τ).loc Cert.DGateUpRefIdeal.main_arg3))).1 = (fun _ => 1#1)
    ∧ (Cert.Pre_finite_up.fn (F := Ideal) (m ((c.tc : Thread Cert.DGateUpRefIdeal.nD Cert.DGateUpRefIdeal.τ).loc Cert.DGateUpRefIdeal.main_arg0)) (m ((c.tc : Thread Cert.DGateUpRefIdeal.nD Cert.DGateUpRefIdeal.τ).loc Cert.DGateUpRefIdeal.main_arg1)) (m ((c.tc : Thread Cert.DGateUpRefIdeal.nD Cert.DGateUpRefIdeal.τ).loc Cert.DGateUpRefIdeal.main_arg2)) (m ((c.tc : Thread Cert.DGateUpRefIdeal.nD Cert.DGateUpRefIdeal.τ).loc Cert.DGateUpRefIdeal.main_arg3))).2.1 = (fun _ => 1#1)
    ∧ (Cert.Pre_finite_up.fn (F := Ideal) (m ((c.tc : Thread Cert.DGateUpRefIdeal.nD Cert.DGateUpRefIdeal.τ).loc Cert.DGateUpRefIdeal.main_arg0)) (m ((c.tc : Thread Cert.DGateUpRefIdeal.nD Cert.DGateUpRefIdeal.τ).loc Cert.DGateUpRefIdeal.main_arg1)) (m ((c.tc : Thread Cert.DGateUpRefIdeal.nD Cert.DGateUpRefIdeal.τ).loc Cert.DGateUpRefIdeal.main_arg2)) (m ((c.tc : Thread Cert.DGateUpRefIdeal.nD Cert.DGateUpRefIdeal.τ).loc Cert.DGateUpRefIdeal.main_arg3))).2.2 = (fun _ => 1#1)

def Pre_DH2 (m : (ℓ : Loc Cert.DH2.nD Cert.DH2.τ Cert.DH2.sig) → Buf (Elt Bits) ℓ) : Prop :=
  True

def Pre_DH2Ideal (m : (ℓ : Loc Cert.DH2Ideal.nD Cert.DH2Ideal.τ Cert.DH2Ideal.sig) → Buf (Elt Ideal) ℓ) : Prop :=
  True

def Pre_DH2RefIdeal (m : (ℓ : Loc Cert.DH2RefIdeal.nD Cert.DH2RefIdeal.τ Cert.DH2RefIdeal.sig) → Buf (Elt Ideal) ℓ) : Prop :=
  True

def Pre_GOut (m : (ℓ : Loc Cert.GOut.nD Cert.GOut.τ Cert.GOut.sig) → Buf (Elt Bits) ℓ) : Prop :=
  True

def Pre_GOutIdeal (m : (ℓ : Loc Cert.GOutIdeal.nD Cert.GOutIdeal.τ Cert.GOutIdeal.sig) → Buf (Elt Ideal) ℓ) : Prop :=
  True

def Pre_GOutRefIdeal (m : (ℓ : Loc Cert.GOutRefIdeal.nD Cert.GOutRefIdeal.τ Cert.GOutRefIdeal.sig) → Buf (Elt Ideal) ℓ) : Prop :=
  True

def Pre_GIn (m : (ℓ : Loc Cert.GIn.nD Cert.GIn.τ Cert.GIn.sig) → Buf (Elt Bits) ℓ) : Prop :=
  True

def Pre_GInIdeal (m : (ℓ : Loc Cert.GInIdeal.nD Cert.GInIdeal.τ Cert.GInIdeal.sig) → Buf (Elt Ideal) ℓ) : Prop :=
  True

def Pre_GInRefIdeal (m : (ℓ : Loc Cert.GInRefIdeal.nD Cert.GInRefIdeal.τ Cert.GInRefIdeal.sig) → Buf (Elt Ideal) ℓ) : Prop :=
  True

def Pre_DH1 (m : (ℓ : Loc Cert.DH1.nD Cert.DH1.τ Cert.DH1.sig) → Buf (Elt Bits) ℓ) : Prop :=
  True

def Pre_DH1Ideal (m : (ℓ : Loc Cert.DH1Ideal.nD Cert.DH1Ideal.τ Cert.DH1Ideal.sig) → Buf (Elt Ideal) ℓ) : Prop :=
  True

def Pre_DH1RefIdeal (m : (ℓ : Loc Cert.DH1RefIdeal.nD Cert.DH1RefIdeal.τ Cert.DH1RefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpRefIdeal (m : (ℓ : Loc Cert.GateUpRefIdeal.nD Cert.GateUpRefIdeal.τ Cert.GateUpRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdRefIdeal (m : (ℓ : Loc Cert.NormBwdRefIdeal.nD Cert.NormBwdRefIdeal.τ Cert.NormBwdRefIdeal.sig) → Buf (Elt Ideal) ℓ) : Prop :=
  True

def Pre_AdamGateUp (m : (ℓ : Loc Cert.AdamGateUp.nD Cert.AdamGateUp.τ Cert.AdamGateUp.sig) → Buf (Elt Bits) ℓ) : Prop :=
  True

def Pre_AdamGateUpIdeal (m : (ℓ : Loc Cert.AdamGateUpIdeal.nD Cert.AdamGateUpIdeal.τ Cert.AdamGateUpIdeal.sig) → Buf (Elt Ideal) ℓ) : Prop :=
  True

def Pre_AdamGateUpRefIdeal (m : (ℓ : Loc Cert.AdamGateUpRefIdeal.nD Cert.AdamGateUpRefIdeal.τ Cert.AdamGateUpRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_AdamConv (m : (ℓ : Loc Cert.AdamConv.nD Cert.AdamConv.τ Cert.AdamConv.sig) → Buf (Elt Bits) ℓ) : Prop :=
  True

def Pre_AdamConvIdeal (m : (ℓ : Loc Cert.AdamConvIdeal.nD Cert.AdamConvIdeal.τ Cert.AdamConvIdeal.sig) → Buf (Elt Ideal) ℓ) : Prop :=
  True

def Pre_AdamConvRefIdeal (m : (ℓ : Loc Cert.AdamConvRefIdeal.nD Cert.AdamConvRefIdeal.τ Cert.AdamConvRefIdeal.sig) → Buf (Elt Ideal) ℓ) : Prop :=
  True

def Pre_ConvVBwd (m : (ℓ : Loc Cert.ConvVBwd.nD Cert.ConvVBwd.τ Cert.ConvVBwd.sig) → Buf (Elt Bits) ℓ) : Prop :=
  True

def Pre_ConvVBwdIdeal (m : (ℓ : Loc Cert.ConvVBwdIdeal.nD Cert.ConvVBwdIdeal.τ Cert.ConvVBwdIdeal.sig) → Buf (Elt Ideal) ℓ) : Prop :=
  True

def Pre_ConvVBwdRefIdeal (m : (ℓ : Loc Cert.ConvVBwdRefIdeal.nD Cert.ConvVBwdRefIdeal.τ Cert.ConvVBwdRefIdeal.sig) → Buf (Elt Ideal) ℓ) : Prop :=
  True

def Pre_ConvQBwd (m : (ℓ : Loc Cert.ConvQBwd.nD Cert.ConvQBwd.τ Cert.ConvQBwd.sig) → Buf (Elt Bits) ℓ) : Prop :=
  True

def Pre_ConvQBwdIdeal (m : (ℓ : Loc Cert.ConvQBwdIdeal.nD Cert.ConvQBwdIdeal.τ Cert.ConvQBwdIdeal.sig) → Buf (Elt Ideal) ℓ) : Prop :=
  True

def Pre_ConvQBwdRefIdeal (m : (ℓ : Loc Cert.ConvQBwdRefIdeal.nD Cert.ConvQBwdRefIdeal.τ Cert.ConvQBwdRefIdeal.sig) → Buf (Elt Ideal) ℓ) : Prop :=
  True

def Pre_ConvKBwd (m : (ℓ : Loc Cert.ConvKBwd.nD Cert.ConvKBwd.τ Cert.ConvKBwd.sig) → Buf (Elt Bits) ℓ) : Prop :=
  True

def Pre_ConvKBwdIdeal (m : (ℓ : Loc Cert.ConvKBwdIdeal.nD Cert.ConvKBwdIdeal.τ Cert.ConvKBwdIdeal.sig) → Buf (Elt Ideal) ℓ) : Prop :=
  True

def Pre_ConvKBwdRefIdeal (m : (ℓ : Loc Cert.ConvKBwdRefIdeal.nD Cert.ConvKBwdRefIdeal.τ Cert.ConvKBwdRefIdeal.sig) → Buf (Elt Ideal) ℓ) : Prop :=
  True

def Pre_CastInto (m : (ℓ : Loc Cert.CastInto.nD Cert.CastInto.τ Cert.CastInto.sig) → Buf (Elt Bits) ℓ) : Prop :=
  True

def Pre_CastIntoIdeal (m : (ℓ : Loc Cert.CastIntoIdeal.nD Cert.CastIntoIdeal.τ Cert.CastIntoIdeal.sig) → Buf (Elt Ideal) ℓ) : Prop :=
  True

def Pre_CastIntoRefIdeal (m : (ℓ : Loc Cert.CastIntoRefIdeal.nD Cert.CastIntoRefIdeal.τ Cert.CastIntoRefIdeal.sig) → Buf (Elt Ideal) ℓ) : Prop :=
  True

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdRefIdeal (m : (ℓ : Loc Cert.NormFwdRefIdeal.nD Cert.NormFwdRefIdeal.τ Cert.NormFwdRefIdeal.sig) → Buf (Elt Ideal) ℓ) : Prop :=
  True

def Pre_ConvV (m : (ℓ : Loc Cert.ConvV.nD Cert.ConvV.τ Cert.ConvV.sig) → Buf (Elt Bits) ℓ) : Prop :=
  True

def Pre_ConvVIdeal (m : (ℓ : Loc Cert.ConvVIdeal.nD Cert.ConvVIdeal.τ Cert.ConvVIdeal.sig) → Buf (Elt Ideal) ℓ) : Prop :=
  True

def Pre_ConvVRefIdeal (m : (ℓ : Loc Cert.ConvVRefIdeal.nD Cert.ConvVRefIdeal.τ Cert.ConvVRefIdeal.sig) → Buf (Elt Ideal) ℓ) : Prop :=
  True

def Pre_ConvQ (m : (ℓ : Loc Cert.ConvQ.nD Cert.ConvQ.τ Cert.ConvQ.sig) → Buf (Elt Bits) ℓ) : Prop :=
  True

def Pre_ConvQIdeal (m : (ℓ : Loc Cert.ConvQIdeal.nD Cert.ConvQIdeal.τ Cert.ConvQIdeal.sig) → Buf (Elt Ideal) ℓ) : Prop :=
  True

def Pre_ConvQRefIdeal (m : (ℓ : Loc Cert.ConvQRefIdeal.nD Cert.ConvQRefIdeal.τ Cert.ConvQRefIdeal.sig) → Buf (Elt Ideal) ℓ) : Prop :=
  True

def Pre_ConvK (m : (ℓ : Loc Cert.ConvK.nD Cert.ConvK.τ Cert.ConvK.sig) → Buf (Elt Bits) ℓ) : Prop :=
  True

def Pre_ConvKIdeal (m : (ℓ : Loc Cert.ConvKIdeal.nD Cert.ConvKIdeal.τ Cert.ConvKIdeal.sig) → Buf (Elt Ideal) ℓ) : Prop :=
  True

def Pre_ConvKRefIdeal (m : (ℓ : Loc Cert.ConvKRefIdeal.nD Cert.ConvKRefIdeal.τ Cert.ConvKRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_GDown [hGDown : Cert.GDown.Facts] : Prop :=
  ∀ (m : (ℓ : Loc Cert.GDown.nD Cert.GDown.τ Cert.GDown.sig) → Buf (Elt Bits) ℓ) (g : Dev Cert.GDown.nD → PrngReg), Pre_GDown m →
    θ_run (Cert.GDown.defs (F := Bits)) (onTc (τ := Cert.GDown.τ) (Cert.GDown.main (F := Bits))) ⟨m, fun _ => 0, g⟩ (fun r => (∀ c : Dev Cert.GDown.nD,
      r.2.mem ((c.tc : Thread Cert.GDown.nD Cert.GDown.τ).loc Cert.GDown.main_arg0) = m ((c.tc : Thread Cert.GDown.nD Cert.GDown.τ).loc Cert.GDown.main_arg0)
      ∧ r.2.mem ((c.tc : Thread Cert.GDown.nD Cert.GDown.τ).loc Cert.GDown.main_arg1) = m ((c.tc : Thread Cert.GDown.nD Cert.GDown.τ).loc Cert.GDown.main_arg1))
      ∧ r.2.sem = fun _ => 0)

def quiescent_GDownIdeal [hGDownIdeal : Cert.GDownIdeal.Facts] : Prop :=
  ∀ (m : (ℓ : Loc Cert.GDownIdeal.nD Cert.GDownIdeal.τ Cert.GDownIdeal.sig) → Buf (Elt Ideal) ℓ) (g : Dev Cert.GDownIdeal.nD → PrngReg), Pre_GDownIdeal m →
    θ_run (Cert.GDownIdeal.defs (F := Ideal)) (onTc (τ := Cert.GDownIdeal.τ) (Cert.GDownIdeal.main (F := Ideal))) ⟨m, fun _ => 0, g⟩ (fun r => (∀ c : Dev Cert.GDownIdeal.nD,
      r.2.mem ((c.tc : Thread Cert.GDownIdeal.nD Cert.GDownIdeal.τ).loc Cert.GDownIdeal.main_arg0) = m ((c.tc : Thread Cert.GDownIdeal.nD Cert.GDownIdeal.τ).loc Cert.GDownIdeal.main_arg0)
      ∧ r.2.mem ((c.tc : Thread Cert.GDownIdeal.nD Cert.GDownIdeal.τ).loc Cert.GDownIdeal.main_arg1) = m ((c.tc : Thread Cert.GDownIdeal.nD Cert.GDownIdeal.τ).loc Cert.GDownIdeal.main_arg1))
      ∧ r.2.sem = fun _ => 0)

def quiescent_GDownRefIdeal [hGDownRefIdeal : Cert.GDownRefIdeal.Facts] : Prop :=
  ∀ (m : (ℓ : Loc Cert.GDownRefIdeal.nD Cert.GDownRefIdeal.τ Cert.GDownRefIdeal.sig) → Buf (Elt Ideal) ℓ) (g : Dev Cert.GDownRefIdeal.nD → PrngReg), Pre_GDownRefIdeal m →
    θ_run (Cert.GDownRefIdeal.defs (F := Ideal)) (onTc (τ := Cert.GDownRefIdeal.τ) (Cert.GDownRefIdeal.main (F := Ideal))) ⟨m, fun _ => 0, g⟩ (fun r => (∀ c : Dev Cert.GDownRefIdeal.nD,
      r.2.mem ((c.tc : Thread Cert.GDownRefIdeal.nD Cert.GDownRefIdeal.τ).loc Cert.GDownRefIdeal.main_arg0) = m ((c.tc : Thread Cert.GDownRefIdeal.nD Cert.GDownRefIdeal.τ).loc Cert.GDownRefIdeal.main_arg0)
      ∧ r.2.mem ((c.tc : Thread Cert.GDownRefIdeal.nD Cert.GDownRefIdeal.τ).loc Cert.GDownRefIdeal.main_arg1) = m ((c.tc : Thread Cert.GDownRefIdeal.nD Cert.GDownRefIdeal.τ).loc Cert.GDownRefIdeal.main_arg1))
      ∧ r.2.sem = fun _ => 0)

def quiescent_GGateUp [hGGateUp : Cert.GGateUp.Facts] : Prop :=
  ∀ (m : (ℓ : Loc Cert.GGateUp.nD Cert.GGateUp.τ Cert.GGateUp.sig) → Buf (Elt Bits) ℓ) (g : Dev Cert.GGateUp.nD → PrngReg), Pre_GGateUp m →
    θ_run (Cert.GGateUp.defs (F := Bits)) (onTc (τ := Cert.GGateUp.τ) (Cert.GGateUp.main (F := Bits))) ⟨m, fun _ => 0, g⟩ (fun r => (∀ c : Dev Cert.GGateUp.nD,
      r.2.mem ((c.tc : Thread Cert.GGateUp.nD Cert.GGateUp.τ).loc Cert.GGateUp.main_arg0) = m ((c.tc : Thread Cert.GGateUp.nD Cert.GGateUp.τ).loc Cert.GGateUp.main_arg0)
      ∧ r.2.mem ((c.tc : Thread Cert.GGateUp.nD Cert.GGateUp.τ).loc Cert.GGateUp.main_arg1) = m ((c.tc : Thread Cert.GGateUp.nD Cert.GGateUp.τ).loc Cert.GGateUp.main_arg1))
      ∧ r.2.sem = fun _ => 0)

def quiescent_GGateUpIdeal [hGGateUpIdeal : Cert.GGateUpIdeal.Facts] : Prop :=
  ∀ (m : (ℓ : Loc Cert.GGateUpIdeal.nD Cert.GGateUpIdeal.τ Cert.GGateUpIdeal.sig) → Buf (Elt Ideal) ℓ) (g : Dev Cert.GGateUpIdeal.nD → PrngReg), Pre_GGateUpIdeal m →
    θ_run (Cert.GGateUpIdeal.defs (F := Ideal)) (onTc (τ := Cert.GGateUpIdeal.τ) (Cert.GGateUpIdeal.main (F := Ideal))) ⟨m, fun _ => 0, g⟩ (fun r => (∀ c : Dev Cert.GGateUpIdeal.nD,
      r.2.mem ((c.tc : Thread Cert.GGateUpIdeal.nD Cert.GGateUpIdeal.τ).loc Cert.GGateUpIdeal.main_arg0) = m ((c.tc : Thread Cert.GGateUpIdeal.nD Cert.GGateUpIdeal.τ).loc Cert.GGateUpIdeal.main_arg0)
      ∧ r.2.mem ((c.tc : Thread Cert.GGateUpIdeal.nD Cert.GGateUpIdeal.τ).loc Cert.GGateUpIdeal.main_arg1) = m ((c.tc : Thread Cert.GGateUpIdeal.nD Cert.GGateUpIdeal.τ).loc Cert.GGateUpIdeal.main_arg1))
      ∧ r.2.sem = fun _ => 0)

def quiescent_GGateUpRefIdeal [hGGateUpRefIdeal : Cert.GGateUpRefIdeal.Facts] : Prop :=
  ∀ (m : (ℓ : Loc Cert.GGateUpRefIdeal.nD Cert.GGateUpRefIdeal.τ Cert.GGateUpRefIdeal.sig) → Buf (Elt Ideal) ℓ) (g : Dev Cert.GGateUpRefIdeal.nD → PrngReg), Pre_GGateUpRefIdeal m →
    θ_run (Cert.GGateUpRefIdeal.defs (F := Ideal)) (onTc (τ := Cert.GGateUpRefIdeal.τ) (Cert.GGateUpRefIdeal.main (F := Ideal))) ⟨m, fun _ => 0, g⟩ (fun r => (∀ c : Dev Cert.GGateUpRefIdeal.nD,
      r.2.mem ((c.tc : Thread Cert.GGateUpRefIdeal.nD Cert.GGateUpRefIdeal.τ).loc Cert.GGateUpRefIdeal.main_arg0) = m ((c.tc : Thread Cert.GGateUpRefIdeal.nD Cert.GGateUpRefIdeal.τ).loc Cert.GGateUpRefIdeal.main_arg0)
      ∧ r.2.mem ((c.tc : Thread Cert.GGateUpRefIdeal.nD Cert.GGateUpRefIdeal.τ).loc Cert.GGateUpRefIdeal.main_arg1) = m ((c.tc : Thread Cert.GGateUpRefIdeal.nD Cert.GGateUpRefIdeal.τ).loc Cert.GGateUpRefIdeal.main_arg1))
      ∧ r.2.sem = fun _ => 0)

def quiescent_DGateUp [hDGateUp : Cert.DGateUp.Facts] : Prop :=
  ∀ (m : (ℓ : Loc Cert.DGateUp.nD Cert.DGateUp.τ Cert.DGateUp.sig) → Buf (Elt Bits) ℓ) (g : Dev Cert.DGateUp.nD → PrngReg), Pre_DGateUp m →
    θ_run (Cert.DGateUp.defs (F := Bits)) (onTc (τ := Cert.DGateUp.τ) (Cert.DGateUp.main (F := Bits))) ⟨m, fun _ => 0, g⟩ (fun r => (∀ c : Dev Cert.DGateUp.nD,
      r.2.mem ((c.tc : Thread Cert.DGateUp.nD Cert.DGateUp.τ).loc Cert.DGateUp.main_arg0) = m ((c.tc : Thread Cert.DGateUp.nD Cert.DGateUp.τ).loc Cert.DGateUp.main_arg0)
      ∧ r.2.mem ((c.tc : Thread Cert.DGateUp.nD Cert.DGateUp.τ).loc Cert.DGateUp.main_arg1) = m ((c.tc : Thread Cert.DGateUp.nD Cert.DGateUp.τ).loc Cert.DGateUp.main_arg1)
      ∧ r.2.mem ((c.tc : Thread Cert.DGateUp.nD Cert.DGateUp.τ).loc Cert.DGateUp.main_arg2) = m ((c.tc : Thread Cert.DGateUp.nD Cert.DGateUp.τ).loc Cert.DGateUp.main_arg2)
      ∧ r.2.mem ((c.tc : Thread Cert.DGateUp.nD Cert.DGateUp.τ).loc Cert.DGateUp.main_arg3) = m ((c.tc : Thread Cert.DGateUp.nD Cert.DGateUp.τ).loc Cert.DGateUp.main_arg3))
      ∧ r.2.sem = fun _ => 0)

def quiescent_DGateUpIdeal [hDGateUpIdeal : Cert.DGateUpIdeal.Facts] : Prop :=
  ∀ (m : (ℓ : Loc Cert.DGateUpIdeal.nD Cert.DGateUpIdeal.τ Cert.DGateUpIdeal.sig) → Buf (Elt Ideal) ℓ) (g : Dev Cert.DGateUpIdeal.nD → PrngReg), Pre_DGateUpIdeal m →
    θ_run (Cert.DGateUpIdeal.defs (F := Ideal)) (onTc (τ := Cert.DGateUpIdeal.τ) (Cert.DGateUpIdeal.main (F := Ideal))) ⟨m, fun _ => 0, g⟩ (fun r => (∀ c : Dev Cert.DGateUpIdeal.nD,
      r.2.mem ((c.tc : Thread Cert.DGateUpIdeal.nD Cert.DGateUpIdeal.τ).loc Cert.DGateUpIdeal.main_arg0) = m ((c.tc : Thread Cert.DGateUpIdeal.nD Cert.DGateUpIdeal.τ).loc Cert.DGateUpIdeal.main_arg0)
      ∧ r.2.mem ((c.tc : Thread Cert.DGateUpIdeal.nD Cert.DGateUpIdeal.τ).loc Cert.DGateUpIdeal.main_arg1) = m ((c.tc : Thread Cert.DGateUpIdeal.nD Cert.DGateUpIdeal.τ).loc Cert.DGateUpIdeal.main_arg1)
      ∧ r.2.mem ((c.tc : Thread Cert.DGateUpIdeal.nD Cert.DGateUpIdeal.τ).loc Cert.DGateUpIdeal.main_arg2) = m ((c.tc : Thread Cert.DGateUpIdeal.nD Cert.DGateUpIdeal.τ).loc Cert.DGateUpIdeal.main_arg2)
      ∧ r.2.mem ((c.tc : Thread Cert.DGateUpIdeal.nD Cert.DGateUpIdeal.τ).loc Cert.DGateUpIdeal.main_arg3) = m ((c.tc : Thread Cert.DGateUpIdeal.nD Cert.DGateUpIdeal.τ).loc Cert.DGateUpIdeal.main_arg3))
      ∧ r.2.sem = fun _ => 0)

def quiescent_DGateUpIdeal_pre_finite_up [hDGateUpIdeal : Cert.DGateUpIdeal.Facts] [hPre_finite_up : Cert.Pre_finite_up.Facts] : Prop :=
  ∀ (m : (ℓ : Loc Cert.DGateUpIdeal.nD Cert.DGateUpIdeal.τ Cert.DGateUpIdeal.sig) → Buf (Elt Ideal) ℓ) (g : Dev Cert.DGateUpIdeal.nD → PrngReg), Pre_DGateUpIdeal_finite_up m →
    θ_run (Cert.DGateUpIdeal.defs (F := Ideal)) (onTc (τ := Cert.DGateUpIdeal.τ) (Cert.DGateUpIdeal.main (F := Ideal))) ⟨m, fun _ => 0, g⟩ (fun r => (∀ c : Dev Cert.DGateUpIdeal.nD,
      r.2.mem ((c.tc : Thread Cert.DGateUpIdeal.nD Cert.DGateUpIdeal.τ).loc Cert.DGateUpIdeal.main_arg0) = m ((c.tc : Thread Cert.DGateUpIdeal.nD Cert.DGateUpIdeal.τ).loc Cert.DGateUpIdeal.main_arg0)
      ∧ r.2.mem ((c.tc : Thread Cert.DGateUpIdeal.nD Cert.DGateUpIdeal.τ).loc Cert.DGateUpIdeal.main_arg1) = m ((c.tc : Thread Cert.DGateUpIdeal.nD Cert.DGateUpIdeal.τ).loc Cert.DGateUpIdeal.main_arg1)
      ∧ r.2.mem ((c.tc : Thread Cert.DGateUpIdeal.nD Cert.DGateUpIdeal.τ).loc Cert.DGateUpIdeal.main_arg2) = m ((c.tc : Thread Cert.DGateUpIdeal.nD Cert.DGateUpIdeal.τ).loc Cert.DGateUpIdeal.main_arg2)
      ∧ r.2.mem ((c.tc : Thread Cert.DGateUpIdeal.nD Cert.DGateUpIdeal.τ).loc Cert.DGateUpIdeal.main_arg3) = m ((c.tc : Thread Cert.DGateUpIdeal.nD Cert.DGateUpIdeal.τ).loc Cert.DGateUpIdeal.main_arg3))
      ∧ r.2.sem = fun _ => 0)

def quiescent_DGateUpRefIdeal [hDGateUpRefIdeal : Cert.DGateUpRefIdeal.Facts] : Prop :=
  ∀ (m : (ℓ : Loc Cert.DGateUpRefIdeal.nD Cert.DGateUpRefIdeal.τ Cert.DGateUpRefIdeal.sig) → Buf (Elt Ideal) ℓ) (g : Dev Cert.DGateUpRefIdeal.nD → PrngReg), Pre_DGateUpRefIdeal m →
    θ_run (Cert.DGateUpRefIdeal.defs (F := Ideal)) (onTc (τ := Cert.DGateUpRefIdeal.τ) (Cert.DGateUpRefIdeal.main (F := Ideal))) ⟨m, fun _ => 0, g⟩ (fun r => (∀ c : Dev Cert.DGateUpRefIdeal.nD,
      r.2.mem ((c.tc : Thread Cert.DGateUpRefIdeal.nD Cert.DGateUpRefIdeal.τ).loc Cert.DGateUpRefIdeal.main_arg0) = m ((c.tc : Thread Cert.DGateUpRefIdeal.nD Cert.DGateUpRefIdeal.τ).loc Cert.DGateUpRefIdeal.main_arg0)
      ∧ r.2.mem ((c.tc : Thread Cert.DGateUpRefIdeal.nD Cert.DGateUpRefIdeal.τ).loc Cert.DGateUpRefIdeal.main_arg1) = m ((c.tc : Thread Cert.DGateUpRefIdeal.nD Cert.DGateUpRefIdeal.τ).loc Cert.DGateUpRefIdeal.main_arg1)
      ∧ r.2.mem ((c.tc : Thread Cert.DGateUpRefIdeal.nD Cert.DGateUpRefIdeal.τ).loc Cert.DGateUpRefIdeal.main_arg2) = m ((c.tc : Thread Cert.DGateUpRefIdeal.nD Cert.DGateUpRefIdeal.τ).loc Cert.DGateUpRefIdeal.main_arg2)
      ∧ r.2.mem ((c.tc : Thread Cert.DGateUpRefIdeal.nD Cert.DGateUpRefIdeal.τ).loc Cert.DGateUpRefIdeal.main_arg3) = m ((c.tc : Thread Cert.DGateUpRefIdeal.nD Cert.DGateUpRefIdeal.τ).loc Cert.DGateUpRefIdeal.main_arg3))
      ∧ r.2.sem = fun _ => 0)

def quiescent_DGateUpRefIdeal_pre_finite_up [hDGateUpRefIdeal : Cert.DGateUpRefIdeal.Facts] [hPre_finite_up : Cert.Pre_finite_up.Facts] : Prop :=
  ∀ (m : (ℓ : Loc Cert.DGateUpRefIdeal.nD Cert.DGateUpRefIdeal.τ Cert.DGateUpRefIdeal.sig) → Buf (Elt Ideal) ℓ) (g : Dev Cert.DGateUpRefIdeal.nD → PrngReg), Pre_DGateUpRefIdeal_finite_up m →
    θ_run (Cert.DGateUpRefIdeal.defs (F := Ideal)) (onTc (τ := Cert.DGateUpRefIdeal.τ) (Cert.DGateUpRefIdeal.main (F := Ideal))) ⟨m, fun _ => 0, g⟩ (fun r => (∀ c : Dev Cert.DGateUpRefIdeal.nD,
      r.2.mem ((c.tc : Thread Cert.DGateUpRefIdeal.nD Cert.DGateUpRefIdeal.τ).loc Cert.DGateUpRefIdeal.main_arg0) = m ((c.tc : Thread Cert.DGateUpRefIdeal.nD Cert.DGateUpRefIdeal.τ).loc Cert.DGateUpRefIdeal.main_arg0)
      ∧ r.2.mem ((c.tc : Thread Cert.DGateUpRefIdeal.nD Cert.DGateUpRefIdeal.τ).loc Cert.DGateUpRefIdeal.main_arg1) = m ((c.tc : Thread Cert.DGateUpRefIdeal.nD Cert.DGateUpRefIdeal.τ).loc Cert.DGateUpRefIdeal.main_arg1)
      ∧ r.2.mem ((c.tc : Thread Cert.DGateUpRefIdeal.nD Cert.DGateUpRefIdeal.τ).loc Cert.DGateUpRefIdeal.main_arg2) = m ((c.tc : Thread Cert.DGateUpRefIdeal.nD Cert.DGateUpRefIdeal.τ).loc Cert.DGateUpRefIdeal.main_arg2)
      ∧ r.2.mem ((c.tc : Thread Cert.DGateUpRefIdeal.nD Cert.DGateUpRefIdeal.τ).loc Cert.DGateUpRefIdeal.main_arg3) = m ((c.tc : Thread Cert.DGateUpRefIdeal.nD Cert.DGateUpRefIdeal.τ).loc Cert.DGateUpRefIdeal.main_arg3))
      ∧ r.2.sem = fun _ => 0)

def quiescent_DH2 [hDH2 : Cert.DH2.Facts] : Prop :=
  ∀ (m : (ℓ : Loc Cert.DH2.nD Cert.DH2.τ Cert.DH2.sig) → Buf (Elt Bits) ℓ) (g : Dev Cert.DH2.nD → PrngReg), Pre_DH2 m →
    θ_run (Cert.DH2.defs (F := Bits)) (onTc (τ := Cert.DH2.τ) (Cert.DH2.main (F := Bits))) ⟨m, fun _ => 0, g⟩ (fun r => (∀ c : Dev Cert.DH2.nD,
      r.2.mem ((c.tc : Thread Cert.DH2.nD Cert.DH2.τ).loc Cert.DH2.main_arg0) = m ((c.tc : Thread Cert.DH2.nD Cert.DH2.τ).loc Cert.DH2.main_arg0)
      ∧ r.2.mem ((c.tc : Thread Cert.DH2.nD Cert.DH2.τ).loc Cert.DH2.main_arg1) = m ((c.tc : Thread Cert.DH2.nD Cert.DH2.τ).loc Cert.DH2.main_arg1)
      ∧ r.2.mem ((c.tc : Thread Cert.DH2.nD Cert.DH2.τ).loc Cert.DH2.main_arg2) = m ((c.tc : Thread Cert.DH2.nD Cert.DH2.τ).loc Cert.DH2.main_arg2))
      ∧ r.2.sem = fun _ => 0)

def quiescent_DH2Ideal [hDH2Ideal : Cert.DH2Ideal.Facts] : Prop :=
  ∀ (m : (ℓ : Loc Cert.DH2Ideal.nD Cert.DH2Ideal.τ Cert.DH2Ideal.sig) → Buf (Elt Ideal) ℓ) (g : Dev Cert.DH2Ideal.nD → PrngReg), Pre_DH2Ideal m →
    θ_run (Cert.DH2Ideal.defs (F := Ideal)) (onTc (τ := Cert.DH2Ideal.τ) (Cert.DH2Ideal.main (F := Ideal))) ⟨m, fun _ => 0, g⟩ (fun r => (∀ c : Dev Cert.DH2Ideal.nD,
      r.2.mem ((c.tc : Thread Cert.DH2Ideal.nD Cert.DH2Ideal.τ).loc Cert.DH2Ideal.main_arg0) = m ((c.tc : Thread Cert.DH2Ideal.nD Cert.DH2Ideal.τ).loc Cert.DH2Ideal.main_arg0)
      ∧ r.2.mem ((c.tc : Thread Cert.DH2Ideal.nD Cert.DH2Ideal.τ).loc Cert.DH2Ideal.main_arg1) = m ((c.tc : Thread Cert.DH2Ideal.nD Cert.DH2Ideal.τ).loc Cert.DH2Ideal.main_arg1)
      ∧ r.2.mem ((c.tc : Thread Cert.DH2Ideal.nD Cert.DH2Ideal.τ).loc Cert.DH2Ideal.main_arg2) = m ((c.tc : Thread Cert.DH2Ideal.nD Cert.DH2Ideal.τ).loc Cert.DH2Ideal.main_arg2))
      ∧ r.2.sem = fun _ => 0)

def quiescent_DH2RefIdeal [hDH2RefIdeal : Cert.DH2RefIdeal.Facts] : Prop :=
  ∀ (m : (ℓ : Loc Cert.DH2RefIdeal.nD Cert.DH2RefIdeal.τ Cert.DH2RefIdeal.sig) → Buf (Elt Ideal) ℓ) (g : Dev Cert.DH2RefIdeal.nD → PrngReg), Pre_DH2RefIdeal m →
    θ_run (Cert.DH2RefIdeal.defs (F := Ideal)) (onTc (τ := Cert.DH2RefIdeal.τ) (Cert.DH2RefIdeal.main (F := Ideal))) ⟨m, fun _ => 0, g⟩ (fun r => (∀ c : Dev Cert.DH2RefIdeal.nD,
      r.2.mem ((c.tc : Thread Cert.DH2RefIdeal.nD Cert.DH2RefIdeal.τ).loc Cert.DH2RefIdeal.main_arg0) = m ((c.tc : Thread Cert.DH2RefIdeal.nD Cert.DH2RefIdeal.τ).loc Cert.DH2RefIdeal.main_arg0)
      ∧ r.2.mem ((c.tc : Thread Cert.DH2RefIdeal.nD Cert.DH2RefIdeal.τ).loc Cert.DH2RefIdeal.main_arg1) = m ((c.tc : Thread Cert.DH2RefIdeal.nD Cert.DH2RefIdeal.τ).loc Cert.DH2RefIdeal.main_arg1)
      ∧ r.2.mem ((c.tc : Thread Cert.DH2RefIdeal.nD Cert.DH2RefIdeal.τ).loc Cert.DH2RefIdeal.main_arg2) = m ((c.tc : Thread Cert.DH2RefIdeal.nD Cert.DH2RefIdeal.τ).loc Cert.DH2RefIdeal.main_arg2))
      ∧ r.2.sem = fun _ => 0)

def quiescent_GOut [hGOut : Cert.GOut.Facts] : Prop :=
  ∀ (m : (ℓ : Loc Cert.GOut.nD Cert.GOut.τ Cert.GOut.sig) → Buf (Elt Bits) ℓ) (g : Dev Cert.GOut.nD → PrngReg), Pre_GOut m →
    θ_run (Cert.GOut.defs (F := Bits)) (onTc (τ := Cert.GOut.τ) (Cert.GOut.main (F := Bits))) ⟨m, fun _ => 0, g⟩ (fun r => (∀ c : Dev Cert.GOut.nD,
      r.2.mem ((c.tc : Thread Cert.GOut.nD Cert.GOut.τ).loc Cert.GOut.main_arg0) = m ((c.tc : Thread Cert.GOut.nD Cert.GOut.τ).loc Cert.GOut.main_arg0)
      ∧ r.2.mem ((c.tc : Thread Cert.GOut.nD Cert.GOut.τ).loc Cert.GOut.main_arg1) = m ((c.tc : Thread Cert.GOut.nD Cert.GOut.τ).loc Cert.GOut.main_arg1))
      ∧ r.2.sem = fun _ => 0)

def quiescent_GOutIdeal [hGOutIdeal : Cert.GOutIdeal.Facts] : Prop :=
  ∀ (m : (ℓ : Loc Cert.GOutIdeal.nD Cert.GOutIdeal.τ Cert.GOutIdeal.sig) → Buf (Elt Ideal) ℓ) (g : Dev Cert.GOutIdeal.nD → PrngReg), Pre_GOutIdeal m →
    θ_run (Cert.GOutIdeal.defs (F := Ideal)) (onTc (τ := Cert.GOutIdeal.τ) (Cert.GOutIdeal.main (F := Ideal))) ⟨m, fun _ => 0, g⟩ (fun r => (∀ c : Dev Cert.GOutIdeal.nD,
      r.2.mem ((c.tc : Thread Cert.GOutIdeal.nD Cert.GOutIdeal.τ).loc Cert.GOutIdeal.main_arg0) = m ((c.tc : Thread Cert.GOutIdeal.nD Cert.GOutIdeal.τ).loc Cert.GOutIdeal.main_arg0)
      ∧ r.2.mem ((c.tc : Thread Cert.GOutIdeal.nD Cert.GOutIdeal.τ).loc Cert.GOutIdeal.main_arg1) = m ((c.tc : Thread Cert.GOutIdeal.nD Cert.GOutIdeal.τ).loc Cert.GOutIdeal.main_arg1))
      ∧ r.2.sem = fun _ => 0)

def quiescent_GOutRefIdeal [hGOutRefIdeal : Cert.GOutRefIdeal.Facts] : Prop :=
  ∀ (m : (ℓ : Loc Cert.GOutRefIdeal.nD Cert.GOutRefIdeal.τ Cert.GOutRefIdeal.sig) → Buf (Elt Ideal) ℓ) (g : Dev Cert.GOutRefIdeal.nD → PrngReg), Pre_GOutRefIdeal m →
    θ_run (Cert.GOutRefIdeal.defs (F := Ideal)) (onTc (τ := Cert.GOutRefIdeal.τ) (Cert.GOutRefIdeal.main (F := Ideal))) ⟨m, fun _ => 0, g⟩ (fun r => (∀ c : Dev Cert.GOutRefIdeal.nD,
      r.2.mem ((c.tc : Thread Cert.GOutRefIdeal.nD Cert.GOutRefIdeal.τ).loc Cert.GOutRefIdeal.main_arg0) = m ((c.tc : Thread Cert.GOutRefIdeal.nD Cert.GOutRefIdeal.τ).loc Cert.GOutRefIdeal.main_arg0)
      ∧ r.2.mem ((c.tc : Thread Cert.GOutRefIdeal.nD Cert.GOutRefIdeal.τ).loc Cert.GOutRefIdeal.main_arg1) = m ((c.tc : Thread Cert.GOutRefIdeal.nD Cert.GOutRefIdeal.τ).loc Cert.GOutRefIdeal.main_arg1))
      ∧ r.2.sem = fun _ => 0)

def quiescent_GIn [hGIn : Cert.GIn.Facts] : Prop :=
  ∀ (m : (ℓ : Loc Cert.GIn.nD Cert.GIn.τ Cert.GIn.sig) → Buf (Elt Bits) ℓ) (g : Dev Cert.GIn.nD → PrngReg), Pre_GIn m →
    θ_run (Cert.GIn.defs (F := Bits)) (onTc (τ := Cert.GIn.τ) (Cert.GIn.main (F := Bits))) ⟨m, fun _ => 0, g⟩ (fun r => (∀ c : Dev Cert.GIn.nD,
      r.2.mem ((c.tc : Thread Cert.GIn.nD Cert.GIn.τ).loc Cert.GIn.main_arg0) = m ((c.tc : Thread Cert.GIn.nD Cert.GIn.τ).loc Cert.GIn.main_arg0)
      ∧ r.2.mem ((c.tc : Thread Cert.GIn.nD Cert.GIn.τ).loc Cert.GIn.main_arg1) = m ((c.tc : Thread Cert.GIn.nD Cert.GIn.τ).loc Cert.GIn.main_arg1))
      ∧ r.2.sem = fun _ => 0)

def quiescent_GInIdeal [hGInIdeal : Cert.GInIdeal.Facts] : Prop :=
  ∀ (m : (ℓ : Loc Cert.GInIdeal.nD Cert.GInIdeal.τ Cert.GInIdeal.sig) → Buf (Elt Ideal) ℓ) (g : Dev Cert.GInIdeal.nD → PrngReg), Pre_GInIdeal m →
    θ_run (Cert.GInIdeal.defs (F := Ideal)) (onTc (τ := Cert.GInIdeal.τ) (Cert.GInIdeal.main (F := Ideal))) ⟨m, fun _ => 0, g⟩ (fun r => (∀ c : Dev Cert.GInIdeal.nD,
      r.2.mem ((c.tc : Thread Cert.GInIdeal.nD Cert.GInIdeal.τ).loc Cert.GInIdeal.main_arg0) = m ((c.tc : Thread Cert.GInIdeal.nD Cert.GInIdeal.τ).loc Cert.GInIdeal.main_arg0)
      ∧ r.2.mem ((c.tc : Thread Cert.GInIdeal.nD Cert.GInIdeal.τ).loc Cert.GInIdeal.main_arg1) = m ((c.tc : Thread Cert.GInIdeal.nD Cert.GInIdeal.τ).loc Cert.GInIdeal.main_arg1))
      ∧ r.2.sem = fun _ => 0)

def quiescent_GInRefIdeal [hGInRefIdeal : Cert.GInRefIdeal.Facts] : Prop :=
  ∀ (m : (ℓ : Loc Cert.GInRefIdeal.nD Cert.GInRefIdeal.τ Cert.GInRefIdeal.sig) → Buf (Elt Ideal) ℓ) (g : Dev Cert.GInRefIdeal.nD → PrngReg), Pre_GInRefIdeal m →
    θ_run (Cert.GInRefIdeal.defs (F := Ideal)) (onTc (τ := Cert.GInRefIdeal.τ) (Cert.GInRefIdeal.main (F := Ideal))) ⟨m, fun _ => 0, g⟩ (fun r => (∀ c : Dev Cert.GInRefIdeal.nD,
      r.2.mem ((c.tc : Thread Cert.GInRefIdeal.nD Cert.GInRefIdeal.τ).loc Cert.GInRefIdeal.main_arg0) = m ((c.tc : Thread Cert.GInRefIdeal.nD Cert.GInRefIdeal.τ).loc Cert.GInRefIdeal.main_arg0)
      ∧ r.2.mem ((c.tc : Thread Cert.GInRefIdeal.nD Cert.GInRefIdeal.τ).loc Cert.GInRefIdeal.main_arg1) = m ((c.tc : Thread Cert.GInRefIdeal.nD Cert.GInRefIdeal.τ).loc Cert.GInRefIdeal.main_arg1))
      ∧ r.2.sem = fun _ => 0)

def quiescent_DH1 [hDH1 : Cert.DH1.Facts] : Prop :=
  ∀ (m : (ℓ : Loc Cert.DH1.nD Cert.DH1.τ Cert.DH1.sig) → Buf (Elt Bits) ℓ) (g : Dev Cert.DH1.nD → PrngReg), Pre_DH1 m →
    θ_run (Cert.DH1.defs (F := Bits)) (onTc (τ := Cert.DH1.τ) (Cert.DH1.main (F := Bits))) ⟨m, fun _ => 0, g⟩ (fun r => (∀ c : Dev Cert.DH1.nD,
      r.2.mem ((c.tc : Thread Cert.DH1.nD Cert.DH1.τ).loc Cert.DH1.main_arg0) = m ((c.tc : Thread Cert.DH1.nD Cert.DH1.τ).loc Cert.DH1.main_arg0)
      ∧ r.2.mem ((c.tc : Thread Cert.DH1.nD Cert.DH1.τ).loc Cert.DH1.main_arg1) = m ((c.tc : Thread Cert.DH1.nD Cert.DH1.τ).loc Cert.DH1.main_arg1)
      ∧ r.2.mem ((c.tc : Thread Cert.DH1.nD Cert.DH1.τ).loc Cert.DH1.main_arg2) = m ((c.tc : Thread Cert.DH1.nD Cert.DH1.τ).loc Cert.DH1.main_arg2))
      ∧ r.2.sem = fun _ => 0)

def quiescent_DH1Ideal [hDH1Ideal : Cert.DH1Ideal.Facts] : Prop :=
  ∀ (m : (ℓ : Loc Cert.DH1Ideal.nD Cert.DH1Ideal.τ Cert.DH1Ideal.sig) → Buf (Elt Ideal) ℓ) (g : Dev Cert.DH1Ideal.nD → PrngReg), Pre_DH1Ideal m →
    θ_run (Cert.DH1Ideal.defs (F := Ideal)) (onTc (τ := Cert.DH1Ideal.τ) (Cert.DH1Ideal.main (F := Ideal))) ⟨m, fun _ => 0, g⟩ (fun r => (∀ c : Dev Cert.DH1Ideal.nD,
      r.2.mem ((c.tc : Thread Cert.DH1Ideal.nD Cert.DH1Ideal.τ).loc Cert.DH1Ideal.main_arg0) = m ((c.tc : Thread Cert.DH1Ideal.nD Cert.DH1Ideal.τ).loc Cert.DH1Ideal.main_arg0)
      ∧ r.2.mem ((c.tc : Thread Cert.DH1Ideal.nD Cert.DH1Ideal.τ).loc Cert.DH1Ideal.main_arg1) = m ((c.tc : Thread Cert.DH1Ideal.nD Cert.DH1Ideal.τ).loc Cert.DH1Ideal.main_arg1)
      ∧ r.2.mem ((c.tc : Thread Cert.DH1Ideal.nD Cert.DH1Ideal.τ).loc Cert.DH1Ideal.main_arg2) = m ((c.tc : Thread Cert.DH1Ideal.nD Cert.DH1Ideal.τ).loc Cert.DH1Ideal.main_arg2))
      ∧ r.2.sem = fun _ => 0)

def quiescent_DH1RefIdeal [hDH1RefIdeal : Cert.DH1RefIdeal.Facts] : Prop :=
  ∀ (m : (ℓ : Loc Cert.DH1RefIdeal.nD Cert.DH1RefIdeal.τ Cert.DH1RefIdeal.sig) → Buf (Elt Ideal) ℓ) (g : Dev Cert.DH1RefIdeal.nD → PrngReg), Pre_DH1RefIdeal m →
    θ_run (Cert.DH1RefIdeal.defs (F := Ideal)) (onTc (τ := Cert.DH1RefIdeal.τ) (Cert.DH1RefIdeal.main (F := Ideal))) ⟨m, fun _ => 0, g⟩ (fun r => (∀ c : Dev Cert.DH1RefIdeal.nD,
      r.2.mem ((c.tc : Thread Cert.DH1RefIdeal.nD Cert.DH1RefIdeal.τ).loc Cert.DH1RefIdeal.main_arg0) = m ((c.tc : Thread Cert.DH1RefIdeal.nD Cert.DH1RefIdeal.τ).loc Cert.DH1RefIdeal.main_arg0)
      ∧ r.2.mem ((c.tc : Thread Cert.DH1RefIdeal.nD Cert.DH1RefIdeal.τ).loc Cert.DH1RefIdeal.main_arg1) = m ((c.tc : Thread Cert.DH1RefIdeal.nD Cert.DH1RefIdeal.τ).loc Cert.DH1RefIdeal.main_arg1)
      ∧ r.2.mem ((c.tc : Thread Cert.DH1RefIdeal.nD Cert.DH1RefIdeal.τ).loc Cert.DH1RefIdeal.main_arg2) = m ((c.tc : Thread Cert.DH1RefIdeal.nD Cert.DH1RefIdeal.τ).loc Cert.DH1RefIdeal.main_arg2))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ r.2.sem = fun _ => 0)

def quiescent_NormBwdRefIdeal [hNormBwdRefIdeal : Cert.NormBwdRefIdeal.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3))
      ∧ r.2.sem = fun _ => 0)

def quiescent_AdamGateUp [hAdamGateUp : Cert.AdamGateUp.Facts] : Prop :=
  ∀ (m : (ℓ : Loc Cert.AdamGateUp.nD Cert.AdamGateUp.τ Cert.AdamGateUp.sig) → Buf (Elt Bits) ℓ) (g : Dev Cert.AdamGateUp.nD → PrngReg), Pre_AdamGateUp m →
    θ_run (Cert.AdamGateUp.defs (F := Bits)) (onTc (τ := Cert.AdamGateUp.τ) (Cert.AdamGateUp.main (F := Bits))) ⟨m, fun _ => 0, g⟩ (fun r => (∀ c : Dev Cert.AdamGateUp.nD,
      r.2.mem ((c.tc : Thread Cert.AdamGateUp.nD Cert.AdamGateUp.τ).loc Cert.AdamGateUp.main_arg0) = m ((c.tc : Thread Cert.AdamGateUp.nD Cert.AdamGateUp.τ).loc Cert.AdamGateUp.main_arg0)
      ∧ r.2.mem ((c.tc : Thread Cert.AdamGateUp.nD Cert.AdamGateUp.τ).loc Cert.AdamGateUp.main_arg1) = m ((c.tc : Thread Cert.AdamGateUp.nD Cert.AdamGateUp.τ).loc Cert.AdamGateUp.main_arg1)
      ∧ r.2.mem ((c.tc : Thread Cert.AdamGateUp.nD Cert.AdamGateUp.τ).loc Cert.AdamGateUp.main_arg2) = m ((c.tc : Thread Cert.AdamGateUp.nD Cert.AdamGateUp.τ).loc Cert.AdamGateUp.main_arg2)
      ∧ r.2.mem ((c.tc : Thread Cert.AdamGateUp.nD Cert.AdamGateUp.τ).loc Cert.AdamGateUp.main_arg3) = m ((c.tc : Thread Cert.AdamGateUp.nD Cert.AdamGateUp.τ).loc Cert.AdamGateUp.main_arg3))
      ∧ r.2.sem = fun _ => 0)

def quiescent_AdamGateUpIdeal [hAdamGateUpIdeal : Cert.AdamGateUpIdeal.Facts] : Prop :=
  ∀ (m : (ℓ : Loc Cert.AdamGateUpIdeal.nD Cert.AdamGateUpIdeal.τ Cert.AdamGateUpIdeal.sig) → Buf (Elt Ideal) ℓ) (g : Dev Cert.AdamGateUpIdeal.nD → PrngReg), Pre_AdamGateUpIdeal m →
    θ_run (Cert.AdamGateUpIdeal.defs (F := Ideal)) (onTc (τ := Cert.AdamGateUpIdeal.τ) (Cert.AdamGateUpIdeal.main (F := Ideal))) ⟨m, fun _ => 0, g⟩ (fun r => (∀ c : Dev Cert.AdamGateUpIdeal.nD,
      r.2.mem ((c.tc : Thread Cert.AdamGateUpIdeal.nD Cert.AdamGateUpIdeal.τ).loc Cert.AdamGateUpIdeal.main_arg0) = m ((c.tc : Thread Cert.AdamGateUpIdeal.nD Cert.AdamGateUpIdeal.τ).loc Cert.AdamGateUpIdeal.main_arg0)
      ∧ r.2.mem ((c.tc : Thread Cert.AdamGateUpIdeal.nD Cert.AdamGateUpIdeal.τ).loc Cert.AdamGateUpIdeal.main_arg1) = m ((c.tc : Thread Cert.AdamGateUpIdeal.nD Cert.AdamGateUpIdeal.τ).loc Cert.AdamGateUpIdeal.main_arg1)
      ∧ r.2.mem ((c.tc : Thread Cert.AdamGateUpIdeal.nD Cert.AdamGateUpIdeal.τ).loc Cert.AdamGateUpIdeal.main_arg2) = m ((c.tc : Thread Cert.AdamGateUpIdeal.nD Cert.AdamGateUpIdeal.τ).loc Cert.AdamGateUpIdeal.main_arg2)
      ∧ r.2.mem ((c.tc : Thread Cert.AdamGateUpIdeal.nD Cert.AdamGateUpIdeal.τ).loc Cert.AdamGateUpIdeal.main_arg3) = m ((c.tc : Thread Cert.AdamGateUpIdeal.nD Cert.AdamGateUpIdeal.τ).loc Cert.AdamGateUpIdeal.main_arg3))
      ∧ r.2.sem = fun _ => 0)

def quiescent_AdamGateUpRefIdeal [hAdamGateUpRefIdeal : Cert.AdamGateUpRefIdeal.Facts] : Prop :=
  ∀ (m : (ℓ : Loc Cert.AdamGateUpRefIdeal.nD Cert.AdamGateUpRefIdeal.τ Cert.AdamGateUpRefIdeal.sig) → Buf (Elt Ideal) ℓ) (g : Dev Cert.AdamGateUpRefIdeal.nD → PrngReg), Pre_AdamGateUpRefIdeal m →
    θ_run (Cert.AdamGateUpRefIdeal.defs (F := Ideal)) (onTc (τ := Cert.AdamGateUpRefIdeal.τ) (Cert.AdamGateUpRefIdeal.main (F := Ideal))) ⟨m, fun _ => 0, g⟩ (fun r => (∀ c : Dev Cert.AdamGateUpRefIdeal.nD,
      r.2.mem ((c.tc : Thread Cert.AdamGateUpRefIdeal.nD Cert.AdamGateUpRefIdeal.τ).loc Cert.AdamGateUpRefIdeal.main_arg0) = m ((c.tc : Thread Cert.AdamGateUpRefIdeal.nD Cert.AdamGateUpRefIdeal.τ).loc Cert.AdamGateUpRefIdeal.main_arg0)
      ∧ r.2.mem ((c.tc : Thread Cert.AdamGateUpRefIdeal.nD Cert.AdamGateUpRefIdeal.τ).loc Cert.AdamGateUpRefIdeal.main_arg1) = m ((c.tc : Thread Cert.AdamGateUpRefIdeal.nD Cert.AdamGateUpRefIdeal.τ).loc Cert.AdamGateUpRefIdeal.main_arg1)
      ∧ r.2.mem ((c.tc : Thread Cert.AdamGateUpRefIdeal.nD Cert.AdamGateUpRefIdeal.τ).loc Cert.AdamGateUpRefIdeal.main_arg2) = m ((c.tc : Thread Cert.AdamGateUpRefIdeal.nD Cert.AdamGateUpRefIdeal.τ).loc Cert.AdamGateUpRefIdeal.main_arg2)
      ∧ r.2.mem ((c.tc : Thread Cert.AdamGateUpRefIdeal.nD Cert.AdamGateUpRefIdeal.τ).loc Cert.AdamGateUpRefIdeal.main_arg3) = m ((c.tc : Thread Cert.AdamGateUpRefIdeal.nD Cert.AdamGateUpRefIdeal.τ).loc Cert.AdamGateUpRefIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_AdamConv [hAdamConv : Cert.AdamConv.Facts] : Prop :=
  ∀ (m : (ℓ : Loc Cert.AdamConv.nD Cert.AdamConv.τ Cert.AdamConv.sig) → Buf (Elt Bits) ℓ) (g : Dev Cert.AdamConv.nD → PrngReg), Pre_AdamConv m →
    θ_run (Cert.AdamConv.defs (F := Bits)) (onTc (τ := Cert.AdamConv.τ) (Cert.AdamConv.main (F := Bits))) ⟨m, fun _ => 0, g⟩ (fun r => (∀ c : Dev Cert.AdamConv.nD,
      r.2.mem ((c.tc : Thread Cert.AdamConv.nD Cert.AdamConv.τ).loc Cert.AdamConv.main_arg0) = m ((c.tc : Thread Cert.AdamConv.nD Cert.AdamConv.τ).loc Cert.AdamConv.main_arg0)
      ∧ r.2.mem ((c.tc : Thread Cert.AdamConv.nD Cert.AdamConv.τ).loc Cert.AdamConv.main_arg1) = m ((c.tc : Thread Cert.AdamConv.nD Cert.AdamConv.τ).loc Cert.AdamConv.main_arg1)
      ∧ r.2.mem ((c.tc : Thread Cert.AdamConv.nD Cert.AdamConv.τ).loc Cert.AdamConv.main_arg2) = m ((c.tc : Thread Cert.AdamConv.nD Cert.AdamConv.τ).loc Cert.AdamConv.main_arg2)
      ∧ r.2.mem ((c.tc : Thread Cert.AdamConv.nD Cert.AdamConv.τ).loc Cert.AdamConv.main_arg3) = m ((c.tc : Thread Cert.AdamConv.nD Cert.AdamConv.τ).loc Cert.AdamConv.main_arg3))
      ∧ r.2.sem = fun _ => 0)

def quiescent_AdamConvIdeal [hAdamConvIdeal : Cert.AdamConvIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg), Pre_AdamConvIdeal m →
    θ_run (Cert.AdamConvIdeal.defs (F := Ideal)) (onTc (τ := Cert.AdamConvIdeal.τ) (Cert.AdamConvIdeal.main (F := Ideal))) ⟨m, fun _ => 0, g⟩ (fun r => (∀ c : Dev Cert.AdamConvIdeal.nD,
      r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
      ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
      ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
      ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ r.2.sem = fun _ => 0)

def quiescent_AdamConvRefIdeal [hAdamConvRefIdeal : Cert.AdamConvRefIdeal.Facts] : Prop :=
  ∀ (m : (ℓ : Loc Cert.AdamConvRefIdeal.nD Cert.AdamConvRefIdeal.τ Cert.AdamConvRefIdeal.sig) → Buf (Elt Ideal) ℓ) (g : Dev Cert.AdamConvRefIdeal.nD → PrngReg), Pre_AdamConvRefIdeal m →
    θ_run (Cert.AdamConvRefIdeal.defs (F := Ideal)) (onTc (τ := Cert.AdamConvRefIdeal.τ) (Cert.AdamConvRefIdeal.main (F := Ideal))) ⟨m, fun _ => 0, g⟩ (fun r => (∀ c : Dev Cert.AdamConvRefIdeal.nD,
      r.2.mem ((c.tc : Thread Cert.AdamConvRefIdeal.nD Cert.AdamConvRefIdeal.τ).loc Cert.AdamConvRefIdeal.main_arg0) = m ((c.tc : Thread Cert.AdamConvRefIdeal.nD Cert.AdamConvRefIdeal.τ).loc Cert.AdamConvRefIdeal.main_arg0)
      ∧ r.2.mem ((c.tc : Thread Cert.AdamConvRefIdeal.nD Cert.AdamConvRefIdeal.τ).loc Cert.AdamConvRefIdeal.main_arg1) = m ((c.tc : Thread Cert.AdamConvRefIdeal.nD Cert.AdamConvRefIdeal.τ).loc Cert.AdamConvRefIdeal.main_arg1)
      ∧ r.2.mem ((c.tc : Thread Cert.AdamConvRefIdeal.nD Cert.AdamConvRefIdeal.τ).loc Cert.AdamConvRefIdeal.main_arg2) = m ((c.tc : Thread Cert.AdamConvRefIdeal.nD Cert.AdamConvRefIdeal.τ).loc Cert.AdamConvRefIdeal.main_arg2)
      ∧ r.2.mem ((c.tc : Thread Cert.AdamConvRefIdeal.nD Cert.AdamConvRefIdeal.τ).loc Cert.AdamConvRefIdeal.main_arg3) = m ((c.tc : Thread Cert.AdamConvRefIdeal.nD Cert.AdamConvRefIdeal.τ).loc Cert.AdamConvRefIdeal.main_arg3))
      ∧ r.2.sem = fun _ => 0)

def quiescent_ConvVBwd [hConvVBwd : Cert.ConvVBwd.Facts] : Prop :=
  ∀ (m : (ℓ : Loc Cert.ConvVBwd.nD Cert.ConvVBwd.τ Cert.ConvVBwd.sig) → Buf (Elt Bits) ℓ) (g : Dev Cert.ConvVBwd.nD → PrngReg), Pre_ConvVBwd m →
    θ_run (Cert.ConvVBwd.defs (F := Bits)) (onTc (τ := Cert.ConvVBwd.τ) (Cert.ConvVBwd.main (F := Bits))) ⟨m, fun _ => 0, g⟩ (fun r => (∀ c : Dev Cert.ConvVBwd.nD,
      r.2.mem ((c.tc : Thread Cert.ConvVBwd.nD Cert.ConvVBwd.τ).loc Cert.ConvVBwd.main_arg0) = m ((c.tc : Thread Cert.ConvVBwd.nD Cert.ConvVBwd.τ).loc Cert.ConvVBwd.main_arg0)
      ∧ r.2.mem ((c.tc : Thread Cert.ConvVBwd.nD Cert.ConvVBwd.τ).loc Cert.ConvVBwd.main_arg1) = m ((c.tc : Thread Cert.ConvVBwd.nD Cert.ConvVBwd.τ).loc Cert.ConvVBwd.main_arg1)
      ∧ r.2.mem ((c.tc : Thread Cert.ConvVBwd.nD Cert.ConvVBwd.τ).loc Cert.ConvVBwd.main_arg2) = m ((c.tc : Thread Cert.ConvVBwd.nD Cert.ConvVBwd.τ).loc Cert.ConvVBwd.main_arg2)
      ∧ r.2.mem ((c.tc : Thread Cert.ConvVBwd.nD Cert.ConvVBwd.τ).loc Cert.ConvVBwd.main_arg3) = m ((c.tc : Thread Cert.ConvVBwd.nD Cert.ConvVBwd.τ).loc Cert.ConvVBwd.main_arg3))
      ∧ r.2.sem = fun _ => 0)

def quiescent_ConvVBwdIdeal [hConvVBwdIdeal : Cert.ConvVBwdIdeal.Facts] : Prop :=
  ∀ (m : (ℓ : Loc Cert.ConvVBwdIdeal.nD Cert.ConvVBwdIdeal.τ Cert.ConvVBwdIdeal.sig) → Buf (Elt Ideal) ℓ) (g : Dev Cert.ConvVBwdIdeal.nD → PrngReg), Pre_ConvVBwdIdeal m →
    θ_run (Cert.ConvVBwdIdeal.defs (F := Ideal)) (onTc (τ := Cert.ConvVBwdIdeal.τ) (Cert.ConvVBwdIdeal.main (F := Ideal))) ⟨m, fun _ => 0, g⟩ (fun r => (∀ c : Dev Cert.ConvVBwdIdeal.nD,
      r.2.mem ((c.tc : Thread Cert.ConvVBwdIdeal.nD Cert.ConvVBwdIdeal.τ).loc Cert.ConvVBwdIdeal.main_arg0) = m ((c.tc : Thread Cert.ConvVBwdIdeal.nD Cert.ConvVBwdIdeal.τ).loc Cert.ConvVBwdIdeal.main_arg0)
      ∧ r.2.mem ((c.tc : Thread Cert.ConvVBwdIdeal.nD Cert.ConvVBwdIdeal.τ).loc Cert.ConvVBwdIdeal.main_arg1) = m ((c.tc : Thread Cert.ConvVBwdIdeal.nD Cert.ConvVBwdIdeal.τ).loc Cert.ConvVBwdIdeal.main_arg1)
      ∧ r.2.mem ((c.tc : Thread Cert.ConvVBwdIdeal.nD Cert.ConvVBwdIdeal.τ).loc Cert.ConvVBwdIdeal.main_arg2) = m ((c.tc : Thread Cert.ConvVBwdIdeal.nD Cert.ConvVBwdIdeal.τ).loc Cert.ConvVBwdIdeal.main_arg2)
      ∧ r.2.mem ((c.tc : Thread Cert.ConvVBwdIdeal.nD Cert.ConvVBwdIdeal.τ).loc Cert.ConvVBwdIdeal.main_arg3) = m ((c.tc : Thread Cert.ConvVBwdIdeal.nD Cert.ConvVBwdIdeal.τ).loc Cert.ConvVBwdIdeal.main_arg3))
      ∧ r.2.sem = fun _ => 0)

def quiescent_ConvVBwdRefIdeal [hConvVBwdRefIdeal : Cert.ConvVBwdRefIdeal.Facts] : Prop :=
  ∀ (m : (ℓ : Loc Cert.ConvVBwdRefIdeal.nD Cert.ConvVBwdRefIdeal.τ Cert.ConvVBwdRefIdeal.sig) → Buf (Elt Ideal) ℓ) (g : Dev Cert.ConvVBwdRefIdeal.nD → PrngReg), Pre_ConvVBwdRefIdeal m →
    θ_run (Cert.ConvVBwdRefIdeal.defs (F := Ideal)) (onTc (τ := Cert.ConvVBwdRefIdeal.τ) (Cert.ConvVBwdRefIdeal.main (F := Ideal))) ⟨m, fun _ => 0, g⟩ (fun r => (∀ c : Dev Cert.ConvVBwdRefIdeal.nD,
      r.2.mem ((c.tc : Thread Cert.ConvVBwdRefIdeal.nD Cert.ConvVBwdRefIdeal.τ).loc Cert.ConvVBwdRefIdeal.main_arg0) = m ((c.tc : Thread Cert.ConvVBwdRefIdeal.nD Cert.ConvVBwdRefIdeal.τ).loc Cert.ConvVBwdRefIdeal.main_arg0)
      ∧ r.2.mem ((c.tc : Thread Cert.ConvVBwdRefIdeal.nD Cert.ConvVBwdRefIdeal.τ).loc Cert.ConvVBwdRefIdeal.main_arg1) = m ((c.tc : Thread Cert.ConvVBwdRefIdeal.nD Cert.ConvVBwdRefIdeal.τ).loc Cert.ConvVBwdRefIdeal.main_arg1)
      ∧ r.2.mem ((c.tc : Thread Cert.ConvVBwdRefIdeal.nD Cert.ConvVBwdRefIdeal.τ).loc Cert.ConvVBwdRefIdeal.main_arg2) = m ((c.tc : Thread Cert.ConvVBwdRefIdeal.nD Cert.ConvVBwdRefIdeal.τ).loc Cert.ConvVBwdRefIdeal.main_arg2)
      ∧ r.2.mem ((c.tc : Thread Cert.ConvVBwdRefIdeal.nD Cert.ConvVBwdRefIdeal.τ).loc Cert.ConvVBwdRefIdeal.main_arg3) = m ((c.tc : Thread Cert.ConvVBwdRefIdeal.nD Cert.ConvVBwdRefIdeal.τ).loc Cert.ConvVBwdRefIdeal.main_arg3))
      ∧ r.2.sem = fun _ => 0)

def quiescent_ConvQBwd [hConvQBwd : Cert.ConvQBwd.Facts] : Prop :=
  ∀ (m : (ℓ : Loc Cert.ConvQBwd.nD Cert.ConvQBwd.τ Cert.ConvQBwd.sig) → Buf (Elt Bits) ℓ) (g : Dev Cert.ConvQBwd.nD → PrngReg), Pre_ConvQBwd m →
    θ_run (Cert.ConvQBwd.defs (F := Bits)) (onTc (τ := Cert.ConvQBwd.τ) (Cert.ConvQBwd.main (F := Bits))) ⟨m, fun _ => 0, g⟩ (fun r => (∀ c : Dev Cert.ConvQBwd.nD,
      r.2.mem ((c.tc : Thread Cert.ConvQBwd.nD Cert.ConvQBwd.τ).loc Cert.ConvQBwd.main_arg0) = m ((c.tc : Thread Cert.ConvQBwd.nD Cert.ConvQBwd.τ).loc Cert.ConvQBwd.main_arg0)
      ∧ r.2.mem ((c.tc : Thread Cert.ConvQBwd.nD Cert.ConvQBwd.τ).loc Cert.ConvQBwd.main_arg1) = m ((c.tc : Thread Cert.ConvQBwd.nD Cert.ConvQBwd.τ).loc Cert.ConvQBwd.main_arg1)
      ∧ r.2.mem ((c.tc : Thread Cert.ConvQBwd.nD Cert.ConvQBwd.τ).loc Cert.ConvQBwd.main_arg2) = m ((c.tc : Thread Cert.ConvQBwd.nD Cert.ConvQBwd.τ).loc Cert.ConvQBwd.main_arg2)
      ∧ r.2.mem ((c.tc : Thread Cert.ConvQBwd.nD Cert.ConvQBwd.τ).loc Cert.ConvQBwd.main_arg3) = m ((c.tc : Thread Cert.ConvQBwd.nD Cert.ConvQBwd.τ).loc Cert.ConvQBwd.main_arg3))
      ∧ r.2.sem = fun _ => 0)

def quiescent_ConvQBwdIdeal [hConvQBwdIdeal : Cert.ConvQBwdIdeal.Facts] : Prop :=
  ∀ (m : (ℓ : Loc Cert.ConvQBwdIdeal.nD Cert.ConvQBwdIdeal.τ Cert.ConvQBwdIdeal.sig) → Buf (Elt Ideal) ℓ) (g : Dev Cert.ConvQBwdIdeal.nD → PrngReg), Pre_ConvQBwdIdeal m →
    θ_run (Cert.ConvQBwdIdeal.defs (F := Ideal)) (onTc (τ := Cert.ConvQBwdIdeal.τ) (Cert.ConvQBwdIdeal.main (F := Ideal))) ⟨m, fun _ => 0, g⟩ (fun r => (∀ c : Dev Cert.ConvQBwdIdeal.nD,
      r.2.mem ((c.tc : Thread Cert.ConvQBwdIdeal.nD Cert.ConvQBwdIdeal.τ).loc Cert.ConvQBwdIdeal.main_arg0) = m ((c.tc : Thread Cert.ConvQBwdIdeal.nD Cert.ConvQBwdIdeal.τ).loc Cert.ConvQBwdIdeal.main_arg0)
      ∧ r.2.mem ((c.tc : Thread Cert.ConvQBwdIdeal.nD Cert.ConvQBwdIdeal.τ).loc Cert.ConvQBwdIdeal.main_arg1) = m ((c.tc : Thread Cert.ConvQBwdIdeal.nD Cert.ConvQBwdIdeal.τ).loc Cert.ConvQBwdIdeal.main_arg1)
      ∧ r.2.mem ((c.tc : Thread Cert.ConvQBwdIdeal.nD Cert.ConvQBwdIdeal.τ).loc Cert.ConvQBwdIdeal.main_arg2) = m ((c.tc : Thread Cert.ConvQBwdIdeal.nD Cert.ConvQBwdIdeal.τ).loc Cert.ConvQBwdIdeal.main_arg2)
      ∧ r.2.mem ((c.tc : Thread Cert.ConvQBwdIdeal.nD Cert.ConvQBwdIdeal.τ).loc Cert.ConvQBwdIdeal.main_arg3) = m ((c.tc : Thread Cert.ConvQBwdIdeal.nD Cert.ConvQBwdIdeal.τ).loc Cert.ConvQBwdIdeal.main_arg3))
      ∧ r.2.sem = fun _ => 0)

def quiescent_ConvQBwdRefIdeal [hConvQBwdRefIdeal : Cert.ConvQBwdRefIdeal.Facts] : Prop :=
  ∀ (m : (ℓ : Loc Cert.ConvQBwdRefIdeal.nD Cert.ConvQBwdRefIdeal.τ Cert.ConvQBwdRefIdeal.sig) → Buf (Elt Ideal) ℓ) (g : Dev Cert.ConvQBwdRefIdeal.nD → PrngReg), Pre_ConvQBwdRefIdeal m →
    θ_run (Cert.ConvQBwdRefIdeal.defs (F := Ideal)) (onTc (τ := Cert.ConvQBwdRefIdeal.τ) (Cert.ConvQBwdRefIdeal.main (F := Ideal))) ⟨m, fun _ => 0, g⟩ (fun r => (∀ c : Dev Cert.ConvQBwdRefIdeal.nD,
      r.2.mem ((c.tc : Thread Cert.ConvQBwdRefIdeal.nD Cert.ConvQBwdRefIdeal.τ).loc Cert.ConvQBwdRefIdeal.main_arg0) = m ((c.tc : Thread Cert.ConvQBwdRefIdeal.nD Cert.ConvQBwdRefIdeal.τ).loc Cert.ConvQBwdRefIdeal.main_arg0)
      ∧ r.2.mem ((c.tc : Thread Cert.ConvQBwdRefIdeal.nD Cert.ConvQBwdRefIdeal.τ).loc Cert.ConvQBwdRefIdeal.main_arg1) = m ((c.tc : Thread Cert.ConvQBwdRefIdeal.nD Cert.ConvQBwdRefIdeal.τ).loc Cert.ConvQBwdRefIdeal.main_arg1)
      ∧ r.2.mem ((c.tc : Thread Cert.ConvQBwdRefIdeal.nD Cert.ConvQBwdRefIdeal.τ).loc Cert.ConvQBwdRefIdeal.main_arg2) = m ((c.tc : Thread Cert.ConvQBwdRefIdeal.nD Cert.ConvQBwdRefIdeal.τ).loc Cert.ConvQBwdRefIdeal.main_arg2)
      ∧ r.2.mem ((c.tc : Thread Cert.ConvQBwdRefIdeal.nD Cert.ConvQBwdRefIdeal.τ).loc Cert.ConvQBwdRefIdeal.main_arg3) = m ((c.tc : Thread Cert.ConvQBwdRefIdeal.nD Cert.ConvQBwdRefIdeal.τ).loc Cert.ConvQBwdRefIdeal.main_arg3))
      ∧ r.2.sem = fun _ => 0)

def quiescent_ConvKBwd [hConvKBwd : Cert.ConvKBwd.Facts] : Prop :=
  ∀ (m : (ℓ : Loc Cert.ConvKBwd.nD Cert.ConvKBwd.τ Cert.ConvKBwd.sig) → Buf (Elt Bits) ℓ) (g : Dev Cert.ConvKBwd.nD → PrngReg), Pre_ConvKBwd m →
    θ_run (Cert.ConvKBwd.defs (F := Bits)) (onTc (τ := Cert.ConvKBwd.τ) (Cert.ConvKBwd.main (F := Bits))) ⟨m, fun _ => 0, g⟩ (fun r => (∀ c : Dev Cert.ConvKBwd.nD,
      r.2.mem ((c.tc : Thread Cert.ConvKBwd.nD Cert.ConvKBwd.τ).loc Cert.ConvKBwd.main_arg0) = m ((c.tc : Thread Cert.ConvKBwd.nD Cert.ConvKBwd.τ).loc Cert.ConvKBwd.main_arg0)
      ∧ r.2.mem ((c.tc : Thread Cert.ConvKBwd.nD Cert.ConvKBwd.τ).loc Cert.ConvKBwd.main_arg1) = m ((c.tc : Thread Cert.ConvKBwd.nD Cert.ConvKBwd.τ).loc Cert.ConvKBwd.main_arg1)
      ∧ r.2.mem ((c.tc : Thread Cert.ConvKBwd.nD Cert.ConvKBwd.τ).loc Cert.ConvKBwd.main_arg2) = m ((c.tc : Thread Cert.ConvKBwd.nD Cert.ConvKBwd.τ).loc Cert.ConvKBwd.main_arg2)
      ∧ r.2.mem ((c.tc : Thread Cert.ConvKBwd.nD Cert.ConvKBwd.τ).loc Cert.ConvKBwd.main_arg3) = m ((c.tc : Thread Cert.ConvKBwd.nD Cert.ConvKBwd.τ).loc Cert.ConvKBwd.main_arg3))
      ∧ r.2.sem = fun _ => 0)

def quiescent_ConvKBwdIdeal [hConvKBwdIdeal : Cert.ConvKBwdIdeal.Facts] : Prop :=
  ∀ (m : (ℓ : Loc Cert.ConvKBwdIdeal.nD Cert.ConvKBwdIdeal.τ Cert.ConvKBwdIdeal.sig) → Buf (Elt Ideal) ℓ) (g : Dev Cert.ConvKBwdIdeal.nD → PrngReg), Pre_ConvKBwdIdeal m →
    θ_run (Cert.ConvKBwdIdeal.defs (F := Ideal)) (onTc (τ := Cert.ConvKBwdIdeal.τ) (Cert.ConvKBwdIdeal.main (F := Ideal))) ⟨m, fun _ => 0, g⟩ (fun r => (∀ c : Dev Cert.ConvKBwdIdeal.nD,
      r.2.mem ((c.tc : Thread Cert.ConvKBwdIdeal.nD Cert.ConvKBwdIdeal.τ).loc Cert.ConvKBwdIdeal.main_arg0) = m ((c.tc : Thread Cert.ConvKBwdIdeal.nD Cert.ConvKBwdIdeal.τ).loc Cert.ConvKBwdIdeal.main_arg0)
      ∧ r.2.mem ((c.tc : Thread Cert.ConvKBwdIdeal.nD Cert.ConvKBwdIdeal.τ).loc Cert.ConvKBwdIdeal.main_arg1) = m ((c.tc : Thread Cert.ConvKBwdIdeal.nD Cert.ConvKBwdIdeal.τ).loc Cert.ConvKBwdIdeal.main_arg1)
      ∧ r.2.mem ((c.tc : Thread Cert.ConvKBwdIdeal.nD Cert.ConvKBwdIdeal.τ).loc Cert.ConvKBwdIdeal.main_arg2) = m ((c.tc : Thread Cert.ConvKBwdIdeal.nD Cert.ConvKBwdIdeal.τ).loc Cert.ConvKBwdIdeal.main_arg2)
      ∧ r.2.mem ((c.tc : Thread Cert.ConvKBwdIdeal.nD Cert.ConvKBwdIdeal.τ).loc Cert.ConvKBwdIdeal.main_arg3) = m ((c.tc : Thread Cert.ConvKBwdIdeal.nD Cert.ConvKBwdIdeal.τ).loc Cert.ConvKBwdIdeal.main_arg3))
      ∧ r.2.sem = fun _ => 0)

def quiescent_ConvKBwdRefIdeal [hConvKBwdRefIdeal : Cert.ConvKBwdRefIdeal.Facts] : Prop :=
  ∀ (m : (ℓ : Loc Cert.ConvKBwdRefIdeal.nD Cert.ConvKBwdRefIdeal.τ Cert.ConvKBwdRefIdeal.sig) → Buf (Elt Ideal) ℓ) (g : Dev Cert.ConvKBwdRefIdeal.nD → PrngReg), Pre_ConvKBwdRefIdeal m →
    θ_run (Cert.ConvKBwdRefIdeal.defs (F := Ideal)) (onTc (τ := Cert.ConvKBwdRefIdeal.τ) (Cert.ConvKBwdRefIdeal.main (F := Ideal))) ⟨m, fun _ => 0, g⟩ (fun r => (∀ c : Dev Cert.ConvKBwdRefIdeal.nD,
      r.2.mem ((c.tc : Thread Cert.ConvKBwdRefIdeal.nD Cert.ConvKBwdRefIdeal.τ).loc Cert.ConvKBwdRefIdeal.main_arg0) = m ((c.tc : Thread Cert.ConvKBwdRefIdeal.nD Cert.ConvKBwdRefIdeal.τ).loc Cert.ConvKBwdRefIdeal.main_arg0)
      ∧ r.2.mem ((c.tc : Thread Cert.ConvKBwdRefIdeal.nD Cert.ConvKBwdRefIdeal.τ).loc Cert.ConvKBwdRefIdeal.main_arg1) = m ((c.tc : Thread Cert.ConvKBwdRefIdeal.nD Cert.ConvKBwdRefIdeal.τ).loc Cert.ConvKBwdRefIdeal.main_arg1)
      ∧ r.2.mem ((c.tc : Thread Cert.ConvKBwdRefIdeal.nD Cert.ConvKBwdRefIdeal.τ).loc Cert.ConvKBwdRefIdeal.main_arg2) = m ((c.tc : Thread Cert.ConvKBwdRefIdeal.nD Cert.ConvKBwdRefIdeal.τ).loc Cert.ConvKBwdRefIdeal.main_arg2)
      ∧ r.2.mem ((c.tc : Thread Cert.ConvKBwdRefIdeal.nD Cert.ConvKBwdRefIdeal.τ).loc Cert.ConvKBwdRefIdeal.main_arg3) = m ((c.tc : Thread Cert.ConvKBwdRefIdeal.nD Cert.ConvKBwdRefIdeal.τ).loc Cert.ConvKBwdRefIdeal.main_arg3))
      ∧ r.2.sem = fun _ => 0)

def quiescent_CastInto [hCastInto : Cert.CastInto.Facts] : Prop :=
  ∀ (m : (ℓ : Loc Cert.CastInto.nD Cert.CastInto.τ Cert.CastInto.sig) → Buf (Elt Bits) ℓ) (g : Dev Cert.CastInto.nD → PrngReg), Pre_CastInto m →
    θ_run (Cert.CastInto.defs (F := Bits)) (onTc (τ := Cert.CastInto.τ) (Cert.CastInto.main (F := Bits))) ⟨m, fun _ => 0, g⟩ (fun r => (∀ c : Dev Cert.CastInto.nD,
      r.2.mem ((c.tc : Thread Cert.CastInto.nD Cert.CastInto.τ).loc Cert.CastInto.main_arg0) = m ((c.tc : Thread Cert.CastInto.nD Cert.CastInto.τ).loc Cert.CastInto.main_arg0)
      ∧ r.2.mem ((c.tc : Thread Cert.CastInto.nD Cert.CastInto.τ).loc Cert.CastInto.main_arg1) = m ((c.tc : Thread Cert.CastInto.nD Cert.CastInto.τ).loc Cert.CastInto.main_arg1))
      ∧ r.2.sem = fun _ => 0)

def quiescent_CastIntoIdeal [hCastIntoIdeal : Cert.CastIntoIdeal.Facts] : Prop :=
  ∀ (m : (ℓ : Loc Cert.CastIntoIdeal.nD Cert.CastIntoIdeal.τ Cert.CastIntoIdeal.sig) → Buf (Elt Ideal) ℓ) (g : Dev Cert.CastIntoIdeal.nD → PrngReg), Pre_CastIntoIdeal m →
    θ_run (Cert.CastIntoIdeal.defs (F := Ideal)) (onTc (τ := Cert.CastIntoIdeal.τ) (Cert.CastIntoIdeal.main (F := Ideal))) ⟨m, fun _ => 0, g⟩ (fun r => (∀ c : Dev Cert.CastIntoIdeal.nD,
      r.2.mem ((c.tc : Thread Cert.CastIntoIdeal.nD Cert.CastIntoIdeal.τ).loc Cert.CastIntoIdeal.main_arg0) = m ((c.tc : Thread Cert.CastIntoIdeal.nD Cert.CastIntoIdeal.τ).loc Cert.CastIntoIdeal.main_arg0)
      ∧ r.2.mem ((c.tc : Thread Cert.CastIntoIdeal.nD Cert.CastIntoIdeal.τ).loc Cert.CastIntoIdeal.main_arg1) = m ((c.tc : Thread Cert.CastIntoIdeal.nD Cert.CastIntoIdeal.τ).loc Cert.CastIntoIdeal.main_arg1))
      ∧ r.2.sem = fun _ => 0)

def quiescent_CastIntoRefIdeal [hCastIntoRefIdeal : Cert.CastIntoRefIdeal.Facts] : Prop :=
  ∀ (m : (ℓ : Loc Cert.CastIntoRefIdeal.nD Cert.CastIntoRefIdeal.τ Cert.CastIntoRefIdeal.sig) → Buf (Elt Ideal) ℓ) (g : Dev Cert.CastIntoRefIdeal.nD → PrngReg), Pre_CastIntoRefIdeal m →
    θ_run (Cert.CastIntoRefIdeal.defs (F := Ideal)) (onTc (τ := Cert.CastIntoRefIdeal.τ) (Cert.CastIntoRefIdeal.main (F := Ideal))) ⟨m, fun _ => 0, g⟩ (fun r => (∀ c : Dev Cert.CastIntoRefIdeal.nD,
      r.2.mem ((c.tc : Thread Cert.CastIntoRefIdeal.nD Cert.CastIntoRefIdeal.τ).loc Cert.CastIntoRefIdeal.main_arg0) = m ((c.tc : Thread Cert.CastIntoRefIdeal.nD Cert.CastIntoRefIdeal.τ).loc Cert.CastIntoRefIdeal.main_arg0)
      ∧ r.2.mem ((c.tc : Thread Cert.CastIntoRefIdeal.nD Cert.CastIntoRefIdeal.τ).loc Cert.CastIntoRefIdeal.main_arg1) = m ((c.tc : Thread Cert.CastIntoRefIdeal.nD Cert.CastIntoRefIdeal.τ).loc Cert.CastIntoRefIdeal.main_arg1))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1)
      ∧ r.2.mem ((c.tc : Thread Cert.NormFwd.nD Cert.NormFwd.τ).loc Cert.NormFwd.main_arg2) = m ((c.tc : Thread Cert.NormFwd.nD Cert.NormFwd.τ).loc Cert.NormFwd.main_arg2))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1)
      ∧ r.2.mem ((c.tc : Thread Cert.NormFwdIdeal.nD Cert.NormFwdIdeal.τ).loc Cert.NormFwdIdeal.main_arg2) = m ((c.tc : Thread Cert.NormFwdIdeal.nD Cert.NormFwdIdeal.τ).loc Cert.NormFwdIdeal.main_arg2))
      ∧ r.2.sem = fun _ => 0)

def quiescent_NormFwdRefIdeal [hNormFwdRefIdeal : Cert.NormFwdRefIdeal.Facts] : Prop :=
  ∀ (m : (ℓ : Loc Cert.NormFwdRefIdeal.nD Cert.NormFwdRefIdeal.τ Cert.NormFwdRefIdeal.sig) → Buf (Elt Ideal) ℓ) (g : Dev Cert.NormFwdRefIdeal.nD → PrngReg), Pre_NormFwdRefIdeal m →
    θ_run (Cert.NormFwdRefIdeal.defs (F := Ideal)) (onTc (τ := Cert.NormFwdRefIdeal.τ) (Cert.NormFwdRefIdeal.main (F := Ideal))) ⟨m, fun _ => 0, g⟩ (fun r => (∀ c : Dev Cert.NormFwdRefIdeal.nD,
      r.2.mem ((c.tc : Thread Cert.NormFwdRefIdeal.nD Cert.NormFwdRefIdeal.τ).loc Cert.NormFwdRefIdeal.main_arg0) = m ((c.tc : Thread Cert.NormFwdRefIdeal.nD Cert.NormFwdRefIdeal.τ).loc Cert.NormFwdRefIdeal.main_arg0)
      ∧ r.2.mem ((c.tc : Thread Cert.NormFwdRefIdeal.nD Cert.NormFwdRefIdeal.τ).loc Cert.NormFwdRefIdeal.main_arg1) = m ((c.tc : Thread Cert.NormFwdRefIdeal.nD Cert.NormFwdRefIdeal.τ).loc Cert.NormFwdRefIdeal.main_arg1)
      ∧ r.2.mem ((c.tc : Thread Cert.NormFwdRefIdeal.nD Cert.NormFwdRefIdeal.τ).loc Cert.NormFwdRefIdeal.main_arg2) = m ((c.tc : Thread Cert.NormFwdRefIdeal.nD Cert.NormFwdRefIdeal.τ).loc Cert.NormFwdRefIdeal.main_arg2))
      ∧ r.2.sem = fun _ => 0)

def quiescent_ConvV [hConvV : Cert.ConvV.Facts] : Prop :=
  ∀ (m : (ℓ : Loc Cert.ConvV.nD Cert.ConvV.τ Cert.ConvV.sig) → Buf (Elt Bits) ℓ) (g : Dev Cert.ConvV.nD → PrngReg), Pre_ConvV m →
    θ_run (Cert.ConvV.defs (F := Bits)) (onTc (τ := Cert.ConvV.τ) (Cert.ConvV.main (F := Bits))) ⟨m, fun _ => 0, g⟩ (fun r => (∀ c : Dev Cert.ConvV.nD,
      r.2.mem ((c.tc : Thread Cert.ConvV.nD Cert.ConvV.τ).loc Cert.ConvV.main_arg0) = m ((c.tc : Thread Cert.ConvV.nD Cert.ConvV.τ).loc Cert.ConvV.main_arg0)
      ∧ r.2.mem ((c.tc : Thread Cert.ConvV.nD Cert.ConvV.τ).loc Cert.ConvV.main_arg1) = m ((c.tc : Thread Cert.ConvV.nD Cert.ConvV.τ).loc Cert.ConvV.main_arg1))
      ∧ r.2.sem = fun _ => 0)

def quiescent_ConvVIdeal [hConvVIdeal : Cert.ConvVIdeal.Facts] : Prop :=
  ∀ (m : (ℓ : Loc Cert.ConvVIdeal.nD Cert.ConvVIdeal.τ Cert.ConvVIdeal.sig) → Buf (Elt Ideal) ℓ) (g : Dev Cert.ConvVIdeal.nD → PrngReg), Pre_ConvVIdeal m →
    θ_run (Cert.ConvVIdeal.defs (F := Ideal)) (onTc (τ := Cert.ConvVIdeal.τ) (Cert.ConvVIdeal.main (F := Ideal))) ⟨m, fun _ => 0, g⟩ (fun r => (∀ c : Dev Cert.ConvVIdeal.nD,
      r.2.mem ((c.tc : Thread Cert.ConvVIdeal.nD Cert.ConvVIdeal.τ).loc Cert.ConvVIdeal.main_arg0) = m ((c.tc : Thread Cert.ConvVIdeal.nD Cert.ConvVIdeal.τ).loc Cert.ConvVIdeal.main_arg0)
      ∧ r.2.mem ((c.tc : Thread Cert.ConvVIdeal.nD Cert.ConvVIdeal.τ).loc Cert.ConvVIdeal.main_arg1) = m ((c.tc : Thread Cert.ConvVIdeal.nD Cert.ConvVIdeal.τ).loc Cert.ConvVIdeal.main_arg1))
      ∧ r.2.sem = fun _ => 0)

def quiescent_ConvVRefIdeal [hConvVRefIdeal : Cert.ConvVRefIdeal.Facts] : Prop :=
  ∀ (m : (ℓ : Loc Cert.ConvVRefIdeal.nD Cert.ConvVRefIdeal.τ Cert.ConvVRefIdeal.sig) → Buf (Elt Ideal) ℓ) (g : Dev Cert.ConvVRefIdeal.nD → PrngReg), Pre_ConvVRefIdeal m →
    θ_run (Cert.ConvVRefIdeal.defs (F := Ideal)) (onTc (τ := Cert.ConvVRefIdeal.τ) (Cert.ConvVRefIdeal.main (F := Ideal))) ⟨m, fun _ => 0, g⟩ (fun r => (∀ c : Dev Cert.ConvVRefIdeal.nD,
      r.2.mem ((c.tc : Thread Cert.ConvVRefIdeal.nD Cert.ConvVRefIdeal.τ).loc Cert.ConvVRefIdeal.main_arg0) = m ((c.tc : Thread Cert.ConvVRefIdeal.nD Cert.ConvVRefIdeal.τ).loc Cert.ConvVRefIdeal.main_arg0)
      ∧ r.2.mem ((c.tc : Thread Cert.ConvVRefIdeal.nD Cert.ConvVRefIdeal.τ).loc Cert.ConvVRefIdeal.main_arg1) = m ((c.tc : Thread Cert.ConvVRefIdeal.nD Cert.ConvVRefIdeal.τ).loc Cert.ConvVRefIdeal.main_arg1))
      ∧ r.2.sem = fun _ => 0)

def quiescent_ConvQ [hConvQ : Cert.ConvQ.Facts] : Prop :=
  ∀ (m : (ℓ : Loc Cert.ConvQ.nD Cert.ConvQ.τ Cert.ConvQ.sig) → Buf (Elt Bits) ℓ) (g : Dev Cert.ConvQ.nD → PrngReg), Pre_ConvQ m →
    θ_run (Cert.ConvQ.defs (F := Bits)) (onTc (τ := Cert.ConvQ.τ) (Cert.ConvQ.main (F := Bits))) ⟨m, fun _ => 0, g⟩ (fun r => (∀ c : Dev Cert.ConvQ.nD,
      r.2.mem ((c.tc : Thread Cert.ConvQ.nD Cert.ConvQ.τ).loc Cert.ConvQ.main_arg0) = m ((c.tc : Thread Cert.ConvQ.nD Cert.ConvQ.τ).loc Cert.ConvQ.main_arg0)
      ∧ r.2.mem ((c.tc : Thread Cert.ConvQ.nD Cert.ConvQ.τ).loc Cert.ConvQ.main_arg1) = m ((c.tc : Thread Cert.ConvQ.nD Cert.ConvQ.τ).loc Cert.ConvQ.main_arg1))
      ∧ r.2.sem = fun _ => 0)

def quiescent_ConvQIdeal [hConvQIdeal : Cert.ConvQIdeal.Facts] : Prop :=
  ∀ (m : (ℓ : Loc Cert.ConvQIdeal.nD Cert.ConvQIdeal.τ Cert.ConvQIdeal.sig) → Buf (Elt Ideal) ℓ) (g : Dev Cert.ConvQIdeal.nD → PrngReg), Pre_ConvQIdeal m →
    θ_run (Cert.ConvQIdeal.defs (F := Ideal)) (onTc (τ := Cert.ConvQIdeal.τ) (Cert.ConvQIdeal.main (F := Ideal))) ⟨m, fun _ => 0, g⟩ (fun r => (∀ c : Dev Cert.ConvQIdeal.nD,
      r.2.mem ((c.tc : Thread Cert.ConvQIdeal.nD Cert.ConvQIdeal.τ).loc Cert.ConvQIdeal.main_arg0) = m ((c.tc : Thread Cert.ConvQIdeal.nD Cert.ConvQIdeal.τ).loc Cert.ConvQIdeal.main_arg0)
      ∧ r.2.mem ((c.tc : Thread Cert.ConvQIdeal.nD Cert.ConvQIdeal.τ).loc Cert.ConvQIdeal.main_arg1) = m ((c.tc : Thread Cert.ConvQIdeal.nD Cert.ConvQIdeal.τ).loc Cert.ConvQIdeal.main_arg1))
      ∧ r.2.sem = fun _ => 0)

def quiescent_ConvQRefIdeal [hConvQRefIdeal : Cert.ConvQRefIdeal.Facts] : Prop :=
  ∀ (m : (ℓ : Loc Cert.ConvQRefIdeal.nD Cert.ConvQRefIdeal.τ Cert.ConvQRefIdeal.sig) → Buf (Elt Ideal) ℓ) (g : Dev Cert.ConvQRefIdeal.nD → PrngReg), Pre_ConvQRefIdeal m →
    θ_run (Cert.ConvQRefIdeal.defs (F := Ideal)) (onTc (τ := Cert.ConvQRefIdeal.τ) (Cert.ConvQRefIdeal.main (F := Ideal))) ⟨m, fun _ => 0, g⟩ (fun r => (∀ c : Dev Cert.ConvQRefIdeal.nD,
      r.2.mem ((c.tc : Thread Cert.ConvQRefIdeal.nD Cert.ConvQRefIdeal.τ).loc Cert.ConvQRefIdeal.main_arg0) = m ((c.tc : Thread Cert.ConvQRefIdeal.nD Cert.ConvQRefIdeal.τ).loc Cert.ConvQRefIdeal.main_arg0)
      ∧ r.2.mem ((c.tc : Thread Cert.ConvQRefIdeal.nD Cert.ConvQRefIdeal.τ).loc Cert.ConvQRefIdeal.main_arg1) = m ((c.tc : Thread Cert.ConvQRefIdeal.nD Cert.ConvQRefIdeal.τ).loc Cert.ConvQRefIdeal.main_arg1))
      ∧ r.2.sem = fun _ => 0)

def quiescent_ConvK [hConvK : Cert.ConvK.Facts] : Prop :=
  ∀ (m : (ℓ : Loc Cert.ConvK.nD Cert.ConvK.τ Cert.ConvK.sig) → Buf (Elt Bits) ℓ) (g : Dev Cert.ConvK.nD → PrngReg), Pre_ConvK m →
    θ_run (Cert.ConvK.defs (F := Bits)) (onTc (τ := Cert.ConvK.τ) (Cert.ConvK.main (F := Bits))) ⟨m, fun _ => 0, g⟩ (fun r => (∀ c : Dev Cert.ConvK.nD,
      r.2.mem ((c.tc : Thread Cert.ConvK.nD Cert.ConvK.τ).loc Cert.ConvK.main_arg0) = m ((c.tc : Thread Cert.ConvK.nD Cert.ConvK.τ).loc Cert.ConvK.main_arg0)
      ∧ r.2.mem ((c.tc : Thread Cert.ConvK.nD Cert.ConvK.τ).loc Cert.ConvK.main_arg1) = m ((c.tc : Thread Cert.ConvK.nD Cert.ConvK.τ).loc Cert.ConvK.main_arg1))
      ∧ r.2.sem = fun _ => 0)

def quiescent_ConvKIdeal [hConvKIdeal : Cert.ConvKIdeal.Facts] : Prop :=
  ∀ (m : (ℓ : Loc Cert.ConvKIdeal.nD Cert.ConvKIdeal.τ Cert.ConvKIdeal.sig) → Buf (Elt Ideal) ℓ) (g : Dev Cert.ConvKIdeal.nD → PrngReg), Pre_ConvKIdeal m →
    θ_run (Cert.ConvKIdeal.defs (F := Ideal)) (onTc (τ := Cert.ConvKIdeal.τ) (Cert.ConvKIdeal.main (F := Ideal))) ⟨m, fun _ => 0, g⟩ (fun r => (∀ c : Dev Cert.ConvKIdeal.nD,
      r.2.mem ((c.tc : Thread Cert.ConvKIdeal.nD Cert.ConvKIdeal.τ).loc Cert.ConvKIdeal.main_arg0) = m ((c.tc : Thread Cert.ConvKIdeal.nD Cert.ConvKIdeal.τ).loc Cert.ConvKIdeal.main_arg0)
      ∧ r.2.mem ((c.tc : Thread Cert.ConvKIdeal.nD Cert.ConvKIdeal.τ).loc Cert.ConvKIdeal.main_arg1) = m ((c.tc : Thread Cert.ConvKIdeal.nD Cert.ConvKIdeal.τ).loc Cert.ConvKIdeal.main_arg1))
      ∧ r.2.sem = fun _ => 0)

def quiescent_ConvKRefIdeal [hConvKRefIdeal : Cert.ConvKRefIdeal.Facts] : Prop :=
  ∀ (m : (ℓ : Loc Cert.ConvKRefIdeal.nD Cert.ConvKRefIdeal.τ Cert.ConvKRefIdeal.sig) → Buf (Elt Ideal) ℓ) (g : Dev Cert.ConvKRefIdeal.nD → PrngReg), Pre_ConvKRefIdeal m →
    θ_run (Cert.ConvKRefIdeal.defs (F := Ideal)) (onTc (τ := Cert.ConvKRefIdeal.τ) (Cert.ConvKRefIdeal.main (F := Ideal))) ⟨m, fun _ => 0, g⟩ (fun r => (∀ c : Dev Cert.ConvKRefIdeal.nD,
      r.2.mem ((c.tc : Thread Cert.ConvKRefIdeal.nD Cert.ConvKRefIdeal.τ).loc Cert.ConvKRefIdeal.main_arg0) = m ((c.tc : Thread Cert.ConvKRefIdeal.nD Cert.ConvKRefIdeal.τ).loc Cert.ConvKRefIdeal.main_arg0)
      ∧ r.2.mem ((c.tc : Thread Cert.ConvKRefIdeal.nD Cert.ConvKRefIdeal.τ).loc Cert.ConvKRefIdeal.main_arg1) = m ((c.tc : Thread Cert.ConvKRefIdeal.nD Cert.ConvKRefIdeal.τ).loc Cert.ConvKRefIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v13_1)) (v2 : (c : Dev Cert.KernelIdeal.nD) → Buf (Elt Ideal) ((c.tc : Thread Cert.KernelIdeal.nD Cert.KernelIdeal.τ).loc Cert.KernelIdeal.main_v13_2)) (v3 : (c : Dev Cert.KernelIdeal.nD) → Buf (Elt Ideal) ((c.tc : Thread Cert.KernelIdeal.nD Cert.KernelIdeal.τ).loc Cert.KernelIdeal.main_v13_3)) (v4 : (c : Dev Cert.KernelIdeal.nD) → Buf (Elt Ideal) ((c.tc : Thread Cert.KernelIdeal.nD Cert.KernelIdeal.τ).loc Cert.KernelIdeal.main_v13_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_0) = v0 c
          ∧ r.2.mem ((c.tc : Thread Cert.KernelIdeal.nD Cert.KernelIdeal.τ).loc Cert.KernelIdeal.main_v13_1) = v1 c
          ∧ r.2.mem ((c.tc : Thread Cert.KernelIdeal.nD Cert.KernelIdeal.τ).loc Cert.KernelIdeal.main_v13_2) = v2 c
          ∧ r.2.mem ((c.tc : Thread Cert.KernelIdeal.nD Cert.KernelIdeal.τ).loc Cert.KernelIdeal.main_v13_3) = v3 c
          ∧ r.2.mem ((c.tc : Thread Cert.KernelIdeal.nD Cert.KernelIdeal.τ).loc Cert.KernelIdeal.main_v13_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_v36) = v2 c
          ∧ r.2.mem ((c.tc : Thread Cert.ReferenceIdeal.nD Cert.ReferenceIdeal.τ).loc Cert.ReferenceIdeal.main_v38) = v3 c
          ∧ r.2.mem ((c.tc : Thread Cert.ReferenceIdeal.nD Cert.ReferenceIdeal.τ).loc Cert.ReferenceIdeal.main_v30) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_GDown_GDownIdeal : Prop :=
  True

def algebraic_GDownIdeal_GDownRefIdeal [hGDownIdeal : Cert.GDownIdeal.Facts] [hGDownRefIdeal : Cert.GDownRefIdeal.Facts] : Prop :=
  ∀ (m : (ℓ : Loc Cert.GDownIdeal.nD Cert.GDownIdeal.τ Cert.GDownIdeal.sig) → Buf (Elt Ideal) ℓ) (g : Dev Cert.GDownIdeal.nD → PrngReg)
    (m' : (ℓ : Loc Cert.GDownRefIdeal.nD Cert.GDownRefIdeal.τ Cert.GDownRefIdeal.sig) → Buf (Elt Ideal) ℓ) (g' : Dev Cert.GDownRefIdeal.nD → PrngReg), Pre_GDownIdeal m →
    (∀ c : Dev Cert.GDownIdeal.nD,
      m' ((c.tc : Thread Cert.GDownRefIdeal.nD Cert.GDownRefIdeal.τ).loc Cert.GDownRefIdeal.main_arg0) = m ((c.tc : Thread Cert.GDownIdeal.nD Cert.GDownIdeal.τ).loc Cert.GDownIdeal.main_arg0)
      ∧ m' ((c.tc : Thread Cert.GDownRefIdeal.nD Cert.GDownRefIdeal.τ).loc Cert.GDownRefIdeal.main_arg1) = m ((c.tc : Thread Cert.GDownIdeal.nD Cert.GDownIdeal.τ).loc Cert.GDownIdeal.main_arg1)) →
    ∃ (v0 : (c : Dev Cert.GDownIdeal.nD) → Buf (Elt Ideal) ((c.tc : Thread Cert.GDownIdeal.nD Cert.GDownIdeal.τ).loc Cert.GDownIdeal.main_v0)),
      θ_run (Cert.GDownIdeal.defs (F := Ideal)) (onTc (τ := Cert.GDownIdeal.τ) (Cert.GDownIdeal.main (F := Ideal))) ⟨m, fun _ => 0, g⟩ (fun r => ∀ c : Dev Cert.GDownIdeal.nD,
          r.2.mem ((c.tc : Thread Cert.GDownIdeal.nD Cert.GDownIdeal.τ).loc Cert.GDownIdeal.main_v0) = v0 c
          ∧ r.2.mem ((c.tc : Thread Cert.GDownIdeal.nD Cert.GDownIdeal.τ).loc Cert.GDownIdeal.main_arg0) = m ((c.tc : Thread Cert.GDownIdeal.nD Cert.GDownIdeal.τ).loc Cert.GDownIdeal.main_arg0)
          ∧ r.2.mem ((c.tc : Thread Cert.GDownIdeal.nD Cert.GDownIdeal.τ).loc Cert.GDownIdeal.main_arg1) = m ((c.tc : Thread Cert.GDownIdeal.nD Cert.GDownIdeal.τ).loc Cert.GDownIdeal.main_arg1))
      ∧ θ_run (Cert.GDownRefIdeal.defs (F := Ideal)) (onTc (τ := Cert.GDownRefIdeal.τ) (Cert.GDownRefIdeal.main (F := Ideal))) ⟨m', fun _ => 0, g'⟩ (fun r => ∀ c : Dev Cert.GDownRefIdeal.nD,
          r.2.mem ((c.tc : Thread Cert.GDownRefIdeal.nD Cert.GDownRefIdeal.τ).loc Cert.GDownRefIdeal.main_v5) = v0 c
          ∧ r.2.mem ((c.tc : Thread Cert.GDownRefIdeal.nD Cert.GDownRefIdeal.τ).loc Cert.GDownRefIdeal.main_arg0) = m' ((c.tc : Thread Cert.GDownRefIdeal.nD Cert.GDownRefIdeal.τ).loc Cert.GDownRefIdeal.main_arg0)
          ∧ r.2.mem ((c.tc : Thread Cert.GDownRefIdeal.nD Cert.GDownRefIdeal.τ).loc Cert.GDownRefIdeal.main_arg1) = m' ((c.tc : Thread Cert.GDownRefIdeal.nD Cert.GDownRefIdeal.τ).loc Cert.GDownRefIdeal.main_arg1))

def preserves_GGateUp_GGateUpIdeal : Prop :=
  True

def algebraic_GGateUpIdeal_GGateUpRefIdeal [hGGateUpIdeal : Cert.GGateUpIdeal.Facts] [hGGateUpRefIdeal : Cert.GGateUpRefIdeal.Facts] : Prop :=
  ∀ (m : (ℓ : Loc Cert.GGateUpIdeal.nD Cert.GGateUpIdeal.τ Cert.GGateUpIdeal.sig) → Buf (Elt Ideal) ℓ) (g : Dev Cert.GGateUpIdeal.nD → PrngReg)
    (m' : (ℓ : Loc Cert.GGateUpRefIdeal.nD Cert.GGateUpRefIdeal.τ Cert.GGateUpRefIdeal.sig) → Buf (Elt Ideal) ℓ) (g' : Dev Cert.GGateUpRefIdeal.nD → PrngReg), Pre_GGateUpIdeal m →
    (∀ c : Dev Cert.GGateUpIdeal.nD,
      m' ((c.tc : Thread Cert.GGateUpRefIdeal.nD Cert.GGateUpRefIdeal.τ).loc Cert.GGateUpRefIdeal.main_arg0) = m ((c.tc : Thread Cert.GGateUpIdeal.nD Cert.GGateUpIdeal.τ).loc Cert.GGateUpIdeal.main_arg0)
      ∧ m' ((c.tc : Thread Cert.GGateUpRefIdeal.nD Cert.GGateUpRefIdeal.τ).loc Cert.GGateUpRefIdeal.main_arg1) = m ((c.tc : Thread Cert.GGateUpIdeal.nD Cert.GGateUpIdeal.τ).loc Cert.GGateUpIdeal.main_arg1)) →
    ∃ (v0 : (c : Dev Cert.GGateUpIdeal.nD) → Buf (Elt Ideal) ((c.tc : Thread Cert.GGateUpIdeal.nD Cert.GGateUpIdeal.τ).loc Cert.GGateUpIdeal.main_v0)),
      θ_run (Cert.GGateUpIdeal.defs (F := Ideal)) (onTc (τ := Cert.GGateUpIdeal.τ) (Cert.GGateUpIdeal.main (F := Ideal))) ⟨m, fun _ => 0, g⟩ (fun r => ∀ c : Dev Cert.GGateUpIdeal.nD,
          r.2.mem ((c.tc : Thread Cert.GGateUpIdeal.nD Cert.GGateUpIdeal.τ).loc Cert.GGateUpIdeal.main_v0) = v0 c
          ∧ r.2.mem ((c.tc : Thread Cert.GGateUpIdeal.nD Cert.GGateUpIdeal.τ).loc Cert.GGateUpIdeal.main_arg0) = m ((c.tc : Thread Cert.GGateUpIdeal.nD Cert.GGateUpIdeal.τ).loc Cert.GGateUpIdeal.main_arg0)
          ∧ r.2.mem ((c.tc : Thread Cert.GGateUpIdeal.nD Cert.GGateUpIdeal.τ).loc Cert.GGateUpIdeal.main_arg1) = m ((c.tc : Thread Cert.GGateUpIdeal.nD Cert.GGateUpIdeal.τ).loc Cert.GGateUpIdeal.main_arg1))
      ∧ θ_run (Cert.GGateUpRefIdeal.defs (F := Ideal)) (onTc (τ := Cert.GGateUpRefIdeal.τ) (Cert.GGateUpRefIdeal.main (F := Ideal))) ⟨m', fun _ => 0, g'⟩ (fun r => ∀ c : Dev Cert.GGateUpRefIdeal.nD,
          r.2.mem ((c.tc : Thread Cert.GGateUpRefIdeal.nD Cert.GGateUpRefIdeal.τ).loc Cert.GGateUpRefIdeal.main_v14) = v0 c
          ∧ r.2.mem ((c.tc : Thread Cert.GGateUpRefIdeal.nD Cert.GGateUpRefIdeal.τ).loc Cert.GGateUpRefIdeal.main_arg0) = m' ((c.tc : Thread Cert.GGateUpRefIdeal.nD Cert.GGateUpRefIdeal.τ).loc Cert.GGateUpRefIdeal.main_arg0)
          ∧ r.2.mem ((c.tc : Thread Cert.GGateUpRefIdeal.nD Cert.GGateUpRefIdeal.τ).loc Cert.GGateUpRefIdeal.main_arg1) = m' ((c.tc : Thread Cert.GGateUpRefIdeal.nD Cert.GGateUpRefIdeal.τ).loc Cert.GGateUpRefIdeal.main_arg1))

def preserves_DGateUp_DGateUpIdeal : Prop :=
  True

def algebraic_DGateUpIdeal_DGateUpRefIdeal_pre_finite_up [hDGateUpIdeal : Cert.DGateUpIdeal.Facts] [hDGateUpRefIdeal : Cert.DGateUpRefIdeal.Facts] [hPre_finite_up : Cert.Pre_finite_up.Facts] : Prop :=
  ∀ (m : (ℓ : Loc Cert.DGateUpIdeal.nD Cert.DGateUpIdeal.τ Cert.DGateUpIdeal.sig) → Buf (Elt Ideal) ℓ) (g : Dev Cert.DGateUpIdeal.nD → PrngReg)
    (m' : (ℓ : Loc Cert.DGateUpRefIdeal.nD Cert.DGateUpRefIdeal.τ Cert.DGateUpRefIdeal.sig) → Buf (Elt Ideal) ℓ) (g' : Dev Cert.DGateUpRefIdeal.nD → PrngReg), Pre_DGateUpIdeal_finite_up m →
    (∀ c : Dev Cert.DGateUpIdeal.nD,
      m' ((c.tc : Thread Cert.DGateUpRefIdeal.nD Cert.DGateUpRefIdeal.τ).loc Cert.DGateUpRefIdeal.main_arg0) = m ((c.tc : Thread Cert.DGateUpIdeal.nD Cert.DGateUpIdeal.τ).loc Cert.DGateUpIdeal.main_arg0)
      ∧ m' ((c.tc : Thread Cert.DGateUpRefIdeal.nD Cert.DGateUpRefIdeal.τ).loc Cert.DGateUpRefIdeal.main_arg1) = m ((c.tc : Thread Cert.DGateUpIdeal.nD Cert.DGateUpIdeal.τ).loc Cert.DGateUpIdeal.main_arg1)
      ∧ m' ((c.tc : Thread Cert.DGateUpRefIdeal.nD Cert.DGateUpRefIdeal.τ).loc Cert.DGateUpRefIdeal.main_arg2) = m ((c.tc : Thread Cert.DGateUpIdeal.nD Cert.DGateUpIdeal.τ).loc Cert.DGateUpIdeal.main_arg2)
      ∧ m' ((c.tc : Thread Cert.DGateUpRefIdeal.nD Cert.DGateUpRefIdeal.τ).loc Cert.DGateUpRefIdeal.main_arg3) = m ((c.tc : Thread Cert.DGateUpIdeal.nD Cert.DGateUpIdeal.τ).loc Cert.DGateUpIdeal.main_arg3)) →
    ∃ (v0 : (c : Dev Cert.DGateUpIdeal.nD) → Buf (Elt Ideal) ((c.tc : Thread Cert.DGateUpIdeal.nD Cert.DGateUpIdeal.τ).loc Cert.DGateUpIdeal.main_v0)),
      θ_run (Cert.DGateUpIdeal.defs (F := Ideal)) (onTc (τ := Cert.DGateUpIdeal.τ) (Cert.DGateUpIdeal.main (F := Ideal))) ⟨m, fun _ => 0, g⟩ (fun r => ∀ c : Dev Cert.DGateUpIdeal.nD,
          r.2.mem ((c.tc : Thread Cert.DGateUpIdeal.nD Cert.DGateUpIdeal.τ).loc Cert.DGateUpIdeal.main_v0) = v0 c
          ∧ r.2.mem ((c.tc : Thread Cert.DGateUpIdeal.nD Cert.DGateUpIdeal.τ).loc Cert.DGateUpIdeal.main_arg0) = m ((c.tc : Thread Cert.DGateUpIdeal.nD Cert.DGateUpIdeal.τ).loc Cert.DGateUpIdeal.main_arg0)
          ∧ r.2.mem ((c.tc : Thread Cert.DGateUpIdeal.nD Cert.DGateUpIdeal.τ).loc Cert.DGateUpIdeal.main_arg1) = m ((c.tc : Thread Cert.DGateUpIdeal.nD Cert.DGateUpIdeal.τ).loc Cert.DGateUpIdeal.main_arg1)
          ∧ r.2.mem ((c.tc : Thread Cert.DGateUpIdeal.nD Cert.DGateUpIdeal.τ).loc Cert.DGateUpIdeal.main_arg2) = m ((c.tc : Thread Cert.DGateUpIdeal.nD Cert.DGateUpIdeal.τ).loc Cert.DGateUpIdeal.main_arg2)
          ∧ r.2.mem ((c.tc : Thread Cert.DGateUpIdeal.nD Cert.DGateUpIdeal.τ).loc Cert.DGateUpIdeal.main_arg3) = m ((c.tc : Thread Cert.DGateUpIdeal.nD Cert.DGateUpIdeal.τ).loc Cert.DGateUpIdeal.main_arg3))
      ∧ θ_run (Cert.DGateUpRefIdeal.defs (F := Ideal)) (onTc (τ := Cert.DGateUpRefIdeal.τ) (Cert.DGateUpRefIdeal.main (F := Ideal))) ⟨m', fun _ => 0, g'⟩ (fun r => ∀ c : Dev Cert.DGateUpRefIdeal.nD,
          r.2.mem ((c.tc : Thread Cert.DGateUpRefIdeal.nD Cert.DGateUpRefIdeal.τ).loc Cert.DGateUpRefIdeal.main_v18) = v0 c
          ∧ r.2.mem ((c.tc : Thread Cert.DGateUpRefIdeal.nD Cert.DGateUpRefIdeal.τ).loc Cert.DGateUpRefIdeal.main_arg0) = m' ((c.tc : Thread Cert.DGateUpRefIdeal.nD Cert.DGateUpRefIdeal.τ).loc Cert.DGateUpRefIdeal.main_arg0)
          ∧ r.2.mem ((c.tc : Thread Cert.DGateUpRefIdeal.nD Cert.DGateUpRefIdeal.τ).loc Cert.DGateUpRefIdeal.main_arg1) = m' ((c.tc : Thread Cert.DGateUpRefIdeal.nD Cert.DGateUpRefIdeal.τ).loc Cert.DGateUpRefIdeal.main_arg1)
          ∧ r.2.mem ((c.tc : Thread Cert.DGateUpRefIdeal.nD Cert.DGateUpRefIdeal.τ).loc Cert.DGateUpRefIdeal.main_arg2) = m' ((c.tc : Thread Cert.DGateUpRefIdeal.nD Cert.DGateUpRefIdeal.τ).loc Cert.DGateUpRefIdeal.main_arg2)
          ∧ r.2.mem ((c.tc : Thread Cert.DGateUpRefIdeal.nD Cert.DGateUpRefIdeal.τ).loc Cert.DGateUpRefIdeal.main_arg3) = m' ((c.tc : Thread Cert.DGateUpRefIdeal.nD Cert.DGateUpRefIdeal.τ).loc Cert.DGateUpRefIdeal.main_arg3))

def preserves_DH2_DH2Ideal : Prop :=
  True

def algebraic_DH2Ideal_DH2RefIdeal [hDH2Ideal : Cert.DH2Ideal.Facts] [hDH2RefIdeal : Cert.DH2RefIdeal.Facts] : Prop :=
  ∀ (m : (ℓ : Loc Cert.DH2Ideal.nD Cert.DH2Ideal.τ Cert.DH2Ideal.sig) → Buf (Elt Ideal) ℓ) (g : Dev Cert.DH2Ideal.nD → PrngReg)
    (m' : (ℓ : Loc Cert.DH2RefIdeal.nD Cert.DH2RefIdeal.τ Cert.DH2RefIdeal.sig) → Buf (Elt Ideal) ℓ) (g' : Dev Cert.DH2RefIdeal.nD → PrngReg), Pre_DH2Ideal m →
    (∀ c : Dev Cert.DH2Ideal.nD,
      m' ((c.tc : Thread Cert.DH2RefIdeal.nD Cert.DH2RefIdeal.τ).loc Cert.DH2RefIdeal.main_arg0) = m ((c.tc : Thread Cert.DH2Ideal.nD Cert.DH2Ideal.τ).loc Cert.DH2Ideal.main_arg0)
      ∧ m' ((c.tc : Thread Cert.DH2RefIdeal.nD Cert.DH2RefIdeal.τ).loc Cert.DH2RefIdeal.main_arg1) = m ((c.tc : Thread Cert.DH2Ideal.nD Cert.DH2Ideal.τ).loc Cert.DH2Ideal.main_arg1)
      ∧ m' ((c.tc : Thread Cert.DH2RefIdeal.nD Cert.DH2RefIdeal.τ).loc Cert.DH2RefIdeal.main_arg2) = m ((c.tc : Thread Cert.DH2Ideal.nD Cert.DH2Ideal.τ).loc Cert.DH2Ideal.main_arg2)) →
    ∃ (v0 : (c : Dev Cert.DH2Ideal.nD) → Buf (Elt Ideal) ((c.tc : Thread Cert.DH2Ideal.nD Cert.DH2Ideal.τ).loc Cert.DH2Ideal.main_v0)),
      θ_run (Cert.DH2Ideal.defs (F := Ideal)) (onTc (τ := Cert.DH2Ideal.τ) (Cert.DH2Ideal.main (F := Ideal))) ⟨m, fun _ => 0, g⟩ (fun r => ∀ c : Dev Cert.DH2Ideal.nD,
          r.2.mem ((c.tc : Thread Cert.DH2Ideal.nD Cert.DH2Ideal.τ).loc Cert.DH2Ideal.main_v0) = v0 c
          ∧ r.2.mem ((c.tc : Thread Cert.DH2Ideal.nD Cert.DH2Ideal.τ).loc Cert.DH2Ideal.main_arg0) = m ((c.tc : Thread Cert.DH2Ideal.nD Cert.DH2Ideal.τ).loc Cert.DH2Ideal.main_arg0)
          ∧ r.2.mem ((c.tc : Thread Cert.DH2Ideal.nD Cert.DH2Ideal.τ).loc Cert.DH2Ideal.main_arg1) = m ((c.tc : Thread Cert.DH2Ideal.nD Cert.DH2Ideal.τ).loc Cert.DH2Ideal.main_arg1)
          ∧ r.2.mem ((c.tc : Thread Cert.DH2Ideal.nD Cert.DH2Ideal.τ).loc Cert.DH2Ideal.main_arg2) = m ((c.tc : Thread Cert.DH2Ideal.nD Cert.DH2Ideal.τ).loc Cert.DH2Ideal.main_arg2))
      ∧ θ_run (Cert.DH2RefIdeal.defs (F := Ideal)) (onTc (τ := Cert.DH2RefIdeal.τ) (Cert.DH2RefIdeal.main (F := Ideal))) ⟨m', fun _ => 0, g'⟩ (fun r => ∀ c : Dev Cert.DH2RefIdeal.nD,
          r.2.mem ((c.tc : Thread Cert.DH2RefIdeal.nD Cert.DH2RefIdeal.τ).loc Cert.DH2RefIdeal.main_v11) = v0 c
          ∧ r.2.mem ((c.tc : Thread Cert.DH2RefIdeal.nD Cert.DH2RefIdeal.τ).loc Cert.DH2RefIdeal.main_arg0) = m' ((c.tc : Thread Cert.DH2RefIdeal.nD Cert.DH2RefIdeal.τ).loc Cert.DH2RefIdeal.main_arg0)
          ∧ r.2.mem ((c.tc : Thread Cert.DH2RefIdeal.nD Cert.DH2RefIdeal.τ).loc Cert.DH2RefIdeal.main_arg1) = m' ((c.tc : Thread Cert.DH2RefIdeal.nD Cert.DH2RefIdeal.τ).loc Cert.DH2RefIdeal.main_arg1)
          ∧ r.2.mem ((c.tc : Thread Cert.DH2RefIdeal.nD Cert.DH2RefIdeal.τ).loc Cert.DH2RefIdeal.main_arg2) = m' ((c.tc : Thread Cert.DH2RefIdeal.nD Cert.DH2RefIdeal.τ).loc Cert.DH2RefIdeal.main_arg2))

def preserves_GOut_GOutIdeal : Prop :=
  True

def algebraic_GOutIdeal_GOutRefIdeal [hGOutIdeal : Cert.GOutIdeal.Facts] [hGOutRefIdeal : Cert.GOutRefIdeal.Facts] : Prop :=
  ∀ (m : (ℓ : Loc Cert.GOutIdeal.nD Cert.GOutIdeal.τ Cert.GOutIdeal.sig) → Buf (Elt Ideal) ℓ) (g : Dev Cert.GOutIdeal.nD → PrngReg)
    (m' : (ℓ : Loc Cert.GOutRefIdeal.nD Cert.GOutRefIdeal.τ Cert.GOutRefIdeal.sig) → Buf (Elt Ideal) ℓ) (g' : Dev Cert.GOutRefIdeal.nD → PrngReg), Pre_GOutIdeal m →
    (∀ c : Dev Cert.GOutIdeal.nD,
      m' ((c.tc : Thread Cert.GOutRefIdeal.nD Cert.GOutRefIdeal.τ).loc Cert.GOutRefIdeal.main_arg0) = m ((c.tc : Thread Cert.GOutIdeal.nD Cert.GOutIdeal.τ).loc Cert.GOutIdeal.main_arg0)
      ∧ m' ((c.tc : Thread Cert.GOutRefIdeal.nD Cert.GOutRefIdeal.τ).loc Cert.GOutRefIdeal.main_arg1) = m ((c.tc : Thread Cert.GOutIdeal.nD Cert.GOutIdeal.τ).loc Cert.GOutIdeal.main_arg1)) →
    ∃ (v0 : (c : Dev Cert.GOutIdeal.nD) → Buf (Elt Ideal) ((c.tc : Thread Cert.GOutIdeal.nD Cert.GOutIdeal.τ).loc Cert.GOutIdeal.main_v0)),
      θ_run (Cert.GOutIdeal.defs (F := Ideal)) (onTc (τ := Cert.GOutIdeal.τ) (Cert.GOutIdeal.main (F := Ideal))) ⟨m, fun _ => 0, g⟩ (fun r => ∀ c : Dev Cert.GOutIdeal.nD,
          r.2.mem ((c.tc : Thread Cert.GOutIdeal.nD Cert.GOutIdeal.τ).loc Cert.GOutIdeal.main_v0) = v0 c
          ∧ r.2.mem ((c.tc : Thread Cert.GOutIdeal.nD Cert.GOutIdeal.τ).loc Cert.GOutIdeal.main_arg0) = m ((c.tc : Thread Cert.GOutIdeal.nD Cert.GOutIdeal.τ).loc Cert.GOutIdeal.main_arg0)
          ∧ r.2.mem ((c.tc : Thread Cert.GOutIdeal.nD Cert.GOutIdeal.τ).loc Cert.GOutIdeal.main_arg1) = m ((c.tc : Thread Cert.GOutIdeal.nD Cert.GOutIdeal.τ).loc Cert.GOutIdeal.main_arg1))
      ∧ θ_run (Cert.GOutRefIdeal.defs (F := Ideal)) (onTc (τ := Cert.GOutRefIdeal.τ) (Cert.GOutRefIdeal.main (F := Ideal))) ⟨m', fun _ => 0, g'⟩ (fun r => ∀ c : Dev Cert.GOutRefIdeal.nD,
          r.2.mem ((c.tc : Thread Cert.GOutRefIdeal.nD Cert.GOutRefIdeal.τ).loc Cert.GOutRefIdeal.main_v5) = v0 c
          ∧ r.2.mem ((c.tc : Thread Cert.GOutRefIdeal.nD Cert.GOutRefIdeal.τ).loc Cert.GOutRefIdeal.main_arg0) = m' ((c.tc : Thread Cert.GOutRefIdeal.nD Cert.GOutRefIdeal.τ).loc Cert.GOutRefIdeal.main_arg0)
          ∧ r.2.mem ((c.tc : Thread Cert.GOutRefIdeal.nD Cert.GOutRefIdeal.τ).loc Cert.GOutRefIdeal.main_arg1) = m' ((c.tc : Thread Cert.GOutRefIdeal.nD Cert.GOutRefIdeal.τ).loc Cert.GOutRefIdeal.main_arg1))

def preserves_GIn_GInIdeal : Prop :=
  True

def algebraic_GInIdeal_GInRefIdeal [hGInIdeal : Cert.GInIdeal.Facts] [hGInRefIdeal : Cert.GInRefIdeal.Facts] : Prop :=
  ∀ (m : (ℓ : Loc Cert.GInIdeal.nD Cert.GInIdeal.τ Cert.GInIdeal.sig) → Buf (Elt Ideal) ℓ) (g : Dev Cert.GInIdeal.nD → PrngReg)
    (m' : (ℓ : Loc Cert.GInRefIdeal.nD Cert.GInRefIdeal.τ Cert.GInRefIdeal.sig) → Buf (Elt Ideal) ℓ) (g' : Dev Cert.GInRefIdeal.nD → PrngReg), Pre_GInIdeal m →
    (∀ c : Dev Cert.GInIdeal.nD,
      m' ((c.tc : Thread Cert.GInRefIdeal.nD Cert.GInRefIdeal.τ).loc Cert.GInRefIdeal.main_arg0) = m ((c.tc : Thread Cert.GInIdeal.nD Cert.GInIdeal.τ).loc Cert.GInIdeal.main_arg0)
      ∧ m' ((c.tc : Thread Cert.GInRefIdeal.nD Cert.GInRefIdeal.τ).loc Cert.GInRefIdeal.main_arg1) = m ((c.tc : Thread Cert.GInIdeal.nD Cert.GInIdeal.τ).loc Cert.GInIdeal.main_arg1)) →
    ∃ (v0 : (c : Dev Cert.GInIdeal.nD) → Buf (Elt Ideal) ((c.tc : Thread Cert.GInIdeal.nD Cert.GInIdeal.τ).loc Cert.GInIdeal.main_v0)),
      θ_run (Cert.GInIdeal.defs (F := Ideal)) (onTc (τ := Cert.GInIdeal.τ) (Cert.GInIdeal.main (F := Ideal))) ⟨m, fun _ => 0, g⟩ (fun r => ∀ c : Dev Cert.GInIdeal.nD,
          r.2.mem ((c.tc : Thread Cert.GInIdeal.nD Cert.GInIdeal.τ).loc Cert.GInIdeal.main_v0) = v0 c
          ∧ r.2.mem ((c.tc : Thread Cert.GInIdeal.nD Cert.GInIdeal.τ).loc Cert.GInIdeal.main_arg0) = m ((c.tc : Thread Cert.GInIdeal.nD Cert.GInIdeal.τ).loc Cert.GInIdeal.main_arg0)
          ∧ r.2.mem ((c.tc : Thread Cert.GInIdeal.nD Cert.GInIdeal.τ).loc Cert.GInIdeal.main_arg1) = m ((c.tc : Thread Cert.GInIdeal.nD Cert.GInIdeal.τ).loc Cert.GInIdeal.main_arg1))
      ∧ θ_run (Cert.GInRefIdeal.defs (F := Ideal)) (onTc (τ := Cert.GInRefIdeal.τ) (Cert.GInRefIdeal.main (F := Ideal))) ⟨m', fun _ => 0, g'⟩ (fun r => ∀ c : Dev Cert.GInRefIdeal.nD,
          r.2.mem ((c.tc : Thread Cert.GInRefIdeal.nD Cert.GInRefIdeal.τ).loc Cert.GInRefIdeal.main_v7) = v0 c
          ∧ r.2.mem ((c.tc : Thread Cert.GInRefIdeal.nD Cert.GInRefIdeal.τ).loc Cert.GInRefIdeal.main_arg0) = m' ((c.tc : Thread Cert.GInRefIdeal.nD Cert.GInRefIdeal.τ).loc Cert.GInRefIdeal.main_arg0)
          ∧ r.2.mem ((c.tc : Thread Cert.GInRefIdeal.nD Cert.GInRefIdeal.τ).loc Cert.GInRefIdeal.main_arg1) = m' ((c.tc : Thread Cert.GInRefIdeal.nD Cert.GInRefIdeal.τ).loc Cert.GInRefIdeal.main_arg1))

def preserves_DH1_DH1Ideal : Prop :=
  True

def algebraic_DH1Ideal_DH1RefIdeal [hDH1Ideal : Cert.DH1Ideal.Facts] [hDH1RefIdeal : Cert.DH1RefIdeal.Facts] : Prop :=
  ∀ (m : (ℓ : Loc Cert.DH1Ideal.nD Cert.DH1Ideal.τ Cert.DH1Ideal.sig) → Buf (Elt Ideal) ℓ) (g : Dev Cert.DH1Ideal.nD → PrngReg)
    (m' : (ℓ : Loc Cert.DH1RefIdeal.nD Cert.DH1RefIdeal.τ Cert.DH1RefIdeal.sig) → Buf (Elt Ideal) ℓ) (g' : Dev Cert.DH1RefIdeal.nD → PrngReg), Pre_DH1Ideal m →
    (∀ c : Dev Cert.DH1Ideal.nD,
      m' ((c.tc : Thread Cert.DH1RefIdeal.nD Cert.DH1RefIdeal.τ).loc Cert.DH1RefIdeal.main_arg0) = m ((c.tc : Thread Cert.DH1Ideal.nD Cert.DH1Ideal.τ).loc Cert.DH1Ideal.main_arg0)
      ∧ m' ((c.tc : Thread Cert.DH1RefIdeal.nD Cert.DH1RefIdeal.τ).loc Cert.DH1RefIdeal.main_arg1) = m ((c.tc : Thread Cert.DH1Ideal.nD Cert.DH1Ideal.τ).loc Cert.DH1Ideal.main_arg1)
      ∧ m' ((c.tc : Thread Cert.DH1RefIdeal.nD Cert.DH1RefIdeal.τ).loc Cert.DH1RefIdeal.main_arg2) = m ((c.tc : Thread Cert.DH1Ideal.nD Cert.DH1Ideal.τ).loc Cert.DH1Ideal.main_arg2)) →
    ∃ (v0 : (c : Dev Cert.DH1Ideal.nD) → Buf (Elt Ideal) ((c.tc : Thread Cert.DH1Ideal.nD Cert.DH1Ideal.τ).loc Cert.DH1Ideal.main_v0)),
      θ_run (Cert.DH1Ideal.defs (F := Ideal)) (onTc (τ := Cert.DH1Ideal.τ) (Cert.DH1Ideal.main (F := Ideal))) ⟨m, fun _ => 0, g⟩ (fun r => ∀ c : Dev Cert.DH1Ideal.nD,
          r.2.mem ((c.tc : Thread Cert.DH1Ideal.nD Cert.DH1Ideal.τ).loc Cert.DH1Ideal.main_v0) = v0 c
          ∧ r.2.mem ((c.tc : Thread Cert.DH1Ideal.nD Cert.DH1Ideal.τ).loc Cert.DH1Ideal.main_arg0) = m ((c.tc : Thread Cert.DH1Ideal.nD Cert.DH1Ideal.τ).loc Cert.DH1Ideal.main_arg0)
          ∧ r.2.mem ((c.tc : Thread Cert.DH1Ideal.nD Cert.DH1Ideal.τ).loc Cert.DH1Ideal.main_arg1) = m ((c.tc : Thread Cert.DH1Ideal.nD Cert.DH1Ideal.τ).loc Cert.DH1Ideal.main_arg1)
          ∧ r.2.mem ((c.tc : Thread Cert.DH1Ideal.nD Cert.DH1Ideal.τ).loc Cert.DH1Ideal.main_arg2) = m ((c.tc : Thread Cert.DH1Ideal.nD Cert.DH1Ideal.τ).loc Cert.DH1Ideal.main_arg2))
      ∧ θ_run (Cert.DH1RefIdeal.defs (F := Ideal)) (onTc (τ := Cert.DH1RefIdeal.τ) (Cert.DH1RefIdeal.main (F := Ideal))) ⟨m', fun _ => 0, g'⟩ (fun r => ∀ c : Dev Cert.DH1RefIdeal.nD,
          r.2.mem ((c.tc : Thread Cert.DH1RefIdeal.nD Cert.DH1RefIdeal.τ).loc Cert.DH1RefIdeal.main_v4) = v0 c
          ∧ r.2.mem ((c.tc : Thread Cert.DH1RefIdeal.nD Cert.DH1RefIdeal.τ).loc Cert.DH1RefIdeal.main_arg0) = m' ((c.tc : Thread Cert.DH1RefIdeal.nD Cert.DH1RefIdeal.τ).loc Cert.DH1RefIdeal.main_arg0)
          ∧ r.2.mem ((c.tc : Thread Cert.DH1RefIdeal.nD Cert.DH1RefIdeal.τ).loc Cert.DH1RefIdeal.main_arg1) = m' ((c.tc : Thread Cert.DH1RefIdeal.nD Cert.DH1RefIdeal.τ).loc Cert.DH1RefIdeal.main_arg1)
          ∧ r.2.mem ((c.tc : Thread Cert.DH1RefIdeal.nD Cert.DH1RefIdeal.τ).loc Cert.DH1RefIdeal.main_arg2) = m' ((c.tc : Thread Cert.DH1RefIdeal.nD Cert.DH1RefIdeal.τ).loc Cert.DH1RefIdeal.main_arg2))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v2) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_GateUp_GateUpIdeal : Prop :=
  True

def algebraic_GateUpIdeal_GateUpRefIdeal [hGateUpIdeal : Cert.GateUpIdeal.Facts] [hGateUpRefIdeal : Cert.GateUpRefIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)) →
    ∃ (v0 : (c : Dev Cert.GateUpIdeal.nD) → Buf (Elt Ideal) ((c.tc : Thread Cert.GateUpIdeal.nD Cert.GateUpIdeal.τ).loc Cert.GateUpIdeal.main_v0_0)) (v1 : (c : Dev Cert.GateUpIdeal.nD) → Buf (Elt Ideal) ((c.tc : Thread Cert.GateUpIdeal.nD Cert.GateUpIdeal.τ).loc Cert.GateUpIdeal.main_v0_1)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v0_0) = v0 c
          ∧ r.2.mem ((c.tc : Thread Cert.GateUpIdeal.nD Cert.GateUpIdeal.τ).loc Cert.GateUpIdeal.main_v0_1) = v1 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v10) = v0 c
          ∧ r.2.mem ((c.tc : Thread Cert.GateUpRefIdeal.nD Cert.GateUpRefIdeal.τ).loc Cert.GateUpRefIdeal.main_v13) = v1 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v0_0)) (v1 : (c : Dev Cert.OutProjIdeal.nD) → Buf (Elt Ideal) ((c.tc : Thread Cert.OutProjIdeal.nD Cert.OutProjIdeal.τ).loc Cert.OutProjIdeal.main_v0_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0_0) = v0 c
          ∧ r.2.mem ((c.tc : Thread Cert.OutProjIdeal.nD Cert.OutProjIdeal.τ).loc Cert.OutProjIdeal.main_v0_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v3) = v0 c
          ∧ r.2.mem ((c.tc : Thread Cert.OutProjRefIdeal.nD Cert.OutProjRefIdeal.τ).loc Cert.OutProjRefIdeal.main_v16) = v1 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v0_0)) (v1 : (c : Dev Cert.DownIdeal.nD) → Buf (Elt Ideal) ((c.tc : Thread Cert.DownIdeal.nD Cert.DownIdeal.τ).loc Cert.DownIdeal.main_v0_1)) (v2 : (c : Dev Cert.DownIdeal.nD) → Buf (Elt Ideal) ((c.tc : Thread Cert.DownIdeal.nD Cert.DownIdeal.τ).loc Cert.DownIdeal.main_v0_2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0_0) = v0 c
          ∧ r.2.mem ((c.tc : Thread Cert.DownIdeal.nD Cert.DownIdeal.τ).loc Cert.DownIdeal.main_v0_1) = v1 c
          ∧ r.2.mem ((c.tc : Thread Cert.DownIdeal.nD Cert.DownIdeal.τ).loc Cert.DownIdeal.main_v0_2) = v2 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v6) = v0 c
          ∧ r.2.mem ((c.tc : Thread Cert.DownRefIdeal.nD Cert.DownRefIdeal.τ).loc Cert.DownRefIdeal.main_v7) = v1 c
          ∧ r.2.mem ((c.tc : Thread Cert.DownRefIdeal.nD Cert.DownRefIdeal.τ).loc Cert.DownRefIdeal.main_v12) = v2 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_NormBwd_NormBwdIdeal : Prop :=
  True

def algebraic_NormBwdIdeal_NormBwdRefIdeal [hNormBwdIdeal : Cert.NormBwdIdeal.Facts] [hNormBwdRefIdeal : Cert.NormBwdRefIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdRefIdeal.nD Cert.NormBwdRefIdeal.τ Cert.NormBwdRefIdeal.sig) → Buf (Elt Ideal) ℓ) (g' : Dev Cert.NormBwdRefIdeal.nD → PrngReg), Pre_NormBwdIdeal m →
    (∀ c : Dev Cert.NormBwdIdeal.nD,
      m' ((c.tc : Thread Cert.NormBwdRefIdeal.nD Cert.NormBwdRefIdeal.τ).loc Cert.NormBwdRefIdeal.main_arg0) = m ((c.tc : Thread Cert.NormBwdIdeal.nD Cert.NormBwdIdeal.τ).loc Cert.NormBwdIdeal.main_arg0)
      ∧ m' ((c.tc : Thread Cert.NormBwdRefIdeal.nD Cert.NormBwdRefIdeal.τ).loc Cert.NormBwdRefIdeal.main_arg1) = m ((c.tc : Thread Cert.NormBwdIdeal.nD Cert.NormBwdIdeal.τ).loc Cert.NormBwdIdeal.main_arg1)
      ∧ m' ((c.tc : Thread Cert.NormBwdRefIdeal.nD Cert.NormBwdRefIdeal.τ).loc Cert.NormBwdRefIdeal.main_arg2) = m ((c.tc : Thread Cert.NormBwdIdeal.nD Cert.NormBwdIdeal.τ).loc Cert.NormBwdIdeal.main_arg2)
      ∧ m' ((c.tc : Thread Cert.NormBwdRefIdeal.nD Cert.NormBwdRefIdeal.τ).loc Cert.NormBwdRefIdeal.main_arg3) = m ((c.tc : Thread Cert.NormBwdIdeal.nD Cert.NormBwdIdeal.τ).loc Cert.NormBwdIdeal.main_arg3)) →
    ∃ (v0 : (c : Dev Cert.NormBwdIdeal.nD) → Buf (Elt Ideal) ((c.tc : Thread Cert.NormBwdIdeal.nD Cert.NormBwdIdeal.τ).loc Cert.NormBwdIdeal.main_v0_0)) (v1 : (c : Dev Cert.NormBwdIdeal.nD) → Buf (Elt Ideal) ((c.tc : Thread Cert.NormBwdIdeal.nD Cert.NormBwdIdeal.τ).loc Cert.NormBwdIdeal.main_v0_1)) (v2 : (c : Dev Cert.NormBwdIdeal.nD) → Buf (Elt Ideal) ((c.tc : Thread Cert.NormBwdIdeal.nD Cert.NormBwdIdeal.τ).loc Cert.NormBwdIdeal.main_v0_2)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v0_0) = v0 c
          ∧ r.2.mem ((c.tc : Thread Cert.NormBwdIdeal.nD Cert.NormBwdIdeal.τ).loc Cert.NormBwdIdeal.main_v0_1) = v1 c
          ∧ r.2.mem ((c.tc : Thread Cert.NormBwdIdeal.nD Cert.NormBwdIdeal.τ).loc Cert.NormBwdIdeal.main_v0_2) = v2 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ θ_run (Cert.NormBwdRefIdeal.defs (F := Ideal)) (onTc (τ := Cert.NormBwdRefIdeal.τ) (Cert.NormBwdRefIdeal.main (F := Ideal))) ⟨m', fun _ => 0, g'⟩ (fun r => ∀ c : Dev Cert.NormBwdRefIdeal.nD,
          r.2.mem ((c.tc : Thread Cert.NormBwdRefIdeal.nD Cert.NormBwdRefIdeal.τ).loc Cert.NormBwdRefIdeal.main_v34) = v0 c
          ∧ r.2.mem ((c.tc : Thread Cert.NormBwdRefIdeal.nD Cert.NormBwdRefIdeal.τ).loc Cert.NormBwdRefIdeal.main_v35) = v1 c
          ∧ r.2.mem ((c.tc : Thread Cert.NormBwdRefIdeal.nD Cert.NormBwdRefIdeal.τ).loc Cert.NormBwdRefIdeal.main_v17) = v2 c
          ∧ r.2.mem ((c.tc : Thread Cert.NormBwdRefIdeal.nD Cert.NormBwdRefIdeal.τ).loc Cert.NormBwdRefIdeal.main_arg0) = m' ((c.tc : Thread Cert.NormBwdRefIdeal.nD Cert.NormBwdRefIdeal.τ).loc Cert.NormBwdRefIdeal.main_arg0)
          ∧ r.2.mem ((c.tc : Thread Cert.NormBwdRefIdeal.nD Cert.NormBwdRefIdeal.τ).loc Cert.NormBwdRefIdeal.main_arg1) = m' ((c.tc : Thread Cert.NormBwdRefIdeal.nD Cert.NormBwdRefIdeal.τ).loc Cert.NormBwdRefIdeal.main_arg1)
          ∧ r.2.mem ((c.tc : Thread Cert.NormBwdRefIdeal.nD Cert.NormBwdRefIdeal.τ).loc Cert.NormBwdRefIdeal.main_arg2) = m' ((c.tc : Thread Cert.NormBwdRefIdeal.nD Cert.NormBwdRefIdeal.τ).loc Cert.NormBwdRefIdeal.main_arg2)
          ∧ r.2.mem ((c.tc : Thread Cert.NormBwdRefIdeal.nD Cert.NormBwdRefIdeal.τ).loc Cert.NormBwdRefIdeal.main_arg3) = m' ((c.tc : Thread Cert.NormBwdRefIdeal.nD Cert.NormBwdRefIdeal.τ).loc Cert.NormBwdRefIdeal.main_arg3))

def preserves_AdamGateUp_AdamGateUpIdeal : Prop :=
  IdealRules.named_const.Statement Cert.AdamGateUpIdeal.κ "m_corr" .f32 0x3FC48605#32 ((8388608 / 5463681 : ℝ) : EReal)
  ∧ IdealRules.named_const.Statement Cert.AdamGateUpIdeal.κ "v_corr" .f32 0x42C8E6D3#32 ((268435456 / 2672307 : ℝ) : EReal)

def algebraic_AdamGateUpIdeal_AdamGateUpRefIdeal [hAdamGateUpIdeal : Cert.AdamGateUpIdeal.Facts] [hAdamGateUpRefIdeal : Cert.AdamGateUpRefIdeal.Facts] : Prop :=
  ∀ (m : (ℓ : Loc Cert.AdamGateUpIdeal.nD Cert.AdamGateUpIdeal.τ Cert.AdamGateUpIdeal.sig) → Buf (Elt Ideal) ℓ) (g : Dev Cert.AdamGateUpIdeal.nD → PrngReg)
    (m' : (ℓ : Loc Cert.AdamGateUpRefIdeal.nD Cert.AdamGateUpRefIdeal.τ Cert.AdamGateUpRefIdeal.sig) → Buf (Elt Ideal) ℓ) (g' : Dev Cert.AdamGateUpRefIdeal.nD → PrngReg), Pre_AdamGateUpIdeal m →
    (∀ c : Dev Cert.AdamGateUpIdeal.nD,
      m' ((c.tc : Thread Cert.AdamGateUpRefIdeal.nD Cert.AdamGateUpRefIdeal.τ).loc Cert.AdamGateUpRefIdeal.main_arg0) = m ((c.tc : Thread Cert.AdamGateUpIdeal.nD Cert.AdamGateUpIdeal.τ).loc Cert.AdamGateUpIdeal.main_arg0)
      ∧ m' ((c.tc : Thread Cert.AdamGateUpRefIdeal.nD Cert.AdamGateUpRefIdeal.τ).loc Cert.AdamGateUpRefIdeal.main_arg1) = m ((c.tc : Thread Cert.AdamGateUpIdeal.nD Cert.AdamGateUpIdeal.τ).loc Cert.AdamGateUpIdeal.main_arg1)
      ∧ m' ((c.tc : Thread Cert.AdamGateUpRefIdeal.nD Cert.AdamGateUpRefIdeal.τ).loc Cert.AdamGateUpRefIdeal.main_arg2) = m ((c.tc : Thread Cert.AdamGateUpIdeal.nD Cert.AdamGateUpIdeal.τ).loc Cert.AdamGateUpIdeal.main_arg2)
      ∧ m' ((c.tc : Thread Cert.AdamGateUpRefIdeal.nD Cert.AdamGateUpRefIdeal.τ).loc Cert.AdamGateUpRefIdeal.main_arg3) = m ((c.tc : Thread Cert.AdamGateUpIdeal.nD Cert.AdamGateUpIdeal.τ).loc Cert.AdamGateUpIdeal.main_arg3)) →
    ∃ (v0 : (c : Dev Cert.AdamGateUpIdeal.nD) → Buf (Elt Ideal) ((c.tc : Thread Cert.AdamGateUpIdeal.nD Cert.AdamGateUpIdeal.τ).loc Cert.AdamGateUpIdeal.main_v0_0)) (v1 : (c : Dev Cert.AdamGateUpIdeal.nD) → Buf (Elt Ideal) ((c.tc : Thread Cert.AdamGateUpIdeal.nD Cert.AdamGateUpIdeal.τ).loc Cert.AdamGateUpIdeal.main_v0_1)) (v2 : (c : Dev Cert.AdamGateUpIdeal.nD) → Buf (Elt Ideal) ((c.tc : Thread Cert.AdamGateUpIdeal.nD Cert.AdamGateUpIdeal.τ).loc Cert.AdamGateUpIdeal.main_v0_2)) (v3 : (c : Dev Cert.AdamGateUpIdeal.nD) → Buf (Elt Ideal) ((c.tc : Thread Cert.AdamGateUpIdeal.nD Cert.AdamGateUpIdeal.τ).loc Cert.AdamGateUpIdeal.main_v0_3)),
      θ_run (Cert.AdamGateUpIdeal.defs (F := Ideal)) (onTc (τ := Cert.AdamGateUpIdeal.τ) (Cert.AdamGateUpIdeal.main (F := Ideal))) ⟨m, fun _ => 0, g⟩ (fun r => ∀ c : Dev Cert.AdamGateUpIdeal.nD,
          r.2.mem ((c.tc : Thread Cert.AdamGateUpIdeal.nD Cert.AdamGateUpIdeal.τ).loc Cert.AdamGateUpIdeal.main_v0_0) = v0 c
          ∧ r.2.mem ((c.tc : Thread Cert.AdamGateUpIdeal.nD Cert.AdamGateUpIdeal.τ).loc Cert.AdamGateUpIdeal.main_v0_1) = v1 c
          ∧ r.2.mem ((c.tc : Thread Cert.AdamGateUpIdeal.nD Cert.AdamGateUpIdeal.τ).loc Cert.AdamGateUpIdeal.main_v0_2) = v2 c
          ∧ r.2.mem ((c.tc : Thread Cert.AdamGateUpIdeal.nD Cert.AdamGateUpIdeal.τ).loc Cert.AdamGateUpIdeal.main_v0_3) = v3 c
          ∧ r.2.mem ((c.tc : Thread Cert.AdamGateUpIdeal.nD Cert.AdamGateUpIdeal.τ).loc Cert.AdamGateUpIdeal.main_arg0) = m ((c.tc : Thread Cert.AdamGateUpIdeal.nD Cert.AdamGateUpIdeal.τ).loc Cert.AdamGateUpIdeal.main_arg0)
          ∧ r.2.mem ((c.tc : Thread Cert.AdamGateUpIdeal.nD Cert.AdamGateUpIdeal.τ).loc Cert.AdamGateUpIdeal.main_arg1) = m ((c.tc : Thread Cert.AdamGateUpIdeal.nD Cert.AdamGateUpIdeal.τ).loc Cert.AdamGateUpIdeal.main_arg1)
          ∧ r.2.mem ((c.tc : Thread Cert.AdamGateUpIdeal.nD Cert.AdamGateUpIdeal.τ).loc Cert.AdamGateUpIdeal.main_arg2) = m ((c.tc : Thread Cert.AdamGateUpIdeal.nD Cert.AdamGateUpIdeal.τ).loc Cert.AdamGateUpIdeal.main_arg2)
          ∧ r.2.mem ((c.tc : Thread Cert.AdamGateUpIdeal.nD Cert.AdamGateUpIdeal.τ).loc Cert.AdamGateUpIdeal.main_arg3) = m ((c.tc : Thread Cert.AdamGateUpIdeal.nD Cert.AdamGateUpIdeal.τ).loc Cert.AdamGateUpIdeal.main_arg3))
      ∧ θ_run (Cert.AdamGateUpRefIdeal.defs (F := Ideal)) (onTc (τ := Cert.AdamGateUpRefIdeal.τ) (Cert.AdamGateUpRefIdeal.main (F := Ideal))) ⟨m', fun _ => 0, g'⟩ (fun r => ∀ c : Dev Cert.AdamGateUpRefIdeal.nD,
          r.2.mem ((c.tc : Thread Cert.AdamGateUpRefIdeal.nD Cert.AdamGateUpRefIdeal.τ).loc Cert.AdamGateUpRefIdeal.main_v0) = v0 c
          ∧ r.2.mem ((c.tc : Thread Cert.AdamGateUpRefIdeal.nD Cert.AdamGateUpRefIdeal.τ).loc Cert.AdamGateUpRefIdeal.main_v24) = v1 c
          ∧ r.2.mem ((c.tc : Thread Cert.AdamGateUpRefIdeal.nD Cert.AdamGateUpRefIdeal.τ).loc Cert.AdamGateUpRefIdeal.main_v5) = v2 c
          ∧ r.2.mem ((c.tc : Thread Cert.AdamGateUpRefIdeal.nD Cert.AdamGateUpRefIdeal.τ).loc Cert.AdamGateUpRefIdeal.main_v11) = v3 c
          ∧ r.2.mem ((c.tc : Thread Cert.AdamGateUpRefIdeal.nD Cert.AdamGateUpRefIdeal.τ).loc Cert.AdamGateUpRefIdeal.main_arg0) = m' ((c.tc : Thread Cert.AdamGateUpRefIdeal.nD Cert.AdamGateUpRefIdeal.τ).loc Cert.AdamGateUpRefIdeal.main_arg0)
          ∧ r.2.mem ((c.tc : Thread Cert.AdamGateUpRefIdeal.nD Cert.AdamGateUpRefIdeal.τ).loc Cert.AdamGateUpRefIdeal.main_arg1) = m' ((c.tc : Thread Cert.AdamGateUpRefIdeal.nD Cert.AdamGateUpRefIdeal.τ).loc Cert.AdamGateUpRefIdeal.main_arg1)
          ∧ r.2.mem ((c.tc : Thread Cert.AdamGateUpRefIdeal.nD Cert.AdamGateUpRefIdeal.τ).loc Cert.AdamGateUpRefIdeal.main_arg2) = m' ((c.tc : Thread Cert.AdamGateUpRefIdeal.nD Cert.AdamGateUpRefIdeal.τ).loc Cert.AdamGateUpRefIdeal.main_arg2)
          ∧ r.2.mem ((c.tc : Thread Cert.AdamGateUpRefIdeal.nD Cert.AdamGateUpRefIdeal.τ).loc Cert.AdamGateUpRefIdeal.main_arg3) = m' ((c.tc : Thread Cert.AdamGateUpRefIdeal.nD Cert.AdamGateUpRefIdeal.τ).loc Cert.AdamGateUpRefIdeal.main_arg3))

def preserves_AdamDown_AdamDownIdeal : Prop :=
  IdealRules.named_const.Statement Cert.AdamDownIdeal.κ "m_corr" .f32 0x3FC48605#32 ((8388608 / 5463681 : ℝ) : EReal)
  ∧ IdealRules.named_const.Statement Cert.AdamDownIdeal.κ "v_corr" .f32 0x42C8E6D3#32 ((268435456 / 2672307 : ℝ) : EReal)

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)) (v3 : (c : Dev Cert.AdamDownIdeal.nD) → Buf (Elt Ideal) ((c.tc : Thread Cert.AdamDownIdeal.nD Cert.AdamDownIdeal.τ).loc Cert.AdamDownIdeal.main_v0_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_v0_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v0) = v0 c
          ∧ r.2.mem ((c.tc : Thread Cert.AdamDownRefIdeal.nD Cert.AdamDownRefIdeal.τ).loc Cert.AdamDownRefIdeal.main_v24) = v1 c
          ∧ r.2.mem ((c.tc : Thread Cert.AdamDownRefIdeal.nD Cert.AdamDownRefIdeal.τ).loc Cert.AdamDownRefIdeal.main_v5) = v2 c
          ∧ r.2.mem ((c.tc : Thread Cert.AdamDownRefIdeal.nD Cert.AdamDownRefIdeal.τ).loc Cert.AdamDownRefIdeal.main_v11) = v3 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3))

def preserves_AdamOut_AdamOutIdeal : Prop :=
  IdealRules.named_const.Statement Cert.AdamOutIdeal.κ "m_corr" .f32 0x3FC48605#32 ((8388608 / 5463681 : ℝ) : EReal)
  ∧ IdealRules.named_const.Statement Cert.AdamOutIdeal.κ "v_corr" .f32 0x42C8E6D3#32 ((268435456 / 2672307 : ℝ) : EReal)

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v0) = v0 c
          ∧ r.2.mem ((c.tc : Thread Cert.AdamOutRefIdeal.nD Cert.AdamOutRefIdeal.τ).loc Cert.AdamOutRefIdeal.main_v24) = v1 c
          ∧ r.2.mem ((c.tc : Thread Cert.AdamOutRefIdeal.nD Cert.AdamOutRefIdeal.τ).loc Cert.AdamOutRefIdeal.main_v5) = v2 c
          ∧ r.2.mem ((c.tc : Thread Cert.AdamOutRefIdeal.nD Cert.AdamOutRefIdeal.τ).loc Cert.AdamOutRefIdeal.main_v11) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamIn_AdamInIdeal : Prop :=
  IdealRules.named_const.Statement Cert.AdamInIdeal.κ "m_corr" .f32 0x3FC48605#32 ((8388608 / 5463681 : ℝ) : EReal)
  ∧ IdealRules.named_const.Statement Cert.AdamInIdeal.κ "v_corr" .f32 0x42C8E6D3#32 ((268435456 / 2672307 : ℝ) : EReal)

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v1) = v0 c
          ∧ r.2.mem ((c.tc : Thread Cert.AdamInRefIdeal.nD Cert.AdamInRefIdeal.τ).loc Cert.AdamInRefIdeal.main_v25) = v1 c
          ∧ r.2.mem ((c.tc : Thread Cert.AdamInRefIdeal.nD Cert.AdamInRefIdeal.τ).loc Cert.AdamInRefIdeal.main_v6) = v2 c
          ∧ r.2.mem ((c.tc : Thread Cert.AdamInRefIdeal.nD Cert.AdamInRefIdeal.τ).loc Cert.AdamInRefIdeal.main_v12) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamSmall_AdamSmallIdeal : Prop :=
  IdealRules.named_const.Statement Cert.AdamSmallIdeal.κ "m_corr" .f32 0x3FC48605#32 ((8388608 / 5463681 : ℝ) : EReal)
  ∧ IdealRules.named_const.Statement Cert.AdamSmallIdeal.κ "v_corr" .f32 0x42C8E6D3#32 ((268435456 / 2672307 : ℝ) : EReal)

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)) (v3 : (c : Dev Cert.AdamSmallIdeal.nD) → Buf (Elt Ideal) ((c.tc : Thread Cert.AdamSmallIdeal.nD Cert.AdamSmallIdeal.τ).loc Cert.AdamSmallIdeal.main_v0_3)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_v0_3) = v3 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v0) = v0 c
          ∧ r.2.mem ((c.tc : Thread Cert.AdamSmallRefIdeal.nD Cert.AdamSmallRefIdeal.τ).loc Cert.AdamSmallRefIdeal.main_v24) = v1 c
          ∧ r.2.mem ((c.tc : Thread Cert.AdamSmallRefIdeal.nD Cert.AdamSmallRefIdeal.τ).loc Cert.AdamSmallRefIdeal.main_v5) = v2 c
          ∧ r.2.mem ((c.tc : Thread Cert.AdamSmallRefIdeal.nD Cert.AdamSmallRefIdeal.τ).loc Cert.AdamSmallRefIdeal.main_v11) = v3 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_AdamConv_AdamConvIdeal : Prop :=
  IdealRules.named_const.Statement Cert.AdamConvIdeal.κ "m_corr" .f32 0x3FC48605#32 ((8388608 / 5463681 : ℝ) : EReal)
  ∧ IdealRules.named_const.Statement Cert.AdamConvIdeal.κ "v_corr" .f32 0x42C8E6D3#32 ((268435456 / 2672307 : ℝ) : EReal)

def algebraic_AdamConvIdeal_AdamConvRefIdeal [hAdamConvIdeal : Cert.AdamConvIdeal.Facts] [hAdamConvRefIdeal : Cert.AdamConvRefIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg)
    (m' : (ℓ : Loc Cert.AdamConvRefIdeal.nD Cert.AdamConvRefIdeal.τ Cert.AdamConvRefIdeal.sig) → Buf (Elt Ideal) ℓ) (g' : Dev Cert.AdamConvRefIdeal.nD → PrngReg), Pre_AdamConvIdeal m →
    (∀ c : Dev Cert.AdamConvIdeal.nD,
      m' ((c.tc : Thread Cert.AdamConvRefIdeal.nD Cert.AdamConvRefIdeal.τ).loc Cert.AdamConvRefIdeal.main_arg0) = m ((c.tc : Thread Cert.AdamConvIdeal.nD Cert.AdamConvIdeal.τ).loc Cert.AdamConvIdeal.main_arg0)
      ∧ m' ((c.tc : Thread Cert.AdamConvRefIdeal.nD Cert.AdamConvRefIdeal.τ).loc Cert.AdamConvRefIdeal.main_arg1) = m ((c.tc : Thread Cert.AdamConvIdeal.nD Cert.AdamConvIdeal.τ).loc Cert.AdamConvIdeal.main_arg1)
      ∧ m' ((c.tc : Thread Cert.AdamConvRefIdeal.nD Cert.AdamConvRefIdeal.τ).loc Cert.AdamConvRefIdeal.main_arg2) = m ((c.tc : Thread Cert.AdamConvIdeal.nD Cert.AdamConvIdeal.τ).loc Cert.AdamConvIdeal.main_arg2)
      ∧ m' ((c.tc : Thread Cert.AdamConvRefIdeal.nD Cert.AdamConvRefIdeal.τ).loc Cert.AdamConvRefIdeal.main_arg3) = m ((c.tc : Thread Cert.AdamConvIdeal.nD Cert.AdamConvIdeal.τ).loc Cert.AdamConvIdeal.main_arg3)) →
    ∃ (v0 : (c : Dev Cert.AdamConvIdeal.nD) → Buf (Elt Ideal) ((c.tc : Thread Cert.AdamConvIdeal.nD Cert.AdamConvIdeal.τ).loc Cert.AdamConvIdeal.main_v0_0)) (v1 : (c : Dev Cert.AdamConvIdeal.nD) → Buf (Elt Ideal) ((c.tc : Thread Cert.AdamConvIdeal.nD Cert.AdamConvIdeal.τ).loc Cert.AdamConvIdeal.main_v0_1)) (v2 : (c : Dev Cert.AdamConvIdeal.nD) → Buf (Elt Ideal) ((c.tc : Thread Cert.AdamConvIdeal.nD Cert.AdamConvIdeal.τ).loc Cert.AdamConvIdeal.main_v0_2)) (v3 : (c : Dev Cert.AdamConvIdeal.nD) → Buf (Elt Ideal) ((c.tc : Thread Cert.AdamConvIdeal.nD Cert.AdamConvIdeal.τ).loc Cert.AdamConvIdeal.main_v0_3)),
      θ_run (Cert.AdamConvIdeal.defs (F := Ideal)) (onTc (τ := Cert.AdamConvIdeal.τ) (Cert.AdamConvIdeal.main (F := Ideal))) ⟨m, fun _ => 0, g⟩ (fun r => ∀ c : Dev Cert.AdamConvIdeal.nD,
          r.2.mem ((c.tc : Thread Cert.AdamConvIdeal.nD Cert.AdamConvIdeal.τ).loc Cert.AdamConvIdeal.main_v0_0) = v0 c
          ∧ r.2.mem ((c.tc : Thread Cert.AdamConvIdeal.nD Cert.AdamConvIdeal.τ).loc Cert.AdamConvIdeal.main_v0_1) = v1 c
          ∧ r.2.mem ((c.tc : Thread Cert.AdamConvIdeal.nD Cert.AdamConvIdeal.τ).loc Cert.AdamConvIdeal.main_v0_2) = v2 c
          ∧ r.2.mem ((c.tc : Thread Cert.AdamConvIdeal.nD Cert.AdamConvIdeal.τ).loc Cert.AdamConvIdeal.main_v0_3) = v3 c
          ∧ r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
          ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
          ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
          ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ θ_run (Cert.AdamConvRefIdeal.defs (F := Ideal)) (onTc (τ := Cert.AdamConvRefIdeal.τ) (Cert.AdamConvRefIdeal.main (F := Ideal))) ⟨m', fun _ => 0, g'⟩ (fun r => ∀ c : Dev Cert.AdamConvRefIdeal.nD,
          r.2.mem ((c.tc : Thread Cert.AdamConvRefIdeal.nD Cert.AdamConvRefIdeal.τ).loc Cert.AdamConvRefIdeal.main_v0) = v0 c
          ∧ r.2.mem ((c.tc : Thread Cert.AdamConvRefIdeal.nD Cert.AdamConvRefIdeal.τ).loc Cert.AdamConvRefIdeal.main_v24) = v1 c
          ∧ r.2.mem ((c.tc : Thread Cert.AdamConvRefIdeal.nD Cert.AdamConvRefIdeal.τ).loc Cert.AdamConvRefIdeal.main_v5) = v2 c
          ∧ r.2.mem ((c.tc : Thread Cert.AdamConvRefIdeal.nD Cert.AdamConvRefIdeal.τ).loc Cert.AdamConvRefIdeal.main_v11) = v3 c
          ∧ r.2.mem ((c.tc : Thread Cert.AdamConvRefIdeal.nD Cert.AdamConvRefIdeal.τ).loc Cert.AdamConvRefIdeal.main_arg0) = m' ((c.tc : Thread Cert.AdamConvRefIdeal.nD Cert.AdamConvRefIdeal.τ).loc Cert.AdamConvRefIdeal.main_arg0)
          ∧ r.2.mem ((c.tc : Thread Cert.AdamConvRefIdeal.nD Cert.AdamConvRefIdeal.τ).loc Cert.AdamConvRefIdeal.main_arg1) = m' ((c.tc : Thread Cert.AdamConvRefIdeal.nD Cert.AdamConvRefIdeal.τ).loc Cert.AdamConvRefIdeal.main_arg1)
          ∧ r.2.mem ((c.tc : Thread Cert.AdamConvRefIdeal.nD Cert.AdamConvRefIdeal.τ).loc Cert.AdamConvRefIdeal.main_arg2) = m' ((c.tc : Thread Cert.AdamConvRefIdeal.nD Cert.AdamConvRefIdeal.τ).loc Cert.AdamConvRefIdeal.main_arg2)
          ∧ r.2.mem ((c.tc : Thread Cert.AdamConvRefIdeal.nD Cert.AdamConvRefIdeal.τ).loc Cert.AdamConvRefIdeal.main_arg3) = m' ((c.tc : Thread Cert.AdamConvRefIdeal.nD Cert.AdamConvRefIdeal.τ).loc Cert.AdamConvRefIdeal.main_arg3))

def preserves_ConvVBwd_ConvVBwdIdeal : Prop :=
  True

def algebraic_ConvVBwdIdeal_ConvVBwdRefIdeal [hConvVBwdIdeal : Cert.ConvVBwdIdeal.Facts] [hConvVBwdRefIdeal : Cert.ConvVBwdRefIdeal.Facts] : Prop :=
  ∀ (m : (ℓ : Loc Cert.ConvVBwdIdeal.nD Cert.ConvVBwdIdeal.τ Cert.ConvVBwdIdeal.sig) → Buf (Elt Ideal) ℓ) (g : Dev Cert.ConvVBwdIdeal.nD → PrngReg)
    (m' : (ℓ : Loc Cert.ConvVBwdRefIdeal.nD Cert.ConvVBwdRefIdeal.τ Cert.ConvVBwdRefIdeal.sig) → Buf (Elt Ideal) ℓ) (g' : Dev Cert.ConvVBwdRefIdeal.nD → PrngReg), Pre_ConvVBwdIdeal m →
    (∀ c : Dev Cert.ConvVBwdIdeal.nD,
      m' ((c.tc : Thread Cert.ConvVBwdRefIdeal.nD Cert.ConvVBwdRefIdeal.τ).loc Cert.ConvVBwdRefIdeal.main_arg0) = m ((c.tc : Thread Cert.ConvVBwdIdeal.nD Cert.ConvVBwdIdeal.τ).loc Cert.ConvVBwdIdeal.main_arg0)
      ∧ m' ((c.tc : Thread Cert.ConvVBwdRefIdeal.nD Cert.ConvVBwdRefIdeal.τ).loc Cert.ConvVBwdRefIdeal.main_arg1) = m ((c.tc : Thread Cert.ConvVBwdIdeal.nD Cert.ConvVBwdIdeal.τ).loc Cert.ConvVBwdIdeal.main_arg1)
      ∧ m' ((c.tc : Thread Cert.ConvVBwdRefIdeal.nD Cert.ConvVBwdRefIdeal.τ).loc Cert.ConvVBwdRefIdeal.main_arg2) = m ((c.tc : Thread Cert.ConvVBwdIdeal.nD Cert.ConvVBwdIdeal.τ).loc Cert.ConvVBwdIdeal.main_arg2)
      ∧ m' ((c.tc : Thread Cert.ConvVBwdRefIdeal.nD Cert.ConvVBwdRefIdeal.τ).loc Cert.ConvVBwdRefIdeal.main_arg3) = m ((c.tc : Thread Cert.ConvVBwdIdeal.nD Cert.ConvVBwdIdeal.τ).loc Cert.ConvVBwdIdeal.main_arg3)) →
    ∃ (v0 : (c : Dev Cert.ConvVBwdIdeal.nD) → Buf (Elt Ideal) ((c.tc : Thread Cert.ConvVBwdIdeal.nD Cert.ConvVBwdIdeal.τ).loc Cert.ConvVBwdIdeal.main_v0_0)) (v1 : (c : Dev Cert.ConvVBwdIdeal.nD) → Buf (Elt Ideal) ((c.tc : Thread Cert.ConvVBwdIdeal.nD Cert.ConvVBwdIdeal.τ).loc Cert.ConvVBwdIdeal.main_v0_1)),
      θ_run (Cert.ConvVBwdIdeal.defs (F := Ideal)) (onTc (τ := Cert.ConvVBwdIdeal.τ) (Cert.ConvVBwdIdeal.main (F := Ideal))) ⟨m, fun _ => 0, g⟩ (fun r => ∀ c : Dev Cert.ConvVBwdIdeal.nD,
          r.2.mem ((c.tc : Thread Cert.ConvVBwdIdeal.nD Cert.ConvVBwdIdeal.τ).loc Cert.ConvVBwdIdeal.main_v0_0) = v0 c
          ∧ r.2.mem ((c.tc : Thread Cert.ConvVBwdIdeal.nD Cert.ConvVBwdIdeal.τ).loc Cert.ConvVBwdIdeal.main_v0_1) = v1 c
          ∧ r.2.mem ((c.tc : Thread Cert.ConvVBwdIdeal.nD Cert.ConvVBwdIdeal.τ).loc Cert.ConvVBwdIdeal.main_arg0) = m ((c.tc : Thread Cert.ConvVBwdIdeal.nD Cert.ConvVBwdIdeal.τ).loc Cert.ConvVBwdIdeal.main_arg0)
          ∧ r.2.mem ((c.tc : Thread Cert.ConvVBwdIdeal.nD Cert.ConvVBwdIdeal.τ).loc Cert.ConvVBwdIdeal.main_arg1) = m ((c.tc : Thread Cert.ConvVBwdIdeal.nD Cert.ConvVBwdIdeal.τ).loc Cert.ConvVBwdIdeal.main_arg1)
          ∧ r.2.mem ((c.tc : Thread Cert.ConvVBwdIdeal.nD Cert.ConvVBwdIdeal.τ).loc Cert.ConvVBwdIdeal.main_arg2) = m ((c.tc : Thread Cert.ConvVBwdIdeal.nD Cert.ConvVBwdIdeal.τ).loc Cert.ConvVBwdIdeal.main_arg2)
          ∧ r.2.mem ((c.tc : Thread Cert.ConvVBwdIdeal.nD Cert.ConvVBwdIdeal.τ).loc Cert.ConvVBwdIdeal.main_arg3) = m ((c.tc : Thread Cert.ConvVBwdIdeal.nD Cert.ConvVBwdIdeal.τ).loc Cert.ConvVBwdIdeal.main_arg3))
      ∧ θ_run (Cert.ConvVBwdRefIdeal.defs (F := Ideal)) (onTc (τ := Cert.ConvVBwdRefIdeal.τ) (Cert.ConvVBwdRefIdeal.main (F := Ideal))) ⟨m', fun _ => 0, g'⟩ (fun r => ∀ c : Dev Cert.ConvVBwdRefIdeal.nD,
          r.2.mem ((c.tc : Thread Cert.ConvVBwdRefIdeal.nD Cert.ConvVBwdRefIdeal.τ).loc Cert.ConvVBwdRefIdeal.main_v67) = v0 c
          ∧ r.2.mem ((c.tc : Thread Cert.ConvVBwdRefIdeal.nD Cert.ConvVBwdRefIdeal.τ).loc Cert.ConvVBwdRefIdeal.main_v68) = v1 c
          ∧ r.2.mem ((c.tc : Thread Cert.ConvVBwdRefIdeal.nD Cert.ConvVBwdRefIdeal.τ).loc Cert.ConvVBwdRefIdeal.main_arg0) = m' ((c.tc : Thread Cert.ConvVBwdRefIdeal.nD Cert.ConvVBwdRefIdeal.τ).loc Cert.ConvVBwdRefIdeal.main_arg0)
          ∧ r.2.mem ((c.tc : Thread Cert.ConvVBwdRefIdeal.nD Cert.ConvVBwdRefIdeal.τ).loc Cert.ConvVBwdRefIdeal.main_arg1) = m' ((c.tc : Thread Cert.ConvVBwdRefIdeal.nD Cert.ConvVBwdRefIdeal.τ).loc Cert.ConvVBwdRefIdeal.main_arg1)
          ∧ r.2.mem ((c.tc : Thread Cert.ConvVBwdRefIdeal.nD Cert.ConvVBwdRefIdeal.τ).loc Cert.ConvVBwdRefIdeal.main_arg2) = m' ((c.tc : Thread Cert.ConvVBwdRefIdeal.nD Cert.ConvVBwdRefIdeal.τ).loc Cert.ConvVBwdRefIdeal.main_arg2)
          ∧ r.2.mem ((c.tc : Thread Cert.ConvVBwdRefIdeal.nD Cert.ConvVBwdRefIdeal.τ).loc Cert.ConvVBwdRefIdeal.main_arg3) = m' ((c.tc : Thread Cert.ConvVBwdRefIdeal.nD Cert.ConvVBwdRefIdeal.τ).loc Cert.ConvVBwdRefIdeal.main_arg3))

def preserves_ConvQBwd_ConvQBwdIdeal : Prop :=
  True

def algebraic_ConvQBwdIdeal_ConvQBwdRefIdeal [hConvQBwdIdeal : Cert.ConvQBwdIdeal.Facts] [hConvQBwdRefIdeal : Cert.ConvQBwdRefIdeal.Facts] : Prop :=
  ∀ (m : (ℓ : Loc Cert.ConvQBwdIdeal.nD Cert.ConvQBwdIdeal.τ Cert.ConvQBwdIdeal.sig) → Buf (Elt Ideal) ℓ) (g : Dev Cert.ConvQBwdIdeal.nD → PrngReg)
    (m' : (ℓ : Loc Cert.ConvQBwdRefIdeal.nD Cert.ConvQBwdRefIdeal.τ Cert.ConvQBwdRefIdeal.sig) → Buf (Elt Ideal) ℓ) (g' : Dev Cert.ConvQBwdRefIdeal.nD → PrngReg), Pre_ConvQBwdIdeal m →
    (∀ c : Dev Cert.ConvQBwdIdeal.nD,
      m' ((c.tc : Thread Cert.ConvQBwdRefIdeal.nD Cert.ConvQBwdRefIdeal.τ).loc Cert.ConvQBwdRefIdeal.main_arg0) = m ((c.tc : Thread Cert.ConvQBwdIdeal.nD Cert.ConvQBwdIdeal.τ).loc Cert.ConvQBwdIdeal.main_arg0)
      ∧ m' ((c.tc : Thread Cert.ConvQBwdRefIdeal.nD Cert.ConvQBwdRefIdeal.τ).loc Cert.ConvQBwdRefIdeal.main_arg1) = m ((c.tc : Thread Cert.ConvQBwdIdeal.nD Cert.ConvQBwdIdeal.τ).loc Cert.ConvQBwdIdeal.main_arg1)
      ∧ m' ((c.tc : Thread Cert.ConvQBwdRefIdeal.nD Cert.ConvQBwdRefIdeal.τ).loc Cert.ConvQBwdRefIdeal.main_arg2) = m ((c.tc : Thread Cert.ConvQBwdIdeal.nD Cert.ConvQBwdIdeal.τ).loc Cert.ConvQBwdIdeal.main_arg2)
      ∧ m' ((c.tc : Thread Cert.ConvQBwdRefIdeal.nD Cert.ConvQBwdRefIdeal.τ).loc Cert.ConvQBwdRefIdeal.main_arg3) = m ((c.tc : Thread Cert.ConvQBwdIdeal.nD Cert.ConvQBwdIdeal.τ).loc Cert.ConvQBwdIdeal.main_arg3)) →
    ∃ (v0 : (c : Dev Cert.ConvQBwdIdeal.nD) → Buf (Elt Ideal) ((c.tc : Thread Cert.ConvQBwdIdeal.nD Cert.ConvQBwdIdeal.τ).loc Cert.ConvQBwdIdeal.main_v0_0)) (v1 : (c : Dev Cert.ConvQBwdIdeal.nD) → Buf (Elt Ideal) ((c.tc : Thread Cert.ConvQBwdIdeal.nD Cert.ConvQBwdIdeal.τ).loc Cert.ConvQBwdIdeal.main_v0_1)),
      θ_run (Cert.ConvQBwdIdeal.defs (F := Ideal)) (onTc (τ := Cert.ConvQBwdIdeal.τ) (Cert.ConvQBwdIdeal.main (F := Ideal))) ⟨m, fun _ => 0, g⟩ (fun r => ∀ c : Dev Cert.ConvQBwdIdeal.nD,
          r.2.mem ((c.tc : Thread Cert.ConvQBwdIdeal.nD Cert.ConvQBwdIdeal.τ).loc Cert.ConvQBwdIdeal.main_v0_0) = v0 c
          ∧ r.2.mem ((c.tc : Thread Cert.ConvQBwdIdeal.nD Cert.ConvQBwdIdeal.τ).loc Cert.ConvQBwdIdeal.main_v0_1) = v1 c
          ∧ r.2.mem ((c.tc : Thread Cert.ConvQBwdIdeal.nD Cert.ConvQBwdIdeal.τ).loc Cert.ConvQBwdIdeal.main_arg0) = m ((c.tc : Thread Cert.ConvQBwdIdeal.nD Cert.ConvQBwdIdeal.τ).loc Cert.ConvQBwdIdeal.main_arg0)
          ∧ r.2.mem ((c.tc : Thread Cert.ConvQBwdIdeal.nD Cert.ConvQBwdIdeal.τ).loc Cert.ConvQBwdIdeal.main_arg1) = m ((c.tc : Thread Cert.ConvQBwdIdeal.nD Cert.ConvQBwdIdeal.τ).loc Cert.ConvQBwdIdeal.main_arg1)
          ∧ r.2.mem ((c.tc : Thread Cert.ConvQBwdIdeal.nD Cert.ConvQBwdIdeal.τ).loc Cert.ConvQBwdIdeal.main_arg2) = m ((c.tc : Thread Cert.ConvQBwdIdeal.nD Cert.ConvQBwdIdeal.τ).loc Cert.ConvQBwdIdeal.main_arg2)
          ∧ r.2.mem ((c.tc : Thread Cert.ConvQBwdIdeal.nD Cert.ConvQBwdIdeal.τ).loc Cert.ConvQBwdIdeal.main_arg3) = m ((c.tc : Thread Cert.ConvQBwdIdeal.nD Cert.ConvQBwdIdeal.τ).loc Cert.ConvQBwdIdeal.main_arg3))
      ∧ θ_run (Cert.ConvQBwdRefIdeal.defs (F := Ideal)) (onTc (τ := Cert.ConvQBwdRefIdeal.τ) (Cert.ConvQBwdRefIdeal.main (F := Ideal))) ⟨m', fun _ => 0, g'⟩ (fun r => ∀ c : Dev Cert.ConvQBwdRefIdeal.nD,
          r.2.mem ((c.tc : Thread Cert.ConvQBwdRefIdeal.nD Cert.ConvQBwdRefIdeal.τ).loc Cert.ConvQBwdRefIdeal.main_v97) = v0 c
          ∧ r.2.mem ((c.tc : Thread Cert.ConvQBwdRefIdeal.nD Cert.ConvQBwdRefIdeal.τ).loc Cert.ConvQBwdRefIdeal.main_v98) = v1 c
          ∧ r.2.mem ((c.tc : Thread Cert.ConvQBwdRefIdeal.nD Cert.ConvQBwdRefIdeal.τ).loc Cert.ConvQBwdRefIdeal.main_arg0) = m' ((c.tc : Thread Cert.ConvQBwdRefIdeal.nD Cert.ConvQBwdRefIdeal.τ).loc Cert.ConvQBwdRefIdeal.main_arg0)
          ∧ r.2.mem ((c.tc : Thread Cert.ConvQBwdRefIdeal.nD Cert.ConvQBwdRefIdeal.τ).loc Cert.ConvQBwdRefIdeal.main_arg1) = m' ((c.tc : Thread Cert.ConvQBwdRefIdeal.nD Cert.ConvQBwdRefIdeal.τ).loc Cert.ConvQBwdRefIdeal.main_arg1)
          ∧ r.2.mem ((c.tc : Thread Cert.ConvQBwdRefIdeal.nD Cert.ConvQBwdRefIdeal.τ).loc Cert.ConvQBwdRefIdeal.main_arg2) = m' ((c.tc : Thread Cert.ConvQBwdRefIdeal.nD Cert.ConvQBwdRefIdeal.τ).loc Cert.ConvQBwdRefIdeal.main_arg2)
          ∧ r.2.mem ((c.tc : Thread Cert.ConvQBwdRefIdeal.nD Cert.ConvQBwdRefIdeal.τ).loc Cert.ConvQBwdRefIdeal.main_arg3) = m' ((c.tc : Thread Cert.ConvQBwdRefIdeal.nD Cert.ConvQBwdRefIdeal.τ).loc Cert.ConvQBwdRefIdeal.main_arg3))

def preserves_ConvKBwd_ConvKBwdIdeal : Prop :=
  True

def algebraic_ConvKBwdIdeal_ConvKBwdRefIdeal [hConvKBwdIdeal : Cert.ConvKBwdIdeal.Facts] [hConvKBwdRefIdeal : Cert.ConvKBwdRefIdeal.Facts] : Prop :=
  ∀ (m : (ℓ : Loc Cert.ConvKBwdIdeal.nD Cert.ConvKBwdIdeal.τ Cert.ConvKBwdIdeal.sig) → Buf (Elt Ideal) ℓ) (g : Dev Cert.ConvKBwdIdeal.nD → PrngReg)
    (m' : (ℓ : Loc Cert.ConvKBwdRefIdeal.nD Cert.ConvKBwdRefIdeal.τ Cert.ConvKBwdRefIdeal.sig) → Buf (Elt Ideal) ℓ) (g' : Dev Cert.ConvKBwdRefIdeal.nD → PrngReg), Pre_ConvKBwdIdeal m →
    (∀ c : Dev Cert.ConvKBwdIdeal.nD,
      m' ((c.tc : Thread Cert.ConvKBwdRefIdeal.nD Cert.ConvKBwdRefIdeal.τ).loc Cert.ConvKBwdRefIdeal.main_arg0) = m ((c.tc : Thread Cert.ConvKBwdIdeal.nD Cert.ConvKBwdIdeal.τ).loc Cert.ConvKBwdIdeal.main_arg0)
      ∧ m' ((c.tc : Thread Cert.ConvKBwdRefIdeal.nD Cert.ConvKBwdRefIdeal.τ).loc Cert.ConvKBwdRefIdeal.main_arg1) = m ((c.tc : Thread Cert.ConvKBwdIdeal.nD Cert.ConvKBwdIdeal.τ).loc Cert.ConvKBwdIdeal.main_arg1)
      ∧ m' ((c.tc : Thread Cert.ConvKBwdRefIdeal.nD Cert.ConvKBwdRefIdeal.τ).loc Cert.ConvKBwdRefIdeal.main_arg2) = m ((c.tc : Thread Cert.ConvKBwdIdeal.nD Cert.ConvKBwdIdeal.τ).loc Cert.ConvKBwdIdeal.main_arg2)
      ∧ m' ((c.tc : Thread Cert.ConvKBwdRefIdeal.nD Cert.ConvKBwdRefIdeal.τ).loc Cert.ConvKBwdRefIdeal.main_arg3) = m ((c.tc : Thread Cert.ConvKBwdIdeal.nD Cert.ConvKBwdIdeal.τ).loc Cert.ConvKBwdIdeal.main_arg3)) →
    ∃ (v0 : (c : Dev Cert.ConvKBwdIdeal.nD) → Buf (Elt Ideal) ((c.tc : Thread Cert.ConvKBwdIdeal.nD Cert.ConvKBwdIdeal.τ).loc Cert.ConvKBwdIdeal.main_v0_0)) (v1 : (c : Dev Cert.ConvKBwdIdeal.nD) → Buf (Elt Ideal) ((c.tc : Thread Cert.ConvKBwdIdeal.nD Cert.ConvKBwdIdeal.τ).loc Cert.ConvKBwdIdeal.main_v0_1)),
      θ_run (Cert.ConvKBwdIdeal.defs (F := Ideal)) (onTc (τ := Cert.ConvKBwdIdeal.τ) (Cert.ConvKBwdIdeal.main (F := Ideal))) ⟨m, fun _ => 0, g⟩ (fun r => ∀ c : Dev Cert.ConvKBwdIdeal.nD,
          r.2.mem ((c.tc : Thread Cert.ConvKBwdIdeal.nD Cert.ConvKBwdIdeal.τ).loc Cert.ConvKBwdIdeal.main_v0_0) = v0 c
          ∧ r.2.mem ((c.tc : Thread Cert.ConvKBwdIdeal.nD Cert.ConvKBwdIdeal.τ).loc Cert.ConvKBwdIdeal.main_v0_1) = v1 c
          ∧ r.2.mem ((c.tc : Thread Cert.ConvKBwdIdeal.nD Cert.ConvKBwdIdeal.τ).loc Cert.ConvKBwdIdeal.main_arg0) = m ((c.tc : Thread Cert.ConvKBwdIdeal.nD Cert.ConvKBwdIdeal.τ).loc Cert.ConvKBwdIdeal.main_arg0)
          ∧ r.2.mem ((c.tc : Thread Cert.ConvKBwdIdeal.nD Cert.ConvKBwdIdeal.τ).loc Cert.ConvKBwdIdeal.main_arg1) = m ((c.tc : Thread Cert.ConvKBwdIdeal.nD Cert.ConvKBwdIdeal.τ).loc Cert.ConvKBwdIdeal.main_arg1)
          ∧ r.2.mem ((c.tc : Thread Cert.ConvKBwdIdeal.nD Cert.ConvKBwdIdeal.τ).loc Cert.ConvKBwdIdeal.main_arg2) = m ((c.tc : Thread Cert.ConvKBwdIdeal.nD Cert.ConvKBwdIdeal.τ).loc Cert.ConvKBwdIdeal.main_arg2)
          ∧ r.2.mem ((c.tc : Thread Cert.ConvKBwdIdeal.nD Cert.ConvKBwdIdeal.τ).loc Cert.ConvKBwdIdeal.main_arg3) = m ((c.tc : Thread Cert.ConvKBwdIdeal.nD Cert.ConvKBwdIdeal.τ).loc Cert.ConvKBwdIdeal.main_arg3))
      ∧ θ_run (Cert.ConvKBwdRefIdeal.defs (F := Ideal)) (onTc (τ := Cert.ConvKBwdRefIdeal.τ) (Cert.ConvKBwdRefIdeal.main (F := Ideal))) ⟨m', fun _ => 0, g'⟩ (fun r => ∀ c : Dev Cert.ConvKBwdRefIdeal.nD,
          r.2.mem ((c.tc : Thread Cert.ConvKBwdRefIdeal.nD Cert.ConvKBwdRefIdeal.τ).loc Cert.ConvKBwdRefIdeal.main_v94) = v0 c
          ∧ r.2.mem ((c.tc : Thread Cert.ConvKBwdRefIdeal.nD Cert.ConvKBwdRefIdeal.τ).loc Cert.ConvKBwdRefIdeal.main_v95) = v1 c
          ∧ r.2.mem ((c.tc : Thread Cert.ConvKBwdRefIdeal.nD Cert.ConvKBwdRefIdeal.τ).loc Cert.ConvKBwdRefIdeal.main_arg0) = m' ((c.tc : Thread Cert.ConvKBwdRefIdeal.nD Cert.ConvKBwdRefIdeal.τ).loc Cert.ConvKBwdRefIdeal.main_arg0)
          ∧ r.2.mem ((c.tc : Thread Cert.ConvKBwdRefIdeal.nD Cert.ConvKBwdRefIdeal.τ).loc Cert.ConvKBwdRefIdeal.main_arg1) = m' ((c.tc : Thread Cert.ConvKBwdRefIdeal.nD Cert.ConvKBwdRefIdeal.τ).loc Cert.ConvKBwdRefIdeal.main_arg1)
          ∧ r.2.mem ((c.tc : Thread Cert.ConvKBwdRefIdeal.nD Cert.ConvKBwdRefIdeal.τ).loc Cert.ConvKBwdRefIdeal.main_arg2) = m' ((c.tc : Thread Cert.ConvKBwdRefIdeal.nD Cert.ConvKBwdRefIdeal.τ).loc Cert.ConvKBwdRefIdeal.main_arg2)
          ∧ r.2.mem ((c.tc : Thread Cert.ConvKBwdRefIdeal.nD Cert.ConvKBwdRefIdeal.τ).loc Cert.ConvKBwdRefIdeal.main_arg3) = m' ((c.tc : Thread Cert.ConvKBwdRefIdeal.nD Cert.ConvKBwdRefIdeal.τ).loc Cert.ConvKBwdRefIdeal.main_arg3))

def preserves_CastInto_CastIntoIdeal : Prop :=
  True

def algebraic_CastIntoIdeal_CastIntoRefIdeal [hCastIntoIdeal : Cert.CastIntoIdeal.Facts] [hCastIntoRefIdeal : Cert.CastIntoRefIdeal.Facts] : Prop :=
  ∀ (m : (ℓ : Loc Cert.CastIntoIdeal.nD Cert.CastIntoIdeal.τ Cert.CastIntoIdeal.sig) → Buf (Elt Ideal) ℓ) (g : Dev Cert.CastIntoIdeal.nD → PrngReg)
    (m' : (ℓ : Loc Cert.CastIntoRefIdeal.nD Cert.CastIntoRefIdeal.τ Cert.CastIntoRefIdeal.sig) → Buf (Elt Ideal) ℓ) (g' : Dev Cert.CastIntoRefIdeal.nD → PrngReg), Pre_CastIntoIdeal m →
    (∀ c : Dev Cert.CastIntoIdeal.nD,
      m' ((c.tc : Thread Cert.CastIntoRefIdeal.nD Cert.CastIntoRefIdeal.τ).loc Cert.CastIntoRefIdeal.main_arg0) = m ((c.tc : Thread Cert.CastIntoIdeal.nD Cert.CastIntoIdeal.τ).loc Cert.CastIntoIdeal.main_arg0)
      ∧ m' ((c.tc : Thread Cert.CastIntoRefIdeal.nD Cert.CastIntoRefIdeal.τ).loc Cert.CastIntoRefIdeal.main_arg1) = m ((c.tc : Thread Cert.CastIntoIdeal.nD Cert.CastIntoIdeal.τ).loc Cert.CastIntoIdeal.main_arg1)) →
    ∃ (v0 : (c : Dev Cert.CastIntoIdeal.nD) → Buf (Elt Ideal) ((c.tc : Thread Cert.CastIntoIdeal.nD Cert.CastIntoIdeal.τ).loc Cert.CastIntoIdeal.main_v0)),
      θ_run (Cert.CastIntoIdeal.defs (F := Ideal)) (onTc (τ := Cert.CastIntoIdeal.τ) (Cert.CastIntoIdeal.main (F := Ideal))) ⟨m, fun _ => 0, g⟩ (fun r => ∀ c : Dev Cert.CastIntoIdeal.nD,
          r.2.mem ((c.tc : Thread Cert.CastIntoIdeal.nD Cert.CastIntoIdeal.τ).loc Cert.CastIntoIdeal.main_v0) = v0 c
          ∧ r.2.mem ((c.tc : Thread Cert.CastIntoIdeal.nD Cert.CastIntoIdeal.τ).loc Cert.CastIntoIdeal.main_arg0) = m ((c.tc : Thread Cert.CastIntoIdeal.nD Cert.CastIntoIdeal.τ).loc Cert.CastIntoIdeal.main_arg0)
          ∧ r.2.mem ((c.tc : Thread Cert.CastIntoIdeal.nD Cert.CastIntoIdeal.τ).loc Cert.CastIntoIdeal.main_arg1) = m ((c.tc : Thread Cert.CastIntoIdeal.nD Cert.CastIntoIdeal.τ).loc Cert.CastIntoIdeal.main_arg1))
      ∧ θ_run (Cert.CastIntoRefIdeal.defs (F := Ideal)) (onTc (τ := Cert.CastIntoRefIdeal.τ) (Cert.CastIntoRefIdeal.main (F := Ideal))) ⟨m', fun _ => 0, g'⟩ (fun r => ∀ c : Dev Cert.CastIntoRefIdeal.nD,
          r.2.mem ((c.tc : Thread Cert.CastIntoRefIdeal.nD Cert.CastIntoRefIdeal.τ).loc Cert.CastIntoRefIdeal.main_v3) = v0 c
          ∧ r.2.mem ((c.tc : Thread Cert.CastIntoRefIdeal.nD Cert.CastIntoRefIdeal.τ).loc Cert.CastIntoRefIdeal.main_arg0) = m' ((c.tc : Thread Cert.CastIntoRefIdeal.nD Cert.CastIntoRefIdeal.τ).loc Cert.CastIntoRefIdeal.main_arg0)
          ∧ r.2.mem ((c.tc : Thread Cert.CastIntoRefIdeal.nD Cert.CastIntoRefIdeal.τ).loc Cert.CastIntoRefIdeal.main_arg1) = m' ((c.tc : Thread Cert.CastIntoRefIdeal.nD Cert.CastIntoRefIdeal.τ).loc Cert.CastIntoRefIdeal.main_arg1))

def preserves_NormFwd_NormFwdIdeal : Prop :=
  True

def algebraic_NormFwdIdeal_NormFwdRefIdeal [hNormFwdIdeal : Cert.NormFwdIdeal.Facts] [hNormFwdRefIdeal : Cert.NormFwdRefIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdRefIdeal.nD Cert.NormFwdRefIdeal.τ Cert.NormFwdRefIdeal.sig) → Buf (Elt Ideal) ℓ) (g' : Dev Cert.NormFwdRefIdeal.nD → PrngReg), Pre_NormFwdIdeal m →
    (∀ c : Dev Cert.NormFwdIdeal.nD,
      m' ((c.tc : Thread Cert.NormFwdRefIdeal.nD Cert.NormFwdRefIdeal.τ).loc Cert.NormFwdRefIdeal.main_arg0) = m ((c.tc : Thread Cert.NormFwdIdeal.nD Cert.NormFwdIdeal.τ).loc Cert.NormFwdIdeal.main_arg0)
      ∧ m' ((c.tc : Thread Cert.NormFwdRefIdeal.nD Cert.NormFwdRefIdeal.τ).loc Cert.NormFwdRefIdeal.main_arg1) = m ((c.tc : Thread Cert.NormFwdIdeal.nD Cert.NormFwdIdeal.τ).loc Cert.NormFwdIdeal.main_arg1)
      ∧ m' ((c.tc : Thread Cert.NormFwdRefIdeal.nD Cert.NormFwdRefIdeal.τ).loc Cert.NormFwdRefIdeal.main_arg2) = m ((c.tc : Thread Cert.NormFwdIdeal.nD Cert.NormFwdIdeal.τ).loc Cert.NormFwdIdeal.main_arg2)) →
    ∃ (v0 : (c : Dev Cert.NormFwdIdeal.nD) → Buf (Elt Ideal) ((c.tc : Thread Cert.NormFwdIdeal.nD Cert.NormFwdIdeal.τ).loc Cert.NormFwdIdeal.main_v0)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v0) = v0 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1)
          ∧ r.2.mem ((c.tc : Thread Cert.NormFwdIdeal.nD Cert.NormFwdIdeal.τ).loc Cert.NormFwdIdeal.main_arg2) = m ((c.tc : Thread Cert.NormFwdIdeal.nD Cert.NormFwdIdeal.τ).loc Cert.NormFwdIdeal.main_arg2))
      ∧ θ_run (Cert.NormFwdRefIdeal.defs (F := Ideal)) (onTc (τ := Cert.NormFwdRefIdeal.τ) (Cert.NormFwdRefIdeal.main (F := Ideal))) ⟨m', fun _ => 0, g'⟩ (fun r => ∀ c : Dev Cert.NormFwdRefIdeal.nD,
          r.2.mem ((c.tc : Thread Cert.NormFwdRefIdeal.nD Cert.NormFwdRefIdeal.τ).loc Cert.NormFwdRefIdeal.main_v12) = v0 c
          ∧ r.2.mem ((c.tc : Thread Cert.NormFwdRefIdeal.nD Cert.NormFwdRefIdeal.τ).loc Cert.NormFwdRefIdeal.main_arg0) = m' ((c.tc : Thread Cert.NormFwdRefIdeal.nD Cert.NormFwdRefIdeal.τ).loc Cert.NormFwdRefIdeal.main_arg0)
          ∧ r.2.mem ((c.tc : Thread Cert.NormFwdRefIdeal.nD Cert.NormFwdRefIdeal.τ).loc Cert.NormFwdRefIdeal.main_arg1) = m' ((c.tc : Thread Cert.NormFwdRefIdeal.nD Cert.NormFwdRefIdeal.τ).loc Cert.NormFwdRefIdeal.main_arg1)
          ∧ r.2.mem ((c.tc : Thread Cert.NormFwdRefIdeal.nD Cert.NormFwdRefIdeal.τ).loc Cert.NormFwdRefIdeal.main_arg2) = m' ((c.tc : Thread Cert.NormFwdRefIdeal.nD Cert.NormFwdRefIdeal.τ).loc Cert.NormFwdRefIdeal.main_arg2))

def preserves_ConvV_ConvVIdeal : Prop :=
  True

def algebraic_ConvVIdeal_ConvVRefIdeal [hConvVIdeal : Cert.ConvVIdeal.Facts] [hConvVRefIdeal : Cert.ConvVRefIdeal.Facts] : Prop :=
  ∀ (m : (ℓ : Loc Cert.ConvVIdeal.nD Cert.ConvVIdeal.τ Cert.ConvVIdeal.sig) → Buf (Elt Ideal) ℓ) (g : Dev Cert.ConvVIdeal.nD → PrngReg)
    (m' : (ℓ : Loc Cert.ConvVRefIdeal.nD Cert.ConvVRefIdeal.τ Cert.ConvVRefIdeal.sig) → Buf (Elt Ideal) ℓ) (g' : Dev Cert.ConvVRefIdeal.nD → PrngReg), Pre_ConvVIdeal m →
    (∀ c : Dev Cert.ConvVIdeal.nD,
      m' ((c.tc : Thread Cert.ConvVRefIdeal.nD Cert.ConvVRefIdeal.τ).loc Cert.ConvVRefIdeal.main_arg0) = m ((c.tc : Thread Cert.ConvVIdeal.nD Cert.ConvVIdeal.τ).loc Cert.ConvVIdeal.main_arg0)
      ∧ m' ((c.tc : Thread Cert.ConvVRefIdeal.nD Cert.ConvVRefIdeal.τ).loc Cert.ConvVRefIdeal.main_arg1) = m ((c.tc : Thread Cert.ConvVIdeal.nD Cert.ConvVIdeal.τ).loc Cert.ConvVIdeal.main_arg1)) →
    ∃ (v0 : (c : Dev Cert.ConvVIdeal.nD) → Buf (Elt Ideal) ((c.tc : Thread Cert.ConvVIdeal.nD Cert.ConvVIdeal.τ).loc Cert.ConvVIdeal.main_v0)),
      θ_run (Cert.ConvVIdeal.defs (F := Ideal)) (onTc (τ := Cert.ConvVIdeal.τ) (Cert.ConvVIdeal.main (F := Ideal))) ⟨m, fun _ => 0, g⟩ (fun r => ∀ c : Dev Cert.ConvVIdeal.nD,
          r.2.mem ((c.tc : Thread Cert.ConvVIdeal.nD Cert.ConvVIdeal.τ).loc Cert.ConvVIdeal.main_v0) = v0 c
          ∧ r.2.mem ((c.tc : Thread Cert.ConvVIdeal.nD Cert.ConvVIdeal.τ).loc Cert.ConvVIdeal.main_arg0) = m ((c.tc : Thread Cert.ConvVIdeal.nD Cert.ConvVIdeal.τ).loc Cert.ConvVIdeal.main_arg0)
          ∧ r.2.mem ((c.tc : Thread Cert.ConvVIdeal.nD Cert.ConvVIdeal.τ).loc Cert.ConvVIdeal.main_arg1) = m ((c.tc : Thread Cert.ConvVIdeal.nD Cert.ConvVIdeal.τ).loc Cert.ConvVIdeal.main_arg1))
      ∧ θ_run (Cert.ConvVRefIdeal.defs (F := Ideal)) (onTc (τ := Cert.ConvVRefIdeal.τ) (Cert.ConvVRefIdeal.main (F := Ideal))) ⟨m', fun _ => 0, g'⟩ (fun r => ∀ c : Dev Cert.ConvVRefIdeal.nD,
          r.2.mem ((c.tc : Thread Cert.ConvVRefIdeal.nD Cert.ConvVRefIdeal.τ).loc Cert.ConvVRefIdeal.main_v25) = v0 c
          ∧ r.2.mem ((c.tc : Thread Cert.ConvVRefIdeal.nD Cert.ConvVRefIdeal.τ).loc Cert.ConvVRefIdeal.main_arg0) = m' ((c.tc : Thread Cert.ConvVRefIdeal.nD Cert.ConvVRefIdeal.τ).loc Cert.ConvVRefIdeal.main_arg0)
          ∧ r.2.mem ((c.tc : Thread Cert.ConvVRefIdeal.nD Cert.ConvVRefIdeal.τ).loc Cert.ConvVRefIdeal.main_arg1) = m' ((c.tc : Thread Cert.ConvVRefIdeal.nD Cert.ConvVRefIdeal.τ).loc Cert.ConvVRefIdeal.main_arg1))

def preserves_ConvQ_ConvQIdeal : Prop :=
  True

def algebraic_ConvQIdeal_ConvQRefIdeal [hConvQIdeal : Cert.ConvQIdeal.Facts] [hConvQRefIdeal : Cert.ConvQRefIdeal.Facts] : Prop :=
  ∀ (m : (ℓ : Loc Cert.ConvQIdeal.nD Cert.ConvQIdeal.τ Cert.ConvQIdeal.sig) → Buf (Elt Ideal) ℓ) (g : Dev Cert.ConvQIdeal.nD → PrngReg)
    (m' : (ℓ : Loc Cert.ConvQRefIdeal.nD Cert.ConvQRefIdeal.τ Cert.ConvQRefIdeal.sig) → Buf (Elt Ideal) ℓ) (g' : Dev Cert.ConvQRefIdeal.nD → PrngReg), Pre_ConvQIdeal m →
    (∀ c : Dev Cert.ConvQIdeal.nD,
      m' ((c.tc : Thread Cert.ConvQRefIdeal.nD Cert.ConvQRefIdeal.τ).loc Cert.ConvQRefIdeal.main_arg0) = m ((c.tc : Thread Cert.ConvQIdeal.nD Cert.ConvQIdeal.τ).loc Cert.ConvQIdeal.main_arg0)
      ∧ m' ((c.tc : Thread Cert.ConvQRefIdeal.nD Cert.ConvQRefIdeal.τ).loc Cert.ConvQRefIdeal.main_arg1) = m ((c.tc : Thread Cert.ConvQIdeal.nD Cert.ConvQIdeal.τ).loc Cert.ConvQIdeal.main_arg1)) →
    ∃ (v0 : (c : Dev Cert.ConvQIdeal.nD) → Buf (Elt Ideal) ((c.tc : Thread Cert.ConvQIdeal.nD Cert.ConvQIdeal.τ).loc Cert.ConvQIdeal.main_v0)),
      θ_run (Cert.ConvQIdeal.defs (F := Ideal)) (onTc (τ := Cert.ConvQIdeal.τ) (Cert.ConvQIdeal.main (F := Ideal))) ⟨m, fun _ => 0, g⟩ (fun r => ∀ c : Dev Cert.ConvQIdeal.nD,
          r.2.mem ((c.tc : Thread Cert.ConvQIdeal.nD Cert.ConvQIdeal.τ).loc Cert.ConvQIdeal.main_v0) = v0 c
          ∧ r.2.mem ((c.tc : Thread Cert.ConvQIdeal.nD Cert.ConvQIdeal.τ).loc Cert.ConvQIdeal.main_arg0) = m ((c.tc : Thread Cert.ConvQIdeal.nD Cert.ConvQIdeal.τ).loc Cert.ConvQIdeal.main_arg0)
          ∧ r.2.mem ((c.tc : Thread Cert.ConvQIdeal.nD Cert.ConvQIdeal.τ).loc Cert.ConvQIdeal.main_arg1) = m ((c.tc : Thread Cert.ConvQIdeal.nD Cert.ConvQIdeal.τ).loc Cert.ConvQIdeal.main_arg1))
      ∧ θ_run (Cert.ConvQRefIdeal.defs (F := Ideal)) (onTc (τ := Cert.ConvQRefIdeal.τ) (Cert.ConvQRefIdeal.main (F := Ideal))) ⟨m', fun _ => 0, g'⟩ (fun r => ∀ c : Dev Cert.ConvQRefIdeal.nD,
          r.2.mem ((c.tc : Thread Cert.ConvQRefIdeal.nD Cert.ConvQRefIdeal.τ).loc Cert.ConvQRefIdeal.main_v37) = v0 c
          ∧ r.2.mem ((c.tc : Thread Cert.ConvQRefIdeal.nD Cert.ConvQRefIdeal.τ).loc Cert.ConvQRefIdeal.main_arg0) = m' ((c.tc : Thread Cert.ConvQRefIdeal.nD Cert.ConvQRefIdeal.τ).loc Cert.ConvQRefIdeal.main_arg0)
          ∧ r.2.mem ((c.tc : Thread Cert.ConvQRefIdeal.nD Cert.ConvQRefIdeal.τ).loc Cert.ConvQRefIdeal.main_arg1) = m' ((c.tc : Thread Cert.ConvQRefIdeal.nD Cert.ConvQRefIdeal.τ).loc Cert.ConvQRefIdeal.main_arg1))

def preserves_ConvK_ConvKIdeal : Prop :=
  True

def algebraic_ConvKIdeal_ConvKRefIdeal [hConvKIdeal : Cert.ConvKIdeal.Facts] [hConvKRefIdeal : Cert.ConvKRefIdeal.Facts] : Prop :=
  ∀ (m : (ℓ : Loc Cert.ConvKIdeal.nD Cert.ConvKIdeal.τ Cert.ConvKIdeal.sig) → Buf (Elt Ideal) ℓ) (g : Dev Cert.ConvKIdeal.nD → PrngReg)
    (m' : (ℓ : Loc Cert.ConvKRefIdeal.nD Cert.ConvKRefIdeal.τ Cert.ConvKRefIdeal.sig) → Buf (Elt Ideal) ℓ) (g' : Dev Cert.ConvKRefIdeal.nD → PrngReg), Pre_ConvKIdeal m →
    (∀ c : Dev Cert.ConvKIdeal.nD,
      m' ((c.tc : Thread Cert.ConvKRefIdeal.nD Cert.ConvKRefIdeal.τ).loc Cert.ConvKRefIdeal.main_arg0) = m ((c.tc : Thread Cert.ConvKIdeal.nD Cert.ConvKIdeal.τ).loc Cert.ConvKIdeal.main_arg0)
      ∧ m' ((c.tc : Thread Cert.ConvKRefIdeal.nD Cert.ConvKRefIdeal.τ).loc Cert.ConvKRefIdeal.main_arg1) = m ((c.tc : Thread Cert.ConvKIdeal.nD Cert.ConvKIdeal.τ).loc Cert.ConvKIdeal.main_arg1)) →
    ∃ (v0 : (c : Dev Cert.ConvKIdeal.nD) → Buf (Elt Ideal) ((c.tc : Thread Cert.ConvKIdeal.nD Cert.ConvKIdeal.τ).loc Cert.ConvKIdeal.main_v0)),
      θ_run (Cert.ConvKIdeal.defs (F := Ideal)) (onTc (τ := Cert.ConvKIdeal.τ) (Cert.ConvKIdeal.main (F := Ideal))) ⟨m, fun _ => 0, g⟩ (fun r => ∀ c : Dev Cert.ConvKIdeal.nD,
          r.2.mem ((c.tc : Thread Cert.ConvKIdeal.nD Cert.ConvKIdeal.τ).loc Cert.ConvKIdeal.main_v0) = v0 c
          ∧ r.2.mem ((c.tc : Thread Cert.ConvKIdeal.nD Cert.ConvKIdeal.τ).loc Cert.ConvKIdeal.main_arg0) = m ((c.tc : Thread Cert.ConvKIdeal.nD Cert.ConvKIdeal.τ).loc Cert.ConvKIdeal.main_arg0)
          ∧ r.2.mem ((c.tc : Thread Cert.ConvKIdeal.nD Cert.ConvKIdeal.τ).loc Cert.ConvKIdeal.main_arg1) = m ((c.tc : Thread Cert.ConvKIdeal.nD Cert.ConvKIdeal.τ).loc Cert.ConvKIdeal.main_arg1))
      ∧ θ_run (Cert.ConvKRefIdeal.defs (F := Ideal)) (onTc (τ := Cert.ConvKRefIdeal.τ) (Cert.ConvKRefIdeal.main (F := Ideal))) ⟨m', fun _ => 0, g'⟩ (fun r => ∀ c : Dev Cert.ConvKRefIdeal.nD,
          r.2.mem ((c.tc : Thread Cert.ConvKRefIdeal.nD Cert.ConvKRefIdeal.τ).loc Cert.ConvKRefIdeal.main_v35) = v0 c
          ∧ r.2.mem ((c.tc : Thread Cert.ConvKRefIdeal.nD Cert.ConvKRefIdeal.τ).loc Cert.ConvKRefIdeal.main_arg0) = m' ((c.tc : Thread Cert.ConvKRefIdeal.nD Cert.ConvKRefIdeal.τ).loc Cert.ConvKRefIdeal.main_arg0)
          ∧ r.2.mem ((c.tc : Thread Cert.ConvKRefIdeal.nD Cert.ConvKRefIdeal.τ).loc Cert.ConvKRefIdeal.main_arg1) = m' ((c.tc : Thread Cert.ConvKRefIdeal.nD Cert.ConvKRefIdeal.τ).loc Cert.ConvKRefIdeal.main_arg1))

def Claim : Prop :=
  ∃ (hKernel : Cert.Kernel.Facts) (hKernelIdeal : Cert.KernelIdeal.Facts) (hReferenceIdeal : Cert.ReferenceIdeal.Facts) (hGDown : Cert.GDown.Facts) (hGDownIdeal : Cert.GDownIdeal.Facts) (hGDownRefIdeal : Cert.GDownRefIdeal.Facts) (hGGateUp : Cert.GGateUp.Facts) (hGGateUpIdeal : Cert.GGateUpIdeal.Facts) (hGGateUpRefIdeal : Cert.GGateUpRefIdeal.Facts) (hDGateUp : Cert.DGateUp.Facts) (hDGateUpIdeal : Cert.DGateUpIdeal.Facts) (hDGateUpRefIdeal : Cert.DGateUpRefIdeal.Facts) (hDH2 : Cert.DH2.Facts) (hDH2Ideal : Cert.DH2Ideal.Facts) (hDH2RefIdeal : Cert.DH2RefIdeal.Facts) (hGOut : Cert.GOut.Facts) (hGOutIdeal : Cert.GOutIdeal.Facts) (hGOutRefIdeal : Cert.GOutRefIdeal.Facts) (hGIn : Cert.GIn.Facts) (hGInIdeal : Cert.GInIdeal.Facts) (hGInRefIdeal : Cert.GInRefIdeal.Facts) (hDH1 : Cert.DH1.Facts) (hDH1Ideal : Cert.DH1Ideal.Facts) (hDH1RefIdeal : Cert.DH1RefIdeal.Facts) (hInProj : Cert.InProj.Facts) (hInProjIdeal : Cert.InProjIdeal.Facts) (hInProjRefIdeal : Cert.InProjRefIdeal.Facts) (hGateUp : Cert.GateUp.Facts) (hGateUpIdeal : Cert.GateUpIdeal.Facts) (hGateUpRefIdeal : Cert.GateUpRefIdeal.Facts) (hOutProj : Cert.OutProj.Facts) (hOutProjIdeal : Cert.OutProjIdeal.Facts) (hOutProjRefIdeal : Cert.OutProjRefIdeal.Facts) (hDown : Cert.Down.Facts) (hDownIdeal : Cert.DownIdeal.Facts) (hDownRefIdeal : Cert.DownRefIdeal.Facts) (hNormBwd : Cert.NormBwd.Facts) (hNormBwdIdeal : Cert.NormBwdIdeal.Facts) (hNormBwdRefIdeal : Cert.NormBwdRefIdeal.Facts) (hAdamGateUp : Cert.AdamGateUp.Facts) (hAdamGateUpIdeal : Cert.AdamGateUpIdeal.Facts) (hAdamGateUpRefIdeal : Cert.AdamGateUpRefIdeal.Facts) (hAdamDown : Cert.AdamDown.Facts) (hAdamDownIdeal : Cert.AdamDownIdeal.Facts) (hAdamDownRefIdeal : Cert.AdamDownRefIdeal.Facts) (hAdamOut : Cert.AdamOut.Facts) (hAdamOutIdeal : Cert.AdamOutIdeal.Facts) (hAdamOutRefIdeal : Cert.AdamOutRefIdeal.Facts) (hAdamIn : Cert.AdamIn.Facts) (hAdamInIdeal : Cert.AdamInIdeal.Facts) (hAdamInRefIdeal : Cert.AdamInRefIdeal.Facts) (hAdamSmall : Cert.AdamSmall.Facts) (hAdamSmallIdeal : Cert.AdamSmallIdeal.Facts) (hAdamSmallRefIdeal : Cert.AdamSmallRefIdeal.Facts) (hAdamConv : Cert.AdamConv.Facts) (hAdamConvIdeal : Cert.AdamConvIdeal.Facts) (hAdamConvRefIdeal : Cert.AdamConvRefIdeal.Facts) (hConvVBwd : Cert.ConvVBwd.Facts) (hConvVBwdIdeal : Cert.ConvVBwdIdeal.Facts) (hConvVBwdRefIdeal : Cert.ConvVBwdRefIdeal.Facts) (hConvQBwd : Cert.ConvQBwd.Facts) (hConvQBwdIdeal : Cert.ConvQBwdIdeal.Facts) (hConvQBwdRefIdeal : Cert.ConvQBwdRefIdeal.Facts) (hConvKBwd : Cert.ConvKBwd.Facts) (hConvKBwdIdeal : Cert.ConvKBwdIdeal.Facts) (hConvKBwdRefIdeal : Cert.ConvKBwdRefIdeal.Facts) (hCastInto : Cert.CastInto.Facts) (hCastIntoIdeal : Cert.CastIntoIdeal.Facts) (hCastIntoRefIdeal : Cert.CastIntoRefIdeal.Facts) (hNormFwd : Cert.NormFwd.Facts) (hNormFwdIdeal : Cert.NormFwdIdeal.Facts) (hNormFwdRefIdeal : Cert.NormFwdRefIdeal.Facts) (hConvV : Cert.ConvV.Facts) (hConvVIdeal : Cert.ConvVIdeal.Facts) (hConvVRefIdeal : Cert.ConvVRefIdeal.Facts) (hConvQ : Cert.ConvQ.Facts) (hConvQIdeal : Cert.ConvQIdeal.Facts) (hConvQRefIdeal : Cert.ConvQRefIdeal.Facts) (hConvK : Cert.ConvK.Facts) (hConvKIdeal : Cert.ConvKIdeal.Facts) (hConvKRefIdeal : Cert.ConvKRefIdeal.Facts) (hPre_finite : Cert.Pre_finite.Facts) (hPre_finite_up : Cert.Pre_finite_up.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_GDown (hGDown := hGDown)
    ∧ quiescent_GDownIdeal (hGDownIdeal := hGDownIdeal)
    ∧ quiescent_GDownRefIdeal (hGDownRefIdeal := hGDownRefIdeal)
    ∧ quiescent_GGateUp (hGGateUp := hGGateUp)
    ∧ quiescent_GGateUpIdeal (hGGateUpIdeal := hGGateUpIdeal)
    ∧ quiescent_GGateUpRefIdeal (hGGateUpRefIdeal := hGGateUpRefIdeal)
    ∧ quiescent_DGateUp (hDGateUp := hDGateUp)
    ∧ quiescent_DGateUpIdeal (hDGateUpIdeal := hDGateUpIdeal)
    ∧ quiescent_DGateUpIdeal_pre_finite_up (hDGateUpIdeal := hDGateUpIdeal) (hPre_finite_up := hPre_finite_up)
    ∧ quiescent_DGateUpRefIdeal (hDGateUpRefIdeal := hDGateUpRefIdeal)
    ∧ quiescent_DGateUpRefIdeal_pre_finite_up (hDGateUpRefIdeal := hDGateUpRefIdeal) (hPre_finite_up := hPre_finite_up)
    ∧ quiescent_DH2 (hDH2 := hDH2)
    ∧ quiescent_DH2Ideal (hDH2Ideal := hDH2Ideal)
    ∧ quiescent_DH2RefIdeal (hDH2RefIdeal := hDH2RefIdeal)
    ∧ quiescent_GOut (hGOut := hGOut)
    ∧ quiescent_GOutIdeal (hGOutIdeal := hGOutIdeal)
    ∧ quiescent_GOutRefIdeal (hGOutRefIdeal := hGOutRefIdeal)
    ∧ quiescent_GIn (hGIn := hGIn)
    ∧ quiescent_GInIdeal (hGInIdeal := hGInIdeal)
    ∧ quiescent_GInRefIdeal (hGInRefIdeal := hGInRefIdeal)
    ∧ quiescent_DH1 (hDH1 := hDH1)
    ∧ quiescent_DH1Ideal (hDH1Ideal := hDH1Ideal)
    ∧ quiescent_DH1RefIdeal (hDH1RefIdeal := hDH1RefIdeal)
    ∧ quiescent_InProj (hInProj := hInProj)
    ∧ quiescent_InProjIdeal (hInProjIdeal := hInProjIdeal)
    ∧ quiescent_InProjRefIdeal (hInProjRefIdeal := hInProjRefIdeal)
    ∧ quiescent_GateUp (hGateUp := hGateUp)
    ∧ quiescent_GateUpIdeal (hGateUpIdeal := hGateUpIdeal)
    ∧ quiescent_GateUpRefIdeal (hGateUpRefIdeal := hGateUpRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Down (hDown := hDown)
    ∧ quiescent_DownIdeal (hDownIdeal := hDownIdeal)
    ∧ quiescent_DownRefIdeal (hDownRefIdeal := hDownRefIdeal)
    ∧ quiescent_NormBwd (hNormBwd := hNormBwd)
    ∧ quiescent_NormBwdIdeal (hNormBwdIdeal := hNormBwdIdeal)
    ∧ quiescent_NormBwdRefIdeal (hNormBwdRefIdeal := hNormBwdRefIdeal)
    ∧ quiescent_AdamGateUp (hAdamGateUp := hAdamGateUp)
    ∧ quiescent_AdamGateUpIdeal (hAdamGateUpIdeal := hAdamGateUpIdeal)
    ∧ quiescent_AdamGateUpRefIdeal (hAdamGateUpRefIdeal := hAdamGateUpRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_AdamConv (hAdamConv := hAdamConv)
    ∧ quiescent_AdamConvIdeal (hAdamConvIdeal := hAdamConvIdeal)
    ∧ quiescent_AdamConvRefIdeal (hAdamConvRefIdeal := hAdamConvRefIdeal)
    ∧ quiescent_ConvVBwd (hConvVBwd := hConvVBwd)
    ∧ quiescent_ConvVBwdIdeal (hConvVBwdIdeal := hConvVBwdIdeal)
    ∧ quiescent_ConvVBwdRefIdeal (hConvVBwdRefIdeal := hConvVBwdRefIdeal)
    ∧ quiescent_ConvQBwd (hConvQBwd := hConvQBwd)
    ∧ quiescent_ConvQBwdIdeal (hConvQBwdIdeal := hConvQBwdIdeal)
    ∧ quiescent_ConvQBwdRefIdeal (hConvQBwdRefIdeal := hConvQBwdRefIdeal)
    ∧ quiescent_ConvKBwd (hConvKBwd := hConvKBwd)
    ∧ quiescent_ConvKBwdIdeal (hConvKBwdIdeal := hConvKBwdIdeal)
    ∧ quiescent_ConvKBwdRefIdeal (hConvKBwdRefIdeal := hConvKBwdRefIdeal)
    ∧ quiescent_CastInto (hCastInto := hCastInto)
    ∧ quiescent_CastIntoIdeal (hCastIntoIdeal := hCastIntoIdeal)
    ∧ quiescent_CastIntoRefIdeal (hCastIntoRefIdeal := hCastIntoRefIdeal)
    ∧ quiescent_NormFwd (hNormFwd := hNormFwd)
    ∧ quiescent_NormFwdIdeal (hNormFwdIdeal := hNormFwdIdeal)
    ∧ quiescent_NormFwdRefIdeal (hNormFwdRefIdeal := hNormFwdRefIdeal)
    ∧ quiescent_ConvV (hConvV := hConvV)
    ∧ quiescent_ConvVIdeal (hConvVIdeal := hConvVIdeal)
    ∧ quiescent_ConvVRefIdeal (hConvVRefIdeal := hConvVRefIdeal)
    ∧ quiescent_ConvQ (hConvQ := hConvQ)
    ∧ quiescent_ConvQIdeal (hConvQIdeal := hConvQIdeal)
    ∧ quiescent_ConvQRefIdeal (hConvQRefIdeal := hConvQRefIdeal)
    ∧ quiescent_ConvK (hConvK := hConvK)
    ∧ quiescent_ConvKIdeal (hConvKIdeal := hConvKIdeal)
    ∧ quiescent_ConvKRefIdeal (hConvKRefIdeal := hConvKRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_GDown_GDownIdeal
    ∧ algebraic_GDownIdeal_GDownRefIdeal (hGDownIdeal := hGDownIdeal) (hGDownRefIdeal := hGDownRefIdeal)
    ∧ preserves_GGateUp_GGateUpIdeal
    ∧ algebraic_GGateUpIdeal_GGateUpRefIdeal (hGGateUpIdeal := hGGateUpIdeal) (hGGateUpRefIdeal := hGGateUpRefIdeal)
    ∧ preserves_DGateUp_DGateUpIdeal
    ∧ algebraic_DGateUpIdeal_DGateUpRefIdeal_pre_finite_up (hDGateUpIdeal := hDGateUpIdeal) (hDGateUpRefIdeal := hDGateUpRefIdeal) (hPre_finite_up := hPre_finite_up)
    ∧ preserves_DH2_DH2Ideal
    ∧ algebraic_DH2Ideal_DH2RefIdeal (hDH2Ideal := hDH2Ideal) (hDH2RefIdeal := hDH2RefIdeal)
    ∧ preserves_GOut_GOutIdeal
    ∧ algebraic_GOutIdeal_GOutRefIdeal (hGOutIdeal := hGOutIdeal) (hGOutRefIdeal := hGOutRefIdeal)
    ∧ preserves_GIn_GInIdeal
    ∧ algebraic_GInIdeal_GInRefIdeal (hGInIdeal := hGInIdeal) (hGInRefIdeal := hGInRefIdeal)
    ∧ preserves_DH1_DH1Ideal
    ∧ algebraic_DH1Ideal_DH1RefIdeal (hDH1Ideal := hDH1Ideal) (hDH1RefIdeal := hDH1RefIdeal)
    ∧ preserves_InProj_InProjIdeal
    ∧ algebraic_InProjIdeal_InProjRefIdeal (hInProjIdeal := hInProjIdeal) (hInProjRefIdeal := hInProjRefIdeal)
    ∧ preserves_GateUp_GateUpIdeal
    ∧ algebraic_GateUpIdeal_GateUpRefIdeal (hGateUpIdeal := hGateUpIdeal) (hGateUpRefIdeal := hGateUpRefIdeal)
    ∧ preserves_OutProj_OutProjIdeal
    ∧ algebraic_OutProjIdeal_OutProjRefIdeal (hOutProjIdeal := hOutProjIdeal) (hOutProjRefIdeal := hOutProjRefIdeal)
    ∧ preserves_Down_DownIdeal
    ∧ algebraic_DownIdeal_DownRefIdeal (hDownIdeal := hDownIdeal) (hDownRefIdeal := hDownRefIdeal)
    ∧ preserves_NormBwd_NormBwdIdeal
    ∧ algebraic_NormBwdIdeal_NormBwdRefIdeal (hNormBwdIdeal := hNormBwdIdeal) (hNormBwdRefIdeal := hNormBwdRefIdeal)
    ∧ preserves_AdamGateUp_AdamGateUpIdeal
    ∧ algebraic_AdamGateUpIdeal_AdamGateUpRefIdeal (hAdamGateUpIdeal := hAdamGateUpIdeal) (hAdamGateUpRefIdeal := hAdamGateUpRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamIn_AdamInIdeal
    ∧ algebraic_AdamInIdeal_AdamInRefIdeal (hAdamInIdeal := hAdamInIdeal) (hAdamInRefIdeal := hAdamInRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_AdamConv_AdamConvIdeal
    ∧ algebraic_AdamConvIdeal_AdamConvRefIdeal (hAdamConvIdeal := hAdamConvIdeal) (hAdamConvRefIdeal := hAdamConvRefIdeal)
    ∧ preserves_ConvVBwd_ConvVBwdIdeal
    ∧ algebraic_ConvVBwdIdeal_ConvVBwdRefIdeal (hConvVBwdIdeal := hConvVBwdIdeal) (hConvVBwdRefIdeal := hConvVBwdRefIdeal)
    ∧ preserves_ConvQBwd_ConvQBwdIdeal
    ∧ algebraic_ConvQBwdIdeal_ConvQBwdRefIdeal (hConvQBwdIdeal := hConvQBwdIdeal) (hConvQBwdRefIdeal := hConvQBwdRefIdeal)
    ∧ preserves_ConvKBwd_ConvKBwdIdeal
    ∧ algebraic_ConvKBwdIdeal_ConvKBwdRefIdeal (hConvKBwdIdeal := hConvKBwdIdeal) (hConvKBwdRefIdeal := hConvKBwdRefIdeal)
    ∧ preserves_CastInto_CastIntoIdeal
    ∧ algebraic_CastIntoIdeal_CastIntoRefIdeal (hCastIntoIdeal := hCastIntoIdeal) (hCastIntoRefIdeal := hCastIntoRefIdeal)
    ∧ preserves_NormFwd_NormFwdIdeal
    ∧ algebraic_NormFwdIdeal_NormFwdRefIdeal (hNormFwdIdeal := hNormFwdIdeal) (hNormFwdRefIdeal := hNormFwdRefIdeal)
    ∧ preserves_ConvV_ConvVIdeal
    ∧ algebraic_ConvVIdeal_ConvVRefIdeal (hConvVIdeal := hConvVIdeal) (hConvVRefIdeal := hConvVRefIdeal)
    ∧ preserves_ConvQ_ConvQIdeal
    ∧ algebraic_ConvQIdeal_ConvQRefIdeal (hConvQIdeal := hConvQIdeal) (hConvQRefIdeal := hConvQRefIdeal)
    ∧ preserves_ConvK_ConvKIdeal
    ∧ algebraic_ConvKIdeal_ConvKRefIdeal (hConvKIdeal := hConvKIdeal) (hConvKRefIdeal := hConvKRefIdeal)
-- ==== Pre_finite.lean ====
abbrev S4096x1024 : Shape := ⟨2, ![4096, 1024]⟩
abbrev S4096x8x64 : Shape := ⟨3, ![4096, 8, 64]⟩
abbrev S4096x8 : Shape := ⟨2, ![4096, 8]⟩
abbrev S64x8x128x128 : Shape := ⟨4, ![64, 8, 128, 128]⟩
abbrev S_ : Shape := ⟨0, ![]⟩

class Facts : Prop where
  bcast_S_S4096x1024 : S_.BroadcastsInDim S4096x1024 (![] : Fin 0 → Fin S4096x1024.rank)
  bitsLt_bf16_f32 : FTy.bits .bf16 < FTy.bits .f32
  bcast_S_S4096x8x64 : S_.BroadcastsInDim S4096x8x64 (![] : Fin 0 → Fin S4096x8x64.rank)
  bcast_S_S4096x8 : S_.BroadcastsInDim S4096x8 (![] : Fin 0 → Fin S4096x8.rank)
  bcast_S_S64x8x128x128 : S_.BroadcastsInDim S64x8x128x128 (![] : Fin 0 → Fin S64x8x128x128.rank)

variable [Facts]

def fn_part1 {F : FTy → Type} [FloatOps F] (main_arg5 : FVec F S4096x8 .f32) (main_arg6 : FVec F S4096x1024 .bf16) (main_arg7 : FVec F S64x8x128x128 .f32) (main_v2 : IVec S4096x1024 1) (main_v6 : IVec S4096x1024 1) (main_v10 : IVec S4096x8x64 1) (main_v14 : IVec S4096x1024 1) (main_v18 : IVec S4096x1024 1) : IVec S4096x1024 1 × IVec S4096x1024 1 × IVec S4096x8x64 1 × IVec S4096x1024 1 × IVec S4096x1024 1 × IVec S4096x8 1 × IVec S4096x1024 1 × IVec S64x8x128x128 1 :=
  let main_v19 : FVec F S4096x8 .f32 := Host.absf main_arg5
  let main_cst_4 : FVec F S_ .f32 := constant S_ .f32 0x7F800000#32
  let main_v20 : FVec F S4096x8 .f32 := broadcastInDim S4096x8 ![] bcast_S_S4096x8 main_cst_4
  let main_v21 : IVec S4096x8 1 := cmpf .olt main_v19 main_v20
  let main_v22 : FVec F S4096x1024 .f32 := (extf .f32 · bitsLt_bf16_f32) main_arg6
  let main_v23 : FVec F S4096x1024 .f32 := Host.absf main_v22
  let main_cst_5 : FVec F S_ .f32 := constant S_ .f32 0x7F800000#32
  let main_v24 : FVec F S4096x1024 .f32 := broadcastInDim S4096x1024 ![] bcast_S_S4096x1024 main_cst_5
  let main_v25 : IVec S4096x1024 1 := cmpf .olt main_v23 main_v24
  let main_v26 : FVec F S64x8x128x128 .f32 := Host.absf main_arg7
  let main_cst_6 : FVec F S_ .f32 := constant S_ .f32 0x7F800000#32
  let main_v27 : FVec F S64x8x128x128 .f32 := broadcastInDim S64x8x128x128 ![] bcast_S_S64x8x128x128 main_cst_6
  let main_v28 : IVec S64x8x128x128 1 := cmpf .olt main_v26 main_v27
  (main_v2, main_v6, main_v10, main_v14, main_v18, main_v21, main_v25, main_v28)

def fn {F : FTy → Type} [FloatOps F] (main_arg0 : FVec F S4096x1024 .f32) (main_arg1 : FVec F S4096x1024 .bf16) (main_arg2 : FVec F S4096x8x64 .bf16) (main_arg3 : FVec F S4096x1024 .bf16) (main_arg4 : FVec F S4096x1024 .bf16) (main_arg5 : FVec F S4096x8 .f32) (main_arg6 : FVec F S4096x1024 .bf16) (main_arg7 : FVec F S64x8x128x128 .f32) : IVec S4096x1024 1 × IVec S4096x1024 1 × IVec S4096x8x64 1 × IVec S4096x1024 1 × IVec S4096x1024 1 × IVec S4096x8 1 × IVec S4096x1024 1 × IVec S64x8x128x128 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := (extf .f32 · bitsLt_bf16_f32) main_arg1
  let main_v4 : FVec F S4096x1024 .f32 := Host.absf main_v3
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_v7 : FVec F S4096x8x64 .f32 := (extf .f32 · bitsLt_bf16_f32) main_arg2
  let main_v8 : FVec F S4096x8x64 .f32 := Host.absf main_v7
  let main_cst_1 : FVec F S_ .f32 := constant S_ .f32 0x7F800000#32
  let main_v9 : FVec F S4096x8x64 .f32 := broadcastInDim S4096x8x64 ![] bcast_S_S4096x8x64 main_cst_1
  let main_v10 : IVec S4096x8x64 1 := cmpf .olt main_v8 main_v9
  let main_v11 : FVec F S4096x1024 .f32 := (extf .f32 · bitsLt_bf16_f32) main_arg3
  let main_v12 : FVec F S4096x1024 .f32 := Host.absf main_v11
  let main_cst_2 : FVec F S_ .f32 := constant S_ .f32 0x7F800000#32
  let main_v13 : FVec F S4096x1024 .f32 := broadcastInDim S4096x1024 ![] bcast_S_S4096x1024 main_cst_2
  let main_v14 : IVec S4096x1024 1 := cmpf .olt main_v12 main_v13
  let main_v15 : FVec F S4096x1024 .f32 := (extf .f32 · bitsLt_bf16_f32) main_arg4
  let main_v16 : FVec F S4096x1024 .f32 := Host.absf main_v15
  let main_cst_3 : FVec F S_ .f32 := constant S_ .f32 0x7F800000#32
  let main_v17 : FVec F S4096x1024 .f32 := broadcastInDim S4096x1024 ![] bcast_S_S4096x1024 main_cst_3
  let main_v18 : IVec S4096x1024 1 := cmpf .olt main_v16 main_v17
  fn_part1 (F := F) main_arg5 main_arg6 main_arg7 main_v2 main_v6 main_v10 main_v14 main_v18
-- ==== Pre_finite_up.lean ====
abbrev S4096x2048 : Shape := ⟨2, ![4096, 2048]⟩
abbrev S5632x2048 : Shape := ⟨2, ![5632, 2048]⟩
abbrev S2x4096x5632 : Shape := ⟨3, ![2, 4096, 5632]⟩
abbrev S8x128 : Shape := ⟨2, ![8, 128]⟩
abbrev S1x4096x5632 : Shape := ⟨3, ![1, 4096, 5632]⟩
abbrev S4096x5632 : Shape := ⟨2, ![4096, 5632]⟩
abbrev S_ : Shape := ⟨0, ![]⟩

class Facts : Prop where
  slices_S2x4096x5632_S1x4096x5632_1_0_0 : S2x4096x5632.Slices ![1, 0, 0] S1x4096x5632
  shapeCasts_S1x4096x5632_S4096x5632 : S1x4096x5632.ShapeCasts S4096x5632
  bitsLt_bf16_f32 : FTy.bits .bf16 < FTy.bits .f32
  bcast_S_S4096x2048 : S_.BroadcastsInDim S4096x2048 (![] : Fin 0 → Fin S4096x2048.rank)
  bcast_S_S5632x2048 : S_.BroadcastsInDim S5632x2048 (![] : Fin 0 → Fin S5632x2048.rank)
  bcast_S_S4096x5632 : S_.BroadcastsInDim S4096x5632 (![] : Fin 0 → Fin S4096x5632.rank)

variable [Facts]

def fn {F : FTy → Type} [FloatOps F] (main_arg0 : FVec F S4096x2048 .bf16) (main_arg1 : FVec F S5632x2048 .bf16) (main_arg2 : FVec F S2x4096x5632 .bf16) (main_arg3 : FVec F S8x128 .f32) : IVec S4096x2048 1 × IVec S5632x2048 1 × IVec S4096x5632 1 :=
  let main_v0 : FVec F S1x4096x5632 .bf16 := (extractStridedSlice S1x4096x5632 ![1, 0, 0] · slices_S2x4096x5632_S1x4096x5632_1_0_0) main_arg2
  let main_v1 : FVec F S4096x5632 .bf16 := shapeCast S4096x5632 main_v0 shapeCasts_S1x4096x5632_S4096x5632
  let main_v2 : FVec F S4096x2048 .f32 := (extf .f32 · bitsLt_bf16_f32) main_arg0
  let main_v3 : FVec F S4096x2048 .f32 := Host.absf main_v2
  let main_cst : FVec F S_ .f32 := constant S_ .f32 0x7F800000#32
  let main_v4 : FVec F S4096x2048 .f32 := broadcastInDim S4096x2048 ![] bcast_S_S4096x2048 main_cst
  let main_v5 : IVec S4096x2048 1 := cmpf .olt main_v3 main_v4
  let main_v6 : FVec F S5632x2048 .f32 := (extf .f32 · bitsLt_bf16_f32) main_arg1
  let main_v7 : FVec F S5632x2048 .f32 := Host.absf main_v6
  let main_cst_0 : FVec F S_ .f32 := constant S_ .f32 0x7F800000#32
  let main_v8 : FVec F S5632x2048 .f32 := broadcastInDim S5632x2048 ![] bcast_S_S5632x2048 main_cst_0
  let main_v9 : IVec S5632x2048 1 := cmpf .olt main_v7 main_v8
  let main_v10 : FVec F S4096x5632 .f32 := (extf .f32 · bitsLt_bf16_f32) main_v1
  let main_v11 : FVec F S4096x5632 .f32 := Host.absf main_v10
  let main_cst_1 : FVec F S_ .f32 := constant S_ .f32 0x7F800000#32
  let main_v12 : FVec F S4096x5632 .f32 := broadcastInDim S4096x5632 ![] bcast_S_S4096x5632 main_cst_1
  let main_v13 : IVec S4096x5632 1 := cmpf .olt main_v11 main_v12
  (main_v5, main_v9, main_v13)
-- ==== Kernel.lean ====
abbrev S4096x1024 : Shape := ⟨2, ![4096, 1024]⟩
abbrev S4096x8x64 : Shape := ⟨3, ![4096, 8, 64]⟩
abbrev S4096x8 : Shape := ⟨2, ![4096, 8]⟩
abbrev S64x8x128x128 : Shape := ⟨4, ![64, 8, 128, 128]⟩
abbrev S4096x1x1 : Shape := ⟨3, ![4096, 1, 1]⟩
abbrev S_ : Shape := ⟨0, ![]⟩
abbrev S4096x8x128 : Shape := ⟨3, ![4096, 8, 128]⟩
abbrev S4096x8x1 : Shape := ⟨3, ![4096, 8, 1]⟩
abbrev S512x1024 : Shape := ⟨2, ![512, 1024]⟩
abbrev S256x1024 : Shape := ⟨2, ![256, 1024]⟩
abbrev S4x8x128x128 : Shape := ⟨4, ![4, 8, 128, 128]⟩
abbrev S32x1024 : Shape := ⟨2, ![32, 1024]⟩
abbrev S8x128x128 : Shape := ⟨3, ![8, 128, 128]⟩
abbrev S1x128x128 : Shape := ⟨3, ![1, 128, 128]⟩
abbrev S128x128 : Shape := ⟨2, ![128, 128]⟩
abbrev S1x1x128x128 : Shape := ⟨4, ![1, 1, 128, 128]⟩
abbrev S64x128 : Shape := ⟨2, ![64, 128]⟩
abbrev S128 : Shape := ⟨1, ![128]⟩
abbrev S128x1 : Shape := ⟨2, ![128, 1]⟩
abbrev S1 : Shape := ⟨1, ![1]⟩
abbrev S1x1 : Shape := ⟨2, ![1, 1]⟩
abbrev S8x128 : Shape := ⟨2, ![8, 128]⟩
abbrev S1x128 : Shape := ⟨2, ![1, 128]⟩

abbrev nBuf : Space → Nat
  | .hbm => 68
  | .vmem => 27
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4096x8x64, .bf16⟩
  | .hbm, ⟨3, _⟩ => ⟨S4096x1024, .bf16⟩
  | .hbm, ⟨4, _⟩ => ⟨S4096x1024, .bf16⟩
  | .hbm, ⟨5, _⟩ => ⟨S4096x8, .f32⟩
  | .hbm, ⟨6, _⟩ => ⟨S4096x1024, .bf16⟩
  | .hbm, ⟨7, _⟩ => ⟨S64x8x128x128, .f32⟩
  | .hbm, ⟨8, _⟩ => ⟨S4096x1x1, .i32⟩
  | .hbm, ⟨9, _⟩ => ⟨S_, .i32⟩
  | .hbm, ⟨10, _⟩ => ⟨S_, .i32⟩
  | .hbm, ⟨11, _⟩ => ⟨S4096x1x1, .i32⟩
  | .hbm, ⟨12, _⟩ => ⟨S4096x1x1, .i32⟩
  | .hbm, ⟨13, _⟩ => ⟨S4096x1x1, .i32⟩
  | .hbm, ⟨14, _⟩ => ⟨S_, .i32⟩
  | .hbm, ⟨15, _⟩ => ⟨S4096x1x1, .i32⟩
  | .hbm, ⟨16, _⟩ => ⟨S4096x1x1, .i1⟩
  | .hbm, ⟨17, _⟩ => ⟨S4096x1x1, .i32⟩
  | .hbm, ⟨18, _⟩ => ⟨S4096x1x1, .i32⟩
  | .hbm, ⟨19, _⟩ => ⟨S_, .i32⟩
  | .hbm, ⟨20, _⟩ => ⟨S4096x1x1, .i32⟩
  | .hbm, ⟨21, _⟩ => ⟨S4096x1x1, .i1⟩
  | .hbm, ⟨22, _⟩ => ⟨S4096x1x1, .i1⟩
  | .hbm, ⟨23, _⟩ => ⟨S_, .i32⟩
  | .hbm, ⟨24, _⟩ => ⟨S4096x1x1, .i32⟩
  | .hbm, ⟨25, _⟩ => ⟨S4096x1x1, .i32⟩
  | .hbm, ⟨26, _⟩ => ⟨S4096x1x1, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i1⟩
  | .hbm, ⟨31, _⟩ => ⟨S_, .i32⟩
  | .hbm, ⟨32, _⟩ => ⟨S_, .i32⟩
  | .hbm, ⟨33, _⟩ => ⟨S4096x1x1, .i32⟩
  | .hbm, ⟨34, _⟩ => ⟨S4096x1x1, .i32⟩
  | .hbm, ⟨35, _⟩ => ⟨S_, .i32⟩
  | .hbm, ⟨36, _⟩ => ⟨S4096x1x1, .i32⟩
  | .hbm, ⟨37, _⟩ => ⟨S4096x1x1, .i1⟩
  | .hbm, ⟨38, _⟩ => ⟨S_, .i32⟩
  | .hbm, ⟨39, _⟩ => ⟨S4096x1x1, .i32⟩
  | .hbm, ⟨40, _⟩ => ⟨S4096x1x1, .i1⟩
  | .hbm, ⟨41, _⟩ => ⟨S_, .i32⟩
  | .hbm, ⟨42, _⟩ => ⟨S_, .i1⟩
  | .hbm, ⟨43, _⟩ => ⟨S4096x1x1, .i1⟩
  | .hbm, ⟨44, _⟩ => ⟨S4096x1x1, .i1⟩
  | .hbm, ⟨45, _⟩ => ⟨S4096x1x1, .i1⟩
  | .hbm, ⟨46, _⟩ => ⟨S4096x1x1, .i32⟩
  | .hbm, ⟨47, _⟩ => ⟨S4096x1x1, .i32⟩
  | .hbm, ⟨48, _⟩ => ⟨S4096x1x1, .i32⟩
  | .hbm, ⟨49, _⟩ => ⟨S_, .i32⟩
  | .hbm, ⟨50, _⟩ => ⟨S4096x1x1, .i32⟩
  | .hbm, ⟨51, _⟩ => ⟨S4096x1x1, .i1⟩
  | .hbm, ⟨52, _⟩ => ⟨S_, .bf16⟩
  | .hbm, ⟨53, _⟩ => ⟨S4096x8x64, .bf16⟩
  | .hbm, ⟨54, _⟩ => ⟨S4096x8x64, .i1⟩
  | .hbm, ⟨55, _⟩ => ⟨S4096x8x64, .bf16⟩
  | .hbm, ⟨56, _⟩ => ⟨S4096x8x64, .i1⟩
  | .hbm, ⟨57, _⟩ => ⟨S4096x8x64, .bf16⟩
  | .hbm, ⟨58, _⟩ => ⟨S4096x8x128, .bf16⟩
  | .hbm, ⟨59, _⟩ => ⟨S4096x1024, .bf16⟩
  | .hbm, ⟨60, _⟩ => ⟨S4096x8x1, .f32⟩
  | .hbm, ⟨61, _⟩ => ⟨S4096x8x128, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .f32⟩
  | .local _ .vmem, ⟨11, _⟩ => ⟨S256x1024, .f32⟩
  | .local _ .vmem, ⟨12, _⟩ => ⟨S256x1024, .bf16⟩
  | .local _ .vmem, ⟨13, _⟩ => ⟨S256x1024, .bf16⟩
  | .local _ .vmem, ⟨14, _⟩ => ⟨S4x8x128x128, .f32⟩
  | .local _ .vmem, ⟨15, _⟩ => ⟨S4x8x128x128, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S32x1024, .f32⟩
  | .local _ .vmem, ⟨25, _⟩ => ⟨S32x1024, .f32⟩
  | .local _ .vmem, ⟨26, _⟩ => ⟨S8x128x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v1 : Ref sig .tc := ⟨.hbm, 26, rfl⟩
abbrev main_c_0 : Ref sig .tc := ⟨.hbm, 27, rfl⟩
abbrev main_call1_v0 : Ref sig .tc := ⟨.hbm, 28, rfl⟩
abbrev main_call1_c : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_c_1 : Ref sig .tc := ⟨.hbm, 35, rfl⟩
abbrev main_call1_v5 : Ref sig .tc := ⟨.hbm, 36, rfl⟩
abbrev main_call1_v6 : Ref sig .tc := ⟨.hbm, 37, rfl⟩
abbrev main_call1_c_2 : Ref sig .tc := ⟨.hbm, 38, rfl⟩
abbrev main_call1_v7 : Ref sig .tc := ⟨.hbm, 39, rfl⟩
abbrev main_call1_v8 : Ref sig .tc := ⟨.hbm, 40, rfl⟩
abbrev main_call1_c_3 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_v2 : Ref sig .tc := ⟨.hbm, 48, rfl⟩
abbrev main_c_1 : Ref sig .tc := ⟨.hbm, 49, rfl⟩
abbrev main_v3 : Ref sig .tc := ⟨.hbm, 50, rfl⟩
abbrev main_v4 : Ref sig .tc := ⟨.hbm, 51, rfl⟩
abbrev main_cst : Ref sig .tc := ⟨.hbm, 52, rfl⟩
abbrev main_v5 : Ref sig .tc := ⟨.hbm, 53, rfl⟩
abbrev main_call2_v0 : Ref sig .tc := ⟨.hbm, 54, rfl⟩
abbrev main_v6 : Ref sig .tc := ⟨.hbm, 55, rfl⟩
abbrev main_call3_v0 : Ref sig .tc := ⟨.hbm, 56, rfl⟩
abbrev main_v7 : Ref sig .tc := ⟨.hbm, 57, rfl⟩
abbrev main_v8 : Ref sig .tc := ⟨.hbm, 58, rfl⟩
abbrev main_v9 : Ref sig .tc := ⟨.hbm, 59, rfl⟩
abbrev main_v10 : Ref sig .tc := ⟨.hbm, 60, rfl⟩
abbrev main_v11 : Ref sig .tc := ⟨.hbm, 61, rfl⟩
abbrev main_v12 : Ref sig .tc := ⟨.hbm, 62, rfl⟩
abbrev main_v13_0 : Ref sig .tc := ⟨.hbm, 63, rfl⟩
abbrev main_v13_1 : Ref sig .tc := ⟨.hbm, 64, rfl⟩
abbrev main_v13_2 : Ref sig .tc := ⟨.hbm, 65, rfl⟩
abbrev main_v13_3 : Ref sig .tc := ⟨.hbm, 66, rfl⟩
abbrev main_v13_4 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_7 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_8 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x8x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S32x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceIdeal.lean ====
abbrev S4096x1024 : Shape := ⟨2, ![4096, 1024]⟩
abbrev S4096x8x64 : Shape := ⟨3, ![4096, 8, 64]⟩
abbrev S4096x8 : Shape := ⟨2, ![4096, 8]⟩
abbrev S64x8x128x128 : Shape := ⟨4, ![64, 8, 128, 128]⟩
abbrev S64x64x8x64 : Shape := ⟨4, ![64, 64, 8, 64]⟩
abbrev S64x8x64x64 : Shape := ⟨4, ![64, 8, 64, 64]⟩
abbrev S64x64x8 : Shape := ⟨3, ![64, 64, 8]⟩
abbrev S64x1x8 : Shape := ⟨3, ![64, 1, 8]⟩
abbrev S64x8 : Shape := ⟨2, ![64, 8]⟩
abbrev S64x64x8x128 : Shape := ⟨4, ![64, 64, 8, 128]⟩
abbrev S64x8x64x128 : Shape := ⟨4, ![64, 8, 64, 128]⟩
abbrev S_ : Shape := ⟨0, ![]⟩
abbrev S8x128x128 : Shape := ⟨3, ![8, 128, 128]⟩
abbrev S1x8x64x128 : Shape := ⟨4, ![1, 8, 64, 128]⟩
abbrev S8x64x128 : Shape := ⟨3, ![8, 64, 128]⟩
abbrev S1x8x128x128 : Shape := ⟨4, ![1, 8, 128, 128]⟩
abbrev S1x8x64x64 : Shape := ⟨4, ![1, 8, 64, 64]⟩
abbrev S8x64x64 : Shape := ⟨3, ![8, 64, 64]⟩
abbrev S1x8 : Shape := ⟨2, ![1, 8]⟩
abbrev S8 : Shape := ⟨1, ![8]⟩
abbrev S8x1x1 : Shape := ⟨3, ![8, 1, 1]⟩
abbrev S8x128x64 : Shape := ⟨3, ![8, 128, 64]⟩
abbrev S64x1x8x1 : Shape := ⟨4, ![64, 1, 8, 1]⟩
abbrev S64x8x8x128 : Shape := ⟨4, ![64, 8, 8, 128]⟩
abbrev S512x1024 : Shape := ⟨2, ![512, 1024]⟩

abbrev nBuf : Space → Nat
  | .hbm => 174
  | .vmem => 0
  | .smem => 0
  | _ => 0

abbrev hbmTy0_0 (i : Nat) : BufTy := match i % 128 with
  | 0 => ⟨S4096x1024, .f32⟩
  | 1 => ⟨S4096x1024, .bf16⟩
  | 2 => ⟨S4096x8x64, .bf16⟩
  | 3 => ⟨S4096x1024, .bf16⟩
  | 4 => ⟨S4096x1024, .bf16⟩
  | 5 => ⟨S4096x8, .f32⟩
  | 6 => ⟨S4096x1024, .bf16⟩
  | 7 => ⟨S64x8x128x128, .f32⟩
  | 8 => ⟨S4096x8x64, .f32⟩
  | 9 => ⟨S64x64x8x64, .f32⟩
  | 10 => ⟨S64x8x64x64, .f32⟩
  | 11 => ⟨S64x64x8, .f32⟩
  | 12 => ⟨S64x1x8, .f32⟩
  | 13 => ⟨S64x8, .f32⟩
  | 14 => ⟨S64x8, .f32⟩
  | 15 => ⟨S64x64x8x128, .f32⟩
  | 16 => ⟨S64x8x64x128, .f32⟩
  | 17 => ⟨S4096x1024, .f32⟩
  | 18 => ⟨S64x64x8x128, .f32⟩
  | 19 => ⟨S64x8x64x128, .f32⟩
  | 20 => ⟨S4096x1024, .f32⟩
  | 21 => ⟨S64x64x8x128, .f32⟩
  | 22 => ⟨S64x8x64x128, .f32⟩
  | 23 => ⟨S4096x1024, .f32⟩
  | 24 => ⟨S64x64x8x128, .f32⟩
  | 25 => ⟨S64x8x64x128, .f32⟩
  | 26 => ⟨S4096x1024, .f32⟩
  | 27 => ⟨S64x64x8x128, .f32⟩
  | 28 => ⟨S64x8x64x128, .f32⟩
  | 29 => ⟨S_, .f32⟩
  | 30 => ⟨S8x128x128, .f32⟩
  | 31 => ⟨S_, .f32⟩
  | 32 => ⟨S64x8x64x128, .f32⟩
  | 33 => ⟨S_, .f32⟩
  | 34 => ⟨S64x8x64x128, .f32⟩
  | 35 => ⟨S_, .f32⟩
  | 36 => ⟨S64x8x64x128, .f32⟩
  | 37 => ⟨S_, .f32⟩
  | 38 => ⟨S64x8x64x128, .f32⟩
  | 39 => ⟨S_, .f32⟩
  | 40 => ⟨S64x8, .f32⟩
  | 41 => ⟨S_, .i32⟩
  | 42 => ⟨S64x8x64x128, .f32⟩
  | 43 => ⟨S64x8x128x128, .f32⟩
  | 44 => ⟨S64x8x64x128, .f32⟩
  | 45 => ⟨S64x8x64x128, .f32⟩
  | 46 => ⟨S64x8x64x64, .f32⟩
  | 47 => ⟨S64x8x64x128, .f32⟩
  | 48 => ⟨S64x8x64x128, .f32⟩
  | 49 => ⟨S64x8, .f32⟩
  | 50 => ⟨S_, .i32⟩
  | 51 => ⟨S8x128x128, .f32⟩
  | 52 => ⟨S64x8x64x128, .f32⟩
  | 53 => ⟨S64x8x64x128, .f32⟩
  | 54 => ⟨S64x8x64x128, .f32⟩
  | 55 => ⟨S64x8x64x128, .f32⟩
  | 56 => ⟨S64x8, .f32⟩
  | 57 => ⟨S_, .i32⟩
  | 58 => ⟨S_, .i1⟩
  | 59 => ⟨S_, .i32⟩
  | 60 => ⟨S_, .i32⟩
  | 61 => ⟨S_, .i32⟩
  | 62 => ⟨S_, .i32⟩
  | 63 => ⟨S_, .i32⟩
  | 64 => ⟨S_, .i32⟩
  | 65 => ⟨S_, .i32⟩
  | 66 => ⟨S1x8x64x128, .f32⟩
  | 67 => ⟨S8x64x128, .f32⟩
  | 68 => ⟨S_, .i32⟩
  | 69 => ⟨S_, .i32⟩
  | 70 => ⟨S_, .i32⟩
  | 71 => ⟨S1x8x128x128, .f32⟩
  | 72 => ⟨S8x128x128, .f32⟩
  | 73 => ⟨S_, .i32⟩
  | 74 => ⟨S_, .i32⟩
  | 75 => ⟨S_, .i32⟩
  | 76 => ⟨S1x8x64x128, .f32⟩
  | 77 => ⟨S8x64x128, .f32⟩
  | 78 => ⟨S_, .i32⟩
  | 79 => ⟨S_, .i32⟩
  | 80 => ⟨S_, .i32⟩
  | 81 => ⟨S1x8x64x128, .f32⟩
  | 82 => ⟨S8x64x128, .f32⟩
  | 83 => ⟨S_, .i32⟩
  | 84 => ⟨S_, .i32⟩
  | 85 => ⟨S_, .i32⟩
  | 86 => ⟨S1x8x64x64, .f32⟩
  | 87 => ⟨S8x64x64, .f32⟩
  | 88 => ⟨S_, .i32⟩
  | 89 => ⟨S_, .i32⟩
  | 90 => ⟨S_, .i32⟩
  | 91 => ⟨S1x8x64x128, .f32⟩
  | 92 => ⟨S8x64x128, .f32⟩
  | 93 => ⟨S_, .i32⟩
  | 94 => ⟨S_, .i32⟩
  | 95 => ⟨S_, .i32⟩
  | 96 => ⟨S1x8x64x128, .f32⟩
  | 97 => ⟨S8x64x128, .f32⟩
  | 98 => ⟨S_, .i32⟩
  | 99 => ⟨S1x8, .f32⟩
  | 100 => ⟨S8, .f32⟩
  | 101 => ⟨S8x64x128, .f32⟩
  | 102 => ⟨S8x64x128, .f32⟩
  | 103 => ⟨S8x64x128, .f32⟩
  | 104 => ⟨S8x64x128, .f32⟩
  | 105 => ⟨S8x64x128, .f32⟩
  | 106 => ⟨S8x64x128, .f32⟩
  | 107 => ⟨S8x64x128, .f32⟩
  | 108 => ⟨S8x1x1, .f32⟩
  | 109 => ⟨S8x128x128, .f32⟩
  | 110 => ⟨S8x128x128, .f32⟩
  | 111 => ⟨S8x128x128, .f32⟩
  | 112 => ⟨S8x128x128, .f32⟩
  | 113 => ⟨S8x128x64, .f32⟩
  | 114 => ⟨S8x64x128, .f32⟩
  | 115 => ⟨S8x128x64, .f32⟩
  | 116 => ⟨S8x64x128, .f32⟩
  | 117 => ⟨S8x128x128, .f32⟩
  | 118 => ⟨S_, .f32⟩
  | 119 => ⟨S8, .f32⟩
  | 120 => ⟨S8x1x1, .f32⟩
  | 121 => ⟨S8x128x128, .f32⟩
  | 122 => ⟨S8x128x128, .f32⟩
  | 123 => ⟨S_, .f32⟩
  | 124 => ⟨S8, .f32⟩
  | 125 => ⟨S8x128x64, .f32⟩
  | 126 => ⟨S8x64x128, .f32⟩
  | 127 => ⟨S8x64x128, .f32⟩
  | _ => ⟨S4096x1024, .f32⟩

abbrev hbmTy0_1 (i : Nat) : BufTy := match i % 128 with
  | 0 => ⟨S8x64x64, .f32⟩
  | 1 => ⟨S8x128x128, .f32⟩
  | 2 => ⟨S8x128x128, .f32⟩
  | 3 => ⟨S8x128x128, .f32⟩
  | 4 => ⟨S8x64x128, .f32⟩
  | 5 => ⟨S8x64x128, .f32⟩
  | 6 => ⟨S8x128x128, .f32⟩
  | 7 => ⟨S8x128x128, .f32⟩
  | 8 => ⟨S8x128x128, .f32⟩
  | 9 => ⟨S8x64x128, .f32⟩
  | 10 => ⟨S1x8x64x128, .f32⟩
  | 11 => ⟨S_, .i32⟩
  | 12 => ⟨S_, .i32⟩
  | 13 => ⟨S_, .i32⟩
  | 14 => ⟨S64x8x64x128, .f32⟩
  | 15 => ⟨S1x8x64x128, .f32⟩
  | 16 => ⟨S_, .i32⟩
  | 17 => ⟨S_, .i32⟩
  | 18 => ⟨S_, .i32⟩
  | 19 => ⟨S64x8x64x128, .f32⟩
  | 20 => ⟨S1x8x64x128, .f32⟩
  | 21 => ⟨S_, .i32⟩
  | 22 => ⟨S_, .i32⟩
  | 23 => ⟨S_, .i32⟩
  | 24 => ⟨S64x8x64x128, .f32⟩
  | 25 => ⟨S1x8x64x128, .f32⟩
  | 26 => ⟨S_, .i32⟩
  | 27 => ⟨S_, .i32⟩
  | 28 => ⟨S_, .i32⟩
  | 29 => ⟨S64x8x64x128, .f32⟩
  | 30 => ⟨S1x8, .f32⟩
  | 31 => ⟨S_, .i32⟩
  | 32 => ⟨S64x8, .f32⟩
  | 33 => ⟨S_, .i32⟩
  | 34 => ⟨S_, .i32⟩
  | 35 => ⟨S64x1x8x1, .f32⟩
  | 36 => ⟨S64x8x8x128, .f32⟩
  | 37 => ⟨S512x1024, .f32⟩
  | 38 => ⟨S64x64x8x128, .f32⟩
  | 39 => ⟨S4096x1024, .f32⟩
  | 40 => ⟨S64x64x8x128, .f32⟩
  | 41 => ⟨S4096x1024, .f32⟩
  | 42 => ⟨S64x64x8x128, .f32⟩
  | 43 => ⟨S4096x1024, .f32⟩
  | 44 => ⟨S64x64x8x128, .f32⟩
  | 45 => ⟨S4096x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst : Ref sig .tc := ⟨.hbm, 29, rfl⟩
abbrev main_v21 : Ref sig .tc := ⟨.hbm, 30, rfl⟩
abbrev main_cst_0 : Ref sig .tc := ⟨.hbm, 31, rfl⟩
abbrev main_v22 : Ref sig .tc := ⟨.hbm, 32, rfl⟩
abbrev main_cst_1 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_c : Ref sig .tc := ⟨.hbm, 41, rfl⟩
abbrev main_v27_0 : Ref sig .tc := ⟨.hbm, 42, rfl⟩
abbrev main_v27_1 : Ref sig .tc := ⟨.hbm, 43, rfl⟩
abbrev main_v27_2 : Ref sig .tc := ⟨.hbm, 44, rfl⟩
abbrev main_v27_3 : Ref sig .tc := ⟨.hbm, 45, rfl⟩
abbrev main_v27_4 : Ref sig .tc := ⟨.hbm, 46, rfl⟩
abbrev main_v27_5 : Ref sig .tc := ⟨.hbm, 47, rfl⟩
abbrev main_v27_6 : Ref sig .tc := ⟨.hbm, 48, rfl⟩
abbrev main_v27_7 : Ref sig .tc := ⟨.hbm, 49, rfl⟩
abbrev main_v27_8 : Ref sig .tc := ⟨.hbm, 50, rfl⟩
abbrev main_v27_9 : Ref sig .tc := ⟨.hbm, 51, rfl⟩
abbrev main_v27_10 : Ref sig .tc := ⟨.hbm, 52, rfl⟩
abbrev main_v27_11 : Ref sig .tc := ⟨.hbm, 53, rfl⟩
abbrev main_v27_12 : Ref sig .tc := ⟨.hbm, 54, rfl⟩
abbrev main_v27_13 : Ref sig .tc := ⟨.hbm, 55, rfl⟩
abbrev main_v27_14 : Ref sig .tc := ⟨.hbm, 56, rfl⟩
abbrev main_while0c_c_19 : Ref sig .tc := ⟨.hbm, 57, rfl⟩
abbrev main_while0c_v39 : Ref sig .tc := ⟨.hbm, 58, rfl⟩
abbrev main_while0b_c_19 : Ref sig .tc := ⟨.hbm, 59, rfl⟩
abbrev main_while0b_v39 : Ref sig .tc := ⟨.hbm, 60, rfl⟩
abbrev main_while0b_c_20 : Ref sig .tc := ⟨.hbm, 61, rfl⟩
abbrev main_while0b_v40 : Ref sig .tc := ⟨.hbm, 62, rfl⟩
abbrev main_while0b_call0_c : Ref sig .tc := ⟨.hbm, 63, rfl⟩
abbrev main_while0b_call0_c_0 : Ref sig .tc := ⟨.hbm, 64, rfl⟩
abbrev main_while0b_call0_c_1 : Ref sig .tc := ⟨.hbm, 65, rfl⟩
abbrev main_while0b_call0_v0 : Ref sig .tc := ⟨.hbm, 66, rfl⟩
abbrev main_while0b_v41 : Ref sig .tc := ⟨.hbm, 67, rfl⟩
abbrev main_while0b_call1_c : Ref sig .tc := ⟨.hbm, 68, rfl⟩
abbrev main_while0b_call1_c_0 : Ref sig .tc := ⟨.hbm, 69, rfl⟩
abbrev main_while0b_call1_c_1 : Ref sig .tc := ⟨.hbm, 70, rfl⟩
abbrev main_while0b_call1_v0 : Ref sig .tc := ⟨.hbm, 71, rfl⟩
abbrev main_while0b_v42 : Ref sig .tc := ⟨.hbm, 72, rfl⟩
abbrev main_while0b_call2_c : Ref sig .tc := ⟨.hbm, 73, rfl⟩
abbrev main_while0b_call2_c_0 : Ref sig .tc := ⟨.hbm, 74, rfl⟩
abbrev main_while0b_call2_c_1 : Ref sig .tc := ⟨.hbm, 75, rfl⟩
abbrev main_while0b_call2_v0 : Ref sig .tc := ⟨.hbm, 76, rfl⟩
abbrev main_while0b_v43 : Ref sig .tc := ⟨.hbm, 77, rfl⟩
abbrev main_while0b_call3_c : Ref sig .tc := ⟨.hbm, 78, rfl⟩
abbrev main_while0b_call3_c_0 : Ref sig .tc := ⟨.hbm, 79, rfl⟩
abbrev main_while0b_call3_c_1 : Ref sig .tc := ⟨.hbm, 80, rfl⟩
abbrev main_while0b_call3_v0 : Ref sig .tc := ⟨.hbm, 81, rfl⟩
abbrev main_while0b_v44 : Ref sig .tc := ⟨.hbm, 82, rfl⟩
abbrev main_while0b_call4_c : Ref sig .tc := ⟨.hbm, 83, rfl⟩
abbrev main_while0b_call4_c_0 : Ref sig .tc := ⟨.hbm, 84, rfl⟩
abbrev main_while0b_call4_c_1 : Ref sig .tc := ⟨.hbm, 85, rfl⟩
abbrev main_while0b_call4_v0 : Ref sig .tc := ⟨.hbm, 86, rfl⟩
abbrev main_while0b_v45 : Ref sig .tc := ⟨.hbm, 87, rfl⟩
abbrev main_while0b_call5_c : Ref sig .tc := ⟨.hbm, 88, rfl⟩
abbrev main_while0b_call5_c_0 : Ref sig .tc := ⟨.hbm, 89, rfl⟩
abbrev main_while0b_call5_c_1 : Ref sig .tc := ⟨.hbm, 90, rfl⟩
abbrev main_while0b_call5_v0 : Ref sig .tc := ⟨.hbm, 91, rfl⟩
abbrev main_while0b_v46 : Ref sig .tc := ⟨.hbm, 92, rfl⟩
abbrev main_while0b_call6_c : Ref sig .tc := ⟨.hbm, 93, rfl⟩
abbrev main_while0b_call6_c_0 : Ref sig .tc := ⟨.hbm, 94, rfl⟩
abbrev main_while0b_call6_c_1 : Ref sig .tc := ⟨.hbm, 95, rfl⟩
abbrev main_while0b_call6_v0 : Ref sig .tc := ⟨.hbm, 96, rfl⟩
abbrev main_while0b_v47 : Ref sig .tc := ⟨.hbm, 97, rfl⟩
abbrev main_while0b_call7_c : Ref sig .tc := ⟨.hbm, 98, rfl⟩
abbrev main_while0b_call7_v0 : Ref sig .tc := ⟨.hbm, 99, rfl⟩
abbrev main_while0b_v48 : Ref sig .tc := ⟨.hbm, 100, rfl⟩
abbrev main_while0b_v49 : Ref sig .tc := ⟨.hbm, 101, rfl⟩
abbrev main_while0b_v50 : Ref sig .tc := ⟨.hbm, 102, rfl⟩
abbrev main_while0b_v51 : Ref sig .tc := ⟨.hbm, 103, rfl⟩
abbrev main_while0b_v52 : Ref sig .tc := ⟨.hbm, 104, rfl⟩
abbrev main_while0b_v53 : Ref sig .tc := ⟨.hbm, 105, rfl⟩
abbrev main_while0b_v54 : Ref sig .tc := ⟨.hbm, 106, rfl⟩
abbrev main_while0b_v55 : Ref sig .tc := ⟨.hbm, 107, rfl⟩
abbrev main_while0b_v56 : Ref sig .tc := ⟨.hbm, 108, rfl⟩
abbrev main_while0b_v57 : Ref sig .tc := ⟨.hbm, 109, rfl⟩
abbrev main_while0b_v58 : Ref sig .tc := ⟨.hbm, 110, rfl⟩
abbrev main_while0b_v59 : Ref sig .tc := ⟨.hbm, 111, rfl⟩
abbrev main_while0b_v60 : Ref sig .tc := ⟨.hbm, 112, rfl⟩
abbrev main_while0b_v61 : Ref sig .tc := ⟨.hbm, 113, rfl⟩
abbrev main_while0b_v62 : Ref sig .tc := ⟨.hbm, 114, rfl⟩
abbrev main_while0b_v63 : Ref sig .tc := ⟨.hbm, 115, rfl⟩
abbrev main_while0b_v64 : Ref sig .tc := ⟨.hbm, 116, rfl⟩
abbrev main_while0b_v65 : Ref sig .tc := ⟨.hbm, 117, rfl⟩
abbrev main_while0b_cst_21 : Ref sig .tc := ⟨.hbm, 118, rfl⟩
abbrev main_while0b_v66 : Ref sig .tc := ⟨.hbm, 119, rfl⟩
abbrev main_while0b_v67 : Ref sig .tc := ⟨.hbm, 120, rfl⟩
abbrev main_while0b_v68 : Ref sig .tc := ⟨.hbm, 121, rfl⟩
abbrev main_while0b_v69 : Ref sig .tc := ⟨.hbm, 122, rfl⟩
abbrev main_while0b_cst_22 : Ref sig .tc := ⟨.hbm, 123, rfl⟩
abbrev main_while0b_v70 : Ref sig .tc := ⟨.hbm, 124, rfl⟩
abbrev main_while0b_v71 : Ref sig .tc := ⟨.hbm, 125, rfl⟩
abbrev main_while0b_v72 : Ref sig .tc := ⟨.hbm, 126, rfl⟩
abbrev main_while0b_v73 : Ref sig .tc := ⟨.hbm, 127, rfl⟩
abbrev main_while0b_v74 : Ref sig .tc := ⟨.hbm, 128, rfl⟩
abbrev main_while0b_v75 : Ref sig .tc := ⟨.hbm, 129, rfl⟩
abbrev main_while0b_v76 : Ref sig .tc := ⟨.hbm, 130, rfl⟩
abbrev main_while0b_v77 : Ref sig .tc := ⟨.hbm, 131, rfl⟩
abbrev main_while0b_v78 : Ref sig .tc := ⟨.hbm, 132, rfl⟩
abbrev main_while0b_v79 : Ref sig .tc := ⟨.hbm, 133, rfl⟩
abbrev main_while0b_v80 : Ref sig .tc := ⟨.hbm, 134, rfl⟩
abbrev main_while0b_v81 : Ref sig .tc := ⟨.hbm, 135, rfl⟩
abbrev main_while0b_v82 : Ref sig .tc := ⟨.hbm, 136, rfl⟩
abbrev main_while0b_v83 : Ref sig .tc := ⟨.hbm, 137, rfl⟩
abbrev main_while0b_call8_v0 : Ref sig .tc := ⟨.hbm, 138, rfl⟩
abbrev main_while0b_call8_c : Ref sig .tc := ⟨.hbm, 139, rfl⟩
abbrev main_while0b_call8_c_0 : Ref sig .tc := ⟨.hbm, 140, rfl⟩
abbrev main_while0b_call8_c_1 : Ref sig .tc := ⟨.hbm, 141, rfl⟩
abbrev main_while0b_v84 : Ref sig .tc := ⟨.hbm, 142, rfl⟩
abbrev main_while0b_call9_v0 : Ref sig .tc := ⟨.hbm, 143, rfl⟩
abbrev main_while0b_call9_c : Ref sig .tc := ⟨.hbm, 144, rfl⟩
abbrev main_while0b_call9_c_0 : Ref sig .tc := ⟨.hbm, 145, rfl⟩
abbrev main_while0b_call9_c_1 : Ref sig .tc := ⟨.hbm, 146, rfl⟩
abbrev main_while0b_v85 : Ref sig .tc := ⟨.hbm, 147, rfl⟩
abbrev main_while0b_call10_v0 : Ref sig .tc := ⟨.hbm, 148, rfl⟩
abbrev main_while0b_call10_c : Ref sig .tc := ⟨.hbm, 149, rfl⟩
abbrev main_while0b_call10_c_0 : Ref sig .tc := ⟨.hbm, 150, rfl⟩
abbrev main_while0b_call10_c_1 : Ref sig .tc := ⟨.hbm, 151, rfl⟩
abbrev main_while0b_v86 : Ref sig .tc := ⟨.hbm, 152, rfl⟩
abbrev main_while0b_call11_v0 : Ref sig .tc := ⟨.hbm, 153, rfl⟩
abbrev main_while0b_call11_c : Ref sig .tc := ⟨.hbm, 154, rfl⟩
abbrev main_while0b_call11_c_0 : Ref sig .tc := ⟨.hbm, 155, rfl⟩
abbrev main_while0b_call11_c_1 : Ref sig .tc := ⟨.hbm, 156, rfl⟩
abbrev main_while0b_v87 : Ref sig .tc := ⟨.hbm, 157, rfl⟩
abbrev main_while0b_call12_v0 : Ref sig .tc := ⟨.hbm, 158, rfl⟩
abbrev main_while0b_call12_c : Ref sig .tc := ⟨.hbm, 159, rfl⟩
abbrev main_while0b_v88 : Ref sig .tc := ⟨.hbm, 160, rfl⟩
abbrev main_while0b_c_23 : Ref sig .tc := ⟨.hbm, 161, rfl⟩
abbrev main_while0b_v89 : Ref sig .tc := ⟨.hbm, 162, rfl⟩
abbrev main_v28 : Ref sig .tc := ⟨.hbm, 163, rfl⟩
abbrev main_v29 : Ref sig .tc := ⟨.hbm, 164, rfl⟩
abbrev main_v30 : Ref sig .tc := ⟨.hbm, 165, rfl⟩
abbrev main_v31 : Ref sig .tc := ⟨.hbm, 166, rfl⟩
abbrev main_v32 : Ref sig .tc := ⟨.hbm, 167, rfl⟩
abbrev main_v33 : Ref sig .tc := ⟨.hbm, 168, rfl⟩
abbrev main_v34 : Ref sig .tc := ⟨.hbm, 169, rfl⟩
abbrev main_v35 : Ref sig .tc := ⟨.hbm, 170, rfl⟩
abbrev main_v36 : Ref sig .tc := ⟨.hbm, 171, rfl⟩
abbrev main_v37 : Ref sig .tc := ⟨.hbm, 172, rfl⟩
abbrev main_v38 : Ref sig .tc := ⟨.hbm, 173, rfl⟩

abbrev nD : Nat := 1
abbrev τ : Topo := Topo.v7x

variable {F : FTy → Type} [FloatOps F]

abbrev main_while0_count : Scf.Loop 32 := ⟨0#32, 64#32, 1#32⟩
-- ==== GDown.lean ====
abbrev S4096x5632 : Shape := ⟨2, ![4096, 5632]⟩
abbrev S4096x2048 : Shape := ⟨2, ![4096, 2048]⟩
abbrev S5632x2048 : Shape := ⟨2, ![5632, 2048]⟩
abbrev S4096x1408 : Shape := ⟨2, ![4096, 1408]⟩
abbrev S4096x512 : Shape := ⟨2, ![4096, 512]⟩
abbrev S1408x512 : Shape := ⟨2, ![1408, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S5632x2048, .f32⟩
  | .local _ .vmem, ⟨0, _⟩ => ⟨S4096x1408, .bf16⟩
  | .local _ .vmem, ⟨1, _⟩ => ⟨S4096x1408, .bf16⟩
  | .local _ .vmem, ⟨2, _⟩ => ⟨S4096x512, .bf16⟩
  | .local _ .vmem, ⟨3, _⟩ => ⟨S4096x512, .bf16⟩
  | .local _ .vmem, ⟨4, _⟩ => ⟨S1408x512, .f32⟩
  | .local _ .vmem, ⟨5, _⟩ => ⟨S1408x512, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GDownRefIdeal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 9
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S_, .f32⟩
  | .hbm, ⟨3, _⟩ => ⟨S5632x2048, .f32⟩
  | .hbm, ⟨4, _⟩ => ⟨S4096x5632, .f32⟩
  | .hbm, ⟨5, _⟩ => ⟨S4096x2048, .f32⟩
  | .hbm, ⟨6, _⟩ => ⟨S4096x2048, .f32⟩
  | .hbm, ⟨7, _⟩ => ⟨S2048x5632, .f32⟩
  | .hbm, ⟨8, _⟩ => ⟨S5632x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GGateUp.lean ====
abbrev S4096x2048 : Shape := ⟨2, ![4096, 2048]⟩
abbrev S2x4096x5632 : Shape := ⟨3, ![2, 4096, 5632]⟩
abbrev S8x2048x1408 : Shape := ⟨3, ![8, 2048, 1408]⟩
abbrev S4096x512 : Shape := ⟨2, ![4096, 512]⟩
abbrev S1x4096x1408 : Shape := ⟨3, ![1, 4096, 1408]⟩
abbrev S1x512x1408 : Shape := ⟨3, ![1, 512, 1408]⟩
abbrev S4096x1408 : Shape := ⟨2, ![4096, 1408]⟩
abbrev S512x1408 : Shape := ⟨2, ![512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2x4096x5632, .bf16⟩
  | .hbm, ⟨2, _⟩ => ⟨S8x2048x1408, .f32⟩
  | .local _ .vmem, ⟨0, _⟩ => ⟨S4096x512, .bf16⟩
  | .local _ .vmem, ⟨1, _⟩ => ⟨S4096x512, .bf16⟩
  | .local _ .vmem, ⟨2, _⟩ => ⟨S1x4096x1408, .bf16⟩
  | .local _ .vmem, ⟨3, _⟩ => ⟨S1x4096x1408, .bf16⟩
  | .local _ .vmem, ⟨4, _⟩ => ⟨S1x512x1408, .f32⟩
  | .local _ .vmem, ⟨5, _⟩ => ⟨S1x512x1408, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GGateUpRefIdeal.lean ====
abbrev S4096x2048 : Shape := ⟨2, ![4096, 2048]⟩
abbrev S2x4096x5632 : Shape := ⟨3, ![2, 4096, 5632]⟩
abbrev S_ : Shape := ⟨0, ![]⟩
abbrev S8x2048x1408 : Shape := ⟨3, ![8, 2048, 1408]⟩
abbrev S2048x8x1408 : Shape := ⟨3, ![2048, 8, 1408]⟩
abbrev S2048x11264 : Shape := ⟨2, ![2048, 11264]⟩
abbrev S4096x11264 : Shape := ⟨2, ![4096, 11264]⟩
abbrev S1x4096x5632 : Shape := ⟨3, ![1, 4096, 5632]⟩
abbrev S4096x5632 : Shape := ⟨2, ![4096, 5632]⟩
abbrev S11264x2048 : Shape := ⟨2, ![11264, 2048]⟩

abbrev nBuf : Space → Nat
  | .hbm => 18
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2x4096x5632, .bf16⟩
  | .hbm, ⟨2, _⟩ => ⟨S_, .f32⟩
  | .hbm, ⟨3, _⟩ => ⟨S8x2048x1408, .f32⟩
  | .hbm, ⟨4, _⟩ => ⟨S2048x8x1408, .f32⟩
  | .hbm, ⟨5, _⟩ => ⟨S2048x11264, .f32⟩
  | .hbm, ⟨6, _⟩ => ⟨S4096x2048, .f32⟩
  | .hbm, ⟨7, _⟩ => ⟨S4096x11264, .f32⟩
  | .hbm, ⟨8, _⟩ => ⟨S1x4096x5632, .bf16⟩
  | .hbm, ⟨9, _⟩ => ⟨S4096x5632, .bf16⟩
  | .hbm, ⟨10, _⟩ => ⟨S1x4096x5632, .bf16⟩
  | .hbm, ⟨11, _⟩ => ⟨S4096x5632, .bf16⟩
  | .hbm, ⟨12, _⟩ => ⟨S4096x11264, .bf16⟩
  | .hbm, ⟨13, _⟩ => ⟨S4096x11264, .f32⟩
  | .hbm, ⟨14, _⟩ => ⟨S11264x2048, .f32⟩
  | .hbm, ⟨15, _⟩ => ⟨S2048x11264, .f32⟩
  | .hbm, ⟨16, _⟩ => ⟨S2048x8x1408, .f32⟩
  | .hbm, ⟨17, _⟩ => ⟨S8x2048x1408, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== DGateUp.lean ====
abbrev S4096x2048 : Shape := ⟨2, ![4096, 2048]⟩
abbrev S5632x2048 : Shape := ⟨2, ![5632, 2048]⟩
abbrev S2x4096x5632 : Shape := ⟨3, ![2, 4096, 5632]⟩
abbrev S8x128 : Shape := ⟨2, ![8, 128]⟩
abbrev S1024x2048 : Shape := ⟨2, ![1024, 2048]⟩
abbrev S1408x2048 : Shape := ⟨2, ![1408, 2048]⟩
abbrev S2x1024x1408 : Shape := ⟨3, ![2, 1024, 1408]⟩
abbrev S640x2048 : Shape := ⟨2, ![640, 2048]⟩
abbrev S1024x640 : Shape := ⟨2, ![1024, 640]⟩
abbrev S768x2048 : Shape := ⟨2, ![768, 2048]⟩
abbrev S1024x768 : Shape := ⟨2, ![1024, 768]⟩
abbrev S1x1024x640 : Shape := ⟨3, ![1, 1024, 640]⟩
abbrev S1x1024x768 : Shape := ⟨3, ![1, 1024, 768]⟩

abbrev nBuf : Space → Nat
  | .hbm => 5
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S2x4096x5632, .bf16⟩
  | .hbm, ⟨3, _⟩ => ⟨S8x128, .f32⟩
  | .hbm, ⟨4, _⟩ => ⟨S2x4096x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1408x2048, .bf16⟩
  | .local _ .vmem, ⟨3, _⟩ => ⟨S1408x2048, .bf16⟩
  | .local _ .vmem, ⟨4, _⟩ => ⟨S2x1024x1408, .bf16⟩
  | .local _ .vmem, ⟨5, _⟩ => ⟨S2x1024x1408, .bf16⟩
  | .local _ .vmem, ⟨6, _⟩ => ⟨S2x1024x1408, .bf16⟩
  | .local _ .vmem, ⟨7, _⟩ => ⟨S2x1024x1408, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DGateUpRefIdeal.lean ====
abbrev S4096x2048 : Shape := ⟨2, ![4096, 2048]⟩
abbrev S5632x2048 : Shape := ⟨2, ![5632, 2048]⟩
abbrev S2x4096x5632 : Shape := ⟨3, ![2, 4096, 5632]⟩
abbrev S8x128 : Shape := ⟨2, ![8, 128]⟩
abbrev S1x4096x5632 : Shape := ⟨3, ![1, 4096, 5632]⟩
abbrev S4096x5632 : Shape := ⟨2, ![4096, 5632]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S2x4096x5632, .bf16⟩
  | .hbm, ⟨3, _⟩ => ⟨S8x128, .f32⟩
  | .hbm, ⟨4, _⟩ => ⟨S1x4096x5632, .bf16⟩
  | .hbm, ⟨5, _⟩ => ⟨S4096x5632, .bf16⟩
  | .hbm, ⟨6, _⟩ => ⟨S4096x5632, .f32⟩
  | .hbm, ⟨7, _⟩ => ⟨S1x4096x5632, .bf16⟩
  | .hbm, ⟨8, _⟩ => ⟨S4096x5632, .bf16⟩
  | .hbm, ⟨9, _⟩ => ⟨S4096x5632, .f32⟩
  | .hbm, ⟨10, _⟩ => ⟨S4096x5632, .f32⟩
  | .hbm, ⟨11, _⟩ => ⟨S4096x5632, .f32⟩
  | .hbm, ⟨12, _⟩ => ⟨S_, .f32⟩
  | .hbm, ⟨13, _⟩ => ⟨S4096x5632, .f32⟩
  | .hbm, ⟨14, _⟩ => ⟨S4096x5632, .f32⟩
  | .hbm, ⟨15, _⟩ => ⟨S_, .f32⟩
  | .hbm, ⟨16, _⟩ => ⟨S4096x5632, .f32⟩
  | .hbm, ⟨17, _⟩ => ⟨S4096x5632, .f32⟩
  | .hbm, ⟨18, _⟩ => ⟨S_, .f32⟩
  | .hbm, ⟨19, _⟩ => ⟨S4096x5632, .f32⟩
  | .hbm, ⟨20, _⟩ => ⟨S4096x5632, .f32⟩
  | .hbm, ⟨21, _⟩ => ⟨S4096x5632, .f32⟩
  | .hbm, ⟨22, _⟩ => ⟨S4096x5632, .f32⟩
  | .hbm, ⟨23, _⟩ => ⟨S4096x5632, .f32⟩
  | .hbm, ⟨24, _⟩ => ⟨S5632x2048, .f32⟩
  | .hbm, ⟨25, _⟩ => ⟨S4096x2048, .f32⟩
  | .hbm, ⟨26, _⟩ => ⟨S4096x2048, .f32⟩
  | .hbm, ⟨27, _⟩ => ⟨S4096x5632, .f32⟩
  | .hbm, ⟨28, _⟩ => ⟨S4096x5632, .f32⟩
  | .hbm, ⟨29, _⟩ => ⟨S4096x5632, .f32⟩
  | .hbm, ⟨30, _⟩ => ⟨S4096x5632, .f32⟩
  | .hbm, ⟨31, _⟩ => ⟨S4096x5632, .f32⟩
  | .hbm, ⟨32, _⟩ => ⟨S4096x5632, .f32⟩
  | .hbm, ⟨33, _⟩ => ⟨S4096x5632, .f32⟩
  | .hbm, ⟨34, _⟩ => ⟨S1x4096x5632, .f32⟩
  | .hbm, ⟨35, _⟩ => ⟨S1x4096x5632, .f32⟩
  | .hbm, ⟨36, _⟩ => ⟨S2x4096x5632, .f32⟩
  | .hbm, ⟨37, _⟩ => ⟨S2x4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_v6_2 : Ref sig .tc := ⟨.hbm, 17, rfl⟩
abbrev main_call0_cst_1 : Ref sig .tc := ⟨.hbm, 18, rfl⟩
abbrev main_call0_v6 : Ref sig .tc := ⟨.hbm, 19, rfl⟩
abbrev main_call0_v7 : Ref sig .tc := ⟨.hbm, 20, rfl⟩
abbrev main_v6_1 : Ref sig .tc := ⟨.hbm, 21, rfl⟩
abbrev main_v6_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩

abbrev nD : Nat := 1
abbrev τ : Topo := Topo.v7x

variable {F : FTy → Type} [FloatOps F]
-- ==== DH2.lean ====
abbrev S2x4096x5632 : Shape := ⟨3, ![2, 4096, 5632]⟩
abbrev S8x2048x1408 : Shape := ⟨3, ![8, 2048, 1408]⟩
abbrev S8x128 : Shape := ⟨2, ![8, 128]⟩
abbrev S4096x2048 : Shape := ⟨2, ![4096, 2048]⟩
abbrev S1x512x5632 : Shape := ⟨3, ![1, 512, 5632]⟩
abbrev S8x512x1408 : Shape := ⟨3, ![8, 512, 1408]⟩
abbrev S512x512 : Shape := ⟨2, ![512, 512]⟩
abbrev S1x512x1408 : Shape := ⟨3, ![1, 512, 1408]⟩
abbrev S512x1408 : Shape := ⟨2, ![512, 1408]⟩

abbrev nBuf : Space → Nat
  | .hbm => 4
  | .vmem => 8
  | .smem => 0
  | _ => 0

abbrev bufTy : (tb : Table) → Fin (tcTables nBuf tb) → BufTy
  | .hbm, ⟨0, _⟩ => ⟨S2x4096x5632, .bf16⟩
  | .hbm, ⟨1, _⟩ => ⟨S8x2048x1408, .bf16⟩
  | .hbm, ⟨2, _⟩ => ⟨S8x128, .f32⟩
  | .hbm, ⟨3, _⟩ => ⟨S4096x2048, .f32⟩
  | .local _ .vmem, ⟨0, _⟩ => ⟨S1x512x5632, .bf16⟩
  | .local _ .vmem, ⟨1, _⟩ => ⟨S1x512x5632, .bf16⟩
  | .local _ .vmem, ⟨2, _⟩ => ⟨S1x512x5632, .bf16⟩
  | .local _ .vmem, ⟨3, _⟩ => ⟨S1x512x5632, .bf16⟩
  | .local _ .vmem, ⟨4, _⟩ => ⟨S8x512x1408, .bf16⟩
  | .local _ .vmem, ⟨5, _⟩ => ⟨S8x512x1408, .bf16⟩
  | .local _ .vmem, ⟨6, _⟩ => ⟨S512x512, .f32⟩
  | .local _ .vmem, ⟨7, _⟩ => ⟨S512x512, .f32⟩
  | _, _ => ⟨S2x4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x512x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S8x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DH2RefIdeal.lean ====
abbrev S2x4096x5632 : Shape := ⟨3, ![2, 4096, 5632]⟩
abbrev S8x2048x1408 : Shape := ⟨3, ![8, 2048, 1408]⟩
abbrev S8x128 : Shape := ⟨2, ![8, 128]⟩
abbrev S_ : Shape := ⟨0, ![]⟩
abbrev S4096x2048 : Shape := ⟨2, ![4096, 2048]⟩
abbrev S2048x8x1408 : Shape := ⟨3, ![2048, 8, 1408]⟩
abbrev S2048x11264 : Shape := ⟨2, ![2048, 11264]⟩
abbrev S4096x11264 : Shape := ⟨2, ![4096, 11264]⟩
abbrev S1x4096x5632 : Shape := ⟨3, ![1, 4096, 5632]⟩
abbrev S4096x5632 : Shape := ⟨2, ![4096, 5632]⟩

abbrev nBuf : Space → Nat
  | .hbm => 16
  | .vmem => 0
  | .smem => 0
  | _ => 0

abbrev bufTy : (tb : Table) → Fin (tcTables nBuf tb) → BufTy
  | .hbm, ⟨0, _⟩ => ⟨S2x4096x5632, .bf16⟩
  | .hbm, ⟨1, _⟩ => ⟨S8x2048x1408, .bf16⟩
  | .hbm, ⟨2, _⟩ => ⟨S8x128, .f32⟩
  | .hbm, ⟨3, _⟩ => ⟨S_, .f32⟩
  | .hbm, ⟨4, _⟩ => ⟨S4096x2048, .f32⟩
  | .hbm, ⟨5, _⟩ => ⟨S8x2048x1408, .f32⟩
  | .hbm, ⟨6, _⟩ => ⟨S2048x8x1408, .f32⟩
  | .hbm, ⟨7, _⟩ => ⟨S2048x11264, .f32⟩
  | .hbm, ⟨8, _⟩ => ⟨S4096x11264, .f32⟩
  | .hbm, ⟨9, _⟩ => ⟨S1x4096x5632, .bf16⟩
  | .hbm, ⟨10, _⟩ => ⟨S4096x5632, .bf16⟩
  | .hbm, ⟨11, _⟩ => ⟨S1x4096x5632, .bf16⟩
  | .hbm, ⟨12, _⟩ => ⟨S4096x5632, .bf16⟩
  | .hbm, ⟨13, _⟩ => ⟨S4096x11264, .bf16⟩
  | .hbm, ⟨14, _⟩ => ⟨S4096x11264, .f32⟩
  | .hbm, ⟨15, _⟩ => ⟨S4096x2048, .f32⟩
  | _, _ => ⟨S2x4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== GOut.lean ====
abbrev S4096x2048 : Shape := ⟨2, ![4096, 2048]⟩
abbrev S2048x2048 : Shape := ⟨2, ![2048, 2048]⟩
abbrev S4096x512 : Shape := ⟨2, ![4096, 512]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .f32⟩
  | .local _ .vmem, ⟨0, _⟩ => ⟨S4096x512, .bf16⟩
  | .local _ .vmem, ⟨1, _⟩ => ⟨S4096x512, .bf16⟩
  | .local _ .vmem, ⟨2, _⟩ => ⟨S4096x2048, .bf16⟩
  | .local _ .vmem, ⟨3, _⟩ => ⟨S512x2048, .f32⟩
  | .local _ .vmem, ⟨4, _⟩ => ⟨S512x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== GOutRefIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GIn.lean ====
abbrev S4096x7296 : Shape := ⟨2, ![4096, 7296]⟩
abbrev S4096x2048 : Shape := ⟨2, ![4096, 2048]⟩
abbrev S7296x2048 : Shape := ⟨2, ![7296, 2048]⟩
abbrev S4096x384 : Shape := ⟨2, ![4096, 384]⟩
abbrev S384x2048 : Shape := ⟨2, ![384, 2048]⟩

abbrev nBuf : Space → Nat
  | .hbm => 3
  | .vmem => 5
  | .smem => 0
  | _ => 0

abbrev bufTy : (tb : Table) → Fin (tcTables nBuf tb) → BufTy
  | .hbm, ⟨0, _⟩ => ⟨S4096x7296, .bf16⟩
  | .hbm, ⟨1, _⟩ => ⟨S4096x2048, .bf16⟩
  | .hbm, ⟨2, _⟩ => ⟨S7296x2048, .bf16⟩
  | .local _ .vmem, ⟨0, _⟩ => ⟨S4096x384, .bf16⟩
  | .local _ .vmem, ⟨1, _⟩ => ⟨S4096x384, .bf16⟩
  | .local _ .vmem, ⟨2, _⟩ => ⟨S4096x2048, .bf16⟩
  | .local _ .vmem, ⟨3, _⟩ => ⟨S384x2048, .bf16⟩
  | .local _ .vmem, ⟨4, _⟩ => ⟨S384x2048, .bf16⟩
  | _, _ => ⟨S4096x7296, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![19, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S4096x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 2 → Memref sig .tc .vmem S384x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== GInRefIdeal.lean ====
abbrev S4096x7296 : Shape := ⟨2, ![4096, 7296]⟩
abbrev S4096x2048 : Shape := ⟨2, ![4096, 2048]⟩
abbrev S_ : Shape := ⟨0, ![]⟩
abbrev S2048x7296 : Shape := ⟨2, ![2048, 7296]⟩
abbrev S7296x2048 : Shape := ⟨2, ![7296, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x7296, .bf16⟩
  | .hbm, ⟨1, _⟩ => ⟨S4096x2048, .bf16⟩
  | .hbm, ⟨2, _⟩ => ⟨S_, .f32⟩
  | .hbm, ⟨3, _⟩ => ⟨S2048x7296, .f32⟩
  | .hbm, ⟨4, _⟩ => ⟨S4096x2048, .f32⟩
  | .hbm, ⟨5, _⟩ => ⟨S4096x7296, .f32⟩
  | .hbm, ⟨6, _⟩ => ⟨S4096x7296, .f32⟩
  | .hbm, ⟨7, _⟩ => ⟨S7296x2048, .f32⟩
  | .hbm, ⟨8, _⟩ => ⟨S2048x7296, .f32⟩
  | .hbm, ⟨9, _⟩ => ⟨S7296x2048, .f32⟩
  | .hbm, ⟨10, _⟩ => ⟨S7296x2048, .bf16⟩
  | _, _ => ⟨S4096x7296, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DH1.lean ====
abbrev S4096x7296 : Shape := ⟨2, ![4096, 7296]⟩
abbrev S2048x7296 : Shape := ⟨2, ![2048, 7296]⟩
abbrev S8x128 : Shape := ⟨2, ![8, 128]⟩
abbrev S4096x2048 : Shape := ⟨2, ![4096, 2048]⟩
abbrev S512x7296 : Shape := ⟨2, ![512, 7296]⟩
abbrev S1024x7296 : Shape := ⟨2, ![1024, 7296]⟩
abbrev S512x1024 : Shape := ⟨2, ![512, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x7296, .bf16⟩
  | .hbm, ⟨1, _⟩ => ⟨S2048x7296, .bf16⟩
  | .hbm, ⟨2, _⟩ => ⟨S8x128, .f32⟩
  | .hbm, ⟨3, _⟩ => ⟨S4096x2048, .f32⟩
  | .local _ .vmem, ⟨0, _⟩ => ⟨S512x7296, .bf16⟩
  | .local _ .vmem, ⟨1, _⟩ => ⟨S512x7296, .bf16⟩
  | .local _ .vmem, ⟨2, _⟩ => ⟨S1024x7296, .bf16⟩
  | .local _ .vmem, ⟨3, _⟩ => ⟨S1024x7296, .bf16⟩
  | .local _ .vmem, ⟨4, _⟩ => ⟨S512x1024, .f32⟩
  | .local _ .vmem, ⟨5, _⟩ => ⟨S512x1024, .f32⟩
  | _, _ => ⟨S4096x7296, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x7296 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1024x7296 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DH1RefIdeal.lean ====
abbrev S4096x7296 : Shape := ⟨2, ![4096, 7296]⟩
abbrev S2048x7296 : Shape := ⟨2, ![2048, 7296]⟩
abbrev S8x128 : Shape := ⟨2, ![8, 128]⟩
abbrev S_ : Shape := ⟨0, ![]⟩
abbrev S4096x2048 : Shape := ⟨2, ![4096, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x7296, .bf16⟩
  | .hbm, ⟨1, _⟩ => ⟨S2048x7296, .bf16⟩
  | .hbm, ⟨2, _⟩ => ⟨S8x128, .f32⟩
  | .hbm, ⟨3, _⟩ => ⟨S_, .f32⟩
  | .hbm, ⟨4, _⟩ => ⟨S4096x2048, .f32⟩
  | .hbm, ⟨5, _⟩ => ⟨S2048x7296, .f32⟩
  | .hbm, ⟨6, _⟩ => ⟨S4096x7296, .f32⟩
  | .hbm, ⟨7, _⟩ => ⟨S4096x7296, .f32⟩
  | .hbm, ⟨8, _⟩ => ⟨S4096x2048, .f32⟩
  | _, _ => ⟨S4096x7296, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== InProj.lean ====
abbrev S4096x2048 : Shape := ⟨2, ![4096, 2048]⟩
abbrev S2048x7296 : Shape := ⟨2, ![2048, 7296]⟩
abbrev S4096x7296 : Shape := ⟨2, ![4096, 7296]⟩
abbrev S1024x2048 : Shape := ⟨2, ![1024, 2048]⟩
abbrev S2048x2432 : Shape := ⟨2, ![2048, 2432]⟩
abbrev S1024x2432 : Shape := ⟨2, ![1024, 2432]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x7296, .bf16⟩
  | .hbm, ⟨2, _⟩ => ⟨S4096x7296, .f32⟩
  | .local _ .vmem, ⟨0, _⟩ => ⟨S1024x2048, .bf16⟩
  | .local _ .vmem, ⟨1, _⟩ => ⟨S1024x2048, .bf16⟩
  | .local _ .vmem, ⟨2, _⟩ => ⟨S2048x2432, .bf16⟩
  | .local _ .vmem, ⟨3, _⟩ => ⟨S2048x2432, .bf16⟩
  | .local _ .vmem, ⟨4, _⟩ => ⟨S1024x2432, .f32⟩
  | .local _ .vmem, ⟨5, _⟩ => ⟨S1024x2432, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S2048x2432 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x2432 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjRefIdeal.lean ====
abbrev S4096x2048 : Shape := ⟨2, ![4096, 2048]⟩
abbrev S2048x7296 : Shape := ⟨2, ![2048, 7296]⟩
abbrev S4096x7296 : Shape := ⟨2, ![4096, 7296]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x7296, .bf16⟩
  | .hbm, ⟨2, _⟩ => ⟨S4096x2048, .f32⟩
  | .hbm, ⟨3, _⟩ => ⟨S2048x7296, .f32⟩
  | .hbm, ⟨4, _⟩ => ⟨S4096x7296, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== GateUp.lean ====
abbrev S4096x2048 : Shape := ⟨2, ![4096, 2048]⟩
abbrev S8x2048x1408 : Shape := ⟨3, ![8, 2048, 1408]⟩
abbrev S2x4096x5632 : Shape := ⟨3, ![2, 4096, 5632]⟩
abbrev S4096x5632 : Shape := ⟨2, ![4096, 5632]⟩
abbrev S512x2048 : Shape := ⟨2, ![512, 2048]⟩
abbrev S1x2048x1408 : Shape := ⟨3, ![1, 2048, 1408]⟩
abbrev S2x512x1408 : Shape := ⟨3, ![2, 512, 1408]⟩
abbrev S512x1408 : Shape := ⟨2, ![512, 1408]⟩
abbrev S1x2048x640 : Shape := ⟨3, ![1, 2048, 640]⟩
abbrev S2048x640 : Shape := ⟨2, ![2048, 640]⟩
abbrev S512x640 : Shape := ⟨2, ![512, 640]⟩
abbrev S1x2048x768 : Shape := ⟨3, ![1, 2048, 768]⟩
abbrev S2048x768 : Shape := ⟨2, ![2048, 768]⟩
abbrev S512x768 : Shape := ⟨2, ![512, 768]⟩
abbrev S1x512x640 : Shape := ⟨3, ![1, 512, 640]⟩
abbrev S1x512x768 : Shape := ⟨3, ![1, 512, 768]⟩

abbrev nBuf : Space → Nat
  | .hbm => 4
  | .vmem => 10
  | .smem => 0
  | _ => 0

abbrev bufTy : (tb : Table) → Fin (tcTables nBuf tb) → BufTy
  | .hbm, ⟨0, _⟩ => ⟨S4096x2048, .bf16⟩
  | .hbm, ⟨1, _⟩ => ⟨S8x2048x1408, .bf16⟩
  | .hbm, ⟨2, _⟩ => ⟨S2x4096x5632, .bf16⟩
  | .hbm, ⟨3, _⟩ => ⟨S4096x5632, .bf16⟩
  | .local _ .vmem, ⟨0, _⟩ => ⟨S512x2048, .bf16⟩
  | .local _ .vmem, ⟨1, _⟩ => ⟨S512x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x2048x1408, .bf16⟩
  | .local _ .vmem, ⟨5, _⟩ => ⟨S1x2048x1408, .bf16⟩
  | .local _ .vmem, ⟨6, _⟩ => ⟨S2x512x1408, .bf16⟩
  | .local _ .vmem, ⟨7, _⟩ => ⟨S2x512x1408, .bf16⟩
  | .local _ .vmem, ⟨8, _⟩ => ⟨S512x1408, .bf16⟩
  | .local _ .vmem, ⟨9, _⟩ => ⟨S512x1408, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== GateUpRefIdeal.lean ====
abbrev S4096x2048 : Shape := ⟨2, ![4096, 2048]⟩
abbrev S8x2048x1408 : Shape := ⟨3, ![8, 2048, 1408]⟩
abbrev S2048x8x1408 : Shape := ⟨3, ![2048, 8, 1408]⟩
abbrev S2048x11264 : Shape := ⟨2, ![2048, 11264]⟩
abbrev S4096x11264 : Shape := ⟨2, ![4096, 11264]⟩
abbrev S4096x5632 : Shape := ⟨2, ![4096, 5632]⟩
abbrev S1x4096x5632 : Shape := ⟨3, ![1, 4096, 5632]⟩
abbrev S2x4096x5632 : Shape := ⟨3, ![2, 4096, 5632]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x2048x1408, .bf16⟩
  | .hbm, ⟨2, _⟩ => ⟨S8x2048x1408, .f32⟩
  | .hbm, ⟨3, _⟩ => ⟨S2048x8x1408, .f32⟩
  | .hbm, ⟨4, _⟩ => ⟨S2048x11264, .f32⟩
  | .hbm, ⟨5, _⟩ => ⟨S4096x2048, .f32⟩
  | .hbm, ⟨6, _⟩ => ⟨S4096x11264, .f32⟩
  | .hbm, ⟨7, _⟩ => ⟨S4096x5632, .f32⟩
  | .hbm, ⟨8, _⟩ => ⟨S4096x5632, .f32⟩
  | .hbm, ⟨9, _⟩ => ⟨S1x4096x5632, .f32⟩
  | .hbm, ⟨10, _⟩ => ⟨S1x4096x5632, .f32⟩
  | .hbm, ⟨11, _⟩ => ⟨S2x4096x5632, .f32⟩
  | .hbm, ⟨12, _⟩ => ⟨S2x4096x5632, .bf16⟩
  | .hbm, ⟨13, _⟩ => ⟨S4096x5632, .f32⟩
  | .hbm, ⟨14, _⟩ => ⟨S4096x5632, .f32⟩
  | .hbm, ⟨15, _⟩ => ⟨S_, .f32⟩
  | .hbm, ⟨16, _⟩ => ⟨S4096x5632, .f32⟩
  | .hbm, ⟨17, _⟩ => ⟨S4096x5632, .f32⟩
  | .hbm, ⟨18, _⟩ => ⟨S_, .f32⟩
  | .hbm, ⟨19, _⟩ => ⟨S4096x5632, .f32⟩
  | .hbm, ⟨20, _⟩ => ⟨S4096x5632, .f32⟩
  | .hbm, ⟨21, _⟩ => ⟨S4096x5632, .f32⟩
  | .hbm, ⟨22, _⟩ => ⟨S4096x5632, .f32⟩
  | .hbm, ⟨23, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩

abbrev nD : Nat := 1
abbrev τ : Topo := Topo.v7x

variable {F : FTy → Type} [FloatOps F]
-- ==== OutProj.lean ====
abbrev S4096x2048 : Shape := ⟨2, ![4096, 2048]⟩
abbrev S2048x2048 : Shape := ⟨2, ![2048, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S4096x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutProjRefIdeal.lean ====
abbrev S4096x2048 : Shape := ⟨2, ![4096, 2048]⟩
abbrev S2048x2048 : Shape := ⟨2, ![2048, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 24
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S2048x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Down.lean ====
abbrev S4096x5632 : Shape := ⟨2, ![4096, 5632]⟩
abbrev S5632x2048 : Shape := ⟨2, ![5632, 2048]⟩
abbrev S4096x2048 : Shape := ⟨2, ![4096, 2048]⟩
abbrev S8x128 : Shape := ⟨2, ![8, 128]⟩
abbrev S1024x5632 : Shape := ⟨2, ![1024, 5632]⟩
abbrev S5632x512 : Shape := ⟨2, ![5632, 512]⟩
abbrev S1024x512 : Shape := ⟨2, ![1024, 512]⟩
abbrev S1024 : Shape := ⟨1, ![1024]⟩
abbrev S1024x1 : Shape := ⟨2, ![1024, 1]⟩
abbrev S1 : Shape := ⟨1, ![1]⟩
abbrev S1x1 : Shape := ⟨2, ![1, 1]⟩

abbrev nBuf : Space → Nat
  | .hbm => 7
  | .vmem => 13
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .bf16⟩
  | .hbm, ⟨6, _⟩ => ⟨S8x128, .f32⟩
  | .local _ .vmem, ⟨0, _⟩ => ⟨S1024x5632, .bf16⟩
  | .local _ .vmem, ⟨1, _⟩ => ⟨S1024x5632, .bf16⟩
  | .local _ .vmem, ⟨2, _⟩ => ⟨S5632x512, .bf16⟩
  | .local _ .vmem, ⟨3, _⟩ => ⟨S5632x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .bf16⟩
  | .local _ .vmem, ⟨11, _⟩ => ⟨S1024x512, .bf16⟩
  | .local _ .vmem, ⟨12, _⟩ => ⟨S8x128, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== DownRefIdeal.lean ====
abbrev S4096x5632 : Shape := ⟨2, ![4096, 5632]⟩
abbrev S5632x2048 : Shape := ⟨2, ![5632, 2048]⟩
abbrev S4096x2048 : Shape := ⟨2, ![4096, 2048]⟩
abbrev S_ : Shape := ⟨0, ![]⟩
abbrev S8x128 : Shape := ⟨2, ![8, 128]⟩

abbrev nBuf : Space → Nat
  | .hbm => 21
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x2048, .f32⟩
  | .hbm, ⟨4, _⟩ => ⟨S4096x5632, .f32⟩
  | .hbm, ⟨5, _⟩ => ⟨S5632x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S4096x2048, .f32⟩
  | .hbm, ⟨12, _⟩ => ⟨S4096x2048, .bf16⟩
  | .hbm, ⟨13, _⟩ => ⟨S4096x2048, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S8x128, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩

abbrev nD : Nat := 1
abbrev τ : Topo := Topo.v7x

variable {F : FTy → Type} [FloatOps F]
-- ==== NormBwd.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .bf16⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormBwdRefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 48
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x2048, .f32⟩
  | .hbm, ⟨34, _⟩ => ⟨S4096x2048, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== AdamGateUp.lean ====
abbrev S8x2048x1408 : Shape := ⟨3, ![8, 2048, 1408]⟩
abbrev S2048x1408 : Shape := ⟨2, ![2048, 1408]⟩
abbrev S8x128x1408 : Shape := ⟨3, ![8, 128, 1408]⟩
abbrev S128x1408 : Shape := ⟨2, ![128, 1408]⟩
abbrev S1x128x1408 : Shape := ⟨3, ![1, 128, 1408]⟩

abbrev nBuf : Space → Nat
  | .hbm => 8
  | .vmem => 16
  | .smem => 0
  | _ => 0

abbrev bufTy : (tb : Table) → Fin (tcTables nBuf tb) → BufTy
  | .hbm, ⟨0, _⟩ => ⟨S8x2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .hbm, ⟨7, _⟩ => ⟨S2048x1408, .f32⟩
  | .local _ .vmem, ⟨0, _⟩ => ⟨S8x128x1408, .f32⟩
  | .local _ .vmem, ⟨1, _⟩ => ⟨S8x128x1408, .f32⟩
  | .local _ .vmem, ⟨2, _⟩ => ⟨S128x1408, .f32⟩
  | .local _ .vmem, ⟨3, _⟩ => ⟨S128x1408, .f32⟩
  | .local _ .vmem, ⟨4, _⟩ => ⟨S128x1408, .f32⟩
  | .local _ .vmem, ⟨5, _⟩ => ⟨S128x1408, .f32⟩
  | .local _ .vmem, ⟨6, _⟩ => ⟨S128x1408, .f32⟩
  | .local _ .vmem, ⟨7, _⟩ => ⟨S128x1408, .f32⟩
  | .local _ .vmem, ⟨8, _⟩ => ⟨S128x1408, .f32⟩
  | .local _ .vmem, ⟨9, _⟩ => ⟨S128x1408, .f32⟩
  | .local _ .vmem, ⟨10, _⟩ => ⟨S128x1408, .f32⟩
  | .local _ .vmem, ⟨11, _⟩ => ⟨S128x1408, .f32⟩
  | .local _ .vmem, ⟨12, _⟩ => ⟨S128x1408, .f32⟩
  | .local _ .vmem, ⟨13, _⟩ => ⟨S128x1408, .f32⟩
  | .local _ .vmem, ⟨14, _⟩ => ⟨S128x1408, .f32⟩
  | .local _ .vmem, ⟨15, _⟩ => ⟨S128x1408, .f32⟩
  | _, _ => ⟨S8x2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamGateUpIdeal.lean ====
variable {F : FTy → Type} [FloatOps F] [Named F]
def κ : String → Option EReal := fun
  | "m_corr" => some ((8388608 / 5463681 : ℝ) : EReal)
  | "v_corr" => some ((268435456 / 2672307 : ℝ) : EReal)
  | _ => none
-- ==== AdamGateUpRefIdeal.lean ====
abbrev S8x2048x1408 : Shape := ⟨3, ![8, 2048, 1408]⟩
abbrev S2048x1408 : Shape := ⟨2, ![2048, 1408]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S_, .f32⟩
  | .hbm, ⟨5, _⟩ => ⟨S2048x1408, .f32⟩
  | .hbm, ⟨6, _⟩ => ⟨S_, .f32⟩
  | .hbm, ⟨7, _⟩ => ⟨S2048x1408, .f32⟩
  | .hbm, ⟨8, _⟩ => ⟨S2048x1408, .f32⟩
  | .hbm, ⟨9, _⟩ => ⟨S_, .f32⟩
  | .hbm, ⟨10, _⟩ => ⟨S2048x1408, .f32⟩
  | .hbm, ⟨11, _⟩ => ⟨S2048x1408, .f32⟩
  | .hbm, ⟨12, _⟩ => ⟨S2048x1408, .f32⟩
  | .hbm, ⟨13, _⟩ => ⟨S_, .f32⟩
  | .hbm, ⟨14, _⟩ => ⟨S2048x1408, .f32⟩
  | .hbm, ⟨15, _⟩ => ⟨S2048x1408, .f32⟩
  | .hbm, ⟨16, _⟩ => ⟨S2048x1408, .f32⟩
  | .hbm, ⟨17, _⟩ => ⟨S_, .f32⟩
  | .hbm, ⟨18, _⟩ => ⟨S2048x1408, .f32⟩
  | .hbm, ⟨19, _⟩ => ⟨S2048x1408, .f32⟩
  | .hbm, ⟨20, _⟩ => ⟨S2048x1408, .f32⟩
  | .hbm, ⟨21, _⟩ => ⟨S_, .f32⟩
  | .hbm, ⟨22, _⟩ => ⟨S2048x1408, .f32⟩
  | .hbm, ⟨23, _⟩ => ⟨S2048x1408, .f32⟩
  | .hbm, ⟨24, _⟩ => ⟨S_, .f32⟩
  | .hbm, ⟨25, _⟩ => ⟨S2048x1408, .f32⟩
  | .hbm, ⟨26, _⟩ => ⟨S2048x1408, .f32⟩
  | .hbm, ⟨27, _⟩ => ⟨S2048x1408, .f32⟩
  | .hbm, ⟨28, _⟩ => ⟨S_, .f32⟩
  | .hbm, ⟨29, _⟩ => ⟨S2048x1408, .f32⟩
  | .hbm, ⟨30, _⟩ => ⟨S2048x1408, .f32⟩
  | .hbm, ⟨31, _⟩ => ⟨S2048x1408, .f32⟩
  | .hbm, ⟨32, _⟩ => ⟨S_, .f32⟩
  | .hbm, ⟨33, _⟩ => ⟨S2048x1408, .f32⟩
  | .hbm, ⟨34, _⟩ => ⟨S2048x1408, .f32⟩
  | .hbm, ⟨35, _⟩ => ⟨S2048x1408, .f32⟩
  | .hbm, ⟨36, _⟩ => ⟨S_, .f32⟩
  | .hbm, ⟨37, _⟩ => ⟨S2048x1408, .f32⟩
  | .hbm, ⟨38, _⟩ => ⟨S2048x1408, .f32⟩
  | _, _ => ⟨S8x2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamDown.lean ====
abbrev S8x704x2048 : Shape := ⟨3, ![8, 704, 2048]⟩
abbrev S704x2048 : Shape := ⟨2, ![704, 2048]⟩
abbrev S8x88x2048 : Shape := ⟨3, ![8, 88, 2048]⟩
abbrev S88x2048 : Shape := ⟨2, ![88, 2048]⟩
abbrev S1x88x2048 : Shape := ⟨3, ![1, 88, 2048]⟩

abbrev nBuf : Space → Nat
  | .hbm => 8
  | .vmem => 16
  | .smem => 0
  | _ => 0

abbrev bufTy : (tb : Table) → Fin (tcTables nBuf tb) → BufTy
  | .hbm, ⟨0, _⟩ => ⟨S8x704x2048, .f32⟩
  | .hbm, ⟨1, _⟩ => ⟨S704x2048, .f32⟩
  | .hbm, ⟨2, _⟩ => ⟨S704x2048, .f32⟩
  | .hbm, ⟨3, _⟩ => ⟨S704x2048, .f32⟩
  | .hbm, ⟨4, _⟩ => ⟨S704x2048, .f32⟩
  | .hbm, ⟨5, _⟩ => ⟨S704x2048, .f32⟩
  | .hbm, ⟨6, _⟩ => ⟨S704x2048, .f32⟩
  | .hbm, ⟨7, _⟩ => ⟨S704x2048, .f32⟩
  | .local _ .vmem, ⟨0, _⟩ => ⟨S8x88x2048, .f32⟩
  | .local _ .vmem, ⟨1, _⟩ => ⟨S8x88x2048, .f32⟩
  | .local _ .vmem, ⟨2, _⟩ => ⟨S88x2048, .f32⟩
  | .local _ .vmem, ⟨3, _⟩ => ⟨S88x2048, .f32⟩
  | .local _ .vmem, ⟨4, _⟩ => ⟨S88x2048, .f32⟩
  | .local _ .vmem, ⟨5, _⟩ => ⟨S88x2048, .f32⟩
  | .local _ .vmem, ⟨6, _⟩ => ⟨S88x2048, .f32⟩
  | .local _ .vmem, ⟨7, _⟩ => ⟨S88x2048, .f32⟩
  | .local _ .vmem, ⟨8, _⟩ => ⟨S88x2048, .f32⟩
  | .local _ .vmem, ⟨9, _⟩ => ⟨S88x2048, .f32⟩
  | .local _ .vmem, ⟨10, _⟩ => ⟨S88x2048, .f32⟩
  | .local _ .vmem, ⟨11, _⟩ => ⟨S88x2048, .f32⟩
  | .local _ .vmem, ⟨12, _⟩ => ⟨S88x2048, .f32⟩
  | .local _ .vmem, ⟨13, _⟩ => ⟨S88x2048, .f32⟩
  | .local _ .vmem, ⟨14, _⟩ => ⟨S88x2048, .f32⟩
  | .local _ .vmem, ⟨15, _⟩ => ⟨S88x2048, .f32⟩
  | _, _ => ⟨S8x704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x88x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S88x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S88x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S88x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S88x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S88x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S88x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S88x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamDownIdeal.lean ====
variable {F : FTy → Type} [FloatOps F] [Named F]
def κ : String → Option EReal := fun
  | "m_corr" => some ((8388608 / 5463681 : ℝ) : EReal)
  | "v_corr" => some ((268435456 / 2672307 : ℝ) : EReal)
  | _ => none
-- ==== AdamDownRefIdeal.lean ====
abbrev S8x704x2048 : Shape := ⟨3, ![8, 704, 2048]⟩
abbrev S704x2048 : Shape := ⟨2, ![704, 2048]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x704x2048, .f32⟩
  | .hbm, ⟨1, _⟩ => ⟨S704x2048, .f32⟩
  | .hbm, ⟨2, _⟩ => ⟨S704x2048, .f32⟩
  | .hbm, ⟨3, _⟩ => ⟨S704x2048, .f32⟩
  | .hbm, ⟨4, _⟩ => ⟨S_, .f32⟩
  | .hbm, ⟨5, _⟩ => ⟨S704x2048, .f32⟩
  | .hbm, ⟨6, _⟩ => ⟨S_, .f32⟩
  | .hbm, ⟨7, _⟩ => ⟨S704x2048, .f32⟩
  | .hbm, ⟨8, _⟩ => ⟨S704x2048, .f32⟩
  | .hbm, ⟨9, _⟩ => ⟨S_, .f32⟩
  | .hbm, ⟨10, _⟩ => ⟨S704x2048, .f32⟩
  | .hbm, ⟨11, _⟩ => ⟨S704x2048, .f32⟩
  | .hbm, ⟨12, _⟩ => ⟨S704x2048, .f32⟩
  | .hbm, ⟨13, _⟩ => ⟨S_, .f32⟩
  | .hbm, ⟨14, _⟩ => ⟨S704x2048, .f32⟩
  | .hbm, ⟨15, _⟩ => ⟨S704x2048, .f32⟩
  | .hbm, ⟨16, _⟩ => ⟨S704x2048, .f32⟩
  | .hbm, ⟨17, _⟩ => ⟨S_, .f32⟩
  | .hbm, ⟨18, _⟩ => ⟨S704x2048, .f32⟩
  | .hbm, ⟨19, _⟩ => ⟨S704x2048, .f32⟩
  | .hbm, ⟨20, _⟩ => ⟨S704x2048, .f32⟩
  | .hbm, ⟨21, _⟩ => ⟨S_, .f32⟩
  | .hbm, ⟨22, _⟩ => ⟨S704x2048, .f32⟩
  | .hbm, ⟨23, _⟩ => ⟨S704x2048, .f32⟩
  | .hbm, ⟨24, _⟩ => ⟨S_, .f32⟩
  | .hbm, ⟨25, _⟩ => ⟨S704x2048, .f32⟩
  | .hbm, ⟨26, _⟩ => ⟨S704x2048, .f32⟩
  | .hbm, ⟨27, _⟩ => ⟨S704x2048, .f32⟩
  | .hbm, ⟨28, _⟩ => ⟨S_, .f32⟩
  | .hbm, ⟨29, _⟩ => ⟨S704x2048, .f32⟩
  | .hbm, ⟨30, _⟩ => ⟨S704x2048, .f32⟩
  | .hbm, ⟨31, _⟩ => ⟨S704x2048, .f32⟩
  | .hbm, ⟨32, _⟩ => ⟨S_, .f32⟩
  | .hbm, ⟨33, _⟩ => ⟨S704x2048, .f32⟩
  | .hbm, ⟨34, _⟩ => ⟨S704x2048, .f32⟩
  | .hbm, ⟨35, _⟩ => ⟨S704x2048, .f32⟩
  | .hbm, ⟨36, _⟩ => ⟨S_, .f32⟩
  | .hbm, ⟨37, _⟩ => ⟨S704x2048, .f32⟩
  | .hbm, ⟨38, _⟩ => ⟨S704x2048, .f32⟩
  | _, _ => ⟨S8x704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamOut.lean ====
abbrev S8x256x2048 : Shape := ⟨3, ![8, 256, 2048]⟩
abbrev S256x2048 : Shape := ⟨2, ![256, 2048]⟩
abbrev S8x128x2048 : Shape := ⟨3, ![8, 128, 2048]⟩
abbrev S128x2048 : Shape := ⟨2, ![128, 2048]⟩
abbrev S1x128x2048 : Shape := ⟨3, ![1, 128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S8x256x2048, .f32⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S256x2048, .f32⟩
  | .local _ .vmem, ⟨0, _⟩ => ⟨S8x128x2048, .f32⟩
  | .local _ .vmem, ⟨1, _⟩ => ⟨S8x128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S8x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamOutIdeal.lean ====
variable {F : FTy → Type} [FloatOps F] [Named F]
def κ : String → Option EReal := fun
  | "m_corr" => some ((8388608 / 5463681 : ℝ) : EReal)
  | "v_corr" => some ((268435456 / 2672307 : ℝ) : EReal)
  | _ => none
-- ==== AdamOutRefIdeal.lean ====
abbrev S8x256x2048 : Shape := ⟨3, ![8, 256, 2048]⟩
abbrev S256x2048 : Shape := ⟨2, ![256, 2048]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x256x2048, .f32⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S_, .f32⟩
  | .hbm, ⟨5, _⟩ => ⟨S256x2048, .f32⟩
  | .hbm, ⟨6, _⟩ => ⟨S_, .f32⟩
  | .hbm, ⟨7, _⟩ => ⟨S256x2048, .f32⟩
  | .hbm, ⟨8, _⟩ => ⟨S256x2048, .f32⟩
  | .hbm, ⟨9, _⟩ => ⟨S_, .f32⟩
  | .hbm, ⟨10, _⟩ => ⟨S256x2048, .f32⟩
  | .hbm, ⟨11, _⟩ => ⟨S256x2048, .f32⟩
  | .hbm, ⟨12, _⟩ => ⟨S256x2048, .f32⟩
  | .hbm, ⟨13, _⟩ => ⟨S_, .f32⟩
  | .hbm, ⟨14, _⟩ => ⟨S256x2048, .f32⟩
  | .hbm, ⟨15, _⟩ => ⟨S256x2048, .f32⟩
  | .hbm, ⟨16, _⟩ => ⟨S256x2048, .f32⟩
  | .hbm, ⟨17, _⟩ => ⟨S_, .f32⟩
  | .hbm, ⟨18, _⟩ => ⟨S256x2048, .f32⟩
  | .hbm, ⟨19, _⟩ => ⟨S256x2048, .f32⟩
  | .hbm, ⟨20, _⟩ => ⟨S256x2048, .f32⟩
  | .hbm, ⟨21, _⟩ => ⟨S_, .f32⟩
  | .hbm, ⟨22, _⟩ => ⟨S256x2048, .f32⟩
  | .hbm, ⟨23, _⟩ => ⟨S256x2048, .f32⟩
  | .hbm, ⟨24, _⟩ => ⟨S_, .f32⟩
  | .hbm, ⟨25, _⟩ => ⟨S256x2048, .f32⟩
  | .hbm, ⟨26, _⟩ => ⟨S256x2048, .f32⟩
  | .hbm, ⟨27, _⟩ => ⟨S256x2048, .f32⟩
  | .hbm, ⟨28, _⟩ => ⟨S_, .f32⟩
  | .hbm, ⟨29, _⟩ => ⟨S256x2048, .f32⟩
  | .hbm, ⟨30, _⟩ => ⟨S256x2048, .f32⟩
  | .hbm, ⟨31, _⟩ => ⟨S256x2048, .f32⟩
  | .hbm, ⟨32, _⟩ => ⟨S_, .f32⟩
  | .hbm, ⟨33, _⟩ => ⟨S256x2048, .f32⟩
  | .hbm, ⟨34, _⟩ => ⟨S256x2048, .f32⟩
  | .hbm, ⟨35, _⟩ => ⟨S256x2048, .f32⟩
  | .hbm, ⟨36, _⟩ => ⟨S_, .f32⟩
  | .hbm, ⟨37, _⟩ => ⟨S256x2048, .f32⟩
  | .hbm, ⟨38, _⟩ => ⟨S256x2048, .f32⟩
  | _, _ => ⟨S8x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamIn.lean ====
abbrev S8x898x2048 : Shape := ⟨3, ![8, 898, 2048]⟩
abbrev S898x2048 : Shape := ⟨2, ![898, 2048]⟩
abbrev S8x898x256 : Shape := ⟨3, ![8, 898, 256]⟩
abbrev S898x256 : Shape := ⟨2, ![898, 256]⟩
abbrev S1x898x256 : Shape := ⟨3, ![1, 898, 256]⟩

abbrev nBuf : Space → Nat
  | .hbm => 8
  | .vmem => 16
  | .smem => 0
  | _ => 0

abbrev bufTy : (tb : Table) → Fin (tcTables nBuf tb) → BufTy
  | .hbm, ⟨0, _⟩ => ⟨S8x898x2048, .bf16⟩
  | .hbm, ⟨1, _⟩ => ⟨S898x2048, .f32⟩
  | .hbm, ⟨2, _⟩ => ⟨S898x2048, .f32⟩
  | .hbm, ⟨3, _⟩ => ⟨S898x2048, .f32⟩
  | .hbm, ⟨4, _⟩ => ⟨S898x2048, .f32⟩
  | .hbm, ⟨5, _⟩ => ⟨S898x2048, .f32⟩
  | .hbm, ⟨6, _⟩ => ⟨S898x2048, .f32⟩
  | .hbm, ⟨7, _⟩ => ⟨S898x2048, .f32⟩
  | .local _ .vmem, ⟨0, _⟩ => ⟨S8x898x256, .bf16⟩
  | .local _ .vmem, ⟨1, _⟩ => ⟨S8x898x256, .bf16⟩
  | .local _ .vmem, ⟨2, _⟩ => ⟨S898x256, .f32⟩
  | .local _ .vmem, ⟨3, _⟩ => ⟨S898x256, .f32⟩
  | .local _ .vmem, ⟨4, _⟩ => ⟨S898x256, .f32⟩
  | .local _ .vmem, ⟨5, _⟩ => ⟨S898x256, .f32⟩
  | .local _ .vmem, ⟨6, _⟩ => ⟨S898x256, .f32⟩
  | .local _ .vmem, ⟨7, _⟩ => ⟨S898x256, .f32⟩
  | .local _ .vmem, ⟨8, _⟩ => ⟨S898x256, .f32⟩
  | .local _ .vmem, ⟨9, _⟩ => ⟨S898x256, .f32⟩
  | .local _ .vmem, ⟨10, _⟩ => ⟨S898x256, .f32⟩
  | .local _ .vmem, ⟨11, _⟩ => ⟨S898x256, .f32⟩
  | .local _ .vmem, ⟨12, _⟩ => ⟨S898x256, .f32⟩
  | .local _ .vmem, ⟨13, _⟩ => ⟨S898x256, .f32⟩
  | .local _ .vmem, ⟨14, _⟩ => ⟨S898x256, .f32⟩
  | .local _ .vmem, ⟨15, _⟩ => ⟨S898x256, .f32⟩
  | _, _ => ⟨S8x898x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x898x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S898x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S898x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S898x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S898x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S898x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S898x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S898x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamInIdeal.lean ====
variable {F : FTy → Type} [FloatOps F] [Named F]
def κ : String → Option EReal := fun
  | "m_corr" => some ((8388608 / 5463681 : ℝ) : EReal)
  | "v_corr" => some ((268435456 / 2672307 : ℝ) : EReal)
  | _ => none
-- ==== AdamInRefIdeal.lean ====
abbrev S8x898x2048 : Shape := ⟨3, ![8, 898, 2048]⟩
abbrev S898x2048 : Shape := ⟨2, ![898, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x898x2048, .bf16⟩
  | .hbm, ⟨1, _⟩ => ⟨S898x2048, .f32⟩
  | .hbm, ⟨2, _⟩ => ⟨S898x2048, .f32⟩
  | .hbm, ⟨3, _⟩ => ⟨S898x2048, .f32⟩
  | .hbm, ⟨4, _⟩ => ⟨S8x898x2048, .f32⟩
  | .hbm, ⟨5, _⟩ => ⟨S_, .f32⟩
  | .hbm, ⟨6, _⟩ => ⟨S898x2048, .f32⟩
  | .hbm, ⟨7, _⟩ => ⟨S_, .f32⟩
  | .hbm, ⟨8, _⟩ => ⟨S898x2048, .f32⟩
  | .hbm, ⟨9, _⟩ => ⟨S898x2048, .f32⟩
  | .hbm, ⟨10, _⟩ => ⟨S_, .f32⟩
  | .hbm, ⟨11, _⟩ => ⟨S898x2048, .f32⟩
  | .hbm, ⟨12, _⟩ => ⟨S898x2048, .f32⟩
  | .hbm, ⟨13, _⟩ => ⟨S898x2048, .f32⟩
  | .hbm, ⟨14, _⟩ => ⟨S_, .f32⟩
  | .hbm, ⟨15, _⟩ => ⟨S898x2048, .f32⟩
  | .hbm, ⟨16, _⟩ => ⟨S898x2048, .f32⟩
  | .hbm, ⟨17, _⟩ => ⟨S898x2048, .f32⟩
  | .hbm, ⟨18, _⟩ => ⟨S_, .f32⟩
  | .hbm, ⟨19, _⟩ => ⟨S898x2048, .f32⟩
  | .hbm, ⟨20, _⟩ => ⟨S898x2048, .f32⟩
  | .hbm, ⟨21, _⟩ => ⟨S898x2048, .f32⟩
  | .hbm, ⟨22, _⟩ => ⟨S_, .f32⟩
  | .hbm, ⟨23, _⟩ => ⟨S898x2048, .f32⟩
  | .hbm, ⟨24, _⟩ => ⟨S898x2048, .f32⟩
  | .hbm, ⟨25, _⟩ => ⟨S_, .f32⟩
  | .hbm, ⟨26, _⟩ => ⟨S898x2048, .f32⟩
  | .hbm, ⟨27, _⟩ => ⟨S898x2048, .f32⟩
  | .hbm, ⟨28, _⟩ => ⟨S898x2048, .f32⟩
  | .hbm, ⟨29, _⟩ => ⟨S_, .f32⟩
  | .hbm, ⟨30, _⟩ => ⟨S898x2048, .f32⟩
  | .hbm, ⟨31, _⟩ => ⟨S898x2048, .f32⟩
  | .hbm, ⟨32, _⟩ => ⟨S898x2048, .f32⟩
  | .hbm, ⟨33, _⟩ => ⟨S_, .f32⟩
  | .hbm, ⟨34, _⟩ => ⟨S898x2048, .f32⟩
  | .hbm, ⟨35, _⟩ => ⟨S898x2048, .f32⟩
  | .hbm, ⟨36, _⟩ => ⟨S898x2048, .f32⟩
  | .hbm, ⟨37, _⟩ => ⟨S_, .f32⟩
  | .hbm, ⟨38, _⟩ => ⟨S898x2048, .f32⟩
  | .hbm, ⟨39, _⟩ => ⟨S898x2048, .f32⟩
  | _, _ => ⟨S8x898x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamSmall.lean ====
abbrev S8x40x128 : Shape := ⟨3, ![8, 40, 128]⟩
abbrev S40x128 : Shape := ⟨2, ![40, 128]⟩
abbrev S1x40x128 : Shape := ⟨3, ![1, 40, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x40x128, .f32⟩
  | .hbm, ⟨1, _⟩ => ⟨S40x128, .f32⟩
  | .hbm, ⟨2, _⟩ => ⟨S40x128, .f32⟩
  | .hbm, ⟨3, _⟩ => ⟨S40x128, .f32⟩
  | .hbm, ⟨4, _⟩ => ⟨S40x128, .f32⟩
  | .hbm, ⟨5, _⟩ => ⟨S40x128, .f32⟩
  | .hbm, ⟨6, _⟩ => ⟨S40x128, .f32⟩
  | .hbm, ⟨7, _⟩ => ⟨S40x128, .f32⟩
  | .local _ .vmem, ⟨0, _⟩ => ⟨S8x40x128, .f32⟩
  | .local _ .vmem, ⟨1, _⟩ => ⟨S40x128, .f32⟩
  | .local _ .vmem, ⟨2, _⟩ => ⟨S40x128, .f32⟩
  | .local _ .vmem, ⟨3, _⟩ => ⟨S40x128, .f32⟩
  | .local _ .vmem, ⟨4, _⟩ => ⟨S40x128, .f32⟩
  | .local _ .vmem, ⟨5, _⟩ => ⟨S40x128, .f32⟩
  | .local _ .vmem, ⟨6, _⟩ => ⟨S40x128, .f32⟩
  | .local _ .vmem, ⟨7, _⟩ => ⟨S40x128, .f32⟩
  | _, _ => ⟨S8x40x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S8x40x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S40x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S40x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S40x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S40x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S40x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S40x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S40x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamSmallIdeal.lean ====
variable {F : FTy → Type} [FloatOps F] [Named F]
def κ : String → Option EReal := fun
  | "m_corr" => some ((8388608 / 5463681 : ℝ) : EReal)
  | "v_corr" => some ((268435456 / 2672307 : ℝ) : EReal)
  | _ => none
-- ==== AdamSmallRefIdeal.lean ====
abbrev S8x40x128 : Shape := ⟨3, ![8, 40, 128]⟩
abbrev S40x128 : Shape := ⟨2, ![40, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x40x128, .f32⟩
  | .hbm, ⟨1, _⟩ => ⟨S40x128, .f32⟩
  | .hbm, ⟨2, _⟩ => ⟨S40x128, .f32⟩
  | .hbm, ⟨3, _⟩ => ⟨S40x128, .f32⟩
  | .hbm, ⟨4, _⟩ => ⟨S_, .f32⟩
  | .hbm, ⟨5, _⟩ => ⟨S40x128, .f32⟩
  | .hbm, ⟨6, _⟩ => ⟨S_, .f32⟩
  | .hbm, ⟨7, _⟩ => ⟨S40x128, .f32⟩
  | .hbm, ⟨8, _⟩ => ⟨S40x128, .f32⟩
  | .hbm, ⟨9, _⟩ => ⟨S_, .f32⟩
  | .hbm, ⟨10, _⟩ => ⟨S40x128, .f32⟩
  | .hbm, ⟨11, _⟩ => ⟨S40x128, .f32⟩
  | .hbm, ⟨12, _⟩ => ⟨S40x128, .f32⟩
  | .hbm, ⟨13, _⟩ => ⟨S_, .f32⟩
  | .hbm, ⟨14, _⟩ => ⟨S40x128, .f32⟩
  | .hbm, ⟨15, _⟩ => ⟨S40x128, .f32⟩
  | .hbm, ⟨16, _⟩ => ⟨S40x128, .f32⟩
  | .hbm, ⟨17, _⟩ => ⟨S_, .f32⟩
  | .hbm, ⟨18, _⟩ => ⟨S40x128, .f32⟩
  | .hbm, ⟨19, _⟩ => ⟨S40x128, .f32⟩
  | .hbm, ⟨20, _⟩ => ⟨S40x128, .f32⟩
  | .hbm, ⟨21, _⟩ => ⟨S_, .f32⟩
  | .hbm, ⟨22, _⟩ => ⟨S40x128, .f32⟩
  | .hbm, ⟨23, _⟩ => ⟨S40x128, .f32⟩
  | .hbm, ⟨24, _⟩ => ⟨S_, .f32⟩
  | .hbm, ⟨25, _⟩ => ⟨S40x128, .f32⟩
  | .hbm, ⟨26, _⟩ => ⟨S40x128, .f32⟩
  | .hbm, ⟨27, _⟩ => ⟨S40x128, .f32⟩
  | .hbm, ⟨28, _⟩ => ⟨S_, .f32⟩
  | .hbm, ⟨29, _⟩ => ⟨S40x128, .f32⟩
  | .hbm, ⟨30, _⟩ => ⟨S40x128, .f32⟩
  | .hbm, ⟨31, _⟩ => ⟨S40x128, .f32⟩
  | .hbm, ⟨32, _⟩ => ⟨S_, .f32⟩
  | .hbm, ⟨33, _⟩ => ⟨S40x128, .f32⟩
  | .hbm, ⟨34, _⟩ => ⟨S40x128, .f32⟩
  | .hbm, ⟨35, _⟩ => ⟨S40x128, .f32⟩
  | .hbm, ⟨36, _⟩ => ⟨S_, .f32⟩
  | .hbm, ⟨37, _⟩ => ⟨S40x128, .f32⟩
  | .hbm, ⟨38, _⟩ => ⟨S40x128, .f32⟩
  | _, _ => ⟨S8x40x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamConv.lean ====
abbrev S8x8x384 : Shape := ⟨3, ![8, 8, 384]⟩
abbrev S8x384 : Shape := ⟨2, ![8, 384]⟩
abbrev S1x8x384 : Shape := ⟨3, ![1, 8, 384]⟩

abbrev nBuf : Space → Nat
  | .hbm => 8
  | .vmem => 8
  | .smem => 0
  | _ => 0

abbrev bufTy : (tb : Table) → Fin (tcTables nBuf tb) → BufTy
  | .hbm, ⟨0, _⟩ => ⟨S8x8x384, .f32⟩
  | .hbm, ⟨1, _⟩ => ⟨S8x384, .f32⟩
  | .hbm, ⟨2, _⟩ => ⟨S8x384, .f32⟩
  | .hbm, ⟨3, _⟩ => ⟨S8x384, .f32⟩
  | .hbm, ⟨4, _⟩ => ⟨S8x384, .f32⟩
  | .hbm, ⟨5, _⟩ => ⟨S8x384, .f32⟩
  | .hbm, ⟨6, _⟩ => ⟨S8x384, .f32⟩
  | .hbm, ⟨7, _⟩ => ⟨S8x384, .f32⟩
  | .local _ .vmem, ⟨0, _⟩ => ⟨S8x8x384, .f32⟩
  | .local _ .vmem, ⟨1, _⟩ => ⟨S8x384, .f32⟩
  | .local _ .vmem, ⟨2, _⟩ => ⟨S8x384, .f32⟩
  | .local _ .vmem, ⟨3, _⟩ => ⟨S8x384, .f32⟩
  | .local _ .vmem, ⟨4, _⟩ => ⟨S8x384, .f32⟩
  | .local _ .vmem, ⟨5, _⟩ => ⟨S8x384, .f32⟩
  | .local _ .vmem, ⟨6, _⟩ => ⟨S8x384, .f32⟩
  | .local _ .vmem, ⟨7, _⟩ => ⟨S8x384, .f32⟩
  | _, _ => ⟨S8x8x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S8x8x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S8x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S8x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S8x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S8x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S8x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S8x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S8x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamConvIdeal.lean ====
variable {F : FTy → Type} [FloatOps F] [Named F]
def κ : String → Option EReal := fun
  | "m_corr" => some ((8388608 / 5463681 : ℝ) : EReal)
  | "v_corr" => some ((268435456 / 2672307 : ℝ) : EReal)
  | _ => none
-- ==== AdamConvRefIdeal.lean ====
abbrev S8x8x384 : Shape := ⟨3, ![8, 8, 384]⟩
abbrev S8x384 : Shape := ⟨2, ![8, 384]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x8x384, .f32⟩
  | .hbm, ⟨1, _⟩ => ⟨S8x384, .f32⟩
  | .hbm, ⟨2, _⟩ => ⟨S8x384, .f32⟩
  | .hbm, ⟨3, _⟩ => ⟨S8x384, .f32⟩
  | .hbm, ⟨4, _⟩ => ⟨S_, .f32⟩
  | .hbm, ⟨5, _⟩ => ⟨S8x384, .f32⟩
  | .hbm, ⟨6, _⟩ => ⟨S_, .f32⟩
  | .hbm, ⟨7, _⟩ => ⟨S8x384, .f32⟩
  | .hbm, ⟨8, _⟩ => ⟨S8x384, .f32⟩
  | .hbm, ⟨9, _⟩ => ⟨S_, .f32⟩
  | .hbm, ⟨10, _⟩ => ⟨S8x384, .f32⟩
  | .hbm, ⟨11, _⟩ => ⟨S8x384, .f32⟩
  | .hbm, ⟨12, _⟩ => ⟨S8x384, .f32⟩
  | .hbm, ⟨13, _⟩ => ⟨S_, .f32⟩
  | .hbm, ⟨14, _⟩ => ⟨S8x384, .f32⟩
  | .hbm, ⟨15, _⟩ => ⟨S8x384, .f32⟩
  | .hbm, ⟨16, _⟩ => ⟨S8x384, .f32⟩
  | .hbm, ⟨17, _⟩ => ⟨S_, .f32⟩
  | .hbm, ⟨18, _⟩ => ⟨S8x384, .f32⟩
  | .hbm, ⟨19, _⟩ => ⟨S8x384, .f32⟩
  | .hbm, ⟨20, _⟩ => ⟨S8x384, .f32⟩
  | .hbm, ⟨21, _⟩ => ⟨S_, .f32⟩
  | .hbm, ⟨22, _⟩ => ⟨S8x384, .f32⟩
  | .hbm, ⟨23, _⟩ => ⟨S8x384, .f32⟩
  | .hbm, ⟨24, _⟩ => ⟨S_, .f32⟩
  | .hbm, ⟨25, _⟩ => ⟨S8x384, .f32⟩
  | .hbm, ⟨26, _⟩ => ⟨S8x384, .f32⟩
  | .hbm, ⟨27, _⟩ => ⟨S8x384, .f32⟩
  | .hbm, ⟨28, _⟩ => ⟨S_, .f32⟩
  | .hbm, ⟨29, _⟩ => ⟨S8x384, .f32⟩
  | .hbm, ⟨30, _⟩ => ⟨S8x384, .f32⟩
  | .hbm, ⟨31, _⟩ => ⟨S8x384, .f32⟩
  | .hbm, ⟨32, _⟩ => ⟨S_, .f32⟩
  | .hbm, ⟨33, _⟩ => ⟨S8x384, .f32⟩
  | .hbm, ⟨34, _⟩ => ⟨S8x384, .f32⟩
  | .hbm, ⟨35, _⟩ => ⟨S8x384, .f32⟩
  | .hbm, ⟨36, _⟩ => ⟨S_, .f32⟩
  | .hbm, ⟨37, _⟩ => ⟨S8x384, .f32⟩
  | .hbm, ⟨38, _⟩ => ⟨S8x384, .f32⟩
  | _, _ => ⟨S8x8x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== ConvVBwd.lean ====
abbrev S4096x7296 : Shape := ⟨2, ![4096, 7296]⟩
abbrev S8x3072 : Shape := ⟨2, ![8, 3072]⟩
abbrev S4096x1024 : Shape := ⟨2, ![4096, 1024]⟩
abbrev S8x1024 : Shape := ⟨2, ![8, 1024]⟩
abbrev S4096x128 : Shape := ⟨2, ![4096, 128]⟩
abbrev S8x128 : Shape := ⟨2, ![8, 128]⟩
abbrev S1x128 : Shape := ⟨2, ![1, 128]⟩
abbrev S4088x128 : Shape := ⟨2, ![4088, 128]⟩
abbrev S128 : Shape := ⟨1, ![128]⟩

abbrev nBuf : Space → Nat
  | .hbm => 6
  | .vmem => 10
  | .smem => 0
  | _ => 0

abbrev bufTy : (tb : Table) → Fin (tcTables nBuf tb) → BufTy
  | .hbm, ⟨0, _⟩ => ⟨S4096x7296, .f32⟩
  | .hbm, ⟨1, _⟩ => ⟨S8x3072, .f32⟩
  | .hbm, ⟨2, _⟩ => ⟨S4096x1024, .f32⟩
  | .hbm, ⟨3, _⟩ => ⟨S4096x7296, .bf16⟩
  | .hbm, ⟨4, _⟩ => ⟨S4096x7296, .bf16⟩
  | .hbm, ⟨5, _⟩ => ⟨S8x1024, .f32⟩
  | .local _ .vmem, ⟨0, _⟩ => ⟨S4096x128, .f32⟩
  | .local _ .vmem, ⟨1, _⟩ => ⟨S4096x128, .f32⟩
  | .local _ .vmem, ⟨2, _⟩ => ⟨S8x128, .f32⟩
  | .local _ .vmem, ⟨3, _⟩ => ⟨S8x128, .f32⟩
  | .local _ .vmem, ⟨4, _⟩ => ⟨S4096x128, .f32⟩
  | .local _ .vmem, ⟨5, _⟩ => ⟨S4096x128, .f32⟩
  | .local _ .vmem, ⟨6, _⟩ => ⟨S4096x128, .bf16⟩
  | .local _ .vmem, ⟨7, _⟩ => ⟨S4096x128, .bf16⟩
  | .local _ .vmem, ⟨8, _⟩ => ⟨S8x128, .f32⟩
  | .local _ .vmem, ⟨9, _⟩ => ⟨S8x128, .f32⟩
  | _, _ => ⟨S4096x7296, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ConvVBwdRefIdeal.lean ====
abbrev S4096x7296 : Shape := ⟨2, ![4096, 7296]⟩
abbrev S8x3072 : Shape := ⟨2, ![8, 3072]⟩
abbrev S4096x1024 : Shape := ⟨2, ![4096, 1024]⟩
abbrev S4x1024 : Shape := ⟨2, ![4, 1024]⟩
abbrev S_ : Shape := ⟨0, ![]⟩
abbrev S3x1024 : Shape := ⟨2, ![3, 1024]⟩
abbrev S4099x1024 : Shape := ⟨2, ![4099, 1024]⟩
abbrev S1x1024 : Shape := ⟨2, ![1, 1024]⟩
abbrev S1024 : Shape := ⟨1, ![1024]⟩
abbrev S4096x2048 : Shape := ⟨2, ![4096, 2048]⟩
abbrev S4096x4224 : Shape := ⟨2, ![4096, 4224]⟩
abbrev S8x1024 : Shape := ⟨2, ![8, 1024]⟩

abbrev nBuf : Space → Nat
  | .hbm => 105
  | .vmem => 0
  | .smem => 0
  | _ => 0

abbrev bufTy : (tb : Table) → Fin (tcTables nBuf tb) → BufTy
  | .hbm, ⟨0, _⟩ => ⟨S4096x7296, .f32⟩
  | .hbm, ⟨1, _⟩ => ⟨S8x3072, .f32⟩
  | .hbm, ⟨2, _⟩ => ⟨S4096x1024, .f32⟩
  | .hbm, ⟨3, _⟩ => ⟨S4096x7296, .bf16⟩
  | .hbm, ⟨4, _⟩ => ⟨S4096x1024, .f32⟩
  | .hbm, ⟨5, _⟩ => ⟨S4x1024, .f32⟩
  | .hbm, ⟨6, _⟩ => ⟨S_, .f32⟩
  | .hbm, ⟨7, _⟩ => ⟨S3x1024, .f32⟩
  | .hbm, ⟨8, _⟩ => ⟨S4099x1024, .f32⟩
  | .hbm, ⟨9, _⟩ => ⟨S_, .f32⟩
  | .hbm, ⟨10, _⟩ => ⟨S3x1024, .f32⟩
  | .hbm, ⟨11, _⟩ => ⟨S1x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S_, .f32⟩
  | .hbm, ⟨57, _⟩ => ⟨S4099x1024, .f32⟩
  | .hbm, ⟨58, _⟩ => ⟨S_, .f32⟩
  | .hbm, ⟨59, _⟩ => ⟨S4x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S_, .f32⟩
  | .hbm, ⟨64, _⟩ => ⟨S1024, .f32⟩
  | .hbm, ⟨65, _⟩ => ⟨S1x1024, .f32⟩
  | .hbm, ⟨66, _⟩ => ⟨S_, .f32⟩
  | .hbm, ⟨67, _⟩ => ⟨S4099x1024, .f32⟩
  | .hbm, ⟨68, _⟩ => ⟨S4099x1024, .f32⟩
  | .hbm, ⟨69, _⟩ => ⟨S_, .f32⟩
  | .hbm, ⟨70, _⟩ => ⟨S4x1024, .f32⟩
  | .hbm, ⟨71, _⟩ => ⟨S4x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S_, .f32⟩
  | .hbm, ⟨76, _⟩ => ⟨S1024, .f32⟩
  | .hbm, ⟨77, _⟩ => ⟨S1x1024, .f32⟩
  | .hbm, ⟨78, _⟩ => ⟨S_, .f32⟩
  | .hbm, ⟨79, _⟩ => ⟨S4099x1024, .f32⟩
  | .hbm, ⟨80, _⟩ => ⟨S4099x1024, .f32⟩
  | .hbm, ⟨81, _⟩ => ⟨S_, .f32⟩
  | .hbm, ⟨82, _⟩ => ⟨S4x1024, .f32⟩
  | .hbm, ⟨83, _⟩ => ⟨S4x1024, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S_, .f32⟩
  | .hbm, ⟨88, _⟩ => ⟨S1024, .f32⟩
  | .hbm, ⟨89, _⟩ => ⟨S1x1024, .f32⟩
  | .hbm, ⟨90, _⟩ => ⟨S_, .f32⟩
  | .hbm, ⟨91, _⟩ => ⟨S4099x1024, .f32⟩
  | .hbm, ⟨92, _⟩ => ⟨S4099x1024, .f32⟩
  | .hbm, ⟨93, _⟩ => ⟨S_, .f32⟩
  | .hbm, ⟨94, _⟩ => ⟨S4x1024, .f32⟩
  | .hbm, ⟨95, _⟩ => ⟨S4x1024, .f32⟩
  | .hbm, ⟨96, _⟩ => ⟨S3x1024, .f32⟩
  | .hbm, ⟨97, _⟩ => ⟨S4096x1024, .f32⟩
  | .hbm, ⟨98, _⟩ => ⟨S4096x2048, .bf16⟩
  | .hbm, ⟨99, _⟩ => ⟨S4096x1024, .bf16⟩
  | .hbm, ⟨100, _⟩ => ⟨S4096x4224, .bf16⟩
  | .hbm, ⟨101, _⟩ => ⟨S4096x7296, .bf16⟩
  | .hbm, ⟨102, _⟩ => ⟨S_, .i32⟩
  | .hbm, ⟨103, _⟩ => ⟨S_, .f32⟩
  | .hbm, ⟨104, _⟩ => ⟨S8x1024, .f32⟩
  | _, _ => ⟨S4096x7296, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_v26_2 : Ref sig .tc := ⟨.hbm, 40, rfl⟩
abbrev main_call0_cst_1 : Ref sig .tc := ⟨.hbm, 41, rfl⟩
abbrev main_call0_v6 : Ref sig .tc := ⟨.hbm, 42, rfl⟩
abbrev main_call0_v7 : Ref sig .tc := ⟨.hbm, 43, rfl⟩
abbrev main_v26_1 : Ref sig .tc := ⟨.hbm, 44, rfl⟩
abbrev main_v26_0 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_2 : Ref sig .tc := ⟨.hbm, 53, rfl⟩
abbrev main_v31 : Ref sig .tc := ⟨.hbm, 54, rfl⟩
abbrev main_v32 : Ref sig .tc := ⟨.hbm, 55, rfl⟩
abbrev main_cst_3 : Ref sig .tc := ⟨.hbm, 56, rfl⟩
abbrev main_v33 : Ref sig .tc := ⟨.hbm, 57, rfl⟩
abbrev main_cst_4 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_5 : Ref sig .tc := ⟨.hbm, 63, rfl⟩
abbrev main_v38 : Ref sig .tc := ⟨.hbm, 64, rfl⟩
abbrev main_v39 : Ref sig .tc := ⟨.hbm, 65, rfl⟩
abbrev main_cst_6 : Ref sig .tc := ⟨.hbm, 66, rfl⟩
abbrev main_v40 : Ref sig .tc := ⟨.hbm, 67, rfl⟩
abbrev main_v41 : Ref sig .tc := ⟨.hbm, 68, rfl⟩
abbrev main_cst_7 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_8 : Ref sig .tc := ⟨.hbm, 75, rfl⟩
abbrev main_v47 : Ref sig .tc := ⟨.hbm, 76, rfl⟩
abbrev main_v48 : Ref sig .tc := ⟨.hbm, 77, rfl⟩
abbrev main_cst_9 : Ref sig .tc := ⟨.hbm, 78, rfl⟩
abbrev main_v49 : Ref sig .tc := ⟨.hbm, 79, rfl⟩
abbrev main_v50 : Ref sig .tc := ⟨.hbm, 80, rfl⟩
abbrev main_cst_10 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_11 : Ref sig .tc := ⟨.hbm, 87, rfl⟩
abbrev main_v56 : Ref sig .tc := ⟨.hbm, 88, rfl⟩
abbrev main_v57 : Ref sig .tc := ⟨.hbm, 89, rfl⟩
abbrev main_cst_12 : Ref sig .tc := ⟨.hbm, 90, rfl⟩
abbrev main_v58 : Ref sig .tc := ⟨.hbm, 91, rfl⟩
abbrev main_v59 : Ref sig .tc := ⟨.hbm, 92, rfl⟩
abbrev main_cst_13 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_c : Ref sig .tc := ⟨.hbm, 102, rfl⟩
abbrev main_call2_v0 : Ref sig .tc := ⟨.hbm, 103, rfl⟩
abbrev main_v68 : Ref sig .tc := ⟨.hbm, 104, rfl⟩

abbrev nD : Nat := 1
abbrev τ : Topo := Topo.v7x

variable {F : FTy → Type} [FloatOps F]
-- ==== ConvQBwd.lean ====
abbrev S4096x7296 : Shape := ⟨2, ![4096, 7296]⟩
abbrev S8x3072 : Shape := ⟨2, ![8, 3072]⟩
abbrev S4096x1024 : Shape := ⟨2, ![4096, 1024]⟩
abbrev S8x1024 : Shape := ⟨2, ![8, 1024]⟩
abbrev S4096x128 : Shape := ⟨2, ![4096, 128]⟩
abbrev S8x128 : Shape := ⟨2, ![8, 128]⟩
abbrev S1x128 : Shape := ⟨2, ![1, 128]⟩
abbrev S4088x128 : Shape := ⟨2, ![4088, 128]⟩
abbrev S4096 : Shape := ⟨1, ![4096]⟩
abbrev S4096x1 : Shape := ⟨2, ![4096, 1]⟩
abbrev S128 : Shape := ⟨1, ![128]⟩

abbrev nBuf : Space → Nat
  | .hbm => 6
  | .vmem => 10
  | .smem => 0
  | _ => 0

abbrev bufTy : (tb : Table) → Fin (tcTables nBuf tb) → BufTy
  | .hbm, ⟨0, _⟩ => ⟨S4096x7296, .f32⟩
  | .hbm, ⟨1, _⟩ => ⟨S8x3072, .f32⟩
  | .hbm, ⟨2, _⟩ => ⟨S4096x1024, .f32⟩
  | .hbm, ⟨3, _⟩ => ⟨S4096x7296, .bf16⟩
  | .hbm, ⟨4, _⟩ => ⟨S4096x7296, .bf16⟩
  | .hbm, ⟨5, _⟩ => ⟨S8x1024, .f32⟩
  | .local _ .vmem, ⟨0, _⟩ => ⟨S4096x128, .f32⟩
  | .local _ .vmem, ⟨1, _⟩ => ⟨S4096x128, .f32⟩
  | .local _ .vmem, ⟨2, _⟩ => ⟨S8x128, .f32⟩
  | .local _ .vmem, ⟨3, _⟩ => ⟨S8x128, .f32⟩
  | .local _ .vmem, ⟨4, _⟩ => ⟨S4096x128, .f32⟩
  | .local _ .vmem, ⟨5, _⟩ => ⟨S4096x128, .f32⟩
  | .local _ .vmem, ⟨6, _⟩ => ⟨S4096x128, .bf16⟩
  | .local _ .vmem, ⟨7, _⟩ => ⟨S4096x128, .bf16⟩
  | .local _ .vmem, ⟨8, _⟩ => ⟨S8x128, .f32⟩
  | .local _ .vmem, ⟨9, _⟩ => ⟨S8x128, .f32⟩
  | _, _ => ⟨S4096x7296, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ConvQBwdRefIdeal.lean ====
abbrev S4096x7296 : Shape := ⟨2, ![4096, 7296]⟩
abbrev S8x3072 : Shape := ⟨2, ![8, 3072]⟩
abbrev S4096x1024 : Shape := ⟨2, ![4096, 1024]⟩
abbrev S4x1024 : Shape := ⟨2, ![4, 1024]⟩
abbrev S_ : Shape := ⟨0, ![]⟩
abbrev S3x1024 : Shape := ⟨2, ![3, 1024]⟩
abbrev S4099x1024 : Shape := ⟨2, ![4099, 1024]⟩
abbrev S1x1024 : Shape := ⟨2, ![1, 1024]⟩
abbrev S4096x8x128 : Shape := ⟨3, ![4096, 8, 128]⟩
abbrev S4096x8 : Shape := ⟨2, ![4096, 8]⟩
abbrev S4096x8x1 : Shape := ⟨3, ![4096, 8, 1]⟩
abbrev S1024 : Shape := ⟨1, ![1024]⟩
abbrev S4096x6272 : Shape := ⟨2, ![4096, 6272]⟩
abbrev S8x1024 : Shape := ⟨2, ![8, 1024]⟩

abbrev nBuf : Space → Nat
  | .hbm => 142
  | .vmem => 0
  | .smem => 0
  | _ => 0

abbrev hbmTy0_0 (i : Nat) : BufTy := match i % 128 with
  | 0 => ⟨S4096x7296, .f32⟩
  | 1 => ⟨S8x3072, .f32⟩
  | 2 => ⟨S4096x1024, .f32⟩
  | 3 => ⟨S4096x7296, .bf16⟩
  | 4 => ⟨S4096x1024, .f32⟩
  | 5 => ⟨S4x1024, .f32⟩
  | 6 => ⟨S_, .f32⟩
  | 7 => ⟨S3x1024, .f32⟩
  | 8 => ⟨S4099x1024, .f32⟩
  | 9 => ⟨S_, .f32⟩
  | 10 => ⟨S3x1024, .f32⟩
  | 11 => ⟨S1x1024, .f32⟩
  | 12 => ⟨S4096x1024, .f32⟩
  | 13 => ⟨S4096x1024, .f32⟩
  | 14 => ⟨S4096x1024, .f32⟩
  | 15 => ⟨S_, .f32⟩
  | 16 => ⟨S4096x1024, .f32⟩
  | 17 => ⟨S4096x1024, .f32⟩
  | 18 => ⟨S1x1024, .f32⟩
  | 19 => ⟨S4096x1024, .f32⟩
  | 20 => ⟨S4096x1024, .f32⟩
  | 21 => ⟨S4096x1024, .f32⟩
  | 22 => ⟨S4096x1024, .f32⟩
  | 23 => ⟨S1x1024, .f32⟩
  | 24 => ⟨S4096x1024, .f32⟩
  | 25 => ⟨S4096x1024, .f32⟩
  | 26 => ⟨S4096x1024, .f32⟩
  | 27 => ⟨S4096x1024, .f32⟩
  | 28 => ⟨S1x1024, .f32⟩
  | 29 => ⟨S4096x1024, .f32⟩
  | 30 => ⟨S4096x1024, .f32⟩
  | 31 => ⟨S4096x1024, .f32⟩
  | 32 => ⟨S4096x1024, .f32⟩
  | 33 => ⟨S4096x1024, .f32⟩
  | 34 => ⟨S4096x1024, .f32⟩
  | 35 => ⟨S_, .f32⟩
  | 36 => ⟨S4096x1024, .f32⟩
  | 37 => ⟨S4096x1024, .f32⟩
  | 38 => ⟨S_, .f32⟩
  | 39 => ⟨S4096x1024, .f32⟩
  | 40 => ⟨S4096x1024, .f32⟩
  | 41 => ⟨S_, .f32⟩
  | 42 => ⟨S4096x1024, .f32⟩
  | 43 => ⟨S4096x1024, .f32⟩
  | 44 => ⟨S4096x1024, .f32⟩
  | 45 => ⟨S4096x1024, .f32⟩
  | 46 => ⟨S4096x8x128, .f32⟩
  | 47 => ⟨S4096x8x128, .f32⟩
  | 48 => ⟨S_, .f32⟩
  | 49 => ⟨S4096x8, .f32⟩
  | 50 => ⟨S4096x8x1, .f32⟩
  | 51 => ⟨S_, .f32⟩
  | 52 => ⟨S4096x8x1, .f32⟩
  | 53 => ⟨S4096x8x1, .f32⟩
  | 54 => ⟨S4096x8x1, .f32⟩
  | 55 => ⟨S4096x8x1, .f32⟩
  | 56 => ⟨S_, .f32⟩
  | 57 => ⟨S4096x8x1, .f32⟩
  | 58 => ⟨S4096x8x1, .f32⟩
  | 59 => ⟨S4096x8x128, .f32⟩
  | 60 => ⟨S4096x8x128, .f32⟩
  | 61 => ⟨S4096x1024, .f32⟩
  | 62 => ⟨S_, .f32⟩
  | 63 => ⟨S4096x1024, .f32⟩
  | 64 => ⟨S4096x1024, .f32⟩
  | 65 => ⟨S_, .f32⟩
  | 66 => ⟨S4096x1024, .f32⟩
  | 67 => ⟨S4096x1024, .f32⟩
  | 68 => ⟨S4096x8x128, .f32⟩
  | 69 => ⟨S4096x8x128, .f32⟩
  | 70 => ⟨S_, .f32⟩
  | 71 => ⟨S4096x8, .f32⟩
  | 72 => ⟨S4096x8x1, .f32⟩
  | 73 => ⟨S4096x8x128, .f32⟩
  | 74 => ⟨S4096x8x128, .f32⟩
  | 75 => ⟨S4096x8x1, .f32⟩
  | 76 => ⟨S_, .f32⟩
  | 77 => ⟨S4096x8, .f32⟩
  | 78 => ⟨S4096x8x128, .f32⟩
  | 79 => ⟨S4096x8x128, .f32⟩
  | 80 => ⟨S4096x8x128, .f32⟩
  | 81 => ⟨S4096x8x128, .f32⟩
  | 82 => ⟨S4096x8x128, .f32⟩
  | 83 => ⟨S4096x1024, .f32⟩
  | 84 => ⟨S4096x1024, .f32⟩
  | 85 => ⟨S4096x1024, .f32⟩
  | 86 => ⟨S4096x1024, .f32⟩
  | 87 => ⟨S4096x1024, .f32⟩
  | 88 => ⟨S4096x1024, .f32⟩
  | 89 => ⟨S4096x1024, .f32⟩
  | 90 => ⟨S4096x1024, .f32⟩
  | 91 => ⟨S_, .f32⟩
  | 92 => ⟨S1024, .f32⟩
  | 93 => ⟨S1x1024, .f32⟩
  | 94 => ⟨S_, .f32⟩
  | 95 => ⟨S4099x1024, .f32⟩
  | 96 => ⟨S_, .f32⟩
  | 97 => ⟨S4x1024, .f32⟩
  | 98 => ⟨S4096x1024, .f32⟩
  | 99 => ⟨S4096x1024, .f32⟩
  | 100 => ⟨S4096x1024, .f32⟩
  | 101 => ⟨S_, .f32⟩
  | 102 => ⟨S1024, .f32⟩
  | 103 => ⟨S1x1024, .f32⟩
  | 104 => ⟨S_, .f32⟩
  | 105 => ⟨S4099x1024, .f32⟩
  | 106 => ⟨S4099x1024, .f32⟩
  | 107 => ⟨S_, .f32⟩
  | 108 => ⟨S4x1024, .f32⟩
  | 109 => ⟨S4x1024, .f32⟩
  | 110 => ⟨S4096x1024, .f32⟩
  | 111 => ⟨S4096x1024, .f32⟩
  | 112 => ⟨S4096x1024, .f32⟩
  | 113 => ⟨S_, .f32⟩
  | 114 => ⟨S1024, .f32⟩
  | 115 => ⟨S1x1024, .f32⟩
  | 116 => ⟨S_, .f32⟩
  | 117 => ⟨S4099x1024, .f32⟩
  | 118 => ⟨S4099x1024, .f32⟩
  | 119 => ⟨S_, .f32⟩
  | 120 => ⟨S4x1024, .f32⟩
  | 121 => ⟨S4x1024, .f32⟩
  | 122 => ⟨S4096x1024, .f32⟩
  | 123 => ⟨S4096x1024, .f32⟩
  | 124 => ⟨S4096x1024, .f32⟩
  | 125 => ⟨S_, .f32⟩
  | 126 => ⟨S1024, .f32⟩
  | 127 => ⟨S1x1024, .f32⟩
  | _ => ⟨S4096x7296, .f32⟩

abbrev hbmTy0_1 (i : Nat) : BufTy := match i % 128 with
  | 0 => ⟨S_, .f32⟩
  | 1 => ⟨S4099x1024, .f32⟩
  | 2 => ⟨S4099x1024, .f32⟩
  | 3 => ⟨S_, .f32⟩
  | 4 => ⟨S4x1024, .f32⟩
  | 5 => ⟨S4x1024, .f32⟩
  | 6 => ⟨S3x1024, .f32⟩
  | 7 => ⟨S4096x1024, .f32⟩
  | 8 => ⟨S4096x1024, .bf16⟩
  | 9 => ⟨S4096x6272, .bf16⟩
  | 10 => ⟨S4096x7296, .bf16⟩
  | 11 => ⟨S_, .i32⟩
  | 12 => ⟨S_, .f32⟩
  | 13 => ⟨S8x1024, .f32⟩
  | _ => ⟨S4096x7296, .f32⟩

abbrev hbmTy (i : Nat) : BufTy := match i / 128 with
  | 0 => hbmTy0_0 i
  | 1 => hbmTy0_1 i
  | _ => ⟨S4096x7296, .f32⟩

abbrev bufTy : (tb : Table) → Fin (tcTables nBuf tb) → BufTy
  | .hbm, ⟨i, _⟩ => hbmTy i
  | _, _ => ⟨S4096x7296, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_v26_2 : Ref sig .tc := ⟨.hbm, 40, rfl⟩
abbrev main_call0_cst_1 : Ref sig .tc := ⟨.hbm, 41, rfl⟩
abbrev main_call0_v6 : Ref sig .tc := ⟨.hbm, 42, rfl⟩
abbrev main_call0_v7 : Ref sig .tc := ⟨.hbm, 43, rfl⟩
abbrev main_v26_1 : Ref sig .tc := ⟨.hbm, 44, rfl⟩
abbrev main_v26_0 : Ref sig .tc := ⟨.hbm, 45, rfl⟩
abbrev main_v27 : Ref sig .tc := ⟨.hbm, 46, rfl⟩
abbrev main_v28 : Ref sig .tc := ⟨.hbm, 47, rfl⟩
abbrev main_cst_2 : Ref sig .tc := ⟨.hbm, 48, rfl⟩
abbrev main_v29 : Ref sig .tc := ⟨.hbm, 49, rfl⟩
abbrev main_v30 : Ref sig .tc := ⟨.hbm, 50, rfl⟩
abbrev main_cst_3 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_4 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_5 : Ref sig .tc := ⟨.hbm, 62, rfl⟩
abbrev main_v40 : Ref sig .tc := ⟨.hbm, 63, rfl⟩
abbrev main_v41 : Ref sig .tc := ⟨.hbm, 64, rfl⟩
abbrev main_cst_6 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_7 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_8 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_call1_v0 : Ref sig .tc := ⟨.hbm, 84, rfl⟩
abbrev main_call1_v1 : Ref sig .tc := ⟨.hbm, 85, rfl⟩
abbrev main_call1_v2 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_9 : Ref sig .tc := ⟨.hbm, 91, rfl⟩
abbrev main_v62 : Ref sig .tc := ⟨.hbm, 92, rfl⟩
abbrev main_v63 : Ref sig .tc := ⟨.hbm, 93, rfl⟩
abbrev main_cst_10 : Ref sig .tc := ⟨.hbm, 94, rfl⟩
abbrev main_v64 : Ref sig .tc := ⟨.hbm, 95, rfl⟩
abbrev main_cst_11 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_cst_12 : Ref sig .tc := ⟨.hbm, 101, rfl⟩
abbrev main_v69 : Ref sig .tc := ⟨.hbm, 102, rfl⟩
abbrev main_v70 : Ref sig .tc := ⟨.hbm, 103, rfl⟩
abbrev main_cst_13 : Ref sig .tc := ⟨.hbm, 104, rfl⟩
abbrev main_v71 : Ref sig .tc := ⟨.hbm, 105, rfl⟩
abbrev main_v72 : Ref sig .tc := ⟨.hbm, 106, rfl⟩
abbrev main_cst_14 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_cst_15 : Ref sig .tc := ⟨.hbm, 113, rfl⟩
abbrev main_v78 : Ref sig .tc := ⟨.hbm, 114, rfl⟩
abbrev main_v79 : Ref sig .tc := ⟨.hbm, 115, rfl⟩
abbrev main_cst_16 : Ref sig .tc := ⟨.hbm, 116, rfl⟩
abbrev main_v80 : Ref sig .tc := ⟨.hbm, 117, rfl⟩
abbrev main_v81 : Ref sig .tc := ⟨.hbm, 118, rfl⟩
abbrev main_cst_17 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_cst_18 : Ref sig .tc := ⟨.hbm, 125, rfl⟩
abbrev main_v87 : Ref sig .tc := ⟨.hbm, 126, rfl⟩
abbrev main_v88 : Ref sig .tc := ⟨.hbm, 127, rfl⟩
abbrev main_cst_19 : Ref sig .tc := ⟨.hbm, 128, rfl⟩
abbrev main_v89 : Ref sig .tc := ⟨.hbm, 129, rfl⟩
abbrev main_v90 : Ref sig .tc := ⟨.hbm, 130, rfl⟩
abbrev main_cst_20 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_c : Ref sig .tc := ⟨.hbm, 139, rfl⟩
abbrev main_call2_v0 : Ref sig .tc := ⟨.hbm, 140, rfl⟩
abbrev main_v98 : Ref sig .tc := ⟨.hbm, 141, rfl⟩

abbrev nD : Nat := 1
abbrev τ : Topo := Topo.v7x

variable {F : FTy → Type} [FloatOps F]
-- ==== ConvKBwd.lean ====
abbrev S4096x7296 : Shape := ⟨2, ![4096, 7296]⟩
abbrev S8x3072 : Shape := ⟨2, ![8, 3072]⟩
abbrev S4096x1024 : Shape := ⟨2, ![4096, 1024]⟩
abbrev S8x1024 : Shape := ⟨2, ![8, 1024]⟩
abbrev S4096x128 : Shape := ⟨2, ![4096, 128]⟩
abbrev S8x128 : Shape := ⟨2, ![8, 128]⟩
abbrev S1x128 : Shape := ⟨2, ![1, 128]⟩
abbrev S4088x128 : Shape := ⟨2, ![4088, 128]⟩
abbrev S4096 : Shape := ⟨1, ![4096]⟩
abbrev S4096x1 : Shape := ⟨2, ![4096, 1]⟩
abbrev S128 : Shape := ⟨1, ![128]⟩

abbrev nBuf : Space → Nat
  | .hbm => 6
  | .vmem => 10
  | .smem => 0
  | _ => 0

abbrev bufTy : (tb : Table) → Fin (tcTables nBuf tb) → BufTy
  | .hbm, ⟨0, _⟩ => ⟨S4096x7296, .f32⟩
  | .hbm, ⟨1, _⟩ => ⟨S8x3072, .f32⟩
  | .hbm, ⟨2, _⟩ => ⟨S4096x1024, .f32⟩
  | .hbm, ⟨3, _⟩ => ⟨S4096x7296, .bf16⟩
  | .hbm, ⟨4, _⟩ => ⟨S4096x7296, .bf16⟩
  | .hbm, ⟨5, _⟩ => ⟨S8x1024, .f32⟩
  | .local _ .vmem, ⟨0, _⟩ => ⟨S4096x128, .f32⟩
  | .local _ .vmem, ⟨1, _⟩ => ⟨S4096x128, .f32⟩
  | .local _ .vmem, ⟨2, _⟩ => ⟨S8x128, .f32⟩
  | .local _ .vmem, ⟨3, _⟩ => ⟨S8x128, .f32⟩
  | .local _ .vmem, ⟨4, _⟩ => ⟨S4096x128, .f32⟩
  | .local _ .vmem, ⟨5, _⟩ => ⟨S4096x128, .f32⟩
  | .local _ .vmem, ⟨6, _⟩ => ⟨S4096x128, .bf16⟩
  | .local _ .vmem, ⟨7, _⟩ => ⟨S4096x128, .bf16⟩
  | .local _ .vmem, ⟨8, _⟩ => ⟨S8x128, .f32⟩
  | .local _ .vmem, ⟨9, _⟩ => ⟨S8x128, .f32⟩
  | _, _ => ⟨S4096x7296, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ConvKBwdRefIdeal.lean ====
abbrev S4096x7296 : Shape := ⟨2, ![4096, 7296]⟩
abbrev S8x3072 : Shape := ⟨2, ![8, 3072]⟩
abbrev S4096x1024 : Shape := ⟨2, ![4096, 1024]⟩
abbrev S4x1024 : Shape := ⟨2, ![4, 1024]⟩
abbrev S_ : Shape := ⟨0, ![]⟩
abbrev S3x1024 : Shape := ⟨2, ![3, 1024]⟩
abbrev S4099x1024 : Shape := ⟨2, ![4099, 1024]⟩
abbrev S1x1024 : Shape := ⟨2, ![1, 1024]⟩
abbrev S4096x8x128 : Shape := ⟨3, ![4096, 8, 128]⟩
abbrev S4096x8 : Shape := ⟨2, ![4096, 8]⟩
abbrev S4096x8x1 : Shape := ⟨3, ![4096, 8, 1]⟩
abbrev S1024 : Shape := ⟨1, ![1024]⟩
abbrev S4096x5248 : Shape := ⟨2, ![4096, 5248]⟩
abbrev S8x1024 : Shape := ⟨2, ![8, 1024]⟩

abbrev nBuf : Space → Nat
  | .hbm => 137
  | .vmem => 0
  | .smem => 0
  | _ => 0

abbrev hbmTy0_0 (i : Nat) : BufTy := match i % 128 with
  | 0 => ⟨S4096x7296, .f32⟩
  | 1 => ⟨S8x3072, .f32⟩
  | 2 => ⟨S4096x1024, .f32⟩
  | 3 => ⟨S4096x7296, .bf16⟩
  | 4 => ⟨S4096x1024, .f32⟩
  | 5 => ⟨S4x1024, .f32⟩
  | 6 => ⟨S_, .f32⟩
  | 7 => ⟨S3x1024, .f32⟩
  | 8 => ⟨S4099x1024, .f32⟩
  | 9 => ⟨S_, .f32⟩
  | 10 => ⟨S3x1024, .f32⟩
  | 11 => ⟨S1x1024, .f32⟩
  | 12 => ⟨S4096x1024, .f32⟩
  | 13 => ⟨S4096x1024, .f32⟩
  | 14 => ⟨S4096x1024, .f32⟩
  | 15 => ⟨S_, .f32⟩
  | 16 => ⟨S4096x1024, .f32⟩
  | 17 => ⟨S4096x1024, .f32⟩
  | 18 => ⟨S1x1024, .f32⟩
  | 19 => ⟨S4096x1024, .f32⟩
  | 20 => ⟨S4096x1024, .f32⟩
  | 21 => ⟨S4096x1024, .f32⟩
  | 22 => ⟨S4096x1024, .f32⟩
  | 23 => ⟨S1x1024, .f32⟩
  | 24 => ⟨S4096x1024, .f32⟩
  | 25 => ⟨S4096x1024, .f32⟩
  | 26 => ⟨S4096x1024, .f32⟩
  | 27 => ⟨S4096x1024, .f32⟩
  | 28 => ⟨S1x1024, .f32⟩
  | 29 => ⟨S4096x1024, .f32⟩
  | 30 => ⟨S4096x1024, .f32⟩
  | 31 => ⟨S4096x1024, .f32⟩
  | 32 => ⟨S4096x1024, .f32⟩
  | 33 => ⟨S4096x1024, .f32⟩
  | 34 => ⟨S4096x1024, .f32⟩
  | 35 => ⟨S_, .f32⟩
  | 36 => ⟨S4096x1024, .f32⟩
  | 37 => ⟨S4096x1024, .f32⟩
  | 38 => ⟨S_, .f32⟩
  | 39 => ⟨S4096x1024, .f32⟩
  | 40 => ⟨S4096x1024, .f32⟩
  | 41 => ⟨S_, .f32⟩
  | 42 => ⟨S4096x1024, .f32⟩
  | 43 => ⟨S4096x1024, .f32⟩
  | 44 => ⟨S4096x1024, .f32⟩
  | 45 => ⟨S4096x1024, .f32⟩
  | 46 => ⟨S4096x8x128, .f32⟩
  | 47 => ⟨S4096x8x128, .f32⟩
  | 48 => ⟨S_, .f32⟩
  | 49 => ⟨S4096x8, .f32⟩
  | 50 => ⟨S4096x8x1, .f32⟩
  | 51 => ⟨S_, .f32⟩
  | 52 => ⟨S4096x8x1, .f32⟩
  | 53 => ⟨S4096x8x1, .f32⟩
  | 54 => ⟨S4096x8x1, .f32⟩
  | 55 => ⟨S4096x8x1, .f32⟩
  | 56 => ⟨S_, .f32⟩
  | 57 => ⟨S4096x8x1, .f32⟩
  | 58 => ⟨S4096x8x1, .f32⟩
  | 59 => ⟨S4096x8x128, .f32⟩
  | 60 => ⟨S4096x8x128, .f32⟩
  | 61 => ⟨S4096x1024, .f32⟩
  | 62 => ⟨S4096x8x128, .f32⟩
  | 63 => ⟨S4096x8x128, .f32⟩
  | 64 => ⟨S_, .f32⟩
  | 65 => ⟨S4096x8, .f32⟩
  | 66 => ⟨S4096x8x1, .f32⟩
  | 67 => ⟨S4096x8x128, .f32⟩
  | 68 => ⟨S4096x8x128, .f32⟩
  | 69 => ⟨S4096x8x1, .f32⟩
  | 70 => ⟨S_, .f32⟩
  | 71 => ⟨S4096x8, .f32⟩
  | 72 => ⟨S4096x8x128, .f32⟩
  | 73 => ⟨S4096x8x128, .f32⟩
  | 74 => ⟨S4096x8x128, .f32⟩
  | 75 => ⟨S4096x8x128, .f32⟩
  | 76 => ⟨S4096x8x128, .f32⟩
  | 77 => ⟨S4096x1024, .f32⟩
  | 78 => ⟨S4096x1024, .f32⟩
  | 79 => ⟨S4096x1024, .f32⟩
  | 80 => ⟨S4096x1024, .f32⟩
  | 81 => ⟨S4096x1024, .f32⟩
  | 82 => ⟨S4096x1024, .f32⟩
  | 83 => ⟨S4096x1024, .f32⟩
  | 84 => ⟨S4096x1024, .f32⟩
  | 85 => ⟨S_, .f32⟩
  | 86 => ⟨S1024, .f32⟩
  | 87 => ⟨S1x1024, .f32⟩
  | 88 => ⟨S_, .f32⟩
  | 89 => ⟨S4099x1024, .f32⟩
  | 90 => ⟨S_, .f32⟩
  | 91 => ⟨S4x1024, .f32⟩
  | 92 => ⟨S4096x1024, .f32⟩
  | 93 => ⟨S4096x1024, .f32⟩
  | 94 => ⟨S4096x1024, .f32⟩
  | 95 => ⟨S_, .f32⟩
  | 96 => ⟨S1024, .f32⟩
  | 97 => ⟨S1x1024, .f32⟩
  | 98 => ⟨S_, .f32⟩
  | 99 => ⟨S4099x1024, .f32⟩
  | 100 => ⟨S4099x1024, .f32⟩
  | 101 => ⟨S_, .f32⟩
  | 102 => ⟨S4x1024, .f32⟩
  | 103 => ⟨S4x1024, .f32⟩
  | 104 => ⟨S4096x1024, .f32⟩
  | 105 => ⟨S4096x1024, .f32⟩
  | 106 => ⟨S4096x1024, .f32⟩
  | 107 => ⟨S_, .f32⟩
  | 108 => ⟨S1024, .f32⟩
  | 109 => ⟨S1x1024, .f32⟩
  | 110 => ⟨S_, .f32⟩
  | 111 => ⟨S4099x1024, .f32⟩
  | 112 => ⟨S4099x1024, .f32⟩
  | 113 => ⟨S_, .f32⟩
  | 114 => ⟨S4x1024, .f32⟩
  | 115 => ⟨S4x1024, .f32⟩
  | 116 => ⟨S4096x1024, .f32⟩
  | 117 => ⟨S4096x1024, .f32⟩
  | 118 => ⟨S4096x1024, .f32⟩
  | 119 => ⟨S_, .f32⟩
  | 120 => ⟨S1024, .f32⟩
  | 121 => ⟨S1x1024, .f32⟩
  | 122 => ⟨S_, .f32⟩
  | 123 => ⟨S4099x1024, .f32⟩
  | 124 => ⟨S4099x1024, .f32⟩
  | 125 => ⟨S_, .f32⟩
  | 126 => ⟨S4x1024, .f32⟩
  | 127 => ⟨S4x1024, .f32⟩
  | _ => ⟨S4096x7296, .f32⟩

abbrev hbmTy0_1 (i : Nat) : BufTy := match i % 128 with
  | 0 => ⟨S3x1024, .f32⟩
  | 1 => ⟨S4096x1024, .f32⟩
  | 2 => ⟨S4096x1024, .bf16⟩
  | 3 => ⟨S4096x1024, .bf16⟩
  | 4 => ⟨S4096x5248, .bf16⟩
  | 5 => ⟨S4096x7296, .bf16⟩
  | 6 => ⟨S_, .i32⟩
  | 7 => ⟨S_, .f32⟩
  | 8 => ⟨S8x1024, .f32⟩
  | _ => ⟨S4096x7296, .f32⟩

abbrev hbmTy (i : Nat) : BufTy := match i / 128 with
  | 0 => hbmTy0_0 i
  | 1 => hbmTy0_1 i
  | _ => ⟨S4096x7296, .f32⟩

abbrev bufTy : (tb : Table) → Fin (tcTables nBuf tb) → BufTy
  | .hbm, ⟨i, _⟩ => hbmTy i
  | _, _ => ⟨S4096x7296, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_v26_2 : Ref sig .tc := ⟨.hbm, 40, rfl⟩
abbrev main_call0_cst_1 : Ref sig .tc := ⟨.hbm, 41, rfl⟩
abbrev main_call0_v6 : Ref sig .tc := ⟨.hbm, 42, rfl⟩
abbrev main_call0_v7 : Ref sig .tc := ⟨.hbm, 43, rfl⟩
abbrev main_v26_1 : Ref sig .tc := ⟨.hbm, 44, rfl⟩
abbrev main_v26_0 : Ref sig .tc := ⟨.hbm, 45, rfl⟩
abbrev main_v27 : Ref sig .tc := ⟨.hbm, 46, rfl⟩
abbrev main_v28 : Ref sig .tc := ⟨.hbm, 47, rfl⟩
abbrev main_cst_2 : Ref sig .tc := ⟨.hbm, 48, rfl⟩
abbrev main_v29 : Ref sig .tc := ⟨.hbm, 49, rfl⟩
abbrev main_v30 : Ref sig .tc := ⟨.hbm, 50, rfl⟩
abbrev main_cst_3 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_4 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_5 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_6 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_call1_v0 : Ref sig .tc := ⟨.hbm, 78, rfl⟩
abbrev main_call1_v1 : Ref sig .tc := ⟨.hbm, 79, rfl⟩
abbrev main_call1_v2 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_7 : Ref sig .tc := ⟨.hbm, 85, rfl⟩
abbrev main_v58 : Ref sig .tc := ⟨.hbm, 86, rfl⟩
abbrev main_v59 : Ref sig .tc := ⟨.hbm, 87, rfl⟩
abbrev main_cst_8 : Ref sig .tc := ⟨.hbm, 88, rfl⟩
abbrev main_v60 : Ref sig .tc := ⟨.hbm, 89, rfl⟩
abbrev main_cst_9 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_10 : Ref sig .tc := ⟨.hbm, 95, rfl⟩
abbrev main_v65 : Ref sig .tc := ⟨.hbm, 96, rfl⟩
abbrev main_v66 : Ref sig .tc := ⟨.hbm, 97, rfl⟩
abbrev main_cst_11 : Ref sig .tc := ⟨.hbm, 98, rfl⟩
abbrev main_v67 : Ref sig .tc := ⟨.hbm, 99, rfl⟩
abbrev main_v68 : Ref sig .tc := ⟨.hbm, 100, rfl⟩
abbrev main_cst_12 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_cst_13 : Ref sig .tc := ⟨.hbm, 107, rfl⟩
abbrev main_v74 : Ref sig .tc := ⟨.hbm, 108, rfl⟩
abbrev main_v75 : Ref sig .tc := ⟨.hbm, 109, rfl⟩
abbrev main_cst_14 : Ref sig .tc := ⟨.hbm, 110, rfl⟩
abbrev main_v76 : Ref sig .tc := ⟨.hbm, 111, rfl⟩
abbrev main_v77 : Ref sig .tc := ⟨.hbm, 112, rfl⟩
abbrev main_cst_15 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_cst_16 : Ref sig .tc := ⟨.hbm, 119, rfl⟩
abbrev main_v83 : Ref sig .tc := ⟨.hbm, 120, rfl⟩
abbrev main_v84 : Ref sig .tc := ⟨.hbm, 121, rfl⟩
abbrev main_cst_17 : Ref sig .tc := ⟨.hbm, 122, rfl⟩
abbrev main_v85 : Ref sig .tc := ⟨.hbm, 123, rfl⟩
abbrev main_v86 : Ref sig .tc := ⟨.hbm, 124, rfl⟩
abbrev main_cst_18 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_c : Ref sig .tc := ⟨.hbm, 134, rfl⟩
abbrev main_call2_v0 : Ref sig .tc := ⟨.hbm, 135, rfl⟩
abbrev main_v95 : Ref sig .tc := ⟨.hbm, 136, rfl⟩

abbrev nD : Nat := 1
abbrev τ : Topo := Topo.v7x

variable {F : FTy → Type} [FloatOps F]
-- ==== CastInto.lean ====
abbrev S4096x1024 : Shape := ⟨2, ![4096, 1024]⟩
abbrev S4096x7296 : Shape := ⟨2, ![4096, 7296]⟩
abbrev S512x1024 : Shape := ⟨2, ![512, 1024]⟩

abbrev nBuf : Space → Nat
  | .hbm => 3
  | .vmem => 4
  | .smem => 0
  | _ => 0

abbrev bufTy : (tb : Table) → Fin (tcTables nBuf tb) → BufTy
  | .hbm, ⟨0, _⟩ => ⟨S4096x1024, .f32⟩
  | .hbm, ⟨1, _⟩ => ⟨S4096x7296, .bf16⟩
  | .hbm, ⟨2, _⟩ => ⟨S4096x7296, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== CastIntoRefIdeal.lean ====
abbrev S4096x1024 : Shape := ⟨2, ![4096, 1024]⟩
abbrev S4096x7296 : Shape := ⟨2, ![4096, 7296]⟩
abbrev S4096x6144 : Shape := ⟨2, ![4096, 6144]⟩
abbrev S4096x128 : Shape := ⟨2, ![4096, 128]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x7296, .bf16⟩
  | .hbm, ⟨2, _⟩ => ⟨S4096x6144, .bf16⟩
  | .hbm, ⟨3, _⟩ => ⟨S4096x1024, .bf16⟩
  | .hbm, ⟨4, _⟩ => ⟨S4096x128, .bf16⟩
  | .hbm, ⟨5, _⟩ => ⟨S4096x7296, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== NormFwd.lean ====
abbrev S4096x2048 : Shape := ⟨2, ![4096, 2048]⟩
abbrev S1x2048 : Shape := ⟨2, ![1, 2048]⟩
abbrev S8x128 : Shape := ⟨2, ![8, 128]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S8x128, .f32⟩
  | .hbm, ⟨3, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormFwdRefIdeal.lean ====
abbrev S4096x2048 : Shape := ⟨2, ![4096, 2048]⟩
abbrev S1x2048 : Shape := ⟨2, ![1, 2048]⟩
abbrev S8x128 : Shape := ⟨2, ![8, 128]⟩
abbrev S_ : Shape := ⟨0, ![]⟩
abbrev S4096 : Shape := ⟨1, ![4096]⟩
abbrev S4096x1 : Shape := ⟨2, ![4096, 1]⟩

abbrev nBuf : Space → Nat
  | .hbm => 19
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S8x128, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== ConvV.lean ====
abbrev S4096x7296 : Shape := ⟨2, ![4096, 7296]⟩
abbrev S8x3072 : Shape := ⟨2, ![8, 3072]⟩
abbrev S4096x1024 : Shape := ⟨2, ![4096, 1024]⟩
abbrev S4096x128 : Shape := ⟨2, ![4096, 128]⟩
abbrev S8x128 : Shape := ⟨2, ![8, 128]⟩
abbrev S1x128 : Shape := ⟨2, ![1, 128]⟩
abbrev S4088x128 : Shape := ⟨2, ![4088, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x7296, .f32⟩
  | .hbm, ⟨1, _⟩ => ⟨S8x3072, .f32⟩
  | .hbm, ⟨2, _⟩ => ⟨S4096x1024, .f32⟩
  | .local _ .vmem, ⟨0, _⟩ => ⟨S4096x128, .f32⟩
  | .local _ .vmem, ⟨1, _⟩ => ⟨S4096x128, .f32⟩
  | .local _ .vmem, ⟨2, _⟩ => ⟨S8x128, .f32⟩
  | .local _ .vmem, ⟨3, _⟩ => ⟨S8x128, .f32⟩
  | .local _ .vmem, ⟨4, _⟩ => ⟨S4096x128, .f32⟩
  | .local _ .vmem, ⟨5, _⟩ => ⟨S4096x128, .f32⟩
  | _, _ => ⟨S4096x7296, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ConvVRefIdeal.lean ====
abbrev S4096x7296 : Shape := ⟨2, ![4096, 7296]⟩
abbrev S8x3072 : Shape := ⟨2, ![8, 3072]⟩
abbrev S4096x1024 : Shape := ⟨2, ![4096, 1024]⟩
abbrev S4x1024 : Shape := ⟨2, ![4, 1024]⟩
abbrev S_ : Shape := ⟨0, ![]⟩
abbrev S3x1024 : Shape := ⟨2, ![3, 1024]⟩
abbrev S4099x1024 : Shape := ⟨2, ![4099, 1024]⟩
abbrev S1x1024 : Shape := ⟨2, ![1, 1024]⟩

abbrev nBuf : Space → Nat
  | .hbm => 38
  | .vmem => 0
  | .smem => 0
  | _ => 0

abbrev bufTy : (tb : Table) → Fin (tcTables nBuf tb) → BufTy
  | .hbm, ⟨0, _⟩ => ⟨S4096x7296, .f32⟩
  | .hbm, ⟨1, _⟩ => ⟨S8x3072, .f32⟩
  | .hbm, ⟨2, _⟩ => ⟨S4096x1024, .f32⟩
  | .hbm, ⟨3, _⟩ => ⟨S4x1024, .f32⟩
  | .hbm, ⟨4, _⟩ => ⟨S_, .f32⟩
  | .hbm, ⟨5, _⟩ => ⟨S3x1024, .f32⟩
  | .hbm, ⟨6, _⟩ => ⟨S4099x1024, .f32⟩
  | .hbm, ⟨7, _⟩ => ⟨S1x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S1x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096x1024, .f32⟩
  | .hbm, ⟨36, _⟩ => ⟨S4096x1024, .f32⟩
  | .hbm, ⟨37, _⟩ => ⟨S4096x1024, .f32⟩
  | _, _ => ⟨S4096x7296, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v25 : Ref sig .tc := ⟨.hbm, 37, rfl⟩

abbrev nD : Nat := 1
abbrev τ : Topo := Topo.v7x

variable {F : FTy → Type} [FloatOps F]
-- ==== ConvQ.lean ====
abbrev S4096x7296 : Shape := ⟨2, ![4096, 7296]⟩
abbrev S8x3072 : Shape := ⟨2, ![8, 3072]⟩
abbrev S4096x1024 : Shape := ⟨2, ![4096, 1024]⟩
abbrev S4096x128 : Shape := ⟨2, ![4096, 128]⟩
abbrev S8x128 : Shape := ⟨2, ![8, 128]⟩
abbrev S1x128 : Shape := ⟨2, ![1, 128]⟩
abbrev S4088x128 : Shape := ⟨2, ![4088, 128]⟩
abbrev S4096 : Shape := ⟨1, ![4096]⟩
abbrev S4096x1 : Shape := ⟨2, ![4096, 1]⟩

abbrev nBuf : Space → Nat
  | .hbm => 3
  | .vmem => 6
  | .smem => 0
  | _ => 0

abbrev bufTy : (tb : Table) → Fin (tcTables nBuf tb) → BufTy
  | .hbm, ⟨0, _⟩ => ⟨S4096x7296, .f32⟩
  | .hbm, ⟨1, _⟩ => ⟨S8x3072, .f32⟩
  | .hbm, ⟨2, _⟩ => ⟨S4096x1024, .f32⟩
  | .local _ .vmem, ⟨0, _⟩ => ⟨S4096x128, .f32⟩
  | .local _ .vmem, ⟨1, _⟩ => ⟨S4096x128, .f32⟩
  | .local _ .vmem, ⟨2, _⟩ => ⟨S8x128, .f32⟩
  | .local _ .vmem, ⟨3, _⟩ => ⟨S8x128, .f32⟩
  | .local _ .vmem, ⟨4, _⟩ => ⟨S4096x128, .f32⟩
  | .local _ .vmem, ⟨5, _⟩ => ⟨S4096x128, .f32⟩
  | _, _ => ⟨S4096x7296, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ConvQRefIdeal.lean ====
abbrev S4096x7296 : Shape := ⟨2, ![4096, 7296]⟩
abbrev S8x3072 : Shape := ⟨2, ![8, 3072]⟩
abbrev S4096x1024 : Shape := ⟨2, ![4096, 1024]⟩
abbrev S4x1024 : Shape := ⟨2, ![4, 1024]⟩
abbrev S_ : Shape := ⟨0, ![]⟩
abbrev S3x1024 : Shape := ⟨2, ![3, 1024]⟩
abbrev S4099x1024 : Shape := ⟨2, ![4099, 1024]⟩
abbrev S1x1024 : Shape := ⟨2, ![1, 1024]⟩
abbrev S4096x8x128 : Shape := ⟨3, ![4096, 8, 128]⟩
abbrev S4096x8 : Shape := ⟨2, ![4096, 8]⟩
abbrev S4096x8x1 : Shape := ⟨3, ![4096, 8, 1]⟩

abbrev nBuf : Space → Nat
  | .hbm => 53
  | .vmem => 0
  | .smem => 0
  | _ => 0

abbrev bufTy : (tb : Table) → Fin (tcTables nBuf tb) → BufTy
  | .hbm, ⟨0, _⟩ => ⟨S4096x7296, .f32⟩
  | .hbm, ⟨1, _⟩ => ⟨S8x3072, .f32⟩
  | .hbm, ⟨2, _⟩ => ⟨S4096x1024, .f32⟩
  | .hbm, ⟨3, _⟩ => ⟨S4x1024, .f32⟩
  | .hbm, ⟨4, _⟩ => ⟨S_, .f32⟩
  | .hbm, ⟨5, _⟩ => ⟨S3x1024, .f32⟩
  | .hbm, ⟨6, _⟩ => ⟨S4099x1024, .f32⟩
  | .hbm, ⟨7, _⟩ => ⟨S1x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S1x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x8x128, .f32⟩
  | .hbm, ⟨39, _⟩ => ⟨S4096x8x128, .f32⟩
  | .hbm, ⟨40, _⟩ => ⟨S_, .f32⟩
  | .hbm, ⟨41, _⟩ => ⟨S4096x8, .f32⟩
  | .hbm, ⟨42, _⟩ => ⟨S4096x8x1, .f32⟩
  | .hbm, ⟨43, _⟩ => ⟨S_, .f32⟩
  | .hbm, ⟨44, _⟩ => ⟨S4096x8x1, .f32⟩
  | .hbm, ⟨45, _⟩ => ⟨S4096x8x1, .f32⟩
  | .hbm, ⟨46, _⟩ => ⟨S4096x8x1, .f32⟩
  | .hbm, ⟨47, _⟩ => ⟨S4096x8x128, .f32⟩
  | .hbm, ⟨48, _⟩ => ⟨S4096x8x128, .f32⟩
  | .hbm, ⟨49, _⟩ => ⟨S4096x1024, .f32⟩
  | .hbm, ⟨50, _⟩ => ⟨S_, .f32⟩
  | .hbm, ⟨51, _⟩ => ⟨S4096x1024, .f32⟩
  | .hbm, ⟨52, _⟩ => ⟨S4096x1024, .f32⟩
  | _, _ => ⟨S4096x7296, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_1 : Ref sig .tc := ⟨.hbm, 40, rfl⟩
abbrev main_v28 : Ref sig .tc := ⟨.hbm, 41, rfl⟩
abbrev main_v29 : Ref sig .tc := ⟨.hbm, 42, rfl⟩
abbrev main_cst_2 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_3 : Ref sig .tc := ⟨.hbm, 50, rfl⟩
abbrev main_v36 : Ref sig .tc := ⟨.hbm, 51, rfl⟩
abbrev main_v37 : Ref sig .tc := ⟨.hbm, 52, rfl⟩

abbrev nD : Nat := 1
abbrev τ : Topo := Topo.v7x

variable {F : FTy → Type} [FloatOps F]
-- ==== ConvK.lean ====
abbrev S4096x7296 : Shape := ⟨2, ![4096, 7296]⟩
abbrev S8x3072 : Shape := ⟨2, ![8, 3072]⟩
abbrev S4096x1024 : Shape := ⟨2, ![4096, 1024]⟩
abbrev S4096x128 : Shape := ⟨2, ![4096, 128]⟩
abbrev S8x128 : Shape := ⟨2, ![8, 128]⟩
abbrev S1x128 : Shape := ⟨2, ![1, 128]⟩
abbrev S4088x128 : Shape := ⟨2, ![4088, 128]⟩
abbrev S4096 : Shape := ⟨1, ![4096]⟩
abbrev S4096x1 : Shape := ⟨2, ![4096, 1]⟩

abbrev nBuf : Space → Nat
  | .hbm => 3
  | .vmem => 6
  | .smem => 0
  | _ => 0

abbrev bufTy : (tb : Table) → Fin (tcTables nBuf tb) → BufTy
  | .hbm, ⟨0, _⟩ => ⟨S4096x7296, .f32⟩
  | .hbm, ⟨1, _⟩ => ⟨S8x3072, .f32⟩
  | .hbm, ⟨2, _⟩ => ⟨S4096x1024, .f32⟩
  | .local _ .vmem, ⟨0, _⟩ => ⟨S4096x128, .f32⟩
  | .local _ .vmem, ⟨1, _⟩ => ⟨S4096x128, .f32⟩
  | .local _ .vmem, ⟨2, _⟩ => ⟨S8x128, .f32⟩
  | .local _ .vmem, ⟨3, _⟩ => ⟨S8x128, .f32⟩
  | .local _ .vmem, ⟨4, _⟩ => ⟨S4096x128, .f32⟩
  | .local _ .vmem, ⟨5, _⟩ => ⟨S4096x128, .f32⟩
  | _, _ => ⟨S4096x7296, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ConvKRefIdeal.lean ====
abbrev S4096x7296 : Shape := ⟨2, ![4096, 7296]⟩
abbrev S8x3072 : Shape := ⟨2, ![8, 3072]⟩
abbrev S4096x1024 : Shape := ⟨2, ![4096, 1024]⟩
abbrev S4x1024 : Shape := ⟨2, ![4, 1024]⟩
abbrev S_ : Shape := ⟨0, ![]⟩
abbrev S3x1024 : Shape := ⟨2, ![3, 1024]⟩
abbrev S4099x1024 : Shape := ⟨2, ![4099, 1024]⟩
abbrev S1x1024 : Shape := ⟨2, ![1, 1024]⟩
abbrev S4096x8x128 : Shape := ⟨3, ![4096, 8, 128]⟩
abbrev S4096x8 : Shape := ⟨2, ![4096, 8]⟩
abbrev S4096x8x1 : Shape := ⟨3, ![4096, 8, 1]⟩

abbrev nBuf : Space → Nat
  | .hbm => 50
  | .vmem => 0
  | .smem => 0
  | _ => 0

abbrev bufTy : (tb : Table) → Fin (tcTables nBuf tb) → BufTy
  | .hbm, ⟨0, _⟩ => ⟨S4096x7296, .f32⟩
  | .hbm, ⟨1, _⟩ => ⟨S8x3072, .f32⟩
  | .hbm, ⟨2, _⟩ => ⟨S4096x1024, .f32⟩
  | .hbm, ⟨3, _⟩ => ⟨S4x1024, .f32⟩
  | .hbm, ⟨4, _⟩ => ⟨S_, .f32⟩
  | .hbm, ⟨5, _⟩ => ⟨S3x1024, .f32⟩
  | .hbm, ⟨6, _⟩ => ⟨S4099x1024, .f32⟩
  | .hbm, ⟨7, _⟩ => ⟨S1x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S1x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x8x128, .f32⟩
  | .hbm, ⟨39, _⟩ => ⟨S4096x8x128, .f32⟩
  | .hbm, ⟨40, _⟩ => ⟨S_, .f32⟩
  | .hbm, ⟨41, _⟩ => ⟨S4096x8, .f32⟩
  | .hbm, ⟨42, _⟩ => ⟨S4096x8x1, .f32⟩
  | .hbm, ⟨43, _⟩ => ⟨S_, .f32⟩
  | .hbm, ⟨44, _⟩ => ⟨S4096x8x1, .f32⟩
  | .hbm, ⟨45, _⟩ => ⟨S4096x8x1, .f32⟩
  | .hbm, ⟨46, _⟩ => ⟨S4096x8x1, .f32⟩
  | .hbm, ⟨47, _⟩ => ⟨S4096x8x128, .f32⟩
  | .hbm, ⟨48, _⟩ => ⟨S4096x8x128, .f32⟩
  | .hbm, ⟨49, _⟩ => ⟨S4096x1024, .f32⟩
  | _, _ => ⟨S4096x7296, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_1 : Ref sig .tc := ⟨.hbm, 40, rfl⟩
abbrev main_v28 : Ref sig .tc := ⟨.hbm, 41, rfl⟩
abbrev main_v29 : Ref sig .tc := ⟨.hbm, 42, rfl⟩
abbrev main_cst_2 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩

abbrev nD : Nat := 1
abbrev τ : Topo := Topo.v7x

variable {F : FTy → Type} [FloatOps F]
-- ==== Proof.BwdBlock.lean ====
module

public import proofs.«01_k».proof.Proof.Gen.KernelIdeal.Value

@[expose] public section

set_option maxRecDepth 16384

noncomputable section

namespace Cert.Hand.BwdBlock

open Cert.KernelIdeal Cert.KernelIdeal.Gen Idealize.ShloMosaic Idealize.ShloMosaic.TcCoe Idealize.SL.Sem
open Idealize.ShloMosaic.Tactic

variable {F : FTy → Type} [FloatOps F]

section Words

variable (x0 : Vec F S256x1024 .f32) (x1 x2 x3 x4 : Vec F S256x1024 .bf16) (x5 : Vec F S256x1024 .f32)
  (x6 : Vec F S256x1024 .bf16) (x7 : Vec F S4x8x128x128 .f32) (xs : Vec F S8x128x128 .f32)

/-- The 64 rows of chunk `k` of the point and the 128 lanes of head `h`. -/
def rows (k : Fin 4) (h : Fin 8) : Rect S256x1024 :=
  Rect.unit (s := S256x1024) ![64 * k.val, 128 * h.val] S64x128.size (by
    intro a; have := k.isLt; have := h.isLt
    match a with
    | 0 => show 64 * k.val + 64 ≤ 256; omega
    | 1 => show 128 * h.val + 128 ≤ 1024; omega)

/-- The last row of chunk `k`, the lanes of head `h`. -/
def lastRow (k : Fin 4) (h : Fin 8) : Rect S256x1024 :=
  Rect.unit (s := S256x1024) ![64 * k.val + 63, 128 * h.val] S1x128.size (by
    intro a; have := k.isLt; have := h.isLt
    match a with
    | 0 => show 64 * k.val + 63 + 1 ≤ 256; omega
    | 1 => show 128 * h.val + 128 ≤ 1024; omega)

/-- The eight rows of chunk `k` in the decay gradient's block. -/
def decRows (k : Fin 4) (h : Fin 8) : Rect S32x1024 :=
  Rect.unit (s := S32x1024) ![8 * k.val, 128 * h.val] S8x128.size (by
    intro a; have := k.isLt; have := h.isLt
    match a with
    | 0 => show 8 * k.val + 8 ≤ 32; omega
    | 1 => show 128 * h.val + 128 ≤ 1024; omega)

/-- Head `h` of the carried state. -/
def headRect (h : Fin 8) : Rect S8x128x128 :=
  Rect.unit (s := S8x128x128) ![h.val, 0, 0] S1x128x128.size (by
    intro a; have := h.isLt
    match a with
    | 0 => show h.val + 1 ≤ 8; omega
    | 1 => show 0 + 128 ≤ 128; omega
    | 2 => show 0 + 128 ≤ 128; omega)

/-- Head `h` of the saved state of chunk `k`. -/
def savedRect (k : Fin 4) (h : Fin 8) : Rect S4x8x128x128 :=
  Rect.unit (s := S4x8x128x128) ![k.val, h.val, 0, 0] S1x1x128x128.size (by
    intro a; have := k.isLt; have := h.isLt
    match a with
    | 0 => show k.val + 1 ≤ 4; omega
    | 1 => show h.val + 1 ≤ 8; omega
    | 2 => show 0 + 128 ≤ 128; omega
    | 3 => show 0 + 128 ≤ 128; omega)

def b16 (v : FVec F S128x128 .f32) : FVec F S128x128 .bf16 := truncf .bf16 v bitsLt_bf16_f32
def b16r (v : FVec F S64x128 .f32) : FVec F S64x128 .bf16 := truncf .bf16 v bitsLt_bf16_f32

def doW (k : Fin 4) (h : Fin 8) : FVec F S64x128 .bf16 := b16r (View.ld x0 (rows k h))
def savW (k : Fin 4) (h : Fin 8) : FVec F S128x128 .f32 :=
  shapeCast S128x128 (View.ld x7 (savedRect k h) : Vec F S1x1x128x128 .f32) shapeCasts_S1x1x128x128_S128x128
def mmTT (a b : FVec F S64x128 .bf16) : FVec F S128x128 .f32 :=
  matmul dot_S64x128_S64x128_S128x128_0_0_1_1_n_n none a b (constant S128x128 .f32 0x00000000#32)
def mmNN (a : FVec F S64x128 .bf16) (b : FVec F S128x128 .bf16) : FVec F S64x128 .f32 :=
  matmul dot_S64x128_S128x128_S64x128_1_0_0_1_n_n none a b (constant S64x128 .f32 0x00000000#32)
def mmNT (a : FVec F S64x128 .bf16) (b : FVec F S128x128 .bf16) : FVec F S64x128 .f32 :=
  matmul dot_S64x128_S128x128_S64x128_1_1_0_0_n_n none a b (constant S64x128 .f32 0x00000000#32)

def pdo (k : Fin 4) (h : Fin 8) : FVec F S128x128 .f32 :=
  mmTT (shapeCast S64x128 (View.ld x2 (rows k h) : Vec F S64x128 .bf16) shapeCasts_S64x128_S64x128) (doW x0 k h)

/-- The gradient of the chunk's new values, from the gradient `ds` of the state it leaves. -/
def dvnW (k : Fin 4) (h : Fin 8) (ds : FVec F S128x128 .f32) : FVec F S64x128 .f32 :=
  addf (addf (extractStridedSlice S64x128 ![0, 0] (pdo x0 x2 k h) slices_S128x128_o0_0_S64x128)
    (extractStridedSlice S64x128 ![64, 0] (pdo x0 x2 k h) slices_S128x128_o64_0_S64x128))
    (mmNN (View.ld x4 (rows k h)) (b16 ds))

/-- The gradient of the state the chunk starts from. -/
def nextW (k : Fin 4) (h : Fin 8) (ds : FVec F S128x128 .f32) : FVec F S128x128 .f32 :=
  subf (addf (mulf ds (broadcastTo S128x128 (exp (shapeCast S1x128 (View.ld x5 (lastRow k h) : Vec F S1x128 .f32) shapeCasts_S1x128_S1x128)) broadcasts_S1x128_S128x128))
    (mmTT (View.ld x3 (rows k h)) (doW x0 k h)))
    (mmTT (View.ld x1 (rows k h)) (b16r (dvnW x0 x2 x4 k h ds)))

/-- The state gradient of head `h` after `n` chunks of the point, the last chunk first. -/
def dsW (h : Fin 8) : ℕ → FVec F S128x128 .f32
  | 0 => shapeCast S128x128 (View.ld xs (headRect h) : Vec F S1x128x128 .f32) shapeCasts_S1x128x128_S128x128
  | n + 1 => nextW x0 x1 x2 x3 x4 x5 (Fin.ofNat 4 (3 - n)) h (dsW h n)

def dqdW (k : Fin 4) (h : Fin 8) : FVec F S64x128 .f32 := mmNT (doW x0 k h) (b16 (savW x7 k h))
def dkdW (k : Fin 4) (h : Fin 8) (ds : FVec F S128x128 .f32) : FVec F S64x128 .f32 := mmNT (View.ld x6 (rows k h)) (b16 ds)
def dwW (k : Fin 4) (h : Fin 8) (ds : FVec F S128x128 .f32) : FVec F S64x128 .f32 :=
  subf (broadcast S64x128 (Scalar.ofBits .f32 0x00000000#32)) (mmNT (b16r (dvnW x0 x2 x4 k h ds)) (b16 (savW x7 k h)))
def decW (k : Fin 4) (h : Fin 8) (ds : FVec F S128x128 .f32) : FVec F S8x128 .f32 :=
  broadcastTo S8x128 (shapeCast S1x1 (shapeCast S1x1 (multiReduction .add [0] S1 (shapeCast S128x1
    (multiReduction .add [1] S128 (mulf (savW x7 k h) ds) 0x00000000#32 reduces_S128x128_S128 (.inl rfl) rfl)
    shapeCasts_S128_S128x1) 0x00000000#32 reduces_S128x1_S1 (.inl rfl) rfl) shapeCasts_S1_S1x1) shapeCasts_S1x1_S1x1) broadcasts_S1x1_S8x128

/-- The point's stores into a [256, 1024] block, last first. -/
def pieces (f : Fin 4 → Fin 8 → FVec F S64x128 .f32) : List (View.Piece (Elt F) S256x1024 .f32) :=
  ([0, 1, 2, 3] : List (Fin 4)).flatMap fun k => ([7, 6, 5, 4, 3, 2, 1, 0] : List (Fin 8)).map fun h => ⟨rows k h, f k h⟩

def piecesDec (f : Fin 4 → Fin 8 → FVec F S8x128 .f32) : List (View.Piece (Elt F) S32x1024 .f32) :=
  ([0, 1, 2, 3] : List (Fin 4)).flatMap fun k => ([7, 6, 5, 4, 3, 2, 1, 0] : List (Fin 8)).map fun h => ⟨decRows k h, f k h⟩

def piecesState (f : Fin 8 → FVec F S128x128 .f32) : List (View.Piece (Elt F) S8x128x128 .f32) :=
  ([7, 6, 5, 4, 3, 2, 1, 0] : List (Fin 8)).map fun h => ⟨headRect h, shapeCast S1x128x128 (f h) shapeCasts_S128x128_S1x128x128⟩

end Words

set_option maxHeartbeats 400000 in
theorem run_B_8 (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .f32) (harg6 : arg6.IsWhole) (arg7 : Memref sig .tc .vmem S256x1024 .bf16) (harg7 : arg7.IsWhole) (arg8 : Memref sig .tc .vmem S4x8x128x128 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x1024 .f32) (harg11 : arg11.IsWhole) (arg12 : Memref sig .tc .vmem S256x1024 .f32) (harg12 : arg12.IsWhole) (arg13 : Memref sig .tc .vmem S32x1024 .f32) (harg13 : arg13.IsWhole) (arg14 : Memref sig .tc .vmem S8x128x128 .f32) (harg14 : arg14.IsWhole) (hc0 : ¬cond0_0 i)
    (x0 : Vec F S256x1024 .f32) (x1 : Vec F S256x1024 .bf16) (x2 : Vec F S256x1024 .bf16) (x3 : Vec F S256x1024 .bf16) (x4 : Vec F S256x1024 .bf16) (x5 : Vec F S256x1024 .f32) (x6 : Vec F S256x1024 .bf16) (x7 : Vec F S4x8x128x128 .f32) (xs0 : Vec F S8x128x128 .f32) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs0).1 = pieces fun k h => dvnW x0 x2 x4 k h (dsW x0 x1 x2 x3 x4 x5 xs0 h (3 - k.val)) := by
  unfold kernelRun0_B
  dsimp only
  sl_unfold_words
  simp only [View.readAt_eq_ld, Memref.IsWhole.read_unread, *]
  rfl

set_option maxHeartbeats 400000 in
theorem run_B_9 (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .f32) (harg6 : arg6.IsWhole) (arg7 : Memref sig .tc .vmem S256x1024 .bf16) (harg7 : arg7.IsWhole) (arg8 : Memref sig .tc .vmem S4x8x128x128 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x1024 .f32) (harg11 : arg11.IsWhole) (arg12 : Memref sig .tc .vmem S256x1024 .f32) (harg12 : arg12.IsWhole) (arg13 : Memref sig .tc .vmem S32x1024 .f32) (harg13 : arg13.IsWhole) (arg14 : Memref sig .tc .vmem S8x128x128 .f32) (harg14 : arg14.IsWhole) (hc0 : ¬cond0_0 i)
    (x0 : Vec F S256x1024 .f32) (x1 : Vec F S256x1024 .bf16) (x2 : Vec F S256x1024 .bf16) (x3 : Vec F S256x1024 .bf16) (x4 : Vec F S256x1024 .bf16) (x5 : Vec F S256x1024 .f32) (x6 : Vec F S256x1024 .bf16) (x7 : Vec F S4x8x128x128 .f32) (xs0 : Vec F S8x128x128 .f32) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs0).2.1 = pieces fun k h => dqdW x0 x7 k h := by
  unfold kernelRun0_B
  dsimp only
  sl_unfold_words
  simp only [View.readAt_eq_ld, Memref.IsWhole.read_unread, *]
  rfl

set_option maxHeartbeats 400000 in
theorem run_B_10 (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .f32) (harg6 : arg6.IsWhole) (arg7 : Memref sig .tc .vmem S256x1024 .bf16) (harg7 : arg7.IsWhole) (arg8 : Memref sig .tc .vmem S4x8x128x128 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x1024 .f32) (harg11 : arg11.IsWhole) (arg12 : Memref sig .tc .vmem S256x1024 .f32) (harg12 : arg12.IsWhole) (arg13 : Memref sig .tc .vmem S32x1024 .f32) (harg13 : arg13.IsWhole) (arg14 : Memref sig .tc .vmem S8x128x128 .f32) (harg14 : arg14.IsWhole) (hc0 : ¬cond0_0 i)
    (x0 : Vec F S256x1024 .f32) (x1 : Vec F S256x1024 .bf16) (x2 : Vec F S256x1024 .bf16) (x3 : Vec F S256x1024 .bf16) (x4 : Vec F S256x1024 .bf16) (x5 : Vec F S256x1024 .f32) (x6 : Vec F S256x1024 .bf16) (x7 : Vec F S4x8x128x128 .f32) (xs0 : Vec F S8x128x128 .f32) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs0).2.2.1 = pieces fun k h => dkdW x6 k h (dsW x0 x1 x2 x3 x4 x5 xs0 h (3 - k.val)) := by
  unfold kernelRun0_B
  dsimp only
  sl_unfold_words
  simp only [View.readAt_eq_ld, Memref.IsWhole.read_unread, *]
  rfl

set_option maxHeartbeats 400000 in
theorem run_B_11 (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .f32) (harg6 : arg6.IsWhole) (arg7 : Memref sig .tc .vmem S256x1024 .bf16) (harg7 : arg7.IsWhole) (arg8 : Memref sig .tc .vmem S4x8x128x128 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x1024 .f32) (harg11 : arg11.IsWhole) (arg12 : Memref sig .tc .vmem S256x1024 .f32) (harg12 : arg12.IsWhole) (arg13 : Memref sig .tc .vmem S32x1024 .f32) (harg13 : arg13.IsWhole) (arg14 : Memref sig .tc .vmem S8x128x128 .f32) (harg14 : arg14.IsWhole) (hc0 : ¬cond0_0 i)
    (x0 : Vec F S256x1024 .f32) (x1 : Vec F S256x1024 .bf16) (x2 : Vec F S256x1024 .bf16) (x3 : Vec F S256x1024 .bf16) (x4 : Vec F S256x1024 .bf16) (x5 : Vec F S256x1024 .f32) (x6 : Vec F S256x1024 .bf16) (x7 : Vec F S4x8x128x128 .f32) (xs0 : Vec F S8x128x128 .f32) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs0).2.2.2.1 = pieces fun k h => dwW x0 x2 x4 x7 k h (dsW x0 x1 x2 x3 x4 x5 xs0 h (3 - k.val)) := by
  unfold kernelRun0_B
  dsimp only
  sl_unfold_words
  simp only [View.readAt_eq_ld, Memref.IsWhole.read_unread, *]
  rfl

set_option maxHeartbeats 400000 in
theorem run_B_12 (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .f32) (harg6 : arg6.IsWhole) (arg7 : Memref sig .tc .vmem S256x1024 .bf16) (harg7 : arg7.IsWhole) (arg8 : Memref sig .tc .vmem S4x8x128x128 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x1024 .f32) (harg11 : arg11.IsWhole) (arg12 : Memref sig .tc .vmem S256x1024 .f32) (harg12 : arg12.IsWhole) (arg13 : Memref sig .tc .vmem S32x1024 .f32) (harg13 : arg13.IsWhole) (arg14 : Memref sig .tc .vmem S8x128x128 .f32) (harg14 : arg14.IsWhole) (hc0 : ¬cond0_0 i)
    (x0 : Vec F S256x1024 .f32) (x1 : Vec F S256x1024 .bf16) (x2 : Vec F S256x1024 .bf16) (x3 : Vec F S256x1024 .bf16) (x4 : Vec F S256x1024 .bf16) (x5 : Vec F S256x1024 .f32) (x6 : Vec F S256x1024 .bf16) (x7 : Vec F S4x8x128x128 .f32) (xs0 : Vec F S8x128x128 .f32) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs0).2.2.2.2.1 = piecesDec fun k h => decW x7 k h (dsW x0 x1 x2 x3 x4 x5 xs0 h (3 - k.val)) := by
  unfold kernelRun0_B
  dsimp only
  sl_unfold_words
  simp only [View.readAt_eq_ld, Memref.IsWhole.read_unread, *]
  rfl

set_option maxHeartbeats 400000 in
theorem run_B_s (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .f32) (harg6 : arg6.IsWhole) (arg7 : Memref sig .tc .vmem S256x1024 .bf16) (harg7 : arg7.IsWhole) (arg8 : Memref sig .tc .vmem S4x8x128x128 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x1024 .f32) (harg11 : arg11.IsWhole) (arg12 : Memref sig .tc .vmem S256x1024 .f32) (harg12 : arg12.IsWhole) (arg13 : Memref sig .tc .vmem S32x1024 .f32) (harg13 : arg13.IsWhole) (arg14 : Memref sig .tc .vmem S8x128x128 .f32) (harg14 : arg14.IsWhole) (hc0 : ¬cond0_0 i)
    (x0 : Vec F S256x1024 .f32) (x1 : Vec F S256x1024 .bf16) (x2 : Vec F S256x1024 .bf16) (x3 : Vec F S256x1024 .bf16) (x4 : Vec F S256x1024 .bf16) (x5 : Vec F S256x1024 .f32) (x6 : Vec F S256x1024 .bf16) (x7 : Vec F S4x8x128x128 .f32) (xs0 : Vec F S8x128x128 .f32) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs0).2.2.2.2.2.1 = piecesState fun h => dsW x0 x1 x2 x3 x4 x5 xs0 h 4 := by
  unfold kernelRun0_B
  dsimp only
  sl_unfold_words
  simp only [View.readAt_eq_ld, Memref.IsWhole.read_unread, *]
  rfl

theorem zeroed_load {κ : Kind} {sp : Space} (v : View sig κ sp S8x128x128 .f32) (w : Vec F S8x128x128 .f32) (r : Rect S8x128x128) :
    v.readCov [⟨Rect.unit (s := S8x128x128) ![0, 0, 0] S8x128x128.size inb_S8x128x128_S8x128x128_0_0_0, w⟩] r.toLoadRect = View.ld (Val := Elt F) w r := by
  rw [View.readCov_eq_canon', View.canon_unit_zero (by decide)]

set_option maxHeartbeats 400000 in
theorem run_A_8 (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .f32) (harg6 : arg6.IsWhole) (arg7 : Memref sig .tc .vmem S256x1024 .bf16) (harg7 : arg7.IsWhole) (arg8 : Memref sig .tc .vmem S4x8x128x128 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x1024 .f32) (harg11 : arg11.IsWhole) (arg12 : Memref sig .tc .vmem S256x1024 .f32) (harg12 : arg12.IsWhole) (arg13 : Memref sig .tc .vmem S32x1024 .f32) (harg13 : arg13.IsWhole) (arg14 : Memref sig .tc .vmem S8x128x128 .f32) (harg14 : arg14.IsWhole) (hc0 : cond0_0 i)
    (x0 : Vec F S256x1024 .f32) (x1 : Vec F S256x1024 .bf16) (x2 : Vec F S256x1024 .bf16) (x3 : Vec F S256x1024 .bf16) (x4 : Vec F S256x1024 .bf16) (x5 : Vec F S256x1024 .f32) (x6 : Vec F S256x1024 .bf16) (x7 : Vec F S4x8x128x128 .f32) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).1 = pieces fun k h => dvnW x0 x2 x4 k h (dsW x0 x1 x2 x3 x4 x5 (k0_pay7 (F := F)) h (3 - k.val)) := by
  unfold kernelRun0_A
  dsimp only
  sl_unfold_words
  simp only [View.readAt_eq_ld, Memref.IsWhole.read_unread, *]
  iterate 8 rw [zeroed_load]
  rfl

set_option maxHeartbeats 400000 in
theorem run_A_9 (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .f32) (harg6 : arg6.IsWhole) (arg7 : Memref sig .tc .vmem S256x1024 .bf16) (harg7 : arg7.IsWhole) (arg8 : Memref sig .tc .vmem S4x8x128x128 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x1024 .f32) (harg11 : arg11.IsWhole) (arg12 : Memref sig .tc .vmem S256x1024 .f32) (harg12 : arg12.IsWhole) (arg13 : Memref sig .tc .vmem S32x1024 .f32) (harg13 : arg13.IsWhole) (arg14 : Memref sig .tc .vmem S8x128x128 .f32) (harg14 : arg14.IsWhole) (hc0 : cond0_0 i)
    (x0 : Vec F S256x1024 .f32) (x1 : Vec F S256x1024 .bf16) (x2 : Vec F S256x1024 .bf16) (x3 : Vec F S256x1024 .bf16) (x4 : Vec F S256x1024 .bf16) (x5 : Vec F S256x1024 .f32) (x6 : Vec F S256x1024 .bf16) (x7 : Vec F S4x8x128x128 .f32) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.1 = pieces fun k h => dqdW x0 x7 k h := by
  unfold kernelRun0_A
  dsimp only
  sl_unfold_words
  simp only [View.readAt_eq_ld, Memref.IsWhole.read_unread, *]
  rfl

set_option maxHeartbeats 400000 in
theorem run_A_10 (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .f32) (harg6 : arg6.IsWhole) (arg7 : Memref sig .tc .vmem S256x1024 .bf16) (harg7 : arg7.IsWhole) (arg8 : Memref sig .tc .vmem S4x8x128x128 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x1024 .f32) (harg11 : arg11.IsWhole) (arg12 : Memref sig .tc .vmem S256x1024 .f32) (harg12 : arg12.IsWhole) (arg13 : Memref sig .tc .vmem S32x1024 .f32) (harg13 : arg13.IsWhole) (arg14 : Memref sig .tc .vmem S8x128x128 .f32) (harg14 : arg14.IsWhole) (hc0 : cond0_0 i)
    (x0 : Vec F S256x1024 .f32) (x1 : Vec F S256x1024 .bf16) (x2 : Vec F S256x1024 .bf16) (x3 : Vec F S256x1024 .bf16) (x4 : Vec F S256x1024 .bf16) (x5 : Vec F S256x1024 .f32) (x6 : Vec F S256x1024 .bf16) (x7 : Vec F S4x8x128x128 .f32) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.2.1 = pieces fun k h => dkdW x6 k h (dsW x0 x1 x2 x3 x4 x5 (k0_pay7 (F := F)) h (3 - k.val)) := by
  unfold kernelRun0_A
  dsimp only
  sl_unfold_words
  simp only [View.readAt_eq_ld, Memref.IsWhole.read_unread, *]
  iterate 8 rw [zeroed_load]
  rfl

set_option maxHeartbeats 400000 in
theorem run_A_11 (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .f32) (harg6 : arg6.IsWhole) (arg7 : Memref sig .tc .vmem S256x1024 .bf16) (harg7 : arg7.IsWhole) (arg8 : Memref sig .tc .vmem S4x8x128x128 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x1024 .f32) (harg11 : arg11.IsWhole) (arg12 : Memref sig .tc .vmem S256x1024 .f32) (harg12 : arg12.IsWhole) (arg13 : Memref sig .tc .vmem S32x1024 .f32) (harg13 : arg13.IsWhole) (arg14 : Memref sig .tc .vmem S8x128x128 .f32) (harg14 : arg14.IsWhole) (hc0 : cond0_0 i)
    (x0 : Vec F S256x1024 .f32) (x1 : Vec F S256x1024 .bf16) (x2 : Vec F S256x1024 .bf16) (x3 : Vec F S256x1024 .bf16) (x4 : Vec F S256x1024 .bf16) (x5 : Vec F S256x1024 .f32) (x6 : Vec F S256x1024 .bf16) (x7 : Vec F S4x8x128x128 .f32) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.2.2.1 = pieces fun k h => dwW x0 x2 x4 x7 k h (dsW x0 x1 x2 x3 x4 x5 (k0_pay7 (F := F)) h (3 - k.val)) := by
  unfold kernelRun0_A
  dsimp only
  sl_unfold_words
  simp only [View.readAt_eq_ld, Memref.IsWhole.read_unread, *]
  iterate 8 rw [zeroed_load]
  rfl

set_option maxHeartbeats 400000 in
theorem run_A_12 (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .f32) (harg6 : arg6.IsWhole) (arg7 : Memref sig .tc .vmem S256x1024 .bf16) (harg7 : arg7.IsWhole) (arg8 : Memref sig .tc .vmem S4x8x128x128 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x1024 .f32) (harg11 : arg11.IsWhole) (arg12 : Memref sig .tc .vmem S256x1024 .f32) (harg12 : arg12.IsWhole) (arg13 : Memref sig .tc .vmem S32x1024 .f32) (harg13 : arg13.IsWhole) (arg14 : Memref sig .tc .vmem S8x128x128 .f32) (harg14 : arg14.IsWhole) (hc0 : cond0_0 i)
    (x0 : Vec F S256x1024 .f32) (x1 : Vec F S256x1024 .bf16) (x2 : Vec F S256x1024 .bf16) (x3 : Vec F S256x1024 .bf16) (x4 : Vec F S256x1024 .bf16) (x5 : Vec F S256x1024 .f32) (x6 : Vec F S256x1024 .bf16) (x7 : Vec F S4x8x128x128 .f32) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.2.2.2.1 = piecesDec fun k h => decW x7 k h (dsW x0 x1 x2 x3 x4 x5 (k0_pay7 (F := F)) h (3 - k.val)) := by
  unfold kernelRun0_A
  dsimp only
  sl_unfold_words
  simp only [View.readAt_eq_ld, Memref.IsWhole.read_unread, *]
  iterate 8 rw [zeroed_load]
  rfl

set_option maxHeartbeats 400000 in
theorem run_A_s (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .f32) (harg6 : arg6.IsWhole) (arg7 : Memref sig .tc .vmem S256x1024 .bf16) (harg7 : arg7.IsWhole) (arg8 : Memref sig .tc .vmem S4x8x128x128 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x1024 .f32) (harg11 : arg11.IsWhole) (arg12 : Memref sig .tc .vmem S256x1024 .f32) (harg12 : arg12.IsWhole) (arg13 : Memref sig .tc .vmem S32x1024 .f32) (harg13 : arg13.IsWhole) (arg14 : Memref sig .tc .vmem S8x128x128 .f32) (harg14 : arg14.IsWhole) (hc0 : cond0_0 i)
    (x0 : Vec F S256x1024 .f32) (x1 : Vec F S256x1024 .bf16) (x2 : Vec F S256x1024 .bf16) (x3 : Vec F S256x1024 .bf16) (x4 : Vec F S256x1024 .bf16) (x5 : Vec F S256x1024 .f32) (x6 : Vec F S256x1024 .bf16) (x7 : Vec F S4x8x128x128 .f32) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.2.2.2.2.1 = (piecesState fun h => dsW x0 x1 x2 x3 x4 x5 (k0_pay7 (F := F)) h 4) ++ [⟨Rect.unit (s := S8x128x128) ![0, 0, 0] S8x128x128.size inb_S8x128x128_S8x128x128_0_0_0, k0_pay7⟩] := by
  unfold kernelRun0_A
  dsimp only
  sl_unfold_words
  simp only [View.readAt_eq_ld, Memref.IsWhole.read_unread, *]
  iterate 8 rw [zeroed_load]
  rfl

end Cert.Hand.BwdBlock

end
-- ==== Proof.BwdReal.lean ====
module

public import Idealize.ShloMosaic.Lib.Pointwise
public import Idealize.ShloMosaic.PureOps.Ideal

@[expose] public section

noncomputable section

namespace Cert.Hand

/-- A finite sum of real numbers, read in the extended reals. -/
theorem sum_real {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The token of row `i` of chunk `g`. -/
def tok (g i : Fin 64) : Fin 4096 := ⟨64 * g.val + i.val, by omega⟩

/-- The lane of coordinate `e` of head `h`. -/
def lane (h : Fin 8) (e : Fin 128) : Fin 1024 := ⟨128 * h.val + e.val, by omega⟩

/-- The arrays of the scan's gradient, as real numbers. -/
structure BwdArgs where
  ct : Fin 4096 → Fin 1024 → ℝ
  w : Fin 4096 → Fin 1024 → ℝ
  qk : Fin 4096 → Fin 8 → Fin 64 → ℝ
  qd : Fin 4096 → Fin 1024 → ℝ
  kd : Fin 4096 → Fin 1024 → ℝ
  gc : Fin 4096 → Fin 8 → ℝ
  vn : Fin 4096 → Fin 1024 → ℝ
  sh : Fin 64 → Fin 8 → Fin 128 → Fin 128 → ℝ

namespace BwdArgs

variable (A : BwdArgs)

/-- The gradient of the chunk's new values, given the gradient `ds` of the state it leaves. -/
def du (g : Fin 64) (h : Fin 8) (ds : Fin 128 → Fin 128 → ℝ) (m : Fin 64) (e : Fin 128) : ℝ :=
  (∑ i : Fin 64, A.qk (tok g i) h m * A.ct (tok g i) (lane h e)) + ∑ d : Fin 128, A.kd (tok g m) (lane h d) * ds d e

/-- The gradient of the state the chunk starts from. -/
def next (g : Fin 64) (h : Fin 8) (ds : Fin 128 → Fin 128 → ℝ) (d e : Fin 128) : ℝ :=
  ds d e * Real.exp (A.gc (tok g 63) h) + (∑ i : Fin 64, A.qd (tok g i) (lane h d) * A.ct (tok g i) (lane h e))
    - ∑ i : Fin 64, A.w (tok g i) (lane h d) * A.du g h ds i e

/-- The state's gradient after the last `n` chunks. -/
def DS (h : Fin 8) : ℕ → Fin 128 → Fin 128 → ℝ
  | 0 => fun _ _ => 0
  | n + 1 => A.next (Fin.ofNat 64 (63 - n)) h (DS h n)

/-- The state's gradient where the walk reaches chunk `g`. -/
def dst (g : Fin 64) (h : Fin 8) : Fin 128 → Fin 128 → ℝ := A.DS h (63 - g.val)

def outU (g : Fin 64) (h : Fin 8) (m : Fin 64) (e : Fin 128) : ℝ := A.du g h (A.dst g h) m e
def outQd (g : Fin 64) (h : Fin 8) (m : Fin 64) (d : Fin 128) : ℝ := ∑ e : Fin 128, A.ct (tok g m) (lane h e) * A.sh g h d e
def outKd (g : Fin 64) (h : Fin 8) (m : Fin 64) (d : Fin 128) : ℝ := ∑ e : Fin 128, A.vn (tok g m) (lane h e) * A.dst g h d e
def outW (g : Fin 64) (h : Fin 8) (m : Fin 64) (d : Fin 128) : ℝ := -∑ e : Fin 128, A.outU g h m e * A.sh g h d e
def outDec (g : Fin 64) (h : Fin 8) : ℝ := ∑ d : Fin 128, ∑ e : Fin 128, A.sh g h d e * A.dst g h d e

/-- The masked products the kernel reads: a chunk's 64 columns lie in the left half of its head's lanes where the chunk's
    number is even, in the right half where it is odd, and the other half is zero. -/
def padded (r : Fin 4096) (h : Fin 8) (j : Fin 128) : ℝ :=
  if hj : j.val < 64 then (if (r.val / 64) % 2 = 0 then A.qk r h ⟨j.val, hj⟩ else 0)
  else (if (r.val / 64) % 2 = 0 then 0 else A.qk r h ⟨j.val - 64, by omega⟩)

end BwdArgs

end Cert.Hand

end
-- ==== Proof.BwdPoint.lean ====
module

public import proofs.«01_k».proof.Proof.BwdBlock
public import proofs.«01_k».proof.Proof.BwdReal
public import Idealize.ShloMosaic.Lib.Pointwise

@[expose] public section

set_option maxRecDepth 16384

noncomputable section

namespace Cert.Hand.BwdBlock

open Cert.KernelIdeal Cert.KernelIdeal.Gen Idealize.ShloMosaic Idealize.ShloMosaic.TcCoe Idealize.SL.Sem
open Cert.KernelIdeal.Facts

def rowOf (k : Fin 4) (i : Fin 64) : Fin 256 := ⟨64 * k.val + i.val, by omega⟩

theorem ld_rows {e : EltTy} (x : S256x1024.Idx → Elt Ideal e) (k : Fin 4) (h : Fin 8) (i : Fin 64) (l : Fin 128) :
    View.ld (Val := Elt Ideal) x (rows k h) (ix2 i l) = x (ix2 (rowOf k i) (lane h l)) := by
  show x _ = x _
  congr 1
  funext a
  match a with
  | 0 => exact Fin.ext (by show 64 * k.val + 1 * i.val = _; simp [rowOf, ix2])
  | 1 => exact Fin.ext (by show 128 * h.val + 1 * l.val = _; simp [lane, ix2])

theorem ld_last {e : EltTy} (x : S256x1024.Idx → Elt Ideal e) (k : Fin 4) (h : Fin 8) (i : Fin 1) (l : Fin 128) :
    View.ld (Val := Elt Ideal) x (lastRow k h) (ix2 i l) = x (ix2 (rowOf k 63) (lane h l)) := by
  show x _ = x _
  congr 1
  funext a
  match a with
  | 0 => exact Fin.ext (by show 64 * k.val + 63 + 1 * i.val = _; have := i.isLt; simp [rowOf, ix2])
  | 1 => exact Fin.ext (by show 128 * h.val + 1 * l.val = _; simp [lane, ix2])

theorem ld_head {e : EltTy} (x : S8x128x128.Idx → Elt Ideal e) (h : Fin 8) (i : Fin 1) (d l : Fin 128) :
    View.ld (Val := Elt Ideal) x (headRect h) (ix3 i d l) = x (ix3 h d l) := by
  show x _ = x _
  congr 1
  funext a
  match a with
  | 0 => exact Fin.ext (by show h.val + 1 * i.val = _; have := i.isLt; simp [ix3])
  | 1 => exact Fin.ext (by show 0 + 1 * d.val = _; simp [ix3])
  | 2 => exact Fin.ext (by show 0 + 1 * l.val = _; simp [ix3])

theorem ld_saved {e : EltTy} (x : S4x8x128x128.Idx → Elt Ideal e) (k : Fin 4) (h : Fin 8) (i i' : Fin 1) (d l : Fin 128) :
    View.ld (Val := Elt Ideal) x (savedRect k h) (ix4 i i' d l) = x (ix4 k h d l) := by
  show x _ = x _
  congr 1
  funext a
  match a with
  | 0 => exact Fin.ext (by show k.val + 1 * i.val = _; have := i.isLt; simp [ix4])
  | 1 => exact Fin.ext (by show h.val + 1 * i'.val = _; have := i'.isLt; simp [ix4])
  | 2 => exact Fin.ext (by show 0 + 1 * d.val = _; simp [ix4])
  | 3 => exact Fin.ext (by show 0 + 1 * l.val = _; simp [ix4])

theorem mmTT_apply (a b : FVec Ideal S64x128 .bf16) (d e : Fin 128) :
    mmTT a b (ix2 d e) = ∑ i : Fin 64, a (ix2 i d) * b (ix2 i e) := by
  pointwise [mmTT]

theorem mmNN_apply (a : FVec Ideal S64x128 .bf16) (b : FVec Ideal S128x128 .bf16) (m : Fin 64) (e : Fin 128) :
    mmNN a b (ix2 m e) = ∑ d : Fin 128, a (ix2 m d) * b (ix2 d e) := by
  pointwise [mmNN]

theorem mmNT_apply (a : FVec Ideal S64x128 .bf16) (b : FVec Ideal S128x128 .bf16) (m : Fin 64) (d : Fin 128) :
    mmNT a b (ix2 m d) = ∑ e : Fin 128, a (ix2 m e) * b (ix2 d e) := by
  pointwise [mmNT]

theorem cast_head (v : FVec Ideal S1x128x128 .f32) (d e : Fin 128) :
    shapeCast S128x128 v shapeCasts_S1x128x128_S128x128 (ix2 d e) = v (ix3 0 d e) := by
  pointwise

theorem cast_saved (v : FVec Ideal S1x1x128x128 .f32) (d e : Fin 128) :
    shapeCast S128x128 v shapeCasts_S1x1x128x128_S128x128 (ix2 d e) = v (ix4 0 0 d e) := by
  pointwise

theorem cast_same (v : FVec Ideal S64x128 .bf16) (i : Fin 64) (e : Fin 128) :
    shapeCast S64x128 v shapeCasts_S64x128_S64x128 (ix2 i e) = v (ix2 i e) := by
  pointwise

theorem decay_row (v : FVec Ideal S1x128 .f32) (d e : Fin 128) :
    broadcastTo S128x128 (exp (shapeCast S1x128 v shapeCasts_S1x128_S1x128)) broadcasts_S1x128_S128x128 (ix2 d e)
      = Ideal.exp (v (ix2 0 e)) := by
  pointwise

/-- The point's blocks, as real numbers: block `b` of the arrays, and the carried state `D`. -/
structure At (A : BwdArgs) (b : Fin 16) (D : Fin 8 → Fin 128 → Fin 128 → ℝ)
    (x0 : Vec Ideal S256x1024 .f32) (x1 x2 x3 x4 : Vec Ideal S256x1024 .bf16) (x5 : Vec Ideal S256x1024 .f32)
    (x6 : Vec Ideal S256x1024 .bf16) (x7 : Vec Ideal S4x8x128x128 .f32) (xs : Vec Ideal S8x128x128 .f32) : Prop where
  h0 : ∀ (r : Fin 256) (l : Fin 1024), x0 (ix2 r l) = ((A.ct ⟨256 * b.val + r.val, by omega⟩ l : ℝ) : EReal)
  h1 : ∀ (r : Fin 256) (l : Fin 1024), x1 (ix2 r l) = ((A.w ⟨256 * b.val + r.val, by omega⟩ l : ℝ) : EReal)
  h2 : ∀ (r : Fin 256) (h : Fin 8) (j : Fin 128), x2 (ix2 r (lane h j)) = ((A.padded ⟨256 * b.val + r.val, by omega⟩ h j : ℝ) : EReal)
  h3 : ∀ (r : Fin 256) (l : Fin 1024), x3 (ix2 r l) = ((A.qd ⟨256 * b.val + r.val, by omega⟩ l : ℝ) : EReal)
  h4 : ∀ (r : Fin 256) (l : Fin 1024), x4 (ix2 r l) = ((A.kd ⟨256 * b.val + r.val, by omega⟩ l : ℝ) : EReal)
  h5 : ∀ (r : Fin 256) (h : Fin 8) (j : Fin 128), x5 (ix2 r (lane h j)) = ((A.gc ⟨256 * b.val + r.val, by omega⟩ h : ℝ) : EReal)
  h6 : ∀ (r : Fin 256) (l : Fin 1024), x6 (ix2 r l) = ((A.vn ⟨256 * b.val + r.val, by omega⟩ l : ℝ) : EReal)
  h7 : ∀ (k : Fin 4) (h : Fin 8) (d e : Fin 128), x7 (ix4 k h d e) = ((A.sh ⟨4 * b.val + k.val, by omega⟩ h d e : ℝ) : EReal)
  hs : ∀ (h : Fin 8) (d e : Fin 128), xs (ix3 h d e) = ((D h d e : ℝ) : EReal)

/-- Chunk `k` of block `b`. -/
def chunk (b : Fin 16) (k : Fin 4) : Fin 64 := ⟨4 * b.val + k.val, by omega⟩

theorem tok_chunk (b : Fin 16) (k : Fin 4) (i : Fin 64) (h : 256 * b.val + (rowOf k i).val < 4096) :
    (⟨256 * b.val + (rowOf k i).val, h⟩ : Fin 4096) = tok (chunk b k) i := by
  apply Fin.ext; show 256 * b.val + (64 * k.val + i.val) = 64 * (4 * b.val + k.val) + i.val; omega

variable {A : BwdArgs} {b : Fin 16} {D : Fin 8 → Fin 128 → Fin 128 → ℝ}
  {x0 : Vec Ideal S256x1024 .f32} {x1 x2 x3 x4 : Vec Ideal S256x1024 .bf16} {x5 : Vec Ideal S256x1024 .f32}
  {x6 : Vec Ideal S256x1024 .bf16} {x7 : Vec Ideal S4x8x128x128 .f32} {xs : Vec Ideal S8x128x128 .f32}
  (H : At A b D x0 x1 x2 x3 x4 x5 x6 x7 xs)
include H

theorem doW_real (k : Fin 4) (h : Fin 8) (i : Fin 64) (e : Fin 128) :
    doW x0 k h (ix2 i e) = ((A.ct (tok (chunk b k) i) (lane h e) : ℝ) : EReal) := by
  rw [← tok_chunk b k i (by have := (rowOf k i).isLt; omega), ← H.h0]
  exact ld_rows x0 k h i e

theorem savW_real (k : Fin 4) (h : Fin 8) (d e : Fin 128) :
    savW x7 k h (ix2 d e) = ((A.sh (chunk b k) h d e : ℝ) : EReal) := by
  exact ((cast_saved _ d e).trans (ld_saved x7 k h 0 0 d e)).trans (H.h7 k h d e)

theorem pdo_real (k : Fin 4) (h : Fin 8) (j e : Fin 128) :
    pdo x0 x2 k h (ix2 j e) = ((∑ i : Fin 64, A.padded (tok (chunk b k) i) h j * A.ct (tok (chunk b k) i) (lane h e) : ℝ) : EReal) := by
  unfold pdo
  refine (mmTT_apply _ _ _ _).trans ?_
  rw [← sum_real]
  refine Finset.sum_congr rfl fun i _ => ?_
  rw [doW_real H, EReal.coe_mul]
  refine congrArg (· * _) ?_
  refine ((cast_same _ i j).trans (ld_rows x2 k h i j)).trans ?_
  rw [H.h2, tok_chunk]

theorem dvnW_real (k : Fin 4) (h : Fin 8) (ds : FVec Ideal S128x128 .f32) (R : Fin 128 → Fin 128 → ℝ)
    (hds : ∀ d e, ds (ix2 d e) = ((R d e : ℝ) : EReal)) (m : Fin 64) (e : Fin 128) :
    dvnW x0 x2 x4 k h ds (ix2 m e) = ((A.du (chunk b k) h R m e : ℝ) : EReal) := by
  have e1 : extractStridedSlice S64x128 ![0, 0] (pdo x0 x2 k h) slices_S128x128_o0_0_S64x128 (ix2 m e)
      = pdo x0 x2 k h (ix2 ⟨m.val, by omega⟩ e) := by pointwise
  have e2 : extractStridedSlice S64x128 ![64, 0] (pdo x0 x2 k h) slices_S128x128_o64_0_S64x128 (ix2 m e)
      = pdo x0 x2 k h (ix2 ⟨64 + m.val, by omega⟩ e) := by pointwise
  have e3 : mmNN (View.ld (Val := Elt Ideal) x4 (rows k h)) (b16 ds) (ix2 m e)
      = ((∑ d : Fin 128, A.kd (tok (chunk b k) m) (lane h d) * R d e : ℝ) : EReal) := by
    refine (mmNN_apply _ _ _ _).trans ?_
    rw [← sum_real]
    refine Finset.sum_congr rfl fun d _ => ?_
    rw [ld_rows x4 k h m d, H.h4, tok_chunk, EReal.coe_mul]
    exact congrArg _ (hds d e)
  show extractStridedSlice S64x128 ![0, 0] (pdo x0 x2 k h) slices_S128x128_o0_0_S64x128 (ix2 m e)
    + extractStridedSlice S64x128 ![64, 0] (pdo x0 x2 k h) slices_S128x128_o64_0_S64x128 (ix2 m e)
    + mmNN (View.ld (Val := Elt Ideal) x4 (rows k h)) (b16 ds) (ix2 m e) = _
  rw [e1, e2, e3, pdo_real H, pdo_real H, ← EReal.coe_add, ← EReal.coe_add, ← Finset.sum_add_distrib]
  refine congrArg (fun z : ℝ => (z : EReal)) ?_
  unfold BwdArgs.du
  refine congrArg (· + _) ?_
  refine Finset.sum_congr rfl fun i _ => ?_
  have hm : ¬ (64 + m.val < 64) := by omega
  simp only [BwdArgs.padded, m.isLt, hm, dif_pos, dif_neg, not_false_eq_true, Nat.add_sub_cancel_left]
  split <;> simp

theorem nextW_real (k : Fin 4) (h : Fin 8) (ds : FVec Ideal S128x128 .f32) (R : Fin 128 → Fin 128 → ℝ)
    (hds : ∀ d e, ds (ix2 d e) = ((R d e : ℝ) : EReal)) (d e : Fin 128) :
    nextW x0 x1 x2 x3 x4 x5 k h ds (ix2 d e) = ((A.next (chunk b k) h R d e : ℝ) : EReal) := by
  have e1 := ((decay_row (View.ld (Val := Elt Ideal) x5 (lastRow k h)) d e).trans
    (congrArg Ideal.exp ((ld_last x5 k h 0 e).trans (H.h5 _ h e))))
  rw [tok_chunk] at e1
  have e2 : mmTT (View.ld (Val := Elt Ideal) x3 (rows k h)) (doW x0 k h) (ix2 d e)
      = ((∑ i : Fin 64, A.qd (tok (chunk b k) i) (lane h d) * A.ct (tok (chunk b k) i) (lane h e) : ℝ) : EReal) := by
    refine (mmTT_apply _ _ _ _).trans ?_
    rw [← sum_real]
    refine Finset.sum_congr rfl fun i _ => ?_
    rw [ld_rows x3 k h i d, H.h3, tok_chunk, EReal.coe_mul, doW_real H]
  have e3 : mmTT (View.ld (Val := Elt Ideal) x1 (rows k h)) (b16r (dvnW x0 x2 x4 k h ds)) (ix2 d e)
      = ((∑ i : Fin 64, A.w (tok (chunk b k) i) (lane h d) * A.du (chunk b k) h R i e : ℝ) : EReal) := by
    refine (mmTT_apply _ _ _ _).trans ?_
    rw [← sum_real]
    refine Finset.sum_congr rfl fun i _ => ?_
    rw [ld_rows x1 k h i d, H.h1, tok_chunk, EReal.coe_mul]
    exact congrArg _ (dvnW_real H k h ds R hds i e)
  refine (congrArg₂ (· - ·) (congrArg₂ (· + ·) (congrArg₂ (· * ·) (hds d e) e1) e2) e3).trans ?_
  show ((R d e : ℝ) : EReal) * ((Real.exp (A.gc (tok (chunk b k) 63) h) : ℝ) : EReal) + _ - _ = _
  rw [← EReal.coe_mul, ← EReal.coe_add, ← EReal.coe_sub]
  rfl

/-- The walk inside the point, from the state that the later points left. -/
theorem dsW_real (n : ℕ) (hn : n ≤ 4) (hD : ∀ h, D h = A.DS h (4 * (15 - b.val))) (h : Fin 8) (d e : Fin 128) :
    dsW x0 x1 x2 x3 x4 x5 xs h n (ix2 d e) = ((A.DS h (4 * (15 - b.val) + n) d e : ℝ) : EReal) := by
  induction n generalizing d e with
  | zero =>
    refine ((cast_head _ d e).trans (ld_head xs h 0 d e)).trans ?_
    rw [H.hs, hD]; rfl
  | succ n ih =>
    show nextW x0 x1 x2 x3 x4 x5 (Fin.ofNat 4 (3 - n)) h (dsW x0 x1 x2 x3 x4 x5 xs h n) (ix2 d e) = _
    rw [nextW_real H _ h _ _ (fun d e => ih (by omega) d e)]
    have : chunk b (Fin.ofNat 4 (3 - n)) = Fin.ofNat 64 (63 - (4 * (15 - b.val) + n)) := by
      apply Fin.ext
      show 4 * b.val + (3 - n) % 4 = (63 - (4 * (15 - b.val) + n)) % 64
      have := b.isLt
      omega
    rw [this]; rfl

theorem dst_chunk (k : Fin 4) (hD : ∀ h, D h = A.DS h (4 * (15 - b.val))) (h : Fin 8) (d e : Fin 128) :
    dsW x0 x1 x2 x3 x4 x5 xs h (3 - k.val) (ix2 d e) = ((A.dst (chunk b k) h d e : ℝ) : EReal) := by
  rw [dsW_real H _ (by omega) hD]
  have : 4 * (15 - b.val) + (3 - k.val) = 63 - (chunk b k).val := by
    show _ = 63 - (4 * b.val + k.val); have := b.isLt; have := k.isLt; omega
  rw [this]; rfl

theorem dqdW_real (k : Fin 4) (h : Fin 8) (m : Fin 64) (d : Fin 128) :
    dqdW x0 x7 k h (ix2 m d) = ((A.outQd (chunk b k) h m d : ℝ) : EReal) := by
  unfold dqdW BwdArgs.outQd
  refine (mmNT_apply _ _ _ _).trans ?_
  rw [← sum_real]
  refine Finset.sum_congr rfl fun e _ => ?_
  rw [doW_real H, EReal.coe_mul]
  exact congrArg _ (savW_real H k h d e)

theorem dkdW_real (k : Fin 4) (h : Fin 8) (hD : ∀ h, D h = A.DS h (4 * (15 - b.val))) (m : Fin 64) (d : Fin 128) :
    dkdW x6 k h (dsW x0 x1 x2 x3 x4 x5 xs h (3 - k.val)) (ix2 m d) = ((A.outKd (chunk b k) h m d : ℝ) : EReal) := by
  unfold dkdW BwdArgs.outKd
  refine (mmNT_apply _ _ _ _).trans ?_
  rw [← sum_real]
  refine Finset.sum_congr rfl fun e _ => ?_
  rw [ld_rows x6 k h m e, H.h6, tok_chunk, EReal.coe_mul]
  exact congrArg _ (dst_chunk H k hD h d e)

theorem dwW_real (k : Fin 4) (h : Fin 8) (hD : ∀ h, D h = A.DS h (4 * (15 - b.val))) (m : Fin 64) (d : Fin 128) :
    dwW x0 x2 x4 x7 k h (dsW x0 x1 x2 x3 x4 x5 xs h (3 - k.val)) (ix2 m d) = ((A.outW (chunk b k) h m d : ℝ) : EReal) := by
  have e1 : mmNT (b16r (dvnW x0 x2 x4 k h (dsW x0 x1 x2 x3 x4 x5 xs h (3 - k.val)))) (b16 (savW x7 k h)) (ix2 m d)
      = ((∑ e : Fin 128, A.outU (chunk b k) h m e * A.sh (chunk b k) h d e : ℝ) : EReal) := by
    refine (mmNT_apply _ _ _ _).trans ?_
    rw [← sum_real]
    refine Finset.sum_congr rfl fun e _ => ?_
    rw [EReal.coe_mul]
    exact congrArg₂ _ (dvnW_real H k h _ _ (dst_chunk H k hD h) m e) (savW_real H k h d e)
  show Ideal.ofBits .f32 0x00000000#32 - mmNT (b16r (dvnW x0 x2 x4 k h (dsW x0 x1 x2 x3 x4 x5 xs h (3 - k.val)))) (b16 (savW x7 k h)) (ix2 m d) = _
  rw [e1, Ideal.ofBits_zero_f32, zero_sub, ← EReal.coe_neg]
  rfl

theorem decW_real (k : Fin 4) (h : Fin 8) (hD : ∀ h, D h = A.DS h (4 * (15 - b.val))) (r : Fin 8) (l : Fin 128) :
    decW x7 k h (dsW x0 x1 x2 x3 x4 x5 xs h (3 - k.val)) (ix2 r l) = ((A.outDec (chunk b k) h : ℝ) : EReal) := by
  unfold decW
  pointwise
  unfold BwdArgs.outDec
  rw [← sum_real]
  refine Finset.sum_congr rfl fun d _ => ?_
  rw [← sum_real]
  refine Finset.sum_congr rfl fun e _ => ?_
  rw [EReal.coe_mul]
  exact congrArg₂ _ (savW_real H k h d e) (dst_chunk H k hD h d e)

theorem dvnW_out (k : Fin 4) (h : Fin 8) (hD : ∀ h, D h = A.DS h (4 * (15 - b.val))) (m : Fin 64) (e : Fin 128) :
    dvnW x0 x2 x4 k h (dsW x0 x1 x2 x3 x4 x5 xs h (3 - k.val)) (ix2 m e) = ((A.outU (chunk b k) h m e : ℝ) : EReal) :=
  dvnW_real H k h _ _ (dst_chunk H k hD h) m e

end Cert.Hand.BwdBlock

end
-- ==== Proof.BwdHost.lean ====
module

public import proofs.«01_k».proof.Proof.BwdPoint

@[expose] public section

set_option maxRecDepth 16384

noncomputable section

namespace Cert.Hand.BwdBlock

open Cert.KernelIdeal Cert.KernelIdeal.Gen Idealize.ShloMosaic Idealize.ShloMosaic.TcCoe Idealize.SL.Sem Idealize.ShloMosaic.StableHlo
open Cert.KernelIdeal.Facts

abbrev spread {w : ℕ} (v : IVec S_ w) : IVec S4096x1x1 w := broadcastInDim S4096x1x1 ![] bcast_S_S4096x1x1 v

/-- The chunk number of each row. -/
def chunkNo : IVec S4096x1x1 32 :=
  select (andi (cmpi .ne (signi (iotaInDim S4096x1x1 32 0)) (spread (signi (constantI S_ 32 64#32))))
      (cmpi .ne (Host.remsi (iotaInDim S4096x1x1 32 0) (spread (constantI S_ 32 64#32))) (spread (constantI S_ 32 0#32))))
    (subi (Host.divsi (iotaInDim S4096x1x1 32 0) (spread (constantI S_ 32 64#32))) (spread (constantI S_ 32 1#32)))
    (Host.divsi (iotaInDim S4096x1x1 32 0) (spread (constantI S_ 32 64#32)))

def two : IVec S_ 32 := select (cmpi .eq (constantI S_ 32 2#32) (constantI S_ 32 0#32)) (constantI S_ 32 1#32) (constantI S_ 32 2#32)

/-- The chunk number's parity. -/
def parity : IVec S4096x1x1 32 :=
  select (andi (cmpi .ne (cmpi .slt (Host.remsi chunkNo (spread two)) (spread (constantI S_ 32 0#32))) (spread (cmpi .slt two (constantI S_ 32 0#32))))
      (cmpi .ne (Host.remsi chunkNo (spread two)) (spread (constantI S_ 32 0#32))))
    (addi (Host.remsi chunkNo (spread two)) (spread two))
    (Host.remsi chunkNo (spread two))

def evenRow : IVec S4096x1x1 1 := cmpi .eq parity (spread (constantI S_ 32 0#32))

theorem evenRow_apply (r : Fin 4096) : evenRow (ix3 r 0 0) = if (r.val / 64) % 2 = 0 then 1#1 else 0#1 := by
  pointwise [evenRow, parity, two, chunkNo]
  revert r
  decide +kernel

def joinW (a b : FVec Ideal S4096x8x64 .bf16) : FVec Ideal S4096x1024 .bf16 :=
  shapeCast S4096x1024 (concatenate S4096x8x128 2 [⟨S4096x8x64, a⟩, ⟨S4096x8x64, b⟩]
    concatenates_S4096x8x64_S4096x8x64_S4096x8x128_d2) shapeCasts_S4096x8x128_S4096x1024

abbrev noneW : FVec Ideal S4096x8x64 .bf16 := broadcastInDim S4096x8x64 ![] bcast_S_S4096x8x64 (constant (F := Ideal) S_ .bf16 0x0000#16)
abbrev evenW : IVec S4096x8x64 1 := broadcastInDim S4096x8x64 ![0, 1, 2] bcast_S4096x1x1_S4096x8x64_0_1_2 evenRow

def paddedW (qk : FVec Ideal S4096x8x64 .bf16) : FVec Ideal S4096x1024 .bf16 :=
  joinW (select evenW qk noneW) (select evenW noneW qk)

def gcW (gc : FVec Ideal S4096x8 .f32) : FVec Ideal S4096x1024 .f32 :=
  shapeCast S4096x1024 (broadcastInDim S4096x8x128 ![0, 1, 2] bcast_S4096x8x1_S4096x8x128_0_1_2
    (broadcastInDim S4096x8x1 ![0, 1] bcast_S4096x8_S4096x8x1_0_1 gc)) shapeCasts_S4096x8x128_S4096x1024

theorem gcW_apply (gc : FVec Ideal S4096x8 .f32) (r : Fin 4096) (h : Fin 8) (j : Fin 128) :
    gcW gc (ix2 r (lane h j)) = gc (ix2 r h) := by
  pointwise [gcW]
  have e : (⟨(lane h j).val / 128, by have := (lane h j).isLt; omega⟩ : Fin 8) = h := by
    apply Fin.ext; show (128 * h.val + j.val) / 128 = h.val; omega
  exact congrArg (fun z => gc (ix2 r z)) e

theorem paddedW_apply (qk : FVec Ideal S4096x8x64 .bf16) (r : Fin 4096) (h : Fin 8) (j : Fin 128) :
    paddedW qk (ix2 r (lane h j)) = if hj : j.val < 64 then (if (r.val / 64) % 2 = 0 then qk (ix3 r h ⟨j.val, hj⟩) else 0)
      else (if (r.val / 64) % 2 = 0 then 0 else qk (ix3 r h ⟨j.val - 64, by omega⟩)) := by
  pointwise [paddedW, joinW]
  have e : ∀ p, (⟨(lane h j).val / 128, p⟩ : Fin 8) = h := fun p => by
    apply Fin.ext; show (128 * h.val + j.val) / 128 = h.val; omega
  have e' : (lane h j).val % 128 = j.val := by show (128 * h.val + j.val) % 128 = j.val; omega
  simp only [e, e', evenRow_apply]
  split <;> split <;> rfl

variable (m : (ℓ : Loc nD τ sig) → Buf (Elt Ideal) ℓ)

theorem V_v12 (c : Dev nD) : V m c main_v12 = gcW (m (c, Proc.devRef .tc main_arg5)) := by
  unfold V
  simp only [List.flatten_cons, List.flatten_nil, List.cons_append, List.nil_append, List.append_nil]
  after_results
  rfl

theorem V_v4 (c : Dev nD) : V m c main_v4 = evenRow := by
  unfold V
  simp only [List.flatten_cons, List.flatten_nil, List.cons_append, List.nil_append, List.append_nil]
  after_results
  simp only [TRef.ofBuf_toBuf]
  rfl

theorem V_v5 (c : Dev nD) : V m c main_v5 = noneW := by
  unfold V
  simp only [List.flatten_cons, List.flatten_nil, List.cons_append, List.nil_append, List.append_nil]
  after_results

theorem V_v6 (c : Dev nD) : V m c main_v6
    = select (broadcastInDim S4096x8x64 ![0, 1, 2] bcast_S4096x1x1_S4096x8x64_0_1_2 (V m c main_v4 : IVec S4096x1x1 1))
        (m (c, Proc.devRef .tc main_arg2) : FVec Ideal S4096x8x64 .bf16) (V m c main_v5) := by
  unfold V
  simp only [List.flatten_cons, List.flatten_nil, List.cons_append, List.nil_append, List.append_nil]
  after_results
  simp only [TRef.ofBuf_toBuf]
  rfl

theorem V_v7 (c : Dev nD) : V m c main_v7
    = select (broadcastInDim S4096x8x64 ![0, 1, 2] bcast_S4096x1x1_S4096x8x64_0_1_2 (V m c main_v4 : IVec S4096x1x1 1))
        (V m c main_v5 : FVec Ideal S4096x8x64 .bf16) (m (c, Proc.devRef .tc main_arg2)) := by
  unfold V
  simp only [List.flatten_cons, List.flatten_nil, List.cons_append, List.nil_append, List.append_nil]
  after_results
  simp only [TRef.ofBuf_toBuf]
  rfl

theorem V_join (c : Dev nD) : V m c main_v9 = joinW (V m c main_v6) (V m c main_v7) := by
  unfold V
  simp only [List.flatten_cons, List.flatten_nil, List.cons_append, List.nil_append, List.append_nil]
  after_results
  rfl

theorem V_v9 (c : Dev nD) : V m c main_v9 = paddedW (m (c, Proc.devRef .tc main_arg2)) := by
  rw [V_join, V_v6, V_v7, V_v4, V_v5]
  rfl

end Cert.Hand.BwdBlock

end
-- ==== Proof.BwdFold.lean ====
module

public import proofs.«01_k».proof.Proof.BwdHost
public import proofs.«01_k».proof.Proof.Gen.KernelIdeal.Frame
public import Idealize.ShloMosaic.Lib.Pipeline.ValueKit.Geometry

@[expose] public section

set_option maxRecDepth 16384

noncomputable section

namespace Cert.Hand.BwdBlock

open Cert.KernelIdeal Cert.KernelIdeal.Gen Idealize.ShloMosaic Idealize.ShloMosaic.TcCoe Idealize.SL.Sem
open Cert.KernelIdeal.Facts

theorem emb_mem {s : Shape} (r : Rect s) (x : r.shape.Idx) : r.emb x ∈ r.set :=
  r.mem_set.2 fun a => ⟨x a, (x a).isLt, rfl⟩

/-! ## What the point's stores leave, element by element -/

theorem mem_pieces (f : Fin 4 → Fin 8 → FVec Ideal S64x128 .f32) (p : View.Piece (Elt Ideal) S256x1024 .f32) :
    p ∈ pieces f ↔ ∃ k h, p = ⟨rows k h, f k h⟩ := by
  simp only [pieces, List.mem_flatMap, List.mem_map]
  constructor
  · rintro ⟨k, _, h, _, rfl⟩; exact ⟨k, h, rfl⟩
  · rintro ⟨k, h, rfl⟩; exact ⟨k, by revert k; decide, h, by revert h; decide, rfl⟩

theorem mem_piecesDec (f : Fin 4 → Fin 8 → FVec Ideal S8x128 .f32) (p : View.Piece (Elt Ideal) S32x1024 .f32) :
    p ∈ piecesDec f ↔ ∃ k h, p = ⟨decRows k h, f k h⟩ := by
  simp only [piecesDec, List.mem_flatMap, List.mem_map]
  constructor
  · rintro ⟨k, _, h, _, rfl⟩; exact ⟨k, h, rfl⟩
  · rintro ⟨k, h, rfl⟩; exact ⟨k, by revert k; decide, h, by revert h; decide, rfl⟩

theorem mem_piecesState (f : Fin 8 → FVec Ideal S128x128 .f32) (p : View.Piece (Elt Ideal) S8x128x128 .f32) :
    p ∈ piecesState f ↔ ∃ h, p = ⟨headRect h, shapeCast S1x128x128 (f h) shapeCasts_S128x128_S1x128x128⟩ := by
  simp only [piecesState, List.mem_map]
  constructor
  · rintro ⟨h, _, rfl⟩; exact ⟨h, rfl⟩
  · rintro ⟨h, rfl⟩; exact ⟨h, by revert h; decide, rfl⟩

theorem rows_emb (k : Fin 4) (h : Fin 8) (i : Fin 64) (l : Fin 128) :
    (rows k h).emb (ix2 i l : S64x128.Idx) = ix2 (rowOf k i) (lane h l) := by
  funext a
  match a with
  | 0 => exact Fin.ext (by show 64 * k.val + 1 * i.val = _; simp [rowOf, ix2])
  | 1 => exact Fin.ext (by show 128 * h.val + 1 * l.val = _; simp [lane, ix2])

def decRow (k : Fin 4) (r : Fin 8) : Fin 32 := ⟨8 * k.val + r.val, by omega⟩

theorem decRows_emb (k : Fin 4) (h : Fin 8) (i : Fin 8) (l : Fin 128) :
    (decRows k h).emb (ix2 i l : S8x128.Idx) = ix2 (decRow k i) (lane h l) := by
  funext a
  match a with
  | 0 => exact Fin.ext (by show 8 * k.val + 1 * i.val = _; simp [decRow, ix2])
  | 1 => exact Fin.ext (by show 128 * h.val + 1 * l.val = _; simp [lane, ix2])

theorem headRect_emb (h : Fin 8) (i : Fin 1) (d l : Fin 128) :
    (headRect h).emb (ix3 i d l : S1x128x128.Idx) = ix3 h d l := by
  funext a
  match a with
  | 0 => exact Fin.ext (by show h.val + 1 * i.val = _; have := i.isLt; simp [ix3])
  | 1 => exact Fin.ext (by show 0 + 1 * d.val = _; simp [ix3])
  | 2 => exact Fin.ext (by show 0 + 1 * l.val = _; simp [ix3])

theorem read_pieces (v : View sig .tc .vmem S256x1024 .f32) (g) (f : Fin 4 → Fin 8 → FVec Ideal S64x128 .f32)
    (k : Fin 4) (h : Fin 8) (i : Fin 64) (l : Fin 128) :
    v.read (Elt Ideal) (v.writes (Elt Ideal) g (pieces f)) (ix2 (rowOf k i) (lane h l)) = f k h (ix2 i l) := by
  let G : S256x1024.Idx → Elt Ideal .f32 := fun y =>
    f (Fin.ofNat 4 ((y 0).val / 64)) (Fin.ofNat 8 ((y 1).val / 128)) (ix2 (Fin.ofNat 64 (y 0).val) (Fin.ofNat 128 (y 1).val))
  have hG : ∀ (k : Fin 4) (h : Fin 8) (i : Fin 64) (l : Fin 128), G (ix2 (rowOf k i) (lane h l)) = f k h (ix2 i l) := by
    intro k h i l
    have e1 : Fin.ofNat 4 ((rowOf k i).val / 64) = k := Fin.ext (by show (64 * k.val + i.val) / 64 % 4 = k.val; omega)
    have e2 : Fin.ofNat 8 ((lane h l).val / 128) = h := Fin.ext (by show (128 * h.val + l.val) / 128 % 8 = h.val; omega)
    have e3 : Fin.ofNat 64 (rowOf k i).val = i := Fin.ext (by show (64 * k.val + i.val) % 64 = i.val; omega)
    have e4 : Fin.ofNat 128 (lane h l).val = l := Fin.ext (by show (128 * h.val + l.val) % 128 = l.val; omega)
    show f (Fin.ofNat 4 ((rowOf k i).val / 64)) (Fin.ofNat 8 ((lane h l).val / 128)) (ix2 (Fin.ofNat 64 (rowOf k i).val) (Fin.ofNat 128 (lane h l).val)) = _
    rw [e1, e2, e3, e4]
  refine (View.read_writes_apply_of_pieces v g G (pieces f) ?_ _ ?_).trans (hG k h i l)
  · intro p hp x
    obtain ⟨k, h, rfl⟩ := (mem_pieces f p).1 hp
    show f k h x = G ((rows k h).emb x)
    have : x = (ix2 (x 0) (x 1) : S64x128.Idx) := by funext a; match a with | 0 => rfl | 1 => rfl
    rw [this]
    exact (hG k h (x 0) (x 1)).symm.trans (congrArg G (rows_emb k h (x 0) (x 1)).symm)
  · exact ⟨_, (mem_pieces f _).2 ⟨k, h, rfl⟩, by rw [← rows_emb k h i l]; exact emb_mem _ _⟩

theorem read_piecesDec (v : View sig .tc .vmem S32x1024 .f32) (g) (f : Fin 4 → Fin 8 → FVec Ideal S8x128 .f32)
    (k : Fin 4) (h : Fin 8) (i : Fin 8) (l : Fin 128) :
    v.read (Elt Ideal) (v.writes (Elt Ideal) g (piecesDec f)) (ix2 (decRow k i) (lane h l)) = f k h (ix2 i l) := by
  let G : S32x1024.Idx → Elt Ideal .f32 := fun y =>
    f (Fin.ofNat 4 ((y 0).val / 8)) (Fin.ofNat 8 ((y 1).val / 128)) (ix2 (Fin.ofNat 8 (y 0).val) (Fin.ofNat 128 (y 1).val))
  have hG : ∀ (k : Fin 4) (h : Fin 8) (i : Fin 8) (l : Fin 128), G (ix2 (decRow k i) (lane h l)) = f k h (ix2 i l) := by
    intro k h i l
    have e1 : Fin.ofNat 4 ((decRow k i).val / 8) = k := Fin.ext (by show (8 * k.val + i.val) / 8 % 4 = k.val; omega)
    have e2 : Fin.ofNat 8 ((lane h l).val / 128) = h := Fin.ext (by show (128 * h.val + l.val) / 128 % 8 = h.val; omega)
    have e3 : Fin.ofNat 8 (decRow k i).val = i := Fin.ext (by show (8 * k.val + i.val) % 8 = i.val; omega)
    have e4 : Fin.ofNat 128 (lane h l).val = l := Fin.ext (by show (128 * h.val + l.val) % 128 = l.val; omega)
    show f (Fin.ofNat 4 ((decRow k i).val / 8)) (Fin.ofNat 8 ((lane h l).val / 128)) (ix2 (Fin.ofNat 8 (decRow k i).val) (Fin.ofNat 128 (lane h l).val)) = _
    rw [e1, e2, e3, e4]
  refine (View.read_writes_apply_of_pieces v g G (piecesDec f) ?_ _ ?_).trans (hG k h i l)
  · intro p hp x
    obtain ⟨k, h, rfl⟩ := (mem_piecesDec f p).1 hp
    show f k h x = G ((decRows k h).emb x)
    have : x = (ix2 (x 0) (x 1) : S8x128.Idx) := by funext a; match a with | 0 => rfl | 1 => rfl
    rw [this]
    exact (hG k h (x 0) (x 1)).symm.trans (congrArg G (decRows_emb k h (x 0) (x 1)).symm)
  · exact ⟨_, (mem_piecesDec f _).2 ⟨k, h, rfl⟩, by rw [← decRows_emb k h i l]; exact emb_mem _ _⟩

theorem read_piecesState (v : View sig .tc .vmem S8x128x128 .f32) (g) (f : Fin 8 → FVec Ideal S128x128 .f32)
    (h : Fin 8) (d l : Fin 128) :
    v.read (Elt Ideal) (v.writes (Elt Ideal) g (piecesState f)) (ix3 h d l) = f h (ix2 d l) := by
  let G : S8x128x128.Idx → Elt Ideal .f32 := fun y => f (y 0) (ix2 (y 1) (y 2))
  have hc : ∀ (w : FVec Ideal S128x128 .f32) (i : Fin 1) (d l : Fin 128),
      shapeCast S1x128x128 w shapeCasts_S128x128_S1x128x128 (ix3 i d l) = w (ix2 d l) := by
    intro w i d l; pointwise
  refine (View.read_writes_apply_of_pieces v g G (piecesState f) ?_ _ ?_).trans rfl
  · intro p hp x
    obtain ⟨h, rfl⟩ := (mem_piecesState f p).1 hp
    show shapeCast S1x128x128 (f h) shapeCasts_S128x128_S1x128x128 x = G ((headRect h).emb x)
    have : x = (ix3 (x 0) (x 1) (x 2) : S1x128x128.Idx) := by funext a; match a with | 0 => rfl | 1 => rfl | 2 => rfl
    rw [this]
    exact (hc _ _ _ _).trans (congrArg G (headRect_emb h (x 0) (x 1) (x 2)).symm)
  · exact ⟨_, (mem_piecesState f _).2 ⟨h, rfl⟩, by rw [← headRect_emb h 0 d l]; exact emb_mem _ _⟩

theorem of_pieces (v : View sig .tc .vmem S256x1024 .f32) (g) {L : List (View.Piece (Elt Ideal) S256x1024 .f32)}
    {f : Fin 4 → Fin 8 → FVec Ideal S64x128 .f32} (e : L = pieces f) (k : Fin 4) (h : Fin 8) (i : Fin 64) (l : Fin 128) :
    v.read (Elt Ideal) (v.writes (Elt Ideal) g L) (ix2 (rowOf k i) (lane h l)) = f k h (ix2 i l) := by
  subst e; exact read_pieces v g f k h i l

theorem of_piecesDec (v : View sig .tc .vmem S32x1024 .f32) (g) {L : List (View.Piece (Elt Ideal) S32x1024 .f32)}
    {f : Fin 4 → Fin 8 → FVec Ideal S8x128 .f32} (e : L = piecesDec f) (k : Fin 4) (h : Fin 8) (i : Fin 8) (l : Fin 128) :
    v.read (Elt Ideal) (v.writes (Elt Ideal) g L) (ix2 (decRow k i) (lane h l)) = f k h (ix2 i l) := by
  subst e; exact read_piecesDec v g f k h i l

theorem of_piecesState (v : View sig .tc .vmem S8x128x128 .f32) (g) {L : List (View.Piece (Elt Ideal) S8x128x128 .f32)}
    {f : Fin 8 → FVec Ideal S128x128 .f32} (e : L = piecesState f) (h : Fin 8) (d l : Fin 128) :
    v.read (Elt Ideal) (v.writes (Elt Ideal) g L) (ix3 h d l) = f h (ix2 d l) := by
  subst e; exact read_piecesState v g f h d l

theorem of_piecesState_append (v : View sig .tc .vmem S8x128x128 .f32) (g) {L M : List (View.Piece (Elt Ideal) S8x128x128 .f32)}
    {f : Fin 8 → FVec Ideal S128x128 .f32} (e : L = piecesState f ++ M) (h : Fin 8) (d l : Fin 128) :
    v.read (Elt Ideal) (v.writes (Elt Ideal) g L) (ix3 h d l) = f h (ix2 d l) := by
  subst e; rw [View.writes_append]; exact read_piecesState v _ f h d l

/-! ## The arguments, as real numbers -/

def argsOf (ct : Vec Ideal S4096x1024 .f32) (w : Vec Ideal S4096x1024 .bf16) (qk : Vec Ideal S4096x8x64 .bf16)
    (qd kd : Vec Ideal S4096x1024 .bf16) (gc : Vec Ideal S4096x8 .f32) (vn : Vec Ideal S4096x1024 .bf16)
    (sh : Vec Ideal S64x8x128x128 .f32) : BwdArgs where
  ct r l := EReal.toReal (ct (ix2 r l))
  w r l := EReal.toReal (w (ix2 r l))
  qk r h l := EReal.toReal (qk (ix3 r h l))
  qd r l := EReal.toReal (qd (ix2 r l))
  kd r l := EReal.toReal (kd (ix2 r l))
  gc r l := EReal.toReal (gc (ix2 r l))
  vn r l := EReal.toReal (vn (ix2 r l))
  sh g h d e := EReal.toReal (sh (ix4 g h d e))

/-- Every element of an array is a real number. -/
def IsReal {s : Shape} {e : FTy} (x : FVec Ideal s e) : Prop := ∀ i, (x i : EReal) = ((EReal.toReal (x i) : ℝ) : EReal)

variable (m : (ℓ : Loc nD τ sig) → Buf (Elt Ideal) ℓ)

/-- Core `c`'s arguments. -/
def memArgs (c : Dev nD) : BwdArgs :=
  argsOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

structure MemReal (c : Dev nD) : Prop where
  r0 : IsReal (s := S4096x1024) (e := .f32) (m ((c : Thread nD τ).loc main_arg0))
  r1 : IsReal (s := S4096x1024) (e := .bf16) (m ((c : Thread nD τ).loc main_arg1))
  r2 : IsReal (s := S4096x8x64) (e := .bf16) (m ((c : Thread nD τ).loc main_arg2))
  r3 : IsReal (s := S4096x1024) (e := .bf16) (m ((c : Thread nD τ).loc main_arg3))
  r4 : IsReal (s := S4096x1024) (e := .bf16) (m ((c : Thread nD τ).loc main_arg4))
  r5 : IsReal (s := S4096x8) (e := .f32) (m ((c : Thread nD τ).loc main_arg5))
  r6 : IsReal (s := S4096x1024) (e := .bf16) (m ((c : Thread nD τ).loc main_arg6))
  r7 : IsReal (s := S64x8x128x128) (e := .f32) (m ((c : Thread nD τ).loc main_arg7))

/-- The block point `t` works on: the walk is from the last block to the first. -/
def blockOf (t : Fin cfg0.N) : Fin 16 := ⟨15 - t.val, by omega⟩

theorem N_eq : cfg0.N = 16 := by decide

theorem lt_N (t : Fin cfg0.N) : t.val < 16 := lt_of_lt_of_eq t.isLt N_eq

theorem idx_facts : ∀ t : Fin cfg0.N,
    (win0_0.index t 0 = 15 - t.val ∧ win0_0.index t 1 = 0) ∧ (win0_1.index t 0 = 15 - t.val ∧ win0_1.index t 1 = 0) ∧
    (win0_2.index t 0 = 15 - t.val ∧ win0_2.index t 1 = 0) ∧ (win0_3.index t 0 = 15 - t.val ∧ win0_3.index t 1 = 0) ∧
    (win0_4.index t 0 = 15 - t.val ∧ win0_4.index t 1 = 0) ∧ (win0_5.index t 0 = 15 - t.val ∧ win0_5.index t 1 = 0) ∧
    (win0_6.index t 0 = 15 - t.val ∧ win0_6.index t 1 = 0) ∧
    (win0_7.index t 0 = 15 - t.val ∧ win0_7.index t 1 = 0 ∧ win0_7.index t 2 = 0 ∧ win0_7.index t 3 = 0) := by
  decide +kernel

theorem out_facts : ∀ t : Fin cfg0.N,
    (win0_8.index t 0 = 15 - t.val ∧ win0_8.index t 1 = 0) ∧ (win0_9.index t 0 = 15 - t.val ∧ win0_9.index t 1 = 0) ∧
    (win0_10.index t 0 = 15 - t.val ∧ win0_10.index t 1 = 0) ∧ (win0_11.index t 0 = 15 - t.val ∧ win0_11.index t 1 = 0) ∧
    (win0_12.index t 0 = 15 - t.val ∧ win0_12.index t 1 = 0) := by
  decide +kernel

def inBlock (t : Fin cfg0.N) (r : Fin 256) : Fin 4096 := ⟨256 * (blockOf t).val + r.val, by have := (blockOf t).isLt; omega⟩

theorem iblk0 (c : Dev nD) (t : Fin cfg0.N) (r : Fin 256) (l : Fin 1024) :
    (iblk m c 0 t : Vec Ideal S256x1024 .f32) (ix2 r l) = (m ((c : Thread nD τ).loc main_arg0) : Vec Ideal S4096x1024 .f32) (ix2 (inBlock t r) l) := by
  have e : ((cfg0.win 0).blk t).view.emb (ix2 r l : S256x1024.Idx) = (ix2 (inBlock t r) l : S4096x1024.Idx) := by
    funext a
    match a with
    | 0 => exact Fin.ext (by
        show win0_0.index t 0 * 256 + 1 * r.val = 256 * (15 - t.val) + r.val
        rw [(idx_facts t).1.1]; omega)
    | 1 => exact Fin.ext (by
        show win0_0.index t 1 * 1024 + 1 * l.val = l.val
        rw [(idx_facts t).1.2]; omega)
  show V m c main_arg0 (((cfg0.win 0).blk t).view.emb (ix2 r l : S256x1024.Idx)) = _
  rw [V_main_arg0]
  exact congrArg _ e

theorem iblk1 (c : Dev nD) (t : Fin cfg0.N) (r : Fin 256) (l : Fin 1024) :
    (iblk m c 1 t : Vec Ideal S256x1024 .bf16) (ix2 r l) = (m ((c : Thread nD τ).loc main_arg1) : Vec Ideal S4096x1024 .bf16) (ix2 (inBlock t r) l) := by
  have e : ((cfg0.win 1).blk t).view.emb (ix2 r l : S256x1024.Idx) = (ix2 (inBlock t r) l : S4096x1024.Idx) := by
    funext a
    match a with
    | 0 => exact Fin.ext (by
        show win0_1.index t 0 * 256 + 1 * r.val = 256 * (15 - t.val) + r.val
        rw [(idx_facts t).2.1.1]; omega)
    | 1 => exact Fin.ext (by
        show win0_1.index t 1 * 1024 + 1 * l.val = l.val
        rw [(idx_facts t).2.1.2]; omega)
  show V m c main_arg1 (((cfg0.win 1).blk t).view.emb (ix2 r l : S256x1024.Idx)) = _
  rw [V_main_arg1]
  exact congrArg _ e

theorem iblk2 (c : Dev nD) (t : Fin cfg0.N) (r : Fin 256) (l : Fin 1024) :
    (iblk m c 2 t : Vec Ideal S256x1024 .bf16) (ix2 r l) = (paddedW (m ((c : Thread nD τ).loc main_arg2))) (ix2 (inBlock t r) l) := by
  have e : ((cfg0.win 2).blk t).view.emb (ix2 r l : S256x1024.Idx) = (ix2 (inBlock t r) l : S4096x1024.Idx) := by
    funext a
    match a with
    | 0 => exact Fin.ext (by
        show win0_2.index t 0 * 256 + 1 * r.val = 256 * (15 - t.val) + r.val
        rw [(idx_facts t).2.2.1.1]; omega)
    | 1 => exact Fin.ext (by
        show win0_2.index t 1 * 1024 + 1 * l.val = l.val
        rw [(idx_facts t).2.2.1.2]; omega)
  show V m c main_v9 (((cfg0.win 2).blk t).view.emb (ix2 r l : S256x1024.Idx)) = _
  rw [V_v9]
  exact congrArg _ e

theorem iblk3 (c : Dev nD) (t : Fin cfg0.N) (r : Fin 256) (l : Fin 1024) :
    (iblk m c 3 t : Vec Ideal S256x1024 .bf16) (ix2 r l) = (m ((c : Thread nD τ).loc main_arg3) : Vec Ideal S4096x1024 .bf16) (ix2 (inBlock t r) l) := by
  have e : ((cfg0.win 3).blk t).view.emb (ix2 r l : S256x1024.Idx) = (ix2 (inBlock t r) l : S4096x1024.Idx) := by
    funext a
    match a with
    | 0 => exact Fin.ext (by
        show win0_3.index t 0 * 256 + 1 * r.val = 256 * (15 - t.val) + r.val
        rw [(idx_facts t).2.2.2.1.1]; omega)
    | 1 => exact Fin.ext (by
        show win0_3.index t 1 * 1024 + 1 * l.val = l.val
        rw [(idx_facts t).2.2.2.1.2]; omega)
  show V m c main_arg3 (((cfg0.win 3).blk t).view.emb (ix2 r l : S256x1024.Idx)) = _
  rw [V_main_arg3]
  exact congrArg _ e

theorem iblk4 (c : Dev nD) (t : Fin cfg0.N) (r : Fin 256) (l : Fin 1024) :
    (iblk m c 4 t : Vec Ideal S256x1024 .bf16) (ix2 r l) = (m ((c : Thread nD τ).loc main_arg4) : Vec Ideal S4096x1024 .bf16) (ix2 (inBlock t r) l) := by
  have e : ((cfg0.win 4).blk t).view.emb (ix2 r l : S256x1024.Idx) = (ix2 (inBlock t r) l : S4096x1024.Idx) := by
    funext a
    match a with
    | 0 => exact Fin.ext (by
        show win0_4.index t 0 * 256 + 1 * r.val = 256 * (15 - t.val) + r.val
        rw [(idx_facts t).2.2.2.2.1.1]; omega)
    | 1 => exact Fin.ext (by
        show win0_4.index t 1 * 1024 + 1 * l.val = l.val
        rw [(idx_facts t).2.2.2.2.1.2]; omega)
  show V m c main_arg4 (((cfg0.win 4).blk t).view.emb (ix2 r l : S256x1024.Idx)) = _
  rw [V_main_arg4]
  exact congrArg _ e

theorem iblk5 (c : Dev nD) (t : Fin cfg0.N) (r : Fin 256) (l : Fin 1024) :
    (iblk m c 5 t : Vec Ideal S256x1024 .f32) (ix2 r l) = (gcW (m ((c : Thread nD τ).loc main_arg5))) (ix2 (inBlock t r) l) := by
  have e : ((cfg0.win 5).blk t).view.emb (ix2 r l : S256x1024.Idx) = (ix2 (inBlock t r) l : S4096x1024.Idx) := by
    funext a
    match a with
    | 0 => exact Fin.ext (by
        show win0_5.index t 0 * 256 + 1 * r.val = 256 * (15 - t.val) + r.val
        rw [(idx_facts t).2.2.2.2.2.1.1]; omega)
    | 1 => exact Fin.ext (by
        show win0_5.index t 1 * 1024 + 1 * l.val = l.val
        rw [(idx_facts t).2.2.2.2.2.1.2]; omega)
  show V m c main_v12 (((cfg0.win 5).blk t).view.emb (ix2 r l : S256x1024.Idx)) = _
  rw [V_v12]
  exact congrArg _ e

theorem iblk6 (c : Dev nD) (t : Fin cfg0.N) (r : Fin 256) (l : Fin 1024) :
    (iblk m c 6 t : Vec Ideal S256x1024 .bf16) (ix2 r l) = (m ((c : Thread nD τ).loc main_arg6) : Vec Ideal S4096x1024 .bf16) (ix2 (inBlock t r) l) := by
  have e : ((cfg0.win 6).blk t).view.emb (ix2 r l : S256x1024.Idx) = (ix2 (inBlock t r) l : S4096x1024.Idx) := by
    funext a
    match a with
    | 0 => exact Fin.ext (by
        show win0_6.index t 0 * 256 + 1 * r.val = 256 * (15 - t.val) + r.val
        rw [(idx_facts t).2.2.2.2.2.2.1.1]; omega)
    | 1 => exact Fin.ext (by
        show win0_6.index t 1 * 1024 + 1 * l.val = l.val
        rw [(idx_facts t).2.2.2.2.2.2.1.2]; omega)
  show V m c main_arg6 (((cfg0.win 6).blk t).view.emb (ix2 r l : S256x1024.Idx)) = _
  rw [V_main_arg6]
  exact congrArg _ e

theorem iblk7 (c : Dev nD) (t : Fin cfg0.N) (k : Fin 4) (h : Fin 8) (d e : Fin 128) :
    (iblk m c 7 t : Vec Ideal S4x8x128x128 .f32) (ix4 k h d e)
      = (m ((c : Thread nD τ).loc main_arg7) : Vec Ideal S64x8x128x128 .f32) (ix4 ⟨4 * (blockOf t).val + k.val, by have := (blockOf t).isLt; omega⟩ h d e) := by
  have q : ((cfg0.win 7).blk t).view.emb (ix4 k h d e : S4x8x128x128.Idx)
      = (ix4 ⟨4 * (blockOf t).val + k.val, by have := (blockOf t).isLt; omega⟩ h d e : S64x8x128x128.Idx) := by
    have f := (idx_facts t).2.2.2.2.2.2.2
    funext a
    match a with
    | 0 => exact Fin.ext (by
        show win0_7.index t 0 * 4 + 1 * k.val = 4 * (15 - t.val) + k.val
        rw [f.1]; omega)
    | 1 => exact Fin.ext (by
        show win0_7.index t 1 * 8 + 1 * h.val = h.val
        rw [f.2.1]; omega)
    | 2 => exact Fin.ext (by
        show win0_7.index t 2 * 128 + 1 * d.val = d.val
        rw [f.2.2.1]; omega)
    | 3 => exact Fin.ext (by
        show win0_7.index t 3 * 128 + 1 * e.val = e.val
        rw [f.2.2.2]; omega)
  show V m c main_arg7 (((cfg0.win 7).blk t).view.emb (ix4 k h d e : S4x8x128x128.Idx)) = _
  rw [V_main_arg7]
  exact congrArg _ q

/-- Point `t`'s blocks, as the real numbers of the arguments. -/
theorem at_point (c : Dev nD) (R : MemReal m c) (t : Fin cfg0.N) (D : Fin 8 → Fin 128 → Fin 128 → ℝ)
    (xs : Vec Ideal S8x128x128 .f32) (hs : ∀ (h : Fin 8) (d e : Fin 128), xs (ix3 h d e) = ((D h d e : ℝ) : EReal)) :
    At (memArgs m c) (blockOf t) D (iblk m c 0 t) (iblk m c 1 t) (iblk m c 2 t) (iblk m c 3 t) (iblk m c 4 t) (iblk m c 5 t)
      (iblk m c 6 t) (iblk m c 7 t) xs where
  h0 r l := (iblk0 m c t r l).trans (R.r0 _)
  h1 r l := (iblk1 m c t r l).trans (R.r1 _)
  h2 r h j := by
    refine (iblk2 m c t r (lane h j)).trans ((paddedW_apply _ _ _ _).trans ?_)
    show _ = (((memArgs m c).padded (inBlock t r) h j : ℝ) : EReal)
    unfold BwdArgs.padded
    split
    · split
      · exact R.r2 _
      · rfl
    · split
      · rfl
      · exact R.r2 _
  h3 r l := (iblk3 m c t r l).trans (R.r3 _)
  h4 r l := (iblk4 m c t r l).trans (R.r4 _)
  h5 r h j := (iblk5 m c t r (lane h j)).trans ((gcW_apply _ _ _ _).trans (R.r5 _))
  h6 r l := (iblk6 m c t r l).trans (R.r6 _)
  h7 k h d e := (iblk7 m c t k h d e).trans (R.r7 _)
  hs := hs

/-- What the point leaves: its five output blocks and the carried state. -/
structure Left (A : BwdArgs) (t : Fin cfg0.N)
    (o : Vec Ideal S256x1024 .f32 × Vec Ideal S256x1024 .f32 × Vec Ideal S256x1024 .f32 × Vec Ideal S256x1024 .f32 × Vec Ideal S32x1024 .f32 × Vec Ideal S8x128x128 .f32) : Prop where
  o8 : ∀ (k : Fin 4) (h : Fin 8) (i : Fin 64) (l : Fin 128), o.1 (ix2 (rowOf k i) (lane h l)) = ((A.outU (chunk (blockOf t) k) h i l : ℝ) : EReal)
  o9 : ∀ (k : Fin 4) (h : Fin 8) (i : Fin 64) (l : Fin 128), o.2.1 (ix2 (rowOf k i) (lane h l)) = ((A.outQd (chunk (blockOf t) k) h i l : ℝ) : EReal)
  o10 : ∀ (k : Fin 4) (h : Fin 8) (i : Fin 64) (l : Fin 128), o.2.2.1 (ix2 (rowOf k i) (lane h l)) = ((A.outKd (chunk (blockOf t) k) h i l : ℝ) : EReal)
  o11 : ∀ (k : Fin 4) (h : Fin 8) (i : Fin 64) (l : Fin 128), o.2.2.2.1 (ix2 (rowOf k i) (lane h l)) = ((A.outW (chunk (blockOf t) k) h i l : ℝ) : EReal)
  o12 : ∀ (k : Fin 4) (h : Fin 8) (i : Fin 8) (l : Fin 128), o.2.2.2.2.1 (ix2 (decRow k i) (lane h l)) = ((A.outDec (chunk (blockOf t) k) h : ℝ) : EReal)
  os : ∀ (h : Fin 8) (d e : Fin 128), o.2.2.2.2.2 (ix3 h d e) = ((A.DS h (4 * (t.val + 1)) d e : ℝ) : EReal)

theorem zero_state (i : S8x128x128.Idx) : (k0_pay7 (F := Ideal)) i = ((0 : ℝ) : EReal) := by
  show Ideal.ofBits .f32 0x00000000#32 = _
  exact Ideal.ofBits_zero_f32

variable {m} in
set_option maxHeartbeats 2000000 in
theorem left_A (c : Dev nD) (R : MemReal m c) (t : Fin cfg0.N) (h0 : t.val % 16 = 0) :
    Left (memArgs m c) t (outsAt0 m c t.val t.isLt) := by
  have ht : t.val = 0 := by have := lt_N t; omega
  have H := at_point m c R t (fun h => (memArgs m c).DS h 0) (k0_pay7 (F := Ideal)) (fun h d e => zero_state _)
  have hD : ∀ h, (fun h => (memArgs m c).DS h 0) h = (memArgs m c).DS h (4 * (15 - (blockOf t).val)) := by
    intro h; show (memArgs m c).DS h 0 = (memArgs m c).DS h (4 * (15 - (15 - t.val))); rw [ht]
  rw [outsAt0_A m c t h0]
  constructor
  · intro k h i l
    dsimp only; unfold out0_A_8
    refine (of_pieces _ _ (run_A_8 ..) k h i l).trans ?_
    exact dvnW_out H k h hD i l
  · intro k h i l
    dsimp only; unfold out0_A_9
    refine (of_pieces _ _ (run_A_9 ..) k h i l).trans ?_
    exact dqdW_real H k h i l
  · intro k h i l
    dsimp only; unfold out0_A_10
    refine (of_pieces _ _ (run_A_10 ..) k h i l).trans ?_
    exact dkdW_real H k h hD i l
  · intro k h i l
    dsimp only; unfold out0_A_11
    refine (of_pieces _ _ (run_A_11 ..) k h i l).trans ?_
    exact dwW_real H k h hD i l
  · intro k h i l
    dsimp only; unfold out0_A_12
    refine (of_piecesDec _ _ (run_A_12 ..) k h i l).trans ?_
    exact decW_real H k h hD i l
  · intro h d e
    dsimp only; unfold sout0_A_0
    refine (of_piecesState_append _ _ (run_A_s ..) h d e).trans ((dsW_real H 4 (le_refl _) hD h d e).trans ?_)
    have : 4 * (15 - (blockOf t).val) + 4 = 4 * (t.val + 1) := by
      show 4 * (15 - (15 - t.val)) + 4 = _; omega
    rw [this]

variable {m} in
set_option maxHeartbeats 2000000 in
theorem left_B (c : Dev nD) (R : MemReal m c) (t : Fin cfg0.N) (h0 : ¬t.val % 16 = 0)
    (prev : ∀ (h : Fin 8) (d e : Fin 128), (outsAt0 m c (t.val - 1) (by have := t.isLt; omega)).2.2.2.2.2 (ix3 h d e)
      = (((memArgs m c).DS h (4 * t.val) d e : ℝ) : EReal)) :
    Left (memArgs m c) t (outsAt0 m c t.val t.isLt) := by
  have H := at_point m c R t (fun h => (memArgs m c).DS h (4 * t.val)) _ prev
  have hD : ∀ h, (fun h => (memArgs m c).DS h (4 * t.val)) h = (memArgs m c).DS h (4 * (15 - (blockOf t).val)) := by
    intro h
    show (memArgs m c).DS h (4 * t.val) = (memArgs m c).DS h (4 * (15 - (15 - t.val)))
    have := lt_N t
    rw [show 15 - (15 - t.val) = t.val by omega]
  rw [outsAt0_B m c t h0]
  constructor
  · intro k h i l
    dsimp only; unfold out0_B_8
    refine (of_pieces _ _ (run_B_8 ..) k h i l).trans ?_
    exact dvnW_out H k h hD i l
  · intro k h i l
    dsimp only; unfold out0_B_9
    refine (of_pieces _ _ (run_B_9 ..) k h i l).trans ?_
    exact dqdW_real H k h i l
  · intro k h i l
    dsimp only; unfold out0_B_10
    refine (of_pieces _ _ (run_B_10 ..) k h i l).trans ?_
    exact dkdW_real H k h hD i l
  · intro k h i l
    dsimp only; unfold out0_B_11
    refine (of_pieces _ _ (run_B_11 ..) k h i l).trans ?_
    exact dwW_real H k h hD i l
  · intro k h i l
    dsimp only; unfold out0_B_12
    refine (of_piecesDec _ _ (run_B_12 ..) k h i l).trans ?_
    exact decW_real H k h hD i l
  · intro h d e
    dsimp only; unfold sout0_B_0
    refine (of_piecesState _ _ (run_B_s ..) h d e).trans ((dsW_real H 4 (le_refl _) hD h d e).trans ?_)
    have : 4 * (15 - (blockOf t).val) + 4 = 4 * (t.val + 1) := by
      have := lt_N t
      show 4 * (15 - (15 - t.val)) + 4 = _; omega
    rw [this]

variable {m} in
/-- Every point leaves its chunks' gradients: by induction along the walk. -/
theorem left_all (c : Dev nD) (R : MemReal m c) (n : ℕ) (hn : n < cfg0.N) :
    Left (memArgs m c) ⟨n, hn⟩ (outsAt0 m c n hn) := by
  induction n with
  | zero => exact left_A c R ⟨0, hn⟩ rfl
  | succ n ih =>
    have hN := hn; rw [N_eq] at hN
    exact left_B c R ⟨n + 1, hn⟩ (by show ¬(n + 1) % 16 = 0; omega) (ih (by omega)).os

/-! ## The five result arrays -/

def chunkAt (r : Fin 4096) : Fin 64 := ⟨r.val / 64, by omega⟩
def rowAt (r : Fin 4096) : Fin 64 := ⟨r.val % 64, by omega⟩
def headAt (l : Fin 1024) : Fin 8 := ⟨l.val / 128, by omega⟩
def coordAt (l : Fin 1024) : Fin 128 := ⟨l.val % 128, by omega⟩

/-- A chunked result, laid out as [tokens, heads * width]. -/
def lay (f : Fin 64 → Fin 8 → Fin 64 → Fin 128 → ℝ) : Vec Ideal S4096x1024 .f32 :=
  fun y => ((f (chunkAt (y 0)) (headAt (y 1)) (rowAt (y 0)) (coordAt (y 1)) : ℝ) : EReal)

/-- The decay gradient: eight rows to a chunk, each head's number on all its lanes. -/
def layDec (f : Fin 64 → Fin 8 → ℝ) : Vec Ideal S512x1024 .f32 :=
  fun y => ((f ⟨(y 0).val / 8, by have : (y 0).val < 512 := (y 0).isLt; omega⟩ (headAt (y 1)) : ℝ) : EReal)

theorem block_eq (t : Fin cfg0.N) (x : Vec Ideal S256x1024 .f32) (f : Fin 64 → Fin 8 → Fin 64 → Fin 128 → ℝ)
    (hx : ∀ (k : Fin 4) (h : Fin 8) (i : Fin 64) (l : Fin 128), x (ix2 (rowOf k i) (lane h l)) = ((f (chunk (blockOf t) k) h i l : ℝ) : EReal))
    (y : S256x1024.Idx) (z : S4096x1024.Idx) (z0 : (z 0).val = 256 * (15 - t.val) + (y 0).val) (z1 : (z 1).val = (y 1).val) :
    x y = lay f z := by
  obtain ⟨a, b, rfl⟩ : ∃ (a : Fin 256) (b : Fin 1024), y = ix2 a b := ⟨y 0, y 1, by funext q; match q with | 0 => rfl | 1 => rfl⟩
  obtain ⟨u, v, rfl⟩ : ∃ (u : Fin 4096) (v : Fin 1024), z = ix2 u v := ⟨z 0, z 1, by funext q; match q with | 0 => rfl | 1 => rfl⟩
  have z0 : u.val = 256 * (15 - t.val) + a.val := z0
  have z1 : v.val = b.val := z1
  have ea : a = rowOf ⟨a.val / 64, by omega⟩ ⟨a.val % 64, by omega⟩ := Fin.ext (by show a.val = 64 * (a.val / 64) + a.val % 64; omega)
  have eb : b = lane (headAt v) (coordAt v) := Fin.ext (by show b.val = 128 * (v.val / 128) + v.val % 128; omega)
  have e1 : chunk (blockOf t) ⟨a.val / 64, by omega⟩ = chunkAt u := Fin.ext (by
    show 4 * (15 - t.val) + a.val / 64 = u.val / 64; omega)
  have e2 : (⟨a.val % 64, by omega⟩ : Fin 64) = rowAt u := Fin.ext (by show a.val % 64 = u.val % 64; omega)
  rw [ea, eb, hx, e1, e2]
  rfl

theorem blockDec_eq (t : Fin cfg0.N) (x : Vec Ideal S32x1024 .f32) (f : Fin 64 → Fin 8 → ℝ)
    (hx : ∀ (k : Fin 4) (h : Fin 8) (i : Fin 8) (l : Fin 128), x (ix2 (decRow k i) (lane h l)) = ((f (chunk (blockOf t) k) h : ℝ) : EReal))
    (y : S32x1024.Idx) (z : S512x1024.Idx) (z0 : (z 0).val = 32 * (15 - t.val) + (y 0).val) (z1 : (z 1).val = (y 1).val) :
    x y = layDec f z := by
  obtain ⟨a, b, rfl⟩ : ∃ (a : Fin 32) (b : Fin 1024), y = ix2 a b := ⟨y 0, y 1, by funext q; match q with | 0 => rfl | 1 => rfl⟩
  obtain ⟨u, v, rfl⟩ : ∃ (u : Fin 512) (v : Fin 1024), z = ix2 u v := ⟨z 0, z 1, by funext q; match q with | 0 => rfl | 1 => rfl⟩
  have z0 : u.val = 32 * (15 - t.val) + a.val := z0
  have z1 : v.val = b.val := z1
  have ea : a = decRow ⟨a.val / 8, by omega⟩ ⟨a.val % 8, by omega⟩ := Fin.ext (by show a.val = 8 * (a.val / 8) + a.val % 8; omega)
  have eb : b = lane (headAt v) (coordAt v) := Fin.ext (by show b.val = 128 * (v.val / 128) + v.val % 128; omega)
  have e1 : chunk (blockOf t) ⟨a.val / 8, by omega⟩ = ⟨u.val / 8, by omega⟩ := Fin.ext (by
    show 4 * (15 - t.val) + a.val / 8 = u.val / 8; omega)
  rw [ea, eb, hx, e1]
  rfl

variable {m} in
theorem array8 (c : Dev nD) (R : MemReal m c) : (dats m 0 c).arrAt 8 cfg0.N = lay (memArgs m c).outU := by
  refine (dats m 0 c).arrAt_eq_of_covers 8 _ (by decide +kernel) fun t hf y => ?_
  show (dats m 0 c).after 8 t y = _
  rw [after0_8]
  refine block_eq t _ _ (left_all c R t.val t.isLt).o8 y _ ?_ ?_
  · show win0_8.index t 0 * 256 + 1 * (y 0).val = 256 * (15 - t.val) + (y 0).val
    rw [(out_facts t).1.1]; omega
  · show win0_8.index t 1 * 1024 + 1 * (y 1).val = (y 1).val
    rw [(out_facts t).1.2]; omega

variable {m} in
theorem array9 (c : Dev nD) (R : MemReal m c) : (dats m 0 c).arrAt 9 cfg0.N = lay (memArgs m c).outQd := by
  refine (dats m 0 c).arrAt_eq_of_covers 9 _ (by decide +kernel) fun t hf y => ?_
  show (dats m 0 c).after 9 t y = _
  rw [after0_9]
  refine block_eq t _ _ (left_all c R t.val t.isLt).o9 y _ ?_ ?_
  · show win0_9.index t 0 * 256 + 1 * (y 0).val = 256 * (15 - t.val) + (y 0).val
    rw [(out_facts t).2.1.1]; omega
  · show win0_9.index t 1 * 1024 + 1 * (y 1).val = (y 1).val
    rw [(out_facts t).2.1.2]; omega

variable {m} in
theorem array10 (c : Dev nD) (R : MemReal m c) : (dats m 0 c).arrAt 10 cfg0.N = lay (memArgs m c).outKd := by
  refine (dats m 0 c).arrAt_eq_of_covers 10 _ (by decide +kernel) fun t hf y => ?_
  show (dats m 0 c).after 10 t y = _
  rw [after0_10]
  refine block_eq t _ _ (left_all c R t.val t.isLt).o10 y _ ?_ ?_
  · show win0_10.index t 0 * 256 + 1 * (y 0).val = 256 * (15 - t.val) + (y 0).val
    rw [(out_facts t).2.2.1.1]; omega
  · show win0_10.index t 1 * 1024 + 1 * (y 1).val = (y 1).val
    rw [(out_facts t).2.2.1.2]; omega

variable {m} in
theorem array11 (c : Dev nD) (R : MemReal m c) : (dats m 0 c).arrAt 11 cfg0.N = lay (memArgs m c).outW := by
  refine (dats m 0 c).arrAt_eq_of_covers 11 _ (by decide +kernel) fun t hf y => ?_
  show (dats m 0 c).after 11 t y = _
  rw [after0_11]
  refine block_eq t _ _ (left_all c R t.val t.isLt).o11 y _ ?_ ?_
  · show win0_11.index t 0 * 256 + 1 * (y 0).val = 256 * (15 - t.val) + (y 0).val
    rw [(out_facts t).2.2.2.1.1]; omega
  · show win0_11.index t 1 * 1024 + 1 * (y 1).val = (y 1).val
    rw [(out_facts t).2.2.2.1.2]; omega

variable {m} in
theorem array12 (c : Dev nD) (R : MemReal m c) : (dats m 0 c).arrAt 12 cfg0.N = layDec (memArgs m c).outDec := by
  refine (dats m 0 c).arrAt_eq_of_covers 12 _ (by decide +kernel) fun t hf y => ?_
  show (dats m 0 c).after 12 t y = _
  rw [after0_12]
  refine blockDec_eq t _ _ (left_all c R t.val t.isLt).o12 y _ ?_ ?_
  · show win0_12.index t 0 * 32 + 1 * (y 0).val = 32 * (15 - t.val) + (y 0).val
    rw [(out_facts t).2.2.2.2.1]; omega
  · show win0_12.index t 1 * 1024 + 1 * (y 1).val = (y 1).val
    rw [(out_facts t).2.2.2.2.2]; omega

end Cert.Hand.BwdBlock

end
-- ==== Proof.SRun.lean ====
/- The reference's run stated over the step of Gen/ReferenceIdeal/Step.lean. At a valuation that HOLDS a state (the state at the
   carried buffers, the set-up values at the loop's constants, the trip's number at its counters) every value of one trip is that
   module's, one lemma each. So one trip keeps holding with `step` applied, what @main leaves before the loop holds `init`, and
   the results are read off the 64th iterate. The lemmas' text follows the generated module of the same statement, which does
   not compile here. -/
module

public import proofs.«01_k».proof.Proof.Gen.ReferenceIdeal.Run
public import proofs.«01_k».proof.Proof.Gen.ReferenceIdeal.Step

@[expose] public section

noncomputable section

namespace Cert.ReferenceIdeal.StepRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_9 : V0 (Proc.devRef .tc main_v27_9) = s.main_v27_9
  f_10 : V0 (Proc.devRef .tc main_v27_10) = s.main_v27_10
  f_11 : V0 (Proc.devRef .tc main_v27_11) = s.main_v27_11
  f_12 : V0 (Proc.devRef .tc main_v27_12) = s.main_v27_12
  f_13 : V0 (Proc.devRef .tc main_v27_13) = s.main_v27_13
  f_14 : V0 (Proc.devRef .tc main_v27_14) = s.main_v27_14
  f_0 : V0 (Proc.devRef .tc main_v27_0) = s.main_v27_0
  f_1 : V0 (Proc.devRef .tc main_v27_1) = s.main_v27_1
  f_2 : V0 (Proc.devRef .tc main_v27_2) = s.main_v27_2
  f_3 : V0 (Proc.devRef .tc main_v27_3) = s.main_v27_3
  f_4 : V0 (Proc.devRef .tc main_v27_4) = s.main_v27_4
  f_5 : V0 (Proc.devRef .tc main_v27_5) = s.main_v27_5
  f_6 : V0 (Proc.devRef .tc main_v27_6) = s.main_v27_6
  f_7 : V0 (Proc.devRef .tc main_v27_7) = s.main_v27_7
  n_8 : V0 (Proc.devRef .tc main_v27_8) = constantI S_ 32 (BitVec.ofNat 32 j)

variable {V0 s j}

set_option maxRecDepth 8192 in
theorem al_0 (h : Holds V0 s j) : (constantI S_ 32 64#32 : (Proc.devRef .tc main_while0b_c_19 : DevRef τ sig).ty.Contents (Elt F)) = Cert.ReferenceIdeal.Step.b0 j s := by
  unfold Cert.ReferenceIdeal.Step.b0
  rfl
set_option maxRecDepth 8192 in
theorem al_1 (h : Holds V0 s j) : (subi (constantI S_ 32 64#32) (V0 (Proc.devRef .tc main_v27_8)) : (Proc.devRef .tc main_while0b_v39 : DevRef τ sig).ty.Contents (Elt F)) = Cert.ReferenceIdeal.Step.b1 j s := by
  unfold Cert.ReferenceIdeal.Step.b1
  rw [← al_0 h, h.n_8]
  try rfl
set_option maxRecDepth 8192 in
theorem al_2 (h : Holds V0 s j) : (constantI S_ 32 1#32 : (Proc.devRef .tc main_while0b_c_20 : DevRef τ sig).ty.Contents (Elt F)) = Cert.ReferenceIdeal.Step.b2 j s := by
  unfold Cert.ReferenceIdeal.Step.b2
  rfl
set_option maxRecDepth 8192 in
theorem al_3 (h : Holds V0 s j) : (res_main_while0b_v40 V0 : (Proc.devRef .tc main_while0b_v40 : DevRef τ sig).ty.Contents (Elt F)) = Cert.ReferenceIdeal.Step.b3 j s := by
  unfold res_main_while0b_v40 Cert.ReferenceIdeal.Step.b3
  rw [← al_1 h, ← al_2 h]
  try rfl
set_option maxRecDepth 8192 in
theorem al_4 (h : Holds V0 s j) : (constantI S_ 32 0#32 : (Proc.devRef .tc main_while0b_call0_c : DevRef τ sig).ty.Contents (Elt F)) = Cert.ReferenceIdeal.Step.b4 j s := by
  unfold Cert.ReferenceIdeal.Step.b4
  rfl
set_option maxRecDepth 8192 in
theorem al_5 (h : Holds V0 s j) : (constantI S_ 32 0#32 : (Proc.devRef .tc main_while0b_call0_c_0 : DevRef τ sig).ty.Contents (Elt F)) = Cert.ReferenceIdeal.Step.b5 j s := by
  unfold Cert.ReferenceIdeal.Step.b5
  rfl
set_option maxRecDepth 8192 in
theorem al_6 (h : Holds V0 s j) : (constantI S_ 32 0#32 : (Proc.devRef .tc main_while0b_call0_c_1 : DevRef τ sig).ty.Contents (Elt F)) = Cert.ReferenceIdeal.Step.b6 j s := by
  unfold Cert.ReferenceIdeal.Step.b6
  rfl
set_option maxRecDepth 8192 in
theorem al_7 (h : Holds V0 s j) : (Host.dynamicSlice S1x8x64x128 (V0 (Proc.devRef .tc main_v27_0)) (fun k => (((![res_main_while0b_v40 V0, constantI S_ 32 0#32, constantI S_ 32 0#32, constantI S_ 32 0#32] : Fin 4 → (⟨S_, .i32⟩ : BufTy).Contents (Elt F))) k (Shape.Idx.first h_S_)).toInt) sliceFits_S64x8x64x128_S1x8x64x128 : (Proc.devRef .tc main_while0b_call0_v0 : DevRef τ sig).ty.Contents (Elt F)) = Cert.ReferenceIdeal.Step.b7 j s := by
  unfold Cert.ReferenceIdeal.Step.b7
  rw [← al_3 h, ← al_4 h, ← al_5 h, ← al_6 h, h.f_0]
  try rfl
set_option maxRecDepth 8192 in
theorem al_8 (h : Holds V0 s j) : (res_main_while0b_v41 V0 : (Proc.devRef .tc main_while0b_v41 : DevRef τ sig).ty.Contents (Elt F)) = Cert.ReferenceIdeal.Step.b8 j s := by
  unfold res_main_while0b_v41 Cert.ReferenceIdeal.Step.b8
  rw [← al_7 h]
  try rfl
set_option maxRecDepth 8192 in
theorem al_9 (h : Holds V0 s j) : (constantI S_ 32 0#32 : (Proc.devRef .tc main_while0b_call1_c : DevRef τ sig).ty.Contents (Elt F)) = Cert.ReferenceIdeal.Step.b9 j s := by
  unfold Cert.ReferenceIdeal.Step.b9
  rfl
set_option maxRecDepth 8192 in
theorem al_10 (h : Holds V0 s j) : (constantI S_ 32 0#32 : (Proc.devRef .tc main_while0b_call1_c_0 : DevRef τ sig).ty.Contents (Elt F)) = Cert.ReferenceIdeal.Step.b10 j s := by
  unfold Cert.ReferenceIdeal.Step.b10
  rfl
set_option maxRecDepth 8192 in
theorem al_11 (h : Holds V0 s j) : (constantI S_ 32 0#32 : (Proc.devRef .tc main_while0b_call1_c_1 : DevRef τ sig).ty.Contents (Elt F)) = Cert.ReferenceIdeal.Step.b11 j s := by
  unfold Cert.ReferenceIdeal.Step.b11
  rfl
set_option maxRecDepth 8192 in
theorem al_12 (h : Holds V0 s j) : (Host.dynamicSlice S1x8x128x128 (V0 (Proc.devRef .tc main_v27_1)) (fun k => (((![res_main_while0b_v40 V0, constantI S_ 32 0#32, constantI S_ 32 0#32, constantI S_ 32 0#32] : Fin 4 → (⟨S_, .i32⟩ : BufTy).Contents (Elt F))) k (Shape.Idx.first h_S_)).toInt) sliceFits_S64x8x128x128_S1x8x128x128 : (Proc.devRef .tc main_while0b_call1_v0 : DevRef τ sig).ty.Contents (Elt F)) = Cert.ReferenceIdeal.Step.b12 j s := by
  unfold Cert.ReferenceIdeal.Step.b12
  rw [← al_3 h, ← al_9 h, ← al_10 h, ← al_11 h, h.f_1]
  try rfl
set_option maxRecDepth 8192 in
theorem al_13 (h : Holds V0 s j) : (res_main_while0b_v42 V0 : (Proc.devRef .tc main_while0b_v42 : DevRef τ sig).ty.Contents (Elt F)) = Cert.ReferenceIdeal.Step.b13 j s := by
  unfold res_main_while0b_v42 Cert.ReferenceIdeal.Step.b13
  rw [← al_12 h]
  try rfl
set_option maxRecDepth 8192 in
theorem al_14 (h : Holds V0 s j) : (constantI S_ 32 0#32 : (Proc.devRef .tc main_while0b_call2_c : DevRef τ sig).ty.Contents (Elt F)) = Cert.ReferenceIdeal.Step.b14 j s := by
  unfold Cert.ReferenceIdeal.Step.b14
  rfl
set_option maxRecDepth 8192 in
theorem al_15 (h : Holds V0 s j) : (constantI S_ 32 0#32 : (Proc.devRef .tc main_while0b_call2_c_0 : DevRef τ sig).ty.Contents (Elt F)) = Cert.ReferenceIdeal.Step.b15 j s := by
  unfold Cert.ReferenceIdeal.Step.b15
  rfl
set_option maxRecDepth 8192 in
theorem al_16 (h : Holds V0 s j) : (constantI S_ 32 0#32 : (Proc.devRef .tc main_while0b_call2_c_1 : DevRef τ sig).ty.Contents (Elt F)) = Cert.ReferenceIdeal.Step.b16 j s := by
  unfold Cert.ReferenceIdeal.Step.b16
  rfl
set_option maxRecDepth 8192 in
theorem al_17 (h : Holds V0 s j) : (Host.dynamicSlice S1x8x64x128 (V0 (Proc.devRef .tc main_v27_2)) (fun k => (((![res_main_while0b_v40 V0, constantI S_ 32 0#32, constantI S_ 32 0#32, constantI S_ 32 0#32] : Fin 4 → (⟨S_, .i32⟩ : BufTy).Contents (Elt F))) k (Shape.Idx.first h_S_)).toInt) sliceFits_S64x8x64x128_S1x8x64x128 : (Proc.devRef .tc main_while0b_call2_v0 : DevRef τ sig).ty.Contents (Elt F)) = Cert.ReferenceIdeal.Step.b17 j s := by
  unfold Cert.ReferenceIdeal.Step.b17
  rw [← al_3 h, ← al_14 h, ← al_15 h, ← al_16 h, h.f_2]
  try rfl
set_option maxRecDepth 8192 in
theorem al_18 (h : Holds V0 s j) : (shapeCast S8x64x128 (Host.dynamicSlice S1x8x64x128 (V0 (Proc.devRef .tc main_v27_2)) (fun k => (((![res_main_while0b_v40 V0, constantI S_ 32 0#32, constantI S_ 32 0#32, constantI S_ 32 0#32] : Fin 4 → (⟨S_, .i32⟩ : BufTy).Contents (Elt F))) k (Shape.Idx.first h_S_)).toInt) sliceFits_S64x8x64x128_S1x8x64x128) shapeCasts_S1x8x64x128_S8x64x128 : (Proc.devRef .tc main_while0b_v43 : DevRef τ sig).ty.Contents (Elt F)) = Cert.ReferenceIdeal.Step.b18 j s := by
  unfold Cert.ReferenceIdeal.Step.b18
  rw [← al_17 h]
  try rfl
set_option maxRecDepth 8192 in
theorem al_19 (h : Holds V0 s j) : (constantI S_ 32 0#32 : (Proc.devRef .tc main_while0b_call3_c : DevRef τ sig).ty.Contents (Elt F)) = Cert.ReferenceIdeal.Step.b19 j s := by
  unfold Cert.ReferenceIdeal.Step.b19
  rfl
set_option maxRecDepth 8192 in
theorem al_20 (h : Holds V0 s j) : (constantI S_ 32 0#32 : (Proc.devRef .tc main_while0b_call3_c_0 : DevRef τ sig).ty.Contents (Elt F)) = Cert.ReferenceIdeal.Step.b20 j s := by
  unfold Cert.ReferenceIdeal.Step.b20
  rfl
set_option maxRecDepth 8192 in
theorem al_21 (h : Holds V0 s j) : (constantI S_ 32 0#32 : (Proc.devRef .tc main_while0b_call3_c_1 : DevRef τ sig).ty.Contents (Elt F)) = Cert.ReferenceIdeal.Step.b21 j s := by
  unfold Cert.ReferenceIdeal.Step.b21
  rfl
set_option maxRecDepth 8192 in
theorem al_22 (h : Holds V0 s j) : (Host.dynamicSlice S1x8x64x128 (V0 (Proc.devRef .tc main_v27_3)) (fun k => (((![res_main_while0b_v40 V0, constantI S_ 32 0#32, constantI S_ 32 0#32, constantI S_ 32 0#32] : Fin 4 → (⟨S_, .i32⟩ : BufTy).Contents (Elt F))) k (Shape.Idx.first h_S_)).toInt) sliceFits_S64x8x64x128_S1x8x64x128 : (Proc.devRef .tc main_while0b_call3_v0 : DevRef τ sig).ty.Contents (Elt F)) = Cert.ReferenceIdeal.Step.b22 j s := by
  unfold Cert.ReferenceIdeal.Step.b22
  rw [← al_3 h, ← al_19 h, ← al_20 h, ← al_21 h, h.f_3]
  try rfl
set_option maxRecDepth 8192 in
theorem al_23 (h : Holds V0 s j) : (res_main_while0b_v44 V0 : (Proc.devRef .tc main_while0b_v44 : DevRef τ sig).ty.Contents (Elt F)) = Cert.ReferenceIdeal.Step.b23 j s := by
  unfold res_main_while0b_v44 Cert.ReferenceIdeal.Step.b23
  rw [← al_22 h]
  try rfl
set_option maxRecDepth 8192 in
theorem al_24 (h : Holds V0 s j) : (constantI S_ 32 0#32 : (Proc.devRef .tc main_while0b_call4_c : DevRef τ sig).ty.Contents (Elt F)) = Cert.ReferenceIdeal.Step.b24 j s := by
  unfold Cert.ReferenceIdeal.Step.b24
  rfl
set_option maxRecDepth 8192 in
theorem al_25 (h : Holds V0 s j) : (constantI S_ 32 0#32 : (Proc.devRef .tc main_while0b_call4_c_0 : DevRef τ sig).ty.Contents (Elt F)) = Cert.ReferenceIdeal.Step.b25 j s := by
  unfold Cert.ReferenceIdeal.Step.b25
  rfl
set_option maxRecDepth 8192 in
theorem al_26 (h : Holds V0 s j) : (constantI S_ 32 0#32 : (Proc.devRef .tc main_while0b_call4_c_1 : DevRef τ sig).ty.Contents (Elt F)) = Cert.ReferenceIdeal.Step.b26 j s := by
  unfold Cert.ReferenceIdeal.Step.b26
  rfl
set_option maxRecDepth 8192 in
theorem al_27 (h : Holds V0 s j) : (Host.dynamicSlice S1x8x64x64 (V0 (Proc.devRef .tc main_v27_4)) (fun k => (((![res_main_while0b_v40 V0, constantI S_ 32 0#32, constantI S_ 32 0#32, constantI S_ 32 0#32] : Fin 4 → (⟨S_, .i32⟩ : BufTy).Contents (Elt F))) k (Shape.Idx.first h_S_)).toInt) sliceFits_S64x8x64x64_S1x8x64x64 : (Proc.devRef .tc main_while0b_call4_v0 : DevRef τ sig).ty.Contents (Elt F)) = Cert.ReferenceIdeal.Step.b27 j s := by
  unfold Cert.ReferenceIdeal.Step.b27
  rw [← al_3 h, ← al_24 h, ← al_25 h, ← al_26 h, h.f_4]
  try rfl
set_option maxRecDepth 8192 in
theorem al_28 (h : Holds V0 s j) : (res_main_while0b_v45 V0 : (Proc.devRef .tc main_while0b_v45 : DevRef τ sig).ty.Contents (Elt F)) = Cert.ReferenceIdeal.Step.b28 j s := by
  unfold res_main_while0b_v45 Cert.ReferenceIdeal.Step.b28
  rw [← al_27 h]
  try rfl
set_option maxRecDepth 8192 in
theorem al_29 (h : Holds V0 s j) : (constantI S_ 32 0#32 : (Proc.devRef .tc main_while0b_call5_c : DevRef τ sig).ty.Contents (Elt F)) = Cert.ReferenceIdeal.Step.b29 j s := by
  unfold Cert.ReferenceIdeal.Step.b29
  rfl
set_option maxRecDepth 8192 in
theorem al_30 (h : Holds V0 s j) : (constantI S_ 32 0#32 : (Proc.devRef .tc main_while0b_call5_c_0 : DevRef τ sig).ty.Contents (Elt F)) = Cert.ReferenceIdeal.Step.b30 j s := by
  unfold Cert.ReferenceIdeal.Step.b30
  rfl
set_option maxRecDepth 8192 in
theorem al_31 (h : Holds V0 s j) : (constantI S_ 32 0#32 : (Proc.devRef .tc main_while0b_call5_c_1 : DevRef τ sig).ty.Contents (Elt F)) = Cert.ReferenceIdeal.Step.b31 j s := by
  unfold Cert.ReferenceIdeal.Step.b31
  rfl
set_option maxRecDepth 8192 in
theorem al_32 (h : Holds V0 s j) : (Host.dynamicSlice S1x8x64x128 (V0 (Proc.devRef .tc main_v27_5)) (fun k => (((![res_main_while0b_v40 V0, constantI S_ 32 0#32, constantI S_ 32 0#32, constantI S_ 32 0#32] : Fin 4 → (⟨S_, .i32⟩ : BufTy).Contents (Elt F))) k (Shape.Idx.first h_S_)).toInt) sliceFits_S64x8x64x128_S1x8x64x128 : (Proc.devRef .tc main_while0b_call5_v0 : DevRef τ sig).ty.Contents (Elt F)) = Cert.ReferenceIdeal.Step.b32 j s := by
  unfold Cert.ReferenceIdeal.Step.b32
  rw [← al_3 h, ← al_29 h, ← al_30 h, ← al_31 h, h.f_5]
  try rfl
set_option maxRecDepth 8192 in
theorem al_33 (h : Holds V0 s j) : (res_main_while0b_v46 V0 : (Proc.devRef .tc main_while0b_v46 : DevRef τ sig).ty.Contents (Elt F)) = Cert.ReferenceIdeal.Step.b33 j s := by
  unfold res_main_while0b_v46 Cert.ReferenceIdeal.Step.b33
  rw [← al_32 h]
  try rfl
set_option maxRecDepth 8192 in
theorem al_34 (h : Holds V0 s j) : (constantI S_ 32 0#32 : (Proc.devRef .tc main_while0b_call6_c : DevRef τ sig).ty.Contents (Elt F)) = Cert.ReferenceIdeal.Step.b34 j s := by
  unfold Cert.ReferenceIdeal.Step.b34
  rfl
set_option maxRecDepth 8192 in
theorem al_35 (h : Holds V0 s j) : (constantI S_ 32 0#32 : (Proc.devRef .tc main_while0b_call6_c_0 : DevRef τ sig).ty.Contents (Elt F)) = Cert.ReferenceIdeal.Step.b35 j s := by
  unfold Cert.ReferenceIdeal.Step.b35
  rfl
set_option maxRecDepth 8192 in
theorem al_36 (h : Holds V0 s j) : (constantI S_ 32 0#32 : (Proc.devRef .tc main_while0b_call6_c_1 : DevRef τ sig).ty.Contents (Elt F)) = Cert.ReferenceIdeal.Step.b36 j s := by
  unfold Cert.ReferenceIdeal.Step.b36
  rfl
set_option maxRecDepth 8192 in
theorem al_37 (h : Holds V0 s j) : (Host.dynamicSlice S1x8x64x128 (V0 (Proc.devRef .tc main_v27_6)) (fun k => (((![res_main_while0b_v40 V0, constantI S_ 32 0#32, constantI S_ 32 0#32, constantI S_ 32 0#32] : Fin 4 → (⟨S_, .i32⟩ : BufTy).Contents (Elt F))) k (Shape.Idx.first h_S_)).toInt) sliceFits_S64x8x64x128_S1x8x64x128 : (Proc.devRef .tc main_while0b_call6_v0 : DevRef τ sig).ty.Contents (Elt F)) = Cert.ReferenceIdeal.Step.b37 j s := by
  unfold Cert.ReferenceIdeal.Step.b37
  rw [← al_3 h, ← al_34 h, ← al_35 h, ← al_36 h, h.f_6]
  try rfl
set_option maxRecDepth 8192 in
theorem al_38 (h : Holds V0 s j) : (res_main_while0b_v47 V0 : (Proc.devRef .tc main_while0b_v47 : DevRef τ sig).ty.Contents (Elt F)) = Cert.ReferenceIdeal.Step.b38 j s := by
  unfold res_main_while0b_v47 Cert.ReferenceIdeal.Step.b38
  rw [← al_37 h]
  try rfl
set_option maxRecDepth 8192 in
theorem al_39 (h : Holds V0 s j) : (constantI S_ 32 0#32 : (Proc.devRef .tc main_while0b_call7_c : DevRef τ sig).ty.Contents (Elt F)) = Cert.ReferenceIdeal.Step.b39 j s := by
  unfold Cert.ReferenceIdeal.Step.b39
  rfl
set_option maxRecDepth 8192 in
theorem al_40 (h : Holds V0 s j) : (Host.dynamicSlice S1x8 (V0 (Proc.devRef .tc main_v27_7)) (fun k => (((![res_main_while0b_v40 V0, constantI S_ 32 0#32] : Fin 2 → (⟨S_, .i32⟩ : BufTy).Contents (Elt F))) k (Shape.Idx.first h_S_)).toInt) sliceFits_S64x8_S1x8 : (Proc.devRef .tc main_while0b_call7_v0 : DevRef τ sig).ty.Contents (Elt F)) = Cert.ReferenceIdeal.Step.b40 j s := by
  unfold Cert.ReferenceIdeal.Step.b40
  rw [← al_3 h, ← al_39 h, h.f_7]
  try rfl
set_option maxRecDepth 8192 in
theorem al_41 (h : Holds V0 s j) : (shapeCast S8 (Host.dynamicSlice S1x8 (V0 (Proc.devRef .tc main_v27_7)) (fun k => (((![res_main_while0b_v40 V0, constantI S_ 32 0#32] : Fin 2 → (⟨S_, .i32⟩ : BufTy).Contents (Elt F))) k (Shape.Idx.first h_S_)).toInt) sliceFits_S64x8_S1x8) shapeCasts_S1x8_S8 : (Proc.devRef .tc main_while0b_v48 : DevRef τ sig).ty.Contents (Elt F)) = Cert.ReferenceIdeal.Step.b41 j s := by
  unfold Cert.ReferenceIdeal.Step.b41
  rw [← al_40 h]
  try rfl
set_option maxRecDepth 8192 in
theorem al_42 (h : Holds V0 s j) : (Host.dotGeneral dot_S8x64x128_S8x128x128_S8x64x128_2_1_1_2_0_0 none (res_main_while0b_v44 V0) (res_main_while0b_v42 V0) : (Proc.devRef .tc main_while0b_v49 : DevRef τ sig).ty.Contents (Elt F)) = Cert.ReferenceIdeal.Step.b42 j s := by
  unfold Cert.ReferenceIdeal.Step.b42
  rw [← al_23 h, ← al_13 h]
  try rfl
set_option maxRecDepth 8192 in
theorem al_43 (h : Holds V0 s j) : (addf (shapeCast S8x64x128 (Host.dynamicSlice S1x8x64x128 (V0 (Proc.devRef .tc main_v27_2)) (fun k => (((![res_main_while0b_v40 V0, constantI S_ 32 0#32, constantI S_ 32 0#32, constantI S_ 32 0#32] : Fin 4 → (⟨S_, .i32⟩ : BufTy).Contents (Elt F))) k (Shape.Idx.first h_S_)).toInt) sliceFits_S64x8x64x128_S1x8x64x128) shapeCasts_S1x8x64x128_S8x64x128) (Host.dotGeneral dot_S8x64x128_S8x128x128_S8x64x128_2_1_1_2_0_0 none (res_main_while0b_v44 V0) (res_main_while0b_v42 V0)) : (Proc.devRef .tc main_while0b_v50 : DevRef τ sig).ty.Contents (Elt F)) = Cert.ReferenceIdeal.Step.b43 j s := by
  unfold Cert.ReferenceIdeal.Step.b43
  rw [← al_18 h, ← al_42 h]
  try rfl
set_option maxRecDepth 8192 in
theorem al_44 (h : Holds V0 s j) : (Host.dotGeneral dot_S8x64x128_S8x128x128_S8x64x128_2_1_1_2_0_0 none (res_main_while0b_v44 V0) (res_main_while0b_v42 V0) : (Proc.devRef .tc main_while0b_v51 : DevRef τ sig).ty.Contents (Elt F)) = Cert.ReferenceIdeal.Step.b44 j s := by
  unfold Cert.ReferenceIdeal.Step.b44
  rw [← al_23 h, ← al_13 h]
  try rfl
set_option maxRecDepth 8192 in
theorem al_45 (h : Holds V0 s j) : (res_main_while0b_v52 V0 : (Proc.devRef .tc main_while0b_v52 : DevRef τ sig).ty.Contents (Elt F)) = Cert.ReferenceIdeal.Step.b45 j s := by
  unfold res_main_while0b_v52 Cert.ReferenceIdeal.Step.b45
  rw [← al_43 h, ← al_44 h]
  try rfl
set_option maxRecDepth 8192 in
theorem al_46 (h : Holds V0 s j) : (Host.dotGeneral dot_S8x64x128_S8x128x128_S8x64x128_2_1_1_2_0_0 none (res_main_while0b_v46 V0) (res_main_while0b_v42 V0) : (Proc.devRef .tc main_while0b_v53 : DevRef τ sig).ty.Contents (Elt F)) = Cert.ReferenceIdeal.Step.b46 j s := by
  unfold Cert.ReferenceIdeal.Step.b46
  rw [← al_33 h, ← al_13 h]
  try rfl
set_option maxRecDepth 8192 in
theorem al_47 (h : Holds V0 s j) : (Host.dotGeneral dot_S8x64x64_S8x64x128_S8x64x128_2_1_1_2_0_0 none (res_main_while0b_v45 V0) (res_main_while0b_v52 V0) : (Proc.devRef .tc main_while0b_v54 : DevRef τ sig).ty.Contents (Elt F)) = Cert.ReferenceIdeal.Step.b47 j s := by
  unfold Cert.ReferenceIdeal.Step.b47
  rw [← al_28 h, ← al_45 h]
  try rfl
set_option maxRecDepth 8192 in
theorem al_48 (h : Holds V0 s j) : (addf (Host.dotGeneral dot_S8x64x128_S8x128x128_S8x64x128_2_1_1_2_0_0 none (res_main_while0b_v46 V0) (res_main_while0b_v42 V0)) (Host.dotGeneral dot_S8x64x64_S8x64x128_S8x64x128_2_1_1_2_0_0 none (res_main_while0b_v45 V0) (res_main_while0b_v52 V0)) : (Proc.devRef .tc main_while0b_v55 : DevRef τ sig).ty.Contents (Elt F)) = Cert.ReferenceIdeal.Step.b48 j s := by
  unfold Cert.ReferenceIdeal.Step.b48
  rw [← al_46 h, ← al_47 h]
  try rfl
set_option maxRecDepth 8192 in
theorem al_49 (h : Holds V0 s j) : (res_main_while0b_v56 V0 : (Proc.devRef .tc main_while0b_v56 : DevRef τ sig).ty.Contents (Elt F)) = Cert.ReferenceIdeal.Step.b49 j s := by
  unfold res_main_while0b_v56 Cert.ReferenceIdeal.Step.b49
  rw [← al_41 h]
  try rfl
set_option maxRecDepth 8192 in
theorem al_50 (h : Holds V0 s j) : (broadcastInDim S8x128x128 ![0, 1, 2] bcast_S8x1x1_S8x128x128_0_1_2 (res_main_while0b_v56 V0) : (Proc.devRef .tc main_while0b_v57 : DevRef τ sig).ty.Contents (Elt F)) = Cert.ReferenceIdeal.Step.b50 j s := by
  unfold Cert.ReferenceIdeal.Step.b50
  rw [← al_49 h]
  try rfl
set_option maxRecDepth 8192 in
theorem al_51 (h : Holds V0 s j) : (mulf (res_main_while0b_v42 V0) (broadcastInDim S8x128x128 ![0, 1, 2] bcast_S8x1x1_S8x128x128_0_1_2 (res_main_while0b_v56 V0)) : (Proc.devRef .tc main_while0b_v58 : DevRef τ sig).ty.Contents (Elt F)) = Cert.ReferenceIdeal.Step.b51 j s := by
  unfold Cert.ReferenceIdeal.Step.b51
  rw [← al_13 h, ← al_50 h]
  try rfl
set_option maxRecDepth 8192 in
theorem al_52 (h : Holds V0 s j) : (Host.dotGeneral dot_S8x64x128_S8x64x128_S8x128x128_1_1_2_2_0_0 none (res_main_while0b_v47 V0) (res_main_while0b_v52 V0) : (Proc.devRef .tc main_while0b_v59 : DevRef τ sig).ty.Contents (Elt F)) = Cert.ReferenceIdeal.Step.b52 j s := by
  unfold Cert.ReferenceIdeal.Step.b52
  rw [← al_38 h, ← al_45 h]
  try rfl
set_option maxRecDepth 8192 in
theorem al_53 (h : Holds V0 s j) : (addf (mulf (res_main_while0b_v42 V0) (broadcastInDim S8x128x128 ![0, 1, 2] bcast_S8x1x1_S8x128x128_0_1_2 (res_main_while0b_v56 V0))) (Host.dotGeneral dot_S8x64x128_S8x64x128_S8x128x128_1_1_2_2_0_0 none (res_main_while0b_v47 V0) (res_main_while0b_v52 V0)) : (Proc.devRef .tc main_while0b_v60 : DevRef τ sig).ty.Contents (Elt F)) = Cert.ReferenceIdeal.Step.b53 j s := by
  unfold Cert.ReferenceIdeal.Step.b53
  rw [← al_51 h, ← al_52 h]
  try rfl
set_option maxRecDepth 8192 in
theorem al_54 (h : Holds V0 s j) : (Host.dotGeneral dot_S8x128x128_S8x64x128_S8x128x64_1_2_2_1_0_0 none (V0 (Proc.devRef .tc main_v27_9)) (res_main_while0b_v47 V0) : (Proc.devRef .tc main_while0b_v61 : DevRef τ sig).ty.Contents (Elt F)) = Cert.ReferenceIdeal.Step.b54 j s := by
  unfold Cert.ReferenceIdeal.Step.b54
  rw [← al_38 h, h.f_9]
  try rfl
set_option maxRecDepth 8192 in
theorem al_55 (h : Holds V0 s j) : (transpose S8x64x128 [0, 2, 1] (Host.dotGeneral dot_S8x128x128_S8x64x128_S8x128x64_1_2_2_1_0_0 none (V0 (Proc.devRef .tc main_v27_9)) (res_main_while0b_v47 V0)) transposes_S8x128x64_S8x64x128_0_2_1 : (Proc.devRef .tc main_while0b_v62 : DevRef τ sig).ty.Contents (Elt F)) = Cert.ReferenceIdeal.Step.b55 j s := by
  unfold Cert.ReferenceIdeal.Step.b55
  rw [← al_54 h]
  try rfl
set_option maxRecDepth 8192 in
theorem al_56 (h : Holds V0 s j) : (Host.dotGeneral dot_S8x128x128_S8x64x128_S8x128x64_2_2_1_1_0_0 none (V0 (Proc.devRef .tc main_v27_9)) (res_main_while0b_v52 V0) : (Proc.devRef .tc main_while0b_v63 : DevRef τ sig).ty.Contents (Elt F)) = Cert.ReferenceIdeal.Step.b56 j s := by
  unfold Cert.ReferenceIdeal.Step.b56
  rw [← al_45 h, h.f_9]
  try rfl
set_option maxRecDepth 8192 in
theorem al_57 (h : Holds V0 s j) : (transpose S8x64x128 [0, 2, 1] (Host.dotGeneral dot_S8x128x128_S8x64x128_S8x128x64_2_2_1_1_0_0 none (V0 (Proc.devRef .tc main_v27_9)) (res_main_while0b_v52 V0)) transposes_S8x128x64_S8x64x128_0_2_1 : (Proc.devRef .tc main_while0b_v64 : DevRef τ sig).ty.Contents (Elt F)) = Cert.ReferenceIdeal.Step.b57 j s := by
  unfold Cert.ReferenceIdeal.Step.b57
  rw [← al_56 h]
  try rfl
set_option maxRecDepth 8192 in
theorem al_58 (h : Holds V0 s j) : (mulf (res_main_while0b_v42 V0) (V0 (Proc.devRef .tc main_v27_9)) : (Proc.devRef .tc main_while0b_v65 : DevRef τ sig).ty.Contents (Elt F)) = Cert.ReferenceIdeal.Step.b58 j s := by
  unfold Cert.ReferenceIdeal.Step.b58
  rw [← al_13 h, h.f_9]
  try rfl
set_option maxRecDepth 8192 in
theorem al_59 (h : Holds V0 s j) : (constant S_ .f32 0x00000000#32 : (Proc.devRef .tc main_while0b_cst_21 : DevRef τ sig).ty.Contents (Elt F)) = Cert.ReferenceIdeal.Step.b59 j s := by
  unfold Cert.ReferenceIdeal.Step.b59
  rfl
set_option maxRecDepth 8192 in
theorem al_60 (h : Holds V0 s j) : (Host.reduceAdd (mulf (res_main_while0b_v42 V0) (V0 (Proc.devRef .tc main_v27_9))) (constant S_ .f32 0x00000000#32) reducesTo_S8x128x128_S8_d1_2 h_S_ : (Proc.devRef .tc main_while0b_v66 : DevRef τ sig).ty.Contents (Elt F)) = Cert.ReferenceIdeal.Step.b60 j s := by
  unfold Cert.ReferenceIdeal.Step.b60
  rw [← al_58 h, ← al_59 h]
  try rfl
set_option maxRecDepth 8192 in
theorem al_61 (h : Holds V0 s j) : (shapeCast S8x1x1 (Host.reduceAdd (mulf (res_main_while0b_v42 V0) (V0 (Proc.devRef .tc main_v27_9))) (constant S_ .f32 0x00000000#32) reducesTo_S8x128x128_S8_d1_2 h_S_) shapeCasts_S8_S8x1x1 : (Proc.devRef .tc main_while0b_v67 : DevRef τ sig).ty.Contents (Elt F)) = Cert.ReferenceIdeal.Step.b61 j s := by
  unfold Cert.ReferenceIdeal.Step.b61
  rw [← al_60 h]
  try rfl
set_option maxRecDepth 8192 in
theorem al_62 (h : Holds V0 s j) : (broadcastInDim S8x128x128 ![0, 1, 2] bcast_S8x1x1_S8x128x128_0_1_2 (res_main_while0b_v56 V0) : (Proc.devRef .tc main_while0b_v68 : DevRef τ sig).ty.Contents (Elt F)) = Cert.ReferenceIdeal.Step.b62 j s := by
  unfold Cert.ReferenceIdeal.Step.b62
  rw [← al_49 h]
  try rfl
set_option maxRecDepth 8192 in
theorem al_63 (h : Holds V0 s j) : (mulf (V0 (Proc.devRef .tc main_v27_9)) (broadcastInDim S8x128x128 ![0, 1, 2] bcast_S8x1x1_S8x128x128_0_1_2 (res_main_while0b_v56 V0)) : (Proc.devRef .tc main_while0b_v69 : DevRef τ sig).ty.Contents (Elt F)) = Cert.ReferenceIdeal.Step.b63 j s := by
  unfold Cert.ReferenceIdeal.Step.b63
  rw [← al_62 h, h.f_9]
  try rfl
set_option maxRecDepth 8192 in
theorem al_64 (h : Holds V0 s j) : (constant S_ .f32 0x00000000#32 : (Proc.devRef .tc main_while0b_cst_22 : DevRef τ sig).ty.Contents (Elt F)) = Cert.ReferenceIdeal.Step.b64 j s := by
  unfold Cert.ReferenceIdeal.Step.b64
  rfl
set_option maxRecDepth 8192 in
theorem al_65 (h : Holds V0 s j) : (Host.reduceAdd (shapeCast S8x1x1 (Host.reduceAdd (mulf (res_main_while0b_v42 V0) (V0 (Proc.devRef .tc main_v27_9))) (constant S_ .f32 0x00000000#32) reducesTo_S8x128x128_S8_d1_2 h_S_) shapeCasts_S8_S8x1x1) (constant S_ .f32 0x00000000#32) reducesTo_S8x1x1_S8_d1_2 h_S_ : (Proc.devRef .tc main_while0b_v70 : DevRef τ sig).ty.Contents (Elt F)) = Cert.ReferenceIdeal.Step.b65 j s := by
  unfold Cert.ReferenceIdeal.Step.b65
  rw [← al_61 h, ← al_64 h]
  try rfl
set_option maxRecDepth 8192 in
theorem al_66 (h : Holds V0 s j) : (Host.dotGeneral dot_S8x64x128_S8x64x64_S8x128x64_1_1_2_2_0_0 none (res_main_while0b_v41 V0) (res_main_while0b_v45 V0) : (Proc.devRef .tc main_while0b_v71 : DevRef τ sig).ty.Contents (Elt F)) = Cert.ReferenceIdeal.Step.b66 j s := by
  unfold Cert.ReferenceIdeal.Step.b66
  rw [← al_8 h, ← al_28 h]
  try rfl
set_option maxRecDepth 8192 in
theorem al_67 (h : Holds V0 s j) : (transpose S8x64x128 [0, 2, 1] (Host.dotGeneral dot_S8x64x128_S8x64x64_S8x128x64_1_1_2_2_0_0 none (res_main_while0b_v41 V0) (res_main_while0b_v45 V0)) transposes_S8x128x64_S8x64x128_0_2_1 : (Proc.devRef .tc main_while0b_v72 : DevRef τ sig).ty.Contents (Elt F)) = Cert.ReferenceIdeal.Step.b67 j s := by
  unfold Cert.ReferenceIdeal.Step.b67
  rw [← al_66 h]
  try rfl
set_option maxRecDepth 8192 in
theorem al_68 (h : Holds V0 s j) : (res_main_while0b_v73 V0 : (Proc.devRef .tc main_while0b_v73 : DevRef τ sig).ty.Contents (Elt F)) = Cert.ReferenceIdeal.Step.b68 j s := by
  unfold res_main_while0b_v73 Cert.ReferenceIdeal.Step.b68
  rw [← al_55 h, ← al_67 h]
  try rfl
set_option maxRecDepth 8192 in
theorem al_69 (h : Holds V0 s j) : (Host.dotGeneral dot_S8x64x128_S8x64x128_S8x64x64_2_2_1_1_0_0 none (res_main_while0b_v41 V0) (res_main_while0b_v52 V0) : (Proc.devRef .tc main_while0b_v74 : DevRef τ sig).ty.Contents (Elt F)) = Cert.ReferenceIdeal.Step.b69 j s := by
  unfold Cert.ReferenceIdeal.Step.b69
  rw [← al_8 h, ← al_45 h]
  try rfl
set_option maxRecDepth 8192 in
theorem al_70 (h : Holds V0 s j) : (Host.dotGeneral dot_S8x64x128_S8x64x128_S8x128x128_1_1_2_2_0_0 none (res_main_while0b_v41 V0) (res_main_while0b_v46 V0) : (Proc.devRef .tc main_while0b_v75 : DevRef τ sig).ty.Contents (Elt F)) = Cert.ReferenceIdeal.Step.b70 j s := by
  unfold Cert.ReferenceIdeal.Step.b70
  rw [← al_8 h, ← al_33 h]
  try rfl
set_option maxRecDepth 8192 in
theorem al_71 (h : Holds V0 s j) : (transpose S8x128x128 [0, 2, 1] (Host.dotGeneral dot_S8x64x128_S8x64x128_S8x128x128_1_1_2_2_0_0 none (res_main_while0b_v41 V0) (res_main_while0b_v46 V0)) transposes_S8x128x128_S8x128x128_0_2_1 : (Proc.devRef .tc main_while0b_v76 : DevRef τ sig).ty.Contents (Elt F)) = Cert.ReferenceIdeal.Step.b71 j s := by
  unfold Cert.ReferenceIdeal.Step.b71
  rw [← al_70 h]
  try rfl
set_option maxRecDepth 8192 in
theorem al_72 (h : Holds V0 s j) : (addf (mulf (V0 (Proc.devRef .tc main_v27_9)) (broadcastInDim S8x128x128 ![0, 1, 2] bcast_S8x1x1_S8x128x128_0_1_2 (res_main_while0b_v56 V0))) (transpose S8x128x128 [0, 2, 1] (Host.dotGeneral dot_S8x64x128_S8x64x128_S8x128x128_1_1_2_2_0_0 none (res_main_while0b_v41 V0) (res_main_while0b_v46 V0)) transposes_S8x128x128_S8x128x128_0_2_1) : (Proc.devRef .tc main_while0b_v77 : DevRef τ sig).ty.Contents (Elt F)) = Cert.ReferenceIdeal.Step.b72 j s := by
  unfold Cert.ReferenceIdeal.Step.b72
  rw [← al_63 h, ← al_71 h]
  try rfl
set_option maxRecDepth 8192 in
theorem al_73 (h : Holds V0 s j) : (Host.dotGeneral dot_S8x64x128_S8x128x128_S8x64x128_2_2_1_1_0_0 none (res_main_while0b_v41 V0) (res_main_while0b_v42 V0) : (Proc.devRef .tc main_while0b_v78 : DevRef τ sig).ty.Contents (Elt F)) = Cert.ReferenceIdeal.Step.b73 j s := by
  unfold Cert.ReferenceIdeal.Step.b73
  rw [← al_8 h, ← al_13 h]
  try rfl
set_option maxRecDepth 8192 in
theorem al_74 (h : Holds V0 s j) : (res_main_while0b_v79 V0 : (Proc.devRef .tc main_while0b_v79 : DevRef τ sig).ty.Contents (Elt F)) = Cert.ReferenceIdeal.Step.b74 j s := by
  unfold res_main_while0b_v79 Cert.ReferenceIdeal.Step.b74
  rw [← al_68 h]
  try rfl
set_option maxRecDepth 8192 in
theorem al_75 (h : Holds V0 s j) : (Host.dotGeneral dot_S8x64x128_S8x64x128_S8x128x128_1_1_2_2_0_0 none (res_main_while0b_v79 V0) (res_main_while0b_v44 V0) : (Proc.devRef .tc main_while0b_v80 : DevRef τ sig).ty.Contents (Elt F)) = Cert.ReferenceIdeal.Step.b75 j s := by
  unfold Cert.ReferenceIdeal.Step.b75
  rw [← al_74 h, ← al_23 h]
  try rfl
set_option maxRecDepth 8192 in
theorem al_76 (h : Holds V0 s j) : (transpose S8x128x128 [0, 2, 1] (Host.dotGeneral dot_S8x64x128_S8x64x128_S8x128x128_1_1_2_2_0_0 none (res_main_while0b_v79 V0) (res_main_while0b_v44 V0)) transposes_S8x128x128_S8x128x128_0_2_1 : (Proc.devRef .tc main_while0b_v81 : DevRef τ sig).ty.Contents (Elt F)) = Cert.ReferenceIdeal.Step.b76 j s := by
  unfold Cert.ReferenceIdeal.Step.b76
  rw [← al_75 h]
  try rfl
set_option maxRecDepth 8192 in
theorem al_77 (h : Holds V0 s j) : (addf (addf (mulf (V0 (Proc.devRef .tc main_v27_9)) (broadcastInDim S8x128x128 ![0, 1, 2] bcast_S8x1x1_S8x128x128_0_1_2 (res_main_while0b_v56 V0))) (transpose S8x128x128 [0, 2, 1] (Host.dotGeneral dot_S8x64x128_S8x64x128_S8x128x128_1_1_2_2_0_0 none (res_main_while0b_v41 V0) (res_main_while0b_v46 V0)) transposes_S8x128x128_S8x128x128_0_2_1)) (transpose S8x128x128 [0, 2, 1] (Host.dotGeneral dot_S8x64x128_S8x64x128_S8x128x128_1_1_2_2_0_0 none (res_main_while0b_v79 V0) (res_main_while0b_v44 V0)) transposes_S8x128x128_S8x128x128_0_2_1) : (Proc.devRef .tc main_while0b_v82 : DevRef τ sig).ty.Contents (Elt F)) = Cert.ReferenceIdeal.Step.b77 j s := by
  unfold Cert.ReferenceIdeal.Step.b77
  rw [← al_72 h, ← al_76 h]
  try rfl
set_option maxRecDepth 8192 in
theorem al_78 (h : Holds V0 s j) : (Host.dotGeneral dot_S8x64x128_S8x128x128_S8x64x128_2_2_1_1_0_0 none (res_main_while0b_v79 V0) (res_main_while0b_v42 V0) : (Proc.devRef .tc main_while0b_v83 : DevRef τ sig).ty.Contents (Elt F)) = Cert.ReferenceIdeal.Step.b78 j s := by
  unfold Cert.ReferenceIdeal.Step.b78
  rw [← al_74 h, ← al_13 h]
  try rfl
set_option maxRecDepth 8192 in
theorem al_79 (h : Holds V0 s j) : (broadcastInDim S1x8x64x128 ![1, 2, 3] bcast_S8x64x128_S1x8x64x128_1_2_3 (res_main_while0b_v73 V0) : (Proc.devRef .tc main_while0b_call8_v0 : DevRef τ sig).ty.Contents (Elt F)) = Cert.ReferenceIdeal.Step.b79 j s := by
  unfold Cert.ReferenceIdeal.Step.b79
  rw [← al_68 h]
  try rfl
set_option maxRecDepth 8192 in
theorem al_80 (h : Holds V0 s j) : (constantI S_ 32 0#32 : (Proc.devRef .tc main_while0b_call8_c : DevRef τ sig).ty.Contents (Elt F)) = Cert.ReferenceIdeal.Step.b80 j s := by
  unfold Cert.ReferenceIdeal.Step.b80
  rfl
set_option maxRecDepth 8192 in
theorem al_81 (h : Holds V0 s j) : (constantI S_ 32 0#32 : (Proc.devRef .tc main_while0b_call8_c_0 : DevRef τ sig).ty.Contents (Elt F)) = Cert.ReferenceIdeal.Step.b81 j s := by
  unfold Cert.ReferenceIdeal.Step.b81
  rfl
set_option maxRecDepth 8192 in
theorem al_82 (h : Holds V0 s j) : (constantI S_ 32 0#32 : (Proc.devRef .tc main_while0b_call8_c_1 : DevRef τ sig).ty.Contents (Elt F)) = Cert.ReferenceIdeal.Step.b82 j s := by
  unfold Cert.ReferenceIdeal.Step.b82
  rfl
set_option maxRecDepth 8192 in
theorem al_83 (h : Holds V0 s j) : (Host.dynamicUpdateSlice (V0 (Proc.devRef .tc main_v27_10)) (broadcastInDim S1x8x64x128 ![1, 2, 3] bcast_S8x64x128_S1x8x64x128_1_2_3 (res_main_while0b_v73 V0)) (fun k => (((![res_main_while0b_v40 V0, constantI S_ 32 0#32, constantI S_ 32 0#32, constantI S_ 32 0#32] : Fin 4 → (⟨S_, .i32⟩ : BufTy).Contents (Elt F))) k (Shape.Idx.first h_S_)).toInt) updateFits_S64x8x64x128_S1x8x64x128 : (Proc.devRef .tc main_while0b_v84 : DevRef τ sig).ty.Contents (Elt F)) = Cert.ReferenceIdeal.Step.b83 j s := by
  unfold Cert.ReferenceIdeal.Step.b83
  rw [← al_79 h, ← al_3 h, ← al_80 h, ← al_81 h, ← al_82 h, h.f_10]
  try rfl
set_option maxRecDepth 8192 in
theorem al_84 (h : Holds V0 s j) : (broadcastInDim S1x8x64x128 ![1, 2, 3] bcast_S8x64x128_S1x8x64x128_1_2_3 (Host.dotGeneral dot_S8x64x128_S8x128x128_S8x64x128_2_2_1_1_0_0 none (res_main_while0b_v41 V0) (res_main_while0b_v42 V0)) : (Proc.devRef .tc main_while0b_call9_v0 : DevRef τ sig).ty.Contents (Elt F)) = Cert.ReferenceIdeal.Step.b84 j s := by
  unfold Cert.ReferenceIdeal.Step.b84
  rw [← al_73 h]
  try rfl
set_option maxRecDepth 8192 in
theorem al_85 (h : Holds V0 s j) : (constantI S_ 32 0#32 : (Proc.devRef .tc main_while0b_call9_c : DevRef τ sig).ty.Contents (Elt F)) = Cert.ReferenceIdeal.Step.b85 j s := by
  unfold Cert.ReferenceIdeal.Step.b85
  rfl
set_option maxRecDepth 8192 in
theorem al_86 (h : Holds V0 s j) : (constantI S_ 32 0#32 : (Proc.devRef .tc main_while0b_call9_c_0 : DevRef τ sig).ty.Contents (Elt F)) = Cert.ReferenceIdeal.Step.b86 j s := by
  unfold Cert.ReferenceIdeal.Step.b86
  rfl
set_option maxRecDepth 8192 in
theorem al_87 (h : Holds V0 s j) : (constantI S_ 32 0#32 : (Proc.devRef .tc main_while0b_call9_c_1 : DevRef τ sig).ty.Contents (Elt F)) = Cert.ReferenceIdeal.Step.b87 j s := by
  unfold Cert.ReferenceIdeal.Step.b87
  rfl
set_option maxRecDepth 8192 in
theorem al_88 (h : Holds V0 s j) : (Host.dynamicUpdateSlice (V0 (Proc.devRef .tc main_v27_11)) (broadcastInDim S1x8x64x128 ![1, 2, 3] bcast_S8x64x128_S1x8x64x128_1_2_3 (Host.dotGeneral dot_S8x64x128_S8x128x128_S8x64x128_2_2_1_1_0_0 none (res_main_while0b_v41 V0) (res_main_while0b_v42 V0))) (fun k => (((![res_main_while0b_v40 V0, constantI S_ 32 0#32, constantI S_ 32 0#32, constantI S_ 32 0#32] : Fin 4 → (⟨S_, .i32⟩ : BufTy).Contents (Elt F))) k (Shape.Idx.first h_S_)).toInt) updateFits_S64x8x64x128_S1x8x64x128 : (Proc.devRef .tc main_while0b_v85 : DevRef τ sig).ty.Contents (Elt F)) = Cert.ReferenceIdeal.Step.b88 j s := by
  unfold Cert.ReferenceIdeal.Step.b88
  rw [← al_84 h, ← al_3 h, ← al_85 h, ← al_86 h, ← al_87 h, h.f_11]
  try rfl
set_option maxRecDepth 8192 in
theorem al_89 (h : Holds V0 s j) : (broadcastInDim S1x8x64x128 ![1, 2, 3] bcast_S8x64x128_S1x8x64x128_1_2_3 (transpose S8x64x128 [0, 2, 1] (Host.dotGeneral dot_S8x128x128_S8x64x128_S8x128x64_2_2_1_1_0_0 none (V0 (Proc.devRef .tc main_v27_9)) (res_main_while0b_v52 V0)) transposes_S8x128x64_S8x64x128_0_2_1) : (Proc.devRef .tc main_while0b_call10_v0 : DevRef τ sig).ty.Contents (Elt F)) = Cert.ReferenceIdeal.Step.b89 j s := by
  unfold Cert.ReferenceIdeal.Step.b89
  rw [← al_57 h]
  try rfl
set_option maxRecDepth 8192 in
theorem al_90 (h : Holds V0 s j) : (constantI S_ 32 0#32 : (Proc.devRef .tc main_while0b_call10_c : DevRef τ sig).ty.Contents (Elt F)) = Cert.ReferenceIdeal.Step.b90 j s := by
  unfold Cert.ReferenceIdeal.Step.b90
  rfl
set_option maxRecDepth 8192 in
theorem al_91 (h : Holds V0 s j) : (constantI S_ 32 0#32 : (Proc.devRef .tc main_while0b_call10_c_0 : DevRef τ sig).ty.Contents (Elt F)) = Cert.ReferenceIdeal.Step.b91 j s := by
  unfold Cert.ReferenceIdeal.Step.b91
  rfl
set_option maxRecDepth 8192 in
theorem al_92 (h : Holds V0 s j) : (constantI S_ 32 0#32 : (Proc.devRef .tc main_while0b_call10_c_1 : DevRef τ sig).ty.Contents (Elt F)) = Cert.ReferenceIdeal.Step.b92 j s := by
  unfold Cert.ReferenceIdeal.Step.b92
  rfl
set_option maxRecDepth 8192 in
theorem al_93 (h : Holds V0 s j) : (Host.dynamicUpdateSlice (V0 (Proc.devRef .tc main_v27_12)) (broadcastInDim S1x8x64x128 ![1, 2, 3] bcast_S8x64x128_S1x8x64x128_1_2_3 (transpose S8x64x128 [0, 2, 1] (Host.dotGeneral dot_S8x128x128_S8x64x128_S8x128x64_2_2_1_1_0_0 none (V0 (Proc.devRef .tc main_v27_9)) (res_main_while0b_v52 V0)) transposes_S8x128x64_S8x64x128_0_2_1)) (fun k => (((![res_main_while0b_v40 V0, constantI S_ 32 0#32, constantI S_ 32 0#32, constantI S_ 32 0#32] : Fin 4 → (⟨S_, .i32⟩ : BufTy).Contents (Elt F))) k (Shape.Idx.first h_S_)).toInt) updateFits_S64x8x64x128_S1x8x64x128 : (Proc.devRef .tc main_while0b_v86 : DevRef τ sig).ty.Contents (Elt F)) = Cert.ReferenceIdeal.Step.b93 j s := by
  unfold Cert.ReferenceIdeal.Step.b93
  rw [← al_89 h, ← al_3 h, ← al_90 h, ← al_91 h, ← al_92 h, h.f_12]
  try rfl
set_option maxRecDepth 8192 in
theorem al_94 (h : Holds V0 s j) : (broadcastInDim S1x8x64x128 ![1, 2, 3] bcast_S8x64x128_S1x8x64x128_1_2_3 (Host.dotGeneral dot_S8x64x128_S8x128x128_S8x64x128_2_2_1_1_0_0 none (res_main_while0b_v79 V0) (res_main_while0b_v42 V0)) : (Proc.devRef .tc main_while0b_call11_v0 : DevRef τ sig).ty.Contents (Elt F)) = Cert.ReferenceIdeal.Step.b94 j s := by
  unfold Cert.ReferenceIdeal.Step.b94
  rw [← al_78 h]
  try rfl
set_option maxRecDepth 8192 in
theorem al_95 (h : Holds V0 s j) : (constantI S_ 32 0#32 : (Proc.devRef .tc main_while0b_call11_c : DevRef τ sig).ty.Contents (Elt F)) = Cert.ReferenceIdeal.Step.b95 j s := by
  unfold Cert.ReferenceIdeal.Step.b95
  rfl
set_option maxRecDepth 8192 in
theorem al_96 (h : Holds V0 s j) : (constantI S_ 32 0#32 : (Proc.devRef .tc main_while0b_call11_c_0 : DevRef τ sig).ty.Contents (Elt F)) = Cert.ReferenceIdeal.Step.b96 j s := by
  unfold Cert.ReferenceIdeal.Step.b96
  rfl
set_option maxRecDepth 8192 in
theorem al_97 (h : Holds V0 s j) : (constantI S_ 32 0#32 : (Proc.devRef .tc main_while0b_call11_c_1 : DevRef τ sig).ty.Contents (Elt F)) = Cert.ReferenceIdeal.Step.b97 j s := by
  unfold Cert.ReferenceIdeal.Step.b97
  rfl
set_option maxRecDepth 8192 in
theorem al_98 (h : Holds V0 s j) : (Host.dynamicUpdateSlice (V0 (Proc.devRef .tc main_v27_13)) (broadcastInDim S1x8x64x128 ![1, 2, 3] bcast_S8x64x128_S1x8x64x128_1_2_3 (Host.dotGeneral dot_S8x64x128_S8x128x128_S8x64x128_2_2_1_1_0_0 none (res_main_while0b_v79 V0) (res_main_while0b_v42 V0))) (fun k => (((![res_main_while0b_v40 V0, constantI S_ 32 0#32, constantI S_ 32 0#32, constantI S_ 32 0#32] : Fin 4 → (⟨S_, .i32⟩ : BufTy).Contents (Elt F))) k (Shape.Idx.first h_S_)).toInt) updateFits_S64x8x64x128_S1x8x64x128 : (Proc.devRef .tc main_while0b_v87 : DevRef τ sig).ty.Contents (Elt F)) = Cert.ReferenceIdeal.Step.b98 j s := by
  unfold Cert.ReferenceIdeal.Step.b98
  rw [← al_94 h, ← al_3 h, ← al_95 h, ← al_96 h, ← al_97 h, h.f_13]
  try rfl
set_option maxRecDepth 8192 in
theorem al_99 (h : Holds V0 s j) : (broadcastInDim S1x8 ![1] bcast_S8_S1x8_1 (Host.reduceAdd (shapeCast S8x1x1 (Host.reduceAdd (mulf (res_main_while0b_v42 V0) (V0 (Proc.devRef .tc main_v27_9))) (constant S_ .f32 0x00000000#32) reducesTo_S8x128x128_S8_d1_2 h_S_) shapeCasts_S8_S8x1x1) (constant S_ .f32 0x00000000#32) reducesTo_S8x1x1_S8_d1_2 h_S_) : (Proc.devRef .tc main_while0b_call12_v0 : DevRef τ sig).ty.Contents (Elt F)) = Cert.ReferenceIdeal.Step.b99 j s := by
  unfold Cert.ReferenceIdeal.Step.b99
  rw [← al_65 h]
  try rfl
set_option maxRecDepth 8192 in
theorem al_100 (h : Holds V0 s j) : (constantI S_ 32 0#32 : (Proc.devRef .tc main_while0b_call12_c : DevRef τ sig).ty.Contents (Elt F)) = Cert.ReferenceIdeal.Step.b100 j s := by
  unfold Cert.ReferenceIdeal.Step.b100
  rfl
set_option maxRecDepth 8192 in
theorem al_101 (h : Holds V0 s j) : (Host.dynamicUpdateSlice (V0 (Proc.devRef .tc main_v27_14)) (broadcastInDim S1x8 ![1] bcast_S8_S1x8_1 (Host.reduceAdd (shapeCast S8x1x1 (Host.reduceAdd (mulf (res_main_while0b_v42 V0) (V0 (Proc.devRef .tc main_v27_9))) (constant S_ .f32 0x00000000#32) reducesTo_S8x128x128_S8_d1_2 h_S_) shapeCasts_S8_S8x1x1) (constant S_ .f32 0x00000000#32) reducesTo_S8x1x1_S8_d1_2 h_S_)) (fun k => (((![res_main_while0b_v40 V0, constantI S_ 32 0#32] : Fin 2 → (⟨S_, .i32⟩ : BufTy).Contents (Elt F))) k (Shape.Idx.first h_S_)).toInt) updateFits_S64x8_S1x8 : (Proc.devRef .tc main_while0b_v88 : DevRef τ sig).ty.Contents (Elt F)) = Cert.ReferenceIdeal.Step.b101 j s := by
  unfold Cert.ReferenceIdeal.Step.b101
  rw [← al_99 h, ← al_3 h, ← al_100 h, h.f_14]
  try rfl

/-! One trip's step of the carried values is `step`, field by field; a counter steps to the next number. -/

theorem step_9 (h : Holds V0 s j) : step_main_v27_9 V0 = (step j s).main_v27_9 := by
  unfold step_main_v27_9 Cert.ReferenceIdeal.Step.step
  show id (addf (addf (mulf (V0 (Proc.devRef .tc main_v27_9)) (broadcastInDim S8x128x128 ![0, 1, 2] bcast_S8x1x1_S8x128x128_0_1_2 (res_main_while0b_v56 V0))) (transpose S8x128x128 [0, 2, 1] (Host.dotGeneral dot_S8x64x128_S8x64x128_S8x128x128_1_1_2_2_0_0 none (res_main_while0b_v41 V0) (res_main_while0b_v46 V0)) transposes_S8x128x128_S8x128x128_0_2_1)) (transpose S8x128x128 [0, 2, 1] (Host.dotGeneral dot_S8x64x128_S8x64x128_S8x128x128_1_1_2_2_0_0 none (res_main_while0b_v79 V0) (res_main_while0b_v44 V0)) transposes_S8x128x128_S8x128x128_0_2_1)) = _
  rw [al_77 h]
  try rfl
theorem step_10 (h : Holds V0 s j) : step_main_v27_10 V0 = (step j s).main_v27_10 := by
  unfold step_main_v27_10 Cert.ReferenceIdeal.Step.step
  show id (Host.dynamicUpdateSlice (V0 (Proc.devRef .tc main_v27_10)) (broadcastInDim S1x8x64x128 ![1, 2, 3] bcast_S8x64x128_S1x8x64x128_1_2_3 (res_main_while0b_v73 V0)) (fun k => (((![res_main_while0b_v40 V0, constantI S_ 32 0#32, constantI S_ 32 0#32, constantI S_ 32 0#32] : Fin 4 → (⟨S_, .i32⟩ : BufTy).Contents (Elt F))) k (Shape.Idx.first h_S_)).toInt) updateFits_S64x8x64x128_S1x8x64x128) = _
  exact al_83 h
  try rfl
theorem step_11 (h : Holds V0 s j) : step_main_v27_11 V0 = (step j s).main_v27_11 := by
  unfold step_main_v27_11 Cert.ReferenceIdeal.Step.step
  show id (Host.dynamicUpdateSlice (V0 (Proc.devRef .tc main_v27_11)) (broadcastInDim S1x8x64x128 ![1, 2, 3] bcast_S8x64x128_S1x8x64x128_1_2_3 (Host.dotGeneral dot_S8x64x128_S8x128x128_S8x64x128_2_2_1_1_0_0 none (res_main_while0b_v41 V0) (res_main_while0b_v42 V0))) (fun k => (((![res_main_while0b_v40 V0, constantI S_ 32 0#32, constantI S_ 32 0#32, constantI S_ 32 0#32] : Fin 4 → (⟨S_, .i32⟩ : BufTy).Contents (Elt F))) k (Shape.Idx.first h_S_)).toInt) updateFits_S64x8x64x128_S1x8x64x128) = _
  exact al_88 h
  try rfl
theorem step_12 (h : Holds V0 s j) : step_main_v27_12 V0 = (step j s).main_v27_12 := by
  unfold step_main_v27_12 Cert.ReferenceIdeal.Step.step
  show id (Host.dynamicUpdateSlice (V0 (Proc.devRef .tc main_v27_12)) (broadcastInDim S1x8x64x128 ![1, 2, 3] bcast_S8x64x128_S1x8x64x128_1_2_3 (transpose S8x64x128 [0, 2, 1] (Host.dotGeneral dot_S8x128x128_S8x64x128_S8x128x64_2_2_1_1_0_0 none (V0 (Proc.devRef .tc main_v27_9)) (res_main_while0b_v52 V0)) transposes_S8x128x64_S8x64x128_0_2_1)) (fun k => (((![res_main_while0b_v40 V0, constantI S_ 32 0#32, constantI S_ 32 0#32, constantI S_ 32 0#32] : Fin 4 → (⟨S_, .i32⟩ : BufTy).Contents (Elt F))) k (Shape.Idx.first h_S_)).toInt) updateFits_S64x8x64x128_S1x8x64x128) = _
  exact al_93 h
  try rfl
theorem step_13 (h : Holds V0 s j) : step_main_v27_13 V0 = (step j s).main_v27_13 := by
  unfold step_main_v27_13 Cert.ReferenceIdeal.Step.step
  show id (Host.dynamicUpdateSlice (V0 (Proc.devRef .tc main_v27_13)) (broadcastInDim S1x8x64x128 ![1, 2, 3] bcast_S8x64x128_S1x8x64x128_1_2_3 (Host.dotGeneral dot_S8x64x128_S8x128x128_S8x64x128_2_2_1_1_0_0 none (res_main_while0b_v79 V0) (res_main_while0b_v42 V0))) (fun k => (((![res_main_while0b_v40 V0, constantI S_ 32 0#32, constantI S_ 32 0#32, constantI S_ 32 0#32] : Fin 4 → (⟨S_, .i32⟩ : BufTy).Contents (Elt F))) k (Shape.Idx.first h_S_)).toInt) updateFits_S64x8x64x128_S1x8x64x128) = _
  exact al_98 h
  try rfl
theorem step_14 (h : Holds V0 s j) : step_main_v27_14 V0 = (step j s).main_v27_14 := by
  unfold step_main_v27_14 Cert.ReferenceIdeal.Step.step
  show id (Host.dynamicUpdateSlice (V0 (Proc.devRef .tc main_v27_14)) (broadcastInDim S1x8 ![1] bcast_S8_S1x8_1 (Host.reduceAdd (shapeCast S8x1x1 (Host.reduceAdd (mulf (res_main_while0b_v42 V0) (V0 (Proc.devRef .tc main_v27_9))) (constant S_ .f32 0x00000000#32) reducesTo_S8x128x128_S8_d1_2 h_S_) shapeCasts_S8_S8x1x1) (constant S_ .f32 0x00000000#32) reducesTo_S8x1x1_S8_d1_2 h_S_)) (fun k => (((![res_main_while0b_v40 V0, constantI S_ 32 0#32] : Fin 2 → (⟨S_, .i32⟩ : BufTy).Contents (Elt F))) k (Shape.Idx.first h_S_)).toInt) updateFits_S64x8_S1x8) = _
  exact al_101 h
  try rfl
theorem step_8 (h : Holds V0 s j) : step_main_v27_8 V0 = constantI S_ 32 (BitVec.ofNat 32 (j + 1)) := by
  unfold step_main_v27_8
  rw [h.n_8]
  funext i
  show BitVec.ofNat 32 j + 1#32 = BitVec.ofNat 32 (j + 1)
  simp only [BitVec.ofNat_add]

set_option maxRecDepth 8192 in
theorem out_main_v32_holds (h : Holds V0 s j) : out_main_v32 V0 = Cert.ReferenceIdeal.Step.R_main_v32 s := by
  unfold out_main_v32 Cert.ReferenceIdeal.Step.R_main_v32
  rw [h.f_10]
  try rfl

set_option maxRecDepth 8192 in
theorem out_main_v34_holds (h : Holds V0 s j) : out_main_v34 V0 = Cert.ReferenceIdeal.Step.R_main_v34 s := by
  unfold out_main_v34 Cert.ReferenceIdeal.Step.R_main_v34
  rw [h.f_11]
  try rfl

set_option maxRecDepth 8192 in
theorem out_main_v36_holds (h : Holds V0 s j) : out_main_v36 V0 = Cert.ReferenceIdeal.Step.R_main_v36 s := by
  unfold out_main_v36 Cert.ReferenceIdeal.Step.R_main_v36
  rw [h.f_12]
  try rfl

set_option maxRecDepth 8192 in
theorem out_main_v38_holds (h : Holds V0 s j) : out_main_v38 V0 = Cert.ReferenceIdeal.Step.R_main_v38 s := by
  unfold out_main_v38 Cert.ReferenceIdeal.Step.R_main_v38
  rw [h.f_13]
  try rfl

set_option maxRecDepth 8192 in
theorem out_main_v30_holds (h : Holds V0 s j) : out_main_v30 V0 = Cert.ReferenceIdeal.Step.R_main_v30 s := by
  unfold out_main_v30 Cert.ReferenceIdeal.Step.R_main_v30
  rw [h.f_14]
  try rfl

/-- One trip keeps the valuation holding: `step` of the state, the same set-up values, the next number. -/
theorem holds_step (h : Holds V0 s j) : Holds (STEP V0) (step j s) (j + 1) where
  f_9 := (STEP_main_v27_9 V0).trans (step_9 h)
  f_10 := (STEP_main_v27_10 V0).trans (step_10 h)
  f_11 := (STEP_main_v27_11 V0).trans (step_11 h)
  f_12 := (STEP_main_v27_12 V0).trans (step_12 h)
  f_13 := (STEP_main_v27_13 V0).trans (step_13 h)
  f_14 := (STEP_main_v27_14 V0).trans (step_14 h)
  n_8 := (STEP_main_v27_8 V0).trans (step_8 h)
  f_0 := (STEP_main_v27_0 V0).trans h.f_0
  f_1 := (STEP_main_v27_1 V0).trans h.f_1
  f_2 := (STEP_main_v27_2 V0).trans h.f_2
  f_3 := (STEP_main_v27_3 V0).trans h.f_3
  f_4 := (STEP_main_v27_4 V0).trans h.f_4
  f_5 := (STEP_main_v27_5 V0).trans h.f_5
  f_6 := (STEP_main_v27_6 V0).trans h.f_6
  f_7 := (STEP_main_v27_7 V0).trans h.f_7

/-- The state the first trip starts from, of the memory the run starts from. -/
abbrev initState (m : (ℓ : Loc nD τ sig) → Buf (Elt F) ℓ) (c : Dev nD) : State F :=
  init (m ((c.tc : Thread nD τ).loc main_arg7)) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))

variable (m : (ℓ : Loc nD τ sig) → Buf (Elt F) ℓ) (c : Dev nD)

set_option maxRecDepth 65536 in
set_option maxHeartbeats 600000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 64 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v32) = Cert.ReferenceIdeal.Step.R_main_v32 (it c 64)
      ∧ r.2.mem ((c.tc : Thread nD τ).loc main_v34) = Cert.ReferenceIdeal.Step.R_main_v34 (it c 64)
      ∧ r.2.mem ((c.tc : Thread nD τ).loc main_v36) = Cert.ReferenceIdeal.Step.R_main_v36 (it c 64)
      ∧ r.2.mem ((c.tc : Thread nD τ).loc main_v38) = Cert.ReferenceIdeal.Step.R_main_v38 (it c 64)
      ∧ r.2.mem ((c.tc : Thread nD τ).loc main_v30) = Cert.ReferenceIdeal.Step.R_main_v30 (it c 64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    have hk := holds_iter m c (it c) (h0 c) (hs c) 64
    ⟨(h c).1.trans (out_main_v32_holds hk), (h c).2.1.trans (out_main_v34_holds hk), (h c).2.2.1.trans (out_main_v36_holds hk), (h c).2.2.2.1.trans (out_main_v38_holds hk), (h c).2.2.2.2.1.trans (out_main_v30_holds hk), (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2⟩) (Value.run m ρ)

end Cert.ReferenceIdeal.StepRun

end
-- ==== Proof.BwdRef.lean ====
module

public import proofs.«01_k».proof.Proof.BwdReal
public import proofs.«01_k».proof.Proof.SRun
public import Idealize.ShloMosaic.Lib.Pointwise

@[expose] public section

set_option maxRecDepth 16384

noncomputable section

namespace Cert.Hand.BwdRef

open Cert.ReferenceIdeal Cert.ReferenceIdeal.Gen Idealize.ShloMosaic Idealize.ShloMosaic.TcCoe Idealize.SL.Sem
open Cert.ReferenceIdeal.Facts Cert.ReferenceIdeal.Step Cert.Hand

/-- The chunk that trip `j` of the walk takes. -/
def cur (j : ℕ) : Fin 64 := Fin.ofNat 64 (63 - j)

theorem word_cur : ∀ j : Fin 64, (IntOp.subi (IntOp.subi 64#32 (BitVec.ofNat 32 j.val)) 1#32).toInt = ((63 - j.val : ℕ) : ℤ) := by
  decide +kernel

theorem start_cur (j : ℕ) (hj : j < 64) (s : State Ideal) (i : S_.Idx) : (b3 j s i).toInt = (((cur j).val : ℕ) : ℤ) := by
  have h : (cur j).val = 63 - j := by show (63 - j) % 64 = _; omega
  rw [h]
  exact word_cur ⟨j, hj⟩

theorem sliceA (x : FVec Ideal S64x8x64x128 .f32) (st : Fin 4 → Int) (g : Fin 64) (h0 : st 0 = (g.val : ℤ)) (h1 : st 1 = 0) (h2 : st 2 = 0) (h3 : st 3 = 0)
    (h : Fin 8) (i : Fin 64) (e : Fin 128) :
    shapeCast S8x64x128 (Host.dynamicSlice S1x8x64x128 x st sliceFits_S64x8x64x128_S1x8x64x128) shapeCasts_S1x8x64x128_S8x64x128 (ix3 h i e) = x (ix4 g h i e) := by
  pointwise
  have c0 := Host.clampedStart_of_le (s := S64x8x64x128) (t := S1x8x64x128) rfl st 0 g.val h0 (by show g.val + 1 ≤ 64; omega)
  have c1 := Host.clampedStart_of_le (s := S64x8x64x128) (t := S1x8x64x128) rfl st 1 0 h1 (by show 0 + 8 ≤ 8; omega)
  have c2 := Host.clampedStart_of_le (s := S64x8x64x128) (t := S1x8x64x128) rfl st 2 0 h2 (by show 0 + 64 ≤ 64; omega)
  have c3 := Host.clampedStart_of_le (s := S64x8x64x128) (t := S1x8x64x128) rfl st 3 0 h3 (by show 0 + 128 ≤ 128; omega)
  simp only [c0, c1, c2, c3, zero_add]

theorem sliceB (x : FVec Ideal S64x8x128x128 .f32) (st : Fin 4 → Int) (g : Fin 64) (h0 : st 0 = (g.val : ℤ)) (h1 : st 1 = 0) (h2 : st 2 = 0) (h3 : st 3 = 0)
    (h : Fin 8) (i : Fin 128) (e : Fin 128) :
    shapeCast S8x128x128 (Host.dynamicSlice S1x8x128x128 x st sliceFits_S64x8x128x128_S1x8x128x128) shapeCasts_S1x8x128x128_S8x128x128 (ix3 h i e) = x (ix4 g h i e) := by
  pointwise
  have c0 := Host.clampedStart_of_le (s := S64x8x128x128) (t := S1x8x128x128) rfl st 0 g.val h0 (by show g.val + 1 ≤ 64; omega)
  have c1 := Host.clampedStart_of_le (s := S64x8x128x128) (t := S1x8x128x128) rfl st 1 0 h1 (by show 0 + 8 ≤ 8; omega)
  have c2 := Host.clampedStart_of_le (s := S64x8x128x128) (t := S1x8x128x128) rfl st 2 0 h2 (by show 0 + 128 ≤ 128; omega)
  have c3 := Host.clampedStart_of_le (s := S64x8x128x128) (t := S1x8x128x128) rfl st 3 0 h3 (by show 0 + 128 ≤ 128; omega)
  simp only [c0, c1, c2, c3, zero_add]

theorem sliceC (x : FVec Ideal S64x8x64x64 .f32) (st : Fin 4 → Int) (g : Fin 64) (h0 : st 0 = (g.val : ℤ)) (h1 : st 1 = 0) (h2 : st 2 = 0) (h3 : st 3 = 0)
    (h : Fin 8) (i : Fin 64) (e : Fin 64) :
    shapeCast S8x64x64 (Host.dynamicSlice S1x8x64x64 x st sliceFits_S64x8x64x64_S1x8x64x64) shapeCasts_S1x8x64x64_S8x64x64 (ix3 h i e) = x (ix4 g h i e) := by
  pointwise
  have c0 := Host.clampedStart_of_le (s := S64x8x64x64) (t := S1x8x64x64) rfl st 0 g.val h0 (by show g.val + 1 ≤ 64; omega)
  have c1 := Host.clampedStart_of_le (s := S64x8x64x64) (t := S1x8x64x64) rfl st 1 0 h1 (by show 0 + 8 ≤ 8; omega)
  have c2 := Host.clampedStart_of_le (s := S64x8x64x64) (t := S1x8x64x64) rfl st 2 0 h2 (by show 0 + 64 ≤ 64; omega)
  have c3 := Host.clampedStart_of_le (s := S64x8x64x64) (t := S1x8x64x64) rfl st 3 0 h3 (by show 0 + 64 ≤ 64; omega)
  simp only [c0, c1, c2, c3, zero_add]

theorem sliceD (x : FVec Ideal S64x8 .f32) (st : Fin 2 → Int) (g : Fin 64) (h0 : st 0 = (g.val : ℤ)) (h1 : st 1 = 0) (h : Fin 8) :
    shapeCast S8 (Host.dynamicSlice S1x8 x st sliceFits_S64x8_S1x8) shapeCasts_S1x8_S8 (ix1 h) = x (ix2 g h) := by
  pointwise
  have c0 := Host.clampedStart_of_le (s := S64x8) (t := S1x8) rfl st 0 g.val h0 (by show g.val + 1 ≤ 64; omega)
  have c1 := Host.clampedStart_of_le (s := S64x8) (t := S1x8) rfl st 1 0 h1 (by show 0 + 8 ≤ 8; omega)
  simp only [c0, c1, zero_add]

theorem updateA (x : FVec Ideal S64x8x64x128 .f32) (u : FVec Ideal S8x64x128 .f32) (st : Fin 4 → Int) (g : Fin 64) (h0 : st 0 = (g.val : ℤ)) (h1 : st 1 = 0)
    (h2 : st 2 = 0) (h3 : st 3 = 0) (g' : Fin 64) (h : Fin 8) (i : Fin 64) (e : Fin 128) :
    Host.dynamicUpdateSlice x (broadcastInDim S1x8x64x128 ![1, 2, 3] bcast_S8x64x128_S1x8x64x128_1_2_3 u) st updateFits_S64x8x64x128_S1x8x64x128 (ix4 g' h i e)
      = if g' = g then u (ix3 h i e) else x (ix4 g' h i e) := by
  pointwise
  have c0 := Host.clampedStart_of_le (s := S64x8x64x128) (t := S1x8x64x128) rfl st 0 g.val h0 (by show g.val + 1 ≤ 64; omega)
  have c1 := Host.clampedStart_of_le (s := S64x8x64x128) (t := S1x8x64x128) rfl st 1 0 h1 (by show 0 + 8 ≤ 8; omega)
  have c2 := Host.clampedStart_of_le (s := S64x8x64x128) (t := S1x8x64x128) rfl st 2 0 h2 (by show 0 + 64 ≤ 64; omega)
  have c3 := Host.clampedStart_of_le (s := S64x8x64x128) (t := S1x8x64x128) rfl st 3 0 h3 (by show 0 + 128 ≤ 128; omega)
  simp only [c0, c1, c2, c3, Nat.sub_zero]
  by_cases hg : g' = g
  · subst hg; simp
  · have : ¬ g'.val = g.val := fun q => hg (Fin.ext q)
    rw [if_neg hg, dif_neg]
    rintro ⟨⟨q1, q2⟩, _⟩
    omega

theorem updateD (x : FVec Ideal S64x8 .f32) (u : FVec Ideal S8 .f32) (st : Fin 2 → Int) (g : Fin 64) (h0 : st 0 = (g.val : ℤ)) (h1 : st 1 = 0)
    (g' : Fin 64) (h : Fin 8) :
    Host.dynamicUpdateSlice x (broadcastInDim S1x8 ![1] bcast_S8_S1x8_1 u) st updateFits_S64x8_S1x8 (ix2 g' h)
      = if g' = g then u (ix1 h) else x (ix2 g' h) := by
  pointwise
  have c0 := Host.clampedStart_of_le (s := S64x8) (t := S1x8) rfl st 0 g.val h0 (by show g.val + 1 ≤ 64; omega)
  have c1 := Host.clampedStart_of_le (s := S64x8) (t := S1x8) rfl st 1 0 h1 (by show 0 + 8 ≤ 8; omega)
  simp only [c0, c1, Nat.sub_zero]
  by_cases hg : g' = g
  · subst hg; simp
  · have : ¬ g'.val = g.val := fun q => hg (Fin.ext q)
    rw [if_neg hg, dif_neg]
    rintro ⟨⟨q1, q2⟩, _⟩
    omega

/-- The arrays the walk reads, as real numbers: they do not change along it. -/
structure Reads (A : BwdArgs) (s : State Ideal) : Prop where
  f0 : ∀ (g : Fin 64) (h : Fin 8) (i : Fin 64) (e : Fin 128), s.main_v27_0 (ix4 g h i e) = ((A.ct (tok g i) (lane h e) : ℝ) : EReal)
  f1 : ∀ (g : Fin 64) (h : Fin 8) (d e : Fin 128), s.main_v27_1 (ix4 g h d e) = ((A.sh g h d e : ℝ) : EReal)
  f2 : ∀ (g : Fin 64) (h : Fin 8) (i : Fin 64) (e : Fin 128), s.main_v27_2 (ix4 g h i e) = ((A.vn (tok g i) (lane h e) : ℝ) : EReal)
  f3 : ∀ (g : Fin 64) (h : Fin 8) (i : Fin 64) (e : Fin 128), s.main_v27_3 (ix4 g h i e) = ((A.w (tok g i) (lane h e) : ℝ) : EReal)
  f4 : ∀ (g : Fin 64) (h : Fin 8) (i n : Fin 64), s.main_v27_4 (ix4 g h i n) = ((A.qk (tok g i) h n : ℝ) : EReal)
  f5 : ∀ (g : Fin 64) (h : Fin 8) (i : Fin 64) (e : Fin 128), s.main_v27_5 (ix4 g h i e) = ((A.qd (tok g i) (lane h e) : ℝ) : EReal)
  f6 : ∀ (g : Fin 64) (h : Fin 8) (i : Fin 64) (e : Fin 128), s.main_v27_6 (ix4 g h i e) = ((A.kd (tok g i) (lane h e) : ℝ) : EReal)
  f7 : ∀ (g : Fin 64) (h : Fin 8), s.main_v27_7 (ix2 g h) = ((Real.exp (A.gc (tok g 63) h) : ℝ) : EReal)

section Trip

variable {A : BwdArgs} {s : State Ideal} (R : Reads A s) {j : ℕ} (hj : j < 64)
include R hj

theorem b8_real (h : Fin 8) (i : Fin 64) (e : Fin 128) : b8 j s (ix3 h i e) = ((A.ct (tok (cur j) i) (lane h e) : ℝ) : EReal) := by
  rw [← R.f0]
  exact sliceA _ _ (cur j) (start_cur j hj s _) rfl rfl rfl h i e

theorem b18_real (h : Fin 8) (i : Fin 64) (e : Fin 128) : b18 j s (ix3 h i e) = ((A.vn (tok (cur j) i) (lane h e) : ℝ) : EReal) := by
  rw [← R.f2]
  exact sliceA _ _ (cur j) (start_cur j hj s _) rfl rfl rfl h i e

theorem b23_real (h : Fin 8) (i : Fin 64) (e : Fin 128) : b23 j s (ix3 h i e) = ((A.w (tok (cur j) i) (lane h e) : ℝ) : EReal) := by
  rw [← R.f3]
  exact sliceA _ _ (cur j) (start_cur j hj s _) rfl rfl rfl h i e

theorem b33_real (h : Fin 8) (i : Fin 64) (e : Fin 128) : b33 j s (ix3 h i e) = ((A.qd (tok (cur j) i) (lane h e) : ℝ) : EReal) := by
  rw [← R.f5]
  exact sliceA _ _ (cur j) (start_cur j hj s _) rfl rfl rfl h i e

theorem b38_real (h : Fin 8) (i : Fin 64) (e : Fin 128) : b38 j s (ix3 h i e) = ((A.kd (tok (cur j) i) (lane h e) : ℝ) : EReal) := by
  rw [← R.f6]
  exact sliceA _ _ (cur j) (start_cur j hj s _) rfl rfl rfl h i e

theorem b13_real (h : Fin 8) (d e : Fin 128) : b13 j s (ix3 h d e) = ((A.sh (cur j) h d e : ℝ) : EReal) := by
  rw [← R.f1]
  exact sliceB _ _ (cur j) (start_cur j hj s _) rfl rfl rfl h d e

theorem b28_real (h : Fin 8) (i n : Fin 64) : b28 j s (ix3 h i n) = ((A.qk (tok (cur j) i) h n : ℝ) : EReal) := by
  rw [← R.f4]
  exact sliceC _ _ (cur j) (start_cur j hj s _) rfl rfl rfl h i n

theorem b41_real (h : Fin 8) : b41 j s (ix1 h) = ((Real.exp (A.gc (tok (cur j) 63) h) : ℝ) : EReal) := by
  rw [← R.f7]
  exact sliceD _ _ (cur j) (start_cur j hj s _) rfl h

/-- The new values the step multiplies by are the saved ones: what is added to them is subtracted again. -/
theorem b45_real (h : Fin 8) (i : Fin 64) (e : Fin 128) : b45 j s (ix3 h i e) = ((A.vn (tok (cur j) i) (lane h e) : ℝ) : EReal) := by
  have e0 : b45 j s (ix3 h i e) = b18 j s (ix3 h i e) + (∑ d : Fin 128, b23 j s (ix3 h i d) * b13 j s (ix3 h d e))
      - ∑ d : Fin 128, b23 j s (ix3 h i d) * b13 j s (ix3 h d e) := by
    pointwise [b45, b43, b44, b42]
  have e1 : (∑ d : Fin 128, b23 j s (ix3 h i d) * b13 j s (ix3 h d e))
      = ((∑ d : Fin 128, A.w (tok (cur j) i) (lane h d) * A.sh (cur j) h d e : ℝ) : EReal) := by
    rw [← sum_real]
    exact Finset.sum_congr rfl fun d _ => by rw [b23_real R hj, b13_real R hj, EReal.coe_mul]
  rw [e0, e1, b18_real R hj, ← EReal.coe_add, ← EReal.coe_sub, add_sub_cancel_right]

variable {D : Fin 8 → Fin 128 → Fin 128 → ℝ} (hD : ∀ (h : Fin 8) (d e : Fin 128), s.main_v27_9 (ix3 h d e) = ((D h d e : ℝ) : EReal))
include hD

theorem b68_real (h : Fin 8) (i : Fin 64) (e : Fin 128) : b68 j s (ix3 h i e) = ((A.du (cur j) h (D h) i e : ℝ) : EReal) := by
  have e0 : b68 j s (ix3 h i e) = (∑ d : Fin 128, s.main_v27_9 (ix3 h d e) * b38 j s (ix3 h i d))
      + ∑ r : Fin 64, b8 j s (ix3 h r e) * b28 j s (ix3 h r i) := by
    pointwise [b68, b55, b54, b67, b66]
  have e1 : (∑ d : Fin 128, s.main_v27_9 (ix3 h d e) * b38 j s (ix3 h i d))
      = ((∑ d : Fin 128, A.kd (tok (cur j) i) (lane h d) * D h d e : ℝ) : EReal) := by
    rw [← sum_real]
    exact Finset.sum_congr rfl fun d _ => by rw [hD, b38_real R hj, ← EReal.coe_mul, mul_comm]
  have e2 : (∑ r : Fin 64, b8 j s (ix3 h r e) * b28 j s (ix3 h r i))
      = ((∑ r : Fin 64, A.qk (tok (cur j) r) h i * A.ct (tok (cur j) r) (lane h e) : ℝ) : EReal) := by
    rw [← sum_real]
    exact Finset.sum_congr rfl fun d _ => by rw [b8_real R hj, b28_real R hj, ← EReal.coe_mul, mul_comm]
  rw [e0, e1, e2, ← EReal.coe_add, add_comm]
  rfl

theorem b57_real (h : Fin 8) (i : Fin 64) (d : Fin 128) :
    b57 j s (ix3 h i d) = ((∑ e : Fin 128, A.vn (tok (cur j) i) (lane h e) * D h d e : ℝ) : EReal) := by
  have e0 : b57 j s (ix3 h i d) = ∑ e : Fin 128, s.main_v27_9 (ix3 h d e) * b45 j s (ix3 h i e) := by
    pointwise [b57, b56]
  rw [e0, ← sum_real]
  exact Finset.sum_congr rfl fun e _ => by rw [hD, b45_real R hj, ← EReal.coe_mul, mul_comm]

omit hD in
theorem b73_real (h : Fin 8) (i : Fin 64) (d : Fin 128) :
    b73 j s (ix3 h i d) = ((A.outQd (cur j) h i d : ℝ) : EReal) := by
  have e0 : b73 j s (ix3 h i d) = ∑ e : Fin 128, b8 j s (ix3 h i e) * b13 j s (ix3 h d e) := by
    pointwise [b73]
  unfold BwdArgs.outQd
  rw [e0, ← sum_real]
  exact Finset.sum_congr rfl fun e _ => by rw [b8_real R hj, b13_real R hj, ← EReal.coe_mul]

theorem b74_real (h : Fin 8) (i : Fin 64) (e : Fin 128) : b74 j s (ix3 h i e) = ((-A.du (cur j) h (D h) i e : ℝ) : EReal) := by
  have e0 : b74 j s (ix3 h i e) = -b68 j s (ix3 h i e) := by
    pointwise [b74]
  rw [e0, b68_real R hj hD, ← EReal.coe_neg]

theorem b78_real (h : Fin 8) (i : Fin 64) (d : Fin 128) :
    b78 j s (ix3 h i d) = ((-∑ e : Fin 128, A.du (cur j) h (D h) i e * A.sh (cur j) h d e : ℝ) : EReal) := by
  have e0 : b78 j s (ix3 h i d) = ∑ e : Fin 128, b74 j s (ix3 h i e) * b13 j s (ix3 h d e) := by
    pointwise [b78]
  rw [e0, ← Finset.sum_neg_distrib, ← sum_real]
  exact Finset.sum_congr rfl fun e _ => by rw [b74_real R hj hD, b13_real R hj, ← EReal.coe_mul, neg_mul]

theorem b65_real (h : Fin 8) :
    b65 j s (ix1 h) = ((∑ d : Fin 128, ∑ e : Fin 128, A.sh (cur j) h d e * D h d e : ℝ) : EReal) := by
  have e0 : b65 j s (ix1 h) = ∑ d : Fin 128, ∑ e : Fin 128, b13 j s (ix3 h d e) * s.main_v27_9 (ix3 h d e) := by
    pointwise [b65, b61, b60, b59, b64, b58]
    simp only [Finset.univ_unique, Finset.sum_singleton]
  rw [e0, ← sum_real]
  refine Finset.sum_congr rfl fun d _ => ?_
  rw [← sum_real]
  exact Finset.sum_congr rfl fun e _ => by rw [b13_real R hj, hD, ← EReal.coe_mul]

theorem b77_real (h : Fin 8) (d e : Fin 128) : b77 j s (ix3 h d e) = ((A.next (cur j) h (D h) d e : ℝ) : EReal) := by
  have e0 : b77 j s (ix3 h d e) = s.main_v27_9 (ix3 h d e) * b41 j s (ix1 h) + (∑ r : Fin 64, b8 j s (ix3 h r e) * b33 j s (ix3 h r d))
      + ∑ r : Fin 64, b74 j s (ix3 h r e) * b23 j s (ix3 h r d) := by
    pointwise [b77, b72, b76, b71, b75, b70, b63, b62, b49]
  have e1 : (∑ r : Fin 64, b8 j s (ix3 h r e) * b33 j s (ix3 h r d))
      = ((∑ r : Fin 64, A.qd (tok (cur j) r) (lane h d) * A.ct (tok (cur j) r) (lane h e) : ℝ) : EReal) := by
    rw [← sum_real]
    exact Finset.sum_congr rfl fun r _ => by rw [b8_real R hj, b33_real R hj, ← EReal.coe_mul, mul_comm]
  have e2 : (∑ r : Fin 64, b74 j s (ix3 h r e) * b23 j s (ix3 h r d))
      = ((-∑ r : Fin 64, A.w (tok (cur j) r) (lane h d) * A.du (cur j) h (D h) r e : ℝ) : EReal) := by
    rw [← Finset.sum_neg_distrib, ← sum_real]
    exact Finset.sum_congr rfl fun r _ => by rw [b74_real R hj hD, b23_real R hj, ← EReal.coe_mul, neg_mul, mul_comm]
  rw [e0, e1, e2, hD, b41_real R hj, ← EReal.coe_mul, ← EReal.coe_add, ← EReal.coe_add, ← sub_eq_add_neg]
  rfl

end Trip

/-- The walk after `j` trips: the carried gradient, and the results of the chunks it has passed. -/
structure Walked (A : BwdArgs) (s : State Ideal) (j : ℕ) : Prop where
  reads : Reads A s
  state : ∀ (h : Fin 8) (d e : Fin 128), s.main_v27_9 (ix3 h d e) = ((A.DS h j d e : ℝ) : EReal)
  du : ∀ (g : Fin 64), 64 - j ≤ g.val → ∀ (h : Fin 8) (i : Fin 64) (e : Fin 128), s.main_v27_10 (ix4 g h i e) = ((A.outU g h i e : ℝ) : EReal)
  dqd : ∀ (g : Fin 64), 64 - j ≤ g.val → ∀ (h : Fin 8) (i : Fin 64) (e : Fin 128), s.main_v27_11 (ix4 g h i e) = ((A.outQd g h i e : ℝ) : EReal)
  dkd : ∀ (g : Fin 64), 64 - j ≤ g.val → ∀ (h : Fin 8) (i : Fin 64) (e : Fin 128), s.main_v27_12 (ix4 g h i e) = ((A.outKd g h i e : ℝ) : EReal)
  dw : ∀ (g : Fin 64), 64 - j ≤ g.val → ∀ (h : Fin 8) (i : Fin 64) (e : Fin 128), s.main_v27_13 (ix4 g h i e) = ((A.outW g h i e : ℝ) : EReal)
  ddec : ∀ (g : Fin 64), 64 - j ≤ g.val → ∀ (h : Fin 8), s.main_v27_14 (ix2 g h) = ((A.outDec g h : ℝ) : EReal)

theorem walked_step {A : BwdArgs} {s : State Ideal} {j : ℕ} (hj : j < 64) (W : Walked A s j) : Walked A (step j s) (j + 1) := by
  have R := W.reads
  have hc : (cur j).val = 63 - j := by show (63 - j) % 64 = _; omega
  have hdst : ∀ h, A.dst (cur j) h = A.DS h j := fun h => by
    show A.DS h (63 - (cur j).val) = _
    rw [hc, show 63 - (63 - j) = j by omega]
  have hge : ∀ g : Fin 64, 64 - (j + 1) ≤ g.val → ¬ g = cur j → 64 - j ≤ g.val := fun g h1 h2 => by
    have : ¬ g.val = (cur j).val := fun q => h2 (Fin.ext q)
    omega
  refine ⟨⟨R.f0, R.f1, R.f2, R.f3, R.f4, R.f5, R.f6, R.f7⟩, ?_, ?_, ?_, ?_, ?_, ?_⟩
  · intro h d e
    rw [step_main_v27_9]
    exact b77_real R hj W.state h d e
  · intro g hg h i e
    rw [step_main_v27_10]
    refine (updateA _ _ _ (cur j) (start_cur j hj s _) rfl rfl rfl g h i e).trans ?_
    by_cases q : g = cur j
    · rw [if_pos q, q]
      show _ = ((A.du (cur j) h (A.dst (cur j) h) i e : ℝ) : EReal)
      rw [hdst]; exact b68_real R hj W.state h i e
    · rw [if_neg q]; exact W.du g (hge g hg q) h i e
  · intro g hg h i e
    rw [step_main_v27_11]
    refine (updateA _ _ _ (cur j) (start_cur j hj s _) rfl rfl rfl g h i e).trans ?_
    by_cases q : g = cur j
    · rw [if_pos q, q]
      exact b73_real R hj h i e
    · rw [if_neg q]; exact W.dqd g (hge g hg q) h i e
  · intro g hg h i e
    rw [step_main_v27_12]
    refine (updateA _ _ _ (cur j) (start_cur j hj s _) rfl rfl rfl g h i e).trans ?_
    by_cases q : g = cur j
    · rw [if_pos q, q]
      show _ = ((∑ x : Fin 128, A.vn (tok (cur j) i) (lane h x) * A.dst (cur j) h e x : ℝ) : EReal)
      rw [hdst]; exact b57_real R hj W.state h i e
    · rw [if_neg q]; exact W.dkd g (hge g hg q) h i e
  · intro g hg h i e
    rw [step_main_v27_13]
    refine (updateA _ _ _ (cur j) (start_cur j hj s _) rfl rfl rfl g h i e).trans ?_
    by_cases q : g = cur j
    · rw [if_pos q, q]
      show _ = ((-∑ x : Fin 128, A.du (cur j) h (A.dst (cur j) h) i x * A.sh (cur j) h e x : ℝ) : EReal)
      rw [hdst]; exact b78_real R hj W.state h i e
    · rw [if_neg q]; exact W.dw g (hge g hg q) h i e
  · intro g hg h
    rw [step_main_v27_14]
    refine (updateD _ _ _ (cur j) (start_cur j hj s _) rfl g h).trans ?_
    by_cases q : g = cur j
    · rw [if_pos q, q]
      show _ = ((∑ d : Fin 128, ∑ e : Fin 128, A.sh (cur j) h d e * A.dst (cur j) h d e : ℝ) : EReal)
      rw [hdst]; exact b65_real R hj W.state h
    · rw [if_neg q]; exact W.ddec g (hge g hg q) h

theorem walked_all {A : BwdArgs} (it : ℕ → State Ideal) (h0 : Walked A (it 0) 0) (hs : ∀ n, it (n + 1) = step n (it n)) :
    ∀ j, j ≤ 64 → Walked A (it j) j
  | 0, _ => h0
  | j + 1, hj => by rw [hs]; exact walked_step (by omega) (walked_all it h0 hs j (by omega))

end Cert.Hand.BwdRef

end
-- ==== Proof.BwdMain.lean ====
module

public import proofs.«01_k».proof.Defs
public import proofs.«01_k».proof.Proof.BwdFold
public import proofs.«01_k».proof.Proof.BwdRef

@[expose] public section

set_option maxRecDepth 16384

noncomputable section

namespace Cert.Hand.BwdRef

open Cert.ReferenceIdeal Cert.ReferenceIdeal.Gen Idealize.ShloMosaic Idealize.ShloMosaic.TcCoe Idealize.SL.Sem
open Cert.ReferenceIdeal.Facts Cert.ReferenceIdeal.Step Cert.Hand Cert.Hand.BwdBlock

variable {a0 : FVec Ideal S4096x1024 .f32} {a1 : FVec Ideal S4096x1024 .bf16} {a2 : FVec Ideal S4096x8x64 .bf16}
  {a3 a4 : FVec Ideal S4096x1024 .bf16} {a5 : FVec Ideal S4096x8 .f32} {a6 : FVec Ideal S4096x1024 .bf16} {a7 : FVec Ideal S64x8x128x128 .f32}

theorem at_tok {e : FTy} (x : FVec Ideal S4096x1024 e) (p : Fin 4096) (q : Fin 1024) (g : Fin 64) (h : Fin 8) (i : Fin 64) (l : Fin 128)
    (hp : p.val = 64 * g.val + i.val) (hq : q.val = 128 * h.val + l.val) : x (ix2 p q) = x (ix2 (tok g i) (lane h l)) := by
  rw [show p = tok g i from Fin.ext hp, show q = lane h l from Fin.ext hq]

theorem start8 (g : Fin 64) (h : Fin 8) (i : Fin 64) (l : Fin 128) :
    (A_main_v8 (F := Ideal) a0 a1 a2 a3 a4 a5 a6 (ix4 g h i l) : EReal) = a0 (ix2 (tok g i) (lane h l)) := by
  pointwise [A_main_v8, A_main_v7]
  exact at_tok a0 _ _ g h i l (by simp; try omega) (by simp; try omega)

theorem start11 (g : Fin 64) (h : Fin 8) (i : Fin 64) (l : Fin 128) :
    (A_main_v11 (F := Ideal) a0 a1 a2 a3 a4 a5 a6 (ix4 g h i l) : EReal) = a6 (ix2 (tok g i) (lane h l)) := by
  pointwise [A_main_v11, A_main_v10, A_main_v9]
  exact at_tok a6 _ _ g h i l (by simp; try omega) (by simp; try omega)

theorem start14 (g : Fin 64) (h : Fin 8) (i : Fin 64) (l : Fin 128) :
    (A_main_v14 (F := Ideal) a0 a1 a2 a3 a4 a5 a6 (ix4 g h i l) : EReal) = a1 (ix2 (tok g i) (lane h l)) := by
  pointwise [A_main_v14, A_main_v13, A_main_v12]
  exact at_tok a1 _ _ g h i l (by simp; try omega) (by simp; try omega)

theorem start17 (g : Fin 64) (h : Fin 8) (i : Fin 64) (l : Fin 128) :
    (A_main_v17 (F := Ideal) a0 a1 a2 a3 a4 a5 a6 (ix4 g h i l) : EReal) = a3 (ix2 (tok g i) (lane h l)) := by
  pointwise [A_main_v17, A_main_v16, A_main_v15]
  exact at_tok a3 _ _ g h i l (by simp; try omega) (by simp; try omega)

theorem start20 (g : Fin 64) (h : Fin 8) (i : Fin 64) (l : Fin 128) :
    (A_main_v20 (F := Ideal) a0 a1 a2 a3 a4 a5 a6 (ix4 g h i l) : EReal) = a4 (ix2 (tok g i) (lane h l)) := by
  pointwise [A_main_v20, A_main_v19, A_main_v18]
  exact at_tok a4 _ _ g h i l (by simp; try omega) (by simp; try omega)

theorem start2 (g : Fin 64) (h : Fin 8) (i n : Fin 64) :
    (A_main_v2 (F := Ideal) a0 a1 a2 a3 a4 a5 a6 (ix4 g h i n) : EReal) = a2 (ix3 (tok g i) h n) := by
  pointwise [A_main_v2, A_main_v1, A_main_v0]
  rw [show (⟨g.val * 64 + i.val, by omega⟩ : Fin 4096) = tok g i from Fin.ext (by show g.val * 64 + i.val = 64 * g.val + i.val; omega)]

theorem start6 (g : Fin 64) (h : Fin 8) :
    (A_main_v6 (F := Ideal) a0 a1 a2 a3 a4 a5 a6 (ix2 g h) : EReal) = Ideal.exp (a5 (ix2 (tok g 63) h)) := by
  pointwise [A_main_v6, A_main_v5, A_main_v4, A_main_v3]
  rw [show (⟨g.val * 64 + 63, by omega⟩ : Fin 4096) = tok g 63 from Fin.ext (by show g.val * 64 + 63 = 64 * g.val + 63; omega)]

theorem inf_top : Ideal.ofBits .f32 0x7F800000#32 = ⊤ := by simp [Ideal.ofBits, Ideal.ieee]

theorem real_of_lt (x : EReal) (h : x ⊔ -x < ⊤) : x = ((EReal.toReal x : ℝ) : EReal) := by
  refine (EReal.coe_toReal ?_ ?_).symm
  · rintro rfl; simp at h
  · rintro rfl; simp at h

/-- An array whose absolute values are all below infinity holds real numbers. -/
theorem isReal_of_finite {S : Shape} (x : FVec Ideal S .f32) (b : (⟨0, ![]⟩ : Shape).BroadcastsInDim S (![] : Fin 0 → Fin S.rank))
    (h : cmpf .olt (Host.absf x) (broadcastInDim S ![] b (constant (F := Ideal) ⟨0, ![]⟩ .f32 0x7F800000#32)) = fun _ => 1#1) : IsReal x := by
  intro i
  have h1 : BitVec.ofBool (decide ((x i : EReal) ⊔ -(x i : EReal) < Ideal.ofBits .f32 0x7F800000#32)) = 1#1 := congrFun h i
  rw [inf_top] at h1
  refine real_of_lt _ ?_
  by_contra h2
  rw [decide_eq_false h2] at h1
  exact absurd h1 (by decide)

section Init

variable (r0 : IsReal a0) (r1 : IsReal a1) (r2 : IsReal a2) (r3 : IsReal a3) (r4 : IsReal a4) (r5 : IsReal a5) (r6 : IsReal a6) (r7 : IsReal a7)
include r0 r1 r2 r3 r4 r5 r6 r7

theorem walked_init : Walked (argsOf a0 a1 a2 a3 a4 a5 a6 a7) (init (F := Ideal) a7 a0 a1 a2 a3 a4 a5 a6) 0 where
  reads := {
    f0 := fun g h i e => (start8 (a0 := a0) (a1 := a1) (a2 := a2) (a3 := a3) (a4 := a4) (a5 := a5) (a6 := a6) g h i e).trans (r0 _)
    f1 := fun g h d e => r7 _
    f2 := fun g h i e => (start11 (a0 := a0) (a1 := a1) (a2 := a2) (a3 := a3) (a4 := a4) (a5 := a5) (a6 := a6) g h i e).trans (r6 _)
    f3 := fun g h i e => (start14 (a0 := a0) (a1 := a1) (a2 := a2) (a3 := a3) (a4 := a4) (a5 := a5) (a6 := a6) g h i e).trans (r1 _)
    f4 := fun g h i n => (start2 (a0 := a0) (a1 := a1) (a2 := a2) (a3 := a3) (a4 := a4) (a5 := a5) (a6 := a6) g h i n).trans (r2 _)
    f5 := fun g h i e => (start17 (a0 := a0) (a1 := a1) (a2 := a2) (a3 := a3) (a4 := a4) (a5 := a5) (a6 := a6) g h i e).trans (r3 _)
    f6 := fun g h i e => (start20 (a0 := a0) (a1 := a1) (a2 := a2) (a3 := a3) (a4 := a4) (a5 := a5) (a6 := a6) g h i e).trans (r4 _)
    f7 := fun g h => by
      refine (start6 (a0 := a0) (a1 := a1) (a2 := a2) (a3 := a3) (a4 := a4) (a5 := a5) (a6 := a6) g h).trans ?_
      rw [r5 (ix2 (tok g 63) h), Ideal.exp_coe]
      rfl }
  state h d e := by
    have e0 : (K_main_v21 (F := Ideal) (ix3 h d e) : EReal) = 0 := by
      pointwise [K_main_v21, K_main_cst]
    exact e0.trans (by show (0 : EReal) = ((0 : ℝ) : EReal); simp)
  du g hg := absurd hg (by omega)
  dqd g hg := absurd hg (by omega)
  dkd g hg := absurd hg (by omega)
  dw g hg := absurd hg (by omega)
  ddec g hg := absurd hg (by omega)

end Init

section Results

variable {A : BwdArgs} {s : State Ideal} (W : Walked A s 64)
include W

omit W in
theorem res_lay (f : Fin 64 → Fin 8 → Fin 64 → Fin 128 → ℝ) (x : FVec Ideal S64x8x64x128 .f32) (v : FVec Ideal S4096x1024 .f32)
    (hx : ∀ g h i e, x (ix4 g h i e) = ((f g h i e : ℝ) : EReal))
    (hv : ∀ (p : Fin 4096) (q : Fin 1024), v (ix2 p q) = x (ix4 (chunkAt p) (headAt q) (rowAt p) (coordAt q))) : v = lay f := by
  funext y
  obtain ⟨p, q, rfl⟩ : ∃ (p : Fin 4096) (q : Fin 1024), y = ix2 p q := ⟨y 0, y 1, by funext k; match k with | 0 => rfl | 1 => rfl⟩
  rw [hv, hx]
  rfl

theorem res32 : R_main_v32 s = lay A.outU := by
  refine res_lay A.outU s.main_v27_10 _ (fun g h i e => W.du g (by omega) h i e) fun p q => ?_
  pointwise [R_main_v32]
  rfl

theorem res34 : R_main_v34 s = lay A.outQd := by
  refine res_lay A.outQd s.main_v27_11 _ (fun g h i e => W.dqd g (by omega) h i e) fun p q => ?_
  pointwise [R_main_v34]
  rfl

theorem res36 : R_main_v36 s = lay A.outKd := by
  refine res_lay A.outKd s.main_v27_12 _ (fun g h i e => W.dkd g (by omega) h i e) fun p q => ?_
  pointwise [R_main_v36]
  rfl

theorem res38 : R_main_v38 s = lay A.outW := by
  refine res_lay A.outW s.main_v27_13 _ (fun g h i e => W.dw g (by omega) h i e) fun p q => ?_
  pointwise [R_main_v38]
  rfl

theorem res30 : R_main_v30 s = layDec A.outDec := by
  funext y
  obtain ⟨p, q, rfl⟩ : ∃ (p : Fin 512) (q : Fin 1024), y = ix2 p q := ⟨y 0, y 1, by funext k; match k with | 0 => rfl | 1 => rfl⟩
  have e0 : R_main_v30 s (ix2 p q) = s.main_v27_14 (ix2 ⟨p.val / 8, by omega⟩ (headAt q)) := by
    pointwise [R_main_v30]
    rfl
  rw [e0, W.ddec _ (by omega)]
  rfl

end Results

end Cert.Hand.BwdRef

end
-- ==== Proof.BwdClaim.lean ====
module

public import proofs.«01_k».proof.Defs
public import proofs.«01_k».proof.Proof.Gen.Kernel
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.BwdMain
public import Idealize.ShloMosaic.Adequacy
public import Idealize.ShloMosaic.Init

@[expose] public section

set_option maxRecDepth 16384

noncomputable section

namespace Cert.Proof

open Idealize.ShloMosaic Idealize.ShloMosaic.TcCoe Idealize.SL.Sem Cert.Hand.BwdBlock

/-- The side conditions of the precondition. -/
theorem finite_facts : Cert.Pre_finite.Facts := ⟨by decide, by decide, by decide, by decide, by decide⟩

/-- Where the precondition holds, every argument of the kernel is an array of real numbers. -/
theorem real_of_pre (m : (ℓ : Loc Cert.KernelIdeal.nD Cert.KernelIdeal.τ Cert.KernelIdeal.sig) → Buf (Elt Ideal) ℓ)
    (h : Cert.Pre_KernelIdeal_finite (hPre_finite := finite_facts) m) (c : Dev Cert.KernelIdeal.nD) : MemReal m c := by
  obtain ⟨h0, h1, h2, h3, h4, h5, h6, h7⟩ := h c
  exact ⟨Cert.Hand.BwdRef.isReal_of_finite _ _ h0, Cert.Hand.BwdRef.isReal_of_finite _ _ h1, Cert.Hand.BwdRef.isReal_of_finite _ _ h2,
    Cert.Hand.BwdRef.isReal_of_finite _ _ h3, Cert.Hand.BwdRef.isReal_of_finite _ _ h4, Cert.Hand.BwdRef.isReal_of_finite _ _ h5,
    Cert.Hand.BwdRef.isReal_of_finite _ _ h6, Cert.Hand.BwdRef.isReal_of_finite _ _ h7⟩

theorem frame_ideal : Cert.quiescent_KernelIdeal (hKernelIdeal := Cert.KernelIdeal.Gen.facts) :=
  fun m ρ _ => Cert.KernelIdeal.Gen.frame m ρ

theorem frame_ideal_pre : Cert.quiescent_KernelIdeal_pre_finite (hKernelIdeal := Cert.KernelIdeal.Gen.facts) (hPre_finite := finite_facts) :=
  fun m ρ _ => Cert.KernelIdeal.Gen.frame m ρ

/-- The states of the reference's walk on each device. -/
def states (m : (ℓ : Loc Cert.ReferenceIdeal.nD Cert.ReferenceIdeal.τ Cert.ReferenceIdeal.sig) → Buf (Elt Ideal) ℓ) (c : Dev Cert.ReferenceIdeal.nD) :
    ℕ → Cert.ReferenceIdeal.Step.State Ideal
  | 0 => Cert.ReferenceIdeal.StepRun.initState m c
  | n + 1 => Cert.ReferenceIdeal.Step.step n (states m c n)

/-- The reference leaves its arguments unchanged and its counters at zero. -/
theorem reference_quiet (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD, r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
        ∧ r.2.sem = fun _ => 0) :=
  (θ_run Cert.ReferenceIdeal.defs _ _).mono
    (fun r h => ⟨fun c => (h c).2.2.2.2.2, sem_eq_zero_of_no_sems (by decide) r.2⟩)
    (Cert.ReferenceIdeal.StepRun.run_iter m ρ (states m) (fun _ => rfl) (fun _ _ => rfl))

theorem frame_reference : Cert.quiescent_ReferenceIdeal (hReferenceIdeal := Cert.ReferenceIdeal.Gen.facts) :=
  fun m ρ _ => reference_quiet m ρ

theorem frame_reference_pre : Cert.quiescent_ReferenceIdeal_pre_finite (hReferenceIdeal := Cert.ReferenceIdeal.Gen.facts) (hPre_finite := finite_facts) :=
  fun m ρ _ => reference_quiet m ρ

theorem algebraic : Cert.algebraic_KernelIdeal_ReferenceIdeal_pre_finite (hKernelIdeal := Cert.KernelIdeal.Gen.facts)
    (hReferenceIdeal := Cert.ReferenceIdeal.Gen.facts) (hPre_finite := finite_facts) := by
  intro m g m' g' hpre hagree
  have R : ∀ c, MemReal m c := real_of_pre m hpre
  refine ⟨fun c => lay (memArgs m c).outU, fun c => lay (memArgs m c).outQd, fun c => lay (memArgs m c).outKd, fun c => lay (memArgs m c).outW,
    fun c => layDec (memArgs m c).outDec, ?_, ?_⟩
  · refine (θ_run _ _ _).mono (fun r h c => ?_) (Cert.KernelIdeal.Value.run_blocks m g)
    obtain ⟨h8, h9, h10, h11, h12, ha⟩ := h c
    exact ⟨h8.trans (array8 c (R c)), h9.trans (array9 c (R c)), h10.trans (array10 c (R c)), h11.trans (array11 c (R c)),
      h12.trans (array12 c (R c)), ha⟩
  · refine (θ_run _ _ _).mono (fun r h c => ?_)
      (Cert.ReferenceIdeal.StepRun.run_iter m' g' (states m') (fun _ => rfl) (fun _ _ => rfl))
    obtain ⟨h0, h1, h2, h3, h4, ha⟩ := h c
    have W0 : Cert.Hand.BwdRef.Walked (memArgs m c) (states m' c 0) 0 := by
      obtain ⟨e0, e1, e2, e3, e4, e5, e6, e7⟩ := hagree c
      show Cert.Hand.BwdRef.Walked (memArgs m c) (Cert.ReferenceIdeal.Step.init _ _ _ _ _ _ _ _) 0
      rw [e0, e1, e2, e3, e4, e5, e6, e7]
      exact Cert.Hand.BwdRef.walked_init (R c).r0 (R c).r1 (R c).r2 (R c).r3 (R c).r4 (R c).r5 (R c).r6 (R c).r7
    have W : Cert.Hand.BwdRef.Walked (memArgs m c) (states m' c 64) 64 :=
      Cert.Hand.BwdRef.walked_all (states m' c) W0 (fun _ => rfl) 64 le_rfl
    exact ⟨h0.trans (Cert.Hand.BwdRef.res32 W), h1.trans (Cert.Hand.BwdRef.res34 W), h2.trans (Cert.Hand.BwdRef.res36 W),
      h3.trans (Cert.Hand.BwdRef.res38 W), h4.trans (Cert.Hand.BwdRef.res30 W), ha⟩

end Cert.Proof

end
-- ==== Proof.BwdFrame.lean ====
module

public import proofs.«01_k».proof.Defs
public import proofs.«01_k».proof.Proof.Gen.Kernel
public import proofs.«01_k».proof.Proof.Gen.KernelIdeal
public import proofs.«01_k».proof.Proof.Gen.KernelIdeal.Frame

@[expose] public section

set_option maxRecDepth 65536
set_option maxHeartbeats 4000000

noncomputable section

namespace Cert.Proof

open Idealize.ShloMosaic Idealize.SL.Sem

attribute [local instance] Cert.Kernel.Gen.facts Cert.KernelIdeal.Gen.facts

/-- The kernel's body and its ideal reading's are one text. -/
theorem body_eq : Cert.Kernel.cc0_delta_scan_bwd (F := Bits) = Cert.KernelIdeal.cc0_delta_scan_bwd (F := Bits) := by
  funext i a1 b1 a2 b2 a3 b3 a4 b4 a5 b5 a6 b6 a7 b7 a8 b8 a9 b9 a10 b10 a11 b11 a12 b12 a13 b13 a14 b14
  delta Cert.Kernel.cc0_delta_scan_bwd Cert.KernelIdeal.cc0_delta_scan_bwd
  rfl

theorem main_eq : Cert.Kernel.main (F := Bits) = Cert.KernelIdeal.main (F := Bits) := rfl

theorem kernels_eq : Cert.Kernel.defs₀ (F := Bits) = Cert.KernelIdeal.defs₀ (F := Bits) := by
  unfold Cert.Kernel.defs₀ Cert.KernelIdeal.defs₀
  refine congrArg Defs.onTc ?_
  funext l x
  match l, x with
  | 0, (t, s) =>
    show Cert.Kernel.cc0_delta_scan_bwd (F := Bits) _ _ _ _ _ _ _ _ _ _ _ _ _ _ _ _ _ _ _ _ _ _ _ _ _ _ _ _ _ = _
    rw [body_eq]
    rfl

theorem defs_eq : Cert.Kernel.defs (F := Bits) = Cert.KernelIdeal.defs (F := Bits) := by
  unfold Cert.Kernel.defs Cert.KernelIdeal.defs
  exact congrArg (Pipeline.defs (Cert.KernelIdeal.pcfgs (F := Bits))) kernels_eq

/-- The kernel's frame is its ideal reading's, taken at bit patterns. -/
theorem frame_kernel : Cert.quiescent_Kernel (hKernel := Cert.Kernel.Gen.facts) := by
  intro m ρ _
  rw [defs_eq, main_eq]
  exact Cert.KernelIdeal.Gen.frame (F := Bits) m ρ

end Cert.Proof

end
-- ==== Proof.Entries.lean ====
module

public import Idealize.ShloMosaic.Lib.Pointwise
public import Idealize.ShloMosaic.Lib.Pipeline.Value
public import Idealize.ShloMosaic.PureOps.Ideal

@[expose] public section

noncomputable section

namespace Cert.Hand.Entries

open Idealize.ShloMosaic

theorem zero2 : (![0, 0] : Fin 2 → ℕ) = fun _ => 0 := by decide

theorem zero3 : (![0, 0, 0] : Fin 3 → ℕ) = fun _ => 0 := by decide

/-- Two matrices with the same entries are equal. -/
theorem ext2 {α : Type} {n0 n1 : ℕ} {X Y : (⟨2, ![n0, n1]⟩ : Shape).Idx → α}
    (h : ∀ (p : Fin n0) (q : Fin n1), X (ix2 p q) = Y (ix2 p q)) : X = Y := by
  funext y
  rw [eq_ix2 y]
  exact h _ _

/-- Two arrays of three axes with the same entries are equal. -/
theorem ext3 {α : Type} {n0 n1 n2 : ℕ} {X Y : (⟨3, ![n0, n1, n2]⟩ : Shape).Idx → α}
    (h : ∀ (p : Fin n0) (q : Fin n1) (r : Fin n2), X (ix3 p q r) = Y (ix3 p q r)) : X = Y := by
  funext y
  rw [eq_ix3 y]
  exact h _ _ _

/-- Sums of equal products, factor by factor. -/
theorem sum_mul {n : ℕ} {u v u' v' : Fin n → EReal} (h : ∀ k, u k = u' k) (h' : ∀ k, v k = v' k) :
    ∑ k, u k * v k = ∑ k, u' k * v' k :=
  Finset.sum_congr rfl fun k _ => by rw [h k, h' k]

/-- The factors of a sum of products, the other way round. -/
theorem sum_comm_mul {n : ℕ} (u v : Fin n → EReal) : ∑ k, u k * v k = ∑ k, v k * u k :=
  Finset.sum_congr rfl fun _ _ => mul_comm _ _

/-! ## The eight shards of the gate's and the up projection's columns -/

/-- Shard `s` holds columns of the gate if `s < 4`, of the up projection otherwise. -/
def half (s : Fin 8) : Fin 2 := ⟨s.val / 4, by omega⟩

/-- Column `q` of shard `s`, among the 5632 columns of its half. -/
def col (s : Fin 8) (q : Fin 1408) : Fin 5632 := ⟨1408 * (s.val % 4) + q.val, by omega⟩

/-- A column of the two halves side by side, read from the half that it lies in. -/
theorem pick {α : Type} (f : Fin 2 → Fin 5632 → α) (s : Fin 8) (q : Fin 1408) (h' : ¬ s.val * 1408 + q.val < 5632 → s.val * 1408 + q.val - 5632 < 5632) :
    (if h : s.val * 1408 + q.val < 5632 then f 0 ⟨s.val * 1408 + q.val, h⟩ else f 1 ⟨s.val * 1408 + q.val - 5632, h' h⟩) = f (half s) (col s q) := by
  split
  · have e0 : half s = 0 := Fin.ext (by show s.val / 4 = 0; omega)
    rw [e0]
    exact congrArg (f 0) (Fin.ext (by show s.val * 1408 + q.val = 1408 * (s.val % 4) + q.val; omega))
  · have e1 : half s = 1 := Fin.ext (by show s.val / 4 = 1; omega)
    rw [e1]
    exact congrArg (f 1) (Fin.ext (by show s.val * 1408 + q.val - 5632 = 1408 * (s.val % 4) + q.val; omega))

/-- A sum over all columns of the eight shards, shard by shard. -/
theorem sum_shards (f : Fin 11264 → EReal) :
    ∑ x, f x = ∑ s : Fin 8, ∑ k : Fin 1408, f ⟨s.val * 1408 + k.val, by omega⟩ := by
  rw [← Fintype.sum_prod_type' (f := fun (s : Fin 8) (k : Fin 1408) => f ⟨s.val * 1408 + k.val, by omega⟩)]
  refine (Fintype.sum_equiv (finProdFinEquiv (m := 8) (n := 1408)) _ f fun x => ?_).symm
  exact congrArg f (Fin.ext (by show x.1.val * 1408 + x.2.val = x.2.val + 1408 * x.1.val; omega))

/-- A sum over `a * b` places, block by block. -/
theorem sum_blocks (a b : ℕ) (f : Fin (a * b) → EReal) (e : ∀ (i : Fin a) (k : Fin b), i.val * b + k.val < a * b) :
    ∑ x, f x = ∑ i : Fin a, ∑ k : Fin b, f ⟨i.val * b + k.val, e i k⟩ := by
  rw [← Fintype.sum_prod_type' (f := fun (s : Fin a) (k : Fin b) => f ⟨s.val * b + k.val, e s k⟩)]
  refine (Fintype.sum_equiv (finProdFinEquiv (m := a) (n := b)) _ f fun x => ?_).symm
  exact congrArg f (Fin.ext (by show x.1.val * b + x.2.val = x.2.val + b * x.1.val; rw [Nat.mul_comm b, Nat.add_comm]))

end Cert.Hand.Entries

end
-- ==== Proof.MmGDown.lean ====
module

public import proofs.«01_k».proof.Defs
public import proofs.«01_k».proof.Proof.Entries
public import proofs.«01_k».proof.Proof.Gen.GDown
public import proofs.«01_k».proof.Proof.Gen.GDownIdeal.Value
public import proofs.«01_k».proof.Proof.Gen.GDownRefIdeal.Run
public import Idealize.ShloMosaic.Lib.Pipeline.ValueKit.Geometry
public import Idealize.ShloMosaic.Adequacy
public import Idealize.ShloMosaic.Init

@[expose] public section

set_option maxRecDepth 16384

noncomputable section

namespace Cert.Proof.GDown

open Cert.GDownIdeal Cert.GDownIdeal.Gen Cert.Hand.Entries Idealize.ShloMosaic Idealize.ShloMosaic.TcCoe Idealize.SL.Sem

/-- The transposed product: every entry is the sum over the rows of both arrays. -/
def prod (a : Vec Ideal S4096x5632 .bf16) (b : Vec Ideal S4096x2048 .bf16) : Vec Ideal S5632x2048 .f32 :=
  fun y => (∑ k : Fin 4096, (a (ix2 k (y 0)) : EReal) * (b (ix2 k (y 1)) : EReal) : EReal)

/-- One block of the kernel's product. -/
theorem pay (a : Vec Ideal S4096x1408 .bf16) (b : Vec Ideal S4096x512 .bf16) (p : Fin 1408) (q : Fin 512) :
    (k0_pay1 (F := Ideal) a b (ix2 p q) : EReal) = ∑ k : Fin 4096, (a (ix2 k p) : EReal) * (b (ix2 k q) : EReal) := by
  pointwise [k0_pay1]

theorem idx_facts : ∀ t : Fin cfg0.N,
    win0_0.index t 0 = 0 ∧ win0_1.index t 0 = 0 ∧ win0_0.index t 1 = win0_2.index t 0 ∧ win0_1.index t 1 = win0_2.index t 1 := by
  decide +kernel

/-- The array the kernel leaves is the product. -/
theorem array (m : (ℓ : Loc nD τ sig) → Buf (Elt Ideal) ℓ) (c : Dev nD) :
    (dats m 0 c).arrAt 2 cfg0.N = prod (m ((c : Thread nD τ).loc main_arg0)) (m ((c : Thread nD τ).loc main_arg1)) := by
  refine Pipeline.Dat.arrAt_eq_of_covers (dats m 0 c) 2 _ (by decide +kernel) fun t _ y => ?_
  obtain ⟨f0, f1, f2, f3⟩ := idx_facts t
  show (dats m 0 c).after 2 t y = _
  rw [after0_2]
  unfold out0_2
  rw [View.canon_unit_zero zero2, View.ld_unit_zero zero2, View.ld_unit_zero zero2]
  refine (congrArg (k0_pay1 (F := Ideal) (iblk m c 0 t) (iblk m c 1 t)) (eq_ix2 y)).trans ((pay _ _ (y 0) (y 1)).trans ?_)
  refine sum_mul (fun k => congrArg (m ((c : Thread nD τ).loc main_arg0)) ?_) (fun k => congrArg (m ((c : Thread nD τ).loc main_arg1)) ?_)
  · funext a
    match a with
    | 0 => exact Fin.ext (by show win0_0.index t 0 * 4096 + 1 * k.val = k.val; rw [f0]; omega)
    | 1 => exact Fin.ext (by
        show win0_0.index t 1 * 1408 + 1 * (y 0).val = win0_2.index t 0 * 1408 + 1 * (y 0).val; rw [f2])
  · funext a
    match a with
    | 0 => exact Fin.ext (by show win0_1.index t 0 * 4096 + 1 * k.val = k.val; rw [f1]; omega)
    | 1 => exact Fin.ext (by
        show win0_1.index t 1 * 512 + 1 * (y 1).val = win0_2.index t 1 * 512 + 1 * (y 1).val; rw [f3])

theorem algebraic : Cert.algebraic_GDownIdeal_GDownRefIdeal (hGDownIdeal := Cert.GDownIdeal.Gen.facts)
    (hGDownRefIdeal := Cert.GDownRefIdeal.Gen.facts) := by
  intro m g m' g' _ hagree
  refine ⟨fun c => prod (m ((c : Thread nD τ).loc main_arg0)) (m ((c : Thread nD τ).loc main_arg1)), ?_, ?_⟩
  · exact (θ_run _ _ _).mono (fun r h c => ⟨(h c).1.trans (array m c), (h c).2⟩) (Cert.GDownIdeal.Value.run_blocks m g)
  · refine (θ_run _ _ _).mono (fun r h c => ⟨(h c).1.trans ?_, (h c).2⟩) (Cert.GDownRefIdeal.Value.run m' g')
    rw [(hagree c).1, (hagree c).2]
    beta_reduce
    generalize m ((c : Thread nD τ).loc main_arg0) = a
    generalize m ((c : Thread nD τ).loc main_arg1) = b
    refine ext2 fun p q => Eq.trans ?_ (sum_comm_mul (n := 4096) (fun k => b (ix2 k q)) (fun k => a (ix2 k p)))
    pointwise

theorem frame_ideal : Cert.quiescent_GDownIdeal (hGDownIdeal := Cert.GDownIdeal.Gen.facts) :=
  fun m ρ _ => Cert.GDownIdeal.Gen.frame m ρ

theorem frame_reference : Cert.quiescent_GDownRefIdeal (hGDownRefIdeal := Cert.GDownRefIdeal.Gen.facts) :=
  fun m ρ _ => (θ_run Cert.GDownRefIdeal.defs _ _).mono
    (fun r h => ⟨fun c => (h c).2, sem_eq_zero_of_no_sems (by decide) r.2⟩) (Cert.GDownRefIdeal.Value.run m ρ)

attribute [local instance] Cert.GDown.Gen.facts

/-- The kernel and its ideal reading are one text. -/
theorem body_eq : Cert.GDown.cc0_g_down (F := Bits) = cc0_g_down (F := Bits) := rfl

theorem defs_eq : Cert.GDown.defs (F := Bits) = defs (F := Bits) := by
  unfold Cert.GDown.defs defs
  refine congrArg (Pipeline.defs (pcfgs (F := Bits))) ?_
  unfold Cert.GDown.defs₀ defs₀
  refine congrArg Defs.onTc ?_
  funext l x
  match l, x with
  | 0, (t, s) =>
    rw [body_eq]
    rfl

/-- The kernel's frame is its ideal reading's, taken at bit patterns. -/
theorem frame_kernel : Cert.quiescent_GDown (hGDown := Cert.GDown.Gen.facts) := by
  intro m ρ _
  rw [defs_eq]
  exact Cert.GDownIdeal.Gen.frame (F := Bits) m ρ

end Cert.Proof.GDown

end
-- ==== Proof.MmGGateUp.lean ====
module

public import proofs.«01_k».proof.Defs
public import proofs.«01_k».proof.Proof.Entries
public import proofs.«01_k».proof.Proof.Gen.GGateUp
public import proofs.«01_k».proof.Proof.Gen.GGateUpIdeal.Value
public import proofs.«01_k».proof.Proof.Gen.GGateUpRefIdeal.Run
public import Idealize.ShloMosaic.Lib.Pipeline.ValueKit.Geometry
public import Idealize.ShloMosaic.Adequacy
public import Idealize.ShloMosaic.Init

@[expose] public section

set_option maxRecDepth 16384

noncomputable section

namespace Cert.Proof.GGateUp

open Cert.GGateUpIdeal Cert.GGateUpIdeal.Gen Cert.Hand.Entries Idealize.ShloMosaic Idealize.ShloMosaic.TcCoe Idealize.SL.Sem

/-- The transposed product, shard by shard: every entry is the sum over the rows of both arrays. -/
def prod (a : Vec Ideal S4096x2048 .bf16) (b : Vec Ideal S2x4096x5632 .bf16) : Vec Ideal S8x2048x1408 .f32 :=
  fun y => (∑ k : Fin 4096, (a (ix2 k (y 1)) : EReal) * (b (ix3 (half (y 0)) k (col (y 0) (y 2))) : EReal) : EReal)

/-- One block of the kernel's product. -/
theorem pay (a : Vec Ideal S4096x512 .bf16) (b : Vec Ideal S1x4096x1408 .bf16) (z : Fin 1) (p : Fin 512) (q : Fin 1408) :
    (k0_pay1 (F := Ideal) a b (ix3 z p q) : EReal) = ∑ k : Fin 4096, (a (ix2 k p) : EReal) * (b (ix3 0 k q) : EReal) := by
  pointwise [k0_pay1]

theorem idx_facts : ∀ t : Fin cfg0.N,
    win0_0.index t 0 = 0 ∧ win0_0.index t 1 = win0_2.index t 1 ∧ win0_1.index t 0 = win0_2.index t 0 / 4 ∧ win0_1.index t 1 = 0 ∧
    win0_1.index t 2 = win0_2.index t 0 % 4 ∧ win0_2.index t 2 = 0 := by
  decide +kernel

/-- The array the kernel leaves is the product. -/
theorem array (m : (ℓ : Loc nD τ sig) → Buf (Elt Ideal) ℓ) (c : Dev nD) :
    (dats m 0 c).arrAt 2 cfg0.N = prod (m ((c : Thread nD τ).loc main_arg0)) (m ((c : Thread nD τ).loc main_arg1)) := by
  refine Pipeline.Dat.arrAt_eq_of_covers (dats m 0 c) 2 _ (by decide +kernel) fun t _ y => ?_
  obtain ⟨f0, f1, f2, f3, f4, f5⟩ := idx_facts t
  show (dats m 0 c).after 2 t y = _
  rw [after0_2]
  unfold out0_2
  rw [View.canon_unit_zero zero3, View.ld_unit_zero zero2, View.ld_unit_zero zero3]
  refine (congrArg (k0_pay1 (F := Ideal) (iblk m c 0 t) (iblk m c 1 t)) (eq_ix3 y)).trans ((pay _ _ (y 0) (y 1) (y 2)).trans ?_)
  have hy : (y 0).val = 0 := by have : (y 0).val < 1 := (y 0).isLt; omega
  refine sum_mul (fun k => congrArg (m ((c : Thread nD τ).loc main_arg0)) ?_) (fun k => congrArg (m ((c : Thread nD τ).loc main_arg1)) ?_)
  · funext a
    match a with
    | 0 => exact Fin.ext (by show win0_0.index t 0 * 4096 + 1 * k.val = k.val; rw [f0]; omega)
    | 1 => exact Fin.ext (by
        show win0_0.index t 1 * 512 + 1 * (y 1).val = win0_2.index t 1 * 512 + 1 * (y 1).val; rw [f1])
  · funext a
    match a with
    | 0 => exact Fin.ext (by
        show win0_1.index t 0 * 1 + 1 * 0 = (win0_2.index t 0 * 1 + 1 * (y 0).val) / 4; rw [f2, hy]; omega)
    | 1 => exact Fin.ext (by show win0_1.index t 1 * 4096 + 1 * k.val = k.val; rw [f3]; omega)
    | 2 => exact Fin.ext (by
        show win0_1.index t 2 * 1408 + 1 * (y 2).val = 1408 * ((win0_2.index t 0 * 1 + 1 * (y 0).val) % 4) + (win0_2.index t 2 * 1408 + 1 * (y 2).val)
        rw [f4, f5, hy]; omega)

theorem algebraic : Cert.algebraic_GGateUpIdeal_GGateUpRefIdeal (hGGateUpIdeal := Cert.GGateUpIdeal.Gen.facts)
    (hGGateUpRefIdeal := Cert.GGateUpRefIdeal.Gen.facts) := by
  intro m g m' g' _ hagree
  refine ⟨fun c => prod (m ((c : Thread nD τ).loc main_arg0)) (m ((c : Thread nD τ).loc main_arg1)), ?_, ?_⟩
  · exact (θ_run _ _ _).mono (fun r h c => ⟨(h c).1.trans (array m c), (h c).2⟩) (Cert.GGateUpIdeal.Value.run_blocks m g)
  · refine (θ_run _ _ _).mono (fun r h c => ⟨(h c).1.trans ?_, (h c).2⟩) (Cert.GGateUpRefIdeal.Value.run m' g')
    rw [(hagree c).1, (hagree c).2]
    beta_reduce
    generalize m ((c : Thread nD τ).loc main_arg0) = a
    generalize m ((c : Thread nD τ).loc main_arg1) = b
    refine ext3 fun s p q => ?_
    show _ = (∑ k : Fin 4096, _ : EReal)
    pointwise [prod]
    exact (sum_comm_mul (n := 4096) _ (fun k => a (ix2 k p))).trans
      (sum_mul (fun k => rfl) (fun k => pick (α := EReal) (fun h j => b (ix3 h k j)) s q _))

theorem frame_ideal : Cert.quiescent_GGateUpIdeal (hGGateUpIdeal := Cert.GGateUpIdeal.Gen.facts) :=
  fun m ρ _ => Cert.GGateUpIdeal.Gen.frame m ρ

theorem frame_reference : Cert.quiescent_GGateUpRefIdeal (hGGateUpRefIdeal := Cert.GGateUpRefIdeal.Gen.facts) :=
  fun m ρ _ => (θ_run Cert.GGateUpRefIdeal.defs _ _).mono
    (fun r h => ⟨fun c => (h c).2, sem_eq_zero_of_no_sems (by decide) r.2⟩) (Cert.GGateUpRefIdeal.Value.run m ρ)

attribute [local instance] Cert.GGateUp.Gen.facts

/-- The kernel and its ideal reading are one text. -/
theorem body_eq : Cert.GGateUp.cc0_g_gate_up (F := Bits) = cc0_g_gate_up (F := Bits) := rfl

theorem defs_eq : Cert.GGateUp.defs (F := Bits) = defs (F := Bits) := by
  unfold Cert.GGateUp.defs defs
  refine congrArg (Pipeline.defs (pcfgs (F := Bits))) ?_
  unfold Cert.GGateUp.defs₀ defs₀
  refine congrArg Defs.onTc ?_
  funext l x
  match l, x with
  | 0, (t, s) =>
    rw [body_eq]
    rfl

/-- The kernel's frame is its ideal reading's, taken at bit patterns. -/
theorem frame_kernel : Cert.quiescent_GGateUp (hGGateUp := Cert.GGateUp.Gen.facts) := by
  intro m ρ _
  rw [defs_eq]
  exact Cert.GGateUpIdeal.Gen.frame (F := Bits) m ρ

end Cert.Proof.GGateUp

end
-- ==== Proof.MmDGateUp.lean ====
module

public import proofs.«01_k».proof.Defs
public import proofs.«01_k».proof.Proof.Entries
public import proofs.«01_k».proof.Proof.BwdMain
public import proofs.«01_k».proof.Proof.Gen.DGateUp
public import proofs.«01_k».proof.Proof.Gen.DGateUpIdeal.Value
public import proofs.«01_k».proof.Proof.Gen.DGateUpRefIdeal.Run
public import Idealize.ShloMosaic.Lib.Pipeline.ValueKit.Geometry
public import Idealize.ShloMosaic.Adequacy
public import Idealize.ShloMosaic.Init

@[expose] public section

set_option maxRecDepth 16384

noncomputable section

namespace Cert.Proof.DGateUp

open Cert.DGateUpIdeal Cert.DGateUpIdeal.Gen Cert.Hand.Entries Idealize.ShloMosaic Idealize.ShloMosaic.TcCoe Idealize.SL.Sem

/-- The logistic function, as the programs compute it. -/
def sig (g : EReal) : EReal := Idealize.ShloMosaic.Ideal.div 1 (1 + Idealize.ShloMosaic.Ideal.exp (-g))

/-- The gradient at a gate value `g`, for a gradient `d` of the combination with the up value `u`. -/
def grad0 (d g u : EReal) : EReal := d * u * sig g * (1 + g * (1 - sig g))

/-- The gradient at an up value. -/
def grad1 (d g _u : EReal) : EReal := d * g * sig g

def grad (d g u : EReal) (h : Fin 2) : EReal := ![grad0 d g u, grad1 d g u] h

theorem sig_top : sig ⊤ = 1 := by
  unfold sig
  rw [EReal.neg_top, show Idealize.ShloMosaic.Ideal.exp ⊥ = 0 from rfl]
  simp [Idealize.ShloMosaic.Ideal.div]

theorem sig_bot : sig ⊥ = 0 := by
  unfold sig
  rw [EReal.neg_bot, show Idealize.ShloMosaic.Ideal.exp ⊤ = ⊤ from rfl,
    show (1 : EReal) + ⊤ = ⊤ from EReal.add_top_of_ne_bot (by exact_mod_cast EReal.coe_ne_bot 1)]
  simp [Idealize.ShloMosaic.Ideal.div]

theorem sig_coe (r : ℝ) : ∃ v : ℝ, sig (r : EReal) = (v : EReal) := by
  refine ⟨(1 + Real.exp (-r))⁻¹, ?_⟩
  have h : (1 + Real.exp (-r) : ℝ) ≠ 0 := by positivity
  unfold sig
  rw [← EReal.coe_neg, Idealize.ShloMosaic.Ideal.exp_coe, ← EReal.coe_one, ← EReal.coe_add]
  unfold Idealize.ShloMosaic.Ideal.div
  rw [if_neg (by exact_mod_cast h), ← EReal.coe_inv, EReal.coe_one, one_mul]

/-- The two ways of writing the derivative at the gate agree where the gradient times the up value is a real number. -/
theorem gate_eq (x : ℝ) (g : EReal) :
    (x : EReal) * sig g + g * (x : EReal) * (sig g * (1 - sig g)) = (x : EReal) * sig g * (1 + g * (1 - sig g)) := by
  induction g using EReal.rec with
  | bot => rw [sig_bot]; simp
  | top =>
    have h : (1 : EReal) - 1 = 0 := by
      rw [← EReal.coe_one, ← EReal.coe_sub, sub_self, EReal.coe_zero]
    rw [sig_top, h]; simp
  | coe r =>
    obtain ⟨v, hv⟩ := sig_coe r
    rw [hv]
    have h : x * v + r * x * (v * (1 - v)) = x * v * (1 + r * (1 - v)) := by ring
    exact_mod_cast congrArg Real.toEReal h

/-- A sum of products of real numbers is a real number. -/
theorem dot_real {n : ℕ} (a b : Fin n → EReal) (ha : ∀ k, a k = ((a k).toReal : EReal)) (hb : ∀ k, b k = ((b k).toReal : EReal)) :
    ∑ k, a k * b k = ((∑ k, (a k).toReal * (b k).toReal : ℝ) : EReal) := by
  have key : ∀ S : Finset (Fin n), ∑ k ∈ S, a k * b k = ((∑ k ∈ S, (a k).toReal * (b k).toReal : ℝ) : EReal) := by
    classical
    intro S
    induction S using Finset.induction_on with
    | empty => simp only [Finset.sum_empty, EReal.coe_zero]
    | insert k S hk ih =>
      rw [Finset.sum_insert hk, Finset.sum_insert hk, EReal.coe_add, EReal.coe_mul, ← ha, ← hb, ih]
  exact key _

/-- A row times a row. -/
def rdot {n l : ℕ} (a : Vec Ideal ⟨2, ![n, 2048]⟩ .bf16) (b : Vec Ideal ⟨2, ![l, 2048]⟩ .bf16) (p : Fin n) (q : Fin l) : EReal :=
  ∑ k : Fin 2048, (a (ix2 p k) : EReal) * (b (ix2 q k) : EReal)

/-- An entry of the result. -/
def entry {n l : ℕ} (a : Vec Ideal ⟨2, ![n, 2048]⟩ .bf16) (b : Vec Ideal ⟨2, ![l, 2048]⟩ .bf16) (u : Vec Ideal ⟨3, ![2, n, l]⟩ .bf16)
    (h : Fin 2) (p : Fin n) (q : Fin l) : EReal :=
  grad (rdot a b p q) (u (ix3 0 p q)) (u (ix3 1 p q)) h

theorem left3 (c : Dev nD) (i : grid0.Coords) (arg2 : Memref Cert.DGateUpIdeal.sig .tc .vmem S1024x2048 .bf16) (harg2 : arg2.IsWhole) (arg3 : Memref Cert.DGateUpIdeal.sig .tc .vmem S1408x2048 .bf16) (harg3 : arg3.IsWhole) (arg4 : Memref Cert.DGateUpIdeal.sig .tc .vmem S2x1024x1408 .bf16) (harg4 : arg4.IsWhole) (arg6 : Memref Cert.DGateUpIdeal.sig .tc .vmem S2x1024x1408 .bf16) (harg6 : arg6.IsWhole)
    (x0 : Vec Ideal S1024x2048 .bf16) (x1 : Vec Ideal S1408x2048 .bf16) (x2 : Vec Ideal S2x1024x1408 .bf16) (h : Fin 2) (p : Fin 1024) (q : Fin 1408) :
    (out0_A_3 c i arg2 harg2 arg3 harg3 arg4 harg4 arg6 harg6 x0 x1 x2 (ix3 h p q) : EReal) = entry x0 x1 x2 h p q := by
  unfold out0_A_3
  rw [View.read_writes_junk_eq_canon]
  refine View.canon_apply_of_pieces (fun y => entry x0 x1 x2 (y 0) (y 1) (y 2)) _ ?_ _ (cover0_A_3 c i arg2 harg2 arg3 harg3 arg4 harg4 arg6 harg6 x0 x1 x2 _)
  unfold kernelRun0_A
  dsimp only
  sl_unfold_words
  simp only [View.readAt_eq_ld, Memref.IsWhole.read_unread, View.ld_unit]
  intro P hP x
  simp only [List.mem_cons, List.not_mem_nil, or_false] at hP
  rcases hP with rfl | rfl | rfl | rfl
  · obtain ⟨u, p, q, rfl⟩ : ∃ (u : Fin 1) (p : Fin 1024) (q : Fin 768), x = ix3 u p q := ⟨x 0, x 1, x 2, eq_ix3 x⟩
    have e : (Rect.unit (s := S2x1024x1408) ![1, 0, 640] S1x1024x768.size inb_S2x1024x1408_S1x1024x768_1_0_640).emb (ix3 u p q) = ix3 1 p ⟨640 + q.val, by omega⟩ := by
      funext a
      match a with
      | 0 => exact Fin.ext (by show 1 + 1 * u.val = 1; omega)
      | 1 => exact Fin.ext (by show 0 + 1 * p.val = p.val; omega)
      | 2 => exact Fin.ext (by show 640 + 1 * q.val = 640 + q.val; omega)
    refine Eq.trans ?_ (congrArg (fun y : S2x1024x1408.Idx => entry x0 x1 x2 (y 0) (y 1) (y 2)) e.symm)
    refine Eq.trans ?_ (show grad1 (rdot x0 x1 p ⟨640 + q.val, by omega⟩) (x2 (ix3 0 p ⟨640 + q.val, by omega⟩)) (x2 (ix3 1 p ⟨640 + q.val, by omega⟩)) = entry x0 x1 x2 1 p ⟨640 + q.val, by omega⟩ from rfl)
    pointwise [k0_pay2, k0_pay3, k0_pay5, k0_pay7, rdot, sig, grad1]
    simp only [zero_sub, zero_add]
  · obtain ⟨u, p, q, rfl⟩ : ∃ (u : Fin 1) (p : Fin 1024) (q : Fin 768), x = ix3 u p q := ⟨x 0, x 1, x 2, eq_ix3 x⟩
    have e : (Rect.unit (s := S2x1024x1408) ![0, 0, 640] S1x1024x768.size inb_S2x1024x1408_S1x1024x768_0_0_640).emb (ix3 u p q) = ix3 0 p ⟨640 + q.val, by omega⟩ := by
      funext a
      match a with
      | 0 => exact Fin.ext (by show 0 + 1 * u.val = 0; omega)
      | 1 => exact Fin.ext (by show 0 + 1 * p.val = p.val; omega)
      | 2 => exact Fin.ext (by show 640 + 1 * q.val = 640 + q.val; omega)
    refine Eq.trans ?_ (congrArg (fun y : S2x1024x1408.Idx => entry x0 x1 x2 (y 0) (y 1) (y 2)) e.symm)
    refine Eq.trans ?_ (show grad0 (rdot x0 x1 p ⟨640 + q.val, by omega⟩) (x2 (ix3 0 p ⟨640 + q.val, by omega⟩)) (x2 (ix3 1 p ⟨640 + q.val, by omega⟩)) = entry x0 x1 x2 0 p ⟨640 + q.val, by omega⟩ from rfl)
    pointwise [k0_pay2, k0_pay3, k0_pay4, k0_pay7, rdot, sig, grad0]
    simp only [zero_sub, zero_add]
  · obtain ⟨u, p, q, rfl⟩ : ∃ (u : Fin 1) (p : Fin 1024) (q : Fin 640), x = ix3 u p q := ⟨x 0, x 1, x 2, eq_ix3 x⟩
    have e : (Rect.unit (s := S2x1024x1408) ![1, 0, 0] S1x1024x640.size inb_S2x1024x1408_S1x1024x640_1_0_0).emb (ix3 u p q) = ix3 1 p ⟨0 + q.val, by omega⟩ := by
      funext a
      match a with
      | 0 => exact Fin.ext (by show 1 + 1 * u.val = 1; omega)
      | 1 => exact Fin.ext (by show 0 + 1 * p.val = p.val; omega)
      | 2 => exact Fin.ext (by show 0 + 1 * q.val = 0 + q.val; omega)
    refine Eq.trans ?_ (congrArg (fun y : S2x1024x1408.Idx => entry x0 x1 x2 (y 0) (y 1) (y 2)) e.symm)
    refine Eq.trans ?_ (show grad1 (rdot x0 x1 p ⟨0 + q.val, by omega⟩) (x2 (ix3 0 p ⟨0 + q.val, by omega⟩)) (x2 (ix3 1 p ⟨0 + q.val, by omega⟩)) = entry x0 x1 x2 1 p ⟨0 + q.val, by omega⟩ from rfl)
    pointwise [k0_pay1, k0_pay6, k0_pay8, k0_pay9, k0_pay11, rdot, sig, grad1]
    simp only [zero_sub, zero_add]
  · obtain ⟨u, p, q, rfl⟩ : ∃ (u : Fin 1) (p : Fin 1024) (q : Fin 640), x = ix3 u p q := ⟨x 0, x 1, x 2, eq_ix3 x⟩
    have e : (Rect.unit (s := S2x1024x1408) ![0, 0, 0] S1x1024x640.size inb_S2x1024x1408_S1x1024x640_0_0_0).emb (ix3 u p q) = ix3 0 p ⟨0 + q.val, by omega⟩ := by
      funext a
      match a with
      | 0 => exact Fin.ext (by show 0 + 1 * u.val = 0; omega)
      | 1 => exact Fin.ext (by show 0 + 1 * p.val = p.val; omega)
      | 2 => exact Fin.ext (by show 0 + 1 * q.val = 0 + q.val; omega)
    refine Eq.trans ?_ (congrArg (fun y : S2x1024x1408.Idx => entry x0 x1 x2 (y 0) (y 1) (y 2)) e.symm)
    refine Eq.trans ?_ (show grad0 (rdot x0 x1 p ⟨0 + q.val, by omega⟩) (x2 (ix3 0 p ⟨0 + q.val, by omega⟩)) (x2 (ix3 1 p ⟨0 + q.val, by omega⟩)) = entry x0 x1 x2 0 p ⟨0 + q.val, by omega⟩ from rfl)
    pointwise [k0_pay6, k0_pay8, k0_pay9, k0_pay10, rdot, sig, grad0]
    simp only [zero_sub, zero_add]

theorem outs3 (m : (ℓ : Loc nD τ Cert.DGateUpIdeal.sig) → Buf (Elt Ideal) ℓ) (c : Dev nD) (t : Fin cfg0.N) :
    outsAt0 m c t = fun y => entry (iblk m c 0 t) (iblk m c 1 t) (iblk m c 2 t) (y 0) (y 1) (y 2) := by
  refine ext3 fun h p q => ?_
  unfold outsAt0
  rw [left3]
  rfl

theorem idx_facts : ∀ t : Fin cfg0.N,
    (win0_0.index t 0 = win0_3.index t 1 ∧ win0_0.index t 1 = 0) ∧
    (win0_1.index t 0 = win0_3.index t 2 ∧ win0_1.index t 1 = 0) ∧
    (win0_2.index t 0 = 0 ∧ win0_2.index t 1 = win0_3.index t 1 ∧ win0_2.index t 2 = win0_3.index t 2) ∧ win0_3.index t 0 = 0 := by
  decide +kernel

theorem rdot_block (m : (ℓ : Loc nD τ Cert.DGateUpIdeal.sig) → Buf (Elt Ideal) ℓ) (c : Dev nD) (t : Fin cfg0.N) (p : Fin 1024) (q : Fin 1408) (P : Fin 4096) (J : Fin 5632)
    (hP : P.val = win0_3.index t 1 * 1024 + 1 * p.val) (hJ : J.val = win0_3.index t 2 * 1408 + 1 * q.val) :
    rdot (iblk m c 0 t) (iblk m c 1 t) p q = rdot (m ((c : Thread nD τ).loc main_arg0)) (m ((c : Thread nD τ).loc main_arg1)) P J := by
  obtain ⟨⟨f0, f1⟩, ⟨g0, g1⟩, -⟩ := idx_facts t
  refine sum_mul (fun k => congrArg (m ((c : Thread nD τ).loc main_arg0)) ?_) (fun k => congrArg (m ((c : Thread nD τ).loc main_arg1)) ?_)
  · funext a
    match a with
    | 0 => exact Fin.ext (by show win0_0.index t 0 * 1024 + 1 * p.val = P.val; rw [f0, hP])
    | 1 => exact Fin.ext (by show win0_0.index t 1 * 2048 + 1 * k.val = k.val; rw [f1]; omega)
  · funext a
    match a with
    | 0 => exact Fin.ext (by show win0_1.index t 0 * 1408 + 1 * q.val = J.val; rw [g0, hJ])
    | 1 => exact Fin.ext (by show win0_1.index t 1 * 2048 + 1 * k.val = k.val; rw [g1]; omega)

theorem value_block (m : (ℓ : Loc nD τ Cert.DGateUpIdeal.sig) → Buf (Elt Ideal) ℓ) (c : Dev nD) (t : Fin cfg0.N) (h : Fin 2) (p : Fin 1024) (q : Fin 1408) (P : Fin 4096) (J : Fin 5632)
    (hP : P.val = win0_3.index t 1 * 1024 + 1 * p.val) (hJ : J.val = win0_3.index t 2 * 1408 + 1 * q.val) :
    (show EReal from iblk m c 2 t (ix3 h p q)) = (show EReal from m ((c : Thread nD τ).loc main_arg2) (ix3 h P J)) := by
  obtain ⟨-, -, ⟨f0, f1, f2⟩, -⟩ := idx_facts t
  refine congrArg (m ((c : Thread nD τ).loc main_arg2)) ?_
  funext a
  match a with
  | 0 => exact Fin.ext (by show win0_2.index t 0 * 2 + 1 * h.val = h.val; rw [f0]; omega)
  | 1 => exact Fin.ext (by show win0_2.index t 1 * 1024 + 1 * p.val = P.val; rw [f1, hP])
  | 2 => exact Fin.ext (by show win0_2.index t 2 * 1408 + 1 * q.val = J.val; rw [f2, hJ])

theorem entry_block (m : (ℓ : Loc nD τ Cert.DGateUpIdeal.sig) → Buf (Elt Ideal) ℓ) (c : Dev nD) (t : Fin cfg0.N) (h : Fin 2) (p : Fin 1024) (q : Fin 1408) (P : Fin 4096) (J : Fin 5632)
    (hP : P.val = win0_3.index t 1 * 1024 + 1 * p.val) (hJ : J.val = win0_3.index t 2 * 1408 + 1 * q.val) :
    entry (iblk m c 0 t) (iblk m c 1 t) (iblk m c 2 t) h p q = entry (m ((c : Thread nD τ).loc main_arg0)) (m ((c : Thread nD τ).loc main_arg1)) (m ((c : Thread nD τ).loc main_arg2)) h P J := by
  have e1 := rdot_block m c t p q P J hP hJ
  have e2 := value_block m c t 0 p q P J hP hJ
  have e3 := value_block m c t 1 p q P J hP hJ
  exact congr (congr (congr (congrArg grad e1) e2) e3) rfl

/-- The gradients at the gate values and at the up values. -/
def grads (a : Vec Ideal S4096x2048 .bf16) (b : Vec Ideal S5632x2048 .bf16) (u : Vec Ideal S2x4096x5632 .bf16) : Vec Ideal S2x4096x5632 .bf16 :=
  fun y => entry a b u (y 0) (y 1) (y 2)

theorem array3 (m : (ℓ : Loc nD τ Cert.DGateUpIdeal.sig) → Buf (Elt Ideal) ℓ) (c : Dev nD) : (dats m 0 c).arrAt 3 cfg0.N = grads (m ((c : Thread nD τ).loc main_arg0)) (m ((c : Thread nD τ).loc main_arg1)) (m ((c : Thread nD τ).loc main_arg2)) := by
  refine Pipeline.Dat.arrAt_eq_of_covers (dats m 0 c) 3 _ (by decide +kernel) fun t _ y => ?_
  obtain ⟨-, -, -, f0⟩ := idx_facts t
  show (dats m 0 c).after 3 t y = _
  rw [after0_3, outs3]
  have hH : (((cfg0.win 3).blk t).view.emb y 0 : Fin 2) = y 0 := Fin.ext (by show win0_3.index t 0 * 2 + 1 * (y 0).val = _; rw [f0]; omega)
  refine Eq.trans ?_ (congrArg (fun h : Fin 2 => entry (m ((c : Thread nD τ).loc main_arg0)) (m ((c : Thread nD τ).loc main_arg1)) (m ((c : Thread nD τ).loc main_arg2)) h (((cfg0.win 3).blk t).view.emb y 1) (((cfg0.win 3).blk t).view.emb y 2)) hH.symm)
  exact entry_block m c t (y 0) (y 1) (y 2) _ _ rfl rfl

theorem grad0_eq (d g u : EReal) (hd : d = ((d.toReal : ℝ) : EReal)) (hu : u = ((u.toReal : ℝ) : EReal)) :
    d * u * sig g + g * (d * u) * (sig g * (1 - sig g)) = grad0 d g u := by
  unfold grad0
  have h : d * u = ((d.toReal * u.toReal : ℝ) : EReal) := by rw [EReal.coe_mul, ← hd, ← hu]
  rw [h]
  exact gate_eq _ g

/-- The up half of the stored pair. -/
theorem up_at (u : FVec Ideal S2x4096x5632 .bf16) (hs : S2x4096x5632.Slices ![1, 0, 0] Cert.DGateUpRefIdeal.S1x4096x5632)
    (hc : Cert.DGateUpRefIdeal.S1x4096x5632.ShapeCasts Cert.DGateUpRefIdeal.S4096x5632) (p : Fin 4096) (q : Fin 5632) :
    (shapeCast Cert.DGateUpRefIdeal.S4096x5632 (extractStridedSlice Cert.DGateUpRefIdeal.S1x4096x5632 ![1, 0, 0] u hs) hc (ix2 p q) : EReal) = u (ix3 1 p q) := by
  pointwise

theorem up_facts : Cert.Pre_finite_up.Facts := ⟨by decide, by decide, by decide, by decide, by decide, by decide⟩

theorem algebraic : Cert.algebraic_DGateUpIdeal_DGateUpRefIdeal_pre_finite_up (hDGateUpIdeal := Cert.DGateUpIdeal.Gen.facts)
    (hDGateUpRefIdeal := Cert.DGateUpRefIdeal.Gen.facts) (hPre_finite_up := up_facts) := by
  intro m g m' g' hpre hagree
  refine ⟨fun c => grads (m ((c : Thread nD τ).loc main_arg0)) (m ((c : Thread nD τ).loc main_arg1)) (m ((c : Thread nD τ).loc main_arg2)), ?_, ?_⟩
  · exact (θ_run _ _ _).mono (fun r h c => ⟨(h c).1.trans (array3 m c), (h c).2⟩) (Cert.DGateUpIdeal.Value.run_blocks m g)
  · refine (θ_run _ _ _).mono (fun r h c => ⟨(h c).1.trans ?_, (h c).2⟩) (Cert.DGateUpRefIdeal.Value.run m' g')
    obtain ⟨p0, p1, p2⟩ := hpre c
    rw [(hagree c).1, (hagree c).2.1, (hagree c).2.2.1]
    beta_reduce
    have r0 := Cert.Hand.BwdRef.isReal_of_finite _ _ p0
    have r1 := Cert.Hand.BwdRef.isReal_of_finite _ _ p1
    have r2 := Cert.Hand.BwdRef.isReal_of_finite _ _ p2
    have ha : ∀ (p : Fin 4096) (k : Fin 2048), (show EReal from m ((c : Thread nD τ).loc main_arg0) (ix2 p k)) = ((EReal.toReal (show EReal from m ((c : Thread nD τ).loc main_arg0) (ix2 p k)) : ℝ) : EReal) := fun p k => r0 (ix2 p k)
    have hb : ∀ (p : Fin 5632) (k : Fin 2048), (show EReal from m ((c : Thread nD τ).loc main_arg1) (ix2 p k)) = ((EReal.toReal (show EReal from m ((c : Thread nD τ).loc main_arg1) (ix2 p k)) : ℝ) : EReal) := fun p k => r1 (ix2 p k)
    clear r0 r1 p0 p1 p2 hpre
    generalize m ((c : Thread nD τ).loc main_arg0) = a at ha ⊢
    generalize m ((c : Thread nD τ).loc main_arg1) = b at hb ⊢
    generalize m ((c : Thread nD τ).loc main_arg2) = u at r2 ⊢
    have hu : ∀ (p : Fin 4096) (q : Fin 5632), (show EReal from u (ix3 1 p q)) = ((EReal.toReal (show EReal from u (ix3 1 p q)) : ℝ) : EReal) := fun p q => by
      have e := up_at u (by decide) (by decide) p q
      exact (e.symm.trans (r2 (ix2 p q))).trans (congrArg (fun z : EReal => ((z.toReal : ℝ) : EReal)) e)
    refine ext3 fun h p q => ?_
    match h with
    | 0 =>
      refine Eq.trans ?_ (show grad0 (rdot a b p q) (u (ix3 0 p q)) (u (ix3 1 p q)) = grads a b u (ix3 0 p q) from rfl)
      have hd : rdot a b p q = ((EReal.toReal (rdot a b p q) : ℝ) : EReal) := by
        have h : rdot a b p q = _ := dot_real (fun k => a (ix2 p k)) (fun k => b (ix2 q k)) (ha p) (hb q)
        rw [h, EReal.toReal_coe]
      refine Eq.trans ?_ (grad0_eq _ _ _ hd (hu p q))
      pointwise [rdot, sig]
    | 1 =>
      refine Eq.trans ?_ (show grad1 (rdot a b p q) (u (ix3 0 p q)) (u (ix3 1 p q)) = grads a b u (ix3 1 p q) from rfl)
      unfold grad1
      rw [mul_assoc, mul_comm]
      pointwise [rdot, sig]

theorem frame_ideal_pre : Cert.quiescent_DGateUpIdeal_pre_finite_up (hDGateUpIdeal := Cert.DGateUpIdeal.Gen.facts) (hPre_finite_up := up_facts) :=
  fun m ρ _ => Cert.DGateUpIdeal.Gen.frame m ρ

theorem frame_reference_pre : Cert.quiescent_DGateUpRefIdeal_pre_finite_up (hDGateUpRefIdeal := Cert.DGateUpRefIdeal.Gen.facts) (hPre_finite_up := up_facts) :=
  fun m ρ _ => (θ_run Cert.DGateUpRefIdeal.defs _ _).mono
    (fun r h => ⟨fun c => (h c).2, sem_eq_zero_of_no_sems (by decide) r.2⟩) (Cert.DGateUpRefIdeal.Value.run m ρ)

theorem frame_ideal : Cert.quiescent_DGateUpIdeal (hDGateUpIdeal := Cert.DGateUpIdeal.Gen.facts) :=
  fun m ρ _ => Cert.DGateUpIdeal.Gen.frame m ρ

theorem frame_reference : Cert.quiescent_DGateUpRefIdeal (hDGateUpRefIdeal := Cert.DGateUpRefIdeal.Gen.facts) :=
  fun m ρ _ => (θ_run Cert.DGateUpRefIdeal.defs _ _).mono
    (fun r h => ⟨fun c => (h c).2, sem_eq_zero_of_no_sems (by decide) r.2⟩) (Cert.DGateUpRefIdeal.Value.run m ρ)

attribute [local instance] Cert.DGateUp.Gen.facts

/-- The kernel and its ideal reading are one text. -/
theorem body_eq : Cert.DGateUp.cc0_d_gate_up (F := Bits) = cc0_d_gate_up (F := Bits) := rfl

theorem defs_eq : Cert.DGateUp.defs (F := Bits) = defs (F := Bits) := by
  unfold Cert.DGateUp.defs defs
  refine congrArg (Pipeline.defs (pcfgs (F := Bits))) ?_
  unfold Cert.DGateUp.defs₀ defs₀
  refine congrArg Defs.onTc ?_
  funext l x
  match l, x with
  | 0, (t, s) =>
    rw [body_eq]
    rfl

/-- The kernel's frame is its ideal reading's, taken at bit patterns. -/
theorem frame_kernel : Cert.quiescent_DGateUp (hDGateUp := Cert.DGateUp.Gen.facts) := by
  intro m ρ _
  rw [defs_eq]
  exact Cert.DGateUpIdeal.Gen.frame (F := Bits) m ρ

end Cert.Proof.DGateUp

end
-- ==== Proof.MmDH2.lean ====
module

public import proofs.«01_k».proof.Defs
public import proofs.«01_k».proof.Proof.Entries
public import proofs.«01_k».proof.Proof.Gen.DH2
public import proofs.«01_k».proof.Proof.Gen.DH2Ideal.Value
public import proofs.«01_k».proof.Proof.Gen.DH2RefIdeal.Run
public import Idealize.ShloMosaic.Lib.Pipeline.ValueKit.Geometry
public import Idealize.ShloMosaic.Adequacy
public import Idealize.ShloMosaic.Init

@[expose] public section

set_option maxRecDepth 16384

noncomputable section

namespace Cert.Proof.DH2

open Cert.DH2Ideal Cert.DH2Ideal.Gen Cert.Hand.Entries Idealize.ShloMosaic Idealize.ShloMosaic.TcCoe Idealize.SL.Sem

/-- The product of the two halves' gradients with the transposed shards, summed over all shards. -/
def prod (a : Vec Ideal S2x4096x5632 .bf16) (b : Vec Ideal S8x2048x1408 .bf16) : Vec Ideal S4096x2048 .f32 :=
  fun y => (∑ s : Fin 8, ∑ k : Fin 1408, (a (ix3 (half s) (y 0) (col s k)) : EReal) * (b (ix3 s (y 1) k) : EReal) : EReal)

/-- One shard's part of an entry of the block. -/
def part (x : Vec Ideal S1x512x5632 .bf16) (w : Vec Ideal S8x512x1408 .bf16) (p q : Fin 512) (o : ℕ) (ho : o + 1408 ≤ 5632) (s : Fin 8) : EReal :=
  ∑ k : Fin 1408, (x (ix3 0 p ⟨o + k.val, by omega⟩) : EReal) * (w (ix3 s q k) : EReal)

/-- What the body leaves is the block's product, shard by shard. -/
theorem left (c : Dev nD) (i : grid0.Coords) (arg2 : Memref sig .tc .vmem S1x512x5632 .bf16) (harg2 : arg2.IsWhole)
    (arg3 : Memref sig .tc .vmem S1x512x5632 .bf16) (harg3 : arg3.IsWhole) (arg4 : Memref sig .tc .vmem S8x512x1408 .bf16) (harg4 : arg4.IsWhole)
    (arg6 : Memref sig .tc .vmem S512x512 .f32) (harg6 : arg6.IsWhole)
    (x0 : Vec Ideal S1x512x5632 .bf16) (x1 : Vec Ideal S1x512x5632 .bf16) (x2 : Vec Ideal S8x512x1408 .bf16) (p q : Fin 512) :
    (out0_A_3 c i arg2 harg2 arg3 harg3 arg4 harg4 arg6 harg6 x0 x1 x2 (ix2 p q) : EReal)
      = part x0 x2 p q 0 (by decide) 0 + part x0 x2 p q 1408 (by decide) 1 + part x0 x2 p q 2816 (by decide) 2 + part x0 x2 p q 4224 (by decide) 3
        + part x1 x2 p q 0 (by decide) 4 + part x1 x2 p q 1408 (by decide) 5 + part x1 x2 p q 2816 (by decide) 6 + part x1 x2 p q 4224 (by decide) 7 := by
  unfold out0_A_3 kernelRun0_A
  dsimp only
  sl_unfold_words
  simp only [View.readAt_eq_ld, Memref.IsWhole.read_unread]
  rw [View.read_writes_junk_eq_canon, View.canon_unit_zero zero2]
  simp only [View.ld_unit]
  pointwise [k0_pay1, k0_pay2, k0_pay3, part]

theorem idx_facts : ∀ t : Fin cfg0.N,
    (win0_0.index t 0 = 0 ∧ win0_0.index t 1 = win0_3.index t 0 ∧ win0_0.index t 2 = 0) ∧
    (win0_1.index t 0 = 1 ∧ win0_1.index t 1 = win0_3.index t 0 ∧ win0_1.index t 2 = 0) ∧
    (win0_2.index t 0 = 0 ∧ win0_2.index t 1 = win0_3.index t 1 ∧ win0_2.index t 2 = 0) := by
  decide +kernel

/-- One shard's part, read from the arrays. -/
theorem part_eq (m : (ℓ : Loc nD τ sig) → Buf (Elt Ideal) ℓ) (c : Dev nD) (t : Fin cfg0.N) (p q : Fin 512) (P : Fin 4096) (Q : Fin 2048)
    (a : Vec Ideal S2x4096x5632 .bf16) (b : Vec Ideal S8x2048x1408 .bf16) (eb : m ((c : Thread nD τ).loc main_arg1) = b)
    (hQ : Q.val = win0_3.index t 1 * 512 + 1 * q.val) (s : Fin 8) (o : ℕ) (ho : o + 1408 ≤ 5632)
    (eo : o = 1408 * (s.val % 4)) (x : Vec Ideal S1x512x5632 .bf16)
    (hx : ∀ k : Fin 5632, x (ix3 0 p k) = a (ix3 (half s) P k)) :
    part x (iblk m c 2 t) p q o ho s
      = ∑ k : Fin 1408, (show EReal from a (ix3 (half s) P (col s k))) * (show EReal from b (ix3 s Q k)) := by
  subst eo eb
  obtain ⟨-, -, f0, f1, f2⟩ := idx_facts t
  refine sum_mul (fun k => hx _) (fun k => congrArg (m ((c : Thread nD τ).loc main_arg1)) ?_)
  funext a
  match a with
  | 0 => exact Fin.ext (by show win0_2.index t 0 * 8 + 1 * s.val = s.val; rw [f0]; omega)
  | 1 => exact Fin.ext (by show win0_2.index t 1 * 512 + 1 * q.val = Q.val; rw [f1, hQ])
  | 2 => exact Fin.ext (by show win0_2.index t 2 * 1408 + 1 * k.val = k.val; rw [f2]; omega)

/-- The array the kernel leaves is the product. -/
theorem array (m : (ℓ : Loc nD τ sig) → Buf (Elt Ideal) ℓ) (c : Dev nD) :
    (dats m 0 c).arrAt 3 cfg0.N = prod (m ((c : Thread nD τ).loc main_arg0)) (m ((c : Thread nD τ).loc main_arg1)) := by
  refine Pipeline.Dat.arrAt_eq_of_covers (dats m 0 c) 3 _ (by decide +kernel) fun t _ y => ?_
  obtain ⟨⟨f0, f1, f2⟩, ⟨g0, g1, g2⟩, -⟩ := idx_facts t
  show (dats m 0 c).after 3 t y = _
  rw [after0_3]
  unfold outsAt0
  refine (congrArg (out0_A_3 c (grid0.coords t) (ms0_0 t) (hs0_0 t) (ms0_1 t) (hs0_1 t) (ms0_2 t) (hs0_2 t) (ms0_3 t) (hs0_3 t) (iblk m c 0 t) (iblk m c 1 t) (iblk m c 2 t)) (eq_ix2 y)).trans ?_
  refine (left _ _ _ _ _ _ _ _ _ _ _ _ _ (y 0) (y 1)).trans ?_
  have h0 : ∀ (s : Fin 8), s.val < 4 → ∀ k : Fin 5632, ((iblk m c 0 t : Vec Ideal S1x512x5632 .bf16) (ix3 0 (y 0) k) : EReal)
      = (m ((c : Thread nD τ).loc main_arg0) : Vec Ideal S2x4096x5632 .bf16) (ix3 (half s) (((cfg0.win 3).blk t).view.emb y 0) k) := by
    intro s hs k
    refine congrArg (m ((c : Thread nD τ).loc main_arg0)) ?_
    funext a
    match a with
    | 0 => exact Fin.ext (by show win0_0.index t 0 * 1 + 1 * 0 = s.val / 4; rw [f0]; omega)
    | 1 => exact Fin.ext (by show win0_0.index t 1 * 512 + 1 * (y 0).val = win0_3.index t 0 * 512 + 1 * (y 0).val; rw [f1])
    | 2 => exact Fin.ext (by show win0_0.index t 2 * 5632 + 1 * k.val = k.val; rw [f2]; omega)
  have h1 : ∀ (s : Fin 8), 4 ≤ s.val → ∀ k : Fin 5632, ((iblk m c 1 t : Vec Ideal S1x512x5632 .bf16) (ix3 0 (y 0) k) : EReal)
      = (m ((c : Thread nD τ).loc main_arg0) : Vec Ideal S2x4096x5632 .bf16) (ix3 (half s) (((cfg0.win 3).blk t).view.emb y 0) k) := by
    intro s hs k
    refine congrArg (m ((c : Thread nD τ).loc main_arg0)) ?_
    funext a
    match a with
    | 0 => exact Fin.ext (by show win0_1.index t 0 * 1 + 1 * 0 = s.val / 4; rw [g0]; omega)
    | 1 => exact Fin.ext (by show win0_1.index t 1 * 512 + 1 * (y 0).val = win0_3.index t 0 * 512 + 1 * (y 0).val; rw [g1])
    | 2 => exact Fin.ext (by show win0_1.index t 2 * 5632 + 1 * k.val = k.val; rw [g2]; omega)
  have E := fun s o ho eo x hx => part_eq m c t (y 0) (y 1) (((cfg0.win 3).blk t).view.emb y 0) (((cfg0.win 3).blk t).view.emb y 1) (m ((c : Thread nD τ).loc main_arg0)) _ rfl rfl s o ho eo x hx
  unfold prod
  rw [Fin.sum_univ_eight, E 0 _ _ (by decide) _ (h0 0 (by decide)), E 1 _ _ (by decide) _ (h0 1 (by decide)), E 2 _ _ (by decide) _ (h0 2 (by decide)),
    E 3 _ _ (by decide) _ (h0 3 (by decide)), E 4 _ _ (by decide) _ (h1 4 (by decide)), E 5 _ _ (by decide) _ (h1 5 (by decide)),
    E 6 _ _ (by decide) _ (h1 6 (by decide)), E 7 _ _ (by decide) _ (h1 7 (by decide))]

theorem algebraic : Cert.algebraic_DH2Ideal_DH2RefIdeal (hDH2Ideal := Cert.DH2Ideal.Gen.facts)
    (hDH2RefIdeal := Cert.DH2RefIdeal.Gen.facts) := by
  intro m g m' g' _ hagree
  refine ⟨fun c => prod (m ((c : Thread nD τ).loc main_arg0)) (m ((c : Thread nD τ).loc main_arg1)), ?_, ?_⟩
  · exact (θ_run _ _ _).mono (fun r h c => ⟨(h c).1.trans (array m c), (h c).2⟩) (Cert.DH2Ideal.Value.run_blocks m g)
  · refine (θ_run _ _ _).mono (fun r h c => ⟨(h c).1.trans ?_, (h c).2⟩) (Cert.DH2RefIdeal.Value.run m' g')
    rw [(hagree c).1, (hagree c).2.1]
    beta_reduce
    generalize m ((c : Thread nD τ).loc main_arg0) = a
    generalize m ((c : Thread nD τ).loc main_arg1) = b
    refine ext2 fun p q => ?_
    have E : prod a b (ix2 p q) = (∑ s : Fin 8, ∑ k : Fin 1408, (show EReal from a (ix3 (half s) p (col s k))) * (show EReal from b (ix3 s q k)) : EReal) := rfl
    rw [E]
    refine Eq.trans ?_ ((sum_shards (fun z : Fin 11264 => (show EReal from (if h : z.val < 5632 then a (ix3 0 p ⟨z.val, h⟩) else a (ix3 1 p ⟨z.val - 5632, by omega⟩))) * (show EReal from b (ix3 ⟨z.val / 1408, by omega⟩ q ⟨z.val % 1408, by omega⟩)))).trans (Finset.sum_congr rfl fun s _ => ?_))
    · pointwise
    · refine sum_mul (fun k => pick (fun h j => a (ix3 h p j)) s k _) (fun k => congrArg b ?_)
      funext d
      match d with
      | 0 => exact Fin.ext (by show (s.val * 1408 + k.val) / 1408 = s.val; omega)
      | 1 => rfl
      | 2 => exact Fin.ext (by show (s.val * 1408 + k.val) % 1408 = k.val; omega)

theorem frame_ideal : Cert.quiescent_DH2Ideal (hDH2Ideal := Cert.DH2Ideal.Gen.facts) :=
  fun m ρ _ => Cert.DH2Ideal.Gen.frame m ρ

theorem frame_reference : Cert.quiescent_DH2RefIdeal (hDH2RefIdeal := Cert.DH2RefIdeal.Gen.facts) :=
  fun m ρ _ => (θ_run Cert.DH2RefIdeal.defs _ _).mono
    (fun r h => ⟨fun c => (h c).2, sem_eq_zero_of_no_sems (by decide) r.2⟩) (Cert.DH2RefIdeal.Value.run m ρ)

attribute [local instance] Cert.DH2.Gen.facts

/-- The kernel and its ideal reading are one text. -/
theorem body_eq : Cert.DH2.cc0_d_h2 (F := Bits) = cc0_d_h2 (F := Bits) := rfl

theorem defs_eq : Cert.DH2.defs (F := Bits) = defs (F := Bits) := by
  unfold Cert.DH2.defs defs
  refine congrArg (Pipeline.defs (pcfgs (F := Bits))) ?_
  unfold Cert.DH2.defs₀ defs₀
  refine congrArg Defs.onTc ?_
  funext l x
  match l, x with
  | 0, (t, s) =>
    rw [body_eq]
    rfl

/-- The kernel's frame is its ideal reading's, taken at bit patterns. -/
theorem frame_kernel : Cert.quiescent_DH2 (hDH2 := Cert.DH2.Gen.facts) := by
  intro m ρ _
  rw [defs_eq]
  exact Cert.DH2Ideal.Gen.frame (F := Bits) m ρ

end Cert.Proof.DH2

end
-- ==== Proof.MmGOut.lean ====
module

public import proofs.«01_k».proof.Defs
public import proofs.«01_k».proof.Proof.Entries
public import proofs.«01_k».proof.Proof.Gen.GOut
public import proofs.«01_k».proof.Proof.Gen.GOutIdeal.Value
public import proofs.«01_k».proof.Proof.Gen.GOutRefIdeal.Run
public import Idealize.ShloMosaic.Lib.Pipeline.ValueKit.Geometry
public import Idealize.ShloMosaic.Adequacy
public import Idealize.ShloMosaic.Init

@[expose] public section

set_option maxRecDepth 16384

noncomputable section

namespace Cert.Proof.GOut

open Cert.GOutIdeal Cert.GOutIdeal.Gen Cert.Hand.Entries Idealize.ShloMosaic Idealize.ShloMosaic.TcCoe Idealize.SL.Sem

/-- The transposed product: every entry is the sum over the rows of both arrays. -/
def prod (a : Vec Ideal S4096x2048 .bf16) (b : Vec Ideal S4096x2048 .bf16) : Vec Ideal S2048x2048 .f32 :=
  fun y => (∑ k : Fin 4096, (a (ix2 k (y 0)) : EReal) * (b (ix2 k (y 1)) : EReal) : EReal)

/-- One block of the kernel's product. -/
theorem pay (a : Vec Ideal S4096x512 .bf16) (b : Vec Ideal S4096x2048 .bf16) (p : Fin 512) (q : Fin 2048) :
    (k0_pay1 (F := Ideal) a b (ix2 p q) : EReal) = ∑ k : Fin 4096, (a (ix2 k p) : EReal) * (b (ix2 k q) : EReal) := by
  pointwise [k0_pay1]

theorem idx_facts : ∀ t : Fin cfg0.N,
    win0_0.index t 0 = 0 ∧ win0_1.index t 0 = 0 ∧ win0_0.index t 1 = win0_2.index t 0 ∧ win0_1.index t 1 = win0_2.index t 1 := by
  decide +kernel

/-- The array the kernel leaves is the product. -/
theorem array (m : (ℓ : Loc nD τ sig) → Buf (Elt Ideal) ℓ) (c : Dev nD) :
    (dats m 0 c).arrAt 2 cfg0.N = prod (m ((c : Thread nD τ).loc main_arg0)) (m ((c : Thread nD τ).loc main_arg1)) := by
  refine Pipeline.Dat.arrAt_eq_of_covers (dats m 0 c) 2 _ (by decide +kernel) fun t _ y => ?_
  obtain ⟨f0, f1, f2, f3⟩ := idx_facts t
  show (dats m 0 c).after 2 t y = _
  rw [after0_2]
  unfold out0_2
  rw [View.canon_unit_zero zero2, View.ld_unit_zero zero2, View.ld_unit_zero zero2]
  refine (congrArg (k0_pay1 (F := Ideal) (iblk m c 0 t) (iblk m c 1 t)) (eq_ix2 y)).trans ((pay _ _ (y 0) (y 1)).trans ?_)
  refine sum_mul (fun k => congrArg (m ((c : Thread nD τ).loc main_arg0)) ?_) (fun k => congrArg (m ((c : Thread nD τ).loc main_arg1)) ?_)
  · funext a
    match a with
    | 0 => exact Fin.ext (by show win0_0.index t 0 * 4096 + 1 * k.val = k.val; rw [f0]; omega)
    | 1 => exact Fin.ext (by
        show win0_0.index t 1 * 512 + 1 * (y 0).val = win0_2.index t 0 * 512 + 1 * (y 0).val; rw [f2])
  · funext a
    match a with
    | 0 => exact Fin.ext (by show win0_1.index t 0 * 4096 + 1 * k.val = k.val; rw [f1]; omega)
    | 1 => exact Fin.ext (by
        show win0_1.index t 1 * 2048 + 1 * (y 1).val = win0_2.index t 1 * 2048 + 1 * (y 1).val; rw [f3])

theorem algebraic : Cert.algebraic_GOutIdeal_GOutRefIdeal (hGOutIdeal := Cert.GOutIdeal.Gen.facts)
    (hGOutRefIdeal := Cert.GOutRefIdeal.Gen.facts) := by
  intro m g m' g' _ hagree
  refine ⟨fun c => prod (m ((c : Thread nD τ).loc main_arg0)) (m ((c : Thread nD τ).loc main_arg1)), ?_, ?_⟩
  · exact (θ_run _ _ _).mono (fun r h c => ⟨(h c).1.trans (array m c), (h c).2⟩) (Cert.GOutIdeal.Value.run_blocks m g)
  · refine (θ_run _ _ _).mono (fun r h c => ⟨(h c).1.trans ?_, (h c).2⟩) (Cert.GOutRefIdeal.Value.run m' g')
    rw [(hagree c).1, (hagree c).2]
    beta_reduce
    generalize m ((c : Thread nD τ).loc main_arg0) = a
    generalize m ((c : Thread nD τ).loc main_arg1) = b
    refine ext2 fun p q => Eq.trans ?_ (sum_comm_mul (n := 4096) (fun k => b (ix2 k q)) (fun k => a (ix2 k p)))
    pointwise

theorem frame_ideal : Cert.quiescent_GOutIdeal (hGOutIdeal := Cert.GOutIdeal.Gen.facts) :=
  fun m ρ _ => Cert.GOutIdeal.Gen.frame m ρ

theorem frame_reference : Cert.quiescent_GOutRefIdeal (hGOutRefIdeal := Cert.GOutRefIdeal.Gen.facts) :=
  fun m ρ _ => (θ_run Cert.GOutRefIdeal.defs _ _).mono
    (fun r h => ⟨fun c => (h c).2, sem_eq_zero_of_no_sems (by decide) r.2⟩) (Cert.GOutRefIdeal.Value.run m ρ)

attribute [local instance] Cert.GOut.Gen.facts

/-- The kernel and its ideal reading are one text. -/
theorem body_eq : Cert.GOut.cc0_g_out (F := Bits) = cc0_g_out (F := Bits) := rfl

theorem defs_eq : Cert.GOut.defs (F := Bits) = defs (F := Bits) := by
  unfold Cert.GOut.defs defs
  refine congrArg (Pipeline.defs (pcfgs (F := Bits))) ?_
  unfold Cert.GOut.defs₀ defs₀
  refine congrArg Defs.onTc ?_
  funext l x
  match l, x with
  | 0, (t, s) =>
    rw [body_eq]
    rfl

/-- The kernel's frame is its ideal reading's, taken at bit patterns. -/
theorem frame_kernel : Cert.quiescent_GOut (hGOut := Cert.GOut.Gen.facts) := by
  intro m ρ _
  rw [defs_eq]
  exact Cert.GOutIdeal.Gen.frame (F := Bits) m ρ

end Cert.Proof.GOut

end
-- ==== Proof.MmGIn.lean ====
module

public import proofs.«01_k».proof.Defs
public import proofs.«01_k».proof.Proof.Entries
public import proofs.«01_k».proof.Proof.Gen.GIn
public import proofs.«01_k».proof.Proof.Gen.GInIdeal.Value
public import proofs.«01_k».proof.Proof.Gen.GInRefIdeal.Run
public import Idealize.ShloMosaic.Lib.Pipeline.ValueKit.Geometry
public import Idealize.ShloMosaic.Adequacy
public import Idealize.ShloMosaic.Init

@[expose] public section

set_option maxRecDepth 16384

noncomputable section

namespace Cert.Proof.GIn

open Cert.GInIdeal Cert.GInIdeal.Gen Cert.Hand.Entries Idealize.ShloMosaic Idealize.ShloMosaic.TcCoe Idealize.SL.Sem

/-- The transposed product: every entry is the sum over the rows of both arrays. -/
def prod (a : Vec Ideal S4096x7296 .bf16) (b : Vec Ideal S4096x2048 .bf16) : Vec Ideal S7296x2048 .bf16 :=
  fun y => (∑ k : Fin 4096, (a (ix2 k (y 0)) : EReal) * (b (ix2 k (y 1)) : EReal) : EReal)

/-- One block of the kernel's product. -/
theorem pay (a : Vec Ideal S4096x384 .bf16) (b : Vec Ideal S4096x2048 .bf16) (p : Fin 384) (q : Fin 2048) :
    (k0_pay1 (F := Ideal) a b (ix2 p q) : EReal) = ∑ k : Fin 4096, (a (ix2 k p) : EReal) * (b (ix2 k q) : EReal) := by
  pointwise [k0_pay1]

theorem idx_facts : ∀ t : Fin cfg0.N,
    win0_0.index t 0 = 0 ∧ win0_1.index t 0 = 0 ∧ win0_0.index t 1 = win0_2.index t 0 ∧ win0_1.index t 1 = win0_2.index t 1 := by
  decide +kernel

/-- The array the kernel leaves is the product. -/
theorem array (m : (ℓ : Loc nD τ sig) → Buf (Elt Ideal) ℓ) (c : Dev nD) :
    (dats m 0 c).arrAt 2 cfg0.N = prod (m ((c : Thread nD τ).loc main_arg0)) (m ((c : Thread nD τ).loc main_arg1)) := by
  refine Pipeline.Dat.arrAt_eq_of_covers (dats m 0 c) 2 _ (by decide +kernel) fun t _ y => ?_
  obtain ⟨f0, f1, f2, f3⟩ := idx_facts t
  show (dats m 0 c).after 2 t y = _
  rw [after0_2]
  unfold out0_2
  rw [View.canon_unit_zero zero2, View.ld_unit_zero zero2, View.ld_unit_zero zero2]
  refine (congrArg (k0_pay1 (F := Ideal) (iblk m c 0 t) (iblk m c 1 t)) (eq_ix2 y)).trans ((pay _ _ (y 0) (y 1)).trans ?_)
  refine sum_mul (fun k => congrArg (m ((c : Thread nD τ).loc main_arg0)) ?_) (fun k => congrArg (m ((c : Thread nD τ).loc main_arg1)) ?_)
  · funext a
    match a with
    | 0 => exact Fin.ext (by show win0_0.index t 0 * 4096 + 1 * k.val = k.val; rw [f0]; omega)
    | 1 => exact Fin.ext (by
        show win0_0.index t 1 * 384 + 1 * (y 0).val = win0_2.index t 0 * 384 + 1 * (y 0).val; rw [f2])
  · funext a
    match a with
    | 0 => exact Fin.ext (by show win0_1.index t 0 * 4096 + 1 * k.val = k.val; rw [f1]; omega)
    | 1 => exact Fin.ext (by
        show win0_1.index t 1 * 2048 + 1 * (y 1).val = win0_2.index t 1 * 2048 + 1 * (y 1).val; rw [f3])

theorem algebraic : Cert.algebraic_GInIdeal_GInRefIdeal (hGInIdeal := Cert.GInIdeal.Gen.facts)
    (hGInRefIdeal := Cert.GInRefIdeal.Gen.facts) := by
  intro m g m' g' _ hagree
  refine ⟨fun c => prod (m ((c : Thread nD τ).loc main_arg0)) (m ((c : Thread nD τ).loc main_arg1)), ?_, ?_⟩
  · exact (θ_run _ _ _).mono (fun r h c => ⟨(h c).1.trans (array m c), (h c).2⟩) (Cert.GInIdeal.Value.run_blocks m g)
  · refine (θ_run _ _ _).mono (fun r h c => ⟨(h c).1.trans ?_, (h c).2⟩) (Cert.GInRefIdeal.Value.run m' g')
    rw [(hagree c).1, (hagree c).2]
    beta_reduce
    generalize m ((c : Thread nD τ).loc main_arg0) = a
    generalize m ((c : Thread nD τ).loc main_arg1) = b
    refine ext2 fun p q => ?_
    show _ = (∑ k : Fin 4096, _ : EReal)
    pointwise [prod]

theorem frame_ideal : Cert.quiescent_GInIdeal (hGInIdeal := Cert.GInIdeal.Gen.facts) :=
  fun m ρ _ => Cert.GInIdeal.Gen.frame m ρ

theorem frame_reference : Cert.quiescent_GInRefIdeal (hGInRefIdeal := Cert.GInRefIdeal.Gen.facts) :=
  fun m ρ _ => (θ_run Cert.GInRefIdeal.defs _ _).mono
    (fun r h => ⟨fun c => (h c).2, sem_eq_zero_of_no_sems (by decide) r.2⟩) (Cert.GInRefIdeal.Value.run m ρ)

attribute [local instance] Cert.GIn.Gen.facts

/-- The kernel and its ideal reading are one text. -/
theorem body_eq : Cert.GIn.cc0_g_in (F := Bits) = cc0_g_in (F := Bits) := rfl

theorem defs_eq : Cert.GIn.defs (F := Bits) = defs (F := Bits) := by
  unfold Cert.GIn.defs defs
  refine congrArg (Pipeline.defs (pcfgs (F := Bits))) ?_
  unfold Cert.GIn.defs₀ defs₀
  refine congrArg Defs.onTc ?_
  funext l x
  match l, x with
  | 0, (t, s) =>
    rw [body_eq]
    rfl

/-- The kernel's frame is its ideal reading's, taken at bit patterns. -/
theorem frame_kernel : Cert.quiescent_GIn (hGIn := Cert.GIn.Gen.facts) := by
  intro m ρ _
  rw [defs_eq]
  exact Cert.GInIdeal.Gen.frame (F := Bits) m ρ

end Cert.Proof.GIn

end
-- ==== Proof.MmDH1.lean ====
module

public import proofs.«01_k».proof.Defs
public import proofs.«01_k».proof.Proof.Entries
public import proofs.«01_k».proof.Proof.Gen.DH1
public import proofs.«01_k».proof.Proof.Gen.DH1Ideal.Value
public import proofs.«01_k».proof.Proof.Gen.DH1RefIdeal.Run
public import Idealize.ShloMosaic.Lib.Pipeline.ValueKit.Geometry
public import Idealize.ShloMosaic.Adequacy
public import Idealize.ShloMosaic.Init

@[expose] public section

set_option maxRecDepth 16384

noncomputable section

namespace Cert.Proof.DH1

open Cert.DH1Ideal Cert.DH1Ideal.Gen Cert.Hand.Entries Idealize.ShloMosaic Idealize.ShloMosaic.TcCoe Idealize.SL.Sem

/-- The product of a matrix and a transposed matrix. -/
def prod (a : Vec Ideal S4096x7296 .bf16) (b : Vec Ideal S2048x7296 .bf16) : Vec Ideal S4096x2048 .f32 :=
  fun y => (∑ k : Fin 7296, (a (ix2 (y 0) k) : EReal) * (b (ix2 (y 1) k) : EReal) : EReal)

/-- One block of the kernel's product. -/
theorem pay (a : Vec Ideal S512x7296 .bf16) (b : Vec Ideal S1024x7296 .bf16) (p : Fin 512) (q : Fin 1024) :
    (k0_pay1 (F := Ideal) a b (ix2 p q) : EReal) = ∑ k : Fin 7296, (a (ix2 p k) : EReal) * (b (ix2 q k) : EReal) := by
  pointwise [k0_pay1]

/-- What the body leaves is the block's product. -/
theorem left (c : Dev nD) (i : grid0.Coords) (arg3 : Memref sig .tc .vmem S512x7296 .bf16) (harg3 : arg3.IsWhole)
    (arg4 : Memref sig .tc .vmem S1024x7296 .bf16) (harg4 : arg4.IsWhole) (arg6 : Memref sig .tc .vmem S512x1024 .f32) (harg6 : arg6.IsWhole)
    (x0 : Vec Ideal S512x7296 .bf16) (x1 : Vec Ideal S1024x7296 .bf16) :
    out0_A_2 c i arg3 harg3 arg4 harg4 arg6 harg6 x0 x1 = k0_pay1 x0 x1 := by
  unfold out0_A_2 kernelRun0_A
  dsimp only
  simp only [View.readAt_eq_ld, Memref.IsWhole.read_unread]
  rw [View.read_writes_junk_eq_canon, View.canon_unit_zero zero2, View.ld_unit_zero zero2, View.ld_unit_zero zero2]

theorem idx_facts : ∀ t : Fin cfg0.N,
    win0_0.index t 1 = 0 ∧ win0_1.index t 1 = 0 ∧ win0_0.index t 0 = win0_2.index t 0 ∧ win0_1.index t 0 = win0_2.index t 1 := by
  decide +kernel

/-- The array the kernel leaves is the product. -/
theorem array (m : (ℓ : Loc nD τ sig) → Buf (Elt Ideal) ℓ) (c : Dev nD) :
    (dats m 0 c).arrAt 2 cfg0.N = prod (m ((c : Thread nD τ).loc main_arg0)) (m ((c : Thread nD τ).loc main_arg1)) := by
  refine Pipeline.Dat.arrAt_eq_of_covers (dats m 0 c) 2 _ (by decide +kernel) fun t _ y => ?_
  obtain ⟨f0, f1, f2, f3⟩ := idx_facts t
  show (dats m 0 c).after 2 t y = _
  rw [after0_2]
  unfold outsAt0
  rw [left]
  refine (congrArg (k0_pay1 (F := Ideal) (iblk m c 0 t) (iblk m c 1 t)) (eq_ix2 y)).trans ((pay _ _ (y 0) (y 1)).trans ?_)
  refine sum_mul (fun k => congrArg (m ((c : Thread nD τ).loc main_arg0)) ?_) (fun k => congrArg (m ((c : Thread nD τ).loc main_arg1)) ?_)
  · funext a
    match a with
    | 0 => exact Fin.ext (by
        show win0_0.index t 0 * 512 + 1 * (y 0).val = win0_2.index t 0 * 512 + 1 * (y 0).val; rw [f2])
    | 1 => exact Fin.ext (by show win0_0.index t 1 * 7296 + 1 * k.val = k.val; rw [f0]; omega)
  · funext a
    match a with
    | 0 => exact Fin.ext (by
        show win0_1.index t 0 * 1024 + 1 * (y 1).val = win0_2.index t 1 * 1024 + 1 * (y 1).val; rw [f3])
    | 1 => exact Fin.ext (by show win0_1.index t 1 * 7296 + 1 * k.val = k.val; rw [f1]; omega)

theorem algebraic : Cert.algebraic_DH1Ideal_DH1RefIdeal (hDH1Ideal := Cert.DH1Ideal.Gen.facts)
    (hDH1RefIdeal := Cert.DH1RefIdeal.Gen.facts) := by
  intro m g m' g' _ hagree
  refine ⟨fun c => prod (m ((c : Thread nD τ).loc main_arg0)) (m ((c : Thread nD τ).loc main_arg1)), ?_, ?_⟩
  · exact (θ_run _ _ _).mono (fun r h c => ⟨(h c).1.trans (array m c), (h c).2⟩) (Cert.DH1Ideal.Value.run_blocks m g)
  · refine (θ_run _ _ _).mono (fun r h c => ⟨(h c).1.trans ?_, (h c).2⟩) (Cert.DH1RefIdeal.Value.run m' g')
    rw [(hagree c).1, (hagree c).2.1]
    beta_reduce
    generalize m ((c : Thread nD τ).loc main_arg0) = a
    generalize m ((c : Thread nD τ).loc main_arg1) = b
    refine ext2 fun p q => ?_
    show _ = (∑ k : Fin 7296, _ : EReal)
    pointwise [prod]

theorem frame_ideal : Cert.quiescent_DH1Ideal (hDH1Ideal := Cert.DH1Ideal.Gen.facts) :=
  fun m ρ _ => Cert.DH1Ideal.Gen.frame m ρ

theorem frame_reference : Cert.quiescent_DH1RefIdeal (hDH1RefIdeal := Cert.DH1RefIdeal.Gen.facts) :=
  fun m ρ _ => (θ_run Cert.DH1RefIdeal.defs _ _).mono
    (fun r h => ⟨fun c => (h c).2, sem_eq_zero_of_no_sems (by decide) r.2⟩) (Cert.DH1RefIdeal.Value.run m ρ)

attribute [local instance] Cert.DH1.Gen.facts

/-- The kernel and its ideal reading are one text. -/
theorem body_eq : Cert.DH1.cc0_d_h1 (F := Bits) = cc0_d_h1 (F := Bits) := rfl

theorem defs_eq : Cert.DH1.defs (F := Bits) = defs (F := Bits) := by
  unfold Cert.DH1.defs defs
  refine congrArg (Pipeline.defs (pcfgs (F := Bits))) ?_
  unfold Cert.DH1.defs₀ defs₀
  refine congrArg Defs.onTc ?_
  funext l x
  match l, x with
  | 0, (t, s) =>
    rw [body_eq]
    rfl

/-- The kernel's frame is its ideal reading's, taken at bit patterns. -/
theorem frame_kernel : Cert.quiescent_DH1 (hDH1 := Cert.DH1.Gen.facts) := by
  intro m ρ _
  rw [defs_eq]
  exact Cert.DH1Ideal.Gen.frame (F := Bits) m ρ

end Cert.Proof.DH1

end
-- ==== Proof.MmInProj.lean ====
module

public import proofs.«01_k».proof.Defs
public import proofs.«01_k».proof.Proof.Entries
public import proofs.«01_k».proof.Proof.Gen.InProj
public import proofs.«01_k».proof.Proof.Gen.InProjIdeal.Value
public import proofs.«01_k».proof.Proof.Gen.InProjRefIdeal.Run
public import Idealize.ShloMosaic.Lib.Pipeline.ValueKit.Geometry
public import Idealize.ShloMosaic.Adequacy
public import Idealize.ShloMosaic.Init

@[expose] public section

set_option maxRecDepth 16384

noncomputable section

namespace Cert.Proof.InProj

open Cert.InProjIdeal Cert.InProjIdeal.Gen Cert.Hand.Entries Idealize.ShloMosaic Idealize.ShloMosaic.TcCoe Idealize.SL.Sem

/-- The product of two matrices. -/
def prod (a : Vec Ideal S4096x2048 .bf16) (b : Vec Ideal S2048x7296 .bf16) : Vec Ideal S4096x7296 .f32 :=
  fun y => (∑ k : Fin 2048, (a (ix2 (y 0) k) : EReal) * (b (ix2 k (y 1)) : EReal) : EReal)

/-- One block of the kernel's product. -/
theorem pay (a : Vec Ideal S1024x2048 .bf16) (b : Vec Ideal S2048x2432 .bf16) (p : Fin 1024) (q : Fin 2432) :
    (k0_pay1 (F := Ideal) a b (ix2 p q) : EReal) = ∑ k : Fin 2048, (a (ix2 p k) : EReal) * (b (ix2 k q) : EReal) := by
  pointwise [k0_pay1]

theorem idx_facts : ∀ t : Fin cfg0.N,
    win0_0.index t 1 = 0 ∧ win0_1.index t 0 = 0 ∧ win0_0.index t 0 = win0_2.index t 0 ∧ win0_1.index t 1 = win0_2.index t 1 := by
  decide +kernel

/-- The array the kernel leaves is the product. -/
theorem array (m : (ℓ : Loc nD τ sig) → Buf (Elt Ideal) ℓ) (c : Dev nD) :
    (dats m 0 c).arrAt 2 cfg0.N = prod (m ((c : Thread nD τ).loc main_arg0)) (m ((c : Thread nD τ).loc main_arg1)) := by
  refine Pipeline.Dat.arrAt_eq_of_covers (dats m 0 c) 2 _ (by decide +kernel) fun t _ y => ?_
  obtain ⟨f0, f1, f2, f3⟩ := idx_facts t
  show (dats m 0 c).after 2 t y = _
  rw [after0_2]
  unfold out0_2
  rw [View.canon_unit_zero zero2, View.ld_unit_zero zero2, View.ld_unit_zero zero2]
  refine (congrArg (k0_pay1 (F := Ideal) (iblk m c 0 t) (iblk m c 1 t)) (eq_ix2 y)).trans ((pay _ _ (y 0) (y 1)).trans ?_)
  refine sum_mul (fun k => congrArg (m ((c : Thread nD τ).loc main_arg0)) ?_) (fun k => congrArg (m ((c : Thread nD τ).loc main_arg1)) ?_)
  · funext a
    match a with
    | 0 => exact Fin.ext (by
        show win0_0.index t 0 * 1024 + 1 * (y 0).val = win0_2.index t 0 * 1024 + 1 * (y 0).val; rw [f2])
    | 1 => exact Fin.ext (by show win0_0.index t 1 * 2048 + 1 * k.val = k.val; rw [f0]; omega)
  · funext a
    match a with
    | 0 => exact Fin.ext (by show win0_1.index t 0 * 2048 + 1 * k.val = k.val; rw [f1]; omega)
    | 1 => exact Fin.ext (by
        show win0_1.index t 1 * 2432 + 1 * (y 1).val = win0_2.index t 1 * 2432 + 1 * (y 1).val; rw [f3])

theorem algebraic : Cert.algebraic_InProjIdeal_InProjRefIdeal (hInProjIdeal := Cert.InProjIdeal.Gen.facts)
    (hInProjRefIdeal := Cert.InProjRefIdeal.Gen.facts) := by
  intro m g m' g' _ hagree
  refine ⟨fun c => prod (m ((c : Thread nD τ).loc main_arg0)) (m ((c : Thread nD τ).loc main_arg1)), ?_, ?_⟩
  · exact (θ_run _ _ _).mono (fun r h c => ⟨(h c).1.trans (array m c), (h c).2⟩) (Cert.InProjIdeal.Value.run_blocks m g)
  · refine (θ_run _ _ _).mono (fun r h c => ⟨(h c).1.trans ?_, (h c).2⟩) (Cert.InProjRefIdeal.Value.run m' g')
    rw [(hagree c).1, (hagree c).2]
    beta_reduce
    generalize m ((c : Thread nD τ).loc main_arg0) = a
    generalize m ((c : Thread nD τ).loc main_arg1) = b
    refine ext2 fun p q => ?_
    show _ = (∑ k : Fin 2048, _ : EReal)
    pointwise [prod]

theorem frame_ideal : Cert.quiescent_InProjIdeal (hInProjIdeal := Cert.InProjIdeal.Gen.facts) :=
  fun m ρ _ => Cert.InProjIdeal.Gen.frame m ρ

theorem frame_reference : Cert.quiescent_InProjRefIdeal (hInProjRefIdeal := Cert.InProjRefIdeal.Gen.facts) :=
  fun m ρ _ => (θ_run Cert.InProjRefIdeal.defs _ _).mono
    (fun r h => ⟨fun c => (h c).2, sem_eq_zero_of_no_sems (by decide) r.2⟩) (Cert.InProjRefIdeal.Value.run m ρ)

attribute [local instance] Cert.InProj.Gen.facts

/-- The kernel and its ideal reading are one text. -/
theorem body_eq : Cert.InProj.cc0_in_proj (F := Bits) = cc0_in_proj (F := Bits) := rfl

theorem defs_eq : Cert.InProj.defs (F := Bits) = defs (F := Bits) := by
  unfold Cert.InProj.defs defs
  refine congrArg (Pipeline.defs (pcfgs (F := Bits))) ?_
  unfold Cert.InProj.defs₀ defs₀
  refine congrArg Defs.onTc ?_
  funext l x
  match l, x with
  | 0, (t, s) =>
    rw [body_eq]
    rfl

/-- The kernel's frame is its ideal reading's, taken at bit patterns. -/
theorem frame_kernel : Cert.quiescent_InProj (hInProj := Cert.InProj.Gen.facts) := by
  intro m ρ _
  rw [defs_eq]
  exact Cert.InProjIdeal.Gen.frame (F := Bits) m ρ

end Cert.Proof.InProj

end
-- ==== Proof.MmGateUp.lean ====
module

public import proofs.«01_k».proof.Defs
public import proofs.«01_k».proof.Proof.Entries
public import proofs.«01_k».proof.Proof.Gen.GateUp
public import proofs.«01_k».proof.Proof.Gen.GateUpIdeal.Value
public import proofs.«01_k».proof.Proof.Gen.GateUpRefIdeal.Run
public import Idealize.ShloMosaic.Lib.Pipeline.ValueKit.Geometry
public import Idealize.ShloMosaic.Adequacy
public import Idealize.ShloMosaic.Init

@[expose] public section

set_option maxRecDepth 16384

noncomputable section

namespace Cert.Proof.GateUp

open Cert.GateUpIdeal Cert.GateUpIdeal.Gen Cert.Hand.Entries Idealize.ShloMosaic Idealize.ShloMosaic.TcCoe Idealize.SL.Sem

/-- A row times a column of one shard's block. -/
def bdot (x : Vec Ideal S512x2048 .bf16) (w : Vec Ideal S1x2048x1408 .bf16) (p : Fin 512) (q : Fin 1408) : EReal :=
  ∑ k : Fin 2048, (x (ix2 p k) : EReal) * (w (ix3 0 k q) : EReal)

/-- The activation of a gate and an up value. -/
def act (g u : EReal) : EReal := g * Idealize.ShloMosaic.Ideal.div 1 (1 + Idealize.ShloMosaic.Ideal.exp (-g)) * u

theorem left4 (c : Dev nD) (i : grid0.Coords) (arg2 : Memref sig .tc .vmem S512x2048 .bf16) (harg2 : arg2.IsWhole) (arg3 : Memref sig .tc .vmem S1x2048x1408 .bf16) (harg3 : arg3.IsWhole)
    (arg4 : Memref sig .tc .vmem S1x2048x1408 .bf16) (harg4 : arg4.IsWhole) (arg5 : Memref sig .tc .vmem S2x512x1408 .bf16) (harg5 : arg5.IsWhole)
    (arg6 : Memref sig .tc .vmem S512x1408 .bf16) (harg6 : arg6.IsWhole)
    (x0 : Vec Ideal S512x2048 .bf16) (x1 : Vec Ideal S1x2048x1408 .bf16) (x2 : Vec Ideal S1x2048x1408 .bf16) (p : Fin 512) (q : Fin 1408) :
    (out0_A_4 c i arg2 harg2 arg3 harg3 arg4 harg4 arg5 harg5 arg6 harg6 x0 x1 x2 (ix2 p q) : EReal) = act (bdot x0 x1 p q) (bdot x0 x2 p q) := by
  unfold out0_A_4
  rw [View.read_writes_junk_eq_canon]
  refine View.canon_apply_of_pieces (fun y => act (bdot x0 x1 (y 0) (y 1)) (bdot x0 x2 (y 0) (y 1))) _ ?_ _ (cover0_A_4 c i arg2 harg2 arg3 harg3 arg4 harg4 arg5 harg5 arg6 harg6 x0 x1 x2 _)
  unfold kernelRun0_A
  dsimp only
  sl_unfold_words
  simp only [View.readAt_eq_ld, Memref.IsWhole.read_unread, View.ld_unit]
  intro P hP x
  simp only [List.mem_cons, List.not_mem_nil, or_false] at hP
  rcases hP with rfl | rfl
  · obtain ⟨p, q, rfl⟩ : ∃ (p : Fin 512) (q : Fin 768), x = ix2 p q := ⟨x 0, x 1, eq_ix2 x⟩
    have e : (Rect.unit (s := S512x1408) ![0, 640] S512x768.size inb_S512x1408_S512x768_0_640).emb (ix2 p q) = ix2 p ⟨640 + q.val, by omega⟩ := by
      funext a
      match a with
      | 0 => exact Fin.ext (by show 0 + 1 * p.val = p.val; omega)
      | 1 => exact Fin.ext (by show 640 + 1 * q.val = 640 + q.val; omega)
    refine Eq.trans ?_ (congrArg (fun y : S512x1408.Idx => act (bdot x0 x1 (y 0) (y 1)) (bdot x0 x2 (y 0) (y 1))) e.symm)
    pointwise [k0_pay4, k0_pay6, k0_pay8, act, bdot]
    simp only [zero_sub, zero_add]
  · obtain ⟨p, q, rfl⟩ : ∃ (p : Fin 512) (q : Fin 640), x = ix2 p q := ⟨x 0, x 1, eq_ix2 x⟩
    have e : (Rect.unit (s := S512x1408) ![0, 0] S512x640.size inb_S512x1408_S512x640_0_0).emb (ix2 p q) = ix2 p ⟨0 + q.val, by omega⟩ := by
      funext a
      match a with
      | 0 => exact Fin.ext (by show 0 + 1 * p.val = p.val; omega)
      | 1 => exact Fin.ext (by show 0 + 1 * q.val = 0 + q.val; omega)
    refine Eq.trans ?_ (congrArg (fun y : S512x1408.Idx => act (bdot x0 x1 (y 0) (y 1)) (bdot x0 x2 (y 0) (y 1))) e.symm)
    pointwise [k0_pay1, k0_pay5, k0_pay7, k0_pay11, act, bdot]
    simp only [zero_sub, zero_add]

theorem left3 (c : Dev nD) (i : grid0.Coords) (arg2 : Memref sig .tc .vmem S512x2048 .bf16) (harg2 : arg2.IsWhole) (arg3 : Memref sig .tc .vmem S1x2048x1408 .bf16) (harg3 : arg3.IsWhole)
    (arg4 : Memref sig .tc .vmem S1x2048x1408 .bf16) (harg4 : arg4.IsWhole) (arg5 : Memref sig .tc .vmem S2x512x1408 .bf16) (harg5 : arg5.IsWhole)
    (arg6 : Memref sig .tc .vmem S512x1408 .bf16) (harg6 : arg6.IsWhole)
    (x0 : Vec Ideal S512x2048 .bf16) (x1 : Vec Ideal S1x2048x1408 .bf16) (x2 : Vec Ideal S1x2048x1408 .bf16) (h : Fin 2) (p : Fin 512) (q : Fin 1408) :
    (out0_A_3 c i arg2 harg2 arg3 harg3 arg4 harg4 arg5 harg5 arg6 harg6 x0 x1 x2 (ix3 h p q) : EReal) = bdot x0 (![x1, x2] h) p q := by
  unfold out0_A_3
  rw [View.read_writes_junk_eq_canon]
  refine View.canon_apply_of_pieces (fun y => bdot x0 (![x1, x2] (y 0)) (y 1) (y 2)) _ ?_ _ (cover0_A_3 c i arg2 harg2 arg3 harg3 arg4 harg4 arg5 harg5 arg6 harg6 x0 x1 x2 _)
  unfold kernelRun0_A
  dsimp only
  sl_unfold_words
  simp only [View.readAt_eq_ld, Memref.IsWhole.read_unread, View.ld_unit]
  intro P hP x
  simp only [List.mem_cons, List.not_mem_nil, or_false] at hP
  rcases hP with rfl | rfl | rfl | rfl
  · obtain ⟨u, p, q, rfl⟩ : ∃ (u : Fin 1) (p : Fin 512) (q : Fin 768), x = ix3 u p q := ⟨x 0, x 1, x 2, eq_ix3 x⟩
    have e : (Rect.unit (s := S2x512x1408) ![1, 0, 640] S1x512x768.size inb_S2x512x1408_S1x512x768_1_0_640).emb (ix3 u p q) = ix3 1 p ⟨640 + q.val, by omega⟩ := by
      funext a
      match a with
      | 0 => exact Fin.ext (by show 1 + 1 * u.val = 1; omega)
      | 1 => exact Fin.ext (by show 0 + 1 * p.val = p.val; omega)
      | 2 => exact Fin.ext (by show 640 + 1 * q.val = 640 + q.val; omega)
    refine Eq.trans ?_ (congrArg (fun y : S2x512x1408.Idx => bdot x0 (![x1, x2] (y 0)) (y 1) (y 2)) e.symm)
    show _ = bdot x0 x2 p ⟨640 + q.val, _⟩
    pointwise [k0_pay3, k0_pay8, bdot]
  · obtain ⟨u, p, q, rfl⟩ : ∃ (u : Fin 1) (p : Fin 512) (q : Fin 768), x = ix3 u p q := ⟨x 0, x 1, x 2, eq_ix3 x⟩
    have e : (Rect.unit (s := S2x512x1408) ![0, 0, 640] S1x512x768.size inb_S2x512x1408_S1x512x768_0_0_640).emb (ix3 u p q) = ix3 0 p ⟨640 + q.val, by omega⟩ := by
      funext a
      match a with
      | 0 => exact Fin.ext (by show 0 + 1 * u.val = 0; omega)
      | 1 => exact Fin.ext (by show 0 + 1 * p.val = p.val; omega)
      | 2 => exact Fin.ext (by show 640 + 1 * q.val = 640 + q.val; omega)
    refine Eq.trans ?_ (congrArg (fun y : S2x512x1408.Idx => bdot x0 (![x1, x2] (y 0)) (y 1) (y 2)) e.symm)
    show _ = bdot x0 x1 p ⟨640 + q.val, _⟩
    pointwise [k0_pay2, k0_pay6, bdot]
  · obtain ⟨u, p, q, rfl⟩ : ∃ (u : Fin 1) (p : Fin 512) (q : Fin 640), x = ix3 u p q := ⟨x 0, x 1, x 2, eq_ix3 x⟩
    have e : (Rect.unit (s := S2x512x1408) ![1, 0, 0] S1x512x640.size inb_S2x512x1408_S1x512x640_1_0_0).emb (ix3 u p q) = ix3 1 p ⟨0 + q.val, by omega⟩ := by
      funext a
      match a with
      | 0 => exact Fin.ext (by show 1 + 1 * u.val = 1; omega)
      | 1 => exact Fin.ext (by show 0 + 1 * p.val = p.val; omega)
      | 2 => exact Fin.ext (by show 0 + 1 * q.val = 0 + q.val; omega)
    refine Eq.trans ?_ (congrArg (fun y : S2x512x1408.Idx => bdot x0 (![x1, x2] (y 0)) (y 1) (y 2)) e.symm)
    show _ = bdot x0 x2 p ⟨0 + q.val, _⟩
    pointwise [k0_pay10, k0_pay7, bdot]
  · obtain ⟨u, p, q, rfl⟩ : ∃ (u : Fin 1) (p : Fin 512) (q : Fin 640), x = ix3 u p q := ⟨x 0, x 1, x 2, eq_ix3 x⟩
    have e : (Rect.unit (s := S2x512x1408) ![0, 0, 0] S1x512x640.size inb_S2x512x1408_S1x512x640_0_0_0).emb (ix3 u p q) = ix3 0 p ⟨0 + q.val, by omega⟩ := by
      funext a
      match a with
      | 0 => exact Fin.ext (by show 0 + 1 * u.val = 0; omega)
      | 1 => exact Fin.ext (by show 0 + 1 * p.val = p.val; omega)
      | 2 => exact Fin.ext (by show 0 + 1 * q.val = 0 + q.val; omega)
    refine Eq.trans ?_ (congrArg (fun y : S2x512x1408.Idx => bdot x0 (![x1, x2] (y 0)) (y 1) (y 2)) e.symm)
    show _ = bdot x0 x1 p ⟨0 + q.val, _⟩
    pointwise [k0_pay9, k0_pay5, bdot]

/-- A row times a column of the shards laid side by side, the gate's half or the up half. -/
def gdot (a : Vec Ideal S4096x2048 .bf16) (b : Vec Ideal S8x2048x1408 .bf16) (h : Fin 2) (p : Fin 4096) (j : Fin 5632) : EReal :=
  ∑ k : Fin 2048, (a (ix2 p k) : EReal) * (b (ix3 ⟨4 * h.val + j.val / 1408, by omega⟩ k ⟨j.val % 1408, by omega⟩) : EReal)

theorem up_idx (q : Fin 5632) (k : Fin 2048) (h0 : (5632 + q.val) / 1408 < 8) (h1 : (5632 + q.val) % 1408 < 1408)
    (h2 : 4 + q.val / 1408 < 8) (h3 : q.val % 1408 < 1408) :
    (ix3 ⟨(5632 + q.val) / 1408, h0⟩ k ⟨(5632 + q.val) % 1408, h1⟩ : (⟨3, ![8, 2048, 1408]⟩ : Shape).Idx)
      = ix3 ⟨4 + q.val / 1408, h2⟩ k ⟨q.val % 1408, h3⟩ := by
  funext a
  match a with
  | 0 => exact Fin.ext (by show (5632 + q.val) / 1408 = 4 + q.val / 1408; omega)
  | 1 => rfl
  | 2 => exact Fin.ext (by show (5632 + q.val) % 1408 = q.val % 1408; omega)

def gates (a : Vec Ideal S4096x2048 .bf16) (b : Vec Ideal S8x2048x1408 .bf16) : Vec Ideal S2x4096x5632 .bf16 :=
  fun y => gdot a b (y 0) (y 1) (y 2)

def acts (a : Vec Ideal S4096x2048 .bf16) (b : Vec Ideal S8x2048x1408 .bf16) : Vec Ideal S4096x5632 .bf16 :=
  fun y => act (gdot a b 0 (y 0) (y 1)) (gdot a b 1 (y 0) (y 1))

theorem idx_facts : ∀ t : Fin cfg0.N,
    (win0_0.index t 0 = win0_4.index t 0 ∧ win0_0.index t 1 = 0) ∧
    (win0_1.index t 0 = win0_4.index t 1 ∧ win0_1.index t 1 = 0 ∧ win0_1.index t 2 = 0) ∧
    (win0_2.index t 0 = 4 + win0_4.index t 1 ∧ win0_2.index t 1 = 0 ∧ win0_2.index t 2 = 0) ∧
    (win0_3.index t 0 = 0 ∧ win0_3.index t 1 = win0_4.index t 0 ∧ win0_3.index t 2 = win0_4.index t 1) := by
  decide +kernel

theorem bdot_gate (m : (ℓ : Loc nD τ sig) → Buf (Elt Ideal) ℓ) (c : Dev nD) (t : Fin cfg0.N) (p : Fin 512) (q : Fin 1408) (P : Fin 4096) (J : Fin 5632)
    (hP : P.val = win0_4.index t 0 * 512 + 1 * p.val) (hJ : J.val = win0_4.index t 1 * 1408 + 1 * q.val) :
    bdot (iblk m c 0 t) (iblk m c 1 t) p q = gdot (m ((c : Thread nD τ).loc main_arg0)) (m ((c : Thread nD τ).loc main_arg1)) 0 P J := by
  obtain ⟨⟨f0, f1⟩, ⟨g0, g1, g2⟩, -, -⟩ := idx_facts t
  refine sum_mul (fun k => congrArg (m ((c : Thread nD τ).loc main_arg0)) ?_) (fun k => congrArg (m ((c : Thread nD τ).loc main_arg1)) ?_)
  · funext a
    match a with
    | 0 => exact Fin.ext (by show win0_0.index t 0 * 512 + 1 * p.val = P.val; rw [f0, hP])
    | 1 => exact Fin.ext (by show win0_0.index t 1 * 2048 + 1 * k.val = k.val; rw [f1]; omega)
  · funext a
    match a with
    | 0 => exact Fin.ext (by show win0_1.index t 0 * 1 + 1 * 0 = 4 * 0 + J.val / 1408; rw [g0, hJ]; omega)
    | 1 => exact Fin.ext (by show win0_1.index t 1 * 2048 + 1 * k.val = k.val; rw [g1]; omega)
    | 2 => exact Fin.ext (by show win0_1.index t 2 * 1408 + 1 * q.val = J.val % 1408; rw [g2, hJ]; omega)

theorem bdot_up (m : (ℓ : Loc nD τ sig) → Buf (Elt Ideal) ℓ) (c : Dev nD) (t : Fin cfg0.N) (p : Fin 512) (q : Fin 1408) (P : Fin 4096) (J : Fin 5632)
    (hP : P.val = win0_4.index t 0 * 512 + 1 * p.val) (hJ : J.val = win0_4.index t 1 * 1408 + 1 * q.val) :
    bdot (iblk m c 0 t) (iblk m c 2 t) p q = gdot (m ((c : Thread nD τ).loc main_arg0)) (m ((c : Thread nD τ).loc main_arg1)) 1 P J := by
  obtain ⟨⟨f0, f1⟩, -, ⟨g0, g1, g2⟩, -⟩ := idx_facts t
  refine sum_mul (fun k => congrArg (m ((c : Thread nD τ).loc main_arg0)) ?_) (fun k => congrArg (m ((c : Thread nD τ).loc main_arg1)) ?_)
  · funext a
    match a with
    | 0 => exact Fin.ext (by show win0_0.index t 0 * 512 + 1 * p.val = P.val; rw [f0, hP])
    | 1 => exact Fin.ext (by show win0_0.index t 1 * 2048 + 1 * k.val = k.val; rw [f1]; omega)
  · funext a
    match a with
    | 0 => exact Fin.ext (by show win0_2.index t 0 * 1 + 1 * 0 = 4 * 1 + J.val / 1408; rw [g0, hJ]; omega)
    | 1 => exact Fin.ext (by show win0_2.index t 1 * 2048 + 1 * k.val = k.val; rw [g1]; omega)
    | 2 => exact Fin.ext (by show win0_2.index t 2 * 1408 + 1 * q.val = J.val % 1408; rw [g2, hJ]; omega)

theorem outs4 (m : (ℓ : Loc nD τ sig) → Buf (Elt Ideal) ℓ) (c : Dev nD) (t : Fin cfg0.N) :
    (outsAt0 m c t).2 = fun y => act (bdot (iblk m c 0 t) (iblk m c 1 t) (y 0) (y 1)) (bdot (iblk m c 0 t) (iblk m c 2 t) (y 0) (y 1)) := by
  refine ext2 fun p q => ?_
  unfold outsAt0
  dsimp only
  rw [left4]
  rfl

theorem outs3 (m : (ℓ : Loc nD τ sig) → Buf (Elt Ideal) ℓ) (c : Dev nD) (t : Fin cfg0.N) :
    (outsAt0 m c t).1 = fun y => bdot (iblk m c 0 t) (![iblk m c 1 t, iblk m c 2 t] (y 0)) (y 1) (y 2) := by
  refine ext3 fun h p q => ?_
  unfold outsAt0
  dsimp only
  rw [left3]
  rfl

/-- The activation array the kernel leaves. -/
theorem array4 (m : (ℓ : Loc nD τ sig) → Buf (Elt Ideal) ℓ) (c : Dev nD) :
    (dats m 0 c).arrAt 4 cfg0.N = acts (m ((c : Thread nD τ).loc main_arg0)) (m ((c : Thread nD τ).loc main_arg1)) := by
  refine Pipeline.Dat.arrAt_eq_of_covers (dats m 0 c) 4 _ (by decide +kernel) fun t _ y => ?_
  show (dats m 0 c).after 4 t y = _
  rw [after0_4, outs4]
  exact congrArg₂ act
    (bdot_gate m c t (y 0) (y 1) (((cfg0.win 4).blk t).view.emb y 0) (((cfg0.win 4).blk t).view.emb y 1) rfl rfl)
    (bdot_up m c t (y 0) (y 1) (((cfg0.win 4).blk t).view.emb y 0) (((cfg0.win 4).blk t).view.emb y 1) rfl rfl)

/-- The array of gate and up values the kernel leaves. -/
theorem array3 (m : (ℓ : Loc nD τ sig) → Buf (Elt Ideal) ℓ) (c : Dev nD) :
    (dats m 0 c).arrAt 3 cfg0.N = gates (m ((c : Thread nD τ).loc main_arg0)) (m ((c : Thread nD τ).loc main_arg1)) := by
  refine Pipeline.Dat.arrAt_eq_of_covers (dats m 0 c) 3 _ (by decide +kernel) fun t _ y => ?_
  obtain ⟨-, -, -, f0, f1, f2⟩ := idx_facts t
  show (dats m 0 c).after 3 t y = _
  rw [after0_3, outs3]
  have hP : (((cfg0.win 3).blk t).view.emb y 1 : Fin 4096).val = win0_4.index t 0 * 512 + 1 * (y 1).val := by
    show win0_3.index t 1 * 512 + 1 * (y 1).val = _
    rw [f1]
  have hJ : (((cfg0.win 3).blk t).view.emb y 2 : Fin 5632).val = win0_4.index t 1 * 1408 + 1 * (y 2).val := by
    show win0_3.index t 2 * 1408 + 1 * (y 2).val = _
    rw [f2]
  have hH : (((cfg0.win 3).blk t).view.emb y 0 : Fin 2) = y 0 := Fin.ext (by show win0_3.index t 0 * 2 + 1 * (y 0).val = _; rw [f0]; omega)
  refine Eq.trans ?_ (congrArg (fun h : Fin 2 => gdot (m ((c : Thread nD τ).loc main_arg0)) (m ((c : Thread nD τ).loc main_arg1)) h (((cfg0.win 3).blk t).view.emb y 1) (((cfg0.win 3).blk t).view.emb y 2)) hH.symm)
  have E : ∀ h : Fin 2, bdot (iblk m c 0 t) (![iblk m c 1 t, iblk m c 2 t] h) (y 1) (y 2)
      = gdot (m ((c : Thread nD τ).loc main_arg0)) (m ((c : Thread nD τ).loc main_arg1)) h (((cfg0.win 3).blk t).view.emb y 1) (((cfg0.win 3).blk t).view.emb y 2) := fun h =>
    match h with
    | 0 => bdot_gate m c t (y 1) (y 2) _ _ hP hJ
    | 1 => bdot_up m c t (y 1) (y 2) _ _ hP hJ
  exact E (y 0)

theorem algebraic : Cert.algebraic_GateUpIdeal_GateUpRefIdeal (hGateUpIdeal := Cert.GateUpIdeal.Gen.facts)
    (hGateUpRefIdeal := Cert.GateUpRefIdeal.Gen.facts) := by
  intro m g m' g' _ hagree
  refine ⟨fun c => gates (m ((c : Thread nD τ).loc main_arg0)) (m ((c : Thread nD τ).loc main_arg1)),
    fun c => acts (m ((c : Thread nD τ).loc main_arg0)) (m ((c : Thread nD τ).loc main_arg1)), ?_, ?_⟩
  · exact (θ_run _ _ _).mono (fun r h c => ⟨(h c).1.trans (array3 m c), (h c).2.1.trans (array4 m c), (h c).2.2⟩) (Cert.GateUpIdeal.Value.run_blocks m g)
  · refine (θ_run _ _ _).mono (fun r h c => ⟨(h c).1.trans ?_, (h c).2.1.trans ?_, (h c).2.2⟩) (Cert.GateUpRefIdeal.Value.run m' g')
    · rw [(hagree c).1, (hagree c).2]
      beta_reduce
      generalize m ((c : Thread nD τ).loc main_arg0) = a
      generalize m ((c : Thread nD τ).loc main_arg1) = b
      refine ext3 fun h p q => ?_
      match h with
      | 0 =>
        refine Eq.trans ?_ (show gdot a b 0 p q = gates a b (ix3 0 p q) from rfl)
        pointwise [gdot]
      | 1 =>
        refine Eq.trans ?_ (show gdot a b 1 p q = gates a b (ix3 1 p q) from rfl)
        pointwise [gdot]
        refine Finset.sum_congr rfl fun k _ => congrArg (fun y => (show EReal from a (ix2 p k)) * (show EReal from b y)) ?_
        exact up_idx q k _ _ _ _
    · rw [(hagree c).1, (hagree c).2]
      beta_reduce
      generalize m ((c : Thread nD τ).loc main_arg0) = a
      generalize m ((c : Thread nD τ).loc main_arg1) = b
      refine ext2 fun p q => ?_
      show _ = act (gdot a b 0 p q) (gdot a b 1 p q)
      pointwise [act, gdot]
      refine congrArg (_ * ·) (Finset.sum_congr rfl fun k _ => congrArg (fun y => (show EReal from a (ix2 p k)) * (show EReal from b y)) ?_)
      exact up_idx q k _ _ _ _

theorem frame_ideal : Cert.quiescent_GateUpIdeal (hGateUpIdeal := Cert.GateUpIdeal.Gen.facts) :=
  fun m ρ _ => Cert.GateUpIdeal.Gen.frame m ρ

theorem frame_reference : Cert.quiescent_GateUpRefIdeal (hGateUpRefIdeal := Cert.GateUpRefIdeal.Gen.facts) :=
  fun m ρ _ => (θ_run Cert.GateUpRefIdeal.defs _ _).mono
    (fun r h => ⟨fun c => (h c).2.2, sem_eq_zero_of_no_sems (by decide) r.2⟩) (Cert.GateUpRefIdeal.Value.run m ρ)

attribute [local instance] Cert.GateUp.Gen.facts

/-- The kernel and its ideal reading are one text. -/
theorem body_eq : Cert.GateUp.cc0_gate_up (F := Bits) = cc0_gate_up (F := Bits) := rfl

theorem defs_eq : Cert.GateUp.defs (F := Bits) = defs (F := Bits) := by
  unfold Cert.GateUp.defs defs
  refine congrArg (Pipeline.defs (pcfgs (F := Bits))) ?_
  unfold Cert.GateUp.defs₀ defs₀
  refine congrArg Defs.onTc ?_
  funext l x
  match l, x with
  | 0, (t, s) =>
    rw [body_eq]
    rfl

/-- The kernel's frame is its ideal reading's, taken at bit patterns. -/
theorem frame_kernel : Cert.quiescent_GateUp (hGateUp := Cert.GateUp.Gen.facts) := by
  intro m ρ _
  rw [defs_eq]
  exact Cert.GateUpIdeal.Gen.frame (F := Bits) m ρ

end Cert.Proof.GateUp

end
-- ==== Proof.MmOutProj.lean ====
module

public import proofs.«01_k».proof.Defs
public import proofs.«01_k».proof.Proof.Entries
public import proofs.«01_k».proof.Proof.Gen.OutProj
public import proofs.«01_k».proof.Proof.Gen.OutProjIdeal.Value
public import proofs.«01_k».proof.Proof.Gen.OutProjRefIdeal.Run
public import Idealize.ShloMosaic.Lib.Pipeline.ValueKit.Geometry
public import Idealize.ShloMosaic.Adequacy
public import Idealize.ShloMosaic.Init

@[expose] public section

set_option maxRecDepth 16384

noncomputable section

namespace Cert.Proof.OutProj

open Cert.OutProjIdeal Cert.OutProjIdeal.Gen Cert.Hand.Entries Idealize.ShloMosaic Idealize.ShloMosaic.TcCoe Idealize.SL.Sem

/-- An entry of the residual stream: the input plus a row times a column. -/
def res {n : ℕ} (a : Vec Ideal ⟨2, ![n, 2048]⟩ .bf16) (b : Vec Ideal S2048x2048 .bf16) (x : Vec Ideal ⟨2, ![n, 2048]⟩ .f32) (p : Fin n) (q : Fin 2048) : EReal :=
  (x (ix2 p q) : EReal) + ∑ k : Fin 2048, (a (ix2 p k) : EReal) * (b (ix2 k q) : EReal)

theorem pay1 (a : Vec Ideal S512x2048 .bf16) (b : Vec Ideal S2048x2048 .bf16) (x : Vec Ideal S512x2048 .f32) (p : Fin 512) (q : Fin 2048) :
    (k0_pay1 (F := Ideal) x a b (ix2 p q) : EReal) = res a b x p q := by
  pointwise [k0_pay1, res]

/-- An entry of the normalised stream: the row's entry over the root of the row's mean square, times the weight. -/
def normed (r : Fin 2048 → EReal) (w : EReal) (q : Fin 2048) : EReal :=
  r q * Idealize.ShloMosaic.Ideal.rsqrt (Idealize.ShloMosaic.Ideal.div (∑ k : Fin 2048, r k * r k) (Idealize.ShloMosaic.Ideal.ofBits .f32 0x45000000#32)
    + Idealize.ShloMosaic.Ideal.ofBits .f32 0x358637BD#32) * w

theorem pay2 (a : Vec Ideal S512x2048 .bf16) (b : Vec Ideal S2048x2048 .bf16) (x : Vec Ideal S512x2048 .f32) (w : Vec Ideal S1x2048 .f32) (p : Fin 512) (q : Fin 2048) :
    (k0_pay2 (F := Ideal) x a b w (ix2 p q) : EReal) = normed (res a b x p) (w (ix2 0 q)) q := by
  have e : res a b x p = fun q => (k0_pay1 (F := Ideal) x a b (ix2 p q) : EReal) := funext fun q => (pay1 a b x p q).symm
  rw [e]
  unfold k0_pay2
  generalize k0_pay1 (F := Ideal) x a b = y
  pointwise [normed]

def stream (a : Vec Ideal S4096x2048 .bf16) (b : Vec Ideal S2048x2048 .bf16) (x : Vec Ideal S4096x2048 .f32) : Vec Ideal S4096x2048 .f32 :=
  fun y => res a b x (y 0) (y 1)

def norms (a : Vec Ideal S4096x2048 .bf16) (b : Vec Ideal S2048x2048 .bf16) (x : Vec Ideal S4096x2048 .f32) (w : Vec Ideal S1x2048 .f32) : Vec Ideal S4096x2048 .bf16 :=
  fun y => normed (res a b x (y 0)) (w (ix2 0 (y 1))) (y 1)

theorem idx_facts : ∀ t : Fin cfg0.N,
    (win0_0.index t 0 = win0_5.index t 0 ∧ win0_0.index t 1 = 0) ∧ (win0_1.index t 0 = 0 ∧ win0_1.index t 1 = 0) ∧
    (win0_2.index t 0 = win0_5.index t 0 ∧ win0_2.index t 1 = 0) ∧ (win0_3.index t 0 = 0 ∧ win0_3.index t 1 = 0) ∧
    (win0_4.index t 0 = win0_5.index t 0 ∧ win0_4.index t 1 = 0) ∧ win0_5.index t 1 = 0 := by
  decide +kernel

/-- A row of the block's residual stream, read from the arrays. -/
theorem res_eq (m : (ℓ : Loc nD τ sig) → Buf (Elt Ideal) ℓ) (c : Dev nD) (t : Fin cfg0.N) (p : Fin 512) (P : Fin 4096)
    (hP : P.val = win0_5.index t 0 * 512 + 1 * p.val) (q : Fin 2048) :
    res (iblk m c 0 t) (iblk m c 1 t) (iblk m c 2 t) p q
      = res (m ((c : Thread nD τ).loc main_arg0)) (m ((c : Thread nD τ).loc main_arg1)) (m ((c : Thread nD τ).loc main_arg2)) P q := by
  obtain ⟨⟨f0, f1⟩, ⟨g0, g1⟩, ⟨h0, h1⟩, -, -⟩ := idx_facts t
  refine congrArg₂ (fun u v : EReal => u + v) (congrArg (m ((c : Thread nD τ).loc main_arg2)) ?_)
    (sum_mul (fun k => congrArg (m ((c : Thread nD τ).loc main_arg0)) ?_) (fun k => congrArg (m ((c : Thread nD τ).loc main_arg1)) ?_))
  · funext a
    match a with
    | 0 => exact Fin.ext (by show win0_2.index t 0 * 512 + 1 * p.val = P.val; rw [h0, hP])
    | 1 => exact Fin.ext (by show win0_2.index t 1 * 2048 + 1 * q.val = q.val; rw [h1]; omega)
  · funext a
    match a with
    | 0 => exact Fin.ext (by show win0_0.index t 0 * 512 + 1 * p.val = P.val; rw [f0, hP])
    | 1 => exact Fin.ext (by show win0_0.index t 1 * 2048 + 1 * k.val = k.val; rw [f1]; omega)
  · funext a
    match a with
    | 0 => exact Fin.ext (by show win0_1.index t 0 * 2048 + 1 * k.val = k.val; rw [g0]; omega)
    | 1 => exact Fin.ext (by show win0_1.index t 1 * 2048 + 1 * q.val = q.val; rw [g1]; omega)

theorem out4 (m : (ℓ : Loc nD τ sig) → Buf (Elt Ideal) ℓ) (c : Dev nD) (t : Fin cfg0.N) :
    out0_4 (iblk m c 0 t) (iblk m c 1 t) (iblk m c 2 t) (iblk m c 3 t)
      = (fun y => res (iblk m c 0 t) (iblk m c 1 t) (iblk m c 2 t) (y 0) (y 1) : Vec Ideal S512x2048 .f32) := by
  refine ext2 fun p q => ?_
  unfold out0_4
  rw [View.canon_unit_zero zero2, View.ld_unit_zero zero2, View.ld_unit_zero zero2, View.ld_unit_zero zero2]
  exact pay1 _ _ _ p q

theorem out5 (m : (ℓ : Loc nD τ sig) → Buf (Elt Ideal) ℓ) (c : Dev nD) (t : Fin cfg0.N) :
    out0_5 (iblk m c 0 t) (iblk m c 1 t) (iblk m c 2 t) (iblk m c 3 t)
      = (fun y => normed (res (iblk m c 0 t) (iblk m c 1 t) (iblk m c 2 t) (y 0)) ((iblk m c 3 t : Vec Ideal S1x2048 .f32) (ix2 0 (y 1))) (y 1) : Vec Ideal S512x2048 .bf16) := by
  refine ext2 fun p q => ?_
  unfold out0_5
  rw [View.canon_unit_zero zero2, View.ld_unit_zero zero2, View.ld_unit_zero zero2, View.ld_unit_zero zero2, View.ld_unit_zero zero2]
  exact pay2 _ _ _ _ p q

/-- The residual stream the kernel leaves. -/
theorem array4 (m : (ℓ : Loc nD τ sig) → Buf (Elt Ideal) ℓ) (c : Dev nD) :
    (dats m 0 c).arrAt 4 cfg0.N = stream (m ((c : Thread nD τ).loc main_arg0)) (m ((c : Thread nD τ).loc main_arg1)) (m ((c : Thread nD τ).loc main_arg2)) := by
  refine Pipeline.Dat.arrAt_eq_of_covers (dats m 0 c) 4 _ (by decide +kernel) fun t _ y => ?_
  obtain ⟨-, -, -, -, ⟨f0, f1⟩, -⟩ := idx_facts t
  show (dats m 0 c).after 4 t y = _
  rw [after0_4, out4]
  refine (res_eq m c t (y 0) (((cfg0.win 4).blk t).view.emb y 0) (by show win0_4.index t 0 * 512 + 1 * (y 0).val = _; rw [f0]) (y 1)).trans ?_
  exact congrArg (res (m ((c : Thread nD τ).loc main_arg0)) (m ((c : Thread nD τ).loc main_arg1)) (m ((c : Thread nD τ).loc main_arg2)) (((cfg0.win 4).blk t).view.emb y 0))
    (Fin.ext (by show (y 1).val = win0_4.index t 1 * 2048 + 1 * (y 1).val; rw [f1]; omega))

/-- The normalised stream the kernel leaves. -/
theorem array5 (m : (ℓ : Loc nD τ sig) → Buf (Elt Ideal) ℓ) (c : Dev nD) :
    (dats m 0 c).arrAt 5 cfg0.N = norms (m ((c : Thread nD τ).loc main_arg0)) (m ((c : Thread nD τ).loc main_arg1)) (m ((c : Thread nD τ).loc main_arg2)) (m ((c : Thread nD τ).loc main_arg3)) := by
  refine Pipeline.Dat.arrAt_eq_of_covers (dats m 0 c) 5 _ (by decide +kernel) fun t _ y => ?_
  obtain ⟨-, -, -, ⟨g0, g1⟩, -, f1⟩ := idx_facts t
  show (dats m 0 c).after 5 t y = _
  rw [after0_5, out5]
  have hq : (((cfg0.win 5).blk t).view.emb y 1 : Fin 2048) = y 1 := Fin.ext (by show win0_5.index t 1 * 2048 + 1 * (y 1).val = (y 1).val; rw [f1]; omega)
  refine Eq.trans ?_ (congrArg (fun q : Fin 2048 => normed (res (m ((c : Thread nD τ).loc main_arg0)) (m ((c : Thread nD τ).loc main_arg1)) (m ((c : Thread nD τ).loc main_arg2)) (((cfg0.win 5).blk t).view.emb y 0)) ((m ((c : Thread nD τ).loc main_arg3) : Vec Ideal S1x2048 .f32) (ix2 0 q)) q) hq.symm)
  refine congrArg₂ (fun r w => normed r w (y 1)) (funext fun q => res_eq m c t (y 0) (((cfg0.win 5).blk t).view.emb y 0) rfl q) (congrArg (m ((c : Thread nD τ).loc main_arg3)) ?_)
  funext a
  match a with
  | 0 => exact Fin.ext (by show win0_3.index t 0 * 1 + 1 * 0 = 0; rw [g0])
  | 1 => exact Fin.ext (by show win0_3.index t 1 * 2048 + 1 * (y 1).val = (y 1).val; rw [g1]; omega)

theorem algebraic : Cert.algebraic_OutProjIdeal_OutProjRefIdeal (hOutProjIdeal := Cert.OutProjIdeal.Gen.facts)
    (hOutProjRefIdeal := Cert.OutProjRefIdeal.Gen.facts) := by
  intro m g m' g' _ hagree
  refine ⟨fun c => stream (m ((c : Thread nD τ).loc main_arg0)) (m ((c : Thread nD τ).loc main_arg1)) (m ((c : Thread nD τ).loc main_arg2)),
    fun c => norms (m ((c : Thread nD τ).loc main_arg0)) (m ((c : Thread nD τ).loc main_arg1)) (m ((c : Thread nD τ).loc main_arg2)) (m ((c : Thread nD τ).loc main_arg3)), ?_, ?_⟩
  · exact (θ_run _ _ _).mono (fun r h c => ⟨(h c).1.trans (array4 m c), (h c).2.1.trans (array5 m c), (h c).2.2⟩) (Cert.OutProjIdeal.Value.run_blocks m g)
  · refine (θ_run _ _ _).mono (fun r h c => ⟨(h c).1.trans ?_, (h c).2.1.trans ?_, (h c).2.2⟩) (Cert.OutProjRefIdeal.Value.run m' g')
    · rw [(hagree c).1, (hagree c).2.1, (hagree c).2.2.1]
      beta_reduce
      generalize m ((c : Thread nD τ).loc main_arg0) = a
      generalize m ((c : Thread nD τ).loc main_arg1) = b
      generalize m ((c : Thread nD τ).loc main_arg2) = x
      refine ext2 fun p q => ?_
      show _ = res a b x p q
      pointwise [res]
    · rw [(hagree c).1, (hagree c).2.1, (hagree c).2.2.1, (hagree c).2.2.2]
      beta_reduce
      generalize m ((c : Thread nD τ).loc main_arg0) = a
      generalize m ((c : Thread nD τ).loc main_arg1) = b
      generalize m ((c : Thread nD τ).loc main_arg2) = x
      generalize m ((c : Thread nD τ).loc main_arg3) = w
      refine ext2 fun p q => ?_
      refine Eq.trans ?_ (show normed (res a b x p) (w (ix2 0 q)) q = norms a b x w (ix2 p q) from rfl)
      pointwise [normed, res]

theorem frame_ideal : Cert.quiescent_OutProjIdeal (hOutProjIdeal := Cert.OutProjIdeal.Gen.facts) :=
  fun m ρ _ => Cert.OutProjIdeal.Gen.frame m ρ

theorem frame_reference : Cert.quiescent_OutProjRefIdeal (hOutProjRefIdeal := Cert.OutProjRefIdeal.Gen.facts) :=
  fun m ρ _ => (θ_run Cert.OutProjRefIdeal.defs _ _).mono
    (fun r h => ⟨fun c => (h c).2.2, sem_eq_zero_of_no_sems (by decide) r.2⟩) (Cert.OutProjRefIdeal.Value.run m ρ)

attribute [local instance] Cert.OutProj.Gen.facts

/-- The kernel and its ideal reading are one text. -/
theorem body_eq : Cert.OutProj.cc0_out_proj (F := Bits) = cc0_out_proj (F := Bits) := rfl

theorem defs_eq : Cert.OutProj.defs (F := Bits) = defs (F := Bits) := by
  unfold Cert.OutProj.defs defs
  refine congrArg (Pipeline.defs (pcfgs (F := Bits))) ?_
  unfold Cert.OutProj.defs₀ defs₀
  refine congrArg Defs.onTc ?_
  funext l x
  match l, x with
  | 0, (t, s) =>
    rw [body_eq]
    rfl

/-- The kernel's frame is its ideal reading's, taken at bit patterns. -/
theorem frame_kernel : Cert.quiescent_OutProj (hOutProj := Cert.OutProj.Gen.facts) := by
  intro m ρ _
  rw [defs_eq]
  exact Cert.OutProjIdeal.Gen.frame (F := Bits) m ρ

end Cert.Proof.OutProj

end
-- ==== Proof.MmDown.lean ====
module

public import proofs.«01_k».proof.Defs
public import proofs.«01_k».proof.Proof.Entries
public import proofs.«01_k».proof.Proof.Gen.Down
public import proofs.«01_k».proof.Proof.Gen.DownIdeal.Value
public import proofs.«01_k».proof.Proof.Gen.DownRefIdeal.Run
public import Idealize.ShloMosaic.Lib.Pipeline.ValueKit.Geometry
public import Idealize.ShloMosaic.Adequacy
public import Idealize.ShloMosaic.Init

@[expose] public section

set_option maxRecDepth 16384

noncomputable section

namespace Cert.Proof.Down

open Cert.DownIdeal Cert.DownIdeal.Gen Cert.Hand.Entries Idealize.ShloMosaic Idealize.ShloMosaic.TcCoe Idealize.SL.Sem

theorem left_A_4 (c : Dev nD) (i : grid0.Coords) (arg2 : Memref sig .tc .vmem S1024x5632 .bf16) (harg2 : arg2.IsWhole) (arg3 : Memref sig .tc .vmem S5632x512 .bf16) (harg3 : arg3.IsWhole) (arg4 : Memref sig .tc .vmem S1024x512 .f32) (harg4 : arg4.IsWhole) (arg5 : Memref sig .tc .vmem S1024x512 .f32) (harg5 : arg5.IsWhole)
    (arg6 : Memref sig .tc .vmem S1024x512 .f32) (harg6 : arg6.IsWhole) (arg7 : Memref sig .tc .vmem S1024x512 .bf16) (harg7 : arg7.IsWhole) (arg8 : Memref sig .tc .vmem S8x128 .f32) (harg8 : arg8.IsWhole) (hc0 : cond0_0 i)
    (x0 : Vec Ideal S1024x5632 .bf16) (x1 : Vec Ideal S5632x512 .bf16) (x2 : Vec Ideal S1024x512 .f32) (x3 : Vec Ideal S1024x512 .f32) :
    out0_A_4 c i arg2 harg2 arg3 harg3 arg4 harg4 arg5 harg5 arg6 harg6 arg7 harg7 arg8 harg8 hc0 x0 x1 x2 x3 = k0_pay2 x0 x1 x2 x3 := by
  unfold out0_A_4 kernelRun0_A
  dsimp only
  sl_unfold_words
  simp only [View.readAt_eq_ld, Memref.IsWhole.read_unread]
  rw [View.read_writes_junk_eq_canon]
  rw [View.canon_unit_zero zero2, View.ld_unit_zero zero2, View.ld_unit_zero zero2, View.ld_unit_zero zero2, View.ld_unit_zero zero2]

theorem left_A_5 (c : Dev nD) (i : grid0.Coords) (arg2 : Memref sig .tc .vmem S1024x5632 .bf16) (harg2 : arg2.IsWhole) (arg3 : Memref sig .tc .vmem S5632x512 .bf16) (harg3 : arg3.IsWhole) (arg4 : Memref sig .tc .vmem S1024x512 .f32) (harg4 : arg4.IsWhole) (arg5 : Memref sig .tc .vmem S1024x512 .f32) (harg5 : arg5.IsWhole)
    (arg6 : Memref sig .tc .vmem S1024x512 .f32) (harg6 : arg6.IsWhole) (arg7 : Memref sig .tc .vmem S1024x512 .bf16) (harg7 : arg7.IsWhole) (arg8 : Memref sig .tc .vmem S8x128 .f32) (harg8 : arg8.IsWhole) (hc0 : cond0_0 i)
    (x0 : Vec Ideal S1024x5632 .bf16) (x1 : Vec Ideal S5632x512 .bf16) (x2 : Vec Ideal S1024x512 .f32) (x3 : Vec Ideal S1024x512 .f32) :
    out0_A_5 c i arg2 harg2 arg3 harg3 arg4 harg4 arg5 harg5 arg6 harg6 arg7 harg7 arg8 harg8 hc0 x0 x1 x2 x3 = k0_pay3 x0 x1 x2 x3 := by
  unfold out0_A_5 kernelRun0_A
  dsimp only
  sl_unfold_words
  simp only [View.readAt_eq_ld, Memref.IsWhole.read_unread]
  rw [View.read_writes_junk_eq_canon]
  rw [View.canon_unit_zero zero2, View.ld_unit_zero zero2, View.ld_unit_zero zero2, View.ld_unit_zero zero2, View.ld_unit_zero zero2]

theorem left_A_6 (c : Dev nD) (i : grid0.Coords) (arg2 : Memref sig .tc .vmem S1024x5632 .bf16) (harg2 : arg2.IsWhole) (arg3 : Memref sig .tc .vmem S5632x512 .bf16) (harg3 : arg3.IsWhole) (arg4 : Memref sig .tc .vmem S1024x512 .f32) (harg4 : arg4.IsWhole) (arg5 : Memref sig .tc .vmem S1024x512 .f32) (harg5 : arg5.IsWhole)
    (arg6 : Memref sig .tc .vmem S1024x512 .f32) (harg6 : arg6.IsWhole) (arg7 : Memref sig .tc .vmem S1024x512 .bf16) (harg7 : arg7.IsWhole) (arg8 : Memref sig .tc .vmem S8x128 .f32) (harg8 : arg8.IsWhole) (hc0 : cond0_0 i)
    (x0 : Vec Ideal S1024x5632 .bf16) (x1 : Vec Ideal S5632x512 .bf16) (x2 : Vec Ideal S1024x512 .f32) (x3 : Vec Ideal S1024x512 .f32) :
    out0_A_6 c i arg2 harg2 arg3 harg3 arg4 harg4 arg5 harg5 arg6 harg6 arg7 harg7 arg8 harg8 hc0 x0 x1 x2 x3 = k0_pay5 x0 x1 x2 x3 (k0_pay4 (F := Ideal)) := by
  unfold out0_A_6 kernelRun0_A
  dsimp only
  sl_unfold_words
  simp only [View.readAt_eq_ld, Memref.IsWhole.read_unread]
  rw [View.read_writes_junk_eq_canon]
  rw [View.canon_cons_unit_zero zero2, View.ld_unit_zero zero2, View.ld_unit_zero zero2, View.ld_unit_zero zero2, View.ld_unit_zero zero2, View.readCov_unit_zero _ zero2]

theorem left_B_4 (c : Dev nD) (i : grid0.Coords) (arg2 : Memref sig .tc .vmem S1024x5632 .bf16) (harg2 : arg2.IsWhole) (arg3 : Memref sig .tc .vmem S5632x512 .bf16) (harg3 : arg3.IsWhole) (arg4 : Memref sig .tc .vmem S1024x512 .f32) (harg4 : arg4.IsWhole) (arg5 : Memref sig .tc .vmem S1024x512 .f32) (harg5 : arg5.IsWhole)
    (arg6 : Memref sig .tc .vmem S1024x512 .f32) (harg6 : arg6.IsWhole) (arg7 : Memref sig .tc .vmem S1024x512 .bf16) (harg7 : arg7.IsWhole) (arg8 : Memref sig .tc .vmem S8x128 .f32) (harg8 : arg8.IsWhole) (hc0 : ¬cond0_0 i)
    (x0 : Vec Ideal S1024x5632 .bf16) (x1 : Vec Ideal S5632x512 .bf16) (x2 : Vec Ideal S1024x512 .f32) (x3 : Vec Ideal S1024x512 .f32) (xo6 : Vec Ideal S8x128 .f32) :
    out0_B_4 c i arg2 harg2 arg3 harg3 arg4 harg4 arg5 harg5 arg6 harg6 arg7 harg7 arg8 harg8 hc0 x0 x1 x2 x3 xo6 = k0_pay2 x0 x1 x2 x3 := by
  unfold out0_B_4 kernelRun0_B
  dsimp only
  sl_unfold_words
  simp only [View.readAt_eq_ld, Memref.IsWhole.read_unread]
  rw [View.read_writes_junk_eq_canon]
  rw [View.canon_unit_zero zero2, View.ld_unit_zero zero2, View.ld_unit_zero zero2, View.ld_unit_zero zero2, View.ld_unit_zero zero2]

theorem left_B_5 (c : Dev nD) (i : grid0.Coords) (arg2 : Memref sig .tc .vmem S1024x5632 .bf16) (harg2 : arg2.IsWhole) (arg3 : Memref sig .tc .vmem S5632x512 .bf16) (harg3 : arg3.IsWhole) (arg4 : Memref sig .tc .vmem S1024x512 .f32) (harg4 : arg4.IsWhole) (arg5 : Memref sig .tc .vmem S1024x512 .f32) (harg5 : arg5.IsWhole)
    (arg6 : Memref sig .tc .vmem S1024x512 .f32) (harg6 : arg6.IsWhole) (arg7 : Memref sig .tc .vmem S1024x512 .bf16) (harg7 : arg7.IsWhole) (arg8 : Memref sig .tc .vmem S8x128 .f32) (harg8 : arg8.IsWhole) (hc0 : ¬cond0_0 i)
    (x0 : Vec Ideal S1024x5632 .bf16) (x1 : Vec Ideal S5632x512 .bf16) (x2 : Vec Ideal S1024x512 .f32) (x3 : Vec Ideal S1024x512 .f32) (xo6 : Vec Ideal S8x128 .f32) :
    out0_B_5 c i arg2 harg2 arg3 harg3 arg4 harg4 arg5 harg5 arg6 harg6 arg7 harg7 arg8 harg8 hc0 x0 x1 x2 x3 xo6 = k0_pay3 x0 x1 x2 x3 := by
  unfold out0_B_5 kernelRun0_B
  dsimp only
  sl_unfold_words
  simp only [View.readAt_eq_ld, Memref.IsWhole.read_unread]
  rw [View.read_writes_junk_eq_canon]
  rw [View.canon_unit_zero zero2, View.ld_unit_zero zero2, View.ld_unit_zero zero2, View.ld_unit_zero zero2, View.ld_unit_zero zero2]

theorem left_B_6 (c : Dev nD) (i : grid0.Coords) (arg2 : Memref sig .tc .vmem S1024x5632 .bf16) (harg2 : arg2.IsWhole) (arg3 : Memref sig .tc .vmem S5632x512 .bf16) (harg3 : arg3.IsWhole) (arg4 : Memref sig .tc .vmem S1024x512 .f32) (harg4 : arg4.IsWhole) (arg5 : Memref sig .tc .vmem S1024x512 .f32) (harg5 : arg5.IsWhole)
    (arg6 : Memref sig .tc .vmem S1024x512 .f32) (harg6 : arg6.IsWhole) (arg7 : Memref sig .tc .vmem S1024x512 .bf16) (harg7 : arg7.IsWhole) (arg8 : Memref sig .tc .vmem S8x128 .f32) (harg8 : arg8.IsWhole) (hc0 : ¬cond0_0 i)
    (x0 : Vec Ideal S1024x5632 .bf16) (x1 : Vec Ideal S5632x512 .bf16) (x2 : Vec Ideal S1024x512 .f32) (x3 : Vec Ideal S1024x512 .f32) (xo6 : Vec Ideal S8x128 .f32) :
    out0_B_6 c i arg2 harg2 arg3 harg3 arg4 harg4 arg5 harg5 arg6 harg6 arg7 harg7 arg8 harg8 hc0 x0 x1 x2 x3 xo6 = k0_pay5 x0 x1 x2 x3 xo6 := by
  unfold out0_B_6 kernelRun0_B
  dsimp only
  sl_unfold_words
  simp only [View.readAt_eq_ld, Memref.IsWhole.read_unread]
  rw [View.read_writes_junk_eq_canon]
  rw [View.canon_unit_zero zero2, View.ld_unit_zero zero2, View.ld_unit_zero zero2, View.ld_unit_zero zero2, View.ld_unit_zero zero2, View.ld_unit_zero zero2]

/-- An entry of the difference to the target. -/
def diff {n l : ℕ} (a : Vec Ideal ⟨2, ![n, 5632]⟩ .bf16) (b : Vec Ideal ⟨2, ![5632, l]⟩ .bf16) (x t : Vec Ideal ⟨2, ![n, l]⟩ .f32) (p : Fin n) (q : Fin l) : EReal :=
  (∑ k : Fin 5632, (a (ix2 p k) : EReal) * (b (ix2 k q) : EReal)) + (x (ix2 p q) : EReal) - (t (ix2 p q) : EReal)

def c11 : EReal := Idealize.ShloMosaic.Ideal.ofBits .f32 0x3A000000#32
def c12 : EReal := Idealize.ShloMosaic.Ideal.ofBits .f32 0x39800000#32

theorem c11_eq : c11 = ((1 / 2048 : ℝ) : EReal) := by
  unfold c11
  simp [Idealize.ShloMosaic.Ideal.ofBits, Idealize.ShloMosaic.Ideal.ieee]
  rw [← EReal.coe_mul]
  exact congrArg _ (by norm_num)
theorem c12_eq : c12 = ((1 / 4096 : ℝ) : EReal) := by
  unfold c12
  simp [Idealize.ShloMosaic.Ideal.ofBits, Idealize.ShloMosaic.Ideal.ieee]
  rw [← EReal.coe_mul]
  exact congrArg _ (by norm_num)
theorem c_2048 : Idealize.ShloMosaic.Ideal.ofBits .f32 0x45000000#32 = ((2048 : ℝ) : EReal) := by
  simp [Idealize.ShloMosaic.Ideal.ofBits, Idealize.ShloMosaic.Ideal.ieee]
  rw [← EReal.coe_mul]
  exact congrArg _ (by norm_num)
theorem c_half : Idealize.ShloMosaic.Ideal.ofBits .f32 0x3F000000#32 = ((1 / 2 : ℝ) : EReal) := by
  simp [Idealize.ShloMosaic.Ideal.ofBits, Idealize.ShloMosaic.Ideal.ieee]
  rw [← EReal.coe_mul]
  exact congrArg _ (by norm_num)

theorem pay1 (a : Vec Ideal S1024x5632 .bf16) (b : Vec Ideal S5632x512 .bf16) (x t : Vec Ideal S1024x512 .f32) (p : Fin 1024) (q : Fin 512) :
    (k0_pay1 (F := Ideal) a b x t (ix2 p q) : EReal) = diff a b x t p q := by
  pointwise [k0_pay1, diff]

theorem pay2 (a : Vec Ideal S1024x5632 .bf16) (b : Vec Ideal S5632x512 .bf16) (x t : Vec Ideal S1024x512 .f32) (p : Fin 1024) (q : Fin 512) :
    (k0_pay2 (F := Ideal) a b x t (ix2 p q) : EReal) = diff a b x t p q * c11 := by
  rw [← pay1]
  unfold k0_pay2
  generalize k0_pay1 (F := Ideal) a b x t = y
  pointwise [c11]

theorem pay3 (a : Vec Ideal S1024x5632 .bf16) (b : Vec Ideal S5632x512 .bf16) (x t : Vec Ideal S1024x512 .f32) (p : Fin 1024) (q : Fin 512) :
    (k0_pay3 (F := Ideal) a b x t (ix2 p q) : EReal) = diff a b x t p q * c11 := by
  rw [← pay2]
  unfold k0_pay3
  generalize k0_pay2 (F := Ideal) a b x t = y
  pointwise

theorem pay5 (a : Vec Ideal S1024x5632 .bf16) (b : Vec Ideal S5632x512 .bf16) (x t : Vec Ideal S1024x512 .f32) (v : Vec Ideal S8x128 .f32) (i : Fin 8) (j : Fin 128) :
    (k0_pay5 (F := Ideal) a b x t v (ix2 i j) : EReal)
      = (v (ix2 i j) : EReal) + (∑ p : Fin 1024, ∑ q : Fin 512, diff a b x t p q * diff a b x t p q) * c12 := by
  simp only [← pay1]
  unfold k0_pay5
  generalize k0_pay1 (F := Ideal) a b x t = y
  pointwise [c12]

theorem pay4 (i : Fin 8) (j : Fin 128) : (k0_pay4 (F := Ideal) (ix2 i j) : EReal) = 0 := by
  pointwise [k0_pay4]

theorem outs4 (m : (ℓ : Loc nD τ sig) → Buf (Elt Ideal) ℓ) (c : Dev nD) (t : Fin cfg0.N) :
    (outsAt0 m c t.val t.isLt).1 = fun y => diff (iblk m c 0 t) (iblk m c 1 t) (iblk m c 2 t) (iblk m c 3 t) (y 0) (y 1) * c11 := by
  refine ext2 fun p q => ?_
  by_cases h0 : t.val % 16 = 0
  · rw [outsAt0_A m c t h0]
    dsimp only
    rw [left_A_4]
    exact pay2 _ _ _ _ p q
  · rw [outsAt0_B m c t h0]
    dsimp only
    rw [left_B_4]
    exact pay2 _ _ _ _ p q

theorem outs5 (m : (ℓ : Loc nD τ sig) → Buf (Elt Ideal) ℓ) (c : Dev nD) (t : Fin cfg0.N) :
    (outsAt0 m c t.val t.isLt).2.1 = fun y => diff (iblk m c 0 t) (iblk m c 1 t) (iblk m c 2 t) (iblk m c 3 t) (y 0) (y 1) * c11 := by
  refine ext2 fun p q => ?_
  by_cases h0 : t.val % 16 = 0
  · rw [outsAt0_A m c t h0]
    dsimp only
    rw [left_A_5]
    exact pay3 _ _ _ _ p q
  · rw [outsAt0_B m c t h0]
    dsimp only
    rw [left_B_5]
    exact pay3 _ _ _ _ p q

/-- The scaled sum of the squares of a tile's differences. -/
def tile (m : (ℓ : Loc nD τ sig) → Buf (Elt Ideal) ℓ) (c : Dev nD) (t : Fin cfg0.N) : EReal :=
  (∑ p : Fin 1024, ∑ q : Fin 512, diff (iblk m c 0 t) (iblk m c 1 t) (iblk m c 2 t) (iblk m c 3 t) p q * diff (iblk m c 0 t) (iblk m c 1 t) (iblk m c 2 t) (iblk m c 3 t) p q) * c12

theorem outs6_first (m : (ℓ : Loc nD τ sig) → Buf (Elt Ideal) ℓ) (c : Dev nD) (t : Fin cfg0.N) (h0 : t.val % 16 = 0) (i : Fin 8) (j : Fin 128) :
    ((outsAt0 m c t.val t.isLt).2.2 (ix2 i j) : EReal) = 0 + tile m c t := by
  rw [outsAt0_A m c t h0]
  dsimp only
  rw [left_A_6]
  exact (pay5 _ _ _ _ _ i j).trans (congrArg (· + tile m c t) (pay4 i j))

theorem outs6_next (m : (ℓ : Loc nD τ sig) → Buf (Elt Ideal) ℓ) (c : Dev nD) (t : Fin cfg0.N) (h0 : ¬t.val % 16 = 0) (i : Fin 8) (j : Fin 128) :
    ((outsAt0 m c t.val t.isLt).2.2 (ix2 i j) : EReal)
      = ((outsAt0 m c (t.val - 1) (Nat.lt_of_le_of_lt (Nat.sub_le _ _) t.isLt)).2.2 (ix2 i j) : EReal) + tile m c t := by
  rw [outsAt0_B m c t h0]
  dsimp only
  rw [left_B_6]
  exact pay5 _ _ _ _ _ i j

theorem idx_facts : ∀ t : Fin cfg0.N,
    (win0_4.index t 0 = t.val / 4 ∧ win0_4.index t 1 = t.val % 4) ∧
    (win0_5.index t 0 = t.val / 4 ∧ win0_5.index t 1 = t.val % 4) ∧
    (win0_0.index t 0 = t.val / 4 ∧ win0_0.index t 1 = 0) ∧
    (win0_1.index t 0 = 0 ∧ win0_1.index t 1 = t.val % 4) ∧
    (win0_2.index t 0 = t.val / 4 ∧ win0_2.index t 1 = t.val % 4) ∧
    (win0_3.index t 0 = t.val / 4 ∧ win0_3.index t 1 = t.val % 4) := by
  decide +kernel

theorem diff_block (m : (ℓ : Loc nD τ sig) → Buf (Elt Ideal) ℓ) (c : Dev nD) (t : Fin cfg0.N) (p : Fin 1024) (q : Fin 512) (P : Fin 4096) (J : Fin 2048)
    (hP : P.val = t.val / 4 * 1024 + p.val) (hJ : J.val = t.val % 4 * 512 + q.val) :
    diff (iblk m c 0 t) (iblk m c 1 t) (iblk m c 2 t) (iblk m c 3 t) p q = diff (m ((c : Thread nD τ).loc main_arg0)) (m ((c : Thread nD τ).loc main_arg1)) (m ((c : Thread nD τ).loc main_arg2)) (m ((c : Thread nD τ).loc main_arg3)) P J := by
  obtain ⟨-, -, ⟨f0, f1⟩, ⟨g0, g1⟩, ⟨h0, h1⟩, ⟨i0, i1⟩⟩ := idx_facts t
  refine congrArg₂ (· - ·) (congrArg₂ (· + ·) ?_ ?_) ?_
  · refine sum_mul (fun k => congrArg (m ((c : Thread nD τ).loc main_arg0)) ?_) (fun k => congrArg (m ((c : Thread nD τ).loc main_arg1)) ?_)
    · funext a
      match a with
      | 0 => exact Fin.ext (by show win0_0.index t 0 * 1024 + 1 * p.val = P.val; rw [f0, hP]; omega)
      | 1 => exact Fin.ext (by show win0_0.index t 1 * 5632 + 1 * k.val = k.val; rw [f1]; omega)
    · funext a
      match a with
      | 0 => exact Fin.ext (by show win0_1.index t 0 * 5632 + 1 * k.val = k.val; rw [g0]; omega)
      | 1 => exact Fin.ext (by show win0_1.index t 1 * 512 + 1 * q.val = J.val; rw [g1, hJ]; omega)
  · refine congrArg (m ((c : Thread nD τ).loc main_arg2)) ?_
    funext a
    match a with
    | 0 => exact Fin.ext (by show win0_2.index t 0 * 1024 + 1 * p.val = P.val; rw [h0, hP]; omega)
    | 1 => exact Fin.ext (by show win0_2.index t 1 * 512 + 1 * q.val = J.val; rw [h1, hJ]; omega)
  · refine congrArg (m ((c : Thread nD τ).loc main_arg3)) ?_
    funext a
    match a with
    | 0 => exact Fin.ext (by show win0_3.index t 0 * 1024 + 1 * p.val = P.val; rw [i0, hP]; omega)
    | 1 => exact Fin.ext (by show win0_3.index t 1 * 512 + 1 * q.val = J.val; rw [i1, hJ]; omega)

/-- The sum over an array is the sum over its sixteen tiles, row of tiles by row of tiles. -/
theorem sum_tiles (f : Fin 4096 → Fin 2048 → EReal) :
    ∑ p, ∑ q, f p q = ∑ t : Fin 16, ∑ p : Fin 1024, ∑ q : Fin 512,
      f ⟨t.val / 4 * 1024 + p.val, by omega⟩ ⟨t.val % 4 * 512 + q.val, by omega⟩ := by
  refine Eq.trans ?_ (sum_blocks 4 4 (fun t : Fin 16 => ∑ p : Fin 1024, ∑ q : Fin 512,
      f ⟨t.val / 4 * 1024 + p.val, by omega⟩ ⟨t.val % 4 * 512 + q.val, by omega⟩) (fun i k => by omega)).symm
  rw [sum_blocks 4 1024 (fun p : Fin 4096 => ∑ q, f p q) (fun i k => by omega)]
  refine Finset.sum_congr rfl fun i _ => ?_
  refine Eq.trans ?_ Finset.sum_comm
  refine Finset.sum_congr rfl fun p _ => ?_
  rw [sum_blocks 4 512 (fun q : Fin 2048 => f _ q) (fun i k => by omega)]
  refine Finset.sum_congr rfl fun j _ => Finset.sum_congr rfl fun q _ => congrArg₂ f (Fin.ext ?_) (Fin.ext ?_)
  · show i.val * 1024 + p.val = (i.val * 4 + j.val) / 4 * 1024 + p.val
    omega
  · show j.val * 512 + q.val = (i.val * 4 + j.val) % 4 * 512 + q.val
    omega

/-- After a point, every entry of the loss tile is the sum of the tiles so far. -/
theorem outs6 (m : (ℓ : Loc nD τ sig) → Buf (Elt Ideal) ℓ) (c : Dev nD) (i : Fin 8) (j : Fin 128) : ∀ (n : ℕ) (hn : n < cfg0.N),
    ((outsAt0 m c n hn).2.2 (ix2 i j) : EReal) = ∑ t : Fin (n + 1), tile m c ⟨t.val, by omega⟩ := by
  intro n
  induction n with
  | zero =>
    intro hn
    rw [Fin.sum_univ_one]
    exact (outs6_first m c ⟨0, hn⟩ rfl i j).trans (zero_add _)
  | succ n ih =>
    intro hn
    rw [Fin.sum_univ_castSucc]
    have h16 : n + 1 < 16 := hn
    exact (outs6_next m c ⟨n + 1, hn⟩ (by show ¬(n + 1) % 16 = 0; omega) i j).trans (congrArg (· + tile m c ⟨n + 1, hn⟩) (ih (Nat.lt_of_succ_lt hn)))

theorem c12_nonneg : 0 ≤ c12 := by
  rw [c12_eq]
  exact EReal.coe_nonneg.mpr (by norm_num)

theorem c12_ne_top : c12 ≠ ⊤ := by
  rw [c12_eq]
  exact EReal.coe_ne_top _

theorem sum_scaled {ι : Type} (s : Finset ι) (f : ι → EReal) : ∑ x ∈ s, f x * c12 = (∑ x ∈ s, f x) * c12 := by
  classical
  induction s using Finset.induction_on with
  | empty => simp only [Finset.sum_empty, zero_mul]
  | insert a s ha ih => rw [Finset.sum_insert ha, Finset.sum_insert ha, ih, EReal.right_distrib_of_nonneg_of_ne_top c12_nonneg c12_ne_top]

/-- The gradient with respect to the block's output. -/
def dys (a : Vec Ideal S4096x5632 .bf16) (b : Vec Ideal S5632x2048 .bf16) (x t : Vec Ideal S4096x2048 .f32) : Vec Ideal S4096x2048 .f32 :=
  fun y => diff a b x t (y 0) (y 1) * c11

/-- The same gradient, in the width the next products take. -/
def dys16 (a : Vec Ideal S4096x5632 .bf16) (b : Vec Ideal S5632x2048 .bf16) (x t : Vec Ideal S4096x2048 .f32) : Vec Ideal S4096x2048 .bf16 :=
  fun y => diff a b x t (y 0) (y 1) * c11

/-- The loss, in every entry of a tile. -/
def losses (a : Vec Ideal S4096x5632 .bf16) (b : Vec Ideal S5632x2048 .bf16) (x t : Vec Ideal S4096x2048 .f32) : Vec Ideal S8x128 .f32 :=
  fun _ => (∑ p : Fin 4096, ∑ q : Fin 2048, diff a b x t p q * diff a b x t p q) * c12

theorem array4 (m : (ℓ : Loc nD τ sig) → Buf (Elt Ideal) ℓ) (c : Dev nD) : (dats m 0 c).arrAt 4 cfg0.N = dys (m ((c : Thread nD τ).loc main_arg0)) (m ((c : Thread nD τ).loc main_arg1)) (m ((c : Thread nD τ).loc main_arg2)) (m ((c : Thread nD τ).loc main_arg3)) := by
  refine Pipeline.Dat.arrAt_eq_of_covers (dats m 0 c) 4 _ (by decide +kernel) fun t _ y => ?_
  obtain ⟨⟨e0, e1⟩, ⟨f0, f1⟩, -⟩ := idx_facts t
  show (dats m 0 c).after 4 t y = _
  rw [after0_4, outs4]
  exact congrArg (· * c11) (diff_block m c t (y 0) (y 1) (((cfg0.win 4).blk t).view.emb y 0) (((cfg0.win 4).blk t).view.emb y 1)
    (by show win0_4.index t 0 * 1024 + 1 * (y 0).val = _; rw [e0]; omega) (by show win0_4.index t 1 * 512 + 1 * (y 1).val = _; rw [e1]; omega))

theorem array5 (m : (ℓ : Loc nD τ sig) → Buf (Elt Ideal) ℓ) (c : Dev nD) : (dats m 0 c).arrAt 5 cfg0.N = dys16 (m ((c : Thread nD τ).loc main_arg0)) (m ((c : Thread nD τ).loc main_arg1)) (m ((c : Thread nD τ).loc main_arg2)) (m ((c : Thread nD τ).loc main_arg3)) := by
  refine Pipeline.Dat.arrAt_eq_of_covers (dats m 0 c) 5 _ (by decide +kernel) fun t _ y => ?_
  obtain ⟨⟨e0, e1⟩, ⟨f0, f1⟩, -⟩ := idx_facts t
  show (dats m 0 c).after 5 t y = _
  rw [after0_5, outs5]
  exact congrArg (· * c11) (diff_block m c t (y 0) (y 1) (((cfg0.win 5).blk t).view.emb y 0) (((cfg0.win 5).blk t).view.emb y 1)
    (by show win0_5.index t 0 * 1024 + 1 * (y 0).val = _; rw [f0]; omega) (by show win0_5.index t 1 * 512 + 1 * (y 1).val = _; rw [f1]; omega))

theorem loss_all (m : (ℓ : Loc nD τ sig) → Buf (Elt Ideal) ℓ) (c : Dev nD) (i : Fin 8) (j : Fin 128) (t : Fin cfg0.N) (ht : t.val = 15) :
    ((outsAt0 m c t.val t.isLt).2.2 (ix2 i j) : EReal)
      = (∑ p : Fin 4096, ∑ q : Fin 2048, diff (m ((c : Thread nD τ).loc main_arg0)) (m ((c : Thread nD τ).loc main_arg1)) (m ((c : Thread nD τ).loc main_arg2)) (m ((c : Thread nD τ).loc main_arg3)) p q * diff (m ((c : Thread nD τ).loc main_arg0)) (m ((c : Thread nD τ).loc main_arg1)) (m ((c : Thread nD τ).loc main_arg2)) (m ((c : Thread nD τ).loc main_arg3)) p q) * c12 := by
  obtain ⟨n, hn⟩ := t
  have hn' : n = 15 := ht
  subst hn'
  refine (outs6 m c i j 15 hn).trans ?_
  rw [sum_tiles, ← sum_scaled]
  refine Finset.sum_congr rfl fun t _ => congrArg (· * c12) (Finset.sum_congr rfl fun p _ => Finset.sum_congr rfl fun q _ => ?_)
  have h := diff_block m c ⟨t.val, t.isLt⟩ p q ⟨t.val / 4 * 1024 + p.val, by omega⟩ ⟨t.val % 4 * 512 + q.val, by omega⟩ rfl rfl
  exact congrArg₂ (· * ·) h h

theorem array6 (m : (ℓ : Loc nD τ sig) → Buf (Elt Ideal) ℓ) (c : Dev nD) : (dats m 0 c).arrAt 6 cfg0.N = losses (m ((c : Thread nD τ).loc main_arg0)) (m ((c : Thread nD τ).loc main_arg1)) (m ((c : Thread nD τ).loc main_arg2)) (m ((c : Thread nD τ).loc main_arg3)) := by
  refine Pipeline.Dat.arrAt_eq_of_covers (dats m 0 c) 6 _ (by decide +kernel) fun t ht y => ?_
  show (dats m 0 c).after 6 t y = _
  rw [after0_6]
  have h15 : t.val = 15 := by
    have h := (flush0_6 t).mp ht
    have h16 : t.val < 16 := t.isLt
    omega
  obtain ⟨p, q, rfl⟩ : ∃ (p : Fin 8) (q : Fin 128), y = ix2 p q := ⟨y 0, y 1, eq_ix2 y⟩
  exact loss_all m c p q t h15

theorem mul_c11 (x : EReal) : x * c11 = Idealize.ShloMosaic.Ideal.div x (Idealize.ShloMosaic.Ideal.ofBits .f32 0x45000000#32) := by
  rw [c_2048, c11_eq]
  unfold Idealize.ShloMosaic.Ideal.div
  rw [if_neg (by exact_mod_cast (by norm_num : (2048 : ℝ) ≠ 0)), ← EReal.coe_inv]
  norm_num

theorem mul_c12 (x : EReal) : x * c12
    = Idealize.ShloMosaic.Ideal.div (Idealize.ShloMosaic.Ideal.ofBits .f32 0x3F000000#32 * x) (Idealize.ShloMosaic.Ideal.ofBits .f32 0x45000000#32) := by
  rw [← mul_c11, c_half, c11_eq, c12_eq, mul_comm _ x, mul_assoc, ← EReal.coe_mul]
  norm_num

theorem algebraic : Cert.algebraic_DownIdeal_DownRefIdeal (hDownIdeal := Cert.DownIdeal.Gen.facts)
    (hDownRefIdeal := Cert.DownRefIdeal.Gen.facts) := by
  intro m g m' g' _ hagree
  refine ⟨fun c => dys (m ((c : Thread nD τ).loc main_arg0)) (m ((c : Thread nD τ).loc main_arg1)) (m ((c : Thread nD τ).loc main_arg2)) (m ((c : Thread nD τ).loc main_arg3)), fun c => dys16 (m ((c : Thread nD τ).loc main_arg0)) (m ((c : Thread nD τ).loc main_arg1)) (m ((c : Thread nD τ).loc main_arg2)) (m ((c : Thread nD τ).loc main_arg3)), fun c => losses (m ((c : Thread nD τ).loc main_arg0)) (m ((c : Thread nD τ).loc main_arg1)) (m ((c : Thread nD τ).loc main_arg2)) (m ((c : Thread nD τ).loc main_arg3)), ?_, ?_⟩
  · exact (θ_run _ _ _).mono (fun r h c => ⟨(h c).1.trans (array4 m c), (h c).2.1.trans (array5 m c), (h c).2.2.1.trans (array6 m c), (h c).2.2.2⟩) (Cert.DownIdeal.Value.run_blocks m g)
  · refine (θ_run _ _ _).mono (fun r h c => ⟨(h c).1.trans ?_, (h c).2.1.trans ?_, (h c).2.2.1.trans ?_, (h c).2.2.2⟩) (Cert.DownRefIdeal.Value.run m' g')
    all_goals
      rw [(hagree c).1, (hagree c).2.1, (hagree c).2.2.1, (hagree c).2.2.2]
      beta_reduce
      generalize m ((c : Thread nD τ).loc main_arg0) = a
      generalize m ((c : Thread nD τ).loc main_arg1) = b
      generalize m ((c : Thread nD τ).loc main_arg2) = x
      generalize m ((c : Thread nD τ).loc main_arg3) = t
      refine ext2 fun p q => ?_
    · refine Eq.trans ?_ ((mul_c11 (diff a b x t p q)).symm.trans (show diff a b x t p q * c11 = dys a b x t (ix2 p q) from rfl))
      pointwise [diff]
      rw [add_comm]
    · refine Eq.trans ?_ ((mul_c11 (diff a b x t p q)).symm.trans (show diff a b x t p q * c11 = dys16 a b x t (ix2 p q) from rfl))
      pointwise [diff]
      rw [add_comm]
    · refine Eq.trans ?_ ((mul_c12 (∑ p : Fin 4096, ∑ q : Fin 2048, diff a b x t p q * diff a b x t p q)).symm.trans (show _ = losses a b x t (ix2 p q) from rfl))
      pointwise [diff]
      refine congrArg (fun S => Idealize.ShloMosaic.Ideal.div (_ * S) _) (Finset.sum_congr rfl fun i _ => Finset.sum_congr rfl fun j _ => ?_)
      exact congrArg₂ (· * ·) (congrArg (· - _) (add_comm _ _)) (congrArg (· - _) (add_comm _ _))

theorem frame_ideal : Cert.quiescent_DownIdeal (hDownIdeal := Cert.DownIdeal.Gen.facts) :=
  fun m ρ _ => Cert.DownIdeal.Gen.frame m ρ

theorem frame_reference : Cert.quiescent_DownRefIdeal (hDownRefIdeal := Cert.DownRefIdeal.Gen.facts) :=
  fun m ρ _ => (θ_run Cert.DownRefIdeal.defs _ _).mono
    (fun r h => ⟨fun c => (h c).2.2.2, sem_eq_zero_of_no_sems (by decide) r.2⟩) (Cert.DownRefIdeal.Value.run m ρ)

attribute [local instance] Cert.Down.Gen.facts

/-- The kernel and its ideal reading are one text. -/
theorem body_eq : Cert.Down.cc0_down_proj (F := Bits) = cc0_down_proj (F := Bits) := rfl

theorem defs_eq : Cert.Down.defs (F := Bits) = defs (F := Bits) := by
  unfold Cert.Down.defs defs
  refine congrArg (Pipeline.defs (pcfgs (F := Bits))) ?_
  unfold Cert.Down.defs₀ defs₀
  refine congrArg Defs.onTc ?_
  funext l x
  match l, x with
  | 0, (t, s) =>
    rw [body_eq]
    rfl

/-- The kernel's frame is its ideal reading's, taken at bit patterns. -/
theorem frame_kernel : Cert.quiescent_Down (hDown := Cert.Down.Gen.facts) := by
  intro m ρ _
  rw [defs_eq]
  exact Cert.DownIdeal.Gen.frame (F := Bits) m ρ

end Cert.Proof.Down

end
-- ==== Proof.NormBwd.lean ====
module

public import proofs.«01_k».proof.Defs
public import proofs.«01_k».proof.Proof.Entries
public import proofs.«01_k».proof.Proof.Gen.NormBwd
public import proofs.«01_k».proof.Proof.Gen.NormBwdIdeal.Value
public import proofs.«01_k».proof.Proof.Gen.NormBwdRefIdeal.Run
public import Idealize.ShloMosaic.Lib.Pipeline.ValueKit.Geometry
public import Idealize.ShloMosaic.Adequacy
public import Idealize.ShloMosaic.Init

@[expose] public section

set_option maxRecDepth 16384

noncomputable section

namespace Cert.Proof.NormBwd

open Cert.NormBwdIdeal Cert.NormBwdIdeal.Gen Cert.Hand.Entries Idealize.ShloMosaic Idealize.ShloMosaic.TcCoe Idealize.SL.Sem

theorem left_A_4 (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S256x2048 .f32) (harg3 : arg3.IsWhole) (arg4 : Memref sig .tc .vmem S256x2048 .f32) (harg4 : arg4.IsWhole)
    (arg5 : Memref sig .tc .vmem S256x2048 .f32) (harg5 : arg5.IsWhole) (arg6 : Memref sig .tc .vmem S256x2048 .bf16) (harg6 : arg6.IsWhole) (arg7 : Memref sig .tc .vmem S1x2048 .f32) (harg7 : arg7.IsWhole) (hc0 : cond0_0 i)
    (x0 : Vec Ideal S256x2048 .f32) (x1 : Vec Ideal S1x2048 .f32) (x2 : Vec Ideal S256x2048 .f32) (x3 : Vec Ideal S256x2048 .f32) :
    out0_A_4 c i arg1 harg1 arg2 harg2 arg3 harg3 arg4 harg4 arg5 harg5 arg6 harg6 arg7 harg7 hc0 x0 x1 x2 x3 = k0_pay6 x0 x1 x2 x3 := by
  unfold out0_A_4 kernelRun0_A
  dsimp only
  sl_unfold_words
  simp only [View.readAt_eq_ld, Memref.IsWhole.read_unread]
  rw [View.read_writes_junk_eq_canon]
  rw [View.canon_unit_zero zero2, View.ld_unit_zero zero2, View.ld_unit_zero zero2, View.ld_unit_zero zero2, View.ld_unit_zero zero2]

theorem left_A_5 (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S256x2048 .f32) (harg3 : arg3.IsWhole) (arg4 : Memref sig .tc .vmem S256x2048 .f32) (harg4 : arg4.IsWhole)
    (arg5 : Memref sig .tc .vmem S256x2048 .f32) (harg5 : arg5.IsWhole) (arg6 : Memref sig .tc .vmem S256x2048 .bf16) (harg6 : arg6.IsWhole) (arg7 : Memref sig .tc .vmem S1x2048 .f32) (harg7 : arg7.IsWhole) (hc0 : cond0_0 i)
    (x0 : Vec Ideal S256x2048 .f32) (x1 : Vec Ideal S1x2048 .f32) (x2 : Vec Ideal S256x2048 .f32) (x3 : Vec Ideal S256x2048 .f32) :
    out0_A_5 c i arg1 harg1 arg2 harg2 arg3 harg3 arg4 harg4 arg5 harg5 arg6 harg6 arg7 harg7 hc0 x0 x1 x2 x3 = k0_pay7 x0 x1 x2 x3 := by
  unfold out0_A_5 kernelRun0_A
  dsimp only
  sl_unfold_words
  simp only [View.readAt_eq_ld, Memref.IsWhole.read_unread]
  rw [View.read_writes_junk_eq_canon]
  rw [View.canon_unit_zero zero2, View.ld_unit_zero zero2, View.ld_unit_zero zero2, View.ld_unit_zero zero2, View.ld_unit_zero zero2]

theorem left_A_6 (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S256x2048 .f32) (harg3 : arg3.IsWhole) (arg4 : Memref sig .tc .vmem S256x2048 .f32) (harg4 : arg4.IsWhole)
    (arg5 : Memref sig .tc .vmem S256x2048 .f32) (harg5 : arg5.IsWhole) (arg6 : Memref sig .tc .vmem S256x2048 .bf16) (harg6 : arg6.IsWhole) (arg7 : Memref sig .tc .vmem S1x2048 .f32) (harg7 : arg7.IsWhole) (hc0 : cond0_0 i)
    (x0 : Vec Ideal S256x2048 .f32) (x1 : Vec Ideal S1x2048 .f32) (x2 : Vec Ideal S256x2048 .f32) (x3 : Vec Ideal S256x2048 .f32) :
    out0_A_6 c i arg1 harg1 arg2 harg2 arg3 harg3 arg4 harg4 arg5 harg5 arg6 harg6 arg7 harg7 hc0 x0 x1 x2 x3 = k0_pay2 (k0_pay5 x0 x2) (k0_pay1 (F := Ideal)) := by
  unfold out0_A_6 kernelRun0_A
  dsimp only
  sl_unfold_words
  simp only [View.readAt_eq_ld, Memref.IsWhole.read_unread]
  rw [View.read_writes_junk_eq_canon]
  rw [View.canon_cons_unit_zero zero2, View.ld_unit_zero zero2, View.ld_unit_zero zero2, View.readCov_unit_zero _ zero2]

theorem left_B_4 (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S256x2048 .f32) (harg3 : arg3.IsWhole) (arg4 : Memref sig .tc .vmem S256x2048 .f32) (harg4 : arg4.IsWhole)
    (arg5 : Memref sig .tc .vmem S256x2048 .f32) (harg5 : arg5.IsWhole) (arg6 : Memref sig .tc .vmem S256x2048 .bf16) (harg6 : arg6.IsWhole) (arg7 : Memref sig .tc .vmem S1x2048 .f32) (harg7 : arg7.IsWhole) (hc0 : ¬cond0_0 i)
    (x0 : Vec Ideal S256x2048 .f32) (x1 : Vec Ideal S1x2048 .f32) (x2 : Vec Ideal S256x2048 .f32) (x3 : Vec Ideal S256x2048 .f32) (xo6 : Vec Ideal S1x2048 .f32) :
    out0_B_4 c i arg1 harg1 arg2 harg2 arg3 harg3 arg4 harg4 arg5 harg5 arg6 harg6 arg7 harg7 hc0 x0 x1 x2 x3 xo6 = k0_pay6 x0 x1 x2 x3 := by
  unfold out0_B_4 kernelRun0_B
  dsimp only
  sl_unfold_words
  simp only [View.readAt_eq_ld, Memref.IsWhole.read_unread]
  rw [View.read_writes_junk_eq_canon]
  rw [View.canon_unit_zero zero2, View.ld_unit_zero zero2, View.ld_unit_zero zero2, View.ld_unit_zero zero2, View.ld_unit_zero zero2]

theorem left_B_5 (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S256x2048 .f32) (harg3 : arg3.IsWhole) (arg4 : Memref sig .tc .vmem S256x2048 .f32) (harg4 : arg4.IsWhole)
    (arg5 : Memref sig .tc .vmem S256x2048 .f32) (harg5 : arg5.IsWhole) (arg6 : Memref sig .tc .vmem S256x2048 .bf16) (harg6 : arg6.IsWhole) (arg7 : Memref sig .tc .vmem S1x2048 .f32) (harg7 : arg7.IsWhole) (hc0 : ¬cond0_0 i)
    (x0 : Vec Ideal S256x2048 .f32) (x1 : Vec Ideal S1x2048 .f32) (x2 : Vec Ideal S256x2048 .f32) (x3 : Vec Ideal S256x2048 .f32) (xo6 : Vec Ideal S1x2048 .f32) :
    out0_B_5 c i arg1 harg1 arg2 harg2 arg3 harg3 arg4 harg4 arg5 harg5 arg6 harg6 arg7 harg7 hc0 x0 x1 x2 x3 xo6 = k0_pay7 x0 x1 x2 x3 := by
  unfold out0_B_5 kernelRun0_B
  dsimp only
  sl_unfold_words
  simp only [View.readAt_eq_ld, Memref.IsWhole.read_unread]
  rw [View.read_writes_junk_eq_canon]
  rw [View.canon_unit_zero zero2, View.ld_unit_zero zero2, View.ld_unit_zero zero2, View.ld_unit_zero zero2, View.ld_unit_zero zero2]

theorem left_B_6 (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S256x2048 .f32) (harg3 : arg3.IsWhole) (arg4 : Memref sig .tc .vmem S256x2048 .f32) (harg4 : arg4.IsWhole)
    (arg5 : Memref sig .tc .vmem S256x2048 .f32) (harg5 : arg5.IsWhole) (arg6 : Memref sig .tc .vmem S256x2048 .bf16) (harg6 : arg6.IsWhole) (arg7 : Memref sig .tc .vmem S1x2048 .f32) (harg7 : arg7.IsWhole) (hc0 : ¬cond0_0 i)
    (x0 : Vec Ideal S256x2048 .f32) (x1 : Vec Ideal S1x2048 .f32) (x2 : Vec Ideal S256x2048 .f32) (x3 : Vec Ideal S256x2048 .f32) (xo6 : Vec Ideal S1x2048 .f32) :
    out0_B_6 c i arg1 harg1 arg2 harg2 arg3 harg3 arg4 harg4 arg5 harg5 arg6 harg6 arg7 harg7 hc0 x0 x1 x2 x3 xo6 = k0_pay2 (k0_pay5 x0 x2) xo6 := by
  unfold out0_B_6 kernelRun0_B
  dsimp only
  sl_unfold_words
  simp only [View.readAt_eq_ld, Memref.IsWhole.read_unread]
  rw [View.read_writes_junk_eq_canon]
  rw [View.canon_unit_zero zero2, View.ld_unit_zero zero2, View.ld_unit_zero zero2, View.ld_unit_zero zero2]

/-- A row's mean square, with the norm's small constant. -/
def ms {n : ℕ} (x : Vec Ideal ⟨2, ![n, 2048]⟩ .f32) (p : Fin n) : EReal :=
  Idealize.ShloMosaic.Ideal.div (∑ k : Fin 2048, (x (ix2 p k) : EReal) * (x (ix2 p k) : EReal)) (Idealize.ShloMosaic.Ideal.ofBits .f32 0x45000000#32)
    + Idealize.ShloMosaic.Ideal.ofBits .f32 0x358637BD#32

/-- What the gradient of the mean square hands to every entry of the row. -/
def share {n : ℕ} (x : Vec Ideal ⟨2, ![n, 2048]⟩ .f32) (w : Vec Ideal S1x2048 .f32) (dh : Vec Ideal ⟨2, ![n, 2048]⟩ .f32) (p : Fin n) : EReal :=
  Idealize.ShloMosaic.Ideal.div ((∑ k : Fin 2048, (x (ix2 p k) : EReal) * ((dh (ix2 p k) : EReal) * (w (ix2 0 k) : EReal)))
    * (Idealize.ShloMosaic.Ideal.ofBits .f32 0xBF000000#32 * Idealize.ShloMosaic.Ideal.div (Idealize.ShloMosaic.Ideal.rsqrt (ms x p)) (ms x p)))
    (Idealize.ShloMosaic.Ideal.ofBits .f32 0x45000000#32)

/-- An entry of the gradient of the norm's input, with the residual stream's. -/
def dxe {n : ℕ} (x : Vec Ideal ⟨2, ![n, 2048]⟩ .f32) (w : Vec Ideal S1x2048 .f32) (dh r : Vec Ideal ⟨2, ![n, 2048]⟩ .f32) (p : Fin n) (q : Fin 2048) : EReal :=
  (dh (ix2 p q) : EReal) * (w (ix2 0 q) : EReal) * Idealize.ShloMosaic.Ideal.rsqrt (ms x p) + (x (ix2 p q) : EReal) * share x w dh p + share x w dh p * (x (ix2 p q) : EReal) + (r (ix2 p q) : EReal)

/-- A row's part of the gradient of the norm's weight. -/
def dwe {n : ℕ} (x dh : Vec Ideal ⟨2, ![n, 2048]⟩ .f32) (p : Fin n) (q : Fin 2048) : EReal :=
  (x (ix2 p q) : EReal) * Idealize.ShloMosaic.Ideal.rsqrt (ms x p) * (dh (ix2 p q) : EReal)

theorem pay6 (x : Vec Ideal S256x2048 .f32) (w : Vec Ideal S1x2048 .f32) (dh r : Vec Ideal S256x2048 .f32) (p : Fin 256) (q : Fin 2048) :
    (k0_pay6 (F := Ideal) x w dh r (ix2 p q) : EReal) = dxe x w dh r p q := by
  pointwise [k0_pay6, k0_pay4, k0_pay3, dxe, share, ms, Fin.sum_univ_one]

theorem pay7 (x : Vec Ideal S256x2048 .f32) (w : Vec Ideal S1x2048 .f32) (dh r : Vec Ideal S256x2048 .f32) (p : Fin 256) (q : Fin 2048) :
    (k0_pay7 (F := Ideal) x w dh r (ix2 p q) : EReal) = dxe x w dh r p q := by
  rw [← pay6]
  unfold k0_pay7
  generalize k0_pay6 (F := Ideal) x w dh r = y
  pointwise

theorem pay5 (x dh : Vec Ideal S256x2048 .f32) (q : Fin 2048) :
    (k0_pay5 (F := Ideal) x dh (ix2 0 q) : EReal) = ∑ p : Fin 256, dwe x dh p q := by
  pointwise [k0_pay5, k0_pay4, k0_pay3, dwe, ms]

theorem pay2 (u v : Vec Ideal S1x2048 .f32) (q : Fin 2048) :
    (k0_pay2 (F := Ideal) u v (ix2 0 q) : EReal) = (v (ix2 0 q) : EReal) + (u (ix2 0 q) : EReal) := by
  pointwise [k0_pay2]

theorem pay1 (q : Fin 2048) : (k0_pay1 (F := Ideal) (ix2 0 q) : EReal) = 0 := by
  pointwise [k0_pay1]

theorem outs4 (m : (ℓ : Loc nD τ sig) → Buf (Elt Ideal) ℓ) (c : Dev nD) (t : Fin cfg0.N) :
    (outsAt0 m c t.val t.isLt).1 = fun y => dxe (iblk m c 0 t) (iblk m c 1 t) (iblk m c 2 t) (iblk m c 3 t) (y 0) (y 1) := by
  refine ext2 fun p q => ?_
  by_cases h0 : t.val % 16 = 0
  · rw [outsAt0_A m c t h0]
    dsimp only
    rw [left_A_4]
    exact pay6 _ _ _ _ p q
  · rw [outsAt0_B m c t h0]
    dsimp only
    rw [left_B_4]
    exact pay6 _ _ _ _ p q

theorem outs5 (m : (ℓ : Loc nD τ sig) → Buf (Elt Ideal) ℓ) (c : Dev nD) (t : Fin cfg0.N) :
    (outsAt0 m c t.val t.isLt).2.1 = fun y => dxe (iblk m c 0 t) (iblk m c 1 t) (iblk m c 2 t) (iblk m c 3 t) (y 0) (y 1) := by
  refine ext2 fun p q => ?_
  by_cases h0 : t.val % 16 = 0
  · rw [outsAt0_A m c t h0]
    dsimp only
    rw [left_A_5]
    exact pay7 _ _ _ _ p q
  · rw [outsAt0_B m c t h0]
    dsimp only
    rw [left_B_5]
    exact pay7 _ _ _ _ p q

/-- A block's part of the gradient of the norm's weight. -/
def part (m : (ℓ : Loc nD τ sig) → Buf (Elt Ideal) ℓ) (c : Dev nD) (t : Fin cfg0.N) (q : Fin 2048) : EReal :=
  ∑ p : Fin 256, dwe (n := 256) (iblk m c 0 t) (iblk m c 2 t) p q

theorem outs6_first (m : (ℓ : Loc nD τ sig) → Buf (Elt Ideal) ℓ) (c : Dev nD) (t : Fin cfg0.N) (h0 : t.val % 16 = 0) (q : Fin 2048) :
    ((outsAt0 m c t.val t.isLt).2.2 (ix2 0 q) : EReal) = 0 + part m c t q := by
  rw [outsAt0_A m c t h0]
  dsimp only
  rw [left_A_6]
  exact (pay2 _ _ q).trans (congrArg₂ (· + ·) (pay1 q) (pay5 _ _ q))

theorem outs6_next (m : (ℓ : Loc nD τ sig) → Buf (Elt Ideal) ℓ) (c : Dev nD) (t : Fin cfg0.N) (h0 : ¬t.val % 16 = 0) (q : Fin 2048) :
    ((outsAt0 m c t.val t.isLt).2.2 (ix2 0 q) : EReal)
      = ((outsAt0 m c (t.val - 1) (Nat.lt_of_le_of_lt (Nat.sub_le _ _) t.isLt)).2.2 (ix2 0 q) : EReal) + part m c t q := by
  rw [outsAt0_B m c t h0]
  dsimp only
  rw [left_B_6]
  exact (pay2 _ _ q).trans (congrArg (_ + ·) (pay5 _ _ q))

/-- After a point, the weight's gradient is the sum of the blocks' parts so far. -/
theorem outs6 (m : (ℓ : Loc nD τ sig) → Buf (Elt Ideal) ℓ) (c : Dev nD) (q : Fin 2048) : ∀ (n : ℕ) (hn : n < cfg0.N),
    ((outsAt0 m c n hn).2.2 (ix2 0 q) : EReal) = ∑ t : Fin (n + 1), part m c ⟨t.val, by omega⟩ q := by
  intro n
  induction n with
  | zero =>
    intro hn
    rw [Fin.sum_univ_one]
    exact (outs6_first m c ⟨0, hn⟩ rfl q).trans (zero_add _)
  | succ n ih =>
    intro hn
    rw [Fin.sum_univ_castSucc]
    have h16 : n + 1 < 16 := hn
    exact (outs6_next m c ⟨n + 1, hn⟩ (by show ¬(n + 1) % 16 = 0; omega) q).trans (congrArg (· + part m c ⟨n + 1, hn⟩ q) (ih (Nat.lt_of_succ_lt hn)))

theorem idx_facts : ∀ t : Fin cfg0.N,
    (win0_0.index t 0 = t.val ∧ win0_0.index t 1 = 0) ∧ (win0_1.index t 0 = 0 ∧ win0_1.index t 1 = 0) ∧
    (win0_2.index t 0 = t.val ∧ win0_2.index t 1 = 0) ∧ (win0_3.index t 0 = t.val ∧ win0_3.index t 1 = 0) ∧
    (win0_4.index t 0 = t.val ∧ win0_4.index t 1 = 0) ∧ (win0_5.index t 0 = t.val ∧ win0_5.index t 1 = 0) ∧
    (win0_6.index t 0 = 0 ∧ win0_6.index t 1 = 0) := by
  decide +kernel

theorem blk0 (m : (ℓ : Loc nD τ sig) → Buf (Elt Ideal) ℓ) (c : Dev nD) (t : Fin cfg0.N) (p : Fin 256) (q : Fin 2048) (P : Fin 4096) (hP : P.val = t.val * 256 + p.val) :
    (iblk m c 0 t : Vec Ideal S256x2048 .f32) (ix2 p q) = (m ((c : Thread nD τ).loc main_arg0) : Vec Ideal S4096x2048 .f32) (ix2 P q) := by
  obtain ⟨⟨f0, f1⟩, -, ⟨g0, g1⟩, ⟨h0, h1⟩, -⟩ := idx_facts t
  refine congrArg (m ((c : Thread nD τ).loc main_arg0)) ?_
  funext a
  match a with
  | 0 => exact Fin.ext (by show win0_0.index t 0 * 256 + 1 * p.val = P.val; rw [f0, hP]; omega)
  | 1 => exact Fin.ext (by show win0_0.index t 1 * 2048 + 1 * q.val = q.val; rw [f1]; omega)

theorem blk2 (m : (ℓ : Loc nD τ sig) → Buf (Elt Ideal) ℓ) (c : Dev nD) (t : Fin cfg0.N) (p : Fin 256) (q : Fin 2048) (P : Fin 4096) (hP : P.val = t.val * 256 + p.val) :
    (iblk m c 2 t : Vec Ideal S256x2048 .f32) (ix2 p q) = (m ((c : Thread nD τ).loc main_arg2) : Vec Ideal S4096x2048 .f32) (ix2 P q) := by
  obtain ⟨⟨f0, f1⟩, -, ⟨g0, g1⟩, ⟨h0, h1⟩, -⟩ := idx_facts t
  refine congrArg (m ((c : Thread nD τ).loc main_arg2)) ?_
  funext a
  match a with
  | 0 => exact Fin.ext (by show win0_2.index t 0 * 256 + 1 * p.val = P.val; rw [g0, hP]; omega)
  | 1 => exact Fin.ext (by show win0_2.index t 1 * 2048 + 1 * q.val = q.val; rw [g1]; omega)

theorem blk3 (m : (ℓ : Loc nD τ sig) → Buf (Elt Ideal) ℓ) (c : Dev nD) (t : Fin cfg0.N) (p : Fin 256) (q : Fin 2048) (P : Fin 4096) (hP : P.val = t.val * 256 + p.val) :
    (iblk m c 3 t : Vec Ideal S256x2048 .f32) (ix2 p q) = (m ((c : Thread nD τ).loc main_arg3) : Vec Ideal S4096x2048 .f32) (ix2 P q) := by
  obtain ⟨⟨f0, f1⟩, -, ⟨g0, g1⟩, ⟨h0, h1⟩, -⟩ := idx_facts t
  refine congrArg (m ((c : Thread nD τ).loc main_arg3)) ?_
  funext a
  match a with
  | 0 => exact Fin.ext (by show win0_3.index t 0 * 256 + 1 * p.val = P.val; rw [h0, hP]; omega)
  | 1 => exact Fin.ext (by show win0_3.index t 1 * 2048 + 1 * q.val = q.val; rw [h1]; omega)

theorem blk1 (m : (ℓ : Loc nD τ sig) → Buf (Elt Ideal) ℓ) (c : Dev nD) (t : Fin cfg0.N) (q : Fin 2048) :
    (iblk m c 1 t : Vec Ideal S1x2048 .f32) (ix2 0 q) = (m ((c : Thread nD τ).loc main_arg1) : Vec Ideal S1x2048 .f32) (ix2 0 q) := by
  obtain ⟨-, ⟨f0, f1⟩, -⟩ := idx_facts t
  refine congrArg (m ((c : Thread nD τ).loc main_arg1)) ?_
  funext a
  match a with
  | 0 => exact Fin.ext (by show win0_1.index t 0 * 1 + 1 * 0 = 0; rw [f0])
  | 1 => exact Fin.ext (by show win0_1.index t 1 * 2048 + 1 * q.val = q.val; rw [f1]; omega)

/-- An entry depends on its row alone. -/
theorem dxe_congr {n n' : ℕ} {x dh r : Vec Ideal ⟨2, ![n, 2048]⟩ .f32} {x' dh' r' : Vec Ideal ⟨2, ![n', 2048]⟩ .f32} {w w' : Vec Ideal S1x2048 .f32} {p : Fin n} {P : Fin n'}
    (hx : ∀ q, x (ix2 p q) = x' (ix2 P q)) (hw : ∀ q : Fin 2048, w (ix2 0 q) = w' (ix2 0 q)) (hd : ∀ q, dh (ix2 p q) = dh' (ix2 P q)) (hr : ∀ q, r (ix2 p q) = r' (ix2 P q)) (q : Fin 2048) :
    dxe x w dh r p q = dxe x' w' dh' r' P q := by
  simp only [dxe, share, ms, hx, hw, hd, hr]

theorem dwe_congr {n n' : ℕ} {x dh : Vec Ideal ⟨2, ![n, 2048]⟩ .f32} {x' dh' : Vec Ideal ⟨2, ![n', 2048]⟩ .f32} {p : Fin n} {P : Fin n'}
    (hx : ∀ q, x (ix2 p q) = x' (ix2 P q)) (hd : ∀ q, dh (ix2 p q) = dh' (ix2 P q)) (q : Fin 2048) : dwe x dh p q = dwe x' dh' P q := by
  simp only [dwe, ms, hx, hd]

/-- The gradient of the norm's input. -/
def dxs (x : Vec Ideal S4096x2048 .f32) (w : Vec Ideal S1x2048 .f32) (dh r : Vec Ideal S4096x2048 .f32) : Vec Ideal S4096x2048 .f32 :=
  fun y => dxe x w dh r (y 0) (y 1)

/-- The same gradient, in the width the next products take. -/
def dxs16 (x : Vec Ideal S4096x2048 .f32) (w : Vec Ideal S1x2048 .f32) (dh r : Vec Ideal S4096x2048 .f32) : Vec Ideal S4096x2048 .bf16 :=
  fun y => dxe x w dh r (y 0) (y 1)

/-- The gradient of the norm's weight. -/
def dws (x dh : Vec Ideal S4096x2048 .f32) : Vec Ideal S1x2048 .f32 :=
  fun y => ∑ p : Fin 4096, dwe x dh p (y 1)

theorem array4 (m : (ℓ : Loc nD τ sig) → Buf (Elt Ideal) ℓ) (c : Dev nD) : (dats m 0 c).arrAt 4 cfg0.N = dxs (m ((c : Thread nD τ).loc main_arg0)) (m ((c : Thread nD τ).loc main_arg1)) (m ((c : Thread nD τ).loc main_arg2)) (m ((c : Thread nD τ).loc main_arg3)) := by
  refine Pipeline.Dat.arrAt_eq_of_covers (dats m 0 c) 4 _ (by decide +kernel) fun t _ y => ?_
  obtain ⟨-, -, -, -, ⟨e0, e1⟩, -⟩ := idx_facts t
  show (dats m 0 c).after 4 t y = _
  rw [after0_4, outs4]
  have hP : (((cfg0.win 4).blk t).view.emb y 0 : Fin 4096).val = t.val * 256 + (y 0).val := by
    show win0_4.index t 0 * 256 + 1 * (y 0).val = _; rw [e0]; omega
  have hq : (((cfg0.win 4).blk t).view.emb y 1 : Fin 2048) = y 1 := Fin.ext (by show win0_4.index t 1 * 2048 + 1 * (y 1).val = (y 1).val; rw [e1]; omega)
  refine (dxe_congr (fun q => blk0 m c t (y 0) q _ hP) (fun q => blk1 m c t q) (fun q => blk2 m c t (y 0) q _ hP) (fun q => blk3 m c t (y 0) q _ hP) (y 1)).trans ?_
  exact congrArg (dxe (m ((c : Thread nD τ).loc main_arg0)) (m ((c : Thread nD τ).loc main_arg1)) (m ((c : Thread nD τ).loc main_arg2)) (m ((c : Thread nD τ).loc main_arg3)) _) hq.symm

theorem array5 (m : (ℓ : Loc nD τ sig) → Buf (Elt Ideal) ℓ) (c : Dev nD) : (dats m 0 c).arrAt 5 cfg0.N = dxs16 (m ((c : Thread nD τ).loc main_arg0)) (m ((c : Thread nD τ).loc main_arg1)) (m ((c : Thread nD τ).loc main_arg2)) (m ((c : Thread nD τ).loc main_arg3)) := by
  refine Pipeline.Dat.arrAt_eq_of_covers (dats m 0 c) 5 _ (by decide +kernel) fun t _ y => ?_
  obtain ⟨-, -, -, -, -, ⟨e0, e1⟩, -⟩ := idx_facts t
  show (dats m 0 c).after 5 t y = _
  rw [after0_5, outs5]
  have hP : (((cfg0.win 5).blk t).view.emb y 0 : Fin 4096).val = t.val * 256 + (y 0).val := by
    show win0_5.index t 0 * 256 + 1 * (y 0).val = _; rw [e0]; omega
  have hq : (((cfg0.win 5).blk t).view.emb y 1 : Fin 2048) = y 1 := Fin.ext (by show win0_5.index t 1 * 2048 + 1 * (y 1).val = (y 1).val; rw [e1]; omega)
  refine (dxe_congr (fun q => blk0 m c t (y 0) q _ hP) (fun q => blk1 m c t q) (fun q => blk2 m c t (y 0) q _ hP) (fun q => blk3 m c t (y 0) q _ hP) (y 1)).trans ?_
  exact congrArg (dxe (m ((c : Thread nD τ).loc main_arg0)) (m ((c : Thread nD τ).loc main_arg1)) (m ((c : Thread nD τ).loc main_arg2)) (m ((c : Thread nD τ).loc main_arg3)) _) hq.symm

theorem all_rows (m : (ℓ : Loc nD τ sig) → Buf (Elt Ideal) ℓ) (c : Dev nD) (q : Fin 2048) (t : Fin cfg0.N) (ht : t.val = 15) :
    ((outsAt0 m c t.val t.isLt).2.2 (ix2 0 q) : EReal) = ∑ p : Fin 4096, dwe (n := 4096) (m ((c : Thread nD τ).loc main_arg0)) (m ((c : Thread nD τ).loc main_arg2)) p q := by
  obtain ⟨n, hn⟩ := t
  have hn' : n = 15 := ht
  subst hn'
  refine (outs6 m c q 15 hn).trans ?_
  rw [sum_blocks 16 256 (fun p : Fin 4096 => dwe (n := 4096) (m ((c : Thread nD τ).loc main_arg0)) (m ((c : Thread nD τ).loc main_arg2)) p q) (fun i k => by omega)]
  exact Finset.sum_congr rfl fun t _ => Finset.sum_congr rfl fun p _ =>
    dwe_congr (fun q => blk0 m c ⟨t.val, t.isLt⟩ p q _ rfl) (fun q => blk2 m c ⟨t.val, t.isLt⟩ p q _ rfl) q

theorem array6 (m : (ℓ : Loc nD τ sig) → Buf (Elt Ideal) ℓ) (c : Dev nD) : (dats m 0 c).arrAt 6 cfg0.N = dws (m ((c : Thread nD τ).loc main_arg0)) (m ((c : Thread nD τ).loc main_arg2)) := by
  refine Pipeline.Dat.arrAt_eq_of_covers (dats m 0 c) 6 _ (by decide +kernel) fun t ht y => ?_
  obtain ⟨-, -, -, -, -, -, ⟨e0, e1⟩⟩ := idx_facts t
  show (dats m 0 c).after 6 t y = _
  rw [after0_6]
  have h15 : t.val = 15 := by
    have h := (flush0_6 t).mp ht
    have h16 : t.val < 16 := t.isLt
    omega
  obtain ⟨q, rfl⟩ : ∃ (q : Fin 2048), y = ix2 0 q := ⟨y 1, (eq_ix2 y).trans (congrArg (fun p => ix2 p (y 1)) (Fin.fin_one_eq_zero _))⟩
  have hq : (((cfg0.win 6).blk t).view.emb (ix2 0 q) 1 : Fin 2048) = q := Fin.ext (by show win0_6.index t 1 * 2048 + 1 * q.val = q.val; rw [e1]; omega)
  refine (all_rows m c q t h15).trans ?_
  exact congrArg (fun q => ∑ p : Fin 4096, dwe (n := 4096) (m ((c : Thread nD τ).loc main_arg0)) (m ((c : Thread nD τ).loc main_arg2)) p q) hq.symm

theorem algebraic : Cert.algebraic_NormBwdIdeal_NormBwdRefIdeal (hNormBwdIdeal := Cert.NormBwdIdeal.Gen.facts)
    (hNormBwdRefIdeal := Cert.NormBwdRefIdeal.Gen.facts) := by
  intro m g m' g' _ hagree
  refine ⟨fun c => dxs (m ((c : Thread nD τ).loc main_arg0)) (m ((c : Thread nD τ).loc main_arg1)) (m ((c : Thread nD τ).loc main_arg2)) (m ((c : Thread nD τ).loc main_arg3)), fun c => dxs16 (m ((c : Thread nD τ).loc main_arg0)) (m ((c : Thread nD τ).loc main_arg1)) (m ((c : Thread nD τ).loc main_arg2)) (m ((c : Thread nD τ).loc main_arg3)), fun c => dws (m ((c : Thread nD τ).loc main_arg0)) (m ((c : Thread nD τ).loc main_arg2)), ?_, ?_⟩
  · exact (θ_run _ _ _).mono (fun r h c => ⟨(h c).1.trans (array4 m c), (h c).2.1.trans (array5 m c), (h c).2.2.1.trans (array6 m c), (h c).2.2.2⟩) (Cert.NormBwdIdeal.Value.run_blocks m g)
  · refine (θ_run _ _ _).mono (fun r h c => ⟨(h c).1.trans ?_, (h c).2.1.trans ?_, (h c).2.2.1.trans ?_, (h c).2.2.2⟩) (Cert.NormBwdRefIdeal.Value.run m' g')
    · rw [(hagree c).1, (hagree c).2.1, (hagree c).2.2.1, (hagree c).2.2.2]
      beta_reduce
      generalize m ((c : Thread nD τ).loc main_arg0) = x
      generalize m ((c : Thread nD τ).loc main_arg1) = w
      generalize m ((c : Thread nD τ).loc main_arg2) = dh
      generalize m ((c : Thread nD τ).loc main_arg3) = r
      refine ext2 fun p q => ?_
      refine Eq.trans ?_ (show dxe x w dh r p q = dxs x w dh r (ix2 p q) from rfl)
      pointwise [dxe, share, ms, Fin.sum_univ_one]
    · rw [(hagree c).1, (hagree c).2.1, (hagree c).2.2.1, (hagree c).2.2.2]
      beta_reduce
      generalize m ((c : Thread nD τ).loc main_arg0) = x
      generalize m ((c : Thread nD τ).loc main_arg1) = w
      generalize m ((c : Thread nD τ).loc main_arg2) = dh
      generalize m ((c : Thread nD τ).loc main_arg3) = r
      refine ext2 fun p q => ?_
      refine Eq.trans ?_ (show dxe x w dh r p q = dxs16 x w dh r (ix2 p q) from rfl)
      pointwise [dxe, share, ms, Fin.sum_univ_one]
    · rw [(hagree c).1, (hagree c).2.2.1]
      beta_reduce
      generalize m ((c : Thread nD τ).loc main_arg0) = x
      generalize m ((c : Thread nD τ).loc main_arg2) = dh
      refine ext2 fun p q => ?_
      refine Eq.trans ?_ (show (∑ p : Fin 4096, dwe x dh p q) = dws x dh (ix2 p q) from rfl)
      obtain rfl : p = 0 := Fin.fin_one_eq_zero p
      pointwise [dwe, ms]

theorem frame_ideal : Cert.quiescent_NormBwdIdeal (hNormBwdIdeal := Cert.NormBwdIdeal.Gen.facts) :=
  fun m ρ _ => Cert.NormBwdIdeal.Gen.frame m ρ

theorem frame_reference : Cert.quiescent_NormBwdRefIdeal (hNormBwdRefIdeal := Cert.NormBwdRefIdeal.Gen.facts) :=
  fun m ρ _ => (θ_run Cert.NormBwdRefIdeal.defs _ _).mono
    (fun r h => ⟨fun c => (h c).2.2.2, sem_eq_zero_of_no_sems (by decide) r.2⟩) (Cert.NormBwdRefIdeal.Value.run m ρ)

attribute [local instance] Cert.NormBwd.Gen.facts

/-- The kernel and its ideal reading are one text. -/
theorem body_eq : Cert.NormBwd.cc0_norm1_bwd (F := Bits) = cc0_norm1_bwd (F := Bits) := rfl

theorem defs_eq : Cert.NormBwd.defs (F := Bits) = defs (F := Bits) := by
  unfold Cert.NormBwd.defs defs
  refine congrArg (Pipeline.defs (pcfgs (F := Bits))) ?_
  unfold Cert.NormBwd.defs₀ defs₀
  refine congrArg Defs.onTc ?_
  funext l x
  match l, x with
  | 0, (t, s) =>
    rw [body_eq]
    rfl

/-- The kernel's frame is its ideal reading's, taken at bit patterns. -/
theorem frame_kernel : Cert.quiescent_NormBwd (hNormBwd := Cert.NormBwd.Gen.facts) := by
  intro m ρ _
  rw [defs_eq]
  exact Cert.NormBwdIdeal.Gen.frame (F := Bits) m ρ

end Cert.Proof.NormBwd

end
-- ==== Proof.Adam.lean ====
module

public import proofs.«01_k».proof.Proof.Entries

@[expose] public section

noncomputable section

namespace Cert.Hand.Adam

open Idealize.ShloMosaic

/-- The first moment after a step. -/
def newM (g m : EReal) : EReal :=
  Idealize.ShloMosaic.Ideal.ofBits .f32 0x3F666666#32 * m + Idealize.ShloMosaic.Ideal.ofBits .f32 0x3DCCCCCD#32 * g

/-- The second moment after a step. -/
def newV (g v : EReal) : EReal :=
  Idealize.ShloMosaic.Ideal.ofBits .f32 0x3F7FBE77#32 * v + Idealize.ShloMosaic.Ideal.ofBits .f32 0x3A83126F#32 * (g * g)

/-- The change of the weight. -/
def delta (g w m v : EReal) : EReal :=
  Idealize.ShloMosaic.Ideal.ofBits .f32 0xBA83126F#32 *
    (Idealize.ShloMosaic.Ideal.div (Idealize.ShloMosaic.Ideal.div (newM g m) (Idealize.ShloMosaic.Ideal.ofBits .f32 0x3F26BD02#32))
        (Idealize.ShloMosaic.Ideal.sqrt (Idealize.ShloMosaic.Ideal.div (newV g v) (Idealize.ShloMosaic.Ideal.ofBits .f32 0x3C231ACC#32))
          + Idealize.ShloMosaic.Ideal.ofBits .f32 0x322BCC77#32)
      + Idealize.ShloMosaic.Ideal.ofBits .f32 0x3C23D70A#32 * w)

theorem m_word : Idealize.ShloMosaic.Ideal.ofBits .f32 0x3F26BD02#32 = ((5463681 / 8388608 : ℝ) : EReal) := by
  simp [Idealize.ShloMosaic.Ideal.ofBits, Idealize.ShloMosaic.Ideal.ieee]
  rw [← EReal.coe_mul]
  exact congrArg _ (by norm_num)

theorem v_word : Idealize.ShloMosaic.Ideal.ofBits .f32 0x3C231ACC#32 = ((2672307 / 268435456 : ℝ) : EReal) := by
  simp [Idealize.ShloMosaic.Ideal.ofBits, Idealize.ShloMosaic.Ideal.ieee]
  rw [← EReal.coe_mul]
  exact congrArg _ (by norm_num)

/-- The first moment's correction: the product with the reciprocal is the quotient. -/
theorem m_corr (x : EReal) : x * ((8388608 / 5463681 : ℝ) : EReal) = Idealize.ShloMosaic.Ideal.div x (Idealize.ShloMosaic.Ideal.ofBits .f32 0x3F26BD02#32) := by
  rw [m_word]
  unfold Idealize.ShloMosaic.Ideal.div
  rw [if_neg (by exact_mod_cast (by norm_num : (5463681 / 8388608 : ℝ) ≠ 0)), ← EReal.coe_inv]
  norm_num

/-- The second moment's correction. -/
theorem v_corr (x : EReal) : x * ((268435456 / 2672307 : ℝ) : EReal) = Idealize.ShloMosaic.Ideal.div x (Idealize.ShloMosaic.Ideal.ofBits .f32 0x3C231ACC#32) := by
  rw [v_word]
  unfold Idealize.ShloMosaic.Ideal.div
  rw [if_neg (by exact_mod_cast (by norm_num : (2672307 / 268435456 : ℝ) ≠ 0)), ← EReal.coe_inv]
  norm_num

/-- An array's number of rows times columns. -/
abbrev Mat (R C : ℕ) : Shape := ⟨2, ![R, C]⟩

/-- The devices' parts, one array after another. -/
abbrev Parts (R C : ℕ) : Shape := ⟨3, ![8, R, C]⟩

/-- An entry of the gradient: the sum of the eight parts. -/
def total {R C : ℕ} (x : (Parts R C).Idx → EReal) (p : Fin R) (q : Fin C) : EReal := ∑ s : Fin 8, x (ix3 s p q)

/-- The gradient. -/
def grads {R C : ℕ} (x : (Parts R C).Idx → EReal) : Vec Ideal (Mat R C) .f32 := fun y => total x (y 0) (y 1)

/-- The changes of the weights. -/
def deltas {R C : ℕ} (x : (Parts R C).Idx → EReal) (w m v : Vec Ideal (Mat R C) .f32) : Vec Ideal (Mat R C) .f32 :=
  fun y => delta (total x (y 0) (y 1)) (w (ix2 (y 0) (y 1))) (m (ix2 (y 0) (y 1))) (v (ix2 (y 0) (y 1)))

/-- The first moments. -/
def firsts {R C : ℕ} (x : (Parts R C).Idx → EReal) (m : Vec Ideal (Mat R C) .f32) : Vec Ideal (Mat R C) .f32 :=
  fun y => newM (total x (y 0) (y 1)) (m (ix2 (y 0) (y 1)))

/-- The second moments. -/
def seconds {R C : ℕ} (x : (Parts R C).Idx → EReal) (v : Vec Ideal (Mat R C) .f32) : Vec Ideal (Mat R C) .f32 :=
  fun y => newV (total x (y 0) (y 1)) (v (ix2 (y 0) (y 1)))

/-- The sum of eight, one after another. -/
theorem total_eq {R C : ℕ} (x : (Parts R C).Idx → EReal) (p : Fin R) (q : Fin C) :
    total x p q = x (ix3 0 p q) + x (ix3 1 p q) + x (ix3 2 p q) + x (ix3 3 p q) + x (ix3 4 p q) + x (ix3 5 p q) + x (ix3 6 p q) + x (ix3 7 p q) :=
  Fin.sum_univ_eight _

theorem eq_ix2 {R C : ℕ} (y : (Mat R C).Idx) : ∃ (p : Fin R) (q : Fin C), y = ix2 p q := by
  refine ⟨y 0, y 1, ?_⟩
  funext a
  match a with
  | 0 => rfl
  | 1 => rfl

end Cert.Hand.Adam

end
-- ==== Proof.AdamGateUp.lean ====
module

public import proofs.«01_k».proof.Defs
public import proofs.«01_k».proof.Proof.Adam
public import proofs.«01_k».proof.Proof.Gen.AdamGateUp.Frame
public import proofs.«01_k».proof.Proof.Gen.AdamGateUpIdeal.Value
public import proofs.«01_k».proof.Proof.Gen.AdamGateUpRefIdeal.Run
public import Idealize.ShloMosaic.Lib.Pipeline.ValueKit.Geometry
public import Idealize.ShloMosaic.Adequacy
public import Idealize.ShloMosaic.Init

@[expose] public section

set_option maxRecDepth 16384

noncomputable section

namespace Cert.Proof.AdamGateUp

open Cert.AdamGateUpIdeal Cert.AdamGateUpIdeal.Gen Cert.Hand.Entries Cert.Hand.Adam Idealize.ShloMosaic Idealize.ShloMosaic.TcCoe Idealize.SL.Sem

/-- The first moment's correction, as the ideal reading has it. -/
theorem m_named : Named.named (F := Ideal) Cert.AdamGateUpIdeal.κ "m_corr" (φ := .f32) 0x3FC48605#32 = ((8388608 / 5463681 : ℝ) : EReal) :=
  IdealRules.named_const.ideal_named_scalar _ _ _ _ rfl

theorem v_named : Named.named (F := Ideal) Cert.AdamGateUpIdeal.κ "v_corr" (φ := .f32) 0x42C8E6D3#32 = ((268435456 / 2672307 : ℝ) : EReal) :=
  IdealRules.named_const.ideal_named_scalar _ _ _ _ rfl

theorem preserves : Cert.preserves_AdamGateUp_AdamGateUpIdeal :=
  ⟨IdealRules.named_const.statement Cert.AdamGateUpIdeal.κ "m_corr" .f32 0x3FC48605#32 ((8388608 / 5463681 : ℝ) : EReal) rfl,
   IdealRules.named_const.statement Cert.AdamGateUpIdeal.κ "v_corr" .f32 0x42C8E6D3#32 ((268435456 / 2672307 : ℝ) : EReal) rfl⟩

/-- The body sums its block of the parts. -/
theorem pay5 (x0 : Vec Ideal S8x128x1408 .f32) (x1 x2 x3 : Vec Ideal S128x1408 .f32) (p : Fin 128) (q : Fin 1408) :
    (k0_pay5 x0 x1 x2 x3 (ix2 p q) : EReal) = total x0 p q := by
  rw [total_eq]
  unfold k0_pay5
  simp only [View.ld_unit]
  pointwise [k0_pay3]

theorem pay6 (x0 : Vec Ideal S8x128x1408 .f32) (x1 x2 x3 : Vec Ideal S128x1408 .f32) (p : Fin 128) (q : Fin 1408) :
    (k0_pay6 x0 x1 x2 x3 (ix2 p q) : EReal) = newM (total x0 p q) (x2 (ix2 p q)) := by
  rw [total_eq]
  unfold k0_pay6 newM
  rw [View.ld_unit_zero zero2]
  simp only [View.ld_unit]
  pointwise [k0_pay4, k0_pay3]

theorem pay1 (g v : Vec Ideal S128x1408 .f32) (p : Fin 128) (q : Fin 1408) :
    (k0_pay1 g v (ix2 p q) : EReal) = newV (g (ix2 p q)) (v (ix2 p q)) := by
  pointwise [k0_pay1, newV]

theorem pay2 (g n v w : Vec Ideal S128x1408 .f32) (p : Fin 128) (q : Fin 1408) (mv : EReal) (hn : n (ix2 p q) = newM (g (ix2 p q)) mv) :
    (k0_pay2 g n v w (ix2 p q) : EReal) = delta (g (ix2 p q)) (w (ix2 p q)) mv (v (ix2 p q)) := by
  unfold delta
  rw [← m_corr, ← v_corr, ← hn, ← m_named, ← v_named, ← pay1]
  pointwise [k0_pay2, k0_pay1]

theorem left4 (x0 : Vec Ideal S8x128x1408 .f32) (x1 x2 x3 : Vec Ideal S128x1408 .f32) (p : Fin 128) (q : Fin 1408) : (out0_4 x0 x1 x2 x3 (ix2 p q) : EReal) = total x0 p q := by
  unfold out0_4
  rw [View.canon_unit_zero zero2, pay5]

theorem left5 (x0 : Vec Ideal S8x128x1408 .f32) (x1 x2 x3 : Vec Ideal S128x1408 .f32) (p : Fin 128) (q : Fin 1408) : (out0_5 x0 x1 x2 x3 (ix2 p q) : EReal) = delta (total x0 p q) (x1 (ix2 p q)) (x2 (ix2 p q)) (x3 (ix2 p q)) := by
  unfold out0_5
  rw [View.canon_unit_zero zero2, View.ld_unit_zero zero2, View.ld_unit_zero zero2, pay2 _ _ _ _ p q (x2 (ix2 p q)) (by rw [pay5, pay6]), pay5]

theorem left6 (x0 : Vec Ideal S8x128x1408 .f32) (x1 x2 x3 : Vec Ideal S128x1408 .f32) (p : Fin 128) (q : Fin 1408) : (out0_6 x0 x1 x2 x3 (ix2 p q) : EReal) = newM (total x0 p q) (x2 (ix2 p q)) := by
  unfold out0_6
  rw [View.canon_unit_zero zero2, pay6]

theorem left7 (x0 : Vec Ideal S8x128x1408 .f32) (x1 x2 x3 : Vec Ideal S128x1408 .f32) (p : Fin 128) (q : Fin 1408) : (out0_7 x0 x1 x2 x3 (ix2 p q) : EReal) = newV (total x0 p q) (x3 (ix2 p q)) := by
  unfold out0_7
  rw [View.canon_unit_zero zero2, View.ld_unit_zero zero2, pay1, pay5]

/-- Every window stands on the same block of its array. -/
theorem idx_facts : ∀ t : Fin cfg0.N,
    (win0_0.index t 0 = 0 ∧ win0_0.index t 1 = win0_4.index t 0 ∧ win0_0.index t 2 = win0_4.index t 1) ∧
    win0_1.index t = win0_4.index t ∧ win0_2.index t = win0_4.index t ∧ win0_3.index t = win0_4.index t ∧
    win0_5.index t = win0_4.index t ∧ win0_6.index t = win0_4.index t ∧ win0_7.index t = win0_4.index t := by
  decide +kernel

/-- Where an entry of a block stands in the array. -/
structure At (t : Fin cfg0.N) (p : Fin 128) (q : Fin 1408) (P : Fin 2048) (Q : Fin 1408) : Prop where
  row : win0_4.index t 0 * 128 + 1 * p.val = P.val
  col : win0_4.index t 1 * 1408 + 1 * q.val = Q.val

theorem parts_at (m : (ℓ : Loc nD τ sig) → Buf (Elt Ideal) ℓ) (c : Dev nD) (t : Fin cfg0.N) {p : Fin 128} {q : Fin 1408} {P : Fin 2048} {Q : Fin 1408} (h : At t p q P Q) :
    total (iblk m c 0 t : Vec Ideal S8x128x1408 .f32) p q = total (m ((c : Thread nD τ).loc main_arg0) : Vec Ideal S8x2048x1408 .f32) P Q := by
  obtain ⟨⟨f0, f1, f2⟩, -⟩ := idx_facts t
  refine Finset.sum_congr rfl fun s _ => congrArg (m ((c : Thread nD τ).loc main_arg0)) ?_
  funext a
  match a with
  | 0 => exact Fin.ext (by show win0_0.index t 0 * 8 + 1 * s.val = s.val; rw [f0]; omega)
  | 1 => exact Fin.ext (by show win0_0.index t 1 * 128 + 1 * p.val = P.val; rw [f1]; exact h.row)
  | 2 => exact Fin.ext (by show win0_0.index t 2 * 1408 + 1 * q.val = Q.val; rw [f2]; exact h.col)

theorem block1_at (m : (ℓ : Loc nD τ sig) → Buf (Elt Ideal) ℓ) (c : Dev nD) (t : Fin cfg0.N) {p : Fin 128} {q : Fin 1408} {P : Fin 2048} {Q : Fin 1408} (h : At t p q P Q) :
    (iblk m c 1 t : Vec Ideal S128x1408 .f32) (ix2 p q) = (m ((c : Thread nD τ).loc main_arg1) : Vec Ideal S2048x1408 .f32) (ix2 P Q) := by
  refine congrArg (m ((c : Thread nD τ).loc main_arg1)) ?_
  funext a
  match a with
  | 0 => exact Fin.ext (by show win0_1.index t 0 * 128 + 1 * p.val = P.val; rw [(idx_facts t).2.1]; exact h.row)
  | 1 => exact Fin.ext (by show win0_1.index t 1 * 1408 + 1 * q.val = Q.val; rw [(idx_facts t).2.1]; exact h.col)

theorem block2_at (m : (ℓ : Loc nD τ sig) → Buf (Elt Ideal) ℓ) (c : Dev nD) (t : Fin cfg0.N) {p : Fin 128} {q : Fin 1408} {P : Fin 2048} {Q : Fin 1408} (h : At t p q P Q) :
    (iblk m c 2 t : Vec Ideal S128x1408 .f32) (ix2 p q) = (m ((c : Thread nD τ).loc main_arg2) : Vec Ideal S2048x1408 .f32) (ix2 P Q) := by
  refine congrArg (m ((c : Thread nD τ).loc main_arg2)) ?_
  funext a
  match a with
  | 0 => exact Fin.ext (by show win0_2.index t 0 * 128 + 1 * p.val = P.val; rw [(idx_facts t).2.2.1]; exact h.row)
  | 1 => exact Fin.ext (by show win0_2.index t 1 * 1408 + 1 * q.val = Q.val; rw [(idx_facts t).2.2.1]; exact h.col)

theorem block3_at (m : (ℓ : Loc nD τ sig) → Buf (Elt Ideal) ℓ) (c : Dev nD) (t : Fin cfg0.N) {p : Fin 128} {q : Fin 1408} {P : Fin 2048} {Q : Fin 1408} (h : At t p q P Q) :
    (iblk m c 3 t : Vec Ideal S128x1408 .f32) (ix2 p q) = (m ((c : Thread nD τ).loc main_arg3) : Vec Ideal S2048x1408 .f32) (ix2 P Q) := by
  refine congrArg (m ((c : Thread nD τ).loc main_arg3)) ?_
  funext a
  match a with
  | 0 => exact Fin.ext (by show win0_3.index t 0 * 128 + 1 * p.val = P.val; rw [(idx_facts t).2.2.2.1]; exact h.row)
  | 1 => exact Fin.ext (by show win0_3.index t 1 * 1408 + 1 * q.val = Q.val; rw [(idx_facts t).2.2.2.1]; exact h.col)

theorem array4 (m : (ℓ : Loc nD τ sig) → Buf (Elt Ideal) ℓ) (c : Dev nD) : (dats m 0 c).arrAt 4 cfg0.N = grads (m ((c : Thread nD τ).loc main_arg0)) := by
  refine Pipeline.Dat.arrAt_eq_of_covers (dats m 0 c) 4 _ (by decide +kernel) fun t _ y => ?_
  obtain ⟨p, q, rfl⟩ := eq_ix2 (R := 128) (C := 1408) y
  have h : At t p q (((cfg0.win 4).blk t).view.emb (ix2 p q) 0) (((cfg0.win 4).blk t).view.emb (ix2 p q) 1) := ⟨rfl, rfl⟩
  show (dats m 0 c).after 4 t (ix2 p q) = _
  rw [after0_4]
  refine (left4 (iblk m c 0 t) (iblk m c 1 t) (iblk m c 2 t) (iblk m c 3 t) p q).trans ?_
  rw [parts_at m c t h]
  rfl

theorem array5 (m : (ℓ : Loc nD τ sig) → Buf (Elt Ideal) ℓ) (c : Dev nD) : (dats m 0 c).arrAt 5 cfg0.N = deltas (m ((c : Thread nD τ).loc main_arg0)) (m ((c : Thread nD τ).loc main_arg1)) (m ((c : Thread nD τ).loc main_arg2)) (m ((c : Thread nD τ).loc main_arg3)) := by
  refine Pipeline.Dat.arrAt_eq_of_covers (dats m 0 c) 5 _ (by decide +kernel) fun t _ y => ?_
  obtain ⟨p, q, rfl⟩ := eq_ix2 (R := 128) (C := 1408) y
  have h : At t p q (((cfg0.win 5).blk t).view.emb (ix2 p q) 0) (((cfg0.win 5).blk t).view.emb (ix2 p q) 1) := ⟨congrFun (idx_facts t).2.2.2.2.1 0 ▸ rfl, congrFun (idx_facts t).2.2.2.2.1 1 ▸ rfl⟩
  show (dats m 0 c).after 5 t (ix2 p q) = _
  rw [after0_5]
  refine (left5 (iblk m c 0 t) (iblk m c 1 t) (iblk m c 2 t) (iblk m c 3 t) p q).trans ?_
  rw [parts_at m c t h, block1_at m c t h, block2_at m c t h, block3_at m c t h]
  rfl

theorem array6 (m : (ℓ : Loc nD τ sig) → Buf (Elt Ideal) ℓ) (c : Dev nD) : (dats m 0 c).arrAt 6 cfg0.N = firsts (m ((c : Thread nD τ).loc main_arg0)) (m ((c : Thread nD τ).loc main_arg2)) := by
  refine Pipeline.Dat.arrAt_eq_of_covers (dats m 0 c) 6 _ (by decide +kernel) fun t _ y => ?_
  obtain ⟨p, q, rfl⟩ := eq_ix2 (R := 128) (C := 1408) y
  have h : At t p q (((cfg0.win 6).blk t).view.emb (ix2 p q) 0) (((cfg0.win 6).blk t).view.emb (ix2 p q) 1) := ⟨congrFun (idx_facts t).2.2.2.2.2.1 0 ▸ rfl, congrFun (idx_facts t).2.2.2.2.2.1 1 ▸ rfl⟩
  show (dats m 0 c).after 6 t (ix2 p q) = _
  rw [after0_6]
  refine (left6 (iblk m c 0 t) (iblk m c 1 t) (iblk m c 2 t) (iblk m c 3 t) p q).trans ?_
  rw [parts_at m c t h, block2_at m c t h]
  rfl

theorem array7 (m : (ℓ : Loc nD τ sig) → Buf (Elt Ideal) ℓ) (c : Dev nD) : (dats m 0 c).arrAt 7 cfg0.N = seconds (m ((c : Thread nD τ).loc main_arg0)) (m ((c : Thread nD τ).loc main_arg3)) := by
  refine Pipeline.Dat.arrAt_eq_of_covers (dats m 0 c) 7 _ (by decide +kernel) fun t _ y => ?_
  obtain ⟨p, q, rfl⟩ := eq_ix2 (R := 128) (C := 1408) y
  have h : At t p q (((cfg0.win 7).blk t).view.emb (ix2 p q) 0) (((cfg0.win 7).blk t).view.emb (ix2 p q) 1) := ⟨congrFun (idx_facts t).2.2.2.2.2.2 0 ▸ rfl, congrFun (idx_facts t).2.2.2.2.2.2 1 ▸ rfl⟩
  show (dats m 0 c).after 7 t (ix2 p q) = _
  rw [after0_7]
  refine (left7 (iblk m c 0 t) (iblk m c 1 t) (iblk m c 2 t) (iblk m c 3 t) p q).trans ?_
  rw [parts_at m c t h, block3_at m c t h]
  rfl

theorem algebraic : Cert.algebraic_AdamGateUpIdeal_AdamGateUpRefIdeal (hAdamGateUpIdeal := Cert.AdamGateUpIdeal.Gen.facts)
    (hAdamGateUpRefIdeal := Cert.AdamGateUpRefIdeal.Gen.facts) := by
  intro m g m' g' _ hagree
  refine ⟨fun c => grads (m ((c : Thread nD τ).loc main_arg0)),
    fun c => deltas (m ((c : Thread nD τ).loc main_arg0)) (m ((c : Thread nD τ).loc main_arg1)) (m ((c : Thread nD τ).loc main_arg2)) (m ((c : Thread nD τ).loc main_arg3)),
    fun c => firsts (m ((c : Thread nD τ).loc main_arg0)) (m ((c : Thread nD τ).loc main_arg2)),
    fun c => seconds (m ((c : Thread nD τ).loc main_arg0)) (m ((c : Thread nD τ).loc main_arg3)), ?_, ?_⟩
  · exact (θ_run _ _ _).mono (fun r h c => ⟨(h c).1.trans (array4 m c), (h c).2.1.trans (array5 m c), (h c).2.2.1.trans (array6 m c), (h c).2.2.2.1.trans (array7 m c), (h c).2.2.2.2⟩)
      (Cert.AdamGateUpIdeal.Value.run_blocks m g)
  · refine (θ_run _ _ _).mono (fun r h c => ⟨(h c).1.trans ?_, (h c).2.1.trans ?_, (h c).2.2.1.trans ?_, (h c).2.2.2.1.trans ?_, (h c).2.2.2.2⟩)
      (Cert.AdamGateUpRefIdeal.Value.run m' g')
    · rw [(hagree c).1]
      beta_reduce
      generalize m ((c : Thread nD τ).loc main_arg0) = x0
      refine ext2 fun p q => ?_
      refine Eq.trans ?_ (show total x0 p q = (grads x0 : Vec Ideal S2048x1408 .f32) (ix2 p q) from rfl)
      pointwise [delta, newM, newV, total]
    · rw [(hagree c).1, (hagree c).2.1, (hagree c).2.2.1, (hagree c).2.2.2]
      beta_reduce
      generalize m ((c : Thread nD τ).loc main_arg0) = x0
      generalize m ((c : Thread nD τ).loc main_arg1) = x1
      generalize m ((c : Thread nD τ).loc main_arg2) = x2
      generalize m ((c : Thread nD τ).loc main_arg3) = x3
      refine ext2 fun p q => ?_
      refine Eq.trans ?_ (show delta (total x0 p q) (x1 (ix2 p q)) (x2 (ix2 p q)) (x3 (ix2 p q)) = (deltas x0 x1 x2 x3 : Vec Ideal S2048x1408 .f32) (ix2 p q) from rfl)
      pointwise [delta, newM, newV, total]
    · rw [(hagree c).1, (hagree c).2.2.1]
      beta_reduce
      generalize m ((c : Thread nD τ).loc main_arg0) = x0
      generalize m ((c : Thread nD τ).loc main_arg2) = x2
      refine ext2 fun p q => ?_
      refine Eq.trans ?_ (show newM (total x0 p q) (x2 (ix2 p q)) = (firsts x0 x2 : Vec Ideal S2048x1408 .f32) (ix2 p q) from rfl)
      pointwise [delta, newM, newV, total]
    · rw [(hagree c).1, (hagree c).2.2.2]
      beta_reduce
      generalize m ((c : Thread nD τ).loc main_arg0) = x0
      generalize m ((c : Thread nD τ).loc main_arg3) = x3
      refine ext2 fun p q => ?_
      refine Eq.trans ?_ (show newV (total x0 p q) (x3 (ix2 p q)) = (seconds x0 x3 : Vec Ideal S2048x1408 .f32) (ix2 p q) from rfl)
      pointwise [delta, newM, newV, total]

theorem frame_kernel : Cert.quiescent_AdamGateUp (hAdamGateUp := Cert.AdamGateUp.Gen.facts) :=
  fun m ρ _ => Cert.AdamGateUp.Gen.frame m ρ

theorem frame_ideal : Cert.quiescent_AdamGateUpIdeal (hAdamGateUpIdeal := Cert.AdamGateUpIdeal.Gen.facts) :=
  fun m ρ _ => Cert.AdamGateUpIdeal.Gen.frame m ρ

theorem frame_reference : Cert.quiescent_AdamGateUpRefIdeal (hAdamGateUpRefIdeal := Cert.AdamGateUpRefIdeal.Gen.facts) :=
  fun m ρ _ => (θ_run Cert.AdamGateUpRefIdeal.defs _ _).mono
    (fun r h => ⟨fun c => (h c).2.2.2.2, sem_eq_zero_of_no_sems (by decide) r.2⟩) (Cert.AdamGateUpRefIdeal.Value.run m ρ)

end Cert.Proof.AdamGateUp

end
-- ==== Proof.AdamDown.lean ====
module

public import proofs.«01_k».proof.Defs
public import proofs.«01_k».proof.Proof.Adam
public import proofs.«01_k».proof.Proof.Gen.AdamDown.Frame
public import proofs.«01_k».proof.Proof.Gen.AdamDownIdeal.Value
public import proofs.«01_k».proof.Proof.Gen.AdamDownRefIdeal.Run
public import Idealize.ShloMosaic.Lib.Pipeline.ValueKit.Geometry
public import Idealize.ShloMosaic.Adequacy
public import Idealize.ShloMosaic.Init

@[expose] public section

set_option maxRecDepth 16384

noncomputable section

namespace Cert.Proof.AdamDown

open Cert.AdamDownIdeal Cert.AdamDownIdeal.Gen Cert.Hand.Entries Cert.Hand.Adam Idealize.ShloMosaic Idealize.ShloMosaic.TcCoe Idealize.SL.Sem

/-- The first moment's correction, as the ideal reading has it. -/
theorem m_named : Named.named (F := Ideal) Cert.AdamDownIdeal.κ "m_corr" (φ := .f32) 0x3FC48605#32 = ((8388608 / 5463681 : ℝ) : EReal) :=
  IdealRules.named_const.ideal_named_scalar _ _ _ _ rfl

theorem v_named : Named.named (F := Ideal) Cert.AdamDownIdeal.κ "v_corr" (φ := .f32) 0x42C8E6D3#32 = ((268435456 / 2672307 : ℝ) : EReal) :=
  IdealRules.named_const.ideal_named_scalar _ _ _ _ rfl

theorem preserves : Cert.preserves_AdamDown_AdamDownIdeal :=
  ⟨IdealRules.named_const.statement Cert.AdamDownIdeal.κ "m_corr" .f32 0x3FC48605#32 ((8388608 / 5463681 : ℝ) : EReal) rfl,
   IdealRules.named_const.statement Cert.AdamDownIdeal.κ "v_corr" .f32 0x42C8E6D3#32 ((268435456 / 2672307 : ℝ) : EReal) rfl⟩

/-- The body sums its block of the parts. -/
theorem pay5 (x0 : Vec Ideal S8x88x2048 .f32) (x1 x2 x3 : Vec Ideal S88x2048 .f32) (p : Fin 88) (q : Fin 2048) :
    (k0_pay5 x0 x1 x2 x3 (ix2 p q) : EReal) = total x0 p q := by
  rw [total_eq]
  unfold k0_pay5
  simp only [View.ld_unit]
  pointwise [k0_pay3]

theorem pay6 (x0 : Vec Ideal S8x88x2048 .f32) (x1 x2 x3 : Vec Ideal S88x2048 .f32) (p : Fin 88) (q : Fin 2048) :
    (k0_pay6 x0 x1 x2 x3 (ix2 p q) : EReal) = newM (total x0 p q) (x2 (ix2 p q)) := by
  rw [total_eq]
  unfold k0_pay6 newM
  rw [View.ld_unit_zero zero2]
  simp only [View.ld_unit]
  pointwise [k0_pay4, k0_pay3]

theorem pay1 (g v : Vec Ideal S88x2048 .f32) (p : Fin 88) (q : Fin 2048) :
    (k0_pay1 g v (ix2 p q) : EReal) = newV (g (ix2 p q)) (v (ix2 p q)) := by
  pointwise [k0_pay1, newV]

theorem pay2 (g n v w : Vec Ideal S88x2048 .f32) (p : Fin 88) (q : Fin 2048) (mv : EReal) (hn : n (ix2 p q) = newM (g (ix2 p q)) mv) :
    (k0_pay2 g n v w (ix2 p q) : EReal) = delta (g (ix2 p q)) (w (ix2 p q)) mv (v (ix2 p q)) := by
  unfold delta
  rw [← m_corr, ← v_corr, ← hn, ← m_named, ← v_named, ← pay1]
  pointwise [k0_pay2, k0_pay1]

theorem left4 (x0 : Vec Ideal S8x88x2048 .f32) (x1 x2 x3 : Vec Ideal S88x2048 .f32) (p : Fin 88) (q : Fin 2048) : (out0_4 x0 x1 x2 x3 (ix2 p q) : EReal) = total x0 p q := by
  unfold out0_4
  rw [View.canon_unit_zero zero2, pay5]

theorem left5 (x0 : Vec Ideal S8x88x2048 .f32) (x1 x2 x3 : Vec Ideal S88x2048 .f32) (p : Fin 88) (q : Fin 2048) : (out0_5 x0 x1 x2 x3 (ix2 p q) : EReal) = delta (total x0 p q) (x1 (ix2 p q)) (x2 (ix2 p q)) (x3 (ix2 p q)) := by
  unfold out0_5
  rw [View.canon_unit_zero zero2, View.ld_unit_zero zero2, View.ld_unit_zero zero2, pay2 _ _ _ _ p q (x2 (ix2 p q)) (by rw [pay5, pay6]), pay5]

theorem left6 (x0 : Vec Ideal S8x88x2048 .f32) (x1 x2 x3 : Vec Ideal S88x2048 .f32) (p : Fin 88) (q : Fin 2048) : (out0_6 x0 x1 x2 x3 (ix2 p q) : EReal) = newM (total x0 p q) (x2 (ix2 p q)) := by
  unfold out0_6
  rw [View.canon_unit_zero zero2, pay6]

theorem left7 (x0 : Vec Ideal S8x88x2048 .f32) (x1 x2 x3 : Vec Ideal S88x2048 .f32) (p : Fin 88) (q : Fin 2048) : (out0_7 x0 x1 x2 x3 (ix2 p q) : EReal) = newV (total x0 p q) (x3 (ix2 p q)) := by
  unfold out0_7
  rw [View.canon_unit_zero zero2, View.ld_unit_zero zero2, pay1, pay5]

/-- Every window stands on the same block of its array. -/
theorem idx_facts : ∀ t : Fin cfg0.N,
    (win0_0.index t 0 = 0 ∧ win0_0.index t 1 = win0_4.index t 0 ∧ win0_0.index t 2 = win0_4.index t 1) ∧
    win0_1.index t = win0_4.index t ∧ win0_2.index t = win0_4.index t ∧ win0_3.index t = win0_4.index t ∧
    win0_5.index t = win0_4.index t ∧ win0_6.index t = win0_4.index t ∧ win0_7.index t = win0_4.index t := by
  decide +kernel

/-- Where an entry of a block stands in the array. -/
structure At (t : Fin cfg0.N) (p : Fin 88) (q : Fin 2048) (P : Fin 704) (Q : Fin 2048) : Prop where
  row : win0_4.index t 0 * 88 + 1 * p.val = P.val
  col : win0_4.index t 1 * 2048 + 1 * q.val = Q.val

theorem parts_at (m : (ℓ : Loc nD τ sig) → Buf (Elt Ideal) ℓ) (c : Dev nD) (t : Fin cfg0.N) {p : Fin 88} {q : Fin 2048} {P : Fin 704} {Q : Fin 2048} (h : At t p q P Q) :
    total (iblk m c 0 t : Vec Ideal S8x88x2048 .f32) p q = total (m ((c : Thread nD τ).loc main_arg0) : Vec Ideal S8x704x2048 .f32) P Q := by
  obtain ⟨⟨f0, f1, f2⟩, -⟩ := idx_facts t
  refine Finset.sum_congr rfl fun s _ => congrArg (m ((c : Thread nD τ).loc main_arg0)) ?_
  funext a
  match a with
  | 0 => exact Fin.ext (by show win0_0.index t 0 * 8 + 1 * s.val = s.val; rw [f0]; omega)
  | 1 => exact Fin.ext (by show win0_0.index t 1 * 88 + 1 * p.val = P.val; rw [f1]; exact h.row)
  | 2 => exact Fin.ext (by show win0_0.index t 2 * 2048 + 1 * q.val = Q.val; rw [f2]; exact h.col)

theorem block1_at (m : (ℓ : Loc nD τ sig) → Buf (Elt Ideal) ℓ) (c : Dev nD) (t : Fin cfg0.N) {p : Fin 88} {q : Fin 2048} {P : Fin 704} {Q : Fin 2048} (h : At t p q P Q) :
    (iblk m c 1 t : Vec Ideal S88x2048 .f32) (ix2 p q) = (m ((c : Thread nD τ).loc main_arg1) : Vec Ideal S704x2048 .f32) (ix2 P Q) := by
  refine congrArg (m ((c : Thread nD τ).loc main_arg1)) ?_
  funext a
  match a with
  | 0 => exact Fin.ext (by show win0_1.index t 0 * 88 + 1 * p.val = P.val; rw [(idx_facts t).2.1]; exact h.row)
  | 1 => exact Fin.ext (by show win0_1.index t 1 * 2048 + 1 * q.val = Q.val; rw [(idx_facts t).2.1]; exact h.col)

theorem block2_at (m : (ℓ : Loc nD τ sig) → Buf (Elt Ideal) ℓ) (c : Dev nD) (t : Fin cfg0.N) {p : Fin 88} {q : Fin 2048} {P : Fin 704} {Q : Fin 2048} (h : At t p q P Q) :
    (iblk m c 2 t : Vec Ideal S88x2048 .f32) (ix2 p q) = (m ((c : Thread nD τ).loc main_arg2) : Vec Ideal S704x2048 .f32) (ix2 P Q) := by
  refine congrArg (m ((c : Thread nD τ).loc main_arg2)) ?_
  funext a
  match a with
  | 0 => exact Fin.ext (by show win0_2.index t 0 * 88 + 1 * p.val = P.val; rw [(idx_facts t).2.2.1]; exact h.row)
  | 1 => exact Fin.ext (by show win0_2.index t 1 * 2048 + 1 * q.val = Q.val; rw [(idx_facts t).2.2.1]; exact h.col)

theorem block3_at (m : (ℓ : Loc nD τ sig) → Buf (Elt Ideal) ℓ) (c : Dev nD) (t : Fin cfg0.N) {p : Fin 88} {q : Fin 2048} {P : Fin 704} {Q : Fin 2048} (h : At t p q P Q) :
    (iblk m c 3 t : Vec Ideal S88x2048 .f32) (ix2 p q) = (m ((c : Thread nD τ).loc main_arg3) : Vec Ideal S704x2048 .f32) (ix2 P Q) := by
  refine congrArg (m ((c : Thread nD τ).loc main_arg3)) ?_
  funext a
  match a with
  | 0 => exact Fin.ext (by show win0_3.index t 0 * 88 + 1 * p.val = P.val; rw [(idx_facts t).2.2.2.1]; exact h.row)
  | 1 => exact Fin.ext (by show win0_3.index t 1 * 2048 + 1 * q.val = Q.val; rw [(idx_facts t).2.2.2.1]; exact h.col)

theorem array4 (m : (ℓ : Loc nD τ sig) → Buf (Elt Ideal) ℓ) (c : Dev nD) : (dats m 0 c).arrAt 4 cfg0.N = grads (m ((c : Thread nD τ).loc main_arg0)) := by
  refine Pipeline.Dat.arrAt_eq_of_covers (dats m 0 c) 4 _ (by decide +kernel) fun t _ y => ?_
  obtain ⟨p, q, rfl⟩ := eq_ix2 (R := 88) (C := 2048) y
  have h : At t p q (((cfg0.win 4).blk t).view.emb (ix2 p q) 0) (((cfg0.win 4).blk t).view.emb (ix2 p q) 1) := ⟨rfl, rfl⟩
  show (dats m 0 c).after 4 t (ix2 p q) = _
  rw [after0_4]
  refine (left4 (iblk m c 0 t) (iblk m c 1 t) (iblk m c 2 t) (iblk m c 3 t) p q).trans ?_
  rw [parts_at m c t h]
  rfl

theorem array5 (m : (ℓ : Loc nD τ sig) → Buf (Elt Ideal) ℓ) (c : Dev nD) : (dats m 0 c).arrAt 5 cfg0.N = deltas (m ((c : Thread nD τ).loc main_arg0)) (m ((c : Thread nD τ).loc main_arg1)) (m ((c : Thread nD τ).loc main_arg2)) (m ((c : Thread nD τ).loc main_arg3)) := by
  refine Pipeline.Dat.arrAt_eq_of_covers (dats m 0 c) 5 _ (by decide +kernel) fun t _ y => ?_
  obtain ⟨p, q, rfl⟩ := eq_ix2 (R := 88) (C := 2048) y
  have h : At t p q (((cfg0.win 5).blk t).view.emb (ix2 p q) 0) (((cfg0.win 5).blk t).view.emb (ix2 p q) 1) := ⟨congrFun (idx_facts t).2.2.2.2.1 0 ▸ rfl, congrFun (idx_facts t).2.2.2.2.1 1 ▸ rfl⟩
  show (dats m 0 c).after 5 t (ix2 p q) = _
  rw [after0_5]
  refine (left5 (iblk m c 0 t) (iblk m c 1 t) (iblk m c 2 t) (iblk m c 3 t) p q).trans ?_
  rw [parts_at m c t h, block1_at m c t h, block2_at m c t h, block3_at m c t h]
  rfl

theorem array6 (m : (ℓ : Loc nD τ sig) → Buf (Elt Ideal) ℓ) (c : Dev nD) : (dats m 0 c).arrAt 6 cfg0.N = firsts (m ((c : Thread nD τ).loc main_arg0)) (m ((c : Thread nD τ).loc main_arg2)) := by
  refine Pipeline.Dat.arrAt_eq_of_covers (dats m 0 c) 6 _ (by decide +kernel) fun t _ y => ?_
  obtain ⟨p, q, rfl⟩ := eq_ix2 (R := 88) (C := 2048) y
  have h : At t p q (((cfg0.win 6).blk t).view.emb (ix2 p q) 0) (((cfg0.win 6).blk t).view.emb (ix2 p q) 1) := ⟨congrFun (idx_facts t).2.2.2.2.2.1 0 ▸ rfl, congrFun (idx_facts t).2.2.2.2.2.1 1 ▸ rfl⟩
  show (dats m 0 c).after 6 t (ix2 p q) = _
  rw [after0_6]
  refine (left6 (iblk m c 0 t) (iblk m c 1 t) (iblk m c 2 t) (iblk m c 3 t) p q).trans ?_
  rw [parts_at m c t h, block2_at m c t h]
  rfl

theorem array7 (m : (ℓ : Loc nD τ sig) → Buf (Elt Ideal) ℓ) (c : Dev nD) : (dats m 0 c).arrAt 7 cfg0.N = seconds (m ((c : Thread nD τ).loc main_arg0)) (m ((c : Thread nD τ).loc main_arg3)) := by
  refine Pipeline.Dat.arrAt_eq_of_covers (dats m 0 c) 7 _ (by decide +kernel) fun t _ y => ?_
  obtain ⟨p, q, rfl⟩ := eq_ix2 (R := 88) (C := 2048) y
  have h : At t p q (((cfg0.win 7).blk t).view.emb (ix2 p q) 0) (((cfg0.win 7).blk t).view.emb (ix2 p q) 1) := ⟨congrFun (idx_facts t).2.2.2.2.2.2 0 ▸ rfl, congrFun (idx_facts t).2.2.2.2.2.2 1 ▸ rfl⟩
  show (dats m 0 c).after 7 t (ix2 p q) = _
  rw [after0_7]
  refine (left7 (iblk m c 0 t) (iblk m c 1 t) (iblk m c 2 t) (iblk m c 3 t) p q).trans ?_
  rw [parts_at m c t h, block3_at m c t h]
  rfl

theorem algebraic : Cert.algebraic_AdamDownIdeal_AdamDownRefIdeal (hAdamDownIdeal := Cert.AdamDownIdeal.Gen.facts)
    (hAdamDownRefIdeal := Cert.AdamDownRefIdeal.Gen.facts) := by
  intro m g m' g' _ hagree
  refine ⟨fun c => grads (m ((c : Thread nD τ).loc main_arg0)),
    fun c => deltas (m ((c : Thread nD τ).loc main_arg0)) (m ((c : Thread nD τ).loc main_arg1)) (m ((c : Thread nD τ).loc main_arg2)) (m ((c : Thread nD τ).loc main_arg3)),
    fun c => firsts (m ((c : Thread nD τ).loc main_arg0)) (m ((c : Thread nD τ).loc main_arg2)),
    fun c => seconds (m ((c : Thread nD τ).loc main_arg0)) (m ((c : Thread nD τ).loc main_arg3)), ?_, ?_⟩
  · exact (θ_run _ _ _).mono (fun r h c => ⟨(h c).1.trans (array4 m c), (h c).2.1.trans (array5 m c), (h c).2.2.1.trans (array6 m c), (h c).2.2.2.1.trans (array7 m c), (h c).2.2.2.2⟩)
      (Cert.AdamDownIdeal.Value.run_blocks m g)
  · refine (θ_run _ _ _).mono (fun r h c => ⟨(h c).1.trans ?_, (h c).2.1.trans ?_, (h c).2.2.1.trans ?_, (h c).2.2.2.1.trans ?_, (h c).2.2.2.2⟩)
      (Cert.AdamDownRefIdeal.Value.run m' g')
    · rw [(hagree c).1]
      beta_reduce
      generalize m ((c : Thread nD τ).loc main_arg0) = x0
      refine ext2 fun p q => ?_
      refine Eq.trans ?_ (show total x0 p q = (grads x0 : Vec Ideal S704x2048 .f32) (ix2 p q) from rfl)
      pointwise [delta, newM, newV, total]
    · rw [(hagree c).1, (hagree c).2.1, (hagree c).2.2.1, (hagree c).2.2.2]
      beta_reduce
      generalize m ((c : Thread nD τ).loc main_arg0) = x0
      generalize m ((c : Thread nD τ).loc main_arg1) = x1
      generalize m ((c : Thread nD τ).loc main_arg2) = x2
      generalize m ((c : Thread nD τ).loc main_arg3) = x3
      refine ext2 fun p q => ?_
      refine Eq.trans ?_ (show delta (total x0 p q) (x1 (ix2 p q)) (x2 (ix2 p q)) (x3 (ix2 p q)) = (deltas x0 x1 x2 x3 : Vec Ideal S704x2048 .f32) (ix2 p q) from rfl)
      pointwise [delta, newM, newV, total]
    · rw [(hagree c).1, (hagree c).2.2.1]
      beta_reduce
      generalize m ((c : Thread nD τ).loc main_arg0) = x0
      generalize m ((c : Thread nD τ).loc main_arg2) = x2
      refine ext2 fun p q => ?_
      refine Eq.trans ?_ (show newM (total x0 p q) (x2 (ix2 p q)) = (firsts x0 x2 : Vec Ideal S704x2048 .f32) (ix2 p q) from rfl)
      pointwise [delta, newM, newV, total]
    · rw [(hagree c).1, (hagree c).2.2.2]
      beta_reduce
      generalize m ((c : Thread nD τ).loc main_arg0) = x0
      generalize m ((c : Thread nD τ).loc main_arg3) = x3
      refine ext2 fun p q => ?_
      refine Eq.trans ?_ (show newV (total x0 p q) (x3 (ix2 p q)) = (seconds x0 x3 : Vec Ideal S704x2048 .f32) (ix2 p q) from rfl)
      pointwise [delta, newM, newV, total]

theorem frame_kernel : Cert.quiescent_AdamDown (hAdamDown := Cert.AdamDown.Gen.facts) :=
  fun m ρ _ => Cert.AdamDown.Gen.frame m ρ

theorem frame_ideal : Cert.quiescent_AdamDownIdeal (hAdamDownIdeal := Cert.AdamDownIdeal.Gen.facts) :=
  fun m ρ _ => Cert.AdamDownIdeal.Gen.frame m ρ

theorem frame_reference : Cert.quiescent_AdamDownRefIdeal (hAdamDownRefIdeal := Cert.AdamDownRefIdeal.Gen.facts) :=
  fun m ρ _ => (θ_run Cert.AdamDownRefIdeal.defs _ _).mono
    (fun r h => ⟨fun c => (h c).2.2.2.2, sem_eq_zero_of_no_sems (by decide) r.2⟩) (Cert.AdamDownRefIdeal.Value.run m ρ)

end Cert.Proof.AdamDown

end
-- ==== Proof.AdamOut.lean ====
module

public import proofs.«01_k».proof.Defs
public import proofs.«01_k».proof.Proof.Adam
public import proofs.«01_k».proof.Proof.Gen.AdamOut.Frame
public import proofs.«01_k».proof.Proof.Gen.AdamOutIdeal.Value
public import proofs.«01_k».proof.Proof.Gen.AdamOutRefIdeal.Run
public import Idealize.ShloMosaic.Lib.Pipeline.ValueKit.Geometry
public import Idealize.ShloMosaic.Adequacy
public import Idealize.ShloMosaic.Init

@[expose] public section

set_option maxRecDepth 16384

noncomputable section

namespace Cert.Proof.AdamOut

open Cert.AdamOutIdeal Cert.AdamOutIdeal.Gen Cert.Hand.Entries Cert.Hand.Adam Idealize.ShloMosaic Idealize.ShloMosaic.TcCoe Idealize.SL.Sem

/-- The first moment's correction, as the ideal reading has it. -/
theorem m_named : Named.named (F := Ideal) Cert.AdamOutIdeal.κ "m_corr" (φ := .f32) 0x3FC48605#32 = ((8388608 / 5463681 : ℝ) : EReal) :=
  IdealRules.named_const.ideal_named_scalar _ _ _ _ rfl

theorem v_named : Named.named (F := Ideal) Cert.AdamOutIdeal.κ "v_corr" (φ := .f32) 0x42C8E6D3#32 = ((268435456 / 2672307 : ℝ) : EReal) :=
  IdealRules.named_const.ideal_named_scalar _ _ _ _ rfl

theorem preserves : Cert.preserves_AdamOut_AdamOutIdeal :=
  ⟨IdealRules.named_const.statement Cert.AdamOutIdeal.κ "m_corr" .f32 0x3FC48605#32 ((8388608 / 5463681 : ℝ) : EReal) rfl,
   IdealRules.named_const.statement Cert.AdamOutIdeal.κ "v_corr" .f32 0x42C8E6D3#32 ((268435456 / 2672307 : ℝ) : EReal) rfl⟩

/-- The body sums its block of the parts. -/
theorem pay5 (x0 : Vec Ideal S8x128x2048 .f32) (x1 x2 x3 : Vec Ideal S128x2048 .f32) (p : Fin 128) (q : Fin 2048) :
    (k0_pay5 x0 x1 x2 x3 (ix2 p q) : EReal) = total x0 p q := by
  rw [total_eq]
  unfold k0_pay5
  simp only [View.ld_unit]
  pointwise [k0_pay3]

theorem pay6 (x0 : Vec Ideal S8x128x2048 .f32) (x1 x2 x3 : Vec Ideal S128x2048 .f32) (p : Fin 128) (q : Fin 2048) :
    (k0_pay6 x0 x1 x2 x3 (ix2 p q) : EReal) = newM (total x0 p q) (x2 (ix2 p q)) := by
  rw [total_eq]
  unfold k0_pay6 newM
  rw [View.ld_unit_zero zero2]
  simp only [View.ld_unit]
  pointwise [k0_pay4, k0_pay3]

theorem pay1 (g v : Vec Ideal S128x2048 .f32) (p : Fin 128) (q : Fin 2048) :
    (k0_pay1 g v (ix2 p q) : EReal) = newV (g (ix2 p q)) (v (ix2 p q)) := by
  pointwise [k0_pay1, newV]

theorem pay2 (g n v w : Vec Ideal S128x2048 .f32) (p : Fin 128) (q : Fin 2048) (mv : EReal) (hn : n (ix2 p q) = newM (g (ix2 p q)) mv) :
    (k0_pay2 g n v w (ix2 p q) : EReal) = delta (g (ix2 p q)) (w (ix2 p q)) mv (v (ix2 p q)) := by
  unfold delta
  rw [← m_corr, ← v_corr, ← hn, ← m_named, ← v_named, ← pay1]
  pointwise [k0_pay2, k0_pay1]

theorem left4 (x0 : Vec Ideal S8x128x2048 .f32) (x1 x2 x3 : Vec Ideal S128x2048 .f32) (p : Fin 128) (q : Fin 2048) : (out0_4 x0 x1 x2 x3 (ix2 p q) : EReal) = total x0 p q := by
  unfold out0_4
  rw [View.canon_unit_zero zero2, pay5]

theorem left5 (x0 : Vec Ideal S8x128x2048 .f32) (x1 x2 x3 : Vec Ideal S128x2048 .f32) (p : Fin 128) (q : Fin 2048) : (out0_5 x0 x1 x2 x3 (ix2 p q) : EReal) = delta (total x0 p q) (x1 (ix2 p q)) (x2 (ix2 p q)) (x3 (ix2 p q)) := by
  unfold out0_5
  rw [View.canon_unit_zero zero2, View.ld_unit_zero zero2, View.ld_unit_zero zero2, pay2 _ _ _ _ p q (x2 (ix2 p q)) (by rw [pay5, pay6]), pay5]

theorem left6 (x0 : Vec Ideal S8x128x2048 .f32) (x1 x2 x3 : Vec Ideal S128x2048 .f32) (p : Fin 128) (q : Fin 2048) : (out0_6 x0 x1 x2 x3 (ix2 p q) : EReal) = newM (total x0 p q) (x2 (ix2 p q)) := by
  unfold out0_6
  rw [View.canon_unit_zero zero2, pay6]

theorem left7 (x0 : Vec Ideal S8x128x2048 .f32) (x1 x2 x3 : Vec Ideal S128x2048 .f32) (p : Fin 128) (q : Fin 2048) : (out0_7 x0 x1 x2 x3 (ix2 p q) : EReal) = newV (total x0 p q) (x3 (ix2 p q)) := by
  unfold out0_7
  rw [View.canon_unit_zero zero2, View.ld_unit_zero zero2, pay1, pay5]

/-- Every window stands on the same block of its array. -/
theorem idx_facts : ∀ t : Fin cfg0.N,
    (win0_0.index t 0 = 0 ∧ win0_0.index t 1 = win0_4.index t 0 ∧ win0_0.index t 2 = win0_4.index t 1) ∧
    win0_1.index t = win0_4.index t ∧ win0_2.index t = win0_4.index t ∧ win0_3.index t = win0_4.index t ∧
    win0_5.index t = win0_4.index t ∧ win0_6.index t = win0_4.index t ∧ win0_7.index t = win0_4.index t := by
  decide +kernel

/-- Where an entry of a block stands in the array. -/
structure At (t : Fin cfg0.N) (p : Fin 128) (q : Fin 2048) (P : Fin 256) (Q : Fin 2048) : Prop where
  row : win0_4.index t 0 * 128 + 1 * p.val = P.val
  col : win0_4.index t 1 * 2048 + 1 * q.val = Q.val

theorem parts_at (m : (ℓ : Loc nD τ sig) → Buf (Elt Ideal) ℓ) (c : Dev nD) (t : Fin cfg0.N) {p : Fin 128} {q : Fin 2048} {P : Fin 256} {Q : Fin 2048} (h : At t p q P Q) :
    total (iblk m c 0 t : Vec Ideal S8x128x2048 .f32) p q = total (m ((c : Thread nD τ).loc main_arg0) : Vec Ideal S8x256x2048 .f32) P Q := by
  obtain ⟨⟨f0, f1, f2⟩, -⟩ := idx_facts t
  refine Finset.sum_congr rfl fun s _ => congrArg (m ((c : Thread nD τ).loc main_arg0)) ?_
  funext a
  match a with
  | 0 => exact Fin.ext (by show win0_0.index t 0 * 8 + 1 * s.val = s.val; rw [f0]; omega)
  | 1 => exact Fin.ext (by show win0_0.index t 1 * 128 + 1 * p.val = P.val; rw [f1]; exact h.row)
  | 2 => exact Fin.ext (by show win0_0.index t 2 * 2048 + 1 * q.val = Q.val; rw [f2]; exact h.col)

theorem block1_at (m : (ℓ : Loc nD τ sig) → Buf (Elt Ideal) ℓ) (c : Dev nD) (t : Fin cfg0.N) {p : Fin 128} {q : Fin 2048} {P : Fin 256} {Q : Fin 2048} (h : At t p q P Q) :
    (iblk m c 1 t : Vec Ideal S128x2048 .f32) (ix2 p q) = (m ((c : Thread nD τ).loc main_arg1) : Vec Ideal S256x2048 .f32) (ix2 P Q) := by
  refine congrArg (m ((c : Thread nD τ).loc main_arg1)) ?_
  funext a
  match a with
  | 0 => exact Fin.ext (by show win0_1.index t 0 * 128 + 1 * p.val = P.val; rw [(idx_facts t).2.1]; exact h.row)
  | 1 => exact Fin.ext (by show win0_1.index t 1 * 2048 + 1 * q.val = Q.val; rw [(idx_facts t).2.1]; exact h.col)

theorem block2_at (m : (ℓ : Loc nD τ sig) → Buf (Elt Ideal) ℓ) (c : Dev nD) (t : Fin cfg0.N) {p : Fin 128} {q : Fin 2048} {P : Fin 256} {Q : Fin 2048} (h : At t p q P Q) :
    (iblk m c 2 t : Vec Ideal S128x2048 .f32) (ix2 p q) = (m ((c : Thread nD τ).loc main_arg2) : Vec Ideal S256x2048 .f32) (ix2 P Q) := by
  refine congrArg (m ((c : Thread nD τ).loc main_arg2)) ?_
  funext a
  match a with
  | 0 => exact Fin.ext (by show win0_2.index t 0 * 128 + 1 * p.val = P.val; rw [(idx_facts t).2.2.1]; exact h.row)
  | 1 => exact Fin.ext (by show win0_2.index t 1 * 2048 + 1 * q.val = Q.val; rw [(idx_facts t).2.2.1]; exact h.col)

theorem block3_at (m : (ℓ : Loc nD τ sig) → Buf (Elt Ideal) ℓ) (c : Dev nD) (t : Fin cfg0.N) {p : Fin 128} {q : Fin 2048} {P : Fin 256} {Q : Fin 2048} (h : At t p q P Q) :
    (iblk m c 3 t : Vec Ideal S128x2048 .f32) (ix2 p q) = (m ((c : Thread nD τ).loc main_arg3) : Vec Ideal S256x2048 .f32) (ix2 P Q) := by
  refine congrArg (m ((c : Thread nD τ).loc main_arg3)) ?_
  funext a
  match a with
  | 0 => exact Fin.ext (by show win0_3.index t 0 * 128 + 1 * p.val = P.val; rw [(idx_facts t).2.2.2.1]; exact h.row)
  | 1 => exact Fin.ext (by show win0_3.index t 1 * 2048 + 1 * q.val = Q.val; rw [(idx_facts t).2.2.2.1]; exact h.col)

theorem array4 (m : (ℓ : Loc nD τ sig) → Buf (Elt Ideal) ℓ) (c : Dev nD) : (dats m 0 c).arrAt 4 cfg0.N = grads (m ((c : Thread nD τ).loc main_arg0)) := by
  refine Pipeline.Dat.arrAt_eq_of_covers (dats m 0 c) 4 _ (by decide +kernel) fun t _ y => ?_
  obtain ⟨p, q, rfl⟩ := eq_ix2 (R := 128) (C := 2048) y
  have h : At t p q (((cfg0.win 4).blk t).view.emb (ix2 p q) 0) (((cfg0.win 4).blk t).view.emb (ix2 p q) 1) := ⟨rfl, rfl⟩
  show (dats m 0 c).after 4 t (ix2 p q) = _
  rw [after0_4]
  refine (left4 (iblk m c 0 t) (iblk m c 1 t) (iblk m c 2 t) (iblk m c 3 t) p q).trans ?_
  rw [parts_at m c t h]
  rfl

theorem array5 (m : (ℓ : Loc nD τ sig) → Buf (Elt Ideal) ℓ) (c : Dev nD) : (dats m 0 c).arrAt 5 cfg0.N = deltas (m ((c : Thread nD τ).loc main_arg0)) (m ((c : Thread nD τ).loc main_arg1)) (m ((c : Thread nD τ).loc main_arg2)) (m ((c : Thread nD τ).loc main_arg3)) := by
  refine Pipeline.Dat.arrAt_eq_of_covers (dats m 0 c) 5 _ (by decide +kernel) fun t _ y => ?_
  obtain ⟨p, q, rfl⟩ := eq_ix2 (R := 128) (C := 2048) y
  have h : At t p q (((cfg0.win 5).blk t).view.emb (ix2 p q) 0) (((cfg0.win 5).blk t).view.emb (ix2 p q) 1) := ⟨congrFun (idx_facts t).2.2.2.2.1 0 ▸ rfl, congrFun (idx_facts t).2.2.2.2.1 1 ▸ rfl⟩
  show (dats m 0 c).after 5 t (ix2 p q) = _
  rw [after0_5]
  refine (left5 (iblk m c 0 t) (iblk m c 1 t) (iblk m c 2 t) (iblk m c 3 t) p q).trans ?_
  rw [parts_at m c t h, block1_at m c t h, block2_at m c t h, block3_at m c t h]
  rfl

theorem array6 (m : (ℓ : Loc nD τ sig) → Buf (Elt Ideal) ℓ) (c : Dev nD) : (dats m 0 c).arrAt 6 cfg0.N = firsts (m ((c : Thread nD τ).loc main_arg0)) (m ((c : Thread nD τ).loc main_arg2)) := by
  refine Pipeline.Dat.arrAt_eq_of_covers (dats m 0 c) 6 _ (by decide +kernel) fun t _ y => ?_
  obtain ⟨p, q, rfl⟩ := eq_ix2 (R := 128) (C := 2048) y
  have h : At t p q (((cfg0.win 6).blk t).view.emb (ix2 p q) 0) (((cfg0.win 6).blk t).view.emb (ix2 p q) 1) := ⟨congrFun (idx_facts t).2.2.2.2.2.1 0 ▸ rfl, congrFun (idx_facts t).2.2.2.2.2.1 1 ▸ rfl⟩
  show (dats m 0 c).after 6 t (ix2 p q) = _
  rw [after0_6]
  refine (left6 (iblk m c 0 t) (iblk m c 1 t) (iblk m c 2 t) (iblk m c 3 t) p q).trans ?_
  rw [parts_at m c t h, block2_at m c t h]
  rfl

theorem array7 (m : (ℓ : Loc nD τ sig) → Buf (Elt Ideal) ℓ) (c : Dev nD) : (dats m 0 c).arrAt 7 cfg0.N = seconds (m ((c : Thread nD τ).loc main_arg0)) (m ((c : Thread nD τ).loc main_arg3)) := by
  refine Pipeline.Dat.arrAt_eq_of_covers (dats m 0 c) 7 _ (by decide +kernel) fun t _ y => ?_
  obtain ⟨p, q, rfl⟩ := eq_ix2 (R := 128) (C := 2048) y
  have h : At t p q (((cfg0.win 7).blk t).view.emb (ix2 p q) 0) (((cfg0.win 7).blk t).view.emb (ix2 p q) 1) := ⟨congrFun (idx_facts t).2.2.2.2.2.2 0 ▸ rfl, congrFun (idx_facts t).2.2.2.2.2.2 1 ▸ rfl⟩
  show (dats m 0 c).after 7 t (ix2 p q) = _
  rw [after0_7]
  refine (left7 (iblk m c 0 t) (iblk m c 1 t) (iblk m c 2 t) (iblk m c 3 t) p q).trans ?_
  rw [parts_at m c t h, block3_at m c t h]
  rfl

theorem algebraic : Cert.algebraic_AdamOutIdeal_AdamOutRefIdeal (hAdamOutIdeal := Cert.AdamOutIdeal.Gen.facts)
    (hAdamOutRefIdeal := Cert.AdamOutRefIdeal.Gen.facts) := by
  intro m g m' g' _ hagree
  refine ⟨fun c => grads (m ((c : Thread nD τ).loc main_arg0)),
    fun c => deltas (m ((c : Thread nD τ).loc main_arg0)) (m ((c : Thread nD τ).loc main_arg1)) (m ((c : Thread nD τ).loc main_arg2)) (m ((c : Thread nD τ).loc main_arg3)),
    fun c => firsts (m ((c : Thread nD τ).loc main_arg0)) (m ((c : Thread nD τ).loc main_arg2)),
    fun c => seconds (m ((c : Thread nD τ).loc main_arg0)) (m ((c : Thread nD τ).loc main_arg3)), ?_, ?_⟩
  · exact (θ_run _ _ _).mono (fun r h c => ⟨(h c).1.trans (array4 m c), (h c).2.1.trans (array5 m c), (h c).2.2.1.trans (array6 m c), (h c).2.2.2.1.trans (array7 m c), (h c).2.2.2.2⟩)
      (Cert.AdamOutIdeal.Value.run_blocks m g)
  · refine (θ_run _ _ _).mono (fun r h c => ⟨(h c).1.trans ?_, (h c).2.1.trans ?_, (h c).2.2.1.trans ?_, (h c).2.2.2.1.trans ?_, (h c).2.2.2.2⟩)
      (Cert.AdamOutRefIdeal.Value.run m' g')
    · rw [(hagree c).1]
      beta_reduce
      generalize m ((c : Thread nD τ).loc main_arg0) = x0
      refine ext2 fun p q => ?_
      refine Eq.trans ?_ (show total x0 p q = (grads x0 : Vec Ideal S256x2048 .f32) (ix2 p q) from rfl)
      pointwise [delta, newM, newV, total]
    · rw [(hagree c).1, (hagree c).2.1, (hagree c).2.2.1, (hagree c).2.2.2]
      beta_reduce
      generalize m ((c : Thread nD τ).loc main_arg0) = x0
      generalize m ((c : Thread nD τ).loc main_arg1) = x1
      generalize m ((c : Thread nD τ).loc main_arg2) = x2
      generalize m ((c : Thread nD τ).loc main_arg3) = x3
      refine ext2 fun p q => ?_
      refine Eq.trans ?_ (show delta (total x0 p q) (x1 (ix2 p q)) (x2 (ix2 p q)) (x3 (ix2 p q)) = (deltas x0 x1 x2 x3 : Vec Ideal S256x2048 .f32) (ix2 p q) from rfl)
      pointwise [delta, newM, newV, total]
    · rw [(hagree c).1, (hagree c).2.2.1]
      beta_reduce
      generalize m ((c : Thread nD τ).loc main_arg0) = x0
      generalize m ((c : Thread nD τ).loc main_arg2) = x2
      refine ext2 fun p q => ?_
      refine Eq.trans ?_ (show newM (total x0 p q) (x2 (ix2 p q)) = (firsts x0 x2 : Vec Ideal S256x2048 .f32) (ix2 p q) from rfl)
      pointwise [delta, newM, newV, total]
    · rw [(hagree c).1, (hagree c).2.2.2]
      beta_reduce
      generalize m ((c : Thread nD τ).loc main_arg0) = x0
      generalize m ((c : Thread nD τ).loc main_arg3) = x3
      refine ext2 fun p q => ?_
      refine Eq.trans ?_ (show newV (total x0 p q) (x3 (ix2 p q)) = (seconds x0 x3 : Vec Ideal S256x2048 .f32) (ix2 p q) from rfl)
      pointwise [delta, newM, newV, total]

theorem frame_kernel : Cert.quiescent_AdamOut (hAdamOut := Cert.AdamOut.Gen.facts) :=
  fun m ρ _ => Cert.AdamOut.Gen.frame m ρ

theorem frame_ideal : Cert.quiescent_AdamOutIdeal (hAdamOutIdeal := Cert.AdamOutIdeal.Gen.facts) :=
  fun m ρ _ => Cert.AdamOutIdeal.Gen.frame m ρ

theorem frame_reference : Cert.quiescent_AdamOutRefIdeal (hAdamOutRefIdeal := Cert.AdamOutRefIdeal.Gen.facts) :=
  fun m ρ _ => (θ_run Cert.AdamOutRefIdeal.defs _ _).mono
    (fun r h => ⟨fun c => (h c).2.2.2.2, sem_eq_zero_of_no_sems (by decide) r.2⟩) (Cert.AdamOutRefIdeal.Value.run m ρ)

end Cert.Proof.AdamOut

end
-- ==== Proof.AdamIn.lean ====
module

public import proofs.«01_k».proof.Defs
public import proofs.«01_k».proof.Proof.Adam
public import proofs.«01_k».proof.Proof.Gen.AdamIn.Frame
public import proofs.«01_k».proof.Proof.Gen.AdamInIdeal.Value
public import proofs.«01_k».proof.Proof.Gen.AdamInRefIdeal.Run
public import Idealize.ShloMosaic.Lib.Pipeline.ValueKit.Geometry
public import Idealize.ShloMosaic.Adequacy
public import Idealize.ShloMosaic.Init

@[expose] public section

set_option maxRecDepth 16384

noncomputable section

namespace Cert.Proof.AdamIn

open Cert.AdamInIdeal Cert.AdamInIdeal.Gen Cert.Hand.Entries Cert.Hand.Adam Idealize.ShloMosaic Idealize.ShloMosaic.TcCoe Idealize.SL.Sem

/-- The first moment's correction, as the ideal reading has it. -/
theorem m_named : Named.named (F := Ideal) Cert.AdamInIdeal.κ "m_corr" (φ := .f32) 0x3FC48605#32 = ((8388608 / 5463681 : ℝ) : EReal) :=
  IdealRules.named_const.ideal_named_scalar _ _ _ _ rfl

theorem v_named : Named.named (F := Ideal) Cert.AdamInIdeal.κ "v_corr" (φ := .f32) 0x42C8E6D3#32 = ((268435456 / 2672307 : ℝ) : EReal) :=
  IdealRules.named_const.ideal_named_scalar _ _ _ _ rfl

theorem preserves : Cert.preserves_AdamIn_AdamInIdeal :=
  ⟨IdealRules.named_const.statement Cert.AdamInIdeal.κ "m_corr" .f32 0x3FC48605#32 ((8388608 / 5463681 : ℝ) : EReal) rfl,
   IdealRules.named_const.statement Cert.AdamInIdeal.κ "v_corr" .f32 0x42C8E6D3#32 ((268435456 / 2672307 : ℝ) : EReal) rfl⟩

/-- The body sums its block of the parts. -/
theorem pay5 (x0 : Vec Ideal S8x898x256 .bf16) (x1 x2 x3 : Vec Ideal S898x256 .f32) (p : Fin 898) (q : Fin 256) :
    (k0_pay5 x0 x1 x2 x3 (ix2 p q) : EReal) = total x0 p q := by
  rw [total_eq]
  unfold k0_pay5
  simp only [View.ld_unit]
  pointwise [k0_pay4]

theorem pay1 (g m : Vec Ideal S898x256 .f32) (p : Fin 898) (q : Fin 256) :
    (k0_pay1 g m (ix2 p q) : EReal) = newM (g (ix2 p q)) (m (ix2 p q)) := by
  pointwise [k0_pay1, newM]

theorem pay2 (g v : Vec Ideal S898x256 .f32) (p : Fin 898) (q : Fin 256) :
    (k0_pay2 g v (ix2 p q) : EReal) = newV (g (ix2 p q)) (v (ix2 p q)) := by
  pointwise [k0_pay2, newV]

theorem pay3 (g m v w : Vec Ideal S898x256 .f32) (p : Fin 898) (q : Fin 256) :
    (k0_pay3 g m v w (ix2 p q) : EReal) = delta (g (ix2 p q)) (w (ix2 p q)) (m (ix2 p q)) (v (ix2 p q)) := by
  unfold delta
  rw [← m_corr, ← v_corr, ← m_named, ← v_named]
  pointwise [k0_pay1, k0_pay2, k0_pay3, newM, newV]

theorem left4 (x0 : Vec Ideal S8x898x256 .bf16) (x1 x2 x3 : Vec Ideal S898x256 .f32) (p : Fin 898) (q : Fin 256) : (out0_4 x0 x1 x2 x3 (ix2 p q) : EReal) = total x0 p q := by
  unfold out0_4
  rw [View.canon_unit_zero zero2, pay5]

theorem left5 (x0 : Vec Ideal S8x898x256 .bf16) (x1 x2 x3 : Vec Ideal S898x256 .f32) (p : Fin 898) (q : Fin 256) : (out0_5 x0 x1 x2 x3 (ix2 p q) : EReal) = delta (total x0 p q) (x1 (ix2 p q)) (x2 (ix2 p q)) (x3 (ix2 p q)) := by
  unfold out0_5
  rw [View.canon_unit_zero zero2, View.ld_unit_zero zero2, View.ld_unit_zero zero2, View.ld_unit_zero zero2, pay3, pay5]

theorem left6 (x0 : Vec Ideal S8x898x256 .bf16) (x1 x2 x3 : Vec Ideal S898x256 .f32) (p : Fin 898) (q : Fin 256) : (out0_6 x0 x1 x2 x3 (ix2 p q) : EReal) = newM (total x0 p q) (x2 (ix2 p q)) := by
  unfold out0_6
  rw [View.canon_unit_zero zero2, View.ld_unit_zero zero2, pay1, pay5]

theorem left7 (x0 : Vec Ideal S8x898x256 .bf16) (x1 x2 x3 : Vec Ideal S898x256 .f32) (p : Fin 898) (q : Fin 256) : (out0_7 x0 x1 x2 x3 (ix2 p q) : EReal) = newV (total x0 p q) (x3 (ix2 p q)) := by
  unfold out0_7
  rw [View.canon_unit_zero zero2, View.ld_unit_zero zero2, pay2, pay5]

/-- Every window stands on the same block of its array. -/
theorem idx_facts : ∀ t : Fin cfg0.N,
    (win0_0.index t 0 = 0 ∧ win0_0.index t 1 = win0_4.index t 0 ∧ win0_0.index t 2 = win0_4.index t 1) ∧
    win0_1.index t = win0_4.index t ∧ win0_2.index t = win0_4.index t ∧ win0_3.index t = win0_4.index t ∧
    win0_5.index t = win0_4.index t ∧ win0_6.index t = win0_4.index t ∧ win0_7.index t = win0_4.index t := by
  decide +kernel

/-- Where an entry of a block stands in the array. -/
structure At (t : Fin cfg0.N) (p : Fin 898) (q : Fin 256) (P : Fin 898) (Q : Fin 2048) : Prop where
  row : win0_4.index t 0 * 898 + 1 * p.val = P.val
  col : win0_4.index t 1 * 256 + 1 * q.val = Q.val

theorem parts_at (m : (ℓ : Loc nD τ sig) → Buf (Elt Ideal) ℓ) (c : Dev nD) (t : Fin cfg0.N) {p : Fin 898} {q : Fin 256} {P : Fin 898} {Q : Fin 2048} (h : At t p q P Q) :
    total (iblk m c 0 t : Vec Ideal S8x898x256 .bf16) p q = total (m ((c : Thread nD τ).loc main_arg0) : Vec Ideal S8x898x2048 .bf16) P Q := by
  obtain ⟨⟨f0, f1, f2⟩, -⟩ := idx_facts t
  refine Finset.sum_congr rfl fun s _ => congrArg (m ((c : Thread nD τ).loc main_arg0)) ?_
  funext a
  match a with
  | 0 => exact Fin.ext (by show win0_0.index t 0 * 8 + 1 * s.val = s.val; rw [f0]; omega)
  | 1 => exact Fin.ext (by show win0_0.index t 1 * 898 + 1 * p.val = P.val; rw [f1]; exact h.row)
  | 2 => exact Fin.ext (by show win0_0.index t 2 * 256 + 1 * q.val = Q.val; rw [f2]; exact h.col)

theorem block1_at (m : (ℓ : Loc nD τ sig) → Buf (Elt Ideal) ℓ) (c : Dev nD) (t : Fin cfg0.N) {p : Fin 898} {q : Fin 256} {P : Fin 898} {Q : Fin 2048} (h : At t p q P Q) :
    (iblk m c 1 t : Vec Ideal S898x256 .f32) (ix2 p q) = (m ((c : Thread nD τ).loc main_arg1) : Vec Ideal S898x2048 .f32) (ix2 P Q) := by
  refine congrArg (m ((c : Thread nD τ).loc main_arg1)) ?_
  funext a
  match a with
  | 0 => exact Fin.ext (by show win0_1.index t 0 * 898 + 1 * p.val = P.val; rw [(idx_facts t).2.1]; exact h.row)
  | 1 => exact Fin.ext (by show win0_1.index t 1 * 256 + 1 * q.val = Q.val; rw [(idx_facts t).2.1]; exact h.col)

theorem block2_at (m : (ℓ : Loc nD τ sig) → Buf (Elt Ideal) ℓ) (c : Dev nD) (t : Fin cfg0.N) {p : Fin 898} {q : Fin 256} {P : Fin 898} {Q : Fin 2048} (h : At t p q P Q) :
    (iblk m c 2 t : Vec Ideal S898x256 .f32) (ix2 p q) = (m ((c : Thread nD τ).loc main_arg2) : Vec Ideal S898x2048 .f32) (ix2 P Q) := by
  refine congrArg (m ((c : Thread nD τ).loc main_arg2)) ?_
  funext a
  match a with
  | 0 => exact Fin.ext (by show win0_2.index t 0 * 898 + 1 * p.val = P.val; rw [(idx_facts t).2.2.1]; exact h.row)
  | 1 => exact Fin.ext (by show win0_2.index t 1 * 256 + 1 * q.val = Q.val; rw [(idx_facts t).2.2.1]; exact h.col)

theorem block3_at (m : (ℓ : Loc nD τ sig) → Buf (Elt Ideal) ℓ) (c : Dev nD) (t : Fin cfg0.N) {p : Fin 898} {q : Fin 256} {P : Fin 898} {Q : Fin 2048} (h : At t p q P Q) :
    (iblk m c 3 t : Vec Ideal S898x256 .f32) (ix2 p q) = (m ((c : Thread nD τ).loc main_arg3) : Vec Ideal S898x2048 .f32) (ix2 P Q) := by
  refine congrArg (m ((c : Thread nD τ).loc main_arg3)) ?_
  funext a
  match a with
  | 0 => exact Fin.ext (by show win0_3.index t 0 * 898 + 1 * p.val = P.val; rw [(idx_facts t).2.2.2.1]; exact h.row)
  | 1 => exact Fin.ext (by show win0_3.index t 1 * 256 + 1 * q.val = Q.val; rw [(idx_facts t).2.2.2.1]; exact h.col)

theorem array4 (m : (ℓ : Loc nD τ sig) → Buf (Elt Ideal) ℓ) (c : Dev nD) : (dats m 0 c).arrAt 4 cfg0.N = grads (m ((c : Thread nD τ).loc main_arg0)) := by
  refine Pipeline.Dat.arrAt_eq_of_covers (dats m 0 c) 4 _ (by decide +kernel) fun t _ y => ?_
  obtain ⟨p, q, rfl⟩ := eq_ix2 (R := 898) (C := 256) y
  have h : At t p q (((cfg0.win 4).blk t).view.emb (ix2 p q) 0) (((cfg0.win 4).blk t).view.emb (ix2 p q) 1) := ⟨rfl, rfl⟩
  show (dats m 0 c).after 4 t (ix2 p q) = _
  rw [after0_4]
  refine (left4 (iblk m c 0 t) (iblk m c 1 t) (iblk m c 2 t) (iblk m c 3 t) p q).trans ?_
  rw [parts_at m c t h]
  rfl

theorem array5 (m : (ℓ : Loc nD τ sig) → Buf (Elt Ideal) ℓ) (c : Dev nD) : (dats m 0 c).arrAt 5 cfg0.N = deltas (m ((c : Thread nD τ).loc main_arg0)) (m ((c : Thread nD τ).loc main_arg1)) (m ((c : Thread nD τ).loc main_arg2)) (m ((c : Thread nD τ).loc main_arg3)) := by
  refine Pipeline.Dat.arrAt_eq_of_covers (dats m 0 c) 5 _ (by decide +kernel) fun t _ y => ?_
  obtain ⟨p, q, rfl⟩ := eq_ix2 (R := 898) (C := 256) y
  have h : At t p q (((cfg0.win 5).blk t).view.emb (ix2 p q) 0) (((cfg0.win 5).blk t).view.emb (ix2 p q) 1) := ⟨congrFun (idx_facts t).2.2.2.2.1 0 ▸ rfl, congrFun (idx_facts t).2.2.2.2.1 1 ▸ rfl⟩
  show (dats m 0 c).after 5 t (ix2 p q) = _
  rw [after0_5]
  refine (left5 (iblk m c 0 t) (iblk m c 1 t) (iblk m c 2 t) (iblk m c 3 t) p q).trans ?_
  rw [parts_at m c t h, block1_at m c t h, block2_at m c t h, block3_at m c t h]
  rfl

theorem array6 (m : (ℓ : Loc nD τ sig) → Buf (Elt Ideal) ℓ) (c : Dev nD) : (dats m 0 c).arrAt 6 cfg0.N = firsts (m ((c : Thread nD τ).loc main_arg0)) (m ((c : Thread nD τ).loc main_arg2)) := by
  refine Pipeline.Dat.arrAt_eq_of_covers (dats m 0 c) 6 _ (by decide +kernel) fun t _ y => ?_
  obtain ⟨p, q, rfl⟩ := eq_ix2 (R := 898) (C := 256) y
  have h : At t p q (((cfg0.win 6).blk t).view.emb (ix2 p q) 0) (((cfg0.win 6).blk t).view.emb (ix2 p q) 1) := ⟨congrFun (idx_facts t).2.2.2.2.2.1 0 ▸ rfl, congrFun (idx_facts t).2.2.2.2.2.1 1 ▸ rfl⟩
  show (dats m 0 c).after 6 t (ix2 p q) = _
  rw [after0_6]
  refine (left6 (iblk m c 0 t) (iblk m c 1 t) (iblk m c 2 t) (iblk m c 3 t) p q).trans ?_
  rw [parts_at m c t h, block2_at m c t h]
  rfl

theorem array7 (m : (ℓ : Loc nD τ sig) → Buf (Elt Ideal) ℓ) (c : Dev nD) : (dats m 0 c).arrAt 7 cfg0.N = seconds (m ((c : Thread nD τ).loc main_arg0)) (m ((c : Thread nD τ).loc main_arg3)) := by
  refine Pipeline.Dat.arrAt_eq_of_covers (dats m 0 c) 7 _ (by decide +kernel) fun t _ y => ?_
  obtain ⟨p, q, rfl⟩ := eq_ix2 (R := 898) (C := 256) y
  have h : At t p q (((cfg0.win 7).blk t).view.emb (ix2 p q) 0) (((cfg0.win 7).blk t).view.emb (ix2 p q) 1) := ⟨congrFun (idx_facts t).2.2.2.2.2.2 0 ▸ rfl, congrFun (idx_facts t).2.2.2.2.2.2 1 ▸ rfl⟩
  show (dats m 0 c).after 7 t (ix2 p q) = _
  rw [after0_7]
  refine (left7 (iblk m c 0 t) (iblk m c 1 t) (iblk m c 2 t) (iblk m c 3 t) p q).trans ?_
  rw [parts_at m c t h, block3_at m c t h]
  rfl

theorem algebraic : Cert.algebraic_AdamInIdeal_AdamInRefIdeal (hAdamInIdeal := Cert.AdamInIdeal.Gen.facts)
    (hAdamInRefIdeal := Cert.AdamInRefIdeal.Gen.facts) := by
  intro m g m' g' _ hagree
  refine ⟨fun c => grads (m ((c : Thread nD τ).loc main_arg0)),
    fun c => deltas (m ((c : Thread nD τ).loc main_arg0)) (m ((c : Thread nD τ).loc main_arg1)) (m ((c : Thread nD τ).loc main_arg2)) (m ((c : Thread nD τ).loc main_arg3)),
    fun c => firsts (m ((c : Thread nD τ).loc main_arg0)) (m ((c : Thread nD τ).loc main_arg2)),
    fun c => seconds (m ((c : Thread nD τ).loc main_arg0)) (m ((c : Thread nD τ).loc main_arg3)), ?_, ?_⟩
  · exact (θ_run _ _ _).mono (fun r h c => ⟨(h c).1.trans (array4 m c), (h c).2.1.trans (array5 m c), (h c).2.2.1.trans (array6 m c), (h c).2.2.2.1.trans (array7 m c), (h c).2.2.2.2⟩)
      (Cert.AdamInIdeal.Value.run_blocks m g)
  · refine (θ_run _ _ _).mono (fun r h c => ⟨(h c).1.trans ?_, (h c).2.1.trans ?_, (h c).2.2.1.trans ?_, (h c).2.2.2.1.trans ?_, (h c).2.2.2.2⟩)
      (Cert.AdamInRefIdeal.Value.run m' g')
    · rw [(hagree c).1]
      beta_reduce
      generalize m ((c : Thread nD τ).loc main_arg0) = x0
      refine ext2 fun p q => ?_
      refine Eq.trans ?_ (show total x0 p q = (grads x0 : Vec Ideal S898x2048 .f32) (ix2 p q) from rfl)
      pointwise [delta, newM, newV, total]
    · rw [(hagree c).1, (hagree c).2.1, (hagree c).2.2.1, (hagree c).2.2.2]
      beta_reduce
      generalize m ((c : Thread nD τ).loc main_arg0) = x0
      generalize m ((c : Thread nD τ).loc main_arg1) = x1
      generalize m ((c : Thread nD τ).loc main_arg2) = x2
      generalize m ((c : Thread nD τ).loc main_arg3) = x3
      refine ext2 fun p q => ?_
      refine Eq.trans ?_ (show delta (total x0 p q) (x1 (ix2 p q)) (x2 (ix2 p q)) (x3 (ix2 p q)) = (deltas x0 x1 x2 x3 : Vec Ideal S898x2048 .f32) (ix2 p q) from rfl)
      pointwise [delta, newM, newV, total]
    · rw [(hagree c).1, (hagree c).2.2.1]
      beta_reduce
      generalize m ((c : Thread nD τ).loc main_arg0) = x0
      generalize m ((c : Thread nD τ).loc main_arg2) = x2
      refine ext2 fun p q => ?_
      refine Eq.trans ?_ (show newM (total x0 p q) (x2 (ix2 p q)) = (firsts x0 x2 : Vec Ideal S898x2048 .f32) (ix2 p q) from rfl)
      pointwise [delta, newM, newV, total]
    · rw [(hagree c).1, (hagree c).2.2.2]
      beta_reduce
      generalize m ((c : Thread nD τ).loc main_arg0) = x0
      generalize m ((c : Thread nD τ).loc main_arg3) = x3
      refine ext2 fun p q => ?_
      refine Eq.trans ?_ (show newV (total x0 p q) (x3 (ix2 p q)) = (seconds x0 x3 : Vec Ideal S898x2048 .f32) (ix2 p q) from rfl)
      pointwise [delta, newM, newV, total]

theorem frame_kernel : Cert.quiescent_AdamIn (hAdamIn := Cert.AdamIn.Gen.facts) :=
  fun m ρ _ => Cert.AdamIn.Gen.frame m ρ

theorem frame_ideal : Cert.quiescent_AdamInIdeal (hAdamInIdeal := Cert.AdamInIdeal.Gen.facts) :=
  fun m ρ _ => Cert.AdamInIdeal.Gen.frame m ρ

theorem frame_reference : Cert.quiescent_AdamInRefIdeal (hAdamInRefIdeal := Cert.AdamInRefIdeal.Gen.facts) :=
  fun m ρ _ => (θ_run Cert.AdamInRefIdeal.defs _ _).mono
    (fun r h => ⟨fun c => (h c).2.2.2.2, sem_eq_zero_of_no_sems (by decide) r.2⟩) (Cert.AdamInRefIdeal.Value.run m ρ)

end Cert.Proof.AdamIn

end
-- ==== Proof.AdamSmall.lean ====
module

public import proofs.«01_k».proof.Defs
public import proofs.«01_k».proof.Proof.Adam
public import proofs.«01_k».proof.Proof.Gen.AdamSmall.Frame
public import proofs.«01_k».proof.Proof.Gen.AdamSmallIdeal.Value
public import proofs.«01_k».proof.Proof.Gen.AdamSmallRefIdeal.Run
public import Idealize.ShloMosaic.Lib.Pipeline.ValueKit.Geometry
public import Idealize.ShloMosaic.Adequacy
public import Idealize.ShloMosaic.Init

@[expose] public section

set_option maxRecDepth 16384

noncomputable section

namespace Cert.Proof.AdamSmall

open Cert.AdamSmallIdeal Cert.AdamSmallIdeal.Gen Cert.Hand.Entries Cert.Hand.Adam Idealize.ShloMosaic Idealize.ShloMosaic.TcCoe Idealize.SL.Sem

/-- The first moment's correction, as the ideal reading has it. -/
theorem m_named : Named.named (F := Ideal) Cert.AdamSmallIdeal.κ "m_corr" (φ := .f32) 0x3FC48605#32 = ((8388608 / 5463681 : ℝ) : EReal) :=
  IdealRules.named_const.ideal_named_scalar _ _ _ _ rfl

theorem v_named : Named.named (F := Ideal) Cert.AdamSmallIdeal.κ "v_corr" (φ := .f32) 0x42C8E6D3#32 = ((268435456 / 2672307 : ℝ) : EReal) :=
  IdealRules.named_const.ideal_named_scalar _ _ _ _ rfl

theorem preserves : Cert.preserves_AdamSmall_AdamSmallIdeal :=
  ⟨IdealRules.named_const.statement Cert.AdamSmallIdeal.κ "m_corr" .f32 0x3FC48605#32 ((8388608 / 5463681 : ℝ) : EReal) rfl,
   IdealRules.named_const.statement Cert.AdamSmallIdeal.κ "v_corr" .f32 0x42C8E6D3#32 ((268435456 / 2672307 : ℝ) : EReal) rfl⟩

/-- The body sums its block of the parts. -/
theorem pay5 (x0 : Vec Ideal S8x40x128 .f32) (x1 x2 x3 : Vec Ideal S40x128 .f32) (p : Fin 40) (q : Fin 128) :
    (k0_pay5 x0 x1 x2 x3 (ix2 p q) : EReal) = total x0 p q := by
  rw [total_eq]
  unfold k0_pay5
  simp only [View.ld_unit]
  pointwise [k0_pay3]

theorem pay6 (x0 : Vec Ideal S8x40x128 .f32) (x1 x2 x3 : Vec Ideal S40x128 .f32) (p : Fin 40) (q : Fin 128) :
    (k0_pay6 x0 x1 x2 x3 (ix2 p q) : EReal) = newM (total x0 p q) (x2 (ix2 p q)) := by
  rw [total_eq]
  unfold k0_pay6 newM
  rw [View.ld_unit_zero zero2]
  simp only [View.ld_unit]
  pointwise [k0_pay4, k0_pay3]

theorem pay1 (g v : Vec Ideal S40x128 .f32) (p : Fin 40) (q : Fin 128) :
    (k0_pay1 g v (ix2 p q) : EReal) = newV (g (ix2 p q)) (v (ix2 p q)) := by
  pointwise [k0_pay1, newV]

theorem pay2 (g n v w : Vec Ideal S40x128 .f32) (p : Fin 40) (q : Fin 128) (mv : EReal) (hn : n (ix2 p q) = newM (g (ix2 p q)) mv) :
    (k0_pay2 g n v w (ix2 p q) : EReal) = delta (g (ix2 p q)) (w (ix2 p q)) mv (v (ix2 p q)) := by
  unfold delta
  rw [← m_corr, ← v_corr, ← hn, ← m_named, ← v_named, ← pay1]
  pointwise [k0_pay2, k0_pay1]

theorem left4 (x0 : Vec Ideal S8x40x128 .f32) (x1 x2 x3 : Vec Ideal S40x128 .f32) (p : Fin 40) (q : Fin 128) : (out0_4 x0 x1 x2 x3 (ix2 p q) : EReal) = total x0 p q := by
  unfold out0_4
  rw [View.canon_unit_zero zero2, pay5]

theorem left5 (x0 : Vec Ideal S8x40x128 .f32) (x1 x2 x3 : Vec Ideal S40x128 .f32) (p : Fin 40) (q : Fin 128) : (out0_5 x0 x1 x2 x3 (ix2 p q) : EReal) = delta (total x0 p q) (x1 (ix2 p q)) (x2 (ix2 p q)) (x3 (ix2 p q)) := by
  unfold out0_5
  rw [View.canon_unit_zero zero2, View.ld_unit_zero zero2, View.ld_unit_zero zero2, pay2 _ _ _ _ p q (x2 (ix2 p q)) (by rw [pay5, pay6]), pay5]

theorem left6 (x0 : Vec Ideal S8x40x128 .f32) (x1 x2 x3 : Vec Ideal S40x128 .f32) (p : Fin 40) (q : Fin 128) : (out0_6 x0 x1 x2 x3 (ix2 p q) : EReal) = newM (total x0 p q) (x2 (ix2 p q)) := by
  unfold out0_6
  rw [View.canon_unit_zero zero2, pay6]

theorem left7 (x0 : Vec Ideal S8x40x128 .f32) (x1 x2 x3 : Vec Ideal S40x128 .f32) (p : Fin 40) (q : Fin 128) : (out0_7 x0 x1 x2 x3 (ix2 p q) : EReal) = newV (total x0 p q) (x3 (ix2 p q)) := by
  unfold out0_7
  rw [View.canon_unit_zero zero2, View.ld_unit_zero zero2, pay1, pay5]

/-- Every window stands on the same block of its array. -/
theorem idx_facts : ∀ t : Fin cfg0.N,
    (win0_0.index t 0 = 0 ∧ win0_0.index t 1 = win0_4.index t 0 ∧ win0_0.index t 2 = win0_4.index t 1) ∧
    win0_1.index t = win0_4.index t ∧ win0_2.index t = win0_4.index t ∧ win0_3.index t = win0_4.index t ∧
    win0_5.index t = win0_4.index t ∧ win0_6.index t = win0_4.index t ∧ win0_7.index t = win0_4.index t := by
  decide +kernel

/-- Where an entry of a block stands in the array. -/
structure At (t : Fin cfg0.N) (p : Fin 40) (q : Fin 128) (P : Fin 40) (Q : Fin 128) : Prop where
  row : win0_4.index t 0 * 40 + 1 * p.val = P.val
  col : win0_4.index t 1 * 128 + 1 * q.val = Q.val

theorem parts_at (m : (ℓ : Loc nD τ sig) → Buf (Elt Ideal) ℓ) (c : Dev nD) (t : Fin cfg0.N) {p : Fin 40} {q : Fin 128} {P : Fin 40} {Q : Fin 128} (h : At t p q P Q) :
    total (iblk m c 0 t : Vec Ideal S8x40x128 .f32) p q = total (m ((c : Thread nD τ).loc main_arg0) : Vec Ideal S8x40x128 .f32) P Q := by
  obtain ⟨⟨f0, f1, f2⟩, -⟩ := idx_facts t
  refine Finset.sum_congr rfl fun s _ => congrArg (m ((c : Thread nD τ).loc main_arg0)) ?_
  funext a
  match a with
  | 0 => exact Fin.ext (by show win0_0.index t 0 * 8 + 1 * s.val = s.val; rw [f0]; omega)
  | 1 => exact Fin.ext (by show win0_0.index t 1 * 40 + 1 * p.val = P.val; rw [f1]; exact h.row)
  | 2 => exact Fin.ext (by show win0_0.index t 2 * 128 + 1 * q.val = Q.val; rw [f2]; exact h.col)

theorem block1_at (m : (ℓ : Loc nD τ sig) → Buf (Elt Ideal) ℓ) (c : Dev nD) (t : Fin cfg0.N) {p : Fin 40} {q : Fin 128} {P : Fin 40} {Q : Fin 128} (h : At t p q P Q) :
    (iblk m c 1 t : Vec Ideal S40x128 .f32) (ix2 p q) = (m ((c : Thread nD τ).loc main_arg1) : Vec Ideal S40x128 .f32) (ix2 P Q) := by
  refine congrArg (m ((c : Thread nD τ).loc main_arg1)) ?_
  funext a
  match a with
  | 0 => exact Fin.ext (by show win0_1.index t 0 * 40 + 1 * p.val = P.val; rw [(idx_facts t).2.1]; exact h.row)
  | 1 => exact Fin.ext (by show win0_1.index t 1 * 128 + 1 * q.val = Q.val; rw [(idx_facts t).2.1]; exact h.col)

theorem block2_at (m : (ℓ : Loc nD τ sig) → Buf (Elt Ideal) ℓ) (c : Dev nD) (t : Fin cfg0.N) {p : Fin 40} {q : Fin 128} {P : Fin 40} {Q : Fin 128} (h : At t p q P Q) :
    (iblk m c 2 t : Vec Ideal S40x128 .f32) (ix2 p q) = (m ((c : Thread nD τ).loc main_arg2) : Vec Ideal S40x128 .f32) (ix2 P Q) := by
  refine congrArg (m ((c : Thread nD τ).loc main_arg2)) ?_
  funext a
  match a with
  | 0 => exact Fin.ext (by show win0_2.index t 0 * 40 + 1 * p.val = P.val; rw [(idx_facts t).2.2.1]; exact h.row)
  | 1 => exact Fin.ext (by show win0_2.index t 1 * 128 + 1 * q.val = Q.val; rw [(idx_facts t).2.2.1]; exact h.col)

theorem block3_at (m : (ℓ : Loc nD τ sig) → Buf (Elt Ideal) ℓ) (c : Dev nD) (t : Fin cfg0.N) {p : Fin 40} {q : Fin 128} {P : Fin 40} {Q : Fin 128} (h : At t p q P Q) :
    (iblk m c 3 t : Vec Ideal S40x128 .f32) (ix2 p q) = (m ((c : Thread nD τ).loc main_arg3) : Vec Ideal S40x128 .f32) (ix2 P Q) := by
  refine congrArg (m ((c : Thread nD τ).loc main_arg3)) ?_
  funext a
  match a with
  | 0 => exact Fin.ext (by show win0_3.index t 0 * 40 + 1 * p.val = P.val; rw [(idx_facts t).2.2.2.1]; exact h.row)
  | 1 => exact Fin.ext (by show win0_3.index t 1 * 128 + 1 * q.val = Q.val; rw [(idx_facts t).2.2.2.1]; exact h.col)

theorem array4 (m : (ℓ : Loc nD τ sig) → Buf (Elt Ideal) ℓ) (c : Dev nD) : (dats m 0 c).arrAt 4 cfg0.N = grads (m ((c : Thread nD τ).loc main_arg0)) := by
  refine Pipeline.Dat.arrAt_eq_of_covers (dats m 0 c) 4 _ (by decide +kernel) fun t _ y => ?_
  obtain ⟨p, q, rfl⟩ := eq_ix2 (R := 40) (C := 128) y
  have h : At t p q (((cfg0.win 4).blk t).view.emb (ix2 p q) 0) (((cfg0.win 4).blk t).view.emb (ix2 p q) 1) := ⟨rfl, rfl⟩
  show (dats m 0 c).after 4 t (ix2 p q) = _
  rw [after0_4]
  refine (left4 (iblk m c 0 t) (iblk m c 1 t) (iblk m c 2 t) (iblk m c 3 t) p q).trans ?_
  rw [parts_at m c t h]
  rfl

theorem array5 (m : (ℓ : Loc nD τ sig) → Buf (Elt Ideal) ℓ) (c : Dev nD) : (dats m 0 c).arrAt 5 cfg0.N = deltas (m ((c : Thread nD τ).loc main_arg0)) (m ((c : Thread nD τ).loc main_arg1)) (m ((c : Thread nD τ).loc main_arg2)) (m ((c : Thread nD τ).loc main_arg3)) := by
  refine Pipeline.Dat.arrAt_eq_of_covers (dats m 0 c) 5 _ (by decide +kernel) fun t _ y => ?_
  obtain ⟨p, q, rfl⟩ := eq_ix2 (R := 40) (C := 128) y
  have h : At t p q (((cfg0.win 5).blk t).view.emb (ix2 p q) 0) (((cfg0.win 5).blk t).view.emb (ix2 p q) 1) := ⟨congrFun (idx_facts t).2.2.2.2.1 0 ▸ rfl, congrFun (idx_facts t).2.2.2.2.1 1 ▸ rfl⟩
  show (dats m 0 c).after 5 t (ix2 p q) = _
  rw [after0_5]
  refine (left5 (iblk m c 0 t) (iblk m c 1 t) (iblk m c 2 t) (iblk m c 3 t) p q).trans ?_
  rw [parts_at m c t h, block1_at m c t h, block2_at m c t h, block3_at m c t h]
  rfl

theorem array6 (m : (ℓ : Loc nD τ sig) → Buf (Elt Ideal) ℓ) (c : Dev nD) : (dats m 0 c).arrAt 6 cfg0.N = firsts (m ((c : Thread nD τ).loc main_arg0)) (m ((c : Thread nD τ).loc main_arg2)) := by
  refine Pipeline.Dat.arrAt_eq_of_covers (dats m 0 c) 6 _ (by decide +kernel) fun t _ y => ?_
  obtain ⟨p, q, rfl⟩ := eq_ix2 (R := 40) (C := 128) y
  have h : At t p q (((cfg0.win 6).blk t).view.emb (ix2 p q) 0) (((cfg0.win 6).blk t).view.emb (ix2 p q) 1) := ⟨congrFun (idx_facts t).2.2.2.2.2.1 0 ▸ rfl, congrFun (idx_facts t).2.2.2.2.2.1 1 ▸ rfl⟩
  show (dats m 0 c).after 6 t (ix2 p q) = _
  rw [after0_6]
  refine (left6 (iblk m c 0 t) (iblk m c 1 t) (iblk m c 2 t) (iblk m c 3 t) p q).trans ?_
  rw [parts_at m c t h, block2_at m c t h]
  rfl

theorem array7 (m : (ℓ : Loc nD τ sig) → Buf (Elt Ideal) ℓ) (c : Dev nD) : (dats m 0 c).arrAt 7 cfg0.N = seconds (m ((c : Thread nD τ).loc main_arg0)) (m ((c : Thread nD τ).loc main_arg3)) := by
  refine Pipeline.Dat.arrAt_eq_of_covers (dats m 0 c) 7 _ (by decide +kernel) fun t _ y => ?_
  obtain ⟨p, q, rfl⟩ := eq_ix2 (R := 40) (C := 128) y
  have h : At t p q (((cfg0.win 7).blk t).view.emb (ix2 p q) 0) (((cfg0.win 7).blk t).view.emb (ix2 p q) 1) := ⟨congrFun (idx_facts t).2.2.2.2.2.2 0 ▸ rfl, congrFun (idx_facts t).2.2.2.2.2.2 1 ▸ rfl⟩
  show (dats m 0 c).after 7 t (ix2 p q) = _
  rw [after0_7]
  refine (left7 (iblk m c 0 t) (iblk m c 1 t) (iblk m c 2 t) (iblk m c 3 t) p q).trans ?_
  rw [parts_at m c t h, block3_at m c t h]
  rfl

theorem algebraic : Cert.algebraic_AdamSmallIdeal_AdamSmallRefIdeal (hAdamSmallIdeal := Cert.AdamSmallIdeal.Gen.facts)
    (hAdamSmallRefIdeal := Cert.AdamSmallRefIdeal.Gen.facts) := by
  intro m g m' g' _ hagree
  refine ⟨fun c => grads (m ((c : Thread nD τ).loc main_arg0)),
    fun c => deltas (m ((c : Thread nD τ).loc main_arg0)) (m ((c : Thread nD τ).loc main_arg1)) (m ((c : Thread nD τ).loc main_arg2)) (m ((c : Thread nD τ).loc main_arg3)),
    fun c => firsts (m ((c : Thread nD τ).loc main_arg0)) (m ((c : Thread nD τ).loc main_arg2)),
    fun c => seconds (m ((c : Thread nD τ).loc main_arg0)) (m ((c : Thread nD τ).loc main_arg3)), ?_, ?_⟩
  · exact (θ_run _ _ _).mono (fun r h c => ⟨(h c).1.trans (array4 m c), (h c).2.1.trans (array5 m c), (h c).2.2.1.trans (array6 m c), (h c).2.2.2.1.trans (array7 m c), (h c).2.2.2.2⟩)
      (Cert.AdamSmallIdeal.Value.run_blocks m g)
  · refine (θ_run _ _ _).mono (fun r h c => ⟨(h c).1.trans ?_, (h c).2.1.trans ?_, (h c).2.2.1.trans ?_, (h c).2.2.2.1.trans ?_, (h c).2.2.2.2⟩)
      (Cert.AdamSmallRefIdeal.Value.run m' g')
    · rw [(hagree c).1]
      beta_reduce
      generalize m ((c : Thread nD τ).loc main_arg0) = x0
      refine ext2 fun p q => ?_
      refine Eq.trans ?_ (show total x0 p q = (grads x0 : Vec Ideal S40x128 .f32) (ix2 p q) from rfl)
      pointwise [delta, newM, newV, total]
    · rw [(hagree c).1, (hagree c).2.1, (hagree c).2.2.1, (hagree c).2.2.2]
      beta_reduce
      generalize m ((c : Thread nD τ).loc main_arg0) = x0
      generalize m ((c : Thread nD τ).loc main_arg1) = x1
      generalize m ((c : Thread nD τ).loc main_arg2) = x2
      generalize m ((c : Thread nD τ).loc main_arg3) = x3
      refine ext2 fun p q => ?_
      refine Eq.trans ?_ (show delta (total x0 p q) (x1 (ix2 p q)) (x2 (ix2 p q)) (x3 (ix2 p q)) = (deltas x0 x1 x2 x3 : Vec Ideal S40x128 .f32) (ix2 p q) from rfl)
      pointwise [delta, newM, newV, total]
    · rw [(hagree c).1, (hagree c).2.2.1]
      beta_reduce
      generalize m ((c : Thread nD τ).loc main_arg0) = x0
      generalize m ((c : Thread nD τ).loc main_arg2) = x2
      refine ext2 fun p q => ?_
      refine Eq.trans ?_ (show newM (total x0 p q) (x2 (ix2 p q)) = (firsts x0 x2 : Vec Ideal S40x128 .f32) (ix2 p q) from rfl)
      pointwise [delta, newM, newV, total]
    · rw [(hagree c).1, (hagree c).2.2.2]
      beta_reduce
      generalize m ((c : Thread nD τ).loc main_arg0) = x0
      generalize m ((c : Thread nD τ).loc main_arg3) = x3
      refine ext2 fun p q => ?_
      refine Eq.trans ?_ (show newV (total x0 p q) (x3 (ix2 p q)) = (seconds x0 x3 : Vec Ideal S40x128 .f32) (ix2 p q) from rfl)
      pointwise [delta, newM, newV, total]

theorem frame_kernel : Cert.quiescent_AdamSmall (hAdamSmall := Cert.AdamSmall.Gen.facts) :=
  fun m ρ _ => Cert.AdamSmall.Gen.frame m ρ

theorem frame_ideal : Cert.quiescent_AdamSmallIdeal (hAdamSmallIdeal := Cert.AdamSmallIdeal.Gen.facts) :=
  fun m ρ _ => Cert.AdamSmallIdeal.Gen.frame m ρ

theorem frame_reference : Cert.quiescent_AdamSmallRefIdeal (hAdamSmallRefIdeal := Cert.AdamSmallRefIdeal.Gen.facts) :=
  fun m ρ _ => (θ_run Cert.AdamSmallRefIdeal.defs _ _).mono
    (fun r h => ⟨fun c => (h c).2.2.2.2, sem_eq_zero_of_no_sems (by decide) r.2⟩) (Cert.AdamSmallRefIdeal.Value.run m ρ)

end Cert.Proof.AdamSmall

end
-- ==== Proof.AdamConv.lean ====
module

public import proofs.«01_k».proof.Defs
public import proofs.«01_k».proof.Proof.Adam
public import proofs.«01_k».proof.Proof.Gen.AdamConv.Frame
public import proofs.«01_k».proof.Proof.Gen.AdamConvIdeal.Value
public import proofs.«01_k».proof.Proof.Gen.AdamConvRefIdeal.Run
public import Idealize.ShloMosaic.Lib.Pipeline.ValueKit.Geometry
public import Idealize.ShloMosaic.Adequacy
public import Idealize.ShloMosaic.Init

@[expose] public section

set_option maxRecDepth 16384

noncomputable section

namespace Cert.Proof.AdamConv

open Cert.AdamConvIdeal Cert.AdamConvIdeal.Gen Cert.Hand.Entries Cert.Hand.Adam Idealize.ShloMosaic Idealize.ShloMosaic.TcCoe Idealize.SL.Sem

/-- The first moment's correction, as the ideal reading has it. -/
theorem m_named : Named.named (F := Ideal) Cert.AdamConvIdeal.κ "m_corr" (φ := .f32) 0x3FC48605#32 = ((8388608 / 5463681 : ℝ) : EReal) :=
  IdealRules.named_const.ideal_named_scalar _ _ _ _ rfl

theorem v_named : Named.named (F := Ideal) Cert.AdamConvIdeal.κ "v_corr" (φ := .f32) 0x42C8E6D3#32 = ((268435456 / 2672307 : ℝ) : EReal) :=
  IdealRules.named_const.ideal_named_scalar _ _ _ _ rfl

theorem preserves : Cert.preserves_AdamConv_AdamConvIdeal :=
  ⟨IdealRules.named_const.statement Cert.AdamConvIdeal.κ "m_corr" .f32 0x3FC48605#32 ((8388608 / 5463681 : ℝ) : EReal) rfl,
   IdealRules.named_const.statement Cert.AdamConvIdeal.κ "v_corr" .f32 0x42C8E6D3#32 ((268435456 / 2672307 : ℝ) : EReal) rfl⟩

/-- The body sums its block of the parts. -/
theorem pay5 (x0 : Vec Ideal S8x8x384 .f32) (x1 x2 x3 : Vec Ideal S8x384 .f32) (p : Fin 8) (q : Fin 384) :
    (k0_pay5 x0 x1 x2 x3 (ix2 p q) : EReal) = total x0 p q := by
  rw [total_eq]
  unfold k0_pay5
  simp only [View.ld_unit]
  pointwise [k0_pay3]

theorem pay6 (x0 : Vec Ideal S8x8x384 .f32) (x1 x2 x3 : Vec Ideal S8x384 .f32) (p : Fin 8) (q : Fin 384) :
    (k0_pay6 x0 x1 x2 x3 (ix2 p q) : EReal) = newM (total x0 p q) (x2 (ix2 p q)) := by
  rw [total_eq]
  unfold k0_pay6 newM
  rw [View.ld_unit_zero zero2]
  simp only [View.ld_unit]
  pointwise [k0_pay4, k0_pay3]

theorem pay1 (g v : Vec Ideal S8x384 .f32) (p : Fin 8) (q : Fin 384) :
    (k0_pay1 g v (ix2 p q) : EReal) = newV (g (ix2 p q)) (v (ix2 p q)) := by
  pointwise [k0_pay1, newV]

theorem pay2 (g n v w : Vec Ideal S8x384 .f32) (p : Fin 8) (q : Fin 384) (mv : EReal) (hn : n (ix2 p q) = newM (g (ix2 p q)) mv) :
    (k0_pay2 g n v w (ix2 p q) : EReal) = delta (g (ix2 p q)) (w (ix2 p q)) mv (v (ix2 p q)) := by
  unfold delta
  rw [← m_corr, ← v_corr, ← hn, ← m_named, ← v_named, ← pay1]
  pointwise [k0_pay2, k0_pay1]

theorem left4 (x0 : Vec Ideal S8x8x384 .f32) (x1 x2 x3 : Vec Ideal S8x384 .f32) (p : Fin 8) (q : Fin 384) : (out0_4 x0 x1 x2 x3 (ix2 p q) : EReal) = total x0 p q := by
  unfold out0_4
  rw [View.canon_unit_zero zero2, pay5]

theorem left5 (x0 : Vec Ideal S8x8x384 .f32) (x1 x2 x3 : Vec Ideal S8x384 .f32) (p : Fin 8) (q : Fin 384) : (out0_5 x0 x1 x2 x3 (ix2 p q) : EReal) = delta (total x0 p q) (x1 (ix2 p q)) (x2 (ix2 p q)) (x3 (ix2 p q)) := by
  unfold out0_5
  rw [View.canon_unit_zero zero2, View.ld_unit_zero zero2, View.ld_unit_zero zero2, pay2 _ _ _ _ p q (x2 (ix2 p q)) (by rw [pay5, pay6]), pay5]

theorem left6 (x0 : Vec Ideal S8x8x384 .f32) (x1 x2 x3 : Vec Ideal S8x384 .f32) (p : Fin 8) (q : Fin 384) : (out0_6 x0 x1 x2 x3 (ix2 p q) : EReal) = newM (total x0 p q) (x2 (ix2 p q)) := by
  unfold out0_6
  rw [View.canon_unit_zero zero2, pay6]

theorem left7 (x0 : Vec Ideal S8x8x384 .f32) (x1 x2 x3 : Vec Ideal S8x384 .f32) (p : Fin 8) (q : Fin 384) : (out0_7 x0 x1 x2 x3 (ix2 p q) : EReal) = newV (total x0 p q) (x3 (ix2 p q)) := by
  unfold out0_7
  rw [View.canon_unit_zero zero2, View.ld_unit_zero zero2, pay1, pay5]

/-- Every window stands on the same block of its array. -/
theorem idx_facts : ∀ t : Fin cfg0.N,
    (win0_0.index t 0 = 0 ∧ win0_0.index t 1 = win0_4.index t 0 ∧ win0_0.index t 2 = win0_4.index t 1) ∧
    win0_1.index t = win0_4.index t ∧ win0_2.index t = win0_4.index t ∧ win0_3.index t = win0_4.index t ∧
    win0_5.index t = win0_4.index t ∧ win0_6.index t = win0_4.index t ∧ win0_7.index t = win0_4.index t := by
  decide +kernel

/-- Where an entry of a block stands in the array. -/
structure At (t : Fin cfg0.N) (p : Fin 8) (q : Fin 384) (P : Fin 8) (Q : Fin 384) : Prop where
  row : win0_4.index t 0 * 8 + 1 * p.val = P.val
  col : win0_4.index t 1 * 384 + 1 * q.val = Q.val

theorem parts_at (m : (ℓ : Loc nD τ sig) → Buf (Elt Ideal) ℓ) (c : Dev nD) (t : Fin cfg0.N) {p : Fin 8} {q : Fin 384} {P : Fin 8} {Q : Fin 384} (h : At t p q P Q) :
    total (iblk m c 0 t : Vec Ideal S8x8x384 .f32) p q = total (m ((c : Thread nD τ).loc main_arg0) : Vec Ideal S8x8x384 .f32) P Q := by
  obtain ⟨⟨f0, f1, f2⟩, -⟩ := idx_facts t
  refine Finset.sum_congr rfl fun s _ => congrArg (m ((c : Thread nD τ).loc main_arg0)) ?_
  funext a
  match a with
  | 0 => exact Fin.ext (by show win0_0.index t 0 * 8 + 1 * s.val = s.val; rw [f0]; omega)
  | 1 => exact Fin.ext (by show win0_0.index t 1 * 8 + 1 * p.val = P.val; rw [f1]; exact h.row)
  | 2 => exact Fin.ext (by show win0_0.index t 2 * 384 + 1 * q.val = Q.val; rw [f2]; exact h.col)

theorem block1_at (m : (ℓ : Loc nD τ sig) → Buf (Elt Ideal) ℓ) (c : Dev nD) (t : Fin cfg0.N) {p : Fin 8} {q : Fin 384} {P : Fin 8} {Q : Fin 384} (h : At t p q P Q) :
    (iblk m c 1 t : Vec Ideal S8x384 .f32) (ix2 p q) = (m ((c : Thread nD τ).loc main_arg1) : Vec Ideal S8x384 .f32) (ix2 P Q) := by
  refine congrArg (m ((c : Thread nD τ).loc main_arg1)) ?_
  funext a
  match a with
  | 0 => exact Fin.ext (by show win0_1.index t 0 * 8 + 1 * p.val = P.val; rw [(idx_facts t).2.1]; exact h.row)
  | 1 => exact Fin.ext (by show win0_1.index t 1 * 384 + 1 * q.val = Q.val; rw [(idx_facts t).2.1]; exact h.col)

theorem block2_at (m : (ℓ : Loc nD τ sig) → Buf (Elt Ideal) ℓ) (c : Dev nD) (t : Fin cfg0.N) {p : Fin 8} {q : Fin 384} {P : Fin 8} {Q : Fin 384} (h : At t p q P Q) :
    (iblk m c 2 t : Vec Ideal S8x384 .f32) (ix2 p q) = (m ((c : Thread nD τ).loc main_arg2) : Vec Ideal S8x384 .f32) (ix2 P Q) := by
  refine congrArg (m ((c : Thread nD τ).loc main_arg2)) ?_
  funext a
  match a with
  | 0 => exact Fin.ext (by show win0_2.index t 0 * 8 + 1 * p.val = P.val; rw [(idx_facts t).2.2.1]; exact h.row)
  | 1 => exact Fin.ext (by show win0_2.index t 1 * 384 + 1 * q.val = Q.val; rw [(idx_facts t).2.2.1]; exact h.col)

theorem block3_at (m : (ℓ : Loc nD τ sig) → Buf (Elt Ideal) ℓ) (c : Dev nD) (t : Fin cfg0.N) {p : Fin 8} {q : Fin 384} {P : Fin 8} {Q : Fin 384} (h : At t p q P Q) :
    (iblk m c 3 t : Vec Ideal S8x384 .f32) (ix2 p q) = (m ((c : Thread nD τ).loc main_arg3) : Vec Ideal S8x384 .f32) (ix2 P Q) := by
  refine congrArg (m ((c : Thread nD τ).loc main_arg3)) ?_
  funext a
  match a with
  | 0 => exact Fin.ext (by show win0_3.index t 0 * 8 + 1 * p.val = P.val; rw [(idx_facts t).2.2.2.1]; exact h.row)
  | 1 => exact Fin.ext (by show win0_3.index t 1 * 384 + 1 * q.val = Q.val; rw [(idx_facts t).2.2.2.1]; exact h.col)

theorem array4 (m : (ℓ : Loc nD τ sig) → Buf (Elt Ideal) ℓ) (c : Dev nD) : (dats m 0 c).arrAt 4 cfg0.N = grads (m ((c : Thread nD τ).loc main_arg0)) := by
  refine Pipeline.Dat.arrAt_eq_of_covers (dats m 0 c) 4 _ (by decide +kernel) fun t _ y => ?_
  obtain ⟨p, q, rfl⟩ := eq_ix2 (R := 8) (C := 384) y
  have h : At t p q (((cfg0.win 4).blk t).view.emb (ix2 p q) 0) (((cfg0.win 4).blk t).view.emb (ix2 p q) 1) := ⟨rfl, rfl⟩
  show (dats m 0 c).after 4 t (ix2 p q) = _
  rw [after0_4]
  refine (left4 (iblk m c 0 t) (iblk m c 1 t) (iblk m c 2 t) (iblk m c 3 t) p q).trans ?_
  rw [parts_at m c t h]
  rfl

theorem array5 (m : (ℓ : Loc nD τ sig) → Buf (Elt Ideal) ℓ) (c : Dev nD) : (dats m 0 c).arrAt 5 cfg0.N = deltas (m ((c : Thread nD τ).loc main_arg0)) (m ((c : Thread nD τ).loc main_arg1)) (m ((c : Thread nD τ).loc main_arg2)) (m ((c : Thread nD τ).loc main_arg3)) := by
  refine Pipeline.Dat.arrAt_eq_of_covers (dats m 0 c) 5 _ (by decide +kernel) fun t _ y => ?_
  obtain ⟨p, q, rfl⟩ := eq_ix2 (R := 8) (C := 384) y
  have h : At t p q (((cfg0.win 5).blk t).view.emb (ix2 p q) 0) (((cfg0.win 5).blk t).view.emb (ix2 p q) 1) := ⟨congrFun (idx_facts t).2.2.2.2.1 0 ▸ rfl, congrFun (idx_facts t).2.2.2.2.1 1 ▸ rfl⟩
  show (dats m 0 c).after 5 t (ix2 p q) = _
  rw [after0_5]
  refine (left5 (iblk m c 0 t) (iblk m c 1 t) (iblk m c 2 t) (iblk m c 3 t) p q).trans ?_
  rw [parts_at m c t h, block1_at m c t h, block2_at m c t h, block3_at m c t h]
  rfl

theorem array6 (m : (ℓ : Loc nD τ sig) → Buf (Elt Ideal) ℓ) (c : Dev nD) : (dats m 0 c).arrAt 6 cfg0.N = firsts (m ((c : Thread nD τ).loc main_arg0)) (m ((c : Thread nD τ).loc main_arg2)) := by
  refine Pipeline.Dat.arrAt_eq_of_covers (dats m 0 c) 6 _ (by decide +kernel) fun t _ y => ?_
  obtain ⟨p, q, rfl⟩ := eq_ix2 (R := 8) (C := 384) y
  have h : At t p q (((cfg0.win 6).blk t).view.emb (ix2 p q) 0) (((cfg0.win 6).blk t).view.emb (ix2 p q) 1) := ⟨congrFun (idx_facts t).2.2.2.2.2.1 0 ▸ rfl, congrFun (idx_facts t).2.2.2.2.2.1 1 ▸ rfl⟩
  show (dats m 0 c).after 6 t (ix2 p q) = _
  rw [after0_6]
  refine (left6 (iblk m c 0 t) (iblk m c 1 t) (iblk m c 2 t) (iblk m c 3 t) p q).trans ?_
  rw [parts_at m c t h, block2_at m c t h]
  rfl

theorem array7 (m : (ℓ : Loc nD τ sig) → Buf (Elt Ideal) ℓ) (c : Dev nD) : (dats m 0 c).arrAt 7 cfg0.N = seconds (m ((c : Thread nD τ).loc main_arg0)) (m ((c : Thread nD τ).loc main_arg3)) := by
  refine Pipeline.Dat.arrAt_eq_of_covers (dats m 0 c) 7 _ (by decide +kernel) fun t _ y => ?_
  obtain ⟨p, q, rfl⟩ := eq_ix2 (R := 8) (C := 384) y
  have h : At t p q (((cfg0.win 7).blk t).view.emb (ix2 p q) 0) (((cfg0.win 7).blk t).view.emb (ix2 p q) 1) := ⟨congrFun (idx_facts t).2.2.2.2.2.2 0 ▸ rfl, congrFun (idx_facts t).2.2.2.2.2.2 1 ▸ rfl⟩
  show (dats m 0 c).after 7 t (ix2 p q) = _
  rw [after0_7]
  refine (left7 (iblk m c 0 t) (iblk m c 1 t) (iblk m c 2 t) (iblk m c 3 t) p q).trans ?_
  rw [parts_at m c t h, block3_at m c t h]
  rfl

theorem algebraic : Cert.algebraic_AdamConvIdeal_AdamConvRefIdeal (hAdamConvIdeal := Cert.AdamConvIdeal.Gen.facts)
    (hAdamConvRefIdeal := Cert.AdamConvRefIdeal.Gen.facts) := by
  intro m g m' g' _ hagree
  refine ⟨fun c => grads (m ((c : Thread nD τ).loc main_arg0)),
    fun c => deltas (m ((c : Thread nD τ).loc main_arg0)) (m ((c : Thread nD τ).loc main_arg1)) (m ((c : Thread nD τ).loc main_arg2)) (m ((c : Thread nD τ).loc main_arg3)),
    fun c => firsts (m ((c : Thread nD τ).loc main_arg0)) (m ((c : Thread nD τ).loc main_arg2)),
    fun c => seconds (m ((c : Thread nD τ).loc main_arg0)) (m ((c : Thread nD τ).loc main_arg3)), ?_, ?_⟩
  · exact (θ_run _ _ _).mono (fun r h c => ⟨(h c).1.trans (array4 m c), (h c).2.1.trans (array5 m c), (h c).2.2.1.trans (array6 m c), (h c).2.2.2.1.trans (array7 m c), (h c).2.2.2.2⟩)
      (Cert.AdamConvIdeal.Value.run_blocks m g)
  · refine (θ_run _ _ _).mono (fun r h c => ⟨(h c).1.trans ?_, (h c).2.1.trans ?_, (h c).2.2.1.trans ?_, (h c).2.2.2.1.trans ?_, (h c).2.2.2.2⟩)
      (Cert.AdamConvRefIdeal.Value.run m' g')
    · rw [(hagree c).1]
      beta_reduce
      generalize m ((c : Thread nD τ).loc main_arg0) = x0
      refine ext2 fun p q => ?_
      refine Eq.trans ?_ (show total x0 p q = (grads x0 : Vec Ideal S8x384 .f32) (ix2 p q) from rfl)
      pointwise [delta, newM, newV, total]
    · rw [(hagree c).1, (hagree c).2.1, (hagree c).2.2.1, (hagree c).2.2.2]
      beta_reduce
      generalize m ((c : Thread nD τ).loc main_arg0) = x0
      generalize m ((c : Thread nD τ).loc main_arg1) = x1
      generalize m ((c : Thread nD τ).loc main_arg2) = x2
      generalize m ((c : Thread nD τ).loc main_arg3) = x3
      refine ext2 fun p q => ?_
      refine Eq.trans ?_ (show delta (total x0 p q) (x1 (ix2 p q)) (x2 (ix2 p q)) (x3 (ix2 p q)) = (deltas x0 x1 x2 x3 : Vec Ideal S8x384 .f32) (ix2 p q) from rfl)
      pointwise [delta, newM, newV, total]
    · rw [(hagree c).1, (hagree c).2.2.1]
      beta_reduce
      generalize m ((c : Thread nD τ).loc main_arg0) = x0
      generalize m ((c : Thread nD τ).loc main_arg2) = x2
      refine ext2 fun p q => ?_
      refine Eq.trans ?_ (show newM (total x0 p q) (x2 (ix2 p q)) = (firsts x0 x2 : Vec Ideal S8x384 .f32) (ix2 p q) from rfl)
      pointwise [delta, newM, newV, total]
    · rw [(hagree c).1, (hagree c).2.2.2]
      beta_reduce
      generalize m ((c : Thread nD τ).loc main_arg0) = x0
      generalize m ((c : Thread nD τ).loc main_arg3) = x3
      refine ext2 fun p q => ?_
      refine Eq.trans ?_ (show newV (total x0 p q) (x3 (ix2 p q)) = (seconds x0 x3 : Vec Ideal S8x384 .f32) (ix2 p q) from rfl)
      pointwise [delta, newM, newV, total]

theorem frame_kernel : Cert.quiescent_AdamConv (hAdamConv := Cert.AdamConv.Gen.facts) :=
  fun m ρ _ => Cert.AdamConv.Gen.frame m ρ

theorem frame_ideal : Cert.quiescent_AdamConvIdeal (hAdamConvIdeal := Cert.AdamConvIdeal.Gen.facts) :=
  fun m ρ _ => Cert.AdamConvIdeal.Gen.frame m ρ

theorem frame_reference : Cert.quiescent_AdamConvRefIdeal (hAdamConvRefIdeal := Cert.AdamConvRefIdeal.Gen.facts) :=
  fun m ρ _ => (θ_run Cert.AdamConvRefIdeal.defs _ _).mono
    (fun r h => ⟨fun c => (h c).2.2.2.2, sem_eq_zero_of_no_sems (by decide) r.2⟩) (Cert.AdamConvRefIdeal.Value.run m ρ)

end Cert.Proof.AdamConv

end
-- ==== Proof.Conv.lean ====
module

public import proofs.«01_k».proof.Proof.Entries
public import proofs.«01_k».proof.Proof.MmDGateUp

@[expose] public section

set_option maxRecDepth 200000

noncomputable section

namespace Cert.Hand.Conv

open Cert.Hand.Entries Idealize.ShloMosaic
open Cert.Proof.DGateUp (sig sig_top sig_bot)

/-- A column, `s` places further down, with zeros before its first entry. -/
def down (s : ℕ) (f : Fin 4096 → EReal) (t : Fin 4096) : EReal := if h : s ≤ t.val then f ⟨t.val - s, by omega⟩ else 0

/-- A column, `s` places further up, with zeros after its last entry. -/
def up (s : ℕ) (f : Fin 4096 → EReal) (t : Fin 4096) : EReal := if h : t.val + s < 4096 then f ⟨t.val + s, h⟩ else 0

/-- Every column of a matrix, `s` places further down. -/
def downs {n : ℕ} (s : ℕ) (x : (⟨2, ![4096, n]⟩ : Shape).Idx → EReal) : (⟨2, ![4096, n]⟩ : Shape).Idx → EReal :=
  fun y => down s (fun t => x (ix2 t (y 1))) (y 0)

/-- Every column of a matrix, `s` places further up. -/
def ups {n : ℕ} (s : ℕ) (x : (⟨2, ![4096, n]⟩ : Shape).Idx → EReal) : (⟨2, ![4096, n]⟩ : Shape).Idx → EReal :=
  fun y => up s (fun t => x (ix2 t (y 1))) (y 0)

theorem downs_apply {n : ℕ} (s : ℕ) (x : (⟨2, ![4096, n]⟩ : Shape).Idx → EReal) (p : Fin 4096) (q : Fin n) :
    downs s x (ix2 p q) = down s (fun t => x (ix2 t q)) p := rfl

theorem ups_apply {n : ℕ} (s : ℕ) (x : (⟨2, ![4096, n]⟩ : Shape).Idx → EReal) (p : Fin 4096) (q : Fin n) :
    ups s x (ix2 p q) = up s (fun t => x (ix2 t q)) p := rfl

/-! ## The shifts as the kernels compute them: a rotation, then zeros in the eight rows where it came round -/

section Kernel

abbrev Whole : Shape := ⟨2, ![4096, 128]⟩
abbrev Edge : Shape := ⟨2, ![8, 128]⟩
abbrev Inner : Shape := ⟨2, ![4088, 128]⟩

theorem row_ge : ∀ (s : Fin 4) (p : Fin 8), IntOp.cmpi .sge (BitVec.ofNat 32 p.val) (BitVec.ofNat 32 s.val) = if s.val ≤ p.val then 1#1 else 0#1 := by
  decide

theorem wrap_down (s : ℕ) (hs : s < 4) (x : FVec Ideal Whole .f32) (p : Fin 4096) (q : Fin 128) (e0 : p.val < 8 → (p.val + 4096 - s) % 4096 < 4096)
    (e1 : ¬ p.val < 8 → (8 + (p.val - 8) + 4096 - s) % 4096 < 4096) :
    (if h : p.val < 8 then Scalar.select (IntOp.cmpi .sge (BitVec.ofNat 32 p.val) (BitVec.ofNat 32 s)) (x (ix2 ⟨(p.val + 4096 - s) % 4096, e0 h⟩ q)) 0
      else x (ix2 ⟨(8 + (p.val - 8) + 4096 - s) % 4096, e1 h⟩ q)) = down s (fun t => x (ix2 t q)) p := by
  unfold down
  by_cases h : p.val < 8
  · rw [dif_pos h, row_ge ⟨s, hs⟩ ⟨p.val, h⟩]
    by_cases h' : s ≤ p.val
    · rw [dif_pos h', if_pos h']
      exact congrArg (fun t => x (ix2 t q)) (Fin.ext (by show (p.val + 4096 - s) % 4096 = p.val - s; omega))
    · rw [dif_neg h', if_neg h']
      rfl
  · rw [dif_neg h, dif_pos (by omega)]
    exact congrArg (fun t => x (ix2 t q)) (Fin.ext (by show (8 + (p.val - 8) + 4096 - s) % 4096 = p.val - s; omega))

theorem row_lt : ∀ (s : Fin 9) (p : Fin 8), IntOp.cmpi .slt (BitVec.ofNat 32 p.val) (BitVec.ofNat 32 s.val) = if p.val < s.val then 1#1 else 0#1 := by
  decide

theorem wrap_up (s : ℕ) (h0 : 0 < s) (hs : s < 4) (x : FVec Ideal Whole .f32) (p : Fin 4096) (q : Fin 128) (r u : ℕ) (hr : r = 4096 - s) (hu : u = 8 - s)
    (e0 : p.val < 4088 → (p.val + 4096 - r) % 4096 < 4096) (e1 : ¬ p.val < 4088 → (4088 + (p.val - 4088) + 4096 - r) % 4096 < 4096) :
    (if h : p.val < 4088 then x (ix2 ⟨(p.val + 4096 - r) % 4096, e0 h⟩ q)
      else Scalar.select (IntOp.cmpi .slt (BitVec.ofNat 32 (p.val - 4088)) (BitVec.ofNat 32 u)) (x (ix2 ⟨(4088 + (p.val - 4088) + 4096 - r) % 4096, e1 h⟩ q)) 0)
      = up s (fun t => x (ix2 t q)) p := by
  unfold up
  by_cases h : p.val < 4088
  · rw [dif_pos h, dif_pos (by omega)]
    exact congrArg (fun t => x (ix2 t q)) (Fin.ext (by show (p.val + 4096 - r) % 4096 = p.val + s; omega))
  · rw [dif_neg h, row_lt ⟨u, by omega⟩ ⟨p.val - 4088, by omega⟩]
    by_cases h' : p.val + s < 4096
    · rw [dif_pos h', if_pos (show p.val - 4088 < u by omega)]
      exact congrArg (fun t => x (ix2 t q)) (Fin.ext (by show (4088 + (p.val - 4088) + 4096 - r) % 4096 = p.val + s; omega))
    · rw [dif_neg h', if_neg (show ¬ p.val - 4088 < u by omega)]
      rfl

theorem kernel_down1 (hr : Whole.Rotates 0 none) (hi : Edge.Iotas .tc 32 [0]) (h0 : Whole.Slices ![0, 0] Edge) (h8 : Whole.Slices ![8, 0] Inner)
    (hc : Shape.Concatenates [Edge, Inner] Whole 0) (x : FVec Ideal Whole .f32) :
    concatenate Whole 0 [⟨Edge, select (cmpi .sge (iota .tc Edge 32 [0] hi) (broadcast Edge 1#32)) (extractStridedSlice Edge ![0, 0] (dynamicRotate 0 1#32 none x hr) h0)
        (broadcast Edge (Scalar.ofBits (F := Ideal) .f32 0x00000000#32))⟩, ⟨Inner, extractStridedSlice Inner ![8, 0] (dynamicRotate 0 1#32 none x hr) h8⟩] hc = downs 1 x := by
  refine ext2 fun p q => ?_
  rw [downs_apply]
  pointwise
  exact wrap_down 1 (by decide) x p q _ _

theorem kernel_down2 (hr : Whole.Rotates 0 none) (hi : Edge.Iotas .tc 32 [0]) (h0 : Whole.Slices ![0, 0] Edge) (h8 : Whole.Slices ![8, 0] Inner)
    (hc : Shape.Concatenates [Edge, Inner] Whole 0) (x : FVec Ideal Whole .f32) :
    concatenate Whole 0 [⟨Edge, select (cmpi .sge (iota .tc Edge 32 [0] hi) (broadcast Edge 2#32)) (extractStridedSlice Edge ![0, 0] (dynamicRotate 0 2#32 none x hr) h0)
        (broadcast Edge (Scalar.ofBits (F := Ideal) .f32 0x00000000#32))⟩, ⟨Inner, extractStridedSlice Inner ![8, 0] (dynamicRotate 0 2#32 none x hr) h8⟩] hc = downs 2 x := by
  refine ext2 fun p q => ?_
  rw [downs_apply]
  pointwise
  exact wrap_down 2 (by decide) x p q _ _

theorem kernel_down3 (hr : Whole.Rotates 0 none) (hi : Edge.Iotas .tc 32 [0]) (h0 : Whole.Slices ![0, 0] Edge) (h8 : Whole.Slices ![8, 0] Inner)
    (hc : Shape.Concatenates [Edge, Inner] Whole 0) (x : FVec Ideal Whole .f32) :
    concatenate Whole 0 [⟨Edge, select (cmpi .sge (iota .tc Edge 32 [0] hi) (broadcast Edge 3#32)) (extractStridedSlice Edge ![0, 0] (dynamicRotate 0 3#32 none x hr) h0)
        (broadcast Edge (Scalar.ofBits (F := Ideal) .f32 0x00000000#32))⟩, ⟨Inner, extractStridedSlice Inner ![8, 0] (dynamicRotate 0 3#32 none x hr) h8⟩] hc = downs 3 x := by
  refine ext2 fun p q => ?_
  rw [downs_apply]
  pointwise
  exact wrap_down 3 (by decide) x p q _ _

theorem kernel_up1 (hr : Whole.Rotates 0 none) (hi : Edge.Iotas .tc 32 [0]) (h0 : Whole.Slices ![0, 0] Inner) (h8 : Whole.Slices ![4088, 0] Edge)
    (hc : Shape.Concatenates [Inner, Edge] Whole 0) (x : FVec Ideal Whole .f32) :
    concatenate Whole 0 [⟨Inner, extractStridedSlice Inner ![0, 0] (dynamicRotate 0 4095#32 none x hr) h0⟩, ⟨Edge, select (cmpi .slt (iota .tc Edge 32 [0] hi) (broadcast Edge 7#32))
        (extractStridedSlice Edge ![4088, 0] (dynamicRotate 0 4095#32 none x hr) h8) (broadcast Edge (Scalar.ofBits (F := Ideal) .f32 0x00000000#32))⟩] hc = ups 1 x := by
  refine ext2 fun p q => ?_
  rw [ups_apply]
  pointwise
  exact wrap_up 1 (by decide) (by decide) x p q 4095 7 (by decide) (by decide) _ _

theorem kernel_up2 (hr : Whole.Rotates 0 none) (hi : Edge.Iotas .tc 32 [0]) (h0 : Whole.Slices ![0, 0] Inner) (h8 : Whole.Slices ![4088, 0] Edge)
    (hc : Shape.Concatenates [Inner, Edge] Whole 0) (x : FVec Ideal Whole .f32) :
    concatenate Whole 0 [⟨Inner, extractStridedSlice Inner ![0, 0] (dynamicRotate 0 4094#32 none x hr) h0⟩, ⟨Edge, select (cmpi .slt (iota .tc Edge 32 [0] hi) (broadcast Edge 6#32))
        (extractStridedSlice Edge ![4088, 0] (dynamicRotate 0 4094#32 none x hr) h8) (broadcast Edge (Scalar.ofBits (F := Ideal) .f32 0x00000000#32))⟩] hc = ups 2 x := by
  refine ext2 fun p q => ?_
  rw [ups_apply]
  pointwise
  exact wrap_up 2 (by decide) (by decide) x p q 4094 6 (by decide) (by decide) _ _

theorem kernel_up3 (hr : Whole.Rotates 0 none) (hi : Edge.Iotas .tc 32 [0]) (h0 : Whole.Slices ![0, 0] Inner) (h8 : Whole.Slices ![4088, 0] Edge)
    (hc : Shape.Concatenates [Inner, Edge] Whole 0) (x : FVec Ideal Whole .f32) :
    concatenate Whole 0 [⟨Inner, extractStridedSlice Inner ![0, 0] (dynamicRotate 0 4093#32 none x hr) h0⟩, ⟨Edge, select (cmpi .slt (iota .tc Edge 32 [0] hi) (broadcast Edge 5#32))
        (extractStridedSlice Edge ![4088, 0] (dynamicRotate 0 4093#32 none x hr) h8) (broadcast Edge (Scalar.ofBits (F := Ideal) .f32 0x00000000#32))⟩] hc = ups 3 x := by
  refine ext2 fun p q => ?_
  rw [ups_apply]
  pointwise
  exact wrap_up 3 (by decide) (by decide) x p q 4093 5 (by decide) (by decide) _ _

end Kernel

/-! ## The shifts as the references compute them: three rows of zeros on top, then a slice -/

theorem reference_down3 (hb) (hs : (⟨2, ![4099, 1024]⟩ : Shape).Slices ![0, 0] ⟨2, ![4096, 1024]⟩)
    (hc : Shape.Concatenates [⟨2, ![3, 1024]⟩, ⟨2, ![4096, 1024]⟩] ⟨2, ![4099, 1024]⟩ 0) (x : FVec Ideal ⟨2, ![4096, 1024]⟩ .f32) :
    extractStridedSlice ⟨2, ![4096, 1024]⟩ ![0, 0] (concatenate ⟨2, ![4099, 1024]⟩ 0 [⟨⟨2, ![3, 1024]⟩, broadcastInDim ⟨2, ![3, 1024]⟩ ![] hb (constant (F := Ideal) ⟨0, ![]⟩ .f32 0x00000000#32)⟩, ⟨⟨2, ![4096, 1024]⟩, x⟩] hc) hs = downs 3 x := by
  refine ext2 fun p q => ?_
  rw [downs_apply]
  pointwise
  unfold down
  by_cases h : p.val < 3
  · rw [dif_pos h, dif_neg (by omega)]
  · rw [dif_neg h, dif_pos (by omega)]

theorem reference_down2 (hb) (hs : (⟨2, ![4099, 1024]⟩ : Shape).Slices ![1, 0] ⟨2, ![4096, 1024]⟩)
    (hc : Shape.Concatenates [⟨2, ![3, 1024]⟩, ⟨2, ![4096, 1024]⟩] ⟨2, ![4099, 1024]⟩ 0) (x : FVec Ideal ⟨2, ![4096, 1024]⟩ .f32) :
    extractStridedSlice ⟨2, ![4096, 1024]⟩ ![1, 0] (concatenate ⟨2, ![4099, 1024]⟩ 0 [⟨⟨2, ![3, 1024]⟩, broadcastInDim ⟨2, ![3, 1024]⟩ ![] hb (constant (F := Ideal) ⟨0, ![]⟩ .f32 0x00000000#32)⟩, ⟨⟨2, ![4096, 1024]⟩, x⟩] hc) hs = downs 2 x := by
  refine ext2 fun p q => ?_
  rw [downs_apply]
  pointwise
  unfold down
  by_cases h : 1 + p.val < 3
  · rw [dif_pos h, dif_neg (by omega)]
  · rw [dif_neg h, dif_pos (by omega)]
    exact congrArg (fun t => x (ix2 t q)) (Fin.ext (by show 1 + p.val - 3 = p.val - 2; omega))

theorem reference_down1 (hb) (hs : (⟨2, ![4099, 1024]⟩ : Shape).Slices ![2, 0] ⟨2, ![4096, 1024]⟩)
    (hc : Shape.Concatenates [⟨2, ![3, 1024]⟩, ⟨2, ![4096, 1024]⟩] ⟨2, ![4099, 1024]⟩ 0) (x : FVec Ideal ⟨2, ![4096, 1024]⟩ .f32) :
    extractStridedSlice ⟨2, ![4096, 1024]⟩ ![2, 0] (concatenate ⟨2, ![4099, 1024]⟩ 0 [⟨⟨2, ![3, 1024]⟩, broadcastInDim ⟨2, ![3, 1024]⟩ ![] hb (constant (F := Ideal) ⟨0, ![]⟩ .f32 0x00000000#32)⟩, ⟨⟨2, ![4096, 1024]⟩, x⟩] hc) hs = downs 1 x := by
  refine ext2 fun p q => ?_
  rw [downs_apply]
  pointwise
  unfold down
  by_cases h : 2 + p.val < 3
  · rw [dif_pos h, dif_neg (by omega)]
  · rw [dif_neg h, dif_pos (by omega)]
    exact congrArg (fun t => x (ix2 t q)) (Fin.ext (by show 2 + p.val - 3 = p.val - 1; omega))

theorem reference_down0 (hb) (hs : (⟨2, ![4099, 1024]⟩ : Shape).Slices ![3, 0] ⟨2, ![4096, 1024]⟩)
    (hc : Shape.Concatenates [⟨2, ![3, 1024]⟩, ⟨2, ![4096, 1024]⟩] ⟨2, ![4099, 1024]⟩ 0) (x : FVec Ideal ⟨2, ![4096, 1024]⟩ .f32) :
    extractStridedSlice ⟨2, ![4096, 1024]⟩ ![3, 0] (concatenate ⟨2, ![4099, 1024]⟩ 0 [⟨⟨2, ![3, 1024]⟩, broadcastInDim ⟨2, ![3, 1024]⟩ ![] hb (constant (F := Ideal) ⟨0, ![]⟩ .f32 0x00000000#32)⟩, ⟨⟨2, ![4096, 1024]⟩, x⟩] hc) hs = x := by
  refine ext2 fun p q => ?_
  pointwise

/-! ## The convolution, the gradient through its SiLU, and the two gradients -/

/-- Four taps of a column. -/
def conv (w0 w1 w2 w3 : EReal) (x : Fin 4096 → EReal) (t : Fin 4096) : EReal :=
  w3 * x t + w2 * down 1 x t + w1 * down 2 x t + w0 * down 3 x t

def silu (c : EReal) : EReal := c * sig c

/-- A gradient `d`, taken through SiLU at `c`. -/
def dsilu (c d : EReal) : EReal := d * sig c + c * d * (sig c * (1 - sig c))

/-- The gradient of a column, from the gradient `g` of its convolution. -/
def dinput (w0 w1 w2 w3 : EReal) (g : Fin 4096 → EReal) (t : Fin 4096) : EReal :=
  w3 * g t + w2 * up 1 g t + w1 * up 2 g t + w0 * up 3 g t

/-- The gradients of the four taps, below them four zeros. -/
def dtaps (g x : Fin 4096 → EReal) (r : Fin 8) : EReal :=
  ![∑ t, g t * down 3 x t, ∑ t, g t * down 2 x t, ∑ t, g t * down 1 x t, ∑ t, g t * x t, 0, 0, 0, 0] r

/-- The logistic function's derivative, as the kernels compute it. -/
theorem dsig (c : EReal) :
    Idealize.ShloMosaic.Ideal.div 1 ((1 + Idealize.ShloMosaic.Ideal.exp (-c)) * (1 + Idealize.ShloMosaic.Ideal.exp (-c))) * Idealize.ShloMosaic.Ideal.exp (-c)
      = sig c * (1 - sig c) := by
  induction c using EReal.rec with
  | bot =>
    rw [sig_bot, EReal.neg_bot, show Idealize.ShloMosaic.Ideal.exp ⊤ = ⊤ from rfl,
      show (1 : EReal) + ⊤ = ⊤ from EReal.add_top_of_ne_bot (by exact_mod_cast EReal.coe_ne_bot 1), EReal.top_mul_top]
    simp [Idealize.ShloMosaic.Ideal.div]
  | top =>
    have h : (1 : EReal) - 1 = 0 := by
      rw [← EReal.coe_one, ← EReal.coe_sub, sub_self, EReal.coe_zero]
    rw [sig_top, EReal.neg_top, show Idealize.ShloMosaic.Ideal.exp ⊥ = 0 from rfl, h]
    simp
  | coe r =>
    have h : (1 + Real.exp (-r) : ℝ) ≠ 0 := by positivity
    have hh : ((1 + Real.exp (-r)) * (1 + Real.exp (-r)) : ℝ) ≠ 0 := mul_ne_zero h h
    unfold sig
    rw [← EReal.coe_neg, Idealize.ShloMosaic.Ideal.exp_coe, ← EReal.coe_one, ← EReal.coe_add, ← EReal.coe_mul]
    unfold Idealize.ShloMosaic.Ideal.div
    rw [if_neg (by exact_mod_cast hh), if_neg (by exact_mod_cast h), ← EReal.coe_inv, ← EReal.coe_inv, ← EReal.coe_mul, ← EReal.coe_mul, ← EReal.coe_mul,
      ← EReal.coe_sub, ← EReal.coe_mul]
    refine congrArg Real.toEReal ?_
    field_simp
    ring

/-- The gradient through SiLU, as the kernels compute it. -/
theorem kernel_dsilu (c d : EReal) :
    d * sig c + -(-(c * d * Idealize.ShloMosaic.Ideal.div 1 ((1 + Idealize.ShloMosaic.Ideal.exp (-c)) * (1 + Idealize.ShloMosaic.Ideal.exp (-c)))) * Idealize.ShloMosaic.Ideal.exp (-c))
      = dsilu c d := by
  rw [EReal.neg_mul, neg_neg, mul_assoc, dsig]
  rfl

section Reference

abbrev Cols : Shape := ⟨2, ![4096, 1024]⟩
abbrev Taps : Shape := ⟨2, ![4, 1024]⟩
abbrev Tap : Shape := ⟨2, ![1, 1024]⟩
abbrev Tall : Shape := ⟨2, ![4099, 1024]⟩
abbrev Scl : Shape := ⟨0, ![]⟩

/-- Every column's convolution. -/
def convs (x : FVec Ideal Cols .f32) (w : FVec Ideal Taps .f32) : FVec Ideal Cols .f32 := fun y =>
  conv (w (ix2 0 (y 1))) (w (ix2 1 (y 1))) (w (ix2 2 (y 1))) (w (ix2 3 (y 1))) (fun t => x (ix2 t (y 1))) (y 0)

theorem turn (a b c d : EReal) : a + b + c + d = d + c + b + a := by
  ac_rfl

theorem reference_conv (hb : Scl.BroadcastsInDim Cols ![]) (ht : Tap.BroadcastsInDim Cols ![0, 1]) (h0 : Taps.Slices ![0, 0] Tap) (h1 : Taps.Slices ![1, 0] Tap)
    (h2 : Taps.Slices ![2, 0] Tap) (h3 : Taps.Slices ![3, 0] Tap) (x : FVec Ideal Cols .f32) (w : FVec Ideal Taps .f32) :
    addf (addf (addf (addf (broadcastInDim Cols ![] hb (constant (F := Ideal) Scl .f32 0x00000000#32)) (mulf (broadcastInDim Cols ![0, 1] ht (extractStridedSlice Tap ![0, 0] w h0)) (downs 3 x)))
      (mulf (broadcastInDim Cols ![0, 1] ht (extractStridedSlice Tap ![1, 0] w h1)) (downs 2 x))) (mulf (broadcastInDim Cols ![0, 1] ht (extractStridedSlice Tap ![2, 0] w h2)) (downs 1 x)))
      (mulf (broadcastInDim Cols ![0, 1] ht (extractStridedSlice Tap ![3, 0] w h3)) x) = convs x w := by
  refine ext2 fun p q => ?_
  refine Eq.trans ?_ (show conv (w (ix2 0 q)) (w (ix2 1 q)) (w (ix2 2 q)) (w (ix2 3 q)) (fun t => x (ix2 t q)) p = _ from rfl)
  pointwise [conv, downs_apply]
  exact turn _ _ _ _

theorem pad_up (g : Fin 4096 → EReal) (a : EReal) (s k : ℕ) (hk : s + k = 3) (p : Fin 4096) :
    (if h : k ≤ 3 + p.val ∧ 3 + p.val - k < 4096 then a * g ⟨3 + p.val - k, h.2⟩ else 0) = a * up s g p := by
  unfold up
  by_cases h : p.val + s < 4096
  · rw [dif_pos (by omega), dif_pos h]
    exact congrArg (fun t => a * g t) (Fin.ext (by show 3 + p.val - k = p.val + s; omega))
  · rw [dif_neg (by omega), dif_neg h, mul_zero]

theorem pad_up0 (g : Fin 4096 → EReal) (a : EReal) (p : Fin 4096) :
    (if h : 3 + p.val < 4096 then a * g ⟨3 + p.val, h⟩ else 0) = a * up 3 g p := by
  unfold up
  by_cases h : p.val + 3 < 4096
  · rw [dif_pos (by omega), dif_pos h]
    exact congrArg (fun t => a * g t) (Fin.ext (by show 3 + p.val = p.val + 3; omega))
  · rw [dif_neg (by omega), dif_neg h, mul_zero]

/-- Every column's gradient, from the gradients of the convolutions. -/
def dinputs (g : FVec Ideal Cols .f32) (w : FVec Ideal Taps .f32) : FVec Ideal Cols .f32 := fun y =>
  dinput (w (ix2 0 (y 1))) (w (ix2 1 (y 1))) (w (ix2 2 (y 1))) (w (ix2 3 (y 1))) (fun t => g (ix2 t (y 1))) (y 0)

/-- Every column's gradients of its taps. -/
def dtapss (g x : FVec Ideal Cols .f32) : FVec Ideal ⟨2, ![8, 1024]⟩ .f32 := fun y =>
  dtaps (fun t => g (ix2 t (y 1))) (fun t => x (ix2 t (y 1))) (y 0)

/-- A gradient taken through SiLU, at every entry. -/
def dsilus (c d : FVec Ideal Cols .f32) : FVec Ideal Cols .f32 := fun y => dsilu (c y) (d y)

theorem reference_dsilu (hb : Scl.BroadcastsInDim Cols ![]) (c d : FVec Ideal Cols .f32) :
    addf (mulf d (Host.divf (broadcastInDim Cols ![] hb (constant (F := Ideal) Scl .f32 0x3F800000#32)) (addf (broadcastInDim Cols ![] hb (constant (F := Ideal) Scl .f32 0x3F800000#32)) (Host.exp (Host.negf c)))))
      (mulf (mulf c d) (mulf (Host.divf (broadcastInDim Cols ![] hb (constant (F := Ideal) Scl .f32 0x3F800000#32)) (addf (broadcastInDim Cols ![] hb (constant (F := Ideal) Scl .f32 0x3F800000#32)) (Host.exp (Host.negf c))))
        (subf (broadcastInDim Cols ![] hb (constant (F := Ideal) Scl .f32 0x3F800000#32)) (Host.divf (broadcastInDim Cols ![] hb (constant (F := Ideal) Scl .f32 0x3F800000#32)) (addf (broadcastInDim Cols ![] hb (constant (F := Ideal) Scl .f32 0x3F800000#32)) (Host.exp (Host.negf c)))))))
      = dsilus c d := by
  refine ext2 fun p q => ?_
  refine Eq.trans ?_ (show dsilu (c (ix2 p q)) (d (ix2 p q)) = _ from rfl)
  pointwise [dsilu, sig]

theorem reference_dinput (ht : Tap.BroadcastsInDim Cols ![0, 1]) (h0 : Taps.Slices ![0, 0] Tap) (h1 : Taps.Slices ![1, 0] Tap)
    (h2 : Taps.Slices ![2, 0] Tap) (h3 : Taps.Slices ![3, 0] Tap) (hv : 0 < Scl.numel) (p0 : Cols.Pads (![0, 0] : Fin 2 → ℕ) ![3, 0] ![0, 0] Tall)
    (p1 : Cols.Pads (![1, 0] : Fin 2 → ℕ) ![2, 0] ![0, 0] Tall) (p2 : Cols.Pads (![2, 0] : Fin 2 → ℕ) ![1, 0] ![0, 0] Tall) (p3 : Cols.Pads (![3, 0] : Fin 2 → ℕ) ![0, 0] ![0, 0] Tall)
    (hs : Tall.Slices ![3, 0] Cols) (g : FVec Ideal Cols .f32) (w : FVec Ideal Taps .f32) :
    extractStridedSlice Cols ![3, 0] (addf (addf (addf
      (pad Tall ![3, 0] ![0, 0] ![0, 0] (mulf (broadcastInDim Cols ![0, 1] ht (extractStridedSlice Tap ![3, 0] w h3)) g) (constant (F := Ideal) Scl .f32 0x00000000#32) p3 hv)
      (pad Tall ![2, 0] ![1, 0] ![0, 0] (mulf (broadcastInDim Cols ![0, 1] ht (extractStridedSlice Tap ![2, 0] w h2)) g) (constant (F := Ideal) Scl .f32 0x00000000#32) p2 hv))
      (pad Tall ![1, 0] ![2, 0] ![0, 0] (mulf (broadcastInDim Cols ![0, 1] ht (extractStridedSlice Tap ![1, 0] w h1)) g) (constant (F := Ideal) Scl .f32 0x00000000#32) p1 hv))
      (pad Tall ![0, 0] ![3, 0] ![0, 0] (mulf (broadcastInDim Cols ![0, 1] ht (extractStridedSlice Tap ![0, 0] w h0)) g) (constant (F := Ideal) Scl .f32 0x00000000#32) p0 hv)) hs
      = dinputs g w := by
  refine ext2 fun p q => ?_
  refine Eq.trans ?_ (show dinput (w (ix2 0 q)) (w (ix2 1 q)) (w (ix2 2 q)) (w (ix2 3 q)) (fun t => g (ix2 t q)) p = _ from rfl)
  pointwise [dinput]
  refine congrArg₂ (· + ·) (congrArg₂ (· + ·) (congrArg₂ (· + ·) rfl ?_) ?_) ?_
  · exact pad_up (fun t => g (ix2 t q)) _ 1 2 rfl p
  · exact pad_up (fun t => g (ix2 t q)) _ 2 1 rfl p
  · exact pad_up0 (fun t => g (ix2 t q)) _ p

theorem reference_dtaps (hr : Cols.ReducesTo [0] ⟨1, ![1024]⟩) (hc : (⟨1, ![1024]⟩ : Shape).ShapeCasts Tap) (hv : 0 < Scl.numel)
    (p0 : Tap.Pads (![0, 0] : Fin 2 → ℕ) ![3, 0] ![0, 0] Taps) (p1 : Tap.Pads (![1, 0] : Fin 2 → ℕ) ![2, 0] ![0, 0] Taps)
    (p2 : Tap.Pads (![2, 0] : Fin 2 → ℕ) ![1, 0] ![0, 0] Taps) (p3 : Tap.Pads (![3, 0] : Fin 2 → ℕ) ![0, 0] ![0, 0] Taps)
    (p4 : Taps.Pads (![0, 0] : Fin 2 → ℕ) ![4, 0] ![0, 0] ⟨2, ![8, 1024]⟩) (g x : FVec Ideal Cols .f32) :
    pad ⟨2, ![8, 1024]⟩ ![0, 0] ![4, 0] ![0, 0] (addf (addf (addf
      (pad Taps ![3, 0] ![0, 0] ![0, 0] (shapeCast Tap (Host.reduceAdd (mulf g x) (constant (F := Ideal) Scl .f32 0x00000000#32) hr hv) hc) (constant (F := Ideal) Scl .f32 0x00000000#32) p3 hv)
      (pad Taps ![2, 0] ![1, 0] ![0, 0] (shapeCast Tap (Host.reduceAdd (mulf g (downs 1 x)) (constant (F := Ideal) Scl .f32 0x00000000#32) hr hv) hc) (constant (F := Ideal) Scl .f32 0x00000000#32) p2 hv))
      (pad Taps ![1, 0] ![2, 0] ![0, 0] (shapeCast Tap (Host.reduceAdd (mulf g (downs 2 x)) (constant (F := Ideal) Scl .f32 0x00000000#32) hr hv) hc) (constant (F := Ideal) Scl .f32 0x00000000#32) p1 hv))
      (pad Taps ![0, 0] ![3, 0] ![0, 0] (shapeCast Tap (Host.reduceAdd (mulf g (downs 3 x)) (constant (F := Ideal) Scl .f32 0x00000000#32) hr hv) hc) (constant (F := Ideal) Scl .f32 0x00000000#32) p0 hv))
      (sitofp (F := Ideal) .f32 (constantI Scl 32 0#32)) p4 hv
      = dtapss g x := by
  refine ext2 fun r q => ?_
  refine Eq.trans ?_ (show dtaps (fun t => g (ix2 t q)) (fun t => x (ix2 t q)) r = _ from rfl)
  have z : (FloatOps.sitofp (F := Ideal) FTy.f32 0#32 : EReal) = 0 := by
    show (((0#32 : BitVec 32).toInt : ℝ) : EReal) = 0
    simp
  pointwise [downs_apply]
  rw [z]
  obtain ⟨r, hr⟩ := r
  interval_cases r <;> simp [dtaps]

/-- SiLU at every entry. -/
def silus (c : FVec Ideal Cols .f32) : FVec Ideal Cols .f32 := fun y => silu (c y)

theorem reference_silu (hb : Scl.BroadcastsInDim Cols ![]) (c : FVec Ideal Cols .f32) :
    mulf c (Host.divf (broadcastInDim Cols ![] hb (constant (F := Ideal) Scl .f32 0x3F800000#32)) (addf (broadcastInDim Cols ![] hb (constant (F := Ideal) Scl .f32 0x3F800000#32)) (Host.exp (Host.negf c)))) = silus c := by
  refine ext2 fun p q => ?_
  refine Eq.trans ?_ (show silu (c (ix2 p q)) = _ from rfl)
  pointwise [silu, sig]

/-- The number added to a sum of squares. -/
def eps : EReal := Idealize.ShloMosaic.Ideal.ofBits .f32 0x358637BD#32

/-- A row's entry over the row's length. -/
def unit (y : Fin 128 → EReal) (k : Fin 128) : EReal := y k * Idealize.ShloMosaic.Ideal.rsqrt (∑ j, y j * y j + eps)

/-- Every head's rows over their lengths. -/
def units (y : FVec Ideal Cols .f32) : FVec Ideal Cols .f32 := fun i =>
  unit (fun j => y (ix2 (i 0) ⟨(i 1).val / 128 * 128 + j.val, by have h : (i 1).val < 1024 := (i 1).isLt; omega⟩)) ⟨(i 1).val % 128, by omega⟩

abbrev Heads : Shape := ⟨3, ![4096, 8, 128]⟩
abbrev Lens : Shape := ⟨3, ![4096, 8, 1]⟩
abbrev Sums : Shape := ⟨2, ![4096, 8]⟩

theorem reference_unit (h0 : Cols.ShapeCasts Heads) (h1 : Heads.ShapeCasts Cols) (h2 : Lens.BroadcastsInDim Heads ![0, 1, 2]) (h3 : Sums.BroadcastsInDim Lens ![0, 1])
    (h4 : Heads.ReducesTo [2] Sums) (h5 : 0 < Scl.numel) (h6 : Scl.BroadcastsInDim Lens ![]) (y : FVec Ideal Cols .f32) :
    shapeCast Cols (mulf (shapeCast Heads y h0) (broadcastInDim Heads ![0, 1, 2] h2 (Host.rsqrt (addf (broadcastInDim Lens ![0, 1] h3 (Host.reduceAdd (mulf (shapeCast Heads y h0) (shapeCast Heads y h0)) (constant (F := Ideal) Scl .f32 0x00000000#32) h4 h5))
      (broadcastInDim Lens ![] h6 (constant (F := Ideal) Scl .f32 0x358637BD#32)))))) h1 = units y := by
  refine ext2 fun p q => ?_
  refine Eq.trans ?_ (show unit (fun j => y (ix2 p ⟨q.val / 128 * 128 + j.val, by omega⟩)) ⟨q.val % 128, by omega⟩ = _ from rfl)
  have eq : q.val / 128 * 128 + q.val % 128 = q.val := by omega
  pointwise [unit, eps]
  simp only [eq]

/-- The gradient of a row over its length, from the gradient `d` of the result. -/
def dunit (y d : Fin 128 → EReal) (k : Fin 128) : EReal :=
  d k * Idealize.ShloMosaic.Ideal.rsqrt (∑ j, y j * y j + eps)
    + y k * ((∑ j, y j * d j) * (Idealize.ShloMosaic.Ideal.ofBits .f32 0xBF000000#32 * Idealize.ShloMosaic.Ideal.div (Idealize.ShloMosaic.Ideal.rsqrt (∑ j, y j * y j + eps)) (∑ j, y j * y j + eps)))
    + (∑ j, y j * d j) * (Idealize.ShloMosaic.Ideal.ofBits .f32 0xBF000000#32 * Idealize.ShloMosaic.Ideal.div (Idealize.ShloMosaic.Ideal.rsqrt (∑ j, y j * y j + eps)) (∑ j, y j * y j + eps)) * y k

/-- The gradients of every head's rows over their lengths. -/
def dunits (y d : FVec Ideal Cols .f32) : FVec Ideal Cols .f32 := fun i =>
  dunit (fun j => y (ix2 (i 0) ⟨(i 1).val / 128 * 128 + j.val, by have h : (i 1).val < 1024 := (i 1).isLt; omega⟩))
    (fun j => d (ix2 (i 0) ⟨(i 1).val / 128 * 128 + j.val, by have h : (i 1).val < 1024 := (i 1).isLt; omega⟩)) ⟨(i 1).val % 128, by omega⟩

theorem reference_dunit (h0 : Cols.ShapeCasts Heads) (h1 : Heads.ShapeCasts Cols) (h2 : Lens.BroadcastsInDim Heads ![0, 1, 2]) (h3 : Sums.BroadcastsInDim Lens ![0, 1])
    (h4 : Heads.ReducesTo [2] Sums) (h5 : 0 < Scl.numel) (h6 : Scl.BroadcastsInDim Lens ![]) (h7 : Sums.BroadcastsInDim Heads ![0, 1]) (h8 : Sums.ShapeCasts Lens)
    (h9 : Lens.ReducesTo [2] Sums) (y d : FVec Ideal Cols .f32) (S : FVec Ideal Lens .f32) (E : FVec Ideal Heads .f32)
    (hS : S = addf (broadcastInDim Lens ![0, 1] h3 (Host.reduceAdd (mulf (shapeCast Heads y h0) (shapeCast Heads y h0)) (constant (F := Ideal) Scl .f32 0x00000000#32) h4 h5)) (broadcastInDim Lens ![] h6 (constant (F := Ideal) Scl .f32 0x358637BD#32)))
    (hE : E = broadcastInDim Heads ![0, 1] h7 (Host.reduceAdd (mulf (shapeCast Lens (Host.reduceAdd (mulf (shapeCast Heads y h0) (shapeCast Heads d h0)) (constant (F := Ideal) Scl .f32 0x00000000#32) h4 h5) h8)
      (mulf (broadcastInDim Lens ![] h6 (constant (F := Ideal) Scl .f32 0xBF000000#32)) (Host.divf (Host.rsqrt S) S))) (constant (F := Ideal) Scl .f32 0x00000000#32) h9 h5)) :
    shapeCast Cols (addf (addf (mulf (shapeCast Heads d h0) (broadcastInDim Heads ![0, 1, 2] h2 (Host.rsqrt S))) (mulf (shapeCast Heads y h0) E)) (mulf E (shapeCast Heads y h0))) h1 = dunits y d := by
  subst hE hS
  refine ext2 fun p q => ?_
  refine Eq.trans ?_ (show dunit (fun j => y (ix2 p ⟨q.val / 128 * 128 + j.val, by omega⟩)) (fun j => d (ix2 p ⟨q.val / 128 * 128 + j.val, by omega⟩)) ⟨q.val % 128, by omega⟩ = _ from rfl)
  have eq : q.val / 128 * 128 + q.val % 128 = q.val := by omega
  pointwise [dunit, eps]
  simp only [eq, Finset.univ_unique, Finset.sum_singleton]

/-- An array with 1024 of its columns replaced: the queries', the keys' or the values'. -/
def placed (k : Fin 3) (a : FVec Ideal Cols .f32) (g : FVec Ideal ⟨2, ![4096, 7296]⟩ .bf16) (p : Fin 4096) (q : Fin 7296) : EReal :=
  if h : 1024 * k.val ≤ q.val ∧ q.val < 1024 * k.val + 1024 then a (ix2 p ⟨q.val - 1024 * k.val, by omega⟩) else g (ix2 p q)

theorem placed_pos (k : Fin 3) (a : FVec Ideal Cols .f32) (g : FVec Ideal ⟨2, ![4096, 7296]⟩ .bf16) (p : Fin 4096) (q : Fin 7296)
    (h : 1024 * k.val ≤ q.val ∧ q.val < 1024 * k.val + 1024) : placed k a g p q = a (ix2 p ⟨q.val - 1024 * k.val, by omega⟩) := dif_pos h

theorem placed_neg (k : Fin 3) (a : FVec Ideal Cols .f32) (g : FVec Ideal ⟨2, ![4096, 7296]⟩ .bf16) (p : Fin 4096) (q : Fin 7296)
    (h : ¬(1024 * k.val ≤ q.val ∧ q.val < 1024 * k.val + 1024)) : placed k a g p q = g (ix2 p q) := dif_neg h

theorem reference_placed1 (h2 h3) (h4 : Shape.Concatenates [⟨2, ![4096, 1024]⟩, Cols, ⟨2, ![4096, 5248]⟩] ⟨2, ![4096, 7296]⟩ 1) (h5) (a : FVec Ideal Cols .f32) (g : FVec Ideal ⟨2, ![4096, 7296]⟩ .bf16) :
    concatenate ⟨2, ![4096, 7296]⟩ 1 [⟨⟨2, ![4096, 1024]⟩, extractStridedSlice ⟨2, ![4096, 1024]⟩ ![0, 0] g h2⟩, ⟨Cols, truncf .bf16 a h5⟩,
      ⟨⟨2, ![4096, 5248]⟩, extractStridedSlice ⟨2, ![4096, 5248]⟩ ![0, 2048] g h3⟩] h4 = fun y => placed 1 a g (y 0) (y 1) := by
  refine ext2 fun p q => ?_
  refine Eq.trans ?_ (show placed 1 a g p q = _ from rfl)
  have e : 1024 * (1 : Fin 3).val = 1024 := rfl
  unfold placed
  simp only [e]
  pointwise
  by_cases h0 : q.val < 1024
  · rw [dif_pos h0, dif_neg (by omega)]
  · rw [dif_neg h0]
    by_cases h1 : q.val - 1024 < 1024
    · rw [dif_pos h1, dif_pos (by omega)]
    · rw [dif_neg h1, dif_neg (by omega)]
      exact congrArg (fun k => g (ix2 p k)) (Fin.ext (by show 2048 + (q.val - 1024 - 1024) = q.val; omega))

theorem reference_placed0 (h3) (h4 : Shape.Concatenates [Cols, ⟨2, ![4096, 6272]⟩] ⟨2, ![4096, 7296]⟩ 1) (h5) (a : FVec Ideal Cols .f32) (g : FVec Ideal ⟨2, ![4096, 7296]⟩ .bf16) :
    concatenate ⟨2, ![4096, 7296]⟩ 1 [⟨Cols, truncf .bf16 a h5⟩, ⟨⟨2, ![4096, 6272]⟩, extractStridedSlice ⟨2, ![4096, 6272]⟩ ![0, 1024] g h3⟩] h4
      = fun y => placed 0 a g (y 0) (y 1) := by
  refine ext2 fun p q => ?_
  refine Eq.trans ?_ (show placed 0 a g p q = _ from rfl)
  have e : 1024 * (0 : Fin 3).val = 0 := rfl
  unfold placed
  simp only [e]
  pointwise
  by_cases h0 : q.val < 1024
  · rw [dif_pos h0, dif_pos (by omega)]
  · rw [dif_neg h0, dif_neg (by omega)]
    exact congrArg (fun k => g (ix2 p k)) (Fin.ext (by show 1024 + (q.val - 1024) = q.val; omega))

/-- The 1024 columns of the queries, the keys or the values. -/
def xs (k : Fin 3) (x : FVec Ideal ⟨2, ![4096, 7296]⟩ .f32) : FVec Ideal Cols .f32 := fun y =>
  x (ix2 (y 0) ⟨1024 * k.val + (y 1).val, by have h : (y 1).val < 1024 := (y 1).isLt; omega⟩)

/-- The taps of the queries, the keys or the values. -/
def ws (k : Fin 3) (w : FVec Ideal ⟨2, ![8, 3072]⟩ .f32) : FVec Ideal Taps .f32 := fun y =>
  w (ix2 ⟨(y 0).val, by have h : (y 0).val < 4 := (y 0).isLt; omega⟩ ⟨1024 * k.val + (y 1).val, by have h : (y 1).val < 1024 := (y 1).isLt; omega⟩)

theorem reference_xs (k : Fin 3) {o : ℕ} (ho : 1024 * k.val = o) (h) (x : FVec Ideal ⟨2, ![4096, 7296]⟩ .f32) : extractStridedSlice Cols ![0, o] x h = xs k x := by
  subst ho
  refine ext2 fun p q => ?_
  refine congrArg x (funext fun a => ?_)
  match a with
  | 0 => exact Fin.ext (by show 0 + p.val = p.val; omega)
  | 1 => rfl

theorem reference_ws (k : Fin 3) {o : ℕ} (ho : 1024 * k.val = o) (h) (w : FVec Ideal ⟨2, ![8, 3072]⟩ .f32) : extractStridedSlice Taps ![0, o] w h = ws k w := by
  subst ho
  refine ext2 fun p q => ?_
  refine congrArg w (funext fun a => ?_)
  match a with
  | 0 => exact Fin.ext (by show 0 + p.val = p.val; omega)
  | 1 => rfl

end Reference

/-! ## The rows of a block of taps -/

theorem ld_tap0 (w : Vec Ideal Edge .f32) (h) (q : Fin 128) : View.ld w (Rect.unit ![0, 0] ![1, 128] h) (ix2 0 q) = w (ix2 0 q) :=
  congrArg w (funext fun a => match a with | 0 => rfl | 1 => Fin.ext (by show 0 + 1 * q.val = q.val; omega))

theorem ld_tap1 (w : Vec Ideal Edge .f32) (h) (q : Fin 128) : View.ld w (Rect.unit ![1, 0] ![1, 128] h) (ix2 0 q) = w (ix2 1 q) :=
  congrArg w (funext fun a => match a with | 0 => rfl | 1 => Fin.ext (by show 0 + 1 * q.val = q.val; omega))

theorem ld_tap2 (w : Vec Ideal Edge .f32) (h) (q : Fin 128) : View.ld w (Rect.unit ![2, 0] ![1, 128] h) (ix2 0 q) = w (ix2 2 q) :=
  congrArg w (funext fun a => match a with | 0 => rfl | 1 => Fin.ext (by show 0 + 1 * q.val = q.val; omega))

theorem ld_tap3 (w : Vec Ideal Edge .f32) (h) (q : Fin 128) : View.ld w (Rect.unit ![3, 0] ![1, 128] h) (ix2 0 q) = w (ix2 3 q) :=
  congrArg w (funext fun a => match a with | 0 => rfl | 1 => Fin.ext (by show 0 + 1 * q.val = q.val; omega))

/-- The row of the taps' block that an entry adds to. -/
theorem rows (a b c d : EReal) (r : Fin 8) :
    Scalar.select (IntOp.cmpi .eq (BitVec.ofNat 32 r.val) 3#32) a 0 + Scalar.select (IntOp.cmpi .eq (BitVec.ofNat 32 r.val) 2#32) b 0
      + Scalar.select (IntOp.cmpi .eq (BitVec.ofNat 32 r.val) 1#32) c 0 + Scalar.select (IntOp.cmpi .eq (BitVec.ofNat 32 r.val) 0#32) d 0
      = (![d, c, b, a, 0, 0, 0, 0] : Fin 8 → EReal) r := by
  obtain ⟨r, hr⟩ := r
  interval_cases r <;> simp [Scalar.select, IntOp.cmpi]

/-- The gradient of a third of the columns' convolutions, where the result is the unit rows of their silu. -/
def dgrads (k : Fin 3) (x : FVec Ideal ⟨2, ![4096, 7296]⟩ .f32) (w : FVec Ideal ⟨2, ![8, 3072]⟩ .f32) (d : FVec Ideal Cols .f32) : FVec Ideal Cols .f32 :=
  dsilus (convs (xs k x) (ws k w)) (dunits (silus (convs (xs k x) (ws k w))) d)

end Cert.Hand.Conv

end
-- ==== Proof.ConvVBwd.lean ====
module

public import proofs.«01_k».proof.Defs
public import proofs.«01_k».proof.Proof.Conv
public import proofs.«01_k».proof.Proof.Gen.ConvVBwd.Frame
public import proofs.«01_k».proof.Proof.Gen.ConvVBwdIdeal.Value
public import proofs.«01_k».proof.Proof.Gen.ConvVBwdRefIdeal.Run
public import Idealize.ShloMosaic.Lib.Pipeline.ValueKit.Geometry
public import Idealize.ShloMosaic.Adequacy
public import Idealize.ShloMosaic.Init

@[expose] public section

set_option maxRecDepth 200000

noncomputable section

namespace Cert.Proof.ConvVBwd

open Cert.ConvVBwdIdeal Cert.ConvVBwdIdeal.Gen Cert.Hand.Entries Cert.Hand.Conv Idealize.ShloMosaic Idealize.ShloMosaic.TcCoe Idealize.SL.Sem

/-- The gradient of a column's convolution, from the gradient of its SiLU. -/
def dconv (w0 w1 w2 w3 : EReal) (x d : Fin 4096 → EReal) (t : Fin 4096) : EReal := dsilu (conv w0 w1 w2 w3 x t) (d t)

theorem pay3 (x : FVec Ideal S4096x128 .f32) (a b c : FVec Ideal S1x128 .f32) (p : Fin 4096) (q : Fin 128) :
    k0_pay3 (F := Ideal) x a b c (ix2 p q) = a (ix2 0 q) * x (ix2 p q) + b (ix2 0 q) * down 1 (fun t => x (ix2 t q)) p + c (ix2 0 q) * down 2 (fun t => x (ix2 t q)) p := by
  unfold k0_pay3
  dsimp only
  rw [kernel_down1, kernel_down2]
  pointwise [downs_apply]

theorem pay4 (x : FVec Ideal S4096x128 .f32) : k0_pay4 (F := Ideal) x = (downs 3 x : FVec Ideal S4096x128 .f32) := by
  unfold k0_pay4
  dsimp only
  rw [kernel_down3]

theorem pay5 (u : FVec Ideal S4096x128 .f32) (a : FVec Ideal S1x128 .f32) (v d : FVec Ideal S4096x128 .f32) (p : Fin 4096) (q : Fin 128) :
    k0_pay5 (F := Ideal) u a v d (ix2 p q) = dsilu (u (ix2 p q) + a (ix2 0 q) * v (ix2 p q)) (d (ix2 p q)) := by
  rw [← kernel_dsilu]
  pointwise [k0_pay5, Cert.Proof.DGateUp.sig]
  simp only [zero_sub, mul_one]

/-- The block's gradient of the convolution. -/
theorem grad (x : FVec Ideal S4096x128 .f32) (a3 a2 a1 a0 : FVec Ideal S1x128 .f32) (d : FVec Ideal S4096x128 .f32) (p : Fin 4096) (q : Fin 128) :
    k0_pay5 (F := Ideal) (k0_pay3 x a3 a2 a1) a0 (k0_pay4 x) d (ix2 p q)
      = dconv (a0 (ix2 0 q)) (a1 (ix2 0 q)) (a2 (ix2 0 q)) (a3 (ix2 0 q)) (fun t => x (ix2 t q)) (fun t => d (ix2 t q)) p := by
  rw [pay5, pay3, pay4]
  rfl

theorem pay13 (u : FVec Ideal S4096x128 .f32) (a : FVec Ideal S1x128 .f32) (v d : FVec Ideal S4096x128 .f32) (a3 a2 a1 a0 : FVec Ideal S1x128 .f32) (p : Fin 4096) (q : Fin 128) :
    (k0_pay2 (k0_pay13 (k0_pay5 u a v d) (k0_pay10 (k0_pay5 u a v d) (k0_pay6 u a v d a3) a2 (k0_pay8 u a v d) a1) a0) (ix2 p q) : EReal)
      = dinput (a0 (ix2 0 q)) (a1 (ix2 0 q)) (a2 (ix2 0 q)) (a3 (ix2 0 q)) (fun t => k0_pay5 u a v d (ix2 t q)) p := by
  unfold k0_pay13 k0_pay10 k0_pay8 k0_pay6
  generalize k0_pay5 u a v d = g
  dsimp only
  rw [kernel_up1, kernel_up2, kernel_up3]
  pointwise [k0_pay2, ups_apply, dinput]

theorem pay1 (x u : FVec Ideal S4096x128 .f32) (a : FVec Ideal S1x128 .f32) (v d : FVec Ideal S4096x128 .f32) (r : Fin 8) (q : Fin 128) :
    (k0_pay1 (k0_pay12 x (k0_pay5 u a v d) (k0_pay9 x (k0_pay5 u a v d) (iota .tc S8x128 32 [0] iota_S8x128_d0_w32) (k0_pay7 x u a v d)) (k0_pay11 (iota .tc S8x128 32 [0] iota_S8x128_d0_w32)) 2#32)
      (k0_pay14 (iota .tc S8x128 32 [0] iota_S8x128_d0_w32)) (Scalar.ofBits (F := Ideal) .f32 0x00000000#32) (k0_pay15 x (k0_pay5 u a v d)) (ix2 r q) : EReal)
      = dtaps (fun t => k0_pay5 u a v d (ix2 t q)) (fun t => x (ix2 t q)) r := by
  unfold k0_pay1 k0_pay12 k0_pay9 k0_pay7 k0_pay11 k0_pay14 k0_pay15
  generalize k0_pay5 u a v d = g
  dsimp only
  rw [kernel_down1, kernel_down2, kernel_down3]
  pointwise [downs_apply]
  exact rows _ _ _ _ r

/-- The convolution's weights, and its inputs', for a column of the values. -/
def grads (x : Vec Ideal S4096x7296 .f32) (w : Vec Ideal S8x3072 .f32) (d : Vec Ideal S4096x1024 .f32) (q : Fin 1024) : Fin 4096 → EReal :=
  dconv (w (ix2 0 ⟨2048 + q.val, by omega⟩)) (w (ix2 1 ⟨2048 + q.val, by omega⟩)) (w (ix2 2 ⟨2048 + q.val, by omega⟩)) (w (ix2 3 ⟨2048 + q.val, by omega⟩))
    (fun t => x (ix2 t ⟨2048 + q.val, by omega⟩)) (fun t => d (ix2 t q))

/-- An entry of the projection's gradient: in the values' columns theirs, elsewhere what stood there. -/
def entry (x : Vec Ideal S4096x7296 .f32) (w : Vec Ideal S8x3072 .f32) (d : Vec Ideal S4096x1024 .f32) (g : Vec Ideal S4096x7296 .bf16) (p : Fin 4096) (q : Fin 7296) : EReal :=
  if h : 2048 ≤ q.val ∧ q.val < 3072 then
    dinput (w (ix2 0 ⟨q.val, by omega⟩)) (w (ix2 1 ⟨q.val, by omega⟩)) (w (ix2 2 ⟨q.val, by omega⟩)) (w (ix2 3 ⟨q.val, by omega⟩)) (grads x w d ⟨q.val - 2048, by omega⟩) p
  else (g (ix2 p q) : EReal)

def entries (x : Vec Ideal S4096x7296 .f32) (w : Vec Ideal S8x3072 .f32) (d : Vec Ideal S4096x1024 .f32) (g : Vec Ideal S4096x7296 .bf16) : Vec Ideal S4096x7296 .bf16 :=
  fun y => entry x w d g (y 0) (y 1)

def taps (x : Vec Ideal S4096x7296 .f32) (w : Vec Ideal S8x3072 .f32) (d : Vec Ideal S4096x1024 .f32) : Vec Ideal S8x1024 .f32 :=
  fun y => dtaps (grads x w d (y 1)) (fun t => x (ix2 t ⟨2048 + (y 1).val, by have h : (y 1).val < 1024 := (y 1).isLt; omega⟩)) (y 0)

theorem left3 (c : Dev nD) (i : grid0.Coords) (arg1 : Memref sig .tc .vmem S4096x128 .f32) (harg1 : arg1.IsWhole) (arg2 : Memref sig .tc .vmem S8x128 .f32) (harg2 : arg2.IsWhole) (arg3 : Memref sig .tc .vmem S4096x128 .f32) (harg3 : arg3.IsWhole) (arg5 : Memref sig .tc .vmem S4096x128 .bf16) (harg5 : arg5.IsWhole) (arg6 : Memref sig .tc .vmem S8x128 .f32) (harg6 : arg6.IsWhole)
    (x : Vec Ideal S4096x128 .f32) (w : Vec Ideal S8x128 .f32) (d : Vec Ideal S4096x128 .f32) (p : Fin 4096) (q : Fin 128) :
    out0_A_3 (F := Ideal) c i arg1 harg1 arg2 harg2 arg3 harg3 arg5 harg5 arg6 harg6 x w d (ix2 p q)
      = dinput (w (ix2 0 q)) (w (ix2 1 q)) (w (ix2 2 q)) (w (ix2 3 q)) (dconv (w (ix2 0 q)) (w (ix2 1 q)) (w (ix2 2 q)) (w (ix2 3 q)) (fun t => x (ix2 t q)) (fun t => d (ix2 t q))) p := by
  unfold out0_A_3 kernelRun0_A
  dsimp only
  sl_unfold_words
  simp only [View.readAt_eq_ld, Memref.IsWhole.read_unread]
  rw [View.read_writes_junk_eq_canon]
  rw [View.canon_unit_zero zero2, View.ld_unit_zero zero2, View.ld_unit_zero zero2]
  rw [pay13]
  simp only [grad]
  rw [ld_tap0, ld_tap1, ld_tap2, ld_tap3]

theorem left4 (c : Dev nD) (i : grid0.Coords) (arg1 : Memref sig .tc .vmem S4096x128 .f32) (harg1 : arg1.IsWhole) (arg2 : Memref sig .tc .vmem S8x128 .f32) (harg2 : arg2.IsWhole) (arg3 : Memref sig .tc .vmem S4096x128 .f32) (harg3 : arg3.IsWhole) (arg5 : Memref sig .tc .vmem S4096x128 .bf16) (harg5 : arg5.IsWhole) (arg6 : Memref sig .tc .vmem S8x128 .f32) (harg6 : arg6.IsWhole)
    (x : Vec Ideal S4096x128 .f32) (w : Vec Ideal S8x128 .f32) (d : Vec Ideal S4096x128 .f32) (r : Fin 8) (q : Fin 128) :
    out0_A_4 (F := Ideal) c i arg1 harg1 arg2 harg2 arg3 harg3 arg5 harg5 arg6 harg6 x w d (ix2 r q)
      = dtaps (dconv (w (ix2 0 q)) (w (ix2 1 q)) (w (ix2 2 q)) (w (ix2 3 q)) (fun t => x (ix2 t q)) (fun t => d (ix2 t q))) (fun t => x (ix2 t q)) r := by
  unfold out0_A_4 kernelRun0_A
  dsimp only
  sl_unfold_words
  simp only [View.readAt_eq_ld, Memref.IsWhole.read_unread]
  rw [View.read_writes_junk_eq_canon]
  rw [View.canon_unit_zero zero2, View.ld_unit_zero zero2, View.ld_unit_zero zero2]
  rw [pay1]
  simp only [grad]
  rw [ld_tap0, ld_tap1, ld_tap2, ld_tap3]

/-- The blocks are columns, a head's each: the values' sit sixteen heads on. -/
theorem idx_facts : ∀ t : Fin cfg0.N, (win0_0.index t 0 = 0 ∧ win0_0.index t 1 = 16 + t.val) ∧ (win0_1.index t 0 = 0 ∧ win0_1.index t 1 = 16 + t.val) ∧ (win0_2.index t 0 = 0 ∧ win0_2.index t 1 = t.val) ∧
    (win0_3.index t 0 = 0 ∧ win0_3.index t 1 = 16 + t.val) ∧ (win0_4.index t 0 = 0 ∧ win0_4.index t 1 = t.val) ∧ (cfg0.win 3).flush t = true ∧ (cfg0.win 4).flush t = true := by
  decide +kernel

theorem steps : cfg0.N = 8 := by decide +kernel

theorem block0 (m : (ℓ : Loc nD τ sig) → Buf (Elt Ideal) ℓ) (c : Dev nD) (t : Fin cfg0.N) (p : Fin 4096) (q : Fin 128) (Q : Fin 7296) (hQ : Q.val = 2048 + t.val * 128 + q.val) :
    iblk m c 0 t (ix2 p q) = m ((c : Thread nD τ).loc main_arg0) (ix2 p Q) := by
  obtain ⟨⟨f0, f1⟩, -⟩ := idx_facts t
  refine congrArg (m ((c : Thread nD τ).loc main_arg0)) ?_
  funext a
  match a with
  | 0 => exact Fin.ext (by show win0_0.index t 0 * 4096 + 1 * p.val = p.val; rw [f0]; omega)
  | 1 => exact Fin.ext (by show win0_0.index t 1 * 128 + 1 * q.val = Q.val; rw [f1, hQ]; omega)

theorem block1 (m : (ℓ : Loc nD τ sig) → Buf (Elt Ideal) ℓ) (c : Dev nD) (t : Fin cfg0.N) (p : Fin 8) (q : Fin 128) (Q : Fin 3072) (hQ : Q.val = 2048 + t.val * 128 + q.val) :
    iblk m c 1 t (ix2 p q) = m ((c : Thread nD τ).loc main_arg1) (ix2 p Q) := by
  obtain ⟨-, ⟨f0, f1⟩, -⟩ := idx_facts t
  refine congrArg (m ((c : Thread nD τ).loc main_arg1)) ?_
  funext a
  match a with
  | 0 => exact Fin.ext (by show win0_1.index t 0 * 8 + 1 * p.val = p.val; rw [f0]; omega)
  | 1 => exact Fin.ext (by show win0_1.index t 1 * 128 + 1 * q.val = Q.val; rw [f1, hQ]; omega)

theorem block2 (m : (ℓ : Loc nD τ sig) → Buf (Elt Ideal) ℓ) (c : Dev nD) (t : Fin cfg0.N) (p : Fin 4096) (q : Fin 128) (Q : Fin 1024) (hQ : Q.val = t.val * 128 + q.val) :
    iblk m c 2 t (ix2 p q) = m ((c : Thread nD τ).loc main_arg2) (ix2 p Q) := by
  obtain ⟨-, -, ⟨f0, f1⟩, -⟩ := idx_facts t
  refine congrArg (m ((c : Thread nD τ).loc main_arg2)) ?_
  funext a
  match a with
  | 0 => exact Fin.ext (by show win0_2.index t 0 * 4096 + 1 * p.val = p.val; rw [f0]; omega)
  | 1 => exact Fin.ext (by show win0_2.index t 1 * 128 + 1 * q.val = Q.val; rw [f1, hQ]; omega)

/-- A block's gradients of its convolutions are the arrays'. -/
theorem grads_block (m : (ℓ : Loc nD τ sig) → Buf (Elt Ideal) ℓ) (c : Dev nD) (t : Fin cfg0.N) (q : Fin 128) (Q : Fin 1024) (hQ : Q.val = t.val * 128 + q.val) :
    dconv (iblk m c 1 t (ix2 0 q)) (iblk m c 1 t (ix2 1 q)) (iblk m c 1 t (ix2 2 q)) (iblk m c 1 t (ix2 3 q)) (fun s => iblk m c 0 t (ix2 s q)) (fun s => iblk m c 2 t (ix2 s q))
      = grads (m ((c : Thread nD τ).loc main_arg0)) (m ((c : Thread nD τ).loc main_arg1)) (m ((c : Thread nD τ).loc main_arg2)) Q := by
  have ex := fun s => block0 m c t s q ⟨2048 + Q.val, by omega⟩ (by show 2048 + Q.val = _; omega)
  have ew := fun k => block1 m c t k q ⟨2048 + Q.val, by omega⟩ (by show 2048 + Q.val = _; omega)
  have ed := fun s => block2 m c t s q Q hQ
  unfold grads
  rw [ew 0, ew 1, ew 2, ew 3, funext ex, funext ed]

theorem array3 (m : (ℓ : Loc nD τ sig) → Buf (Elt Ideal) ℓ) (c : Dev nD) :
    (dats m 0 c).arrAt 3 cfg0.N = entries (m ((c : Thread nD τ).loc main_arg0)) (m ((c : Thread nD τ).loc main_arg1)) (m ((c : Thread nD τ).loc main_arg2)) (m ((c : Thread nD τ).loc main_arg3)) := by
  refine ext2 fun p q => ?_
  refine Eq.trans ?_ (show entry (m ((c : Thread nD τ).loc main_arg0)) (m ((c : Thread nD τ).loc main_arg1)) (m ((c : Thread nD τ).loc main_arg2)) (m ((c : Thread nD τ).loc main_arg3)) p q = _ from rfl)
  by_cases h : 2048 ≤ q.val ∧ q.val < 3072
  · have ht : (q.val - 2048) / 128 < cfg0.N := by rw [steps]; omega
    obtain ⟨-, -, -, ⟨f0, f1⟩, -, hf, -⟩ := idx_facts ⟨(q.val - 2048) / 128, ht⟩
    generalize et : (⟨(q.val - 2048) / 128, ht⟩ : Fin cfg0.N) = t at f0 f1 hf
    have tv : t.val = (q.val - 2048) / 128 := congrArg Fin.val et.symm
    clear et
    have e := congrFun (Cert.ConvVBwdIdeal.Value.blocks3 m c t hf) (ix2 p (⟨(q.val - 2048) % 128, by omega⟩ : Fin 128))
    have ei : ((cfg0.win 3).blk t).view.emb (ix2 p (⟨(q.val - 2048) % 128, by omega⟩ : Fin 128)) = ix2 p q := by
      funext a
      match a with
      | 0 => exact Fin.ext (by show win0_3.index t 0 * 4096 + 1 * p.val = p.val; rw [f0]; omega)
      | 1 => exact Fin.ext (by show win0_3.index t 1 * 128 + 1 * ((q.val - 2048) % 128) = q.val; rw [f1]; omega)
    refine (congrArg ((dats m 0 c).arrAt 3 cfg0.N) ei.symm).trans (e.trans ?_)
    rw [Cert.ConvVBwdIdeal.Value.flushed3_A]
    refine (left3 c _ _ _ _ _ _ _ _ _ _ _ (iblk m c 0 t) (iblk m c 1 t) (iblk m c 2 t) p _).trans ?_
    have ew := fun k => block1 m c t k ⟨(q.val - 2048) % 128, by omega⟩ ⟨q.val, by omega⟩ (by show q.val = 2048 + t.val * 128 + (q.val - 2048) % 128; omega)
    unfold entry
    rw [dif_pos h, grads_block m c t _ ⟨q.val - 2048, by omega⟩ (by show q.val - 2048 = t.val * 128 + (q.val - 2048) % 128; omega), ew 0, ew 1, ew 2, ew 3]
  · rw [Cert.ConvVBwdIdeal.Value.entry3]
    · unfold entry
      rw [dif_neg h]
      rfl
    · intro t _ hm
      obtain ⟨y, -, hy⟩ := Finset.mem_map.mp hm
      have e1 : win0_3.index t 1 * 128 + 1 * (y 1).val = q.val := congrArg Fin.val (congrFun hy 1)
      have l1 : (y 1).val < 128 := (y 1).isLt
      have l2 : t.val < 8 := lt_of_lt_of_eq t.isLt steps
      rw [(idx_facts t).2.2.2.1.2] at e1
      exact h ⟨by omega, by omega⟩

theorem array4 (m : (ℓ : Loc nD τ sig) → Buf (Elt Ideal) ℓ) (c : Dev nD) :
    (dats m 0 c).arrAt 4 cfg0.N = taps (m ((c : Thread nD τ).loc main_arg0)) (m ((c : Thread nD τ).loc main_arg1)) (m ((c : Thread nD τ).loc main_arg2)) := by
  refine Pipeline.Dat.arrAt_eq_of_covers (dats m 0 c) 4 _ (by decide +kernel) fun t _ y => ?_
  show (dats m 0 c).after 4 t y = _
  rw [after0_4]
  simp only [outsAt0]
  obtain ⟨r, q, rfl⟩ : ∃ (r : Fin 8) (q : Fin 128), y = ix2 r q := ⟨y 0, y 1, eq_ix2 y⟩
  obtain ⟨-, -, -, -, ⟨f0, f1⟩, -⟩ := idx_facts t
  have l2 : t.val < 8 := lt_of_lt_of_eq t.isLt steps
  have ei : ((cfg0.win 4).blk t).view.emb (ix2 r q) = ix2 r (⟨t.val * 128 + q.val, by omega⟩ : Fin 1024) := by
    funext a
    match a with
    | 0 => exact Fin.ext (by show win0_4.index t 0 * 8 + 1 * r.val = r.val; rw [f0]; omega)
    | 1 => exact Fin.ext (by show win0_4.index t 1 * 128 + 1 * q.val = t.val * 128 + q.val; rw [f1]; omega)
  refine Eq.trans ?_ (congrArg (taps (m ((c : Thread nD τ).loc main_arg0)) (m ((c : Thread nD τ).loc main_arg1)) (m ((c : Thread nD τ).loc main_arg2))) ei.symm)
  refine (left4 c _ _ _ _ _ _ _ _ _ _ _ (iblk m c 0 t) (iblk m c 1 t) (iblk m c 2 t) r q).trans ?_
  rw [grads_block m c t q ⟨t.val * 128 + q.val, by omega⟩ rfl, funext fun s => block0 m c t s q ⟨2048 + (t.val * 128 + q.val), by omega⟩ (by show 2048 + (t.val * 128 + q.val) = _; omega)]
  rfl

theorem slice0 (h) (x : FVec Ideal S4096x7296 .f32) :
    extractStridedSlice Cols ![0, 2048] x h = fun y => x (ix2 (y 0) ⟨2048 + (y 1).val, by have h : (y 1).val < 1024 := (y 1).isLt; omega⟩) := by
  refine ext2 fun p q => ?_
  pointwise

theorem slice1 (h) (w : FVec Ideal S8x3072 .f32) :
    extractStridedSlice Taps ![0, 2048] w h = fun y => w (ix2 ⟨(y 0).val, by have h : (y 0).val < 4 := (y 0).isLt; omega⟩ ⟨2048 + (y 1).val, by have h : (y 1).val < 1024 := (y 1).isLt; omega⟩) := by
  refine ext2 fun p q => ?_
  pointwise

/-- The reference's gradient of the convolutions, at a column. -/
theorem grads_reference (h0 h1) (x : FVec Ideal S4096x7296 .f32) (w : FVec Ideal S8x3072 .f32) (d : FVec Ideal S4096x1024 .f32) (q : Fin 1024) :
    (fun t => dsilus (convs (extractStridedSlice Cols ![0, 2048] x h0) (extractStridedSlice Taps ![0, 2048] w h1)) d (ix2 t q)) = grads x w d q := by
  rw [slice0, slice1]
  rfl

theorem inputs_reference (h0 h1) (x : FVec Ideal S4096x7296 .f32) (w : FVec Ideal S8x3072 .f32) (d : FVec Ideal S4096x1024 .f32) (p : Fin 4096) (q : Fin 1024) :
    dinputs (dsilus (convs (extractStridedSlice Cols ![0, 2048] x h0) (extractStridedSlice Taps ![0, 2048] w h1)) d) (extractStridedSlice Taps ![0, 2048] w h1) (ix2 p q)
      = dinput (w (ix2 0 ⟨2048 + q.val, by omega⟩)) (w (ix2 1 ⟨2048 + q.val, by omega⟩)) (w (ix2 2 ⟨2048 + q.val, by omega⟩)) (w (ix2 3 ⟨2048 + q.val, by omega⟩)) (grads x w d q) p := by
  rw [← grads_reference h0 h1 x w d q]
  conv_lhs => arg 2; rw [slice1]
  rfl

theorem right1 (h0 h1) (x : FVec Ideal S4096x7296 .f32) (w : FVec Ideal S8x3072 .f32) (d : FVec Ideal S4096x1024 .f32) :
    dtapss (dsilus (convs (extractStridedSlice Cols ![0, 2048] x h0) (extractStridedSlice Taps ![0, 2048] w h1)) d) (extractStridedSlice Cols ![0, 2048] x h0) = taps x w d := by
  refine ext2 fun r q => ?_
  refine Eq.trans (show _ = dtaps (fun t => dsilus (convs (extractStridedSlice Cols ![0, 2048] x h0) (extractStridedSlice Taps ![0, 2048] w h1)) d (ix2 t q)) (fun t => extractStridedSlice Cols ![0, 2048] x h0 (ix2 t q)) r from rfl) ?_
  rw [grads_reference h0 h1 x w d q, slice0]
  rfl

theorem right0 (h0 h1 h2 h3) (h4 : Shape.Concatenates [⟨2, ![4096, 2048]⟩, Cols, ⟨2, ![4096, 4224]⟩] S4096x7296 1) (h5) (x : FVec Ideal S4096x7296 .f32) (w : FVec Ideal S8x3072 .f32) (d : FVec Ideal S4096x1024 .f32) (g : FVec Ideal S4096x7296 .bf16) :
    concatenate S4096x7296 1 [⟨⟨2, ![4096, 2048]⟩, extractStridedSlice ⟨2, ![4096, 2048]⟩ ![0, 0] g h2⟩,
      ⟨Cols, truncf .bf16 (dinputs (dsilus (convs (extractStridedSlice Cols ![0, 2048] x h0) (extractStridedSlice Taps ![0, 2048] w h1)) d) (extractStridedSlice Taps ![0, 2048] w h1)) h5⟩,
      ⟨⟨2, ![4096, 4224]⟩, extractStridedSlice ⟨2, ![4096, 4224]⟩ ![0, 3072] g h3⟩] h4 = entries x w d g := by
  refine ext2 fun p q => ?_
  refine Eq.trans ?_ (show entry x w d g p q = _ from rfl)
  have e := inputs_reference h0 h1 x w d p
  generalize dinputs (dsilus (convs (extractStridedSlice Cols ![0, 2048] x h0) (extractStridedSlice Taps ![0, 2048] w h1)) d) (extractStridedSlice Taps ![0, 2048] w h1) = G at e ⊢
  pointwise [entry]
  by_cases h0 : q.val < 2048
  · rw [dif_pos h0, dif_neg (by omega)]
  · rw [dif_neg h0]
    by_cases h1 : q.val - 2048 < 1024
    · rw [dif_pos h1, dif_pos (by omega), e]
      have eq : 2048 + (q.val - 2048) = q.val := by omega
      simp only [eq]
    · rw [dif_neg h1, dif_neg (by omega)]
      exact congrArg (fun k => g (ix2 p k)) (Fin.ext (by show 3072 + (q.val - 2048 - 1024) = q.val; omega))

theorem algebraic : Cert.algebraic_ConvVBwdIdeal_ConvVBwdRefIdeal (hConvVBwdIdeal := Cert.ConvVBwdIdeal.Gen.facts)
    (hConvVBwdRefIdeal := Cert.ConvVBwdRefIdeal.Gen.facts) := by
  intro m g m' g' _ hagree
  refine ⟨fun c => entries (m ((c : Thread nD τ).loc main_arg0)) (m ((c : Thread nD τ).loc main_arg1)) (m ((c : Thread nD τ).loc main_arg2)) (m ((c : Thread nD τ).loc main_arg3)),
    fun c => taps (m ((c : Thread nD τ).loc main_arg0)) (m ((c : Thread nD τ).loc main_arg1)) (m ((c : Thread nD τ).loc main_arg2)), ?_, ?_⟩
  · exact (θ_run _ _ _).mono (fun r h c => ⟨(h c).1.trans (array3 m c), (h c).2.1.trans (array4 m c), (h c).2.2⟩) (Cert.ConvVBwdIdeal.Value.run_blocks m g)
  · refine (θ_run _ _ _).mono (fun r h c => ⟨(h c).1.trans ?_, (h c).2.1.trans ?_, (h c).2.2⟩) (Cert.ConvVBwdRefIdeal.Value.run m' g')
    · unfold Cert.ConvVBwdRefIdeal.Value.res_main_v67
      rw [(hagree c).1, (hagree c).2.1, (hagree c).2.2.1, (hagree c).2.2.2]
      beta_reduce
      rw [reference_down3, reference_down2, reference_down1, reference_down0, reference_conv, reference_dsilu, reference_dinput]
      exact right0 _ _ _ _ _ _ _ _ _ _
    · unfold Cert.ConvVBwdRefIdeal.Value.res_main_v68
      rw [(hagree c).1, (hagree c).2.1, (hagree c).2.2.1]
      beta_reduce
      rw [reference_down3, reference_down2, reference_down1, reference_down0, reference_conv, reference_dsilu, reference_dtaps]
      exact right1 _ _ _ _ _

theorem frame_ideal : Cert.quiescent_ConvVBwdIdeal (hConvVBwdIdeal := Cert.ConvVBwdIdeal.Gen.facts) :=
  fun m ρ _ => Cert.ConvVBwdIdeal.Gen.frame m ρ

theorem frame_reference : Cert.quiescent_ConvVBwdRefIdeal (hConvVBwdRefIdeal := Cert.ConvVBwdRefIdeal.Gen.facts) :=
  fun m ρ _ => (θ_run Cert.ConvVBwdRefIdeal.defs _ _).mono
    (fun r h => ⟨fun c => (h c).2.2, sem_eq_zero_of_no_sems (by decide) r.2⟩) (Cert.ConvVBwdRefIdeal.Value.run m ρ)

theorem frame_kernel : Cert.quiescent_ConvVBwd (hConvVBwd := Cert.ConvVBwd.Gen.facts) :=
  fun m ρ _ => Cert.ConvVBwd.Gen.frame m ρ

end Cert.Proof.ConvVBwd

end
-- ==== Proof.ConvQBwd.lean ====
module

public import proofs.«01_k».proof.Defs
public import proofs.«01_k».proof.Proof.Conv
public import proofs.«01_k».proof.Proof.Gen.ConvQBwd.Frame
public import proofs.«01_k».proof.Proof.Gen.ConvQBwdIdeal.Value
public import proofs.«01_k».proof.Proof.Gen.ConvQBwdRefIdeal.Run
public import Idealize.ShloMosaic.Lib.Pipeline.ValueKit.Geometry
public import Idealize.ShloMosaic.Adequacy
public import Idealize.ShloMosaic.Init

@[expose] public section

set_option maxRecDepth 200000

noncomputable section

namespace Cert.Proof.ConvQBwd

open Cert.ConvQBwdIdeal Cert.ConvQBwdIdeal.Gen Cert.Hand.Entries Cert.Hand.Conv Idealize.ShloMosaic Idealize.ShloMosaic.TcCoe Idealize.SL.Sem

theorem pay3 (x : FVec Ideal S4096x128 .f32) (a b c : FVec Ideal S1x128 .f32) (p : Fin 4096) (q : Fin 128) :
    k0_pay3 (F := Ideal) x a b c (ix2 p q) = a (ix2 0 q) * x (ix2 p q) + b (ix2 0 q) * down 1 (fun t => x (ix2 t q)) p + c (ix2 0 q) * down 2 (fun t => x (ix2 t q)) p := by
  unfold k0_pay3
  dsimp only
  rw [kernel_down1, kernel_down2]
  pointwise [downs_apply]

theorem pay4 (x : FVec Ideal S4096x128 .f32) : k0_pay4 (F := Ideal) x = (downs 3 x : FVec Ideal S4096x128 .f32) := by
  unfold k0_pay4
  dsimp only
  rw [kernel_down3]

theorem pay5 (x : FVec Ideal S4096x128 .f32) (a3 a2 a1 a0 : FVec Ideal S1x128 .f32) (p : Fin 4096) (q : Fin 128) :
    k0_pay5 (F := Ideal) (k0_pay3 x a3 a2 a1) a0 (k0_pay4 x) (ix2 p q) = conv (a0 (ix2 0 q)) (a1 (ix2 0 q)) (a2 (ix2 0 q)) (a3 (ix2 0 q)) (fun t => x (ix2 t q)) p := by
  pointwise [k0_pay5, pay3, pay4, downs_apply, conv]

theorem pay9 (u : FVec Ideal S4096x128 .f32) (a : FVec Ideal S1x128 .f32) (v d : FVec Ideal S4096x128 .f32) (p : Fin 4096) (q : Fin 128) :
    k0_pay9 (F := Ideal) u a v d (ix2 p q) = dunit (fun j => silu (k0_pay5 (F := Ideal) u a v (ix2 p j))) (fun j => d (ix2 p j) * Idealize.ShloMosaic.Ideal.ofBits .f32 0x3DB504F3#32) q := by
  unfold k0_pay9 k0_pay8 k0_pay7 k0_pay6
  generalize k0_pay5 u a v = g
  pointwise [dunit, eps, silu, Cert.Proof.DGateUp.sig]
  simp only [zero_sub, mul_one, Finset.univ_unique, Finset.sum_singleton]

/-- The block's gradient of the convolution. -/
theorem pay12 (u : FVec Ideal S4096x128 .f32) (a : FVec Ideal S1x128 .f32) (v d : FVec Ideal S4096x128 .f32) (p : Fin 4096) (q : Fin 128) :
    k0_pay12 (F := Ideal) (k0_pay6 u a v) (k0_pay10 u a v d) (k0_pay11 u a v d) (ix2 p q)
      = dsilu (k0_pay5 (F := Ideal) u a v (ix2 p q)) (dunit (fun j => silu (k0_pay5 (F := Ideal) u a v (ix2 p j))) (fun j => d (ix2 p j) * Idealize.ShloMosaic.Ideal.ofBits .f32 0x3DB504F3#32) q) := by
  rw [← kernel_dsilu, ← pay9]
  unfold k0_pay12 k0_pay10 k0_pay11 k0_pay8 k0_pay7 k0_pay6
  generalize k0_pay9 u a v d = e
  generalize k0_pay5 u a v = g
  pointwise [Cert.Proof.DGateUp.sig]
  simp only [zero_sub, mul_one]

theorem pay2 (s y z : FVec Ideal S4096x128 .f32) (a3 a2 a1 a0 : FVec Ideal S1x128 .f32) (p : Fin 4096) (q : Fin 128) :
    k0_pay2 (F := Ideal) (k0_pay17 (k0_pay12 s y z) (k0_pay14 s y z a3 a2) a1) a0 (k0_pay19 (k0_pay12 s y z)) (iota .tc S8x128 32 [0] iota_S8x128_d0_w32) (k0_pay20 (k0_pay12 s y z)) 5#32 (ix2 p q)
      = dinput (a0 (ix2 0 q)) (a1 (ix2 0 q)) (a2 (ix2 0 q)) (a3 (ix2 0 q)) (fun t => k0_pay12 (F := Ideal) s y z (ix2 t q)) p := by
  unfold k0_pay2 k0_pay17 k0_pay14 k0_pay19 k0_pay20 k0_pay19
  generalize k0_pay12 s y z = g
  dsimp only
  rw [kernel_up1, kernel_up2, kernel_up3]
  pointwise [ups_apply, dinput]

theorem pay1 (x s y z : FVec Ideal S4096x128 .f32) (r : Fin 8) (q : Fin 128) :
    k0_pay1 (F := Ideal) x (k0_pay12 s y z) (iota .tc S8x128 32 [0] iota_S8x128_d0_w32)
      (k0_pay18 x (k0_pay12 s y z) (iota .tc S8x128 32 [0] iota_S8x128_d0_w32) (k0_pay13 x s y z) k0_pay15 (k0_pay16 x s y z)) (ix2 r q)
      = dtaps (fun t => k0_pay12 (F := Ideal) s y z (ix2 t q)) (fun t => x (ix2 t q)) r := by
  unfold k0_pay1 k0_pay18 k0_pay13 k0_pay15 k0_pay16
  generalize k0_pay12 s y z = g
  dsimp only
  rw [kernel_down1, kernel_down2, kernel_down3]
  pointwise [downs_apply]
  exact rows _ _ _ _ r

/-- A block's gradient of its convolutions. -/
def bgrad (x : Vec Ideal S4096x128 .f32) (w : Vec Ideal S8x128 .f32) (d : Vec Ideal S4096x128 .f32) (q : Fin 128) (p : Fin 4096) : EReal :=
  dsilu (conv (w (ix2 0 q)) (w (ix2 1 q)) (w (ix2 2 q)) (w (ix2 3 q)) (fun t => x (ix2 t q)) p)
    (dunit (fun j => silu (conv (w (ix2 0 j)) (w (ix2 1 j)) (w (ix2 2 j)) (w (ix2 3 j)) (fun t => x (ix2 t j)) p)) (fun j => d (ix2 p j) * Idealize.ShloMosaic.Ideal.ofBits .f32 0x3DB504F3#32) q)

/-- The block's first result, from the taps it loads. -/
theorem block_input (x d : FVec Ideal S4096x128 .f32) (w : FVec Ideal S8x128 .f32) (a3 a2 a1 a0 : FVec Ideal S1x128 .f32)
    (e0 : ∀ j, a0 (ix2 0 j) = w (ix2 0 j)) (e1 : ∀ j, a1 (ix2 0 j) = w (ix2 1 j)) (e2 : ∀ j, a2 (ix2 0 j) = w (ix2 2 j)) (e3 : ∀ j, a3 (ix2 0 j) = w (ix2 3 j)) (p : Fin 4096) (q : Fin 128) :
    k0_pay2 (F := Ideal) (k0_pay17 (k0_pay12 (k0_pay6 (k0_pay3 x a3 a2 a1) a0 (k0_pay4 x)) (k0_pay10 (k0_pay3 x a3 a2 a1) a0 (k0_pay4 x) d) (k0_pay11 (k0_pay3 x a3 a2 a1) a0 (k0_pay4 x) d)) (k0_pay14 (k0_pay6 (k0_pay3 x a3 a2 a1) a0 (k0_pay4 x)) (k0_pay10 (k0_pay3 x a3 a2 a1) a0 (k0_pay4 x) d) (k0_pay11 (k0_pay3 x a3 a2 a1) a0 (k0_pay4 x) d) a3 a2) a1) a0 (k0_pay19 (k0_pay12 (k0_pay6 (k0_pay3 x a3 a2 a1) a0 (k0_pay4 x)) (k0_pay10 (k0_pay3 x a3 a2 a1) a0 (k0_pay4 x) d) (k0_pay11 (k0_pay3 x a3 a2 a1) a0 (k0_pay4 x) d))) (iota .tc S8x128 32 [0] iota_S8x128_d0_w32) (k0_pay20 (k0_pay12 (k0_pay6 (k0_pay3 x a3 a2 a1) a0 (k0_pay4 x)) (k0_pay10 (k0_pay3 x a3 a2 a1) a0 (k0_pay4 x) d) (k0_pay11 (k0_pay3 x a3 a2 a1) a0 (k0_pay4 x) d))) 5#32 (ix2 p q)
      = dinput (w (ix2 0 q)) (w (ix2 1 q)) (w (ix2 2 q)) (w (ix2 3 q)) (bgrad x w d q) p := by
  rw [pay2]
  simp only [pay12, pay5, e0, e1, e2, e3]
  rfl

/-- The block's second result, from the taps it loads. -/
theorem block_taps (x d : FVec Ideal S4096x128 .f32) (w : FVec Ideal S8x128 .f32) (a3 a2 a1 a0 : FVec Ideal S1x128 .f32)
    (e0 : ∀ j, a0 (ix2 0 j) = w (ix2 0 j)) (e1 : ∀ j, a1 (ix2 0 j) = w (ix2 1 j)) (e2 : ∀ j, a2 (ix2 0 j) = w (ix2 2 j)) (e3 : ∀ j, a3 (ix2 0 j) = w (ix2 3 j)) (r : Fin 8) (q : Fin 128) :
    k0_pay1 (F := Ideal) x (k0_pay12 (k0_pay6 (k0_pay3 x a3 a2 a1) a0 (k0_pay4 x)) (k0_pay10 (k0_pay3 x a3 a2 a1) a0 (k0_pay4 x) d) (k0_pay11 (k0_pay3 x a3 a2 a1) a0 (k0_pay4 x) d)) (iota .tc S8x128 32 [0] iota_S8x128_d0_w32)
      (k0_pay18 x (k0_pay12 (k0_pay6 (k0_pay3 x a3 a2 a1) a0 (k0_pay4 x)) (k0_pay10 (k0_pay3 x a3 a2 a1) a0 (k0_pay4 x) d) (k0_pay11 (k0_pay3 x a3 a2 a1) a0 (k0_pay4 x) d)) (iota .tc S8x128 32 [0] iota_S8x128_d0_w32) (k0_pay13 x (k0_pay6 (k0_pay3 x a3 a2 a1) a0 (k0_pay4 x)) (k0_pay10 (k0_pay3 x a3 a2 a1) a0 (k0_pay4 x) d) (k0_pay11 (k0_pay3 x a3 a2 a1) a0 (k0_pay4 x) d)) k0_pay15 (k0_pay16 x (k0_pay6 (k0_pay3 x a3 a2 a1) a0 (k0_pay4 x)) (k0_pay10 (k0_pay3 x a3 a2 a1) a0 (k0_pay4 x) d) (k0_pay11 (k0_pay3 x a3 a2 a1) a0 (k0_pay4 x) d))) (ix2 r q)
      = dtaps (bgrad x w d q) (fun t => x (ix2 t q)) r := by
  rw [pay1]
  simp only [pay12, pay5, e0, e1, e2, e3]
  rfl

theorem left3 (c : Dev nD) (i : grid0.Coords) (arg1 : Memref sig .tc .vmem S4096x128 .f32) (harg1 : arg1.IsWhole) (arg2 : Memref sig .tc .vmem S8x128 .f32) (harg2 : arg2.IsWhole) (arg3 : Memref sig .tc .vmem S4096x128 .f32) (harg3 : arg3.IsWhole) (arg5 : Memref sig .tc .vmem S4096x128 .bf16) (harg5 : arg5.IsWhole) (arg6 : Memref sig .tc .vmem S8x128 .f32) (harg6 : arg6.IsWhole)
    (x : Vec Ideal S4096x128 .f32) (w : Vec Ideal S8x128 .f32) (d : Vec Ideal S4096x128 .f32) (p : Fin 4096) (q : Fin 128) :
    out0_A_3 (F := Ideal) c i arg1 harg1 arg2 harg2 arg3 harg3 arg5 harg5 arg6 harg6 x w d (ix2 p q)
      = dinput (w (ix2 0 q)) (w (ix2 1 q)) (w (ix2 2 q)) (w (ix2 3 q)) (bgrad x w d q) p := by
  unfold out0_A_3 kernelRun0_A
  dsimp only
  sl_unfold_words
  simp only [View.readAt_eq_ld, Memref.IsWhole.read_unread]
  rw [View.read_writes_junk_eq_canon]
  rw [View.canon_unit_zero zero2, View.ld_unit_zero zero2, View.ld_unit_zero zero2]
  exact block_input x d w _ _ _ _ (ld_tap0 w _) (ld_tap1 w _) (ld_tap2 w _) (ld_tap3 w _) _ q

theorem left4 (c : Dev nD) (i : grid0.Coords) (arg1 : Memref sig .tc .vmem S4096x128 .f32) (harg1 : arg1.IsWhole) (arg2 : Memref sig .tc .vmem S8x128 .f32) (harg2 : arg2.IsWhole) (arg3 : Memref sig .tc .vmem S4096x128 .f32) (harg3 : arg3.IsWhole) (arg5 : Memref sig .tc .vmem S4096x128 .bf16) (harg5 : arg5.IsWhole) (arg6 : Memref sig .tc .vmem S8x128 .f32) (harg6 : arg6.IsWhole)
    (x : Vec Ideal S4096x128 .f32) (w : Vec Ideal S8x128 .f32) (d : Vec Ideal S4096x128 .f32) (r : Fin 8) (q : Fin 128) :
    out0_A_4 (F := Ideal) c i arg1 harg1 arg2 harg2 arg3 harg3 arg5 harg5 arg6 harg6 x w d (ix2 r q)
      = dtaps (bgrad x w d q) (fun t => x (ix2 t q)) r := by
  unfold out0_A_4 kernelRun0_A
  dsimp only
  sl_unfold_words
  simp only [View.readAt_eq_ld, Memref.IsWhole.read_unread]
  rw [View.read_writes_junk_eq_canon]
  rw [View.canon_unit_zero zero2, View.ld_unit_zero zero2, View.ld_unit_zero zero2]
  exact block_taps x d w _ _ _ _ (ld_tap0 w _) (ld_tap1 w _) (ld_tap2 w _) (ld_tap3 w _) _ q

/-- The blocks are columns, a head's each: the queries' come first. -/
theorem idx_facts : ∀ t : Fin cfg0.N, (win0_0.index t 0 = 0 ∧ win0_0.index t 1 = t.val) ∧ (win0_1.index t 0 = 0 ∧ win0_1.index t 1 = t.val) ∧ (win0_2.index t 0 = 0 ∧ win0_2.index t 1 = t.val) ∧
    (win0_3.index t 0 = 0 ∧ win0_3.index t 1 = t.val) ∧ (win0_4.index t 0 = 0 ∧ win0_4.index t 1 = t.val) ∧ (cfg0.win 3).flush t = true ∧ (cfg0.win 4).flush t = true := by
  decide +kernel

theorem steps : cfg0.N = 8 := by decide +kernel

theorem block0 (m : (ℓ : Loc nD τ sig) → Buf (Elt Ideal) ℓ) (c : Dev nD) (t : Fin cfg0.N) (p : Fin 4096) (q : Fin 128) (Q : Fin 1024) (hQ : Q.val = t.val * 128 + q.val) :
    iblk m c 0 t (ix2 p q) = xs 0 (m ((c : Thread nD τ).loc main_arg0)) (ix2 p Q) := by
  obtain ⟨⟨f0, f1⟩, -⟩ := idx_facts t
  refine congrArg (m ((c : Thread nD τ).loc main_arg0)) ?_
  funext a
  match a with
  | 0 => exact Fin.ext (by show win0_0.index t 0 * 4096 + 1 * p.val = p.val; rw [f0]; omega)
  | 1 => exact Fin.ext (by show win0_0.index t 1 * 128 + 1 * q.val = 1024 * 0 + Q.val; rw [f1, hQ]; omega)

theorem block1 (m : (ℓ : Loc nD τ sig) → Buf (Elt Ideal) ℓ) (c : Dev nD) (t : Fin cfg0.N) (r : Fin 4) (q : Fin 128) (Q : Fin 1024) (hQ : Q.val = t.val * 128 + q.val) :
    iblk m c 1 t (ix2 ⟨r.val, by omega⟩ q) = ws 0 (m ((c : Thread nD τ).loc main_arg1)) (ix2 r Q) := by
  obtain ⟨-, ⟨f0, f1⟩, -⟩ := idx_facts t
  refine congrArg (m ((c : Thread nD τ).loc main_arg1)) ?_
  funext a
  match a with
  | 0 => exact Fin.ext (by show win0_1.index t 0 * 8 + 1 * r.val = r.val; rw [f0]; omega)
  | 1 => exact Fin.ext (by show win0_1.index t 1 * 128 + 1 * q.val = 1024 * 0 + Q.val; rw [f1, hQ]; omega)

/-- A block's convolutions are the array's. -/
theorem conv_block (m : (ℓ : Loc nD τ sig) → Buf (Elt Ideal) ℓ) (c : Dev nD) (t : Fin cfg0.N) (p : Fin 4096) (q : Fin 128) (Q : Fin 1024) (hQ : Q.val = t.val * 128 + q.val) :
    conv (iblk m c 1 t (ix2 0 q)) (iblk m c 1 t (ix2 1 q)) (iblk m c 1 t (ix2 2 q)) (iblk m c 1 t (ix2 3 q)) (fun s => iblk m c 0 t (ix2 s q)) p
      = convs (xs 0 (m ((c : Thread nD τ).loc main_arg0))) (ws 0 (m ((c : Thread nD τ).loc main_arg1))) (ix2 p Q) := by
  have e0 := block1 m c t 0 q Q hQ
  have e1 := block1 m c t 1 q Q hQ
  have e2 := block1 m c t 2 q Q hQ
  have e3 := block1 m c t 3 q Q hQ
  refine Eq.trans (congrArg (fun f => conv _ _ _ _ f p) (funext fun s => block0 m c t s q Q hQ)) ?_
  refine Eq.trans (congrArg (fun a => conv a _ _ _ _ p) e0) ?_
  refine Eq.trans (congrArg (fun a => conv _ a _ _ _ p) e1) ?_
  refine Eq.trans (congrArg (fun a => conv _ _ a _ _ p) e2) ?_
  exact congrArg (fun a => conv _ _ _ a _ p) e3

theorem block2 (m : (ℓ : Loc nD τ sig) → Buf (Elt Ideal) ℓ) (c : Dev nD) (t : Fin cfg0.N) (p : Fin 4096) (q : Fin 128) (Q : Fin 1024) (hQ : Q.val = t.val * 128 + q.val) :
    iblk m c 2 t (ix2 p q) = m ((c : Thread nD τ).loc main_arg2) (ix2 p Q) := by
  obtain ⟨-, -, ⟨f0, f1⟩, -⟩ := idx_facts t
  refine congrArg (m ((c : Thread nD τ).loc main_arg2)) ?_
  funext a
  match a with
  | 0 => exact Fin.ext (by show win0_2.index t 0 * 4096 + 1 * p.val = p.val; rw [f0]; omega)
  | 1 => exact Fin.ext (by show win0_2.index t 1 * 128 + 1 * q.val = Q.val; rw [f1, hQ]; omega)

/-- The gradient of the unit rows: the queries are scaled after. -/
def weighed (d : Vec Ideal S4096x1024 .f32) : Vec Ideal S4096x1024 .f32 := fun y => d y * Idealize.ShloMosaic.Ideal.ofBits .f32 0x3DB504F3#32

/-- A block's gradients of its convolutions are the array's. -/
theorem grads_block (m : (ℓ : Loc nD τ sig) → Buf (Elt Ideal) ℓ) (c : Dev nD) (t : Fin cfg0.N) (q : Fin 128) (Q : Fin 1024) (hQ : Q.val = t.val * 128 + q.val) :
    bgrad (iblk m c 0 t) (iblk m c 1 t) (iblk m c 2 t) q = fun p => dgrads 0 (m ((c : Thread nD τ).loc main_arg0)) (m ((c : Thread nD τ).loc main_arg1)) (weighed (m ((c : Thread nD τ).loc main_arg2))) (ix2 p Q) := by
  have l2 : t.val < 8 := lt_of_lt_of_eq t.isLt steps
  obtain ⟨Q, lQ⟩ := Q
  obtain rfl : Q = t.val * 128 + q.val := hQ
  funext p
  have el : ∀ j : Fin 128, (t.val * 128 + q.val) / 128 * 128 + j.val = t.val * 128 + j.val := fun j => by omega
  have em : (t.val * 128 + q.val) % 128 = q.val := by omega
  have er : dgrads 0 (m ((c : Thread nD τ).loc main_arg0)) (m ((c : Thread nD τ).loc main_arg1)) (weighed (m ((c : Thread nD τ).loc main_arg2))) (ix2 p ⟨t.val * 128 + q.val, by omega⟩)
      = dsilu (convs (xs 0 (m ((c : Thread nD τ).loc main_arg0))) (ws 0 (m ((c : Thread nD τ).loc main_arg1))) (ix2 p ⟨t.val * 128 + q.val, by omega⟩))
        (dunit (fun j => silu (convs (xs 0 (m ((c : Thread nD τ).loc main_arg0))) (ws 0 (m ((c : Thread nD τ).loc main_arg1))) (ix2 p ⟨(t.val * 128 + q.val) / 128 * 128 + j.val, by omega⟩)))
          (fun j => weighed (m ((c : Thread nD τ).loc main_arg2)) (ix2 p ⟨(t.val * 128 + q.val) / 128 * 128 + j.val, by omega⟩)) ⟨(t.val * 128 + q.val) % 128, by omega⟩) := rfl
  refine Eq.trans ?_ er.symm
  simp only [el, em]
  refine congr (congrArg dsilu (conv_block m c t p q _ rfl)) (congrFun (congr (congrArg dunit (funext fun j => congrArg silu (conv_block m c t p j ⟨t.val * 128 + j.val, by omega⟩ rfl))) (funext fun j => ?_)) q)
  rw [block2 m c t p j ⟨t.val * 128 + j.val, by omega⟩ rfl]
  rfl

/-- The gradient of the input, in whole: the other columns are kept. -/
def entries (x : Vec Ideal S4096x7296 .f32) (w : Vec Ideal S8x3072 .f32) (d : Vec Ideal S4096x1024 .f32) (g : Vec Ideal S4096x7296 .bf16) : Vec Ideal S4096x7296 .bf16 :=
  fun y => placed 0 (dinputs (dgrads 0 x w (weighed d)) (ws 0 w)) g (y 0) (y 1)

/-- The gradient of the taps, in whole. -/
def taps (x : Vec Ideal S4096x7296 .f32) (w : Vec Ideal S8x3072 .f32) (d : Vec Ideal S4096x1024 .f32) : Vec Ideal S8x1024 .f32 :=
  dtapss (dgrads 0 x w (weighed d)) (xs 0 x)

theorem array3 (m : (ℓ : Loc nD τ sig) → Buf (Elt Ideal) ℓ) (c : Dev nD) :
    (dats m 0 c).arrAt 3 cfg0.N = entries (m ((c : Thread nD τ).loc main_arg0)) (m ((c : Thread nD τ).loc main_arg1)) (m ((c : Thread nD τ).loc main_arg2)) (m ((c : Thread nD τ).loc main_arg3)) := by
  refine ext2 fun p q => ?_
  refine Eq.trans ?_ (show placed 0 (dinputs (dgrads 0 (m ((c : Thread nD τ).loc main_arg0)) (m ((c : Thread nD τ).loc main_arg1)) (weighed (m ((c : Thread nD τ).loc main_arg2)))) (ws 0 (m ((c : Thread nD τ).loc main_arg1)))) (m ((c : Thread nD τ).loc main_arg3)) p q = _ from rfl)
  by_cases h : 1024 * 0 ≤ q.val ∧ q.val < 1024 * 0 + 1024
  · have ht : q.val / 128 < cfg0.N := by rw [steps]; omega
    obtain ⟨-, -, -, ⟨f0, f1⟩, -, hf, -⟩ := idx_facts ⟨q.val / 128, ht⟩
    generalize et : (⟨q.val / 128, ht⟩ : Fin cfg0.N) = t at f0 f1 hf
    have tv : t.val = q.val / 128 := congrArg Fin.val et.symm
    clear et
    have e := congrFun (Cert.ConvQBwdIdeal.Value.blocks3 m c t hf) (ix2 p (⟨q.val % 128, by omega⟩ : Fin 128))
    have ei : ((cfg0.win 3).blk t).view.emb (ix2 p (⟨q.val % 128, by omega⟩ : Fin 128)) = ix2 p q := by
      funext a
      match a with
      | 0 => exact Fin.ext (by show win0_3.index t 0 * 4096 + 1 * p.val = p.val; rw [f0]; omega)
      | 1 => exact Fin.ext (by show win0_3.index t 1 * 128 + 1 * (q.val % 128) = q.val; rw [f1]; omega)
    refine (congrArg ((dats m 0 c).arrAt 3 cfg0.N) ei.symm).trans (e.trans ?_)
    rw [Cert.ConvQBwdIdeal.Value.flushed3_A]
    refine (left3 c _ _ _ _ _ _ _ _ _ _ _ (iblk m c 0 t) (iblk m c 1 t) (iblk m c 2 t) p _).trans ?_
    refine Eq.trans ?_ (placed_pos 0 _ _ p q h).symm
    rw [grads_block m c t _ ⟨q.val, by omega⟩ (by show q.val = t.val * 128 + q.val % 128; omega)]
    have ew := fun r => block1 m c t r ⟨q.val % 128, by omega⟩ ⟨q.val, by omega⟩ (by show q.val = t.val * 128 + q.val % 128; omega)
    refine Eq.trans (congrArg (fun a => dinput a _ _ _ _ p) (ew 0)) ?_
    refine Eq.trans (congrArg (fun a => dinput _ a _ _ _ p) (ew 1)) ?_
    refine Eq.trans (congrArg (fun a => dinput _ _ a _ _ p) (ew 2)) ?_
    exact congrArg (fun a => dinput _ _ _ a _ p) (ew 3)
  · rw [Cert.ConvQBwdIdeal.Value.entry3]
    · exact (placed_neg 0 _ _ p q h).symm
    · intro t _ hm
      obtain ⟨y, -, hy⟩ := Finset.mem_map.mp hm
      have e1 : win0_3.index t 1 * 128 + 1 * (y 1).val = q.val := congrArg Fin.val (congrFun hy 1)
      have l1 : (y 1).val < 128 := (y 1).isLt
      have l2 : t.val < 8 := lt_of_lt_of_eq t.isLt steps
      rw [(idx_facts t).2.2.2.1.2] at e1
      exact h ⟨by show 1024 * 0 ≤ q.val; omega, by show q.val < 1024 * 0 + 1024; omega⟩

theorem array4 (m : (ℓ : Loc nD τ sig) → Buf (Elt Ideal) ℓ) (c : Dev nD) :
    (dats m 0 c).arrAt 4 cfg0.N = taps (m ((c : Thread nD τ).loc main_arg0)) (m ((c : Thread nD τ).loc main_arg1)) (m ((c : Thread nD τ).loc main_arg2)) := by
  refine Pipeline.Dat.arrAt_eq_of_covers (dats m 0 c) 4 _ (by decide +kernel) fun t _ y => ?_
  show (dats m 0 c).after 4 t y = _
  rw [after0_4]
  simp only [outsAt0]
  obtain ⟨r, q, rfl⟩ : ∃ (r : Fin 8) (q : Fin 128), y = ix2 r q := ⟨y 0, y 1, eq_ix2 y⟩
  obtain ⟨-, -, -, -, ⟨f0, f1⟩, -⟩ := idx_facts t
  have l2 : t.val < 8 := lt_of_lt_of_eq t.isLt steps
  have ei : ((cfg0.win 4).blk t).view.emb (ix2 r q) = ix2 r (⟨t.val * 128 + q.val, by omega⟩ : Fin 1024) := by
    funext a
    match a with
    | 0 => exact Fin.ext (by show win0_4.index t 0 * 8 + 1 * r.val = r.val; rw [f0]; omega)
    | 1 => exact Fin.ext (by show win0_4.index t 1 * 128 + 1 * q.val = t.val * 128 + q.val; rw [f1]; omega)
  refine Eq.trans ?_ (congrArg (taps (m ((c : Thread nD τ).loc main_arg0)) (m ((c : Thread nD τ).loc main_arg1)) (m ((c : Thread nD τ).loc main_arg2))) ei.symm)
  refine (left4 c _ _ _ _ _ _ _ _ _ _ _ (iblk m c 0 t) (iblk m c 1 t) (iblk m c 2 t) r q).trans ?_
  rw [grads_block m c t q ⟨t.val * 128 + q.val, by omega⟩ rfl, funext fun s => block0 m c t s q ⟨t.val * 128 + q.val, by omega⟩ rfl]
  rfl

open Cert.ConvQBwdRefIdeal.Value in
theorem reference_conv1 (V : Valuation Cert.ConvQBwdRefIdeal.τ Cert.ConvQBwdRefIdeal.sig (Elt Ideal)) :
    res_main_v25 V = convs (xs 0 (V (Proc.devRef .tc Cert.ConvQBwdRefIdeal.main_arg0))) (ws 0 (V (Proc.devRef .tc Cert.ConvQBwdRefIdeal.main_arg1))) := by
  unfold res_main_v25 res_main_v5 res_main_v6 res_main_v11 res_main_v12 res_main_v16 res_main_v17 res_main_v21 res_main_v22 res_main_v3 res_main_v1
  rw [reference_down3, reference_down2, reference_down1, reference_down0, reference_conv, reference_xs 0 (show _ = 0 from rfl), reference_ws 0 (show _ = 0 from rfl)]

open Cert.ConvQBwdRefIdeal.Value in
theorem reference_grad1 (V : Valuation Cert.ConvQBwdRefIdeal.τ Cert.ConvQBwdRefIdeal.sig (Elt Ideal)) :
    res_main_v58 V = dgrads 0 (V (Proc.devRef .tc Cert.ConvQBwdRefIdeal.main_arg0)) (V (Proc.devRef .tc Cert.ConvQBwdRefIdeal.main_arg1)) (weighed (V (Proc.devRef .tc Cert.ConvQBwdRefIdeal.main_arg2))) := by
  have e : res_main_v57 V = dunits (silus (res_main_v25 V)) (weighed (V (Proc.devRef .tc Cert.ConvQBwdRefIdeal.main_arg2))) := by
    unfold res_main_v57 res_main_v52 res_main_v44 res_main_v33 res_main_v32 res_main_v27 res_main_v26_2
    rw [reference_silu]
    exact reference_dunit _ _ _ _ _ _ _ _ _ _ _ _ _ _ rfl rfl
  unfold res_main_v58 res_main_v26_2
  rw [reference_dsilu, e, reference_conv1]
  rfl

open Cert.ConvQBwdRefIdeal.Value in
theorem reference_input1 (V : Valuation Cert.ConvQBwdRefIdeal.τ Cert.ConvQBwdRefIdeal.sig (Elt Ideal)) (h) :
    extractStridedSlice Cols ![3, 0] (res_main_v90 V) h = dinputs (dgrads 0 (V (Proc.devRef .tc Cert.ConvQBwdRefIdeal.main_arg0)) (V (Proc.devRef .tc Cert.ConvQBwdRefIdeal.main_arg1)) (weighed (V (Proc.devRef .tc Cert.ConvQBwdRefIdeal.main_arg2))))
      (ws 0 (V (Proc.devRef .tc Cert.ConvQBwdRefIdeal.main_arg1))) := by
  unfold res_main_v90 res_main_v5 res_main_v11 res_main_v16 res_main_v21 res_main_v1
  rw [reference_dinput, reference_grad1, reference_ws 0 (show _ = 0 from rfl)]

theorem algebraic : Cert.algebraic_ConvQBwdIdeal_ConvQBwdRefIdeal (hConvQBwdIdeal := Cert.ConvQBwdIdeal.Gen.facts)
    (hConvQBwdRefIdeal := Cert.ConvQBwdRefIdeal.Gen.facts) := by
  intro m g m' g' _ hagree
  refine ⟨fun c => entries (m ((c : Thread nD τ).loc main_arg0)) (m ((c : Thread nD τ).loc main_arg1)) (m ((c : Thread nD τ).loc main_arg2)) (m ((c : Thread nD τ).loc main_arg3)),
    fun c => taps (m ((c : Thread nD τ).loc main_arg0)) (m ((c : Thread nD τ).loc main_arg1)) (m ((c : Thread nD τ).loc main_arg2)), ?_, ?_⟩
  · exact (θ_run _ _ _).mono (fun r h c => ⟨(h c).1.trans (array3 m c), (h c).2.1.trans (array4 m c), (h c).2.2⟩) (Cert.ConvQBwdIdeal.Value.run_blocks m g)
  · refine (θ_run _ _ _).mono (fun r h c => ⟨(h c).1.trans ?_, (h c).2.1.trans ?_, (h c).2.2⟩) (Cert.ConvQBwdRefIdeal.Value.run m' g')
    · rw [reference_input1]
      exact (reference_placed0 _ _ _ _ _).trans (by
        have e0 : StableHlo.launchContents m' c (Proc.devRef .tc Cert.ConvQBwdRefIdeal.main_arg0) = m ((c : Thread nD τ).loc main_arg0) := (hagree c).1
        have e1 : StableHlo.launchContents m' c (Proc.devRef .tc Cert.ConvQBwdRefIdeal.main_arg1) = m ((c : Thread nD τ).loc main_arg1) := (hagree c).2.1
        have e2 : StableHlo.launchContents m' c (Proc.devRef .tc Cert.ConvQBwdRefIdeal.main_arg2) = m ((c : Thread nD τ).loc main_arg2) := (hagree c).2.2.1
        have e3 : StableHlo.launchContents m' c (Proc.devRef .tc Cert.ConvQBwdRefIdeal.main_arg3) = m ((c : Thread nD τ).loc main_arg3) := (hagree c).2.2.2
        rw [e0, e1, e2, e3]
        rfl)
    · have e0 : StableHlo.launchContents m' c (Proc.devRef .tc Cert.ConvQBwdRefIdeal.main_arg0) = m ((c : Thread nD τ).loc main_arg0) := (hagree c).1
      have e1 : StableHlo.launchContents m' c (Proc.devRef .tc Cert.ConvQBwdRefIdeal.main_arg1) = m ((c : Thread nD τ).loc main_arg1) := (hagree c).2.1
      have e2 : StableHlo.launchContents m' c (Proc.devRef .tc Cert.ConvQBwdRefIdeal.main_arg2) = m ((c : Thread nD τ).loc main_arg2) := (hagree c).2.2.1
      unfold Cert.ConvQBwdRefIdeal.Value.res_main_v6 Cert.ConvQBwdRefIdeal.Value.res_main_v12 Cert.ConvQBwdRefIdeal.Value.res_main_v17 Cert.ConvQBwdRefIdeal.Value.res_main_v22 Cert.ConvQBwdRefIdeal.Value.res_main_v3
      rw [reference_down3, reference_down2, reference_down1, reference_down0, reference_dtaps, reference_grad1, reference_xs 0 (show _ = 0 from rfl), e0, e1, e2]
      rfl

theorem frame_ideal : Cert.quiescent_ConvQBwdIdeal (hConvQBwdIdeal := Cert.ConvQBwdIdeal.Gen.facts) :=
  fun m ρ _ => Cert.ConvQBwdIdeal.Gen.frame m ρ

theorem frame_reference : Cert.quiescent_ConvQBwdRefIdeal (hConvQBwdRefIdeal := Cert.ConvQBwdRefIdeal.Gen.facts) :=
  fun m ρ _ => (θ_run Cert.ConvQBwdRefIdeal.defs _ _).mono
    (fun r h => ⟨fun c => (h c).2.2, sem_eq_zero_of_no_sems (by decide) r.2⟩) (Cert.ConvQBwdRefIdeal.Value.run m ρ)

theorem frame_kernel : Cert.quiescent_ConvQBwd (hConvQBwd := Cert.ConvQBwd.Gen.facts) :=
  fun m ρ _ => Cert.ConvQBwd.Gen.frame m ρ

end Cert.Proof.ConvQBwd

end
-- ==== Proof.ConvKBwd.lean ====
module

public import proofs.«01_k».proof.Defs
public import proofs.«01_k».proof.Proof.Conv
public import proofs.«01_k».proof.Proof.Gen.ConvKBwd.Frame
public import proofs.«01_k».proof.Proof.Gen.ConvKBwdIdeal.Value
public import proofs.«01_k».proof.Proof.Gen.ConvKBwdRefIdeal.Run
public import Idealize.ShloMosaic.Lib.Pipeline.ValueKit.Geometry
public import Idealize.ShloMosaic.Adequacy
public import Idealize.ShloMosaic.Init

@[expose] public section

set_option maxRecDepth 200000

noncomputable section

namespace Cert.Proof.ConvKBwd

open Cert.ConvKBwdIdeal Cert.ConvKBwdIdeal.Gen Cert.Hand.Entries Cert.Hand.Conv Idealize.ShloMosaic Idealize.ShloMosaic.TcCoe Idealize.SL.Sem

theorem pay3 (x : FVec Ideal S4096x128 .f32) (a b c : FVec Ideal S1x128 .f32) (p : Fin 4096) (q : Fin 128) :
    k0_pay3 (F := Ideal) x a b c (ix2 p q) = a (ix2 0 q) * x (ix2 p q) + b (ix2 0 q) * down 1 (fun t => x (ix2 t q)) p + c (ix2 0 q) * down 2 (fun t => x (ix2 t q)) p := by
  unfold k0_pay3
  dsimp only
  rw [kernel_down1, kernel_down2]
  pointwise [downs_apply]

theorem pay4 (x : FVec Ideal S4096x128 .f32) : k0_pay4 (F := Ideal) x = (downs 3 x : FVec Ideal S4096x128 .f32) := by
  unfold k0_pay4
  dsimp only
  rw [kernel_down3]

theorem pay5 (x : FVec Ideal S4096x128 .f32) (a3 a2 a1 a0 : FVec Ideal S1x128 .f32) (p : Fin 4096) (q : Fin 128) :
    k0_pay5 (F := Ideal) (k0_pay3 x a3 a2 a1) a0 (k0_pay4 x) (ix2 p q) = conv (a0 (ix2 0 q)) (a1 (ix2 0 q)) (a2 (ix2 0 q)) (a3 (ix2 0 q)) (fun t => x (ix2 t q)) p := by
  pointwise [k0_pay5, pay3, pay4, downs_apply, conv]

theorem pay9 (u : FVec Ideal S4096x128 .f32) (a : FVec Ideal S1x128 .f32) (v d : FVec Ideal S4096x128 .f32) (p : Fin 4096) (q : Fin 128) :
    k0_pay9 (F := Ideal) u a v d (ix2 p q) = dunit (fun j => silu (k0_pay5 (F := Ideal) u a v (ix2 p j))) (fun j => d (ix2 p j)) q := by
  unfold k0_pay9 k0_pay8 k0_pay7 k0_pay6
  generalize k0_pay5 u a v = g
  pointwise [dunit, eps, silu, Cert.Proof.DGateUp.sig]
  simp only [zero_sub, mul_one, Finset.univ_unique, Finset.sum_singleton]

/-- The block's gradient of the convolution. -/
theorem pay12 (u : FVec Ideal S4096x128 .f32) (a : FVec Ideal S1x128 .f32) (v d : FVec Ideal S4096x128 .f32) (p : Fin 4096) (q : Fin 128) :
    k0_pay12 (F := Ideal) (k0_pay6 u a v) (k0_pay10 u a v d) (k0_pay11 u a v d) (ix2 p q)
      = dsilu (k0_pay5 (F := Ideal) u a v (ix2 p q)) (dunit (fun j => silu (k0_pay5 (F := Ideal) u a v (ix2 p j))) (fun j => d (ix2 p j)) q) := by
  rw [← kernel_dsilu, ← pay9]
  unfold k0_pay12 k0_pay10 k0_pay11 k0_pay8 k0_pay7 k0_pay6
  generalize k0_pay9 u a v d = e
  generalize k0_pay5 u a v = g
  pointwise [Cert.Proof.DGateUp.sig]
  simp only [zero_sub, mul_one]

theorem pay2 (s y z : FVec Ideal S4096x128 .f32) (a3 a2 a1 a0 : FVec Ideal S1x128 .f32) (p : Fin 4096) (q : Fin 128) :
    k0_pay2 (F := Ideal) (k0_pay17 (k0_pay12 s y z) (k0_pay14 s y z a3 a2) a1) a0 (k0_pay19 (k0_pay12 s y z)) (iota .tc S8x128 32 [0] iota_S8x128_d0_w32) (k0_pay20 (k0_pay12 s y z)) 5#32 (ix2 p q)
      = dinput (a0 (ix2 0 q)) (a1 (ix2 0 q)) (a2 (ix2 0 q)) (a3 (ix2 0 q)) (fun t => k0_pay12 (F := Ideal) s y z (ix2 t q)) p := by
  unfold k0_pay2 k0_pay17 k0_pay14 k0_pay19 k0_pay20 k0_pay19
  generalize k0_pay12 s y z = g
  dsimp only
  rw [kernel_up1, kernel_up2, kernel_up3]
  pointwise [ups_apply, dinput]

theorem pay1 (x s y z : FVec Ideal S4096x128 .f32) (r : Fin 8) (q : Fin 128) :
    k0_pay1 (F := Ideal) x (k0_pay12 s y z) (iota .tc S8x128 32 [0] iota_S8x128_d0_w32)
      (k0_pay18 x (k0_pay12 s y z) (iota .tc S8x128 32 [0] iota_S8x128_d0_w32) (k0_pay13 x s y z) k0_pay15 (k0_pay16 x s y z)) (ix2 r q)
      = dtaps (fun t => k0_pay12 (F := Ideal) s y z (ix2 t q)) (fun t => x (ix2 t q)) r := by
  unfold k0_pay1 k0_pay18 k0_pay13 k0_pay15 k0_pay16
  generalize k0_pay12 s y z = g
  dsimp only
  rw [kernel_down1, kernel_down2, kernel_down3]
  pointwise [downs_apply]
  exact rows _ _ _ _ r

/-- A block's gradient of its convolutions. -/
def bgrad (x : Vec Ideal S4096x128 .f32) (w : Vec Ideal S8x128 .f32) (d : Vec Ideal S4096x128 .f32) (q : Fin 128) (p : Fin 4096) : EReal :=
  dsilu (conv (w (ix2 0 q)) (w (ix2 1 q)) (w (ix2 2 q)) (w (ix2 3 q)) (fun t => x (ix2 t q)) p)
    (dunit (fun j => silu (conv (w (ix2 0 j)) (w (ix2 1 j)) (w (ix2 2 j)) (w (ix2 3 j)) (fun t => x (ix2 t j)) p)) (fun j => d (ix2 p j)) q)

/-- The block's first result, from the taps it loads. -/
theorem block_input (x d : FVec Ideal S4096x128 .f32) (w : FVec Ideal S8x128 .f32) (a3 a2 a1 a0 : FVec Ideal S1x128 .f32)
    (e0 : ∀ j, a0 (ix2 0 j) = w (ix2 0 j)) (e1 : ∀ j, a1 (ix2 0 j) = w (ix2 1 j)) (e2 : ∀ j, a2 (ix2 0 j) = w (ix2 2 j)) (e3 : ∀ j, a3 (ix2 0 j) = w (ix2 3 j)) (p : Fin 4096) (q : Fin 128) :
    k0_pay2 (F := Ideal) (k0_pay17 (k0_pay12 (k0_pay6 (k0_pay3 x a3 a2 a1) a0 (k0_pay4 x)) (k0_pay10 (k0_pay3 x a3 a2 a1) a0 (k0_pay4 x) d) (k0_pay11 (k0_pay3 x a3 a2 a1) a0 (k0_pay4 x) d)) (k0_pay14 (k0_pay6 (k0_pay3 x a3 a2 a1) a0 (k0_pay4 x)) (k0_pay10 (k0_pay3 x a3 a2 a1) a0 (k0_pay4 x) d) (k0_pay11 (k0_pay3 x a3 a2 a1) a0 (k0_pay4 x) d) a3 a2) a1) a0 (k0_pay19 (k0_pay12 (k0_pay6 (k0_pay3 x a3 a2 a1) a0 (k0_pay4 x)) (k0_pay10 (k0_pay3 x a3 a2 a1) a0 (k0_pay4 x) d) (k0_pay11 (k0_pay3 x a3 a2 a1) a0 (k0_pay4 x) d))) (iota .tc S8x128 32 [0] iota_S8x128_d0_w32) (k0_pay20 (k0_pay12 (k0_pay6 (k0_pay3 x a3 a2 a1) a0 (k0_pay4 x)) (k0_pay10 (k0_pay3 x a3 a2 a1) a0 (k0_pay4 x) d) (k0_pay11 (k0_pay3 x a3 a2 a1) a0 (k0_pay4 x) d))) 5#32 (ix2 p q)
      = dinput (w (ix2 0 q)) (w (ix2 1 q)) (w (ix2 2 q)) (w (ix2 3 q)) (bgrad x w d q) p := by
  rw [pay2]
  simp only [pay12, pay5, e0, e1, e2, e3]
  rfl

/-- The block's second result, from the taps it loads. -/
theorem block_taps (x d : FVec Ideal S4096x128 .f32) (w : FVec Ideal S8x128 .f32) (a3 a2 a1 a0 : FVec Ideal S1x128 .f32)
    (e0 : ∀ j, a0 (ix2 0 j) = w (ix2 0 j)) (e1 : ∀ j, a1 (ix2 0 j) = w (ix2 1 j)) (e2 : ∀ j, a2 (ix2 0 j) = w (ix2 2 j)) (e3 : ∀ j, a3 (ix2 0 j) = w (ix2 3 j)) (r : Fin 8) (q : Fin 128) :
    k0_pay1 (F := Ideal) x (k0_pay12 (k0_pay6 (k0_pay3 x a3 a2 a1) a0 (k0_pay4 x)) (k0_pay10 (k0_pay3 x a3 a2 a1) a0 (k0_pay4 x) d) (k0_pay11 (k0_pay3 x a3 a2 a1) a0 (k0_pay4 x) d)) (iota .tc S8x128 32 [0] iota_S8x128_d0_w32)
      (k0_pay18 x (k0_pay12 (k0_pay6 (k0_pay3 x a3 a2 a1) a0 (k0_pay4 x)) (k0_pay10 (k0_pay3 x a3 a2 a1) a0 (k0_pay4 x) d) (k0_pay11 (k0_pay3 x a3 a2 a1) a0 (k0_pay4 x) d)) (iota .tc S8x128 32 [0] iota_S8x128_d0_w32) (k0_pay13 x (k0_pay6 (k0_pay3 x a3 a2 a1) a0 (k0_pay4 x)) (k0_pay10 (k0_pay3 x a3 a2 a1) a0 (k0_pay4 x) d) (k0_pay11 (k0_pay3 x a3 a2 a1) a0 (k0_pay4 x) d)) k0_pay15 (k0_pay16 x (k0_pay6 (k0_pay3 x a3 a2 a1) a0 (k0_pay4 x)) (k0_pay10 (k0_pay3 x a3 a2 a1) a0 (k0_pay4 x) d) (k0_pay11 (k0_pay3 x a3 a2 a1) a0 (k0_pay4 x) d))) (ix2 r q)
      = dtaps (bgrad x w d q) (fun t => x (ix2 t q)) r := by
  rw [pay1]
  simp only [pay12, pay5, e0, e1, e2, e3]
  rfl

theorem left3 (c : Dev nD) (i : grid0.Coords) (arg1 : Memref sig .tc .vmem S4096x128 .f32) (harg1 : arg1.IsWhole) (arg2 : Memref sig .tc .vmem S8x128 .f32) (harg2 : arg2.IsWhole) (arg3 : Memref sig .tc .vmem S4096x128 .f32) (harg3 : arg3.IsWhole) (arg5 : Memref sig .tc .vmem S4096x128 .bf16) (harg5 : arg5.IsWhole) (arg6 : Memref sig .tc .vmem S8x128 .f32) (harg6 : arg6.IsWhole)
    (x : Vec Ideal S4096x128 .f32) (w : Vec Ideal S8x128 .f32) (d : Vec Ideal S4096x128 .f32) (p : Fin 4096) (q : Fin 128) :
    out0_A_3 (F := Ideal) c i arg1 harg1 arg2 harg2 arg3 harg3 arg5 harg5 arg6 harg6 x w d (ix2 p q)
      = dinput (w (ix2 0 q)) (w (ix2 1 q)) (w (ix2 2 q)) (w (ix2 3 q)) (bgrad x w d q) p := by
  unfold out0_A_3 kernelRun0_A
  dsimp only
  sl_unfold_words
  simp only [View.readAt_eq_ld, Memref.IsWhole.read_unread]
  rw [View.read_writes_junk_eq_canon]
  rw [View.canon_unit_zero zero2, View.ld_unit_zero zero2, View.ld_unit_zero zero2]
  exact block_input x d w _ _ _ _ (ld_tap0 w _) (ld_tap1 w _) (ld_tap2 w _) (ld_tap3 w _) _ q

theorem left4 (c : Dev nD) (i : grid0.Coords) (arg1 : Memref sig .tc .vmem S4096x128 .f32) (harg1 : arg1.IsWhole) (arg2 : Memref sig .tc .vmem S8x128 .f32) (harg2 : arg2.IsWhole) (arg3 : Memref sig .tc .vmem S4096x128 .f32) (harg3 : arg3.IsWhole) (arg5 : Memref sig .tc .vmem S4096x128 .bf16) (harg5 : arg5.IsWhole) (arg6 : Memref sig .tc .vmem S8x128 .f32) (harg6 : arg6.IsWhole)
    (x : Vec Ideal S4096x128 .f32) (w : Vec Ideal S8x128 .f32) (d : Vec Ideal S4096x128 .f32) (r : Fin 8) (q : Fin 128) :
    out0_A_4 (F := Ideal) c i arg1 harg1 arg2 harg2 arg3 harg3 arg5 harg5 arg6 harg6 x w d (ix2 r q)
      = dtaps (bgrad x w d q) (fun t => x (ix2 t q)) r := by
  unfold out0_A_4 kernelRun0_A
  dsimp only
  sl_unfold_words
  simp only [View.readAt_eq_ld, Memref.IsWhole.read_unread]
  rw [View.read_writes_junk_eq_canon]
  rw [View.canon_unit_zero zero2, View.ld_unit_zero zero2, View.ld_unit_zero zero2]
  exact block_taps x d w _ _ _ _ (ld_tap0 w _) (ld_tap1 w _) (ld_tap2 w _) (ld_tap3 w _) _ q

/-- The blocks are columns, a head's each: the keys' sit eight heads on. -/
theorem idx_facts : ∀ t : Fin cfg0.N, (win0_0.index t 0 = 0 ∧ win0_0.index t 1 = 8 + t.val) ∧ (win0_1.index t 0 = 0 ∧ win0_1.index t 1 = 8 + t.val) ∧ (win0_2.index t 0 = 0 ∧ win0_2.index t 1 = t.val) ∧
    (win0_3.index t 0 = 0 ∧ win0_3.index t 1 = 8 + t.val) ∧ (win0_4.index t 0 = 0 ∧ win0_4.index t 1 = t.val) ∧ (cfg0.win 3).flush t = true ∧ (cfg0.win 4).flush t = true := by
  decide +kernel

theorem steps : cfg0.N = 8 := by decide +kernel

theorem block0 (m : (ℓ : Loc nD τ sig) → Buf (Elt Ideal) ℓ) (c : Dev nD) (t : Fin cfg0.N) (p : Fin 4096) (q : Fin 128) (Q : Fin 1024) (hQ : Q.val = t.val * 128 + q.val) :
    iblk m c 0 t (ix2 p q) = xs 1 (m ((c : Thread nD τ).loc main_arg0)) (ix2 p Q) := by
  obtain ⟨⟨f0, f1⟩, -⟩ := idx_facts t
  refine congrArg (m ((c : Thread nD τ).loc main_arg0)) ?_
  funext a
  match a with
  | 0 => exact Fin.ext (by show win0_0.index t 0 * 4096 + 1 * p.val = p.val; rw [f0]; omega)
  | 1 => exact Fin.ext (by show win0_0.index t 1 * 128 + 1 * q.val = 1024 * 1 + Q.val; rw [f1, hQ]; omega)

theorem block1 (m : (ℓ : Loc nD τ sig) → Buf (Elt Ideal) ℓ) (c : Dev nD) (t : Fin cfg0.N) (r : Fin 4) (q : Fin 128) (Q : Fin 1024) (hQ : Q.val = t.val * 128 + q.val) :
    iblk m c 1 t (ix2 ⟨r.val, by omega⟩ q) = ws 1 (m ((c : Thread nD τ).loc main_arg1)) (ix2 r Q) := by
  obtain ⟨-, ⟨f0, f1⟩, -⟩ := idx_facts t
  refine congrArg (m ((c : Thread nD τ).loc main_arg1)) ?_
  funext a
  match a with
  | 0 => exact Fin.ext (by show win0_1.index t 0 * 8 + 1 * r.val = r.val; rw [f0]; omega)
  | 1 => exact Fin.ext (by show win0_1.index t 1 * 128 + 1 * q.val = 1024 * 1 + Q.val; rw [f1, hQ]; omega)

/-- A block's convolutions are the array's. -/
theorem conv_block (m : (ℓ : Loc nD τ sig) → Buf (Elt Ideal) ℓ) (c : Dev nD) (t : Fin cfg0.N) (p : Fin 4096) (q : Fin 128) (Q : Fin 1024) (hQ : Q.val = t.val * 128 + q.val) :
    conv (iblk m c 1 t (ix2 0 q)) (iblk m c 1 t (ix2 1 q)) (iblk m c 1 t (ix2 2 q)) (iblk m c 1 t (ix2 3 q)) (fun s => iblk m c 0 t (ix2 s q)) p
      = convs (xs 1 (m ((c : Thread nD τ).loc main_arg0))) (ws 1 (m ((c : Thread nD τ).loc main_arg1))) (ix2 p Q) := by
  have e0 := block1 m c t 0 q Q hQ
  have e1 := block1 m c t 1 q Q hQ
  have e2 := block1 m c t 2 q Q hQ
  have e3 := block1 m c t 3 q Q hQ
  refine Eq.trans (congrArg (fun f => conv _ _ _ _ f p) (funext fun s => block0 m c t s q Q hQ)) ?_
  refine Eq.trans (congrArg (fun a => conv a _ _ _ _ p) e0) ?_
  refine Eq.trans (congrArg (fun a => conv _ a _ _ _ p) e1) ?_
  refine Eq.trans (congrArg (fun a => conv _ _ a _ _ p) e2) ?_
  exact congrArg (fun a => conv _ _ _ a _ p) e3

theorem block2 (m : (ℓ : Loc nD τ sig) → Buf (Elt Ideal) ℓ) (c : Dev nD) (t : Fin cfg0.N) (p : Fin 4096) (q : Fin 128) (Q : Fin 1024) (hQ : Q.val = t.val * 128 + q.val) :
    iblk m c 2 t (ix2 p q) = m ((c : Thread nD τ).loc main_arg2) (ix2 p Q) := by
  obtain ⟨-, -, ⟨f0, f1⟩, -⟩ := idx_facts t
  refine congrArg (m ((c : Thread nD τ).loc main_arg2)) ?_
  funext a
  match a with
  | 0 => exact Fin.ext (by show win0_2.index t 0 * 4096 + 1 * p.val = p.val; rw [f0]; omega)
  | 1 => exact Fin.ext (by show win0_2.index t 1 * 128 + 1 * q.val = Q.val; rw [f1, hQ]; omega)

/-- A block's gradients of its convolutions are the array's. -/
theorem grads_block (m : (ℓ : Loc nD τ sig) → Buf (Elt Ideal) ℓ) (c : Dev nD) (t : Fin cfg0.N) (q : Fin 128) (Q : Fin 1024) (hQ : Q.val = t.val * 128 + q.val) :
    bgrad (iblk m c 0 t) (iblk m c 1 t) (iblk m c 2 t) q = fun p => dgrads 1 (m ((c : Thread nD τ).loc main_arg0)) (m ((c : Thread nD τ).loc main_arg1)) (m ((c : Thread nD τ).loc main_arg2)) (ix2 p Q) := by
  have l2 : t.val < 8 := lt_of_lt_of_eq t.isLt steps
  obtain ⟨Q, lQ⟩ := Q
  obtain rfl : Q = t.val * 128 + q.val := hQ
  funext p
  have el : ∀ j : Fin 128, (t.val * 128 + q.val) / 128 * 128 + j.val = t.val * 128 + j.val := fun j => by omega
  have em : (t.val * 128 + q.val) % 128 = q.val := by omega
  have er : dgrads 1 (m ((c : Thread nD τ).loc main_arg0)) (m ((c : Thread nD τ).loc main_arg1)) (m ((c : Thread nD τ).loc main_arg2)) (ix2 p ⟨t.val * 128 + q.val, by omega⟩)
      = dsilu (convs (xs 1 (m ((c : Thread nD τ).loc main_arg0))) (ws 1 (m ((c : Thread nD τ).loc main_arg1))) (ix2 p ⟨t.val * 128 + q.val, by omega⟩))
        (dunit (fun j => silu (convs (xs 1 (m ((c : Thread nD τ).loc main_arg0))) (ws 1 (m ((c : Thread nD τ).loc main_arg1))) (ix2 p ⟨(t.val * 128 + q.val) / 128 * 128 + j.val, by omega⟩)))
          (fun j => (m ((c : Thread nD τ).loc main_arg2)) (ix2 p ⟨(t.val * 128 + q.val) / 128 * 128 + j.val, by omega⟩)) ⟨(t.val * 128 + q.val) % 128, by omega⟩) := rfl
  refine Eq.trans ?_ er.symm
  simp only [el, em]
  refine congr (congrArg dsilu (conv_block m c t p q _ rfl)) (congrFun (congr (congrArg dunit (funext fun j => congrArg silu (conv_block m c t p j ⟨t.val * 128 + j.val, by omega⟩ rfl))) (funext fun j => ?_)) q)
  rw [block2 m c t p j ⟨t.val * 128 + j.val, by omega⟩ rfl]

/-- The gradient of the input, in whole: the other columns are kept. -/
def entries (x : Vec Ideal S4096x7296 .f32) (w : Vec Ideal S8x3072 .f32) (d : Vec Ideal S4096x1024 .f32) (g : Vec Ideal S4096x7296 .bf16) : Vec Ideal S4096x7296 .bf16 :=
  fun y => placed 1 (dinputs (dgrads 1 x w d) (ws 1 w)) g (y 0) (y 1)

/-- The gradient of the taps, in whole. -/
def taps (x : Vec Ideal S4096x7296 .f32) (w : Vec Ideal S8x3072 .f32) (d : Vec Ideal S4096x1024 .f32) : Vec Ideal S8x1024 .f32 :=
  dtapss (dgrads 1 x w d) (xs 1 x)

theorem array3 (m : (ℓ : Loc nD τ sig) → Buf (Elt Ideal) ℓ) (c : Dev nD) :
    (dats m 0 c).arrAt 3 cfg0.N = entries (m ((c : Thread nD τ).loc main_arg0)) (m ((c : Thread nD τ).loc main_arg1)) (m ((c : Thread nD τ).loc main_arg2)) (m ((c : Thread nD τ).loc main_arg3)) := by
  refine ext2 fun p q => ?_
  refine Eq.trans ?_ (show placed 1 (dinputs (dgrads 1 (m ((c : Thread nD τ).loc main_arg0)) (m ((c : Thread nD τ).loc main_arg1)) (m ((c : Thread nD τ).loc main_arg2))) (ws 1 (m ((c : Thread nD τ).loc main_arg1)))) (m ((c : Thread nD τ).loc main_arg3)) p q = _ from rfl)
  by_cases h : 1024 * 1 ≤ q.val ∧ q.val < 1024 * 1 + 1024
  · have ht : (q.val - 1024) / 128 < cfg0.N := by rw [steps]; omega
    obtain ⟨-, -, -, ⟨f0, f1⟩, -, hf, -⟩ := idx_facts ⟨(q.val - 1024) / 128, ht⟩
    generalize et : (⟨(q.val - 1024) / 128, ht⟩ : Fin cfg0.N) = t at f0 f1 hf
    have tv : t.val = (q.val - 1024) / 128 := congrArg Fin.val et.symm
    clear et
    have e := congrFun (Cert.ConvKBwdIdeal.Value.blocks3 m c t hf) (ix2 p (⟨(q.val - 1024) % 128, by omega⟩ : Fin 128))
    have ei : ((cfg0.win 3).blk t).view.emb (ix2 p (⟨(q.val - 1024) % 128, by omega⟩ : Fin 128)) = ix2 p q := by
      funext a
      match a with
      | 0 => exact Fin.ext (by show win0_3.index t 0 * 4096 + 1 * p.val = p.val; rw [f0]; omega)
      | 1 => exact Fin.ext (by show win0_3.index t 1 * 128 + 1 * ((q.val - 1024) % 128) = q.val; rw [f1]; omega)
    refine (congrArg ((dats m 0 c).arrAt 3 cfg0.N) ei.symm).trans (e.trans ?_)
    rw [Cert.ConvKBwdIdeal.Value.flushed3_A]
    refine (left3 c _ _ _ _ _ _ _ _ _ _ _ (iblk m c 0 t) (iblk m c 1 t) (iblk m c 2 t) p _).trans ?_
    refine Eq.trans ?_ (placed_pos 1 _ _ p q h).symm
    rw [grads_block m c t _ ⟨q.val - 1024, by omega⟩ (by show q.val - 1024 = t.val * 128 + (q.val - 1024) % 128; omega)]
    have ew := fun r => block1 m c t r ⟨(q.val - 1024) % 128, by omega⟩ ⟨q.val - 1024, by omega⟩ (by show q.val - 1024 = t.val * 128 + (q.val - 1024) % 128; omega)
    refine Eq.trans (congrArg (fun a => dinput a _ _ _ _ p) (ew 0)) ?_
    refine Eq.trans (congrArg (fun a => dinput _ a _ _ _ p) (ew 1)) ?_
    refine Eq.trans (congrArg (fun a => dinput _ _ a _ _ p) (ew 2)) ?_
    exact congrArg (fun a => dinput _ _ _ a _ p) (ew 3)
  · rw [Cert.ConvKBwdIdeal.Value.entry3]
    · exact (placed_neg 1 _ _ p q h).symm
    · intro t _ hm
      obtain ⟨y, -, hy⟩ := Finset.mem_map.mp hm
      have e1 : win0_3.index t 1 * 128 + 1 * (y 1).val = q.val := congrArg Fin.val (congrFun hy 1)
      have l1 : (y 1).val < 128 := (y 1).isLt
      have l2 : t.val < 8 := lt_of_lt_of_eq t.isLt steps
      rw [(idx_facts t).2.2.2.1.2] at e1
      exact h ⟨by show 1024 * 1 ≤ q.val; omega, by show q.val < 1024 * 1 + 1024; omega⟩

theorem array4 (m : (ℓ : Loc nD τ sig) → Buf (Elt Ideal) ℓ) (c : Dev nD) :
    (dats m 0 c).arrAt 4 cfg0.N = taps (m ((c : Thread nD τ).loc main_arg0)) (m ((c : Thread nD τ).loc main_arg1)) (m ((c : Thread nD τ).loc main_arg2)) := by
  refine Pipeline.Dat.arrAt_eq_of_covers (dats m 0 c) 4 _ (by decide +kernel) fun t _ y => ?_
  show (dats m 0 c).after 4 t y = _
  rw [after0_4]
  simp only [outsAt0]
  obtain ⟨r, q, rfl⟩ : ∃ (r : Fin 8) (q : Fin 128), y = ix2 r q := ⟨y 0, y 1, eq_ix2 y⟩
  obtain ⟨-, -, -, -, ⟨f0, f1⟩, -⟩ := idx_facts t
  have l2 : t.val < 8 := lt_of_lt_of_eq t.isLt steps
  have ei : ((cfg0.win 4).blk t).view.emb (ix2 r q) = ix2 r (⟨t.val * 128 + q.val, by omega⟩ : Fin 1024) := by
    funext a
    match a with
    | 0 => exact Fin.ext (by show win0_4.index t 0 * 8 + 1 * r.val = r.val; rw [f0]; omega)
    | 1 => exact Fin.ext (by show win0_4.index t 1 * 128 + 1 * q.val = t.val * 128 + q.val; rw [f1]; omega)
  refine Eq.trans ?_ (congrArg (taps (m ((c : Thread nD τ).loc main_arg0)) (m ((c : Thread nD τ).loc main_arg1)) (m ((c : Thread nD τ).loc main_arg2))) ei.symm)
  refine (left4 c _ _ _ _ _ _ _ _ _ _ _ (iblk m c 0 t) (iblk m c 1 t) (iblk m c 2 t) r q).trans ?_
  rw [grads_block m c t q ⟨t.val * 128 + q.val, by omega⟩ rfl, funext fun s => block0 m c t s q ⟨t.val * 128 + q.val, by omega⟩ rfl]
  rfl

open Cert.ConvKBwdRefIdeal.Value in
theorem reference_conv1 (V : Valuation Cert.ConvKBwdRefIdeal.τ Cert.ConvKBwdRefIdeal.sig (Elt Ideal)) :
    res_main_v25 V = convs (xs 1 (V (Proc.devRef .tc Cert.ConvKBwdRefIdeal.main_arg0))) (ws 1 (V (Proc.devRef .tc Cert.ConvKBwdRefIdeal.main_arg1))) := by
  unfold res_main_v25 res_main_v5 res_main_v6 res_main_v11 res_main_v12 res_main_v16 res_main_v17 res_main_v21 res_main_v22 res_main_v3 res_main_v1
  rw [reference_down3, reference_down2, reference_down1, reference_down0, reference_conv, reference_xs 1 (show _ = 1024 from rfl), reference_ws 1 (show _ = 1024 from rfl)]

open Cert.ConvKBwdRefIdeal.Value in
theorem reference_grad1 (V : Valuation Cert.ConvKBwdRefIdeal.τ Cert.ConvKBwdRefIdeal.sig (Elt Ideal)) :
    res_main_v54 V = dgrads 1 (V (Proc.devRef .tc Cert.ConvKBwdRefIdeal.main_arg0)) (V (Proc.devRef .tc Cert.ConvKBwdRefIdeal.main_arg1)) (V (Proc.devRef .tc Cert.ConvKBwdRefIdeal.main_arg2)) := by
  have e : res_main_v53 V = dunits (silus (res_main_v25 V)) (V (Proc.devRef .tc Cert.ConvKBwdRefIdeal.main_arg2)) := by
    unfold res_main_v53 res_main_v48 res_main_v40 res_main_v33 res_main_v32 res_main_v27 res_main_v26_2
    rw [reference_silu]
    exact reference_dunit _ _ _ _ _ _ _ _ _ _ _ _ _ _ rfl rfl
  unfold res_main_v54 res_main_v26_2
  rw [reference_dsilu, e, reference_conv1]
  rfl

open Cert.ConvKBwdRefIdeal.Value in
theorem reference_input1 (V : Valuation Cert.ConvKBwdRefIdeal.τ Cert.ConvKBwdRefIdeal.sig (Elt Ideal)) (h) :
    extractStridedSlice Cols ![3, 0] (res_main_v86 V) h = dinputs (dgrads 1 (V (Proc.devRef .tc Cert.ConvKBwdRefIdeal.main_arg0)) (V (Proc.devRef .tc Cert.ConvKBwdRefIdeal.main_arg1)) (V (Proc.devRef .tc Cert.ConvKBwdRefIdeal.main_arg2)))
      (ws 1 (V (Proc.devRef .tc Cert.ConvKBwdRefIdeal.main_arg1))) := by
  unfold res_main_v86 res_main_v5 res_main_v11 res_main_v16 res_main_v21 res_main_v1
  rw [reference_dinput, reference_grad1, reference_ws 1 (show _ = 1024 from rfl)]

theorem algebraic : Cert.algebraic_ConvKBwdIdeal_ConvKBwdRefIdeal (hConvKBwdIdeal := Cert.ConvKBwdIdeal.Gen.facts)
    (hConvKBwdRefIdeal := Cert.ConvKBwdRefIdeal.Gen.facts) := by
  intro m g m' g' _ hagree
  refine ⟨fun c => entries (m ((c : Thread nD τ).loc main_arg0)) (m ((c : Thread nD τ).loc main_arg1)) (m ((c : Thread nD τ).loc main_arg2)) (m ((c : Thread nD τ).loc main_arg3)),
    fun c => taps (m ((c : Thread nD τ).loc main_arg0)) (m ((c : Thread nD τ).loc main_arg1)) (m ((c : Thread nD τ).loc main_arg2)), ?_, ?_⟩
  · exact (θ_run _ _ _).mono (fun r h c => ⟨(h c).1.trans (array3 m c), (h c).2.1.trans (array4 m c), (h c).2.2⟩) (Cert.ConvKBwdIdeal.Value.run_blocks m g)
  · refine (θ_run _ _ _).mono (fun r h c => ⟨(h c).1.trans ?_, (h c).2.1.trans ?_, (h c).2.2⟩) (Cert.ConvKBwdRefIdeal.Value.run m' g')
    · rw [reference_input1]
      exact (reference_placed1 _ _ _ _ _ _).trans (by
        have e0 : StableHlo.launchContents m' c (Proc.devRef .tc Cert.ConvKBwdRefIdeal.main_arg0) = m ((c : Thread nD τ).loc main_arg0) := (hagree c).1
        have e1 : StableHlo.launchContents m' c (Proc.devRef .tc Cert.ConvKBwdRefIdeal.main_arg1) = m ((c : Thread nD τ).loc main_arg1) := (hagree c).2.1
        have e2 : StableHlo.launchContents m' c (Proc.devRef .tc Cert.ConvKBwdRefIdeal.main_arg2) = m ((c : Thread nD τ).loc main_arg2) := (hagree c).2.2.1
        have e3 : StableHlo.launchContents m' c (Proc.devRef .tc Cert.ConvKBwdRefIdeal.main_arg3) = m ((c : Thread nD τ).loc main_arg3) := (hagree c).2.2.2
        rw [e0, e1, e2, e3]
        rfl)
    · have e0 : StableHlo.launchContents m' c (Proc.devRef .tc Cert.ConvKBwdRefIdeal.main_arg0) = m ((c : Thread nD τ).loc main_arg0) := (hagree c).1
      have e1 : StableHlo.launchContents m' c (Proc.devRef .tc Cert.ConvKBwdRefIdeal.main_arg1) = m ((c : Thread nD τ).loc main_arg1) := (hagree c).2.1
      have e2 : StableHlo.launchContents m' c (Proc.devRef .tc Cert.ConvKBwdRefIdeal.main_arg2) = m ((c : Thread nD τ).loc main_arg2) := (hagree c).2.2.1
      unfold Cert.ConvKBwdRefIdeal.Value.res_main_v6 Cert.ConvKBwdRefIdeal.Value.res_main_v12 Cert.ConvKBwdRefIdeal.Value.res_main_v17 Cert.ConvKBwdRefIdeal.Value.res_main_v22 Cert.ConvKBwdRefIdeal.Value.res_main_v3
      rw [reference_down3, reference_down2, reference_down1, reference_down0, reference_dtaps, reference_grad1, reference_xs 1 (show _ = 1024 from rfl), e0, e1, e2]
      rfl

theorem frame_ideal : Cert.quiescent_ConvKBwdIdeal (hConvKBwdIdeal := Cert.ConvKBwdIdeal.Gen.facts) :=
  fun m ρ _ => Cert.ConvKBwdIdeal.Gen.frame m ρ

theorem frame_reference : Cert.quiescent_ConvKBwdRefIdeal (hConvKBwdRefIdeal := Cert.ConvKBwdRefIdeal.Gen.facts) :=
  fun m ρ _ => (θ_run Cert.ConvKBwdRefIdeal.defs _ _).mono
    (fun r h => ⟨fun c => (h c).2.2, sem_eq_zero_of_no_sems (by decide) r.2⟩) (Cert.ConvKBwdRefIdeal.Value.run m ρ)

theorem frame_kernel : Cert.quiescent_ConvKBwd (hConvKBwd := Cert.ConvKBwd.Gen.facts) :=
  fun m ρ _ => Cert.ConvKBwd.Gen.frame m ρ

end Cert.Proof.ConvKBwd

end
-- ==== Proof.CastInto.lean ====
module

public import proofs.«01_k».proof.Defs
public import proofs.«01_k».proof.Proof.Entries
public import proofs.«01_k».proof.Proof.Gen.CastInto.Frame
public import proofs.«01_k».proof.Proof.Gen.CastIntoIdeal.Value
public import proofs.«01_k».proof.Proof.Gen.CastIntoRefIdeal.Run
public import Idealize.ShloMosaic.Lib.Pipeline.ValueKit.Geometry
public import Idealize.ShloMosaic.Adequacy
public import Idealize.ShloMosaic.Init

@[expose] public section

set_option maxRecDepth 16384

noncomputable section

namespace Cert.Proof.CastInto

open Cert.CastIntoIdeal Cert.CastIntoIdeal.Gen Cert.Hand.Entries Idealize.ShloMosaic Idealize.ShloMosaic.TcCoe Idealize.SL.Sem

theorem left1 (c : Dev nD) (i : grid0.Coords) (arg1 : Memref sig .tc .vmem S512x1024 .f32) (harg1 : arg1.IsWhole) (arg3 : Memref sig .tc .vmem S512x1024 .bf16) (harg3 : arg3.IsWhole)
    (x0 : Vec Ideal S512x1024 .f32) (p : Fin 512) (q : Fin 1024) :
    (out0_A_1 c i arg1 harg1 arg3 harg3 x0 (ix2 p q) : EReal) = x0 (ix2 p q) := by
  unfold out0_A_1 kernelRun0_A
  dsimp only
  sl_unfold_words
  simp only [View.readAt_eq_ld, Memref.IsWhole.read_unread]
  rw [View.read_writes_junk_eq_canon]
  rw [View.canon_unit_zero zero2, View.ld_unit_zero zero2]
  pointwise [k0_pay1]

/-- An entry of the result: the gradient's in the values' columns, elsewhere what stood there. -/
def entry (d : Vec Ideal S4096x1024 .f32) (g : Vec Ideal S4096x7296 .bf16) (p : Fin 4096) (q : Fin 7296) : EReal :=
  if h : 6144 ≤ q.val ∧ q.val < 7168 then (d (ix2 p ⟨q.val - 6144, by omega⟩) : EReal) else (g (ix2 p q) : EReal)

def entries (d : Vec Ideal S4096x1024 .f32) (g : Vec Ideal S4096x7296 .bf16) : Vec Ideal S4096x7296 .bf16 := fun y => entry d g (y 0) (y 1)

/-- The gradient's blocks are bands of rows, the result's the same rows of the values' columns. -/
theorem idx_facts : ∀ t : Fin cfg0.N, win0_0.index t 0 = t.val ∧ win0_0.index t 1 = 0 ∧ win0_1.index t 0 = t.val ∧ win0_1.index t 1 = 6 ∧ (cfg0.win 1).flush t = true := by
  decide +kernel

/-- No block of the result's is cut off. -/
theorem whole : ∀ (t : Fin cfg0.N) (a : Fin 2), ((cfg0.win 1).xblock (cfg0.grid.coords t)).size a = ![512, 1024] a := by
  decide +kernel

theorem steps : cfg0.N = 8 := by decide +kernel

theorem array1 (m : (ℓ : Loc nD τ sig) → Buf (Elt Ideal) ℓ) (c : Dev nD) :
    (dats m 0 c).arrAt 1 cfg0.N = entries (m ((c : Thread nD τ).loc main_arg0)) (m ((c : Thread nD τ).loc main_arg1)) := by
  refine ext2 fun p q => ?_
  refine Eq.trans ?_ (show entry (m ((c : Thread nD τ).loc main_arg0)) (m ((c : Thread nD τ).loc main_arg1)) p q = _ from rfl)
  by_cases h : 6144 ≤ q.val ∧ q.val < 7168
  · have ht : p.val / 512 < cfg0.N := by rw [steps]; omega
    obtain ⟨f0, f1, f2, f3, hf⟩ := idx_facts ⟨p.val / 512, ht⟩
    generalize et : (⟨p.val / 512, ht⟩ : Fin cfg0.N) = t at f0 f1 f2 f3 hf
    have tv : t.val = p.val / 512 := congrArg Fin.val et.symm
    clear et
    let y : ((cfg0.win 1).xblock (cfg0.grid.coords t)).Idx := fun a =>
      match a with
      | 0 => ⟨p.val % 512, by rw [whole t 0]; show p.val % 512 < 512; omega⟩
      | 1 => ⟨q.val - 6144, by rw [whole t 1]; show q.val - 6144 < 1024; omega⟩
    have e := congrFun (Cert.CastIntoIdeal.Value.blocks1 m c t hf) y
    have ei : ((cfg0.win 1).blk t).view.emb y = ix2 p q := by
      funext a
      match a with
      | 0 => exact Fin.ext (by show win0_1.index t 0 * 512 + 1 * (p.val % 512) = p.val; rw [f2]; omega)
      | 1 => exact Fin.ext (by show win0_1.index t 1 * 1024 + 1 * (q.val - 6144) = q.val; rw [f3]; omega)
    refine (congrArg ((dats m 0 c).arrAt 1 cfg0.N) ei.symm).trans (e.trans ?_)
    rw [Cert.CastIntoIdeal.Value.flushed1_A]
    have ec : (cfg0.win 1).xinj (cfg0.grid.coords t) y = ix2 (⟨p.val % 512, by omega⟩ : Fin 512) (⟨q.val - 6144, by omega⟩ : Fin 1024) := by
      funext a
      match a with
      | 0 => rfl
      | 1 => rfl
    refine Eq.trans (congrArg (out0_A_1 c (grid0.coords t) (ms0_0 t) (hs0_0 t) (ms0_1 t) (hs0_1 t) (iblk m c 0 t)) ec) ?_
    refine (left1 c _ _ _ _ _ (iblk m c 0 t) _ _).trans ?_
    unfold entry
    rw [dif_pos h]
    refine congrArg (m ((c : Thread nD τ).loc main_arg0)) ?_
    funext a
    match a with
    | 0 => exact Fin.ext (by show win0_0.index t 0 * 512 + 1 * (p.val % 512) = p.val; rw [f0]; omega)
    | 1 => exact Fin.ext (by show win0_0.index t 1 * 1024 + 1 * (q.val - 6144) = q.val - 6144; rw [f1]; omega)
  · rw [Cert.CastIntoIdeal.Value.entry1]
    · unfold entry
      rw [dif_neg h]
      rfl
    · intro t _ hm
      obtain ⟨y, -, hy⟩ := Finset.mem_map.mp hm
      have e1 : win0_1.index t 1 * 1024 + 1 * (y 1).val = q.val := congrArg Fin.val (congrFun hy 1)
      have l1 : (y 1).val < 1024 := (y 1).isLt
      rw [(idx_facts t).2.2.2.1] at e1
      exact h ⟨by omega, by omega⟩

theorem algebraic : Cert.algebraic_CastIntoIdeal_CastIntoRefIdeal (hCastIntoIdeal := Cert.CastIntoIdeal.Gen.facts)
    (hCastIntoRefIdeal := Cert.CastIntoRefIdeal.Gen.facts) := by
  intro m g m' g' _ hagree
  refine ⟨fun c => entries (m ((c : Thread nD τ).loc main_arg0)) (m ((c : Thread nD τ).loc main_arg1)), ?_, ?_⟩
  · exact (θ_run _ _ _).mono (fun r h c => ⟨(h c).1.trans (array1 m c), (h c).2⟩) (Cert.CastIntoIdeal.Value.run_blocks m g)
  · refine (θ_run _ _ _).mono (fun r h c => ⟨(h c).1.trans ?_, (h c).2⟩) (Cert.CastIntoRefIdeal.Value.run m' g')
    rw [(hagree c).1, (hagree c).2]
    beta_reduce
    generalize m ((c : Thread nD τ).loc main_arg0) = d
    generalize m ((c : Thread nD τ).loc main_arg1) = g
    refine ext2 fun p q => ?_
    refine Eq.trans ?_ (show entry d g p q = entries d g (ix2 p q) from rfl)
    pointwise [entry]
    by_cases h0 : q.val < 6144
    · rw [dif_pos h0, dif_neg (by omega)]
    · rw [dif_neg h0]
      by_cases h1 : q.val - 6144 < 1024
      · rw [dif_pos h1, dif_pos (by omega)]
      · rw [dif_neg h1, dif_neg (by omega)]
        exact congrArg (fun k => g (ix2 p k)) (Fin.ext (by show 7168 + (q.val - 6144 - 1024) = q.val; omega))

theorem frame_ideal : Cert.quiescent_CastIntoIdeal (hCastIntoIdeal := Cert.CastIntoIdeal.Gen.facts) :=
  fun m ρ _ => Cert.CastIntoIdeal.Gen.frame m ρ

theorem frame_reference : Cert.quiescent_CastIntoRefIdeal (hCastIntoRefIdeal := Cert.CastIntoRefIdeal.Gen.facts) :=
  fun m ρ _ => (θ_run Cert.CastIntoRefIdeal.defs _ _).mono
    (fun r h => ⟨fun c => (h c).2, sem_eq_zero_of_no_sems (by decide) r.2⟩) (Cert.CastIntoRefIdeal.Value.run m ρ)

theorem frame_kernel : Cert.quiescent_CastInto (hCastInto := Cert.CastInto.Gen.facts) :=
  fun m ρ _ => Cert.CastInto.Gen.frame m ρ

end Cert.Proof.CastInto

end
-- ==== Proof.NormFwd.lean ====
module

public import proofs.«01_k».proof.Defs
public import proofs.«01_k».proof.Proof.Entries
public import proofs.«01_k».proof.Proof.Gen.NormFwd.Frame
public import proofs.«01_k».proof.Proof.Gen.NormFwdIdeal.Value
public import proofs.«01_k».proof.Proof.Gen.NormFwdRefIdeal.Run
public import Idealize.ShloMosaic.Lib.Pipeline.ValueKit.Geometry
public import Idealize.ShloMosaic.Adequacy
public import Idealize.ShloMosaic.Init

@[expose] public section

set_option maxRecDepth 16384

noncomputable section

namespace Cert.Proof.NormFwd

open Cert.NormFwdIdeal Cert.NormFwdIdeal.Gen Cert.Hand.Entries Idealize.ShloMosaic Idealize.ShloMosaic.TcCoe Idealize.SL.Sem

/-- An entry of the normed row, scaled by its weight. -/
def normed {n : ℕ} (x : Vec Ideal ⟨2, ![n, 2048]⟩ .f32) (w : Vec Ideal S1x2048 .f32) (p : Fin n) (q : Fin 2048) : EReal :=
  (x (ix2 p q) : EReal)
    * Idealize.ShloMosaic.Ideal.rsqrt (Idealize.ShloMosaic.Ideal.div (∑ k : Fin 2048, (x (ix2 p k) : EReal) * (x (ix2 p k) : EReal)) (Idealize.ShloMosaic.Ideal.ofBits .f32 0x45000000#32)
      + Idealize.ShloMosaic.Ideal.ofBits .f32 0x358637BD#32)
    * (w (ix2 0 q) : EReal)

def normeds (x : Vec Ideal S4096x2048 .f32) (w : Vec Ideal S1x2048 .f32) : Vec Ideal S4096x2048 .bf16 := fun y => normed x w (y 0) (y 1)

theorem left2 (c : Dev nD) (i : grid0.Coords) (arg1 : Memref sig .tc .vmem S512x2048 .f32) (harg1 : arg1.IsWhole) (arg2 : Memref sig .tc .vmem S1x2048 .f32) (harg2 : arg2.IsWhole) (arg4 : Memref sig .tc .vmem S512x2048 .bf16) (harg4 : arg4.IsWhole)
    (x0 : Vec Ideal S512x2048 .f32) (x1 : Vec Ideal S1x2048 .f32) (p : Fin 512) (q : Fin 2048) :
    (out0_A_2 c i arg1 harg1 arg2 harg2 arg4 harg4 x0 x1 (ix2 p q) : EReal) = normed x0 x1 p q := by
  unfold out0_A_2 kernelRun0_A
  dsimp only
  sl_unfold_words
  simp only [View.readAt_eq_ld, Memref.IsWhole.read_unread]
  rw [View.read_writes_junk_eq_canon]
  rw [View.canon_unit_zero zero2, View.ld_unit_zero zero2, View.ld_unit_zero zero2]
  pointwise [k0_pay1, normed]

/-- The windows stand on the same rows, the weight's on all of it. -/
theorem idx_facts : ∀ t : Fin cfg0.N, (win0_0.index t 0 = win0_2.index t 0 ∧ win0_0.index t 1 = 0) ∧ (win0_1.index t 0 = 0 ∧ win0_1.index t 1 = 0) ∧ win0_2.index t 1 = 0 := by
  decide +kernel

theorem array2 (m : (ℓ : Loc nD τ sig) → Buf (Elt Ideal) ℓ) (c : Dev nD) :
    (dats m 0 c).arrAt 2 cfg0.N = normeds (m ((c : Thread nD τ).loc main_arg0)) (m ((c : Thread nD τ).loc main_arg1)) := by
  refine Pipeline.Dat.arrAt_eq_of_covers (dats m 0 c) 2 _ (by decide +kernel) fun t _ y => ?_
  obtain ⟨p, q, rfl⟩ : ∃ (p : Fin 512) (q : Fin 2048), y = ix2 p q := ⟨y 0, y 1, eq_ix2 y⟩
  obtain ⟨⟨f0, f1⟩, ⟨g0, g1⟩, f2⟩ := idx_facts t
  show (dats m 0 c).after 2 t (ix2 p q) = _
  rw [after0_2]
  refine (left2 c _ _ _ _ _ _ _ (iblk m c 0 t) (iblk m c 1 t) p q).trans ?_
  have ex : ∀ k : Fin 2048, (iblk m c 0 t : Vec Ideal S512x2048 .f32) (ix2 p k) = (m ((c : Thread nD τ).loc main_arg0) : Vec Ideal S4096x2048 .f32) (ix2 (((cfg0.win 2).blk t).view.emb (ix2 p q) 0) k) := by
    intro k
    refine congrArg (m ((c : Thread nD τ).loc main_arg0)) ?_
    funext a
    match a with
    | 0 => exact Fin.ext (by show win0_0.index t 0 * 512 + 1 * p.val = win0_2.index t 0 * 512 + 1 * p.val; rw [f0])
    | 1 => exact Fin.ext (by show win0_0.index t 1 * 2048 + 1 * k.val = k.val; rw [f1]; omega)
  have ew : (iblk m c 1 t : Vec Ideal S1x2048 .f32) (ix2 0 q) = (m ((c : Thread nD τ).loc main_arg1) : Vec Ideal S1x2048 .f32) (ix2 0 q) := by
    refine congrArg (m ((c : Thread nD τ).loc main_arg1)) ?_
    funext a
    match a with
    | 0 => exact Fin.ext (by show win0_1.index t 0 * 1 + 1 * 0 = 0; rw [g0])
    | 1 => exact Fin.ext (by show win0_1.index t 1 * 2048 + 1 * q.val = q.val; rw [g1]; omega)
  have eq : ((cfg0.win 2).blk t).view.emb (ix2 p q) 1 = q := Fin.ext (by show win0_2.index t 1 * 2048 + 1 * q.val = q.val; rw [f2]; omega)
  refine Eq.trans ?_ (show normed (m ((c : Thread nD τ).loc main_arg0)) (m ((c : Thread nD τ).loc main_arg1)) (((cfg0.win 2).blk t).view.emb (ix2 p q) 0) (((cfg0.win 2).blk t).view.emb (ix2 p q) 1) = _ from rfl)
  rw [eq]
  unfold normed
  rw [ew, ex q]
  simp only [ex]

theorem algebraic : Cert.algebraic_NormFwdIdeal_NormFwdRefIdeal (hNormFwdIdeal := Cert.NormFwdIdeal.Gen.facts)
    (hNormFwdRefIdeal := Cert.NormFwdRefIdeal.Gen.facts) := by
  intro m g m' g' _ hagree
  refine ⟨fun c => normeds (m ((c : Thread nD τ).loc main_arg0)) (m ((c : Thread nD τ).loc main_arg1)), ?_, ?_⟩
  · exact (θ_run _ _ _).mono (fun r h c => ⟨(h c).1.trans (array2 m c), (h c).2⟩) (Cert.NormFwdIdeal.Value.run_blocks m g)
  · refine (θ_run _ _ _).mono (fun r h c => ⟨(h c).1.trans ?_, (h c).2⟩) (Cert.NormFwdRefIdeal.Value.run m' g')
    rw [(hagree c).1, (hagree c).2.1]
    beta_reduce
    generalize m ((c : Thread nD τ).loc main_arg0) = x
    generalize m ((c : Thread nD τ).loc main_arg1) = w
    refine ext2 fun p q => ?_
    refine Eq.trans ?_ (show normed x w p q = normeds x w (ix2 p q) from rfl)
    pointwise [normed]

theorem frame_ideal : Cert.quiescent_NormFwdIdeal (hNormFwdIdeal := Cert.NormFwdIdeal.Gen.facts) :=
  fun m ρ _ => Cert.NormFwdIdeal.Gen.frame m ρ

theorem frame_reference : Cert.quiescent_NormFwdRefIdeal (hNormFwdRefIdeal := Cert.NormFwdRefIdeal.Gen.facts) :=
  fun m ρ _ => (θ_run Cert.NormFwdRefIdeal.defs _ _).mono
    (fun r h => ⟨fun c => (h c).2, sem_eq_zero_of_no_sems (by decide) r.2⟩) (Cert.NormFwdRefIdeal.Value.run m ρ)

theorem frame_kernel : Cert.quiescent_NormFwd (hNormFwd := Cert.NormFwd.Gen.facts) :=
  fun m ρ _ => Cert.NormFwd.Gen.frame m ρ

end Cert.Proof.NormFwd

end
-- ==== Proof.ConvV.lean ====
module

public import proofs.«01_k».proof.Defs
public import proofs.«01_k».proof.Proof.Conv
public import proofs.«01_k».proof.Proof.Gen.ConvV.Frame
public import proofs.«01_k».proof.Proof.Gen.ConvVIdeal.Value
public import proofs.«01_k».proof.Proof.Gen.ConvVRefIdeal.Run
public import Idealize.ShloMosaic.Lib.Pipeline.ValueKit.Geometry
public import Idealize.ShloMosaic.Adequacy
public import Idealize.ShloMosaic.Init

@[expose] public section

set_option maxRecDepth 200000

noncomputable section

namespace Cert.Proof.ConvV

open Cert.ConvVIdeal Cert.ConvVIdeal.Gen Cert.Hand.Entries Cert.Hand.Conv Idealize.ShloMosaic Idealize.ShloMosaic.TcCoe Idealize.SL.Sem

theorem pay2 (x : FVec Ideal S4096x128 .f32) (a b c : FVec Ideal S1x128 .f32) (p : Fin 4096) (q : Fin 128) :
    k0_pay2 (F := Ideal) x a b c (ix2 p q) = a (ix2 0 q) * x (ix2 p q) + b (ix2 0 q) * down 1 (fun t => x (ix2 t q)) p + c (ix2 0 q) * down 2 (fun t => x (ix2 t q)) p := by
  unfold k0_pay2
  dsimp only
  rw [kernel_down1, kernel_down2]
  pointwise [downs_apply]

theorem pay3 (x : FVec Ideal S4096x128 .f32) : k0_pay3 (F := Ideal) x = (downs 3 x : FVec Ideal S4096x128 .f32) := by
  unfold k0_pay3
  dsimp only
  rw [kernel_down3]

theorem left2 (x : Vec Ideal S4096x128 .f32) (w : Vec Ideal S8x128 .f32) (p : Fin 4096) (q : Fin 128) :
    out0_2 (F := Ideal) x w (ix2 p q)
      = silu (conv (w (ix2 0 q)) (w (ix2 1 q)) (w (ix2 2 q)) (w (ix2 3 q)) (fun t => x (ix2 t q)) p) := by
  unfold out0_2
  rw [View.canon_unit_zero zero2, View.ld_unit_zero zero2]
  pointwise [k0_pay1, pay2, pay3, downs_apply, ld_tap0, ld_tap1, ld_tap2, ld_tap3, silu, Cert.Proof.DGateUp.sig, conv]
  simp only [zero_sub]

theorem idx_facts : ∀ t : Fin cfg0.N, (win0_0.index t 0 = 0 ∧ win0_0.index t 1 = 16 + t.val) ∧ (win0_1.index t 0 = 0 ∧ win0_1.index t 1 = 16 + t.val) ∧ (win0_2.index t 0 = 0 ∧ win0_2.index t 1 = t.val) := by
  decide +kernel

theorem steps : cfg0.N = 8 := by decide +kernel

/-- A block's column is the array's, a head's columns on. -/
theorem block0 (m : (ℓ : Loc nD τ sig) → Buf (Elt Ideal) ℓ) (c : Dev nD) (t : Fin cfg0.N) (p : Fin 4096) (q : Fin 128) (Q : Fin 1024) (hQ : Q.val = t.val * 128 + q.val) :
    iblk m c 0 t (ix2 p q) = xs 2 (m ((c : Thread nD τ).loc main_arg0)) (ix2 p Q) := by
  obtain ⟨⟨f0, f1⟩, -⟩ := idx_facts t
  refine congrArg (m ((c : Thread nD τ).loc main_arg0)) ?_
  funext a
  match a with
  | 0 => exact Fin.ext (by show win0_0.index t 0 * 4096 + 1 * p.val = p.val; rw [f0]; omega)
  | 1 => exact Fin.ext (by show win0_0.index t 1 * 128 + 1 * q.val = 1024 * 2 + Q.val; rw [f1, hQ]; omega)

theorem block1 (m : (ℓ : Loc nD τ sig) → Buf (Elt Ideal) ℓ) (c : Dev nD) (t : Fin cfg0.N) (r : Fin 4) (q : Fin 128) (Q : Fin 1024) (hQ : Q.val = t.val * 128 + q.val) :
    iblk m c 1 t (ix2 ⟨r.val, by omega⟩ q) = ws 2 (m ((c : Thread nD τ).loc main_arg1)) (ix2 r Q) := by
  obtain ⟨-, ⟨f0, f1⟩, -⟩ := idx_facts t
  refine congrArg (m ((c : Thread nD τ).loc main_arg1)) ?_
  funext a
  match a with
  | 0 => exact Fin.ext (by show win0_1.index t 0 * 8 + 1 * r.val = r.val; rw [f0]; omega)
  | 1 => exact Fin.ext (by show win0_1.index t 1 * 128 + 1 * q.val = 1024 * 2 + Q.val; rw [f1, hQ]; omega)

/-- A block's convolutions are the array's. -/
theorem conv_block (m : (ℓ : Loc nD τ sig) → Buf (Elt Ideal) ℓ) (c : Dev nD) (t : Fin cfg0.N) (p : Fin 4096) (q : Fin 128) (Q : Fin 1024) (hQ : Q.val = t.val * 128 + q.val) :
    conv (iblk m c 1 t (ix2 0 q)) (iblk m c 1 t (ix2 1 q)) (iblk m c 1 t (ix2 2 q)) (iblk m c 1 t (ix2 3 q)) (fun s => iblk m c 0 t (ix2 s q)) p
      = convs (xs 2 (m ((c : Thread nD τ).loc main_arg0))) (ws 2 (m ((c : Thread nD τ).loc main_arg1))) (ix2 p Q) := by
  have e0 := block1 m c t 0 q Q hQ
  have e1 := block1 m c t 1 q Q hQ
  have e2 := block1 m c t 2 q Q hQ
  have e3 := block1 m c t 3 q Q hQ
  refine Eq.trans (congrArg (fun f => conv _ _ _ _ f p) (funext fun s => block0 m c t s q Q hQ)) ?_
  refine Eq.trans (congrArg (fun a => conv a _ _ _ _ p) e0) ?_
  refine Eq.trans (congrArg (fun a => conv _ a _ _ _ p) e1) ?_
  refine Eq.trans (congrArg (fun a => conv _ _ a _ _ p) e2) ?_
  exact congrArg (fun a => conv _ _ _ a _ p) e3

/-- The result, in whole. -/
def entries (x : Vec Ideal S4096x7296 .f32) (w : Vec Ideal S8x3072 .f32) : Vec Ideal S4096x1024 .f32 := silus (convs (xs 2 x) (ws 2 w))

theorem array2 (m : (ℓ : Loc nD τ sig) → Buf (Elt Ideal) ℓ) (c : Dev nD) :
    (dats m 0 c).arrAt 2 cfg0.N = entries (m ((c : Thread nD τ).loc main_arg0)) (m ((c : Thread nD τ).loc main_arg1)) := by
  refine Pipeline.Dat.arrAt_eq_of_covers (dats m 0 c) 2 _ (by decide +kernel) fun t _ y => ?_
  show (dats m 0 c).after 2 t y = _
  rw [after0_2]
  obtain ⟨p, q, rfl⟩ : ∃ (p : Fin 4096) (q : Fin 128), y = ix2 p q := ⟨y 0, y 1, eq_ix2 y⟩
  obtain ⟨-, -, ⟨f0, f1⟩⟩ := idx_facts t
  have l2 : t.val < 8 := lt_of_lt_of_eq t.isLt steps
  have ei : ((cfg0.win 2).blk t).view.emb (ix2 p q) = ix2 p (⟨t.val * 128 + q.val, by omega⟩ : Fin 1024) := by
    funext a
    match a with
    | 0 => exact Fin.ext (by show win0_2.index t 0 * 4096 + 1 * p.val = p.val; rw [f0]; omega)
    | 1 => exact Fin.ext (by show win0_2.index t 1 * 128 + 1 * q.val = t.val * 128 + q.val; rw [f1]; omega)
  refine Eq.trans ?_ (congrArg (entries (m ((c : Thread nD τ).loc main_arg0)) (m ((c : Thread nD τ).loc main_arg1))) ei.symm)
  refine (left2 (iblk m c 0 t) (iblk m c 1 t) p q).trans ?_
  exact congrArg silu (conv_block m c t p q ⟨t.val * 128 + q.val, by omega⟩ rfl)

theorem algebraic : Cert.algebraic_ConvVIdeal_ConvVRefIdeal (hConvVIdeal := Cert.ConvVIdeal.Gen.facts)
    (hConvVRefIdeal := Cert.ConvVRefIdeal.Gen.facts) := by
  intro m g m' g' _ hagree
  refine ⟨fun c => entries (m ((c : Thread nD τ).loc main_arg0)) (m ((c : Thread nD τ).loc main_arg1)), ?_, ?_⟩
  · exact (θ_run _ _ _).mono (fun r h c => ⟨(h c).1.trans (array2 m c), (h c).2⟩) (Cert.ConvVIdeal.Value.run_blocks m g)
  · refine (θ_run _ _ _).mono (fun r h c => ⟨(h c).1.trans ?_, (h c).2⟩) (Cert.ConvVRefIdeal.Value.run m' g')
    unfold Cert.ConvVRefIdeal.Value.res_main_v25
    rw [(hagree c).1, (hagree c).2]
    beta_reduce
    rw [reference_down3, reference_down2, reference_down1, reference_down0, reference_conv, reference_silu, reference_xs 2 (show _ = 2048 from rfl), reference_ws 2 (show _ = 2048 from rfl)]
    rfl

theorem frame_ideal : Cert.quiescent_ConvVIdeal (hConvVIdeal := Cert.ConvVIdeal.Gen.facts) :=
  fun m ρ _ => Cert.ConvVIdeal.Gen.frame m ρ

theorem frame_reference : Cert.quiescent_ConvVRefIdeal (hConvVRefIdeal := Cert.ConvVRefIdeal.Gen.facts) :=
  fun m ρ _ => (θ_run Cert.ConvVRefIdeal.defs _ _).mono
    (fun r h => ⟨fun c => (h c).2, sem_eq_zero_of_no_sems (by decide) r.2⟩) (Cert.ConvVRefIdeal.Value.run m ρ)

theorem frame_kernel : Cert.quiescent_ConvV (hConvV := Cert.ConvV.Gen.facts) :=
  fun m ρ _ => Cert.ConvV.Gen.frame m ρ

end Cert.Proof.ConvV

end
-- ==== Proof.ConvQ.lean ====
module

public import proofs.«01_k».proof.Defs
public import proofs.«01_k».proof.Proof.Conv
public import proofs.«01_k».proof.Proof.Gen.ConvQ.Frame
public import proofs.«01_k».proof.Proof.Gen.ConvQIdeal.Value
public import proofs.«01_k».proof.Proof.Gen.ConvQRefIdeal.Run
public import Idealize.ShloMosaic.Lib.Pipeline.ValueKit.Geometry
public import Idealize.ShloMosaic.Adequacy
public import Idealize.ShloMosaic.Init

@[expose] public section

set_option maxRecDepth 200000

noncomputable section

namespace Cert.Proof.ConvQ

open Cert.ConvQIdeal Cert.ConvQIdeal.Gen Cert.Hand.Entries Cert.Hand.Conv Idealize.ShloMosaic Idealize.ShloMosaic.TcCoe Idealize.SL.Sem

theorem pay2 (x : FVec Ideal S4096x128 .f32) (a b c : FVec Ideal S1x128 .f32) (p : Fin 4096) (q : Fin 128) :
    k0_pay2 (F := Ideal) x a b c (ix2 p q) = a (ix2 0 q) * x (ix2 p q) + b (ix2 0 q) * down 1 (fun t => x (ix2 t q)) p + c (ix2 0 q) * down 2 (fun t => x (ix2 t q)) p := by
  unfold k0_pay2
  dsimp only
  rw [kernel_down1, kernel_down2]
  pointwise [downs_apply]

theorem pay3 (x : FVec Ideal S4096x128 .f32) : k0_pay3 (F := Ideal) x = (downs 3 x : FVec Ideal S4096x128 .f32) := by
  unfold k0_pay3
  dsimp only
  rw [kernel_down3]

theorem left2 (x : Vec Ideal S4096x128 .f32) (w : Vec Ideal S8x128 .f32) (p : Fin 4096) (q : Fin 128) :
    out0_2 (F := Ideal) x w (ix2 p q)
      = unit (fun j => silu (conv (w (ix2 0 j)) (w (ix2 1 j)) (w (ix2 2 j)) (w (ix2 3 j)) (fun t => x (ix2 t j)) p)) q * Idealize.ShloMosaic.Ideal.ofBits .f32 0x3DB504F3#32 := by
  unfold out0_2
  rw [View.canon_unit_zero zero2, View.ld_unit_zero zero2]
  pointwise [k0_pay1, pay2, pay3, downs_apply, ld_tap0, ld_tap1, ld_tap2, ld_tap3, unit, eps, silu, Cert.Proof.DGateUp.sig, conv]
  simp only [zero_sub]

theorem idx_facts : ∀ t : Fin cfg0.N, (win0_0.index t 0 = 0 ∧ win0_0.index t 1 = t.val) ∧ (win0_1.index t 0 = 0 ∧ win0_1.index t 1 = t.val) ∧ (win0_2.index t 0 = 0 ∧ win0_2.index t 1 = t.val) := by
  decide +kernel

theorem steps : cfg0.N = 8 := by decide +kernel

/-- A block's column is the array's, a head's columns on. -/
theorem block0 (m : (ℓ : Loc nD τ sig) → Buf (Elt Ideal) ℓ) (c : Dev nD) (t : Fin cfg0.N) (p : Fin 4096) (q : Fin 128) (Q : Fin 1024) (hQ : Q.val = t.val * 128 + q.val) :
    iblk m c 0 t (ix2 p q) = xs 0 (m ((c : Thread nD τ).loc main_arg0)) (ix2 p Q) := by
  obtain ⟨⟨f0, f1⟩, -⟩ := idx_facts t
  refine congrArg (m ((c : Thread nD τ).loc main_arg0)) ?_
  funext a
  match a with
  | 0 => exact Fin.ext (by show win0_0.index t 0 * 4096 + 1 * p.val = p.val; rw [f0]; omega)
  | 1 => exact Fin.ext (by show win0_0.index t 1 * 128 + 1 * q.val = 1024 * 0 + Q.val; rw [f1, hQ]; omega)

theorem block1 (m : (ℓ : Loc nD τ sig) → Buf (Elt Ideal) ℓ) (c : Dev nD) (t : Fin cfg0.N) (r : Fin 4) (q : Fin 128) (Q : Fin 1024) (hQ : Q.val = t.val * 128 + q.val) :
    iblk m c 1 t (ix2 ⟨r.val, by omega⟩ q) = ws 0 (m ((c : Thread nD τ).loc main_arg1)) (ix2 r Q) := by
  obtain ⟨-, ⟨f0, f1⟩, -⟩ := idx_facts t
  refine congrArg (m ((c : Thread nD τ).loc main_arg1)) ?_
  funext a
  match a with
  | 0 => exact Fin.ext (by show win0_1.index t 0 * 8 + 1 * r.val = r.val; rw [f0]; omega)
  | 1 => exact Fin.ext (by show win0_1.index t 1 * 128 + 1 * q.val = 1024 * 0 + Q.val; rw [f1, hQ]; omega)

/-- A block's convolutions are the array's. -/
theorem conv_block (m : (ℓ : Loc nD τ sig) → Buf (Elt Ideal) ℓ) (c : Dev nD) (t : Fin cfg0.N) (p : Fin 4096) (q : Fin 128) (Q : Fin 1024) (hQ : Q.val = t.val * 128 + q.val) :
    conv (iblk m c 1 t (ix2 0 q)) (iblk m c 1 t (ix2 1 q)) (iblk m c 1 t (ix2 2 q)) (iblk m c 1 t (ix2 3 q)) (fun s => iblk m c 0 t (ix2 s q)) p
      = convs (xs 0 (m ((c : Thread nD τ).loc main_arg0))) (ws 0 (m ((c : Thread nD τ).loc main_arg1))) (ix2 p Q) := by
  have e0 := block1 m c t 0 q Q hQ
  have e1 := block1 m c t 1 q Q hQ
  have e2 := block1 m c t 2 q Q hQ
  have e3 := block1 m c t 3 q Q hQ
  refine Eq.trans (congrArg (fun f => conv _ _ _ _ f p) (funext fun s => block0 m c t s q Q hQ)) ?_
  refine Eq.trans (congrArg (fun a => conv a _ _ _ _ p) e0) ?_
  refine Eq.trans (congrArg (fun a => conv _ a _ _ _ p) e1) ?_
  refine Eq.trans (congrArg (fun a => conv _ _ a _ _ p) e2) ?_
  exact congrArg (fun a => conv _ _ _ a _ p) e3

/-- The result, in whole. -/
def entries (x : Vec Ideal S4096x7296 .f32) (w : Vec Ideal S8x3072 .f32) : Vec Ideal S4096x1024 .f32 := fun y => units (silus (convs (xs 0 x) (ws 0 w))) y * Idealize.ShloMosaic.Ideal.ofBits .f32 0x3DB504F3#32

theorem array2 (m : (ℓ : Loc nD τ sig) → Buf (Elt Ideal) ℓ) (c : Dev nD) :
    (dats m 0 c).arrAt 2 cfg0.N = entries (m ((c : Thread nD τ).loc main_arg0)) (m ((c : Thread nD τ).loc main_arg1)) := by
  refine Pipeline.Dat.arrAt_eq_of_covers (dats m 0 c) 2 _ (by decide +kernel) fun t _ y => ?_
  show (dats m 0 c).after 2 t y = _
  rw [after0_2]
  obtain ⟨p, q, rfl⟩ : ∃ (p : Fin 4096) (q : Fin 128), y = ix2 p q := ⟨y 0, y 1, eq_ix2 y⟩
  obtain ⟨-, -, ⟨f0, f1⟩⟩ := idx_facts t
  have l2 : t.val < 8 := lt_of_lt_of_eq t.isLt steps
  have ei : ((cfg0.win 2).blk t).view.emb (ix2 p q) = ix2 p (⟨t.val * 128 + q.val, by omega⟩ : Fin 1024) := by
    funext a
    match a with
    | 0 => exact Fin.ext (by show win0_2.index t 0 * 4096 + 1 * p.val = p.val; rw [f0]; omega)
    | 1 => exact Fin.ext (by show win0_2.index t 1 * 128 + 1 * q.val = t.val * 128 + q.val; rw [f1]; omega)
  refine Eq.trans ?_ (congrArg (entries (m ((c : Thread nD τ).loc main_arg0)) (m ((c : Thread nD τ).loc main_arg1))) ei.symm)
  refine (left2 (iblk m c 0 t) (iblk m c 1 t) p q).trans ?_
  have el : ∀ j : Fin 128, (t.val * 128 + q.val) / 128 * 128 + j.val = t.val * 128 + j.val := fun j => by omega
  have em : (t.val * 128 + q.val) % 128 = q.val := by omega
  have er : entries (m ((c : Thread nD τ).loc main_arg0)) (m ((c : Thread nD τ).loc main_arg1)) (ix2 p ⟨t.val * 128 + q.val, by omega⟩)
      = unit (fun j => silu (convs (xs 0 (m ((c : Thread nD τ).loc main_arg0))) (ws 0 (m ((c : Thread nD τ).loc main_arg1))) (ix2 p ⟨(t.val * 128 + q.val) / 128 * 128 + j.val, by omega⟩))) ⟨(t.val * 128 + q.val) % 128, by omega⟩ * Idealize.ShloMosaic.Ideal.ofBits .f32 0x3DB504F3#32 := rfl
  rw [er]
  simp only [el, em]
  exact congrArg (fun f => unit f q * Idealize.ShloMosaic.Ideal.ofBits .f32 0x3DB504F3#32) (funext fun j => congrArg silu (conv_block m c t p j ⟨t.val * 128 + j.val, by omega⟩ rfl))

theorem algebraic : Cert.algebraic_ConvQIdeal_ConvQRefIdeal (hConvQIdeal := Cert.ConvQIdeal.Gen.facts)
    (hConvQRefIdeal := Cert.ConvQRefIdeal.Gen.facts) := by
  intro m g m' g' _ hagree
  refine ⟨fun c => entries (m ((c : Thread nD τ).loc main_arg0)) (m ((c : Thread nD τ).loc main_arg1)), ?_, ?_⟩
  · exact (θ_run _ _ _).mono (fun r h c => ⟨(h c).1.trans (array2 m c), (h c).2⟩) (Cert.ConvQIdeal.Value.run_blocks m g)
  · refine (θ_run _ _ _).mono (fun r h c => ⟨(h c).1.trans ?_, (h c).2⟩) (Cert.ConvQRefIdeal.Value.run m' g')
    unfold Cert.ConvQRefIdeal.Value.res_main_v37
    rw [(hagree c).1, (hagree c).2]
    beta_reduce
    rw [reference_down3, reference_down2, reference_down1, reference_down0, reference_conv, reference_silu, reference_xs 0 (show _ = 0 from rfl), reference_ws 0 (show _ = 0 from rfl)]
    exact (congrArg (fun u : FVec Ideal Cols .f32 => mulf u _) (reference_unit _ _ _ _ _ _ _ _)).trans rfl

theorem frame_ideal : Cert.quiescent_ConvQIdeal (hConvQIdeal := Cert.ConvQIdeal.Gen.facts) :=
  fun m ρ _ => Cert.ConvQIdeal.Gen.frame m ρ

theorem frame_reference : Cert.quiescent_ConvQRefIdeal (hConvQRefIdeal := Cert.ConvQRefIdeal.Gen.facts) :=
  fun m ρ _ => (θ_run Cert.ConvQRefIdeal.defs _ _).mono
    (fun r h => ⟨fun c => (h c).2, sem_eq_zero_of_no_sems (by decide) r.2⟩) (Cert.ConvQRefIdeal.Value.run m ρ)

theorem frame_kernel : Cert.quiescent_ConvQ (hConvQ := Cert.ConvQ.Gen.facts) :=
  fun m ρ _ => Cert.ConvQ.Gen.frame m ρ

end Cert.Proof.ConvQ

end
-- ==== Proof.ConvK.lean ====
module

public import proofs.«01_k».proof.Defs
public import proofs.«01_k».proof.Proof.Conv
public import proofs.«01_k».proof.Proof.Gen.ConvK.Frame
public import proofs.«01_k».proof.Proof.Gen.ConvKIdeal.Value
public import proofs.«01_k».proof.Proof.Gen.ConvKRefIdeal.Run
public import Idealize.ShloMosaic.Lib.Pipeline.ValueKit.Geometry
public import Idealize.ShloMosaic.Adequacy
public import Idealize.ShloMosaic.Init

@[expose] public section

set_option maxRecDepth 200000

noncomputable section

namespace Cert.Proof.ConvK

open Cert.ConvKIdeal Cert.ConvKIdeal.Gen Cert.Hand.Entries Cert.Hand.Conv Idealize.ShloMosaic Idealize.ShloMosaic.TcCoe Idealize.SL.Sem

theorem pay2 (x : FVec Ideal S4096x128 .f32) (a b c : FVec Ideal S1x128 .f32) (p : Fin 4096) (q : Fin 128) :
    k0_pay2 (F := Ideal) x a b c (ix2 p q) = a (ix2 0 q) * x (ix2 p q) + b (ix2 0 q) * down 1 (fun t => x (ix2 t q)) p + c (ix2 0 q) * down 2 (fun t => x (ix2 t q)) p := by
  unfold k0_pay2
  dsimp only
  rw [kernel_down1, kernel_down2]
  pointwise [downs_apply]

theorem pay3 (x : FVec Ideal S4096x128 .f32) : k0_pay3 (F := Ideal) x = (downs 3 x : FVec Ideal S4096x128 .f32) := by
  unfold k0_pay3
  dsimp only
  rw [kernel_down3]

theorem left2 (x : Vec Ideal S4096x128 .f32) (w : Vec Ideal S8x128 .f32) (p : Fin 4096) (q : Fin 128) :
    out0_2 (F := Ideal) x w (ix2 p q)
      = unit (fun j => silu (conv (w (ix2 0 j)) (w (ix2 1 j)) (w (ix2 2 j)) (w (ix2 3 j)) (fun t => x (ix2 t j)) p)) q := by
  unfold out0_2
  rw [View.canon_unit_zero zero2, View.ld_unit_zero zero2]
  pointwise [k0_pay1, pay2, pay3, downs_apply, ld_tap0, ld_tap1, ld_tap2, ld_tap3, unit, eps, silu, Cert.Proof.DGateUp.sig, conv]
  simp only [zero_sub]

theorem idx_facts : ∀ t : Fin cfg0.N, (win0_0.index t 0 = 0 ∧ win0_0.index t 1 = 8 + t.val) ∧ (win0_1.index t 0 = 0 ∧ win0_1.index t 1 = 8 + t.val) ∧ (win0_2.index t 0 = 0 ∧ win0_2.index t 1 = t.val) := by
  decide +kernel

theorem steps : cfg0.N = 8 := by decide +kernel

/-- A block's column is the array's, a head's columns on. -/
theorem block0 (m : (ℓ : Loc nD τ sig) → Buf (Elt Ideal) ℓ) (c : Dev nD) (t : Fin cfg0.N) (p : Fin 4096) (q : Fin 128) (Q : Fin 1024) (hQ : Q.val = t.val * 128 + q.val) :
    iblk m c 0 t (ix2 p q) = xs 1 (m ((c : Thread nD τ).loc main_arg0)) (ix2 p Q) := by
  obtain ⟨⟨f0, f1⟩, -⟩ := idx_facts t
  refine congrArg (m ((c : Thread nD τ).loc main_arg0)) ?_
  funext a
  match a with
  | 0 => exact Fin.ext (by show win0_0.index t 0 * 4096 + 1 * p.val = p.val; rw [f0]; omega)
  | 1 => exact Fin.ext (by show win0_0.index t 1 * 128 + 1 * q.val = 1024 * 1 + Q.val; rw [f1, hQ]; omega)

theorem block1 (m : (ℓ : Loc nD τ sig) → Buf (Elt Ideal) ℓ) (c : Dev nD) (t : Fin cfg0.N) (r : Fin 4) (q : Fin 128) (Q : Fin 1024) (hQ : Q.val = t.val * 128 + q.val) :
    iblk m c 1 t (ix2 ⟨r.val, by omega⟩ q) = ws 1 (m ((c : Thread nD τ).loc main_arg1)) (ix2 r Q) := by
  obtain ⟨-, ⟨f0, f1⟩, -⟩ := idx_facts t
  refine congrArg (m ((c : Thread nD τ).loc main_arg1)) ?_
  funext a
  match a with
  | 0 => exact Fin.ext (by show win0_1.index t 0 * 8 + 1 * r.val = r.val; rw [f0]; omega)
  | 1 => exact Fin.ext (by show win0_1.index t 1 * 128 + 1 * q.val = 1024 * 1 + Q.val; rw [f1, hQ]; omega)

/-- A block's convolutions are the array's. -/
theorem conv_block (m : (ℓ : Loc nD τ sig) → Buf (Elt Ideal) ℓ) (c : Dev nD) (t : Fin cfg0.N) (p : Fin 4096) (q : Fin 128) (Q : Fin 1024) (hQ : Q.val = t.val * 128 + q.val) :
    conv (iblk m c 1 t (ix2 0 q)) (iblk m c 1 t (ix2 1 q)) (iblk m c 1 t (ix2 2 q)) (iblk m c 1 t (ix2 3 q)) (fun s => iblk m c 0 t (ix2 s q)) p
      = convs (xs 1 (m ((c : Thread nD τ).loc main_arg0))) (ws 1 (m ((c : Thread nD τ).loc main_arg1))) (ix2 p Q) := by
  have e0 := block1 m c t 0 q Q hQ
  have e1 := block1 m c t 1 q Q hQ
  have e2 := block1 m c t 2 q Q hQ
  have e3 := block1 m c t 3 q Q hQ
  refine Eq.trans (congrArg (fun f => conv _ _ _ _ f p) (funext fun s => block0 m c t s q Q hQ)) ?_
  refine Eq.trans (congrArg (fun a => conv a _ _ _ _ p) e0) ?_
  refine Eq.trans (congrArg (fun a => conv _ a _ _ _ p) e1) ?_
  refine Eq.trans (congrArg (fun a => conv _ _ a _ _ p) e2) ?_
  exact congrArg (fun a => conv _ _ _ a _ p) e3

/-- The result, in whole. -/
def entries (x : Vec Ideal S4096x7296 .f32) (w : Vec Ideal S8x3072 .f32) : Vec Ideal S4096x1024 .f32 := units (silus (convs (xs 1 x) (ws 1 w)))

theorem array2 (m : (ℓ : Loc nD τ sig) → Buf (Elt Ideal) ℓ) (c : Dev nD) :
    (dats m 0 c).arrAt 2 cfg0.N = entries (m ((c : Thread nD τ).loc main_arg0)) (m ((c : Thread nD τ).loc main_arg1)) := by
  refine Pipeline.Dat.arrAt_eq_of_covers (dats m 0 c) 2 _ (by decide +kernel) fun t _ y => ?_
  show (dats m 0 c).after 2 t y = _
  rw [after0_2]
  obtain ⟨p, q, rfl⟩ : ∃ (p : Fin 4096) (q : Fin 128), y = ix2 p q := ⟨y 0, y 1, eq_ix2 y⟩
  obtain ⟨-, -, ⟨f0, f1⟩⟩ := idx_facts t
  have l2 : t.val < 8 := lt_of_lt_of_eq t.isLt steps
  have ei : ((cfg0.win 2).blk t).view.emb (ix2 p q) = ix2 p (⟨t.val * 128 + q.val, by omega⟩ : Fin 1024) := by
    funext a
    match a with
    | 0 => exact Fin.ext (by show win0_2.index t 0 * 4096 + 1 * p.val = p.val; rw [f0]; omega)
    | 1 => exact Fin.ext (by show win0_2.index t 1 * 128 + 1 * q.val = t.val * 128 + q.val; rw [f1]; omega)
  refine Eq.trans ?_ (congrArg (entries (m ((c : Thread nD τ).loc main_arg0)) (m ((c : Thread nD τ).loc main_arg1))) ei.symm)
  refine (left2 (iblk m c 0 t) (iblk m c 1 t) p q).trans ?_
  have el : ∀ j : Fin 128, (t.val * 128 + q.val) / 128 * 128 + j.val = t.val * 128 + j.val := fun j => by omega
  have em : (t.val * 128 + q.val) % 128 = q.val := by omega
  have er : entries (m ((c : Thread nD τ).loc main_arg0)) (m ((c : Thread nD τ).loc main_arg1)) (ix2 p ⟨t.val * 128 + q.val, by omega⟩)
      = unit (fun j => silu (convs (xs 1 (m ((c : Thread nD τ).loc main_arg0))) (ws 1 (m ((c : Thread nD τ).loc main_arg1))) (ix2 p ⟨(t.val * 128 + q.val) / 128 * 128 + j.val, by omega⟩))) ⟨(t.val * 128 + q.val) % 128, by omega⟩ := rfl
  rw [er]
  simp only [el, em]
  exact congrArg (fun f => unit f q) (funext fun j => congrArg silu (conv_block m c t p j ⟨t.val * 128 + j.val, by omega⟩ rfl))

theorem algebraic : Cert.algebraic_ConvKIdeal_ConvKRefIdeal (hConvKIdeal := Cert.ConvKIdeal.Gen.facts)
    (hConvKRefIdeal := Cert.ConvKRefIdeal.Gen.facts) := by
  intro m g m' g' _ hagree
  refine ⟨fun c => entries (m ((c : Thread nD τ).loc main_arg0)) (m ((c : Thread nD τ).loc main_arg1)), ?_, ?_⟩
  · exact (θ_run _ _ _).mono (fun r h c => ⟨(h c).1.trans (array2 m c), (h c).2⟩) (Cert.ConvKIdeal.Value.run_blocks m g)
  · refine (θ_run _ _ _).mono (fun r h c => ⟨(h c).1.trans ?_, (h c).2⟩) (Cert.ConvKRefIdeal.Value.run m' g')
    unfold Cert.ConvKRefIdeal.Value.res_main_v35
    rw [(hagree c).1, (hagree c).2]
    beta_reduce
    rw [reference_down3, reference_down2, reference_down1, reference_down0, reference_conv, reference_silu, reference_xs 1 (show _ = 1024 from rfl), reference_ws 1 (show _ = 1024 from rfl)]
    exact reference_unit _ _ _ _ _ _ _ _

theorem frame_ideal : Cert.quiescent_ConvKIdeal (hConvKIdeal := Cert.ConvKIdeal.Gen.facts) :=
  fun m ρ _ => Cert.ConvKIdeal.Gen.frame m ρ

theorem frame_reference : Cert.quiescent_ConvKRefIdeal (hConvKRefIdeal := Cert.ConvKRefIdeal.Gen.facts) :=
  fun m ρ _ => (θ_run Cert.ConvKRefIdeal.defs _ _).mono
    (fun r h => ⟨fun c => (h c).2, sem_eq_zero_of_no_sems (by decide) r.2⟩) (Cert.ConvKRefIdeal.Value.run m ρ)

theorem frame_kernel : Cert.quiescent_ConvK (hConvK := Cert.ConvK.Gen.facts) :=
  fun m ρ _ => Cert.ConvK.Gen.frame m ρ

end Cert.Proof.ConvK

end
-- ==== Proof.lean ====
/- The proof of the certificate's claims. -/
module

public import proofs.«01_k».proof.Proof.BwdClaim
public import proofs.«01_k».proof.Proof.BwdFrame
public import proofs.«01_k».proof.Proof.MmGDown
public import proofs.«01_k».proof.Proof.MmGGateUp
public import proofs.«01_k».proof.Proof.MmDGateUp
public import proofs.«01_k».proof.Proof.MmDH2
public import proofs.«01_k».proof.Proof.MmGOut
public import proofs.«01_k».proof.Proof.MmGIn
public import proofs.«01_k».proof.Proof.MmDH1
public import proofs.«01_k».proof.Proof.MmInProj
public import proofs.«01_k».proof.Proof.MmGateUp
public import proofs.«01_k».proof.Proof.MmOutProj
public import proofs.«01_k».proof.Proof.MmDown
public import proofs.«01_k».proof.Proof.NormBwd
public import proofs.«01_k».proof.Proof.AdamGateUp
public import proofs.«01_k».proof.Proof.AdamDown
public import proofs.«01_k».proof.Proof.AdamOut
public import proofs.«01_k».proof.Proof.AdamIn
public import proofs.«01_k».proof.Proof.AdamSmall
public import proofs.«01_k».proof.Proof.AdamConv
public import proofs.«01_k».proof.Proof.ConvVBwd
public import proofs.«01_k».proof.Proof.ConvQBwd
public import proofs.«01_k».proof.Proof.ConvKBwd
public import proofs.«01_k».proof.Proof.CastInto
public import proofs.«01_k».proof.Proof.NormFwd
public import proofs.«01_k».proof.Proof.ConvV
public import proofs.«01_k».proof.Proof.ConvQ
public import proofs.«01_k».proof.Proof.ConvK

@[expose] public section

noncomputable section

namespace Cert.Proof

theorem claim : Cert.Claim := ⟨
  Cert.Kernel.Gen.facts, Cert.KernelIdeal.Gen.facts, Cert.ReferenceIdeal.Gen.facts, Cert.GDown.Gen.facts, Cert.GDownIdeal.Gen.facts, Cert.GDownRefIdeal.Gen.facts, Cert.GGateUp.Gen.facts, Cert.GGateUpIdeal.Gen.facts, Cert.GGateUpRefIdeal.Gen.facts, Cert.DGateUp.Gen.facts, Cert.DGateUpIdeal.Gen.facts, Cert.DGateUpRefIdeal.Gen.facts, Cert.DH2.Gen.facts, Cert.DH2Ideal.Gen.facts, Cert.DH2RefIdeal.Gen.facts, Cert.GOut.Gen.facts, Cert.GOutIdeal.Gen.facts, Cert.GOutRefIdeal.Gen.facts, Cert.GIn.Gen.facts, Cert.GInIdeal.Gen.facts, Cert.GInRefIdeal.Gen.facts, Cert.DH1.Gen.facts, Cert.DH1Ideal.Gen.facts, Cert.DH1RefIdeal.Gen.facts, Cert.InProj.Gen.facts, Cert.InProjIdeal.Gen.facts, Cert.InProjRefIdeal.Gen.facts, Cert.GateUp.Gen.facts, Cert.GateUpIdeal.Gen.facts, Cert.GateUpRefIdeal.Gen.facts, Cert.OutProj.Gen.facts, Cert.OutProjIdeal.Gen.facts, Cert.OutProjRefIdeal.Gen.facts, Cert.Down.Gen.facts, Cert.DownIdeal.Gen.facts, Cert.DownRefIdeal.Gen.facts, Cert.NormBwd.Gen.facts, Cert.NormBwdIdeal.Gen.facts, Cert.NormBwdRefIdeal.Gen.facts, Cert.AdamGateUp.Gen.facts, Cert.AdamGateUpIdeal.Gen.facts, Cert.AdamGateUpRefIdeal.Gen.facts, Cert.AdamDown.Gen.facts, Cert.AdamDownIdeal.Gen.facts, Cert.AdamDownRefIdeal.Gen.facts, Cert.AdamOut.Gen.facts, Cert.AdamOutIdeal.Gen.facts, Cert.AdamOutRefIdeal.Gen.facts, Cert.AdamIn.Gen.facts, Cert.AdamInIdeal.Gen.facts, Cert.AdamInRefIdeal.Gen.facts, Cert.AdamSmall.Gen.facts, Cert.AdamSmallIdeal.Gen.facts, Cert.AdamSmallRefIdeal.Gen.facts, Cert.AdamConv.Gen.facts, Cert.AdamConvIdeal.Gen.facts, Cert.AdamConvRefIdeal.Gen.facts, Cert.ConvVBwd.Gen.facts, Cert.ConvVBwdIdeal.Gen.facts, Cert.ConvVBwdRefIdeal.Gen.facts, Cert.ConvQBwd.Gen.facts, Cert.ConvQBwdIdeal.Gen.facts, Cert.ConvQBwdRefIdeal.Gen.facts, Cert.ConvKBwd.Gen.facts, Cert.ConvKBwdIdeal.Gen.facts, Cert.ConvKBwdRefIdeal.Gen.facts, Cert.CastInto.Gen.facts, Cert.CastIntoIdeal.Gen.facts, Cert.CastIntoRefIdeal.Gen.facts, Cert.NormFwd.Gen.facts, Cert.NormFwdIdeal.Gen.facts, Cert.NormFwdRefIdeal.Gen.facts, Cert.ConvV.Gen.facts, Cert.ConvVIdeal.Gen.facts, Cert.ConvVRefIdeal.Gen.facts, Cert.ConvQ.Gen.facts, Cert.ConvQIdeal.Gen.facts, Cert.ConvQRefIdeal.Gen.facts, Cert.ConvK.Gen.facts, Cert.ConvKIdeal.Gen.facts, Cert.ConvKRefIdeal.Gen.facts, finite_facts, DGateUp.up_facts,
  frame_kernel, frame_ideal, frame_ideal_pre, frame_reference, frame_reference_pre,
  GDown.frame_kernel, GDown.frame_ideal, GDown.frame_reference,
  GGateUp.frame_kernel, GGateUp.frame_ideal, GGateUp.frame_reference,
  DGateUp.frame_kernel, DGateUp.frame_ideal, DGateUp.frame_ideal_pre, DGateUp.frame_reference, DGateUp.frame_reference_pre,
  DH2.frame_kernel, DH2.frame_ideal, DH2.frame_reference,
  GOut.frame_kernel, GOut.frame_ideal, GOut.frame_reference,
  GIn.frame_kernel, GIn.frame_ideal, GIn.frame_reference,
  DH1.frame_kernel, DH1.frame_ideal, DH1.frame_reference,
  InProj.frame_kernel, InProj.frame_ideal, InProj.frame_reference,
  GateUp.frame_kernel, GateUp.frame_ideal, GateUp.frame_reference,
  OutProj.frame_kernel, OutProj.frame_ideal, OutProj.frame_reference,
  Down.frame_kernel, Down.frame_ideal, Down.frame_reference,
  NormBwd.frame_kernel, NormBwd.frame_ideal, NormBwd.frame_reference,
  AdamGateUp.frame_kernel, AdamGateUp.frame_ideal, AdamGateUp.frame_reference,
  AdamDown.frame_kernel, AdamDown.frame_ideal, AdamDown.frame_reference,
  AdamOut.frame_kernel, AdamOut.frame_ideal, AdamOut.frame_reference,
  AdamIn.frame_kernel, AdamIn.frame_ideal, AdamIn.frame_reference,
  AdamSmall.frame_kernel, AdamSmall.frame_ideal, AdamSmall.frame_reference,
  AdamConv.frame_kernel, AdamConv.frame_ideal, AdamConv.frame_reference,
  ConvVBwd.frame_kernel, ConvVBwd.frame_ideal, ConvVBwd.frame_reference,
  ConvQBwd.frame_kernel, ConvQBwd.frame_ideal, ConvQBwd.frame_reference,
  ConvKBwd.frame_kernel, ConvKBwd.frame_ideal, ConvKBwd.frame_reference,
  CastInto.frame_kernel, CastInto.frame_ideal, CastInto.frame_reference,
  NormFwd.frame_kernel, NormFwd.frame_ideal, NormFwd.frame_reference,
  ConvV.frame_kernel, ConvV.frame_ideal, ConvV.frame_reference,
  ConvQ.frame_kernel, ConvQ.frame_ideal, ConvQ.frame_reference,
  ConvK.frame_kernel, ConvK.frame_ideal, ConvK.frame_reference,
  trivial, algebraic, trivial, GDown.algebraic, trivial, GGateUp.algebraic, trivial, DGateUp.algebraic, trivial, DH2.algebraic, trivial, GOut.algebraic, trivial, GIn.algebraic, trivial, DH1.algebraic, trivial, InProj.algebraic, trivial, GateUp.algebraic, trivial, OutProj.algebraic, trivial, Down.algebraic, trivial, NormBwd.algebraic, AdamGateUp.preserves, AdamGateUp.algebraic, AdamDown.preserves, AdamDown.algebraic, AdamOut.preserves, AdamOut.algebraic, AdamIn.preserves, AdamIn.algebraic, AdamSmall.preserves, AdamSmall.algebraic, AdamConv.preserves, AdamConv.algebraic, trivial, ConvVBwd.algebraic, trivial, ConvQBwd.algebraic, trivial, ConvKBwd.algebraic, trivial, CastInto.algebraic, trivial, NormFwd.algebraic, trivial, ConvV.algebraic, trivial, ConvQ.algebraic, trivial, ConvK.algebraic⟩

end Cert.Proof

end
